-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "inv_scale_log2e" .f32 0x40B17218#32 ((8 * (Real.log 2) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)) (v2 : (c : Dev Cert.KernelIdeal.nD) → Buf (Elt Ideal) ((c.tc : Thread Cert.KernelIdeal.nD Cert.KernelIdeal.τ).loc Cert.KernelIdeal.main_v76_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_v76_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "inv_scale_b_log2e" .f32 0x40D95360#32 (((3424635 / 33554432)⁻¹ * (Real.log 2) : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v40_0)) (v1 : (c : Dev Cert.Kernel2Ideal.nD) → Buf (Elt Ideal) ((c.tc : Thread Cert.Kernel2Ideal.nD Cert.Kernel2Ideal.τ).loc Cert.Kernel2Ideal.main_v40_1)) (v2 : (c : Dev Cert.Kernel2Ideal.nD) → Buf (Elt Ideal) ((c.tc : Thread Cert.Kernel2Ideal.nD Cert.Kernel2Ideal.τ).loc Cert.Kernel2Ideal.main_v40_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v40_0) = v0 c
          ∧ r.2.mem ((c.tc : Thread Cert.Kernel2Ideal.nD Cert.Kernel2Ideal.τ).loc Cert.Kernel2Ideal.main_v40_1) = v1 c
          ∧ r.2.mem ((c.tc : Thread Cert.Kernel2Ideal.nD Cert.Kernel2Ideal.τ).loc Cert.Kernel2Ideal.main_v40_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_v76) = v1 c
          ∧ r.2.mem ((c.tc : Thread Cert.Reference2Ideal.nD Cert.Reference2Ideal.τ).loc Cert.Reference2Ideal.main_v49) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "inv_scale_a_log2e" .f32 0x40B17218#32 ((8 * (Real.log 2) : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v38_0)) (v1 : (c : Dev Cert.Kernel3Ideal.nD) → Buf (Elt Ideal) ((c.tc : Thread Cert.Kernel3Ideal.nD Cert.Kernel3Ideal.τ).loc Cert.Kernel3Ideal.main_v38_1)) (v2 : (c : Dev Cert.Kernel3Ideal.nD) → Buf (Elt Ideal) ((c.tc : Thread Cert.Kernel3Ideal.nD Cert.Kernel3Ideal.τ).loc Cert.Kernel3Ideal.main_v38_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_0) = v0 c
          ∧ r.2.mem ((c.tc : Thread Cert.Kernel3Ideal.nD Cert.Kernel3Ideal.τ).loc Cert.Kernel3Ideal.main_v38_1) = v1 c
          ∧ r.2.mem ((c.tc : Thread Cert.Kernel3Ideal.nD Cert.Kernel3Ideal.τ).loc Cert.Kernel3Ideal.main_v38_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v40) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v90) = v0 c
          ∧ r.2.mem ((c.tc : Thread Cert.Reference4Ideal.nD Cert.Reference4Ideal.τ).loc Cert.Reference4Ideal.main_v96) = v1 c
          ∧ r.2.mem ((c.tc : Thread Cert.Reference4Ideal.nD Cert.Reference4Ideal.τ).loc Cert.Reference4Ideal.main_v100) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S4096x1024 : Shape := ⟨2, ![4096, 1024]⟩
abbrev S4x4096x64 : Shape := ⟨3, ![4, 4096, 64]⟩
abbrev S16 : Shape := ⟨1, ![16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x4096x64 : S_.BroadcastsInDim S4x4096x64 (![] : Fin 0 → Fin S4x4096x64.rank)
  reducesTo_S4x4096x64_S_d0_1_2 : S4x4096x64.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S4096x1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4x4096x64 .f32) (main_arg2 : FVec F S4x4096x64 .f32) (main_arg3 : FVec F S16 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Pre_finite2.lean ====
abbrev S4096x8x128 : Shape := ⟨3, ![4096, 8, 128]⟩
abbrev S4096x8x32 : Shape := ⟨3, ![4096, 8, 32]⟩
abbrev S4096x128 : Shape := ⟨2, ![4096, 128]⟩
abbrev S4096x32 : Shape := ⟨2, ![4096, 32]⟩
abbrev S4096x1024 : Shape := ⟨2, ![4096, 1024]⟩
abbrev S_ : Shape := ⟨0, ![]⟩

class Facts : Prop where
  bcast_S_S4096x8x128 : S_.BroadcastsInDim S4096x8x128 (![] : Fin 0 → Fin S4096x8x128.rank)
  reducesTo_S4096x8x128_S_d0_1_2 : S4096x8x128.ReducesTo [0, 1, 2] S_
  h_S_ : 0 < S_.numel
  bcast_S_S4096x8x32 : S_.BroadcastsInDim S4096x8x32 (![] : Fin 0 → Fin S4096x8x32.rank)
  reducesTo_S4096x8x32_S_d0_1_2 : S4096x8x32.ReducesTo [0, 1, 2] S_
  bcast_S_S4096x128 : S_.BroadcastsInDim S4096x128 (![] : Fin 0 → Fin S4096x128.rank)
  reducesTo_S4096x128_S_d0_1 : S4096x128.ReducesTo [0, 1] S_
  bcast_S_S4096x32 : S_.BroadcastsInDim S4096x32 (![] : Fin 0 → Fin S4096x32.rank)
  reducesTo_S4096x32_S_d0_1 : S4096x32.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x8x128 .f32) (main_arg1 : FVec F S4096x8x32 .f32) (main_arg2 : FVec F S4096x128 .f32) (main_arg3 : FVec F S4096x32 .f32) (main_arg4 : FVec F S4096x1024 .f32) : IVec S_ 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_c : IVec S_ 1 := constantI S_ 1 1#1
  let main_v3 : IVec S_ 1 := (fun x v => Host.reduce IntOp.andi x v reducesTo_S4096x8x128_S_d0_1_2 h_S_) main_v2 main_c
  let main_v4 : FVec F S4096x8x32 .f32 := Host.absf main_arg1
  let main_cst_0 : FVec F S_ .f32 := constant S_ .f32 0x7F800000#32
  let main_v5 : FVec F S4096x8x32 .f32 := broadcastInDim S4096x8x32 ![] bcast_S_S4096x8x32 main_cst_0
  let main_v6 : IVec S4096x8x32 1 := cmpf .olt main_v4 main_v5
  let main_c_1 : IVec S_ 1 := constantI S_ 1 1#1
  let main_v7 : IVec S_ 1 := (fun x v => Host.reduce IntOp.andi x v reducesTo_S4096x8x32_S_d0_1_2 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_v13 main_v16
-- ==== Pre_finite3.lean ====
abbrev S4096x512 : Shape := ⟨2, ![4096, 512]⟩
abbrev S2x4096x64 : Shape := ⟨3, ![2, 4096, 64]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S2x4096x64 : S_.BroadcastsInDim S2x4096x64 (![] : Fin 0 → Fin S2x4096x64.rank)
  reducesTo_S2x4096x64_S_d0_1_2 : S2x4096x64.ReducesTo [0, 1, 2] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x512 .f32) (main_arg1 : FVec F S2x4096x64 .f32) (main_arg2 : FVec F S2x4096x64 .f32) (main_arg3 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S2x4096x64 .f32 := Host.absf main_arg1
  let main_cst_0 : FVec F S_ .f32 := constant S_ .f32 0x7F800000#32
  let main_v5 : FVec F S2x4096x64 .f32 := broadcastInDim S2x4096x64 ![] bcast_S_S2x4096x64 main_cst_0
  let main_v6 : IVec S2x4096x64 1 := cmpf .olt main_v4 main_v5
  let main_c_1 : IVec S_ 1 := constantI S_ 1 1#1
  let main_v7 : IVec S_ 1 := (fun x v => Host.reduce IntOp.andi x v reducesTo_S2x4096x64_S_d0_1_2 h_S_) main_v6 main_c_1
  let main_v8 : IVec S_ 1 := andi main_v3 main_v7
  let main_v9 : FVec F S2x4096x64 .f32 := Host.absf main_arg2
  let main_cst_2 : FVec F S_ .f32 := constant S_ .f32 0x7F800000#32
  let main_v10 : FVec F S2x4096x64 .f32 := broadcastInDim S2x4096x64 ![] bcast_S_S2x4096x64 main_cst_2
  let main_v11 : IVec S2x4096x64 1 := cmpf .olt main_v9 main_v10
  let main_c_3 : IVec S_ 1 := constantI S_ 1 1#1
  let main_v12 : IVec S_ 1 := (fun x v => Host.reduce IntOp.andi x v reducesTo_S2x4096x64_S_d0_1_2 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_finite4.lean ====
abbrev S4096x1024 : Shape := ⟨2, ![4096, 1024]⟩
abbrev S3x1024 : Shape := ⟨2, ![3, 1024]⟩
abbrev S1024 : Shape := ⟨1, ![1024]⟩
abbrev S1024x2560 : Shape := ⟨2, ![1024, 2560]⟩
abbrev S4x4096x64 : Shape := ⟨3, ![4, 4096, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S1024 : S_.BroadcastsInDim S1024 (![] : Fin 0 → Fin S1024.rank)
  reducesTo_S1024_S_d0 : S1024.ReducesTo [0] S_
  bcast_S_S1024x2560 : S_.BroadcastsInDim S1024x2560 (![] : Fin 0 → Fin S1024x2560.rank)
  reducesTo_S1024x2560_S_d0_1 : S1024x2560.ReducesTo [0, 1] S_
  bcast_S_S4x4096x64 : S_.BroadcastsInDim S4x4096x64 (![] : Fin 0 → Fin S4x4096x64.rank)
  reducesTo_S4x4096x64_S_d0_1_2 : S4x4096x64.ReducesTo [0, 1, 2] S_

variable [Facts]

def fn_part2 {F : FTy → Type} [FloatOps F] (main_arg7 : FVec F S4x4096x64 .f32) (main_arg8 : FVec F S4096x1024 .f32) (main_v33 : IVec S_ 1) : IVec S_ 1 :=
  let main_v34 : FVec F S4x4096x64 .f32 := Host.absf main_arg7
  let main_cst_12 : FVec F S_ .f32 := constant S_ .f32 0x7F800000#32
  let main_v35 : FVec F S4x4096x64 .f32 := broadcastInDim S4x4096x64 ![] bcast_S_S4x4096x64 main_cst_12
  let main_v36 : IVec S4x4096x64 1 := cmpf .olt main_v34 main_v35
  let main_c_13 : IVec S_ 1 := constantI S_ 1 1#1
  let main_v37 : IVec S_ 1 := (fun x v => Host.reduce IntOp.andi x v reducesTo_S4x4096x64_S_d0_1_2 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  main_v43

def fn_part1 {F : FTy → Type} [FloatOps F] (main_arg4 : FVec F S4096x1024 .f32) (main_arg5 : FVec F S4096x1024 .f32) (main_arg6 : FVec F S4x4096x64 .f32) (main_arg7 : FVec F S4x4096x64 .f32) (main_arg8 : FVec F S4096x1024 .f32) (main_v13 : IVec S_ 1) (main_v16 : IVec S1024x2560 1) : IVec S_ 1 :=
  let main_c_5 : IVec S_ 1 := constantI S_ 1 1#1
  let main_v17 : IVec S_ 1 := (fun x v => Host.reduce IntOp.andi x v reducesTo_S1024x2560_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4x4096x64 .f32 := Host.absf main_arg6
  let main_cst_10 : FVec F S_ .f32 := constant S_ .f32 0x7F800000#32
  let main_v30 : FVec F S4x4096x64 .f32 := broadcastInDim S4x4096x64 ![] bcast_S_S4x4096x64 main_cst_10
  let main_v31 : IVec S4x4096x64 1 := cmpf .olt main_v29 main_v30
  let main_c_11 : IVec S_ 1 := constantI S_ 1 1#1
  let main_v32 : IVec S_ 1 := (fun x v => Host.reduce IntOp.andi x v reducesTo_S4x4096x64_S_d0_1_2 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S3x1024 .f32) (main_arg2 : FVec F S1024 .f32) (main_arg3 : FVec F S1024x2560 .f32) (main_arg4 : FVec F S4096x1024 .f32) (main_arg5 : FVec F S4096x1024 .f32) (main_arg6 : FVec F S4x4096x64 .f32) (main_arg7 : FVec F S4x4096x64 .f32) (main_arg8 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S3x1024 .f32 := Host.absf main_arg1
  let main_cst_0 : FVec F S_ .f32 := constant S_ .f32 0x7F800000#32
  let main_v5 : FVec F S3x1024 .f32 := broadcastInDim S3x1024 ![] bcast_S_S3x1024 main_cst_0
  let main_v6 : IVec S3x1024 1 := cmpf .olt main_v4 main_v5
  let main_c_1 : IVec S_ 1 := constantI S_ 1 1#1
  let main_v7 : IVec S_ 1 := (fun x v => Host.reduce IntOp.andi x v reducesTo_S3x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2560 .f32 := Host.absf main_arg3
  let main_cst_4 : FVec F S_ .f32 := constant S_ .f32 0x7F800000#32
  let main_v15 : FVec F S1024x2560 .f32 := broadcastInDim S1024x2560 ![] bcast_S_S1024x2560 main_cst_4
  let main_v16 : IVec S1024x2560 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4x4096x64 : Shape := ⟨3, ![4, 4096, 64]⟩
abbrev S16 : Shape := ⟨1, ![16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4 : Shape := ⟨2, ![4, 4]⟩
abbrev S4x4x1x1 : Shape := ⟨4, ![4, 4, 1, 1]⟩
abbrev S1x1x4096x4096 : Shape := ⟨4, ![1, 1, 4096, 4096]⟩
abbrev S4x4x4096x4096 : Shape := ⟨4, ![4, 4, 4096, 4096]⟩
abbrev S4096x4x4x64 : Shape := ⟨4, ![4096, 4, 4, 64]⟩
abbrev S4x4096x4096x4 : Shape := ⟨4, ![4, 4096, 4096, 4]⟩
abbrev S4x4x4096 : Shape := ⟨3, ![4, 4, 4096]⟩
abbrev S4x4x4096x1 : Shape := ⟨4, ![4, 4, 4096, 1]⟩
abbrev S4x64x4x4096 : Shape := ⟨4, ![4, 64, 4, 4096]⟩
abbrev S16x1x4096 : Shape := ⟨3, ![16, 1, 4096]⟩
abbrev S4096x16x64 : Shape := ⟨3, ![4096, 16, 64]⟩
abbrev S4096x16 : Shape := ⟨2, ![4096, 16]⟩
abbrev S16x4096 : Shape := ⟨2, ![16, 4096]⟩
abbrev S16x4096x64 : Shape := ⟨3, ![16, 4096, 64]⟩
abbrev S4x64x4096 : Shape := ⟨3, ![4, 64, 4096]⟩
abbrev S16x1x1 : Shape := ⟨3, ![16, 1, 1]⟩
abbrev S4x1024x64 : Shape := ⟨3, ![4, 1024, 64]⟩
abbrev S1x128x64 : Shape := ⟨3, ![1, 128, 64]⟩
abbrev S1x1024x64 : Shape := ⟨3, ![1, 1024, 64]⟩
abbrev S1x64x128 : Shape := ⟨3, ![1, 64, 128]⟩
abbrev S1x64x1024 : Shape := ⟨3, ![1, 64, 1024]⟩
abbrev S1024x256 : Shape := ⟨2, ![1024, 256]⟩
abbrev S4x1x1024 : Shape := ⟨3, ![4, 1, 1024]⟩
abbrev S4x1x1 : Shape := ⟨3, ![4, 1, 1]⟩
abbrev S1x4096x64 : Shape := ⟨3, ![1, 4096, 64]⟩
abbrev S1280x64 : Shape := ⟨2, ![1280, 64]⟩
abbrev S128x64 : Shape := ⟨2, ![128, 64]⟩
abbrev S1024x64 : Shape := ⟨2, ![1024, 64]⟩
abbrev S64x128 : Shape := ⟨2, ![64, 128]⟩
abbrev S64x1024 : Shape := ⟨2, ![64, 1024]⟩
abbrev S64x1280 : Shape := ⟨2, ![64, 1280]⟩
abbrev S384x128 : Shape := ⟨2, ![384, 128]⟩
abbrev S1x1x1 : Shape := ⟨3, ![1, 1, 1]⟩
abbrev S1x1 : Shape := ⟨2, ![1, 1]⟩
abbrev S384x512 : Shape := ⟨2, ![384, 512]⟩
abbrev S4x128x64 : Shape := ⟨3, ![4, 128, 64]⟩
abbrev S512x64 : Shape := ⟨2, ![512, 64]⟩
abbrev S384x64 : Shape := ⟨2, ![384, 64]⟩
abbrev S1x1x128 : Shape := ⟨3, ![1, 1, 128]⟩
abbrev S1x128 : Shape := ⟨2, ![1, 128]⟩
abbrev S1x512 : Shape := ⟨2, ![1, 512]⟩
abbrev S64x384 : Shape := ⟨2, ![64, 384]⟩
abbrev S64x512 : Shape := ⟨2, ![64, 512]⟩

abbrev nBuf : Space → Nat
  | .hbm => 99
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4x4096x64, .f32⟩
  | .hbm, ⟨2, _⟩ => ⟨S4x4096x64, .f32⟩
  | .hbm, ⟨3, _⟩ => ⟨S16, .f32⟩
  | .hbm, ⟨4, _⟩ => ⟨S4096x1024, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S4x4, .f32⟩
  | .hbm, ⟨25, _⟩ => ⟨S4x4x1x1, .f32⟩
  | .hbm, ⟨26, _⟩ => ⟨S4x4x1x1, .f32⟩
  | .hbm, ⟨27, _⟩ => ⟨S4096x4096, .i32⟩
  | .hbm, ⟨28, _⟩ => ⟨S4096x4096, .f32⟩
  | .hbm, ⟨29, _⟩ => ⟨S1x1x4096x4096, .f32⟩
  | .hbm, ⟨30, _⟩ => ⟨S4x4x4096x4096, .f32⟩
  | .hbm, ⟨31, _⟩ => ⟨S4x4x4096x4096, .f32⟩
  | .hbm, ⟨32, _⟩ => ⟨S4x4x4096x4096, .f32⟩
  | .hbm, ⟨33, _⟩ => ⟨S4096x4x4x64, .f32⟩
  | .hbm, ⟨34, _⟩ => ⟨S4x4096x4096x4, .f32⟩
  | .hbm, ⟨35, _⟩ => ⟨S4x4x4096x4096, .f32⟩
  | .hbm, ⟨36, _⟩ => ⟨S_, .f32⟩
  | .hbm, ⟨37, _⟩ => ⟨S4x4x4096x4096, .f32⟩
  | .hbm, ⟨38, _⟩ => ⟨S4x4x4096x4096, .f32⟩
  | .hbm, ⟨39, _⟩ => ⟨S4x4x4096x4096, .f32⟩
  | .hbm, ⟨40, _⟩ => ⟨S4096x4096, .i32⟩
  | .hbm, ⟨41, _⟩ => ⟨S_, .i32⟩
  | .hbm, ⟨42, _⟩ => ⟨S4096x4096, .i32⟩
  | .hbm, ⟨43, _⟩ => ⟨S4096x4096, .i1⟩
  | .hbm, ⟨44, _⟩ => ⟨S_, .f32⟩
  | .hbm, ⟨45, _⟩ => ⟨S_, .f32⟩
  | .hbm, ⟨46, _⟩ => ⟨S4x4x4096x4096, .i1⟩
  | .hbm, ⟨47, _⟩ => ⟨S4x4x4096x4096, .f32⟩
  | .hbm, ⟨48, _⟩ => ⟨S4x4x4096x4096, .f32⟩
  | .hbm, ⟨49, _⟩ => ⟨S4x4, .f32⟩
  | .hbm, ⟨50, _⟩ => ⟨S4x4x1x1, .f32⟩
  | .hbm, ⟨51, _⟩ => ⟨S_, .f32⟩
  | .hbm, ⟨52, _⟩ => ⟨S4x4x4096, .f32⟩
  | .hbm, ⟨53, _⟩ => ⟨S4x4x4096x1, .f32⟩
  | .hbm, ⟨54, _⟩ => ⟨S4x4x4096x1, .f32⟩
  | .hbm, ⟨55, _⟩ => ⟨S4x4x4096x1, .f32⟩
  | .hbm, ⟨56, _⟩ => ⟨S4x4x4096x4096, .f32⟩
  | .hbm, ⟨57, _⟩ => ⟨S4x4x4096x4096, .f32⟩
  | .hbm, ⟨58, _⟩ => ⟨S4x4x4096x4096, .f32⟩
  | .hbm, ⟨59, _⟩ => ⟨S_, .f32⟩
  | .hbm, ⟨60, _⟩ => ⟨S4x4x4096, .f32⟩
  | .hbm, ⟨61, _⟩ => ⟨S4x4x4096x1, .f32⟩
  | .hbm, ⟨62, _⟩ => ⟨S4x4x4096x1, .f32⟩
  | .hbm, ⟨63, _⟩ => ⟨S4x4x4096x1, .f32⟩
  | .hbm, ⟨64, _⟩ => ⟨S4x4x4096x1, .f32⟩
  | .hbm, ⟨65, _⟩ => ⟨S4x4x4096x1, .f32⟩
  | .hbm, ⟨66, _⟩ => ⟨S4x4x4096x4096, .f32⟩
  | .hbm, ⟨67, _⟩ => ⟨S4x4x4096x4096, .f32⟩
  | .hbm, ⟨68, _⟩ => ⟨S4x64x4x4096, .f32⟩
  | .hbm, ⟨69, _⟩ => ⟨S4096x4x4x64, .f32⟩
  | .hbm, ⟨70, _⟩ => ⟨S_, .f32⟩
  | .hbm, ⟨71, _⟩ => ⟨S_, .f32⟩
  | .hbm, ⟨72, _⟩ => ⟨S4x4x4096x1, .f32⟩
  | .hbm, ⟨73, _⟩ => ⟨S4x4x4096x1, .f32⟩
  | .hbm, ⟨74, _⟩ => ⟨S4x4x4096x1, .f32⟩
  | .hbm, ⟨75, _⟩ => ⟨S4x4x4096x1, .f32⟩
  | .hbm, ⟨76, _⟩ => ⟨S16x1x4096, .f32⟩
  | .hbm, ⟨77, _⟩ => ⟨S4096x16x64, .f32⟩
  | .hbm, ⟨78, _⟩ => ⟨S4096x16x64, .f32⟩
  | .hbm, ⟨79, _⟩ => ⟨S4096x16x64, .f32⟩
  | .hbm, ⟨80, _⟩ => ⟨S_, .f32⟩
  | .hbm, ⟨81, _⟩ => ⟨S4096x16, .f32⟩
  | .hbm, ⟨82, _⟩ => ⟨S16x4096, .f32⟩
  | .hbm, ⟨83, _⟩ => ⟨S16x1x4096, .f32⟩
  | .hbm, ⟨84, _⟩ => ⟨S_, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x16x64, .f32⟩
  | .hbm, ⟨89, _⟩ => ⟨S16x4096x64, .f32⟩
  | .hbm, ⟨90, _⟩ => ⟨S16x4096x64, .bf16⟩
  | .hbm, ⟨91, _⟩ => ⟨S4x4096x64, .bf16⟩
  | .hbm, ⟨92, _⟩ => ⟨S4x64x4096, .bf16⟩
  | .hbm, ⟨93, _⟩ => ⟨S4x4096x64, .bf16⟩
  | .hbm, ⟨94, _⟩ => ⟨S4096x1024, .bf16⟩
  | .hbm, ⟨95, _⟩ => ⟨S16x1x1, .f32⟩
  | .hbm, ⟨96, _⟩ => ⟨S4096x1024, .bf16⟩
  | .hbm, ⟨97, _⟩ => ⟨S4x4096x64, .f32⟩
  | .hbm, ⟨98, _⟩ => ⟨S4x4096x64, .f32⟩
  | .local _ .vmem, ⟨0, _⟩ => ⟨S4x1024x64, .bf16⟩
  | .local _ .vmem, ⟨1, _⟩ => ⟨S4x1024x64, .bf16⟩
  | .local _ .vmem, ⟨2, _⟩ => ⟨S1x128x64, .bf16⟩
  | .local _ .vmem, ⟨3, _⟩ => ⟨S1x128x64, .bf16⟩
  | .local _ .vmem, ⟨4, _⟩ => ⟨S1x1024x64, .bf16⟩
  | .local _ .vmem, ⟨5, _⟩ => ⟨S1x1024x64, .bf16⟩
  | .local _ .vmem, ⟨6, _⟩ => ⟨S1x128x64, .bf16⟩
  | .local _ .vmem, ⟨7, _⟩ => ⟨S1x128x64, .bf16⟩
  | .local _ .vmem, ⟨8, _⟩ => ⟨S1x64x128, .bf16⟩
  | .local _ .vmem, ⟨9, _⟩ => ⟨S1x64x128, .bf16⟩
  | .local _ .vmem, ⟨10, _⟩ => ⟨S1x64x1024, .bf16⟩
  | .local _ .vmem, ⟨11, _⟩ => ⟨S1x64x1024, .bf16⟩
  | .local _ .vmem, ⟨12, _⟩ => ⟨S1x64x128, .bf16⟩
  | .local _ .vmem, ⟨13, _⟩ => ⟨S1x64x128, .bf16⟩
  | .local _ .vmem, ⟨14, _⟩ => ⟨S1x128x64, .bf16⟩
  | .local _ .vmem, ⟨15, _⟩ => ⟨S1x128x64, .bf16⟩
  | .local _ .vmem, ⟨16, _⟩ => ⟨S1x1024x64, .bf16⟩
  | .local _ .vmem, ⟨17, _⟩ => ⟨S1x1024x64, .bf16⟩
  | .local _ .vmem, ⟨18, _⟩ => ⟨S1x128x64, .bf16⟩
  | .local _ .vmem, ⟨19, _⟩ => ⟨S1x128x64, .bf16⟩
  | .local _ .vmem, ⟨20, _⟩ => ⟨S1024x256, .bf16⟩
  | .local _ .vmem, ⟨21, _⟩ => ⟨S1024x256, .bf16⟩
  | .local _ .vmem, ⟨22, _⟩ => ⟨S4x1x1024, .f32⟩
  | .local _ .vmem, ⟨23, _⟩ => ⟨S4x1x1024, .f32⟩
  | .local _ .vmem, ⟨24, _⟩ => ⟨S4x1x1024, .f32⟩
  | .local _ .vmem, ⟨25, _⟩ => ⟨S4x1x1024, .f32⟩
  | .local _ .vmem, ⟨26, _⟩ => ⟨S4x1x1, .f32⟩
  | .local _ .vmem, ⟨27, _⟩ => ⟨S4x1x1, .f32⟩
  | .local _ .vmem, ⟨28, _⟩ => ⟨S1024x256, .bf16⟩
  | .local _ .vmem, ⟨29, _⟩ => ⟨S1024x256, .bf16⟩
  | .local _ .vmem, ⟨30, _⟩ => ⟨S1x4096x64, .f32⟩
  | .local _ .vmem, ⟨31, _⟩ => ⟨S1x4096x64, .f32⟩
  | .local _ .vmem, ⟨32, _⟩ => ⟨S1x4096x64, .f32⟩
  | .local _ .vmem, ⟨33, _⟩ => ⟨S1x4096x64, .f32⟩
  | .local _ .vmem, ⟨34, _⟩ => ⟨S1280x64, .f32⟩
  | .local _ .vmem, ⟨35, _⟩ => ⟨S1280x64, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76_0 : Ref sig .tc := ⟨.hbm, 96, rfl⟩
abbrev main_v76_1 : Ref sig .tc := ⟨.hbm, 97, rfl⟩
abbrev main_v76_2 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c31_i32 : BitVec 32 := 31#32
  let c0_i32_498 : BitVec 32 := 0#32
  let arg1 : BitVec 32 := BitVec.ofNat 32 (i 1).val
  let c8_i32 : BitVec 32 := 8#32
  let v696 : BitVec 32 := Scalar.muli arg1 c8_i32
  let c1_i32 : BitVec 32 := 1#32
  let v697 : BitVec 32 := Scalar.subi v696 c1_i32
  let v698 : BitVec 32 := Scalar.maxsi c0_i32_498 v697
  let v699 : BitVec 32 := Scalar.minsi c31_i32 v698
  let c128_i32_499 : BitVec 32 := 128#32
  let v700 : BitVec 32 := Scalar.muli v699 c128_i32_499
  v700
def k0_off1 (i : grid0.Coords) : Fin 3 → Nat :=
  let c0_505 : Index := 0#32
  let c31_i32 : BitVec 32 := 31#32
  let c0_i32_498 : BitVec 32 := 0#32
  let arg1 : BitVec 32 := BitVec.ofNat 32 (i 1).val
  let c8_i32 : BitVec 32 := 8#32
  let v696 : BitVec 32 := Scalar.muli arg1 c8_i32
  let c1_i32 : BitVec 32 := 1#32
  let v697 : BitVec 32 := Scalar.subi v696 c1_i32
  let v698 : BitVec 32 := Scalar.maxsi c0_i32_498 v697
  let v699 : BitVec 32 := Scalar.minsi c31_i32 v698
  let c128_i32_499 : BitVec 32 := 128#32
  let v700 : BitVec 32 := Scalar.muli v699 c128_i32_499
  let v707 : BitVec 32 := v700
  let v708 : Index := Scalar.indexCast v707
  let c0_506 : Index := 0#32
  ![0, v708.toNat, 0]
def k0_mult2 (i : grid0.Coords) : BitVec 32 :=
  let arg1 : BitVec 32 := BitVec.ofNat 32 (i 1).val
  let c1024_i32 : BitVec 32 := 1024#32
  let v701 : BitVec 32 := Scalar.muli arg1 c1024_i32
  v701
def k0_off2 (i : grid0.Coords) : Fin 3 → Nat :=
  let c0_518 : Index := 0#32
  let arg1 : BitVec 32 := BitVec.ofNat 32 (i 1).val
  let c1024_i32 : BitVec 32 := 1024#32
  let v701 : BitVec 32 := Scalar.muli arg1 c1024_i32
  let v728 : BitVec 32 := v701
  let v729 : Index := Scalar.indexCast v728
  let c0_519 : Index := 0#32
  ![0, v729.toNat, 0]
def k0_mult3 (i : grid0.Coords) : BitVec 32 :=
  let c31_i32_503 : BitVec 32 := 31#32
  let c0_i32_502 : BitVec 32 := 0#32
  let arg1 : BitVec 32 := BitVec.ofNat 32 (i 1).val
  let c1_i32_500 : BitVec 32 := 1#32
  let v702 : BitVec 32 := Scalar.addi arg1 c1_i32_500
  let c8_i32_501 : BitVec 32 := 8#32
  let v703 : BitVec 32 := Scalar.muli v702 c8_i32_501
  let v704 : BitVec 32 := Scalar.maxsi c0_i32_502 v703
  let v705 : BitVec 32 := Scalar.minsi c31_i32_503 v704
  let c128_i32_504 : BitVec 32 := 128#32
  let v706 : BitVec 32 := Scalar.muli v705 c128_i32_504
  v706
def k0_off3 (i : grid0.Coords) : Fin 3 → Nat :=
  let c0_531 : Index := 0#32
  let c31_i32_503 : BitVec 32 := 31#32
  let c0_i32_502 : BitVec 32 := 0#32
  let arg1 : BitVec 32 := BitVec.ofNat 32 (i 1).val
  let c1_i32_500 : BitVec 32 := 1#32
  let v702 : BitVec 32 := Scalar.addi arg1 c1_i32_500
  let c8_i32_501 : BitVec 32 := 8#32
  let v703 : BitVec 32 := Scalar.muli v702 c8_i32_501
  let v704 : BitVec 32 := Scalar.maxsi c0_i32_502 v703
  let v705 : BitVec 32 := Scalar.minsi c31_i32_503 v704
  let c128_i32_504 : BitVec 32 := 128#32
  let v706 : BitVec 32 := Scalar.muli v705 c128_i32_504
  let v749 : BitVec 32 := v706
  let v750 : Index := Scalar.indexCast v749
  let c0_532 : Index := 0#32
  ![0, v750.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, c0_i32_0.toNat, v3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, c0_i32_0.toNat, v3.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, v3.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, v3.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x1x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4096x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x4096x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== KernelIdeal.lean ====
variable {F : FTy → Type} [FloatOps F] [Named F]
def κ : String → Option EReal := fun
  | "inv_scale_log2e" => some ((8 * (Real.log 2) : ℝ) : EReal)
  | "neg_log2e" => some ((-((Real.log 2)⁻¹) : ℝ) : EReal)
  | _ => none
-- ==== ReferenceIdeal.lean ====
abbrev S4096x1024 : Shape := ⟨2, ![4096, 1024]⟩
abbrev S4x4096x64 : Shape := ⟨3, ![4, 4096, 64]⟩
abbrev S16 : Shape := ⟨1, ![16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4 : Shape := ⟨2, ![4, 4]⟩
abbrev S4x4x1x1 : Shape := ⟨4, ![4, 4, 1, 1]⟩
abbrev S1x1x4096x4096 : Shape := ⟨4, ![1, 1, 4096, 4096]⟩
abbrev S4x4x4096x4096 : Shape := ⟨4, ![4, 4, 4096, 4096]⟩
abbrev S4096x4x4x64 : Shape := ⟨4, ![4096, 4, 4, 64]⟩
abbrev S4x4096x4096x4 : Shape := ⟨4, ![4, 4096, 4096, 4]⟩
abbrev S4x4x4096 : Shape := ⟨3, ![4, 4, 4096]⟩
abbrev S4x4x4096x1 : Shape := ⟨4, ![4, 4, 4096, 1]⟩
abbrev S4x64x4x4096 : Shape := ⟨4, ![4, 64, 4, 4096]⟩
abbrev S4x64x4096 : Shape := ⟨3, ![4, 64, 4096]⟩
abbrev S4x4096x4x64 : Shape := ⟨4, ![4, 4096, 4, 64]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S4x4096x64, .f32⟩
  | 2 => ⟨S4x4096x64, .f32⟩
  | 3 => ⟨S16, .f32⟩
  | 4 => ⟨S4096x1024, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S4096, .i32⟩
  | 19 => ⟨S1x4096, .i32⟩
  | 20 => ⟨S4096, .i32⟩
  | 21 => ⟨S4096x1, .i32⟩
  | 22 => ⟨S4096x4096, .i32⟩
  | 23 => ⟨S4096x4096, .i32⟩
  | 24 => ⟨S4096x4096, .i32⟩
  | 25 => ⟨S4096x4096, .i32⟩
  | 26 => ⟨S_, .i32⟩
  | 27 => ⟨S4096x4096, .i32⟩
  | 28 => ⟨S4096x4096, .i1⟩
  | 29 => ⟨S4x4, .f32⟩
  | 30 => ⟨S4x4x1x1, .f32⟩
  | 31 => ⟨S4x4x1x1, .f32⟩
  | 32 => ⟨S4096x4096, .i32⟩
  | 33 => ⟨S4096x4096, .f32⟩
  | 34 => ⟨S1x1x4096x4096, .f32⟩
  | 35 => ⟨S4x4x4096x4096, .f32⟩
  | 36 => ⟨S4x4x4096x4096, .f32⟩
  | 37 => ⟨S4x4x4096x4096, .f32⟩
  | 38 => ⟨S4096x4x4x64, .f32⟩
  | 39 => ⟨S4x4096x4096x4, .f32⟩
  | 40 => ⟨S4x4x4096x4096, .f32⟩
  | 41 => ⟨S_, .f32⟩
  | 42 => ⟨S4x4x4096x4096, .f32⟩
  | 43 => ⟨S4x4x4096x4096, .f32⟩
  | 44 => ⟨S4x4x4096x4096, .f32⟩
  | 45 => ⟨S_, .f32⟩
  | 46 => ⟨S_, .f32⟩
  | 47 => ⟨S4x4x4096x4096, .i1⟩
  | 48 => ⟨S4x4x4096x4096, .f32⟩
  | 49 => ⟨S4x4x4096x4096, .f32⟩
  | 50 => ⟨S_, .f32⟩
  | 51 => ⟨S4x4x4096x4096, .f32⟩
  | 52 => ⟨S4x4, .f32⟩
  | 53 => ⟨S4x4x1x1, .f32⟩
  | 54 => ⟨S_, .f32⟩
  | 55 => ⟨S4x4x4096, .f32⟩
  | 56 => ⟨S4x4x4096x1, .f32⟩
  | 57 => ⟨S4x4x4096x4096, .f32⟩
  | 58 => ⟨S4x4x4096x4096, .i1⟩
  | 59 => ⟨S4x4x4096x4096, .f32⟩
  | 60 => ⟨S_, .f32⟩
  | 61 => ⟨S4x4x4096, .f32⟩
  | 62 => ⟨S4x4x4096x1, .f32⟩
  | 63 => ⟨S4x4x4096x1, .f32⟩
  | 64 => ⟨S4x4x4096x1, .f32⟩
  | 65 => ⟨S4x4x4096x1, .f32⟩
  | 66 => ⟨S4x4x4096x1, .i1⟩
  | 67 => ⟨S4x4x4096x1, .f32⟩
  | 68 => ⟨S4x4x4096x1, .i1⟩
  | 69 => ⟨S_, .f32⟩
  | 70 => ⟨S4x4x4096x1, .f32⟩
  | 71 => ⟨S_, .f32⟩
  | 72 => ⟨S4x4x4096x1, .f32⟩
  | 73 => ⟨S_, .f32⟩
  | 74 => ⟨S4x4x4096x1, .f32⟩
  | 75 => ⟨S4x4x4096x1, .f32⟩
  | 76 => ⟨S4x4x4096x1, .f32⟩
  | 77 => ⟨S4x4x4096x4096, .f32⟩
  | 78 => ⟨S4x4x4096x4096, .f32⟩
  | 79 => ⟨S4x4x4096x4096, .f32⟩
  | 80 => ⟨S_, .f32⟩
  | 81 => ⟨S4x4x4096, .f32⟩
  | 82 => ⟨S4x4x4096x1, .f32⟩
  | 83 => ⟨S4x4x4096x1, .f32⟩
  | 84 => ⟨S4x4x4096x1, .f32⟩
  | 85 => ⟨S4x4x4096x1, .f32⟩
  | 86 => ⟨S4x4x4096x1, .f32⟩
  | 87 => ⟨S4x4x4096x4096, .f32⟩
  | 88 => ⟨S4x4x4096x4096, .f32⟩
  | 89 => ⟨S4x4x4096x1, .f32⟩
  | 90 => ⟨S_, .f32⟩
  | 91 => ⟨S4x4x4096x1, .f32⟩
  | 92 => ⟨S4x4x4096x1, .f32⟩
  | 93 => ⟨S4x64x4x4096, .f32⟩
  | 94 => ⟨S4096x4x4x64, .f32⟩
  | 95 => ⟨S4096x1024, .f32⟩
  | 96 => ⟨S4096x4x4x64, .f32⟩
  | 97 => ⟨S4x64x4x4096, .f32⟩
  | 98 => ⟨S4x4x4096x4096, .f32⟩
  | 99 => ⟨S4x64x4096, .f32⟩
  | 100 => ⟨S4x4096x64, .f32⟩
  | 101 => ⟨S4x4x4096x4096, .f32⟩
  | 102 => ⟨S4x4x4096x4096, .f32⟩
  | 103 => ⟨S4x4x4096x4096, .f32⟩
  | 104 => ⟨S_, .f32⟩
  | 105 => ⟨S4x4x4096, .f32⟩
  | 106 => ⟨S4x4x4096x1, .f32⟩
  | 107 => ⟨S4x4x4096x1, .f32⟩
  | 108 => ⟨S4x4x4096x4096, .f32⟩
  | 109 => ⟨S4x4x4096x4096, .f32⟩
  | 110 => ⟨S4x4x4096x1, .f32⟩
  | 111 => ⟨S4x4x4096x1, .f32⟩
  | 112 => ⟨S_, .f32⟩
  | 113 => ⟨S4x4x4096, .f32⟩
  | 114 => ⟨S4x4x4096x4096, .f32⟩
  | 115 => ⟨S4x4x4096x4096, .f32⟩
  | 116 => ⟨S4x4x4096x4096, .f32⟩
  | 117 => ⟨S4x4x4096x4096, .f32⟩
  | 118 => ⟨S_, .f32⟩
  | 119 => ⟨S4x4x4096, .f32⟩
  | 120 => ⟨S4x4x4096x1, .f32⟩
  | 121 => ⟨S4x4x4096x1, .f32⟩
  | 122 => ⟨S4x4x4096x1, .f32⟩
  | 123 => ⟨S_, .f32⟩
  | 124 => ⟨S4x4x4096, .f32⟩
  | 125 => ⟨S4x4x4096, .f32⟩
  | 126 => ⟨S4x4x4096x4096, .f32⟩
  | 127 => ⟨S4x4x4096x4096, .f32⟩
  | _ => ⟨S4096x1024, .f32⟩

abbrev hbmTy0_1 (i : Nat) : BufTy := match i % 128 with
  | 0 => ⟨S4x4x4096x4096, .f32⟩
  | 1 => ⟨S_, .f32⟩
  | 2 => ⟨S4x4x4096x4096, .f32⟩
  | 3 => ⟨S4x4x4096x4096, .f32⟩
  | 4 => ⟨S_, .f32⟩
  | 5 => ⟨S4x4x4096x4096, .f32⟩
  | 6 => ⟨S4x4x4096x4096, .f32⟩
  | 7 => ⟨S4x4096x4096x4, .f32⟩
  | 8 => ⟨S4x4096x4x64, .f32⟩
  | 9 => ⟨S4096x4x4x64, .f32⟩
  | 10 => ⟨S4x4096x64, .f32⟩
  | 11 => ⟨S4096x1024, .f32⟩
  | 12 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_call0_v0 : Ref sig .tc := ⟨.hbm, 46, rfl⟩
abbrev main_v34_1 : Ref sig .tc := ⟨.hbm, 47, rfl⟩
abbrev main_call0_v2 : Ref sig .tc := ⟨.hbm, 48, rfl⟩
abbrev main_v34_0 : Ref sig .tc := ⟨.hbm, 49, rfl⟩
abbrev main_call0_cst : Ref sig .tc := ⟨.hbm, 50, rfl⟩
abbrev main_v34_2 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_12 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_13 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_14 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_15 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_call1_cst : Ref sig .tc := ⟨.hbm, 129, rfl⟩
abbrev main_call1_v0 : Ref sig .tc := ⟨.hbm, 130, rfl⟩
abbrev main_v101 : Ref sig .tc := ⟨.hbm, 131, rfl⟩
abbrev main_cst_16 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩

abbrev nD : Nat := 1
abbrev τ : Topo := Topo.v7x

variable {F : FTy → Type} [FloatOps F]
-- ==== Kernel2.lean ====
abbrev S4096x8x128 : Shape := ⟨3, ![4096, 8, 128]⟩
abbrev S4096x8x32 : Shape := ⟨3, ![4096, 8, 32]⟩
abbrev S4096x128 : Shape := ⟨2, ![4096, 128]⟩
abbrev S4096x32 : Shape := ⟨2, ![4096, 32]⟩
abbrev S4096x1024 : Shape := ⟨2, ![4096, 1024]⟩
abbrev S4096x4096x8 : Shape := ⟨3, ![4096, 4096, 8]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S128x8x4096 : Shape := ⟨3, ![128, 8, 4096]⟩
abbrev S8x1x4096 : Shape := ⟨3, ![8, 1, 4096]⟩
abbrev S4096x8 : Shape := ⟨2, ![4096, 8]⟩
abbrev S4096x8x160 : Shape := ⟨3, ![4096, 8, 160]⟩
abbrev S8x4096x160 : Shape := ⟨3, ![8, 4096, 160]⟩
abbrev S4096x160 : Shape := ⟨2, ![4096, 160]⟩
abbrev S1x4096x160 : Shape := ⟨3, ![1, 4096, 160]⟩
abbrev S1x160x4096 : Shape := ⟨3, ![1, 160, 4096]⟩
abbrev S4096x1280 : Shape := ⟨2, ![4096, 1280]⟩
abbrev S2x4096x160 : Shape := ⟨3, ![2, 4096, 160]⟩
abbrev S2x4096x128 : Shape := ⟨3, ![2, 4096, 128]⟩
abbrev S4x2048x160 : Shape := ⟨3, ![4, 2048, 160]⟩
abbrev S1x512x160 : Shape := ⟨3, ![1, 512, 160]⟩
abbrev S1x160x512 : Shape := ⟨3, ![1, 160, 512]⟩
abbrev S2048x512 : Shape := ⟨2, ![2048, 512]⟩
abbrev S4x1x2048 : Shape := ⟨3, ![4, 1, 2048]⟩
abbrev S4096x640 : Shape := ⟨2, ![4096, 640]⟩
abbrev S1x512x128 : Shape := ⟨3, ![1, 512, 128]⟩
abbrev S16x640x256 : Shape := ⟨3, ![16, 640, 256]⟩
abbrev S512x160 : Shape := ⟨2, ![512, 160]⟩
abbrev S512x128 : Shape := ⟨2, ![512, 128]⟩
abbrev S4x256x160 : Shape := ⟨3, ![4, 256, 160]⟩
abbrev S1024x160 : Shape := ⟨2, ![1024, 160]⟩
abbrev S256x128 : Shape := ⟨2, ![256, 128]⟩
abbrev S1024x128 : Shape := ⟨2, ![1024, 128]⟩
abbrev S512x1024 : Shape := ⟨2, ![512, 1024]⟩
abbrev S1x1x256 : Shape := ⟨3, ![1, 1, 256]⟩
abbrev S1x256 : Shape := ⟨2, ![1, 256]⟩
abbrev S1x1024 : Shape := ⟨2, ![1, 1024]⟩
abbrev S160x512 : Shape := ⟨2, ![160, 512]⟩
abbrev S160x1024 : Shape := ⟨2, ![160, 1024]⟩
abbrev S1x160x256 : Shape := ⟨3, ![1, 160, 256]⟩
abbrev S160x256 : Shape := ⟨2, ![160, 256]⟩
abbrev S256x160 : Shape := ⟨2, ![256, 160]⟩
abbrev S256x32 : Shape := ⟨2, ![256, 32]⟩

abbrev nBuf : Space → Nat
  | .hbm => 54
  | .vmem => 19
  | .smem => 0
  | _ => 0

abbrev bufTy : (tb : Table) → Fin (tcTables nBuf tb) → BufTy
  | .hbm, ⟨0, _⟩ => ⟨S4096x8x128, .f32⟩
  | .hbm, ⟨1, _⟩ => ⟨S4096x8x32, .f32⟩
  | .hbm, ⟨2, _⟩ => ⟨S4096x128, .f32⟩
  | .hbm, ⟨3, _⟩ => ⟨S4096x32, .f32⟩
  | .hbm, ⟨4, _⟩ => ⟨S4096x1024, .f32⟩
  | .hbm, ⟨5, _⟩ => ⟨S4096x4096x8, .f32⟩
  | .hbm, ⟨6, _⟩ => ⟨S8x4096x4096, .f32⟩
  | .hbm, ⟨7, _⟩ => ⟨S4096x4096x8, .f32⟩
  | .hbm, ⟨8, _⟩ => ⟨S8x4096x4096, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S8x4096x4096, .f32⟩
  | .hbm, ⟨23, _⟩ => ⟨S8x4096x4096, .f32⟩
  | .hbm, ⟨24, _⟩ => ⟨S128x8x4096, .f32⟩
  | .hbm, ⟨25, _⟩ => ⟨S4096x8x128, .f32⟩
  | .hbm, ⟨26, _⟩ => ⟨S_, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x1x4096, .f32⟩
  | .hbm, ⟨33, _⟩ => ⟨S4096x8x128, .f32⟩
  | .hbm, ⟨34, _⟩ => ⟨S4096x8x128, .f32⟩
  | .hbm, ⟨35, _⟩ => ⟨S_, .f32⟩
  | .hbm, ⟨36, _⟩ => ⟨S4096x8, .f32⟩
  | .hbm, ⟨37, _⟩ => ⟨S8x4096, .f32⟩
  | .hbm, ⟨38, _⟩ => ⟨S8x1x4096, .f32⟩
  | .hbm, ⟨39, _⟩ => ⟨S4096x8x160, .f32⟩
  | .hbm, ⟨40, _⟩ => ⟨S_, .f32⟩
  | .hbm, ⟨41, _⟩ => ⟨S_, .f32⟩
  | .hbm, ⟨42, _⟩ => ⟨S4096x8x160, .f32⟩
  | .hbm, ⟨43, _⟩ => ⟨S4096x8x160, .f32⟩
  | .hbm, ⟨44, _⟩ => ⟨S8x4096x160, .f32⟩
  | .hbm, ⟨45, _⟩ => ⟨S8x4096x160, .bf16⟩
  | .hbm, ⟨46, _⟩ => ⟨S4096x160, .f32⟩
  | .hbm, ⟨47, _⟩ => ⟨S1x4096x160, .f32⟩
  | .hbm, ⟨48, _⟩ => ⟨S1x4096x160, .bf16⟩
  | .hbm, ⟨49, _⟩ => ⟨S1x160x4096, .bf16⟩
  | .hbm, ⟨50, _⟩ => ⟨S4096x1024, .bf16⟩
  | .hbm, ⟨51, _⟩ => ⟨S4096x1280, .f32⟩
  | .hbm, ⟨52, _⟩ => ⟨S2x4096x160, .f32⟩
  | .hbm, ⟨53, _⟩ => ⟨S2x4096x128, .f32⟩
  | .local _ .vmem, ⟨0, _⟩ => ⟨S4x2048x160, .bf16⟩
  | .local _ .vmem, ⟨1, _⟩ => ⟨S4x2048x160, .bf16⟩
  | .local _ .vmem, ⟨2, _⟩ => ⟨S1x512x160, .bf16⟩
  | .local _ .vmem, ⟨3, _⟩ => ⟨S1x512x160, .bf16⟩
  | .local _ .vmem, ⟨4, _⟩ => ⟨S1x160x512, .bf16⟩
  | .local _ .vmem, ⟨5, _⟩ => ⟨S1x160x512, .bf16⟩
  | .local _ .vmem, ⟨6, _⟩ => ⟨S2048x512, .bf16⟩
  | .local _ .vmem, ⟨7, _⟩ => ⟨S2048x512, .bf16⟩
  | .local _ .vmem, ⟨8, _⟩ => ⟨S4x1x2048, .f32⟩
  | .local _ .vmem, ⟨9, _⟩ => ⟨S4x1x2048, .f32⟩
  | .local _ .vmem, ⟨10, _⟩ => ⟨S4x1x2048, .f32⟩
  | .local _ .vmem, ⟨11, _⟩ => ⟨S4x1x2048, .f32⟩
  | .local _ .vmem, ⟨12, _⟩ => ⟨S4096x640, .f32⟩
  | .local _ .vmem, ⟨13, _⟩ => ⟨S4096x640, .f32⟩
  | .local _ .vmem, ⟨14, _⟩ => ⟨S1x512x160, .f32⟩
  | .local _ .vmem, ⟨15, _⟩ => ⟨S1x512x160, .f32⟩
  | .local _ .vmem, ⟨16, _⟩ => ⟨S1x512x128, .f32⟩
  | .local _ .vmem, ⟨17, _⟩ => ⟨S1x512x128, .f32⟩
  | .local _ .vmem, ⟨18, _⟩ => ⟨S16x640x256, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40_0 : Ref sig .tc := ⟨.hbm, 51, rfl⟩
abbrev main_v40_1 : Ref sig .tc := ⟨.hbm, 52, rfl⟩
abbrev main_v40_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 2], ![false, false, false]⟩

def k0_off1 (i : grid0.Coords) (c0_i32_74 : BitVec 32) : Fin 3 → Nat :=
  let arg2 : BitVec 32 := BitVec.ofNat 32 (i 2).val
  let c8_i32 : BitVec 32 := 8#32
  let v93 : BitVec 32 := Scalar.muli arg2 c8_i32
  let v94 : BitVec 32 := Scalar.addi v93 c0_i32_74
  let v95 : Index := Scalar.indexCast v94
  let c0_75 : Index := 0#32
  let c0_76 : Index := 0#32
  ![v95.toNat, 0, 0]
def k0_off2 (i : grid0.Coords) (c0_i32_80 : BitVec 32) : Fin 3 → Nat :=
  let arg2 : BitVec 32 := BitVec.ofNat 32 (i 2).val
  let c8_i32_79 : BitVec 32 := 8#32
  let v104 : BitVec 32 := Scalar.muli arg2 c8_i32_79
  let v105 : BitVec 32 := Scalar.addi v104 c0_i32_80
  let v106 : Index := Scalar.indexCast v105
  let c160 : Index := 160#32
  let c0_81 : Index := 0#32
  ![v106.toNat, 160, 0]
def k0_off3 (i : grid0.Coords) (c0_i32_85 : BitVec 32) : Fin 3 → Nat :=
  let arg2 : BitVec 32 := BitVec.ofNat 32 (i 2).val
  let c8_i32_84 : BitVec 32 := 8#32
  let v115 : BitVec 32 := Scalar.muli arg2 c8_i32_84
  let v116 : BitVec 32 := Scalar.addi v115 c0_i32_85
  let v117 : Index := Scalar.indexCast v116
  let c320 : Index := 320#32
  let c0_86 : Index := 0#32
  ![v117.toNat, 320, 0]
def k0_off4 (i : grid0.Coords) (c0_i32_90 : BitVec 32) : Fin 3 → Nat :=
  let arg2 : BitVec 32 := BitVec.ofNat 32 (i 2).val
  let c8_i32_89 : BitVec 32 := 8#32
  let v126 : BitVec 32 := Scalar.muli arg2 c8_i32_89
  let v127 : BitVec 32 := Scalar.addi v126 c0_i32_90
  let v128 : Index := Scalar.indexCast v127
  let c480 : Index := 480#32
  let c0_91 : Index := 0#32
  ![v128.toNat, 480, 0]
def k0_cond3 (i : grid0.Coords) : BitVec 1 :=
  let arg1 : BitVec 32 := BitVec.ofNat 32 (i 1).val
  let c7_i32_540 : BitVec 32 := 7#32
  let v777 : BitVec 1 := Scalar.cmpi .eq arg1 c7_i32_540
  let arg2 : BitVec 32 := BitVec.ofNat 32 (i 2).val
  let c1_i32_541 : BitVec 32 := 1#32
  let v778 : BitVec 1 := Scalar.cmpi .eq arg2 c1_i32_541
  let v779 : BitVec 1 := Scalar.andi v777 v778
  let v780 : BitVec 32 := Scalar.extui v779
  let c0_i32_542 : BitVec 32 := 0#32
  let v781 : BitVec 1 := Scalar.cmpi .ne v780 c0_i32_542
  v781

@[reducible] def k0_t1_loop : Scf.Loop 32 :=
  let c0_i32_543 : BitVec 32 := 0#32
  let c16_i32 : BitVec 32 := 16#32
  let v782 : BitVec 32 := Scalar.addi c0_i32_543 c16_i32
  let c1_i32_544 : BitVec 32 := 1#32
  ⟨c0_i32_543, v782, c1_i32_544⟩
def k0_mult1 (k0_t1 : Fin k0_t1_loop.trips) : BitVec 32 :=
  let c0_i32_543 : BitVec 32 := 0#32
  let c1_i32_544 : BitVec 32 := 1#32
  let arg13 : BitVec 32 := Scf.iv c0_i32_543 c1_i32_544 k0_t1
  let c256_i32 : BitVec 32 := 256#32
  let v783 : BitVec 32 := Scalar.muli arg13 c256_i32
  v783
def k0_off5 (k0_t1 : Fin k0_t1_loop.trips) : Fin 3 → Nat :=
  let c0_i32_543 : BitVec 32 := 0#32
  let c1_i32_544 : BitVec 32 := 1#32
  let arg13 : BitVec 32 := Scf.iv c0_i32_543 c1_i32_544 k0_t1
  let v785 : Index := Scalar.indexCast arg13
  let c0_546 : Index := 0#32
  let c0_547 : Index := 0#32
  ![v785.toNat, 0, 0]
def k0_off6 (k0_t1 : Fin k0_t1_loop.trips) : Fin 2 → Nat :=
  let c0_i32_543 : BitVec 32 := 0#32
  let c1_i32_544 : BitVec 32 := 1#32
  let arg13 : BitVec 32 := Scf.iv c0_i32_543 c1_i32_544 k0_t1
  let c256_i32 : BitVec 32 := 256#32
  let v783 : BitVec 32 := Scalar.muli arg13 c256_i32
  let v784 : BitVec 32 := v783
  let v790 : Index := Scalar.indexCast v784
  let c0_548 : Index := 0#32
  ![v790.toNat, 0]
def k0_off7 (k0_t1 : Fin k0_t1_loop.trips) : Fin 2 → Nat :=
  let c0_i32_543 : BitVec 32 := 0#32
  let c1_i32_544 : BitVec 32 := 1#32
  let arg13 : BitVec 32 := Scf.iv c0_i32_543 c1_i32_544 k0_t1
  let c256_i32 : BitVec 32 := 256#32
  let v783 : BitVec 32 := Scalar.muli arg13 c256_i32
  let v784 : BitVec 32 := v783
  let v793 : Index := Scalar.indexCast v784
  let c512_549 : Index := 512#32
  ![v793.toNat, 512]
def k0_off8 (k0_t1 : Fin k0_t1_loop.trips) : Fin 3 → Nat :=
  let c0_i32_543 : BitVec 32 := 0#32
  let c1_i32_544 : BitVec 32 := 1#32
  let arg13 : BitVec 32 := Scf.iv c0_i32_543 c1_i32_544 k0_t1
  let v795 : Index := Scalar.indexCast arg13
  let c160_550 : Index := 160#32
  let c0_551 : Index := 0#32
  ![v795.toNat, 160, 0]
def k0_off9 (k0_t1 : Fin k0_t1_loop.trips) : Fin 2 → Nat :=
  let c0_i32_543 : BitVec 32 := 0#32
  let c1_i32_544 : BitVec 32 := 1#32
  let arg13 : BitVec 32 := Scf.iv c0_i32_543 c1_i32_544 k0_t1
  let c256_i32 : BitVec 32 := 256#32
  let v783 : BitVec 32 := Scalar.muli arg13 c256_i32
  let v784 : BitVec 32 := v783
  let v800 : Index := Scalar.indexCast v784
  let c128_552 : Index := 128#32
  ![v800.toNat, 128]
def k0_off10 (k0_t1 : Fin k0_t1_loop.trips) : Fin 2 → Nat :=
  let c0_i32_543 : BitVec 32 := 0#32
  let c1_i32_544 : BitVec 32 := 1#32
  let arg13 : BitVec 32 := Scf.iv c0_i32_543 c1_i32_544 k0_t1
  let c256_i32 : BitVec 32 := 256#32
  let v783 : BitVec 32 := Scalar.muli arg13 c256_i32
  let v784 : BitVec 32 := v783
  let v803 : Index := Scalar.indexCast v784
  let c544 : Index := 544#32
  ![v803.toNat, 544]
def k0_off11 (k0_t1 : Fin k0_t1_loop.trips) : Fin 3 → Nat :=
  let c0_i32_543 : BitVec 32 := 0#32
  let c1_i32_544 : BitVec 32 := 1#32
  let arg13 : BitVec 32 := Scf.iv c0_i32_543 c1_i32_544 k0_t1
  let v805 : Index := Scalar.indexCast arg13
  let c320_553 : Index := 320#32
  let c0_554 : Index := 0#32
  ![v805.toNat, 320, 0]
def k0_off12 (k0_t1 : Fin k0_t1_loop.trips) : Fin 2 → Nat :=
  let c0_i32_543 : BitVec 32 := 0#32
  let c1_i32_544 : BitVec 32 := 1#32
  let arg13 : BitVec 32 := Scf.iv c0_i32_543 c1_i32_544 k0_t1
  let c256_i32 : BitVec 32 := 256#32
  let v783 : BitVec 32 := Scalar.muli arg13 c256_i32
  let v784 : BitVec 32 := v783
  let v810 : Index := Scalar.indexCast v784
  let c256_555 : Index := 256#32
  ![v810.toNat, 256]
def k0_off13 (k0_t1 : Fin k0_t1_loop.trips) : Fin 2 → Nat :=
  let c0_i32_543 : BitVec 32 := 0#32
  let c1_i32_544 : BitVec 32 := 1#32
  let arg13 : BitVec 32 := Scf.iv c0_i32_543 c1_i32_544 k0_t1
  let c256_i32 : BitVec 32 := 256#32
  let v783 : BitVec 32 := Scalar.muli arg13 c256_i32
  let v784 : BitVec 32 := v783
  let v813 : Index := Scalar.indexCast v784
  let c576 : Index := 576#32
  ![v813.toNat, 576]
def k0_off14 (k0_t1 : Fin k0_t1_loop.trips) : Fin 3 → Nat :=
  let c0_i32_543 : BitVec 32 := 0#32
  let c1_i32_544 : BitVec 32 := 1#32
  let arg13 : BitVec 32 := Scf.iv c0_i32_543 c1_i32_544 k0_t1
  let v815 : Index := Scalar.indexCast arg13
  let c480_556 : Index := 480#32
  let c0_557 : Index := 0#32
  ![v815.toNat, 480, 0]
def k0_off15 (k0_t1 : Fin k0_t1_loop.trips) : Fin 2 → Nat :=
  let c0_i32_543 : BitVec 32 := 0#32
  let c1_i32_544 : BitVec 32 := 1#32
  let arg13 : BitVec 32 := Scf.iv c0_i32_543 c1_i32_544 k0_t1
  let c256_i32 : BitVec 32 := 256#32
  let v783 : BitVec 32 := Scalar.muli arg13 c256_i32
  let v784 : BitVec 32 := v783
  let v820 : Index := Scalar.indexCast v784
  let c384_558 : Index := 384#32
  ![v820.toNat, 384]
def k0_off16 (k0_t1 : Fin k0_t1_loop.trips) : Fin 2 → Nat :=
  let c0_i32_543 : BitVec 32 := 0#32
  let c1_i32_544 : BitVec 32 := 1#32
  let arg13 : BitVec 32 := Scf.iv c0_i32_543 c1_i32_544 k0_t1
  let c256_i32 : BitVec 32 := 256#32
  let v783 : BitVec 32 := Scalar.muli arg13 c256_i32
  let v784 : BitVec 32 := v783
  let v823 : Index := Scalar.indexCast v784
  let c608 : Index := 608#32
  ![v823.toNat, 608]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c0_i32_6 : BitVec 32 := 0#32
  ![v17.toNat, arg1.toNat, c0_i32_5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c0_i32_6 : BitVec 32 := 0#32
  ![v17.toNat, c0_i32_5.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4x2048x160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x160 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x160x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S4x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S4x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S4096x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x512x160 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Kernel2Ideal.lean ====
variable {F : FTy → Type} [FloatOps F] [Named F]
def κ : String → Option EReal := fun
  | "inv_scale_b_log2e" => some (((3424635 / 33554432)⁻¹ * (Real.log 2) : ℝ) : EReal)
  | _ => none
-- ==== Reference2Ideal.lean ====
abbrev S4096x8x128 : Shape := ⟨3, ![4096, 8, 128]⟩
abbrev S4096x8x32 : Shape := ⟨3, ![4096, 8, 32]⟩
abbrev S4096x128 : Shape := ⟨2, ![4096, 128]⟩
abbrev S4096x32 : Shape := ⟨2, ![4096, 32]⟩
abbrev S4096x1024 : Shape := ⟨2, ![4096, 1024]⟩
abbrev S4096x2x4x128 : Shape := ⟨4, ![4096, 2, 4, 128]⟩
abbrev S4096x2x4x32 : Shape := ⟨4, ![4096, 2, 4, 32]⟩
abbrev S1x4096x128 : Shape := ⟨3, ![1, 4096, 128]⟩
abbrev S2x4096x128 : Shape := ⟨3, ![2, 4096, 128]⟩
abbrev S1x4096x32 : Shape := ⟨3, ![1, 4096, 32]⟩
abbrev S2x4096x32 : Shape := ⟨3, ![2, 4096, 32]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S2x128x4096 : Shape := ⟨3, ![2, 128, 4096]⟩
abbrev S2x4096x4x32 : Shape := ⟨4, ![2, 4096, 4, 32]⟩
abbrev S2x4096x4x128 : Shape := ⟨4, ![2, 4096, 4, 128]⟩
abbrev S4096x2x512 : Shape := ⟨3, ![4096, 2, 512]⟩
abbrev S4096x2x128 : Shape := ⟨3, ![4096, 2, 128]⟩
abbrev S4096x2x640 : Shape := ⟨3, ![4096, 2, 640]⟩
abbrev S4096x1280 : Shape := ⟨2, ![4096, 1280]⟩
abbrev S2x4096x160 : Shape := ⟨3, ![2, 4096, 160]⟩

abbrev nBuf : Space → Nat
  | .hbm => 96
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S4096x8x32, .f32⟩
  | .hbm, ⟨2, _⟩ => ⟨S4096x128, .f32⟩
  | .hbm, ⟨3, _⟩ => ⟨S4096x32, .f32⟩
  | .hbm, ⟨4, _⟩ => ⟨S4096x1024, .f32⟩
  | .hbm, ⟨5, _⟩ => ⟨S4096x2x4x128, .f32⟩
  | .hbm, ⟨6, _⟩ => ⟨S4096x2x4x32, .f32⟩
  | .hbm, ⟨7, _⟩ => ⟨S1x4096x128, .f32⟩
  | .hbm, ⟨8, _⟩ => ⟨S2x4096x128, .f32⟩
  | .hbm, ⟨9, _⟩ => ⟨S1x4096x32, .f32⟩
  | .hbm, ⟨10, _⟩ => ⟨S2x4096x32, .f32⟩
  | .hbm, ⟨11, _⟩ => ⟨S1x4096x128, .f32⟩
  | .hbm, ⟨12, _⟩ => ⟨S2x4096x128, .f32⟩
  | .hbm, ⟨13, _⟩ => ⟨S2x4096x4096x4, .f32⟩
  | .hbm, ⟨14, _⟩ => ⟨S2x4x4096x4096, .f32⟩
  | .hbm, ⟨15, _⟩ => ⟨S2x4096x4096x4, .f32⟩
  | .hbm, ⟨16, _⟩ => ⟨S2x4x4096x4096, .f32⟩
  | .hbm, ⟨17, _⟩ => ⟨S2x4x4096x4096, .f32⟩
  | .hbm, ⟨18, _⟩ => ⟨S_, .f32⟩
  | .hbm, ⟨19, _⟩ => ⟨S2x4x4096x4096, .f32⟩
  | .hbm, ⟨20, _⟩ => ⟨S2x4x4096x4096, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x4096, .f32⟩
  | .hbm, ⟨25, _⟩ => ⟨S2x4x4096x4096, .i1⟩
  | .hbm, ⟨26, _⟩ => ⟨S2x4x4096x4096, .f32⟩
  | .hbm, ⟨27, _⟩ => ⟨S_, .f32⟩
  | .hbm, ⟨28, _⟩ => ⟨S2x4x4096, .f32⟩
  | .hbm, ⟨29, _⟩ => ⟨S_, .f32⟩
  | .hbm, ⟨30, _⟩ => ⟨S2x4x4096, .f32⟩
  | .hbm, ⟨31, _⟩ => ⟨S2x4x4096, .f32⟩
  | .hbm, ⟨32, _⟩ => ⟨S_, .f32⟩
  | .hbm, ⟨33, _⟩ => ⟨S2x4x4096, .f32⟩
  | .hbm, ⟨34, _⟩ => ⟨S2x4x4096, .i1⟩
  | .hbm, ⟨35, _⟩ => ⟨S_, .f32⟩
  | .hbm, ⟨36, _⟩ => ⟨S2x4x4096, .f32⟩
  | .hbm, ⟨37, _⟩ => ⟨S2x4x4096, .i1⟩
  | .hbm, ⟨38, _⟩ => ⟨S_, .f32⟩
  | .hbm, ⟨39, _⟩ => ⟨S2x4x4096, .f32⟩
  | .hbm, ⟨40, _⟩ => ⟨S_, .f32⟩
  | .hbm, ⟨41, _⟩ => ⟨S2x4x4096, .f32⟩
  | .hbm, ⟨42, _⟩ => ⟨S_, .f32⟩
  | .hbm, ⟨43, _⟩ => ⟨S2x4x4096, .f32⟩
  | .hbm, ⟨44, _⟩ => ⟨S2x4x4096, .f32⟩
  | .hbm, ⟨45, _⟩ => ⟨S2x4x4096, .f32⟩
  | .hbm, ⟨46, _⟩ => ⟨S2x4x4096x1, .f32⟩
  | .hbm, ⟨47, _⟩ => ⟨S2x4x4096x4096, .f32⟩
  | .hbm, ⟨48, _⟩ => ⟨S2x4x4096x4096, .f32⟩
  | .hbm, ⟨49, _⟩ => ⟨S2x4x4096x4096, .f32⟩
  | .hbm, ⟨50, _⟩ => ⟨S_, .f32⟩
  | .hbm, ⟨51, _⟩ => ⟨S2x4x4096, .f32⟩
  | .hbm, ⟨52, _⟩ => ⟨S2x4x4096x1, .f32⟩
  | .hbm, ⟨53, _⟩ => ⟨S2x4x4096x4096, .f32⟩
  | .hbm, ⟨54, _⟩ => ⟨S2x4x4096x4096, .f32⟩
  | .hbm, ⟨55, _⟩ => ⟨S2x4x4096x1, .f32⟩
  | .hbm, ⟨56, _⟩ => ⟨S_, .f32⟩
  | .hbm, ⟨57, _⟩ => ⟨S2x4x4096x1, .f32⟩
  | .hbm, ⟨58, _⟩ => ⟨S2x4x4096x1, .f32⟩
  | .hbm, ⟨59, _⟩ => ⟨S2x128x4x4096, .f32⟩
  | .hbm, ⟨60, _⟩ => ⟨S4096x2x4x128, .f32⟩
  | .hbm, ⟨61, _⟩ => ⟨S4096x2x4x128, .f32⟩
  | .hbm, ⟨62, _⟩ => ⟨S2x128x4x4096, .f32⟩
  | .hbm, ⟨63, _⟩ => ⟨S2x4x4096x4096, .f32⟩
  | .hbm, ⟨64, _⟩ => ⟨S2x128x4096, .f32⟩
  | .hbm, ⟨65, _⟩ => ⟨S2x4096x128, .f32⟩
  | .hbm, ⟨66, _⟩ => ⟨S2x4x4096x4096, .f32⟩
  | .hbm, ⟨67, _⟩ => ⟨S2x4x4096x4096, .f32⟩
  | .hbm, ⟨68, _⟩ => ⟨S2x4x4096x4096, .f32⟩
  | .hbm, ⟨69, _⟩ => ⟨S_, .f32⟩
  | .hbm, ⟨70, _⟩ => ⟨S2x4x4096, .f32⟩
  | .hbm, ⟨71, _⟩ => ⟨S2x4x4096x1, .f32⟩
  | .hbm, ⟨72, _⟩ => ⟨S2x4x4096x1, .f32⟩
  | .hbm, ⟨73, _⟩ => ⟨S2x4x4096x4096, .f32⟩
  | .hbm, ⟨74, _⟩ => ⟨S2x4x4096x4096, .f32⟩
  | .hbm, ⟨75, _⟩ => ⟨S_, .f32⟩
  | .hbm, ⟨76, _⟩ => ⟨S2x4x4096, .f32⟩
  | .hbm, ⟨77, _⟩ => ⟨S2x4x4096x4096, .f32⟩
  | .hbm, ⟨78, _⟩ => ⟨S2x4x4096x4096, .f32⟩
  | .hbm, ⟨79, _⟩ => ⟨S2x4x4096x4096, .f32⟩
  | .hbm, ⟨80, _⟩ => ⟨S_, .f32⟩
  | .hbm, ⟨81, _⟩ => ⟨S2x4x4096x4096, .f32⟩
  | .hbm, ⟨82, _⟩ => ⟨S2x4x4096x4096, .f32⟩
  | .hbm, ⟨83, _⟩ => ⟨S2x4096x4096x4, .f32⟩
  | .hbm, ⟨84, _⟩ => ⟨S2x4096x4x32, .f32⟩
  | .hbm, ⟨85, _⟩ => ⟨S4096x2x4x32, .f32⟩
  | .hbm, ⟨86, _⟩ => ⟨S2x4096x32, .f32⟩
  | .hbm, ⟨87, _⟩ => ⟨S2x4096x4096x4, .f32⟩
  | .hbm, ⟨88, _⟩ => ⟨S2x4096x4x128, .f32⟩
  | .hbm, ⟨89, _⟩ => ⟨S4096x2x4x128, .f32⟩
  | .hbm, ⟨90, _⟩ => ⟨S2x4096x128, .f32⟩
  | .hbm, ⟨91, _⟩ => ⟨S4096x2x512, .f32⟩
  | .hbm, ⟨92, _⟩ => ⟨S4096x2x128, .f32⟩
  | .hbm, ⟨93, _⟩ => ⟨S4096x2x640, .f32⟩
  | .hbm, ⟨94, _⟩ => ⟨S4096x1280, .f32⟩
  | .hbm, ⟨95, _⟩ => ⟨S2x4096x160, .f32⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== Kernel3.lean ====
abbrev S4096x512 : Shape := ⟨2, ![4096, 512]⟩
abbrev S2x4096x64 : Shape := ⟨3, ![2, 4096, 64]⟩
abbrev S4096x2x4x64 : Shape := ⟨4, ![4096, 2, 4, 64]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x64x4x4096 : Shape := ⟨4, ![2, 64, 4, 4096]⟩
abbrev S8x1x4096 : Shape := ⟨3, ![8, 1, 4096]⟩
abbrev S4096x8x64 : Shape := ⟨3, ![4096, 8, 64]⟩
abbrev S4096x8 : Shape := ⟨2, ![4096, 8]⟩
abbrev S8x4096 : Shape := ⟨2, ![8, 4096]⟩
abbrev S8x4096x64 : Shape := ⟨3, ![8, 4096, 64]⟩
abbrev S2x64x4096 : Shape := ⟨3, ![2, 64, 4096]⟩
abbrev S4x4096x64 : Shape := ⟨3, ![4, 4096, 64]⟩
abbrev S1x512x64 : Shape := ⟨3, ![1, 512, 64]⟩
abbrev S1x64x512 : Shape := ⟨3, ![1, 64, 512]⟩
abbrev S4096x256 : Shape := ⟨2, ![4096, 256]⟩
abbrev S4x1x4096 : Shape := ⟨3, ![4, 1, 4096]⟩
abbrev S16x256x256 : Shape := ⟨3, ![16, 256, 256]⟩
abbrev S512x64 : Shape := ⟨2, ![512, 64]⟩
abbrev S4x256x64 : Shape := ⟨3, ![4, 256, 64]⟩
abbrev S1024x64 : Shape := ⟨2, ![1024, 64]⟩
abbrev S256x64 : Shape := ⟨2, ![256, 64]⟩
abbrev S512x1024 : Shape := ⟨2, ![512, 1024]⟩
abbrev S1x1x256 : Shape := ⟨3, ![1, 1, 256]⟩
abbrev S1x256 : Shape := ⟨2, ![1, 256]⟩
abbrev S1x1024 : Shape := ⟨2, ![1, 1024]⟩
abbrev S64x512 : Shape := ⟨2, ![64, 512]⟩
abbrev S64x1024 : Shape := ⟨2, ![64, 1024]⟩
abbrev S1x64x256 : Shape := ⟨3, ![1, 64, 256]⟩
abbrev S64x256 : Shape := ⟨2, ![64, 256]⟩

abbrev nBuf : Space → Nat
  | .hbm => 51
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S2x4096x64, .f32⟩
  | .hbm, ⟨2, _⟩ => ⟨S2x4096x64, .f32⟩
  | .hbm, ⟨3, _⟩ => ⟨S4096x512, .f32⟩
  | .hbm, ⟨4, _⟩ => ⟨S4096x2x4x64, .f32⟩
  | .hbm, ⟨5, _⟩ => ⟨S2x4096x4096x4, .f32⟩
  | .hbm, ⟨6, _⟩ => ⟨S2x4x4096x4096, .f32⟩
  | .hbm, ⟨7, _⟩ => ⟨S_, .f32⟩
  | .hbm, ⟨8, _⟩ => ⟨S2x4x4096x4096, .f32⟩
  | .hbm, ⟨9, _⟩ => ⟨S2x4x4096x4096, .f32⟩
  | .hbm, ⟨10, _⟩ => ⟨S_, .f32⟩
  | .hbm, ⟨11, _⟩ => ⟨S2x4x4096, .f32⟩
  | .hbm, ⟨12, _⟩ => ⟨S2x4x4096x1, .f32⟩
  | .hbm, ⟨13, _⟩ => ⟨S2x4x4096x4096, .f32⟩
  | .hbm, ⟨14, _⟩ => ⟨S2x4x4096x4096, .f32⟩
  | .hbm, ⟨15, _⟩ => ⟨S2x4x4096x4096, .f32⟩
  | .hbm, ⟨16, _⟩ => ⟨S_, .f32⟩
  | .hbm, ⟨17, _⟩ => ⟨S2x4x4096, .f32⟩
  | .hbm, ⟨18, _⟩ => ⟨S2x4x4096x1, .f32⟩
  | .hbm, ⟨19, _⟩ => ⟨S2x4x4096x4096, .f32⟩
  | .hbm, ⟨20, _⟩ => ⟨S2x4x4096x4096, .f32⟩
  | .hbm, ⟨21, _⟩ => ⟨S2x64x4x4096, .f32⟩
  | .hbm, ⟨22, _⟩ => ⟨S4096x2x4x64, .f32⟩
  | .hbm, ⟨23, _⟩ => ⟨S_, .f32⟩
  | .hbm, ⟨24, _⟩ => ⟨S_, .f32⟩
  | .hbm, ⟨25, _⟩ => ⟨S2x4x4096x1, .f32⟩
  | .hbm, ⟨26, _⟩ => ⟨S2x4x4096x1, .f32⟩
  | .hbm, ⟨27, _⟩ => ⟨S2x4x4096x1, .f32⟩
  | .hbm, ⟨28, _⟩ => ⟨S2x4x4096x1, .f32⟩
  | .hbm, ⟨29, _⟩ => ⟨S8x1x4096, .f32⟩
  | .hbm, ⟨30, _⟩ => ⟨S4096x8x64, .f32⟩
  | .hbm, ⟨31, _⟩ => ⟨S4096x8x64, .f32⟩
  | .hbm, ⟨32, _⟩ => ⟨S4096x8x64, .f32⟩
  | .hbm, ⟨33, _⟩ => ⟨S_, .f32⟩
  | .hbm, ⟨34, _⟩ => ⟨S4096x8, .f32⟩
  | .hbm, ⟨35, _⟩ => ⟨S8x4096, .f32⟩
  | .hbm, ⟨36, _⟩ => ⟨S8x1x4096, .f32⟩
  | .hbm, ⟨37, _⟩ => ⟨S_, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x8x64, .f32⟩
  | .hbm, ⟨42, _⟩ => ⟨S8x4096x64, .f32⟩
  | .hbm, ⟨43, _⟩ => ⟨S8x4096x64, .bf16⟩
  | .hbm, ⟨44, _⟩ => ⟨S2x4096x64, .bf16⟩
  | .hbm, ⟨45, _⟩ => ⟨S2x64x4096, .bf16⟩
  | .hbm, ⟨46, _⟩ => ⟨S2x4096x64, .bf16⟩
  | .hbm, ⟨47, _⟩ => ⟨S4096x512, .bf16⟩
  | .hbm, ⟨48, _⟩ => ⟨S4096x512, .f32⟩
  | .hbm, ⟨49, _⟩ => ⟨S2x4096x64, .f32⟩
  | .hbm, ⟨50, _⟩ => ⟨S2x4096x64, .f32⟩
  | .local _ .vmem, ⟨0, _⟩ => ⟨S4x4096x64, .bf16⟩
  | .local _ .vmem, ⟨1, _⟩ => ⟨S4x4096x64, .bf16⟩
  | .local _ .vmem, ⟨2, _⟩ => ⟨S1x512x64, .bf16⟩
  | .local _ .vmem, ⟨3, _⟩ => ⟨S1x512x64, .bf16⟩
  | .local _ .vmem, ⟨4, _⟩ => ⟨S1x64x512, .bf16⟩
  | .local _ .vmem, ⟨5, _⟩ => ⟨S1x64x512, .bf16⟩
  | .local _ .vmem, ⟨6, _⟩ => ⟨S1x512x64, .bf16⟩
  | .local _ .vmem, ⟨7, _⟩ => ⟨S1x512x64, .bf16⟩
  | .local _ .vmem, ⟨8, _⟩ => ⟨S4096x256, .bf16⟩
  | .local _ .vmem, ⟨9, _⟩ => ⟨S4096x256, .bf16⟩
  | .local _ .vmem, ⟨10, _⟩ => ⟨S4x1x4096, .f32⟩
  | .local _ .vmem, ⟨11, _⟩ => ⟨S4x1x4096, .f32⟩
  | .local _ .vmem, ⟨12, _⟩ => ⟨S4x1x4096, .f32⟩
  | .local _ .vmem, ⟨13, _⟩ => ⟨S4x1x4096, .f32⟩
  | .local _ .vmem, ⟨14, _⟩ => ⟨S4096x256, .f32⟩
  | .local _ .vmem, ⟨15, _⟩ => ⟨S4096x256, .f32⟩
  | .local _ .vmem, ⟨16, _⟩ => ⟨S1x512x64, .f32⟩
  | .local _ .vmem, ⟨17, _⟩ => ⟨S1x512x64, .f32⟩
  | .local _ .vmem, ⟨18, _⟩ => ⟨S1x512x64, .f32⟩
  | .local _ .vmem, ⟨19, _⟩ => ⟨S1x512x64, .f32⟩
  | .local _ .vmem, ⟨20, _⟩ => ⟨S16x256x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 1], ![false, false, false]⟩

def k0_off1 (i : grid0.Coords) (c0_i32_76 : BitVec 32) : Fin 3 → Nat :=
  let arg2 : BitVec 32 := BitVec.ofNat 32 (i 2).val
  let c16_i32 : BitVec 32 := 16#32
  let v94 : BitVec 32 := Scalar.muli arg2 c16_i32
  let v95 : BitVec 32 := Scalar.addi v94 c0_i32_76
  let v96 : Index := Scalar.indexCast v95
  let c0_77 : Index := 0#32
  let c0_78 : Index := 0#32
  ![v96.toNat, 0, 0]
def k0_off2 (i : grid0.Coords) (c0_i32_82 : BitVec 32) : Fin 3 → Nat :=
  let arg2 : BitVec 32 := BitVec.ofNat 32 (i 2).val
  let c16_i32_81 : BitVec 32 := 16#32
  let v105 : BitVec 32 := Scalar.muli arg2 c16_i32_81
  let v106 : BitVec 32 := Scalar.addi v105 c0_i32_82
  let v107 : Index := Scalar.indexCast v106
  let c64_83 : Index := 64#32
  let c0_84 : Index := 0#32
  ![v107.toNat, 64, 0]
def k0_off3 (i : grid0.Coords) (c0_i32_88 : BitVec 32) : Fin 3 → Nat :=
  let arg2 : BitVec 32 := BitVec.ofNat 32 (i 2).val
  let c16_i32_87 : BitVec 32 := 16#32
  let v116 : BitVec 32 := Scalar.muli arg2 c16_i32_87
  let v117 : BitVec 32 := Scalar.addi v116 c0_i32_88
  let v118 : Index := Scalar.indexCast v117
  let c128_89 : Index := 128#32
  let c0_90 : Index := 0#32
  ![v118.toNat, 128, 0]
def k0_off4 (i : grid0.Coords) (c0_i32_94 : BitVec 32) : Fin 3 → Nat :=
  let arg2 : BitVec 32 := BitVec.ofNat 32 (i 2).val
  let c16_i32_93 : BitVec 32 := 16#32
  let v127 : BitVec 32 := Scalar.muli arg2 c16_i32_93
  let v128 : BitVec 32 := Scalar.addi v127 c0_i32_94
  let v129 : Index := Scalar.indexCast v128
  let c192_95 : Index := 192#32
  let c0_96 : Index := 0#32
  ![v129.toNat, 192, 0]
def k0_cond3 (i : grid0.Coords) : BitVec 1 :=
  let arg1 : BitVec 32 := BitVec.ofNat 32 (i 1).val
  let c7_i32_1073 : BitVec 32 := 7#32
  let v1530 : BitVec 1 := Scalar.cmpi .eq arg1 c7_i32_1073
  let arg2 : BitVec 32 := BitVec.ofNat 32 (i 2).val
  let c0_i32_1074 : BitVec 32 := 0#32
  let v1531 : BitVec 1 := Scalar.cmpi .eq arg2 c0_i32_1074
  let v1532 : BitVec 1 := Scalar.andi v1530 v1531
  let v1533 : BitVec 32 := Scalar.extui v1532
  let c0_i32_1075 : BitVec 32 := 0#32
  let v1534 : BitVec 1 := Scalar.cmpi .ne v1533 c0_i32_1075
  v1534

@[reducible] def k0_t1_loop : Scf.Loop 32 :=
  let c0_i32_1076 : BitVec 32 := 0#32
  let c16_i32_1077 : BitVec 32 := 16#32
  let v1535 : BitVec 32 := Scalar.addi c0_i32_1076 c16_i32_1077
  let c1_i32_1078 : BitVec 32 := 1#32
  ⟨c0_i32_1076, v1535, c1_i32_1078⟩
def k0_mult1 (k0_t1 : Fin k0_t1_loop.trips) : BitVec 32 :=
  let c0_i32_1076 : BitVec 32 := 0#32
  let c1_i32_1078 : BitVec 32 := 1#32
  let arg14 : BitVec 32 := Scf.iv c0_i32_1076 c1_i32_1078 k0_t1
  let c256_i32 : BitVec 32 := 256#32
  let v1536 : BitVec 32 := Scalar.muli arg14 c256_i32
  v1536
def k0_off5 (k0_t1 : Fin k0_t1_loop.trips) : Fin 3 → Nat :=
  let c0_i32_1076 : BitVec 32 := 0#32
  let c1_i32_1078 : BitVec 32 := 1#32
  let arg14 : BitVec 32 := Scf.iv c0_i32_1076 c1_i32_1078 k0_t1
  let v1538 : Index := Scalar.indexCast arg14
  let c0_1080 : Index := 0#32
  let c0_1081 : Index := 0#32
  ![v1538.toNat, 0, 0]
def k0_off6 (k0_t1 : Fin k0_t1_loop.trips) : Fin 2 → Nat :=
  let c0_i32_1076 : BitVec 32 := 0#32
  let c1_i32_1078 : BitVec 32 := 1#32
  let arg14 : BitVec 32 := Scf.iv c0_i32_1076 c1_i32_1078 k0_t1
  let c256_i32 : BitVec 32 := 256#32
  let v1536 : BitVec 32 := Scalar.muli arg14 c256_i32
  let v1537 : BitVec 32 := v1536
  let v1542 : Index := Scalar.indexCast v1537
  let c0_1082 : Index := 0#32
  ![v1542.toNat, 0]
def k0_off7 (k0_t1 : Fin k0_t1_loop.trips) : Fin 3 → Nat :=
  let c0_i32_1076 : BitVec 32 := 0#32
  let c1_i32_1078 : BitVec 32 := 1#32
  let arg14 : BitVec 32 := Scf.iv c0_i32_1076 c1_i32_1078 k0_t1
  let v1544 : Index := Scalar.indexCast arg14
  let c64_1083 : Index := 64#32
  let c0_1084 : Index := 0#32
  ![v1544.toNat, 64, 0]
def k0_off8 (k0_t1 : Fin k0_t1_loop.trips) : Fin 2 → Nat :=
  let c0_i32_1076 : BitVec 32 := 0#32
  let c1_i32_1078 : BitVec 32 := 1#32
  let arg14 : BitVec 32 := Scf.iv c0_i32_1076 c1_i32_1078 k0_t1
  let c256_i32 : BitVec 32 := 256#32
  let v1536 : BitVec 32 := Scalar.muli arg14 c256_i32
  let v1537 : BitVec 32 := v1536
  let v1548 : Index := Scalar.indexCast v1537
  let c64_1085 : Index := 64#32
  ![v1548.toNat, 64]
def k0_off9 (k0_t1 : Fin k0_t1_loop.trips) : Fin 3 → Nat :=
  let c0_i32_1076 : BitVec 32 := 0#32
  let c1_i32_1078 : BitVec 32 := 1#32
  let arg14 : BitVec 32 := Scf.iv c0_i32_1076 c1_i32_1078 k0_t1
  let v1550 : Index := Scalar.indexCast arg14
  let c128_1086 : Index := 128#32
  let c0_1087 : Index := 0#32
  ![v1550.toNat, 128, 0]
def k0_off10 (k0_t1 : Fin k0_t1_loop.trips) : Fin 2 → Nat :=
  let c0_i32_1076 : BitVec 32 := 0#32
  let c1_i32_1078 : BitVec 32 := 1#32
  let arg14 : BitVec 32 := Scf.iv c0_i32_1076 c1_i32_1078 k0_t1
  let c256_i32 : BitVec 32 := 256#32
  let v1536 : BitVec 32 := Scalar.muli arg14 c256_i32
  let v1537 : BitVec 32 := v1536
  let v1554 : Index := Scalar.indexCast v1537
  let c128_1088 : Index := 128#32
  ![v1554.toNat, 128]
def k0_off11 (k0_t1 : Fin k0_t1_loop.trips) : Fin 3 → Nat :=
  let c0_i32_1076 : BitVec 32 := 0#32
  let c1_i32_1078 : BitVec 32 := 1#32
  let arg14 : BitVec 32 := Scf.iv c0_i32_1076 c1_i32_1078 k0_t1
  let v1556 : Index := Scalar.indexCast arg14
  let c192_1089 : Index := 192#32
  let c0_1090 : Index := 0#32
  ![v1556.toNat, 192, 0]
def k0_off12 (k0_t1 : Fin k0_t1_loop.trips) : Fin 2 → Nat :=
  let c0_i32_1076 : BitVec 32 := 0#32
  let c1_i32_1078 : BitVec 32 := 1#32
  let arg14 : BitVec 32 := Scf.iv c0_i32_1076 c1_i32_1078 k0_t1
  let c256_i32 : BitVec 32 := 256#32
  let v1536 : BitVec 32 := Scalar.muli arg14 c256_i32
  let v1537 : BitVec 32 := v1536
  let v1560 : Index := Scalar.indexCast v1537
  let c192_1091 : Index := 192#32
  ![v1560.toNat, 192]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, arg1.toNat, c0_i32_5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, c0_i32_5.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, arg1.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4x4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S4x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S4x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Kernel3Ideal.lean ====
variable {F : FTy → Type} [FloatOps F] [Named F]
def κ : String → Option EReal := fun
  | "inv_scale_a_log2e" => some ((8 * (Real.log 2) : ℝ) : EReal)
  | _ => none
-- ==== Reference3Ideal.lean ====
abbrev S4096x512 : Shape := ⟨2, ![4096, 512]⟩
abbrev S2x4096x64 : Shape := ⟨3, ![2, 4096, 64]⟩
abbrev S4096x2x4x64 : Shape := ⟨4, ![4096, 2, 4, 64]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x64x4x4096 : Shape := ⟨4, ![2, 64, 4, 4096]⟩
abbrev S2x64x4096 : Shape := ⟨3, ![2, 64, 4096]⟩
abbrev S2x4096x4x64 : Shape := ⟨4, ![2, 4096, 4, 64]⟩

abbrev nBuf : Space → Nat
  | .hbm => 78
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2x4096x64, .f32⟩
  | .hbm, ⟨2, _⟩ => ⟨S2x4096x64, .f32⟩
  | .hbm, ⟨3, _⟩ => ⟨S4096x512, .f32⟩
  | .hbm, ⟨4, _⟩ => ⟨S4096x2x4x64, .f32⟩
  | .hbm, ⟨5, _⟩ => ⟨S2x4096x4096x4, .f32⟩
  | .hbm, ⟨6, _⟩ => ⟨S2x4x4096x4096, .f32⟩
  | .hbm, ⟨7, _⟩ => ⟨S_, .f32⟩
  | .hbm, ⟨8, _⟩ => ⟨S2x4x4096x4096, .f32⟩
  | .hbm, ⟨9, _⟩ => ⟨S2x4x4096x4096, .f32⟩
  | .hbm, ⟨10, _⟩ => ⟨S_, .f32⟩
  | .hbm, ⟨11, _⟩ => ⟨S2x4x4096, .f32⟩
  | .hbm, ⟨12, _⟩ => ⟨S2x4x4096x1, .f32⟩
  | .hbm, ⟨13, _⟩ => ⟨S2x4x4096x4096, .f32⟩
  | .hbm, ⟨14, _⟩ => ⟨S2x4x4096x4096, .i1⟩
  | .hbm, ⟨15, _⟩ => ⟨S2x4x4096x4096, .f32⟩
  | .hbm, ⟨16, _⟩ => ⟨S_, .f32⟩
  | .hbm, ⟨17, _⟩ => ⟨S2x4x4096, .f32⟩
  | .hbm, ⟨18, _⟩ => ⟨S_, .f32⟩
  | .hbm, ⟨19, _⟩ => ⟨S2x4x4096, .f32⟩
  | .hbm, ⟨20, _⟩ => ⟨S2x4x4096, .f32⟩
  | .hbm, ⟨21, _⟩ => ⟨S_, .f32⟩
  | .hbm, ⟨22, _⟩ => ⟨S2x4x4096, .f32⟩
  | .hbm, ⟨23, _⟩ => ⟨S2x4x4096, .i1⟩
  | .hbm, ⟨24, _⟩ => ⟨S_, .f32⟩
  | .hbm, ⟨25, _⟩ => ⟨S2x4x4096, .f32⟩
  | .hbm, ⟨26, _⟩ => ⟨S2x4x4096, .i1⟩
  | .hbm, ⟨27, _⟩ => ⟨S_, .f32⟩
  | .hbm, ⟨28, _⟩ => ⟨S2x4x4096, .f32⟩
  | .hbm, ⟨29, _⟩ => ⟨S_, .f32⟩
  | .hbm, ⟨30, _⟩ => ⟨S2x4x4096, .f32⟩
  | .hbm, ⟨31, _⟩ => ⟨S_, .f32⟩
  | .hbm, ⟨32, _⟩ => ⟨S2x4x4096, .f32⟩
  | .hbm, ⟨33, _⟩ => ⟨S2x4x4096, .f32⟩
  | .hbm, ⟨34, _⟩ => ⟨S2x4x4096, .f32⟩
  | .hbm, ⟨35, _⟩ => ⟨S2x4x4096x1, .f32⟩
  | .hbm, ⟨36, _⟩ => ⟨S2x4x4096x4096, .f32⟩
  | .hbm, ⟨37, _⟩ => ⟨S2x4x4096x4096, .f32⟩
  | .hbm, ⟨38, _⟩ => ⟨S2x4x4096x4096, .f32⟩
  | .hbm, ⟨39, _⟩ => ⟨S_, .f32⟩
  | .hbm, ⟨40, _⟩ => ⟨S2x4x4096, .f32⟩
  | .hbm, ⟨41, _⟩ => ⟨S2x4x4096x1, .f32⟩
  | .hbm, ⟨42, _⟩ => ⟨S2x4x4096x4096, .f32⟩
  | .hbm, ⟨43, _⟩ => ⟨S2x4x4096x4096, .f32⟩
  | .hbm, ⟨44, _⟩ => ⟨S2x4x4096x1, .f32⟩
  | .hbm, ⟨45, _⟩ => ⟨S_, .f32⟩
  | .hbm, ⟨46, _⟩ => ⟨S2x4x4096x1, .f32⟩
  | .hbm, ⟨47, _⟩ => ⟨S2x4x4096x1, .f32⟩
  | .hbm, ⟨48, _⟩ => ⟨S2x64x4x4096, .f32⟩
  | .hbm, ⟨49, _⟩ => ⟨S4096x2x4x64, .f32⟩
  | .hbm, ⟨50, _⟩ => ⟨S4096x512, .f32⟩
  | .hbm, ⟨51, _⟩ => ⟨S4096x2x4x64, .f32⟩
  | .hbm, ⟨52, _⟩ => ⟨S2x64x4x4096, .f32⟩
  | .hbm, ⟨53, _⟩ => ⟨S2x4x4096x4096, .f32⟩
  | .hbm, ⟨54, _⟩ => ⟨S2x64x4096, .f32⟩
  | .hbm, ⟨55, _⟩ => ⟨S2x4096x64, .f32⟩
  | .hbm, ⟨56, _⟩ => ⟨S2x4x4096x4096, .f32⟩
  | .hbm, ⟨57, _⟩ => ⟨S2x4x4096x4096, .f32⟩
  | .hbm, ⟨58, _⟩ => ⟨S2x4x4096x4096, .f32⟩
  | .hbm, ⟨59, _⟩ => ⟨S_, .f32⟩
  | .hbm, ⟨60, _⟩ => ⟨S2x4x4096, .f32⟩
  | .hbm, ⟨61, _⟩ => ⟨S2x4x4096x1, .f32⟩
  | .hbm, ⟨62, _⟩ => ⟨S2x4x4096x1, .f32⟩
  | .hbm, ⟨63, _⟩ => ⟨S2x4x4096x4096, .f32⟩
  | .hbm, ⟨64, _⟩ => ⟨S2x4x4096x4096, .f32⟩
  | .hbm, ⟨65, _⟩ => ⟨S_, .f32⟩
  | .hbm, ⟨66, _⟩ => ⟨S2x4x4096, .f32⟩
  | .hbm, ⟨67, _⟩ => ⟨S2x4x4096x4096, .f32⟩
  | .hbm, ⟨68, _⟩ => ⟨S2x4x4096x4096, .f32⟩
  | .hbm, ⟨69, _⟩ => ⟨S2x4x4096x4096, .f32⟩
  | .hbm, ⟨70, _⟩ => ⟨S_, .f32⟩
  | .hbm, ⟨71, _⟩ => ⟨S2x4x4096x4096, .f32⟩
  | .hbm, ⟨72, _⟩ => ⟨S2x4x4096x4096, .f32⟩
  | .hbm, ⟨73, _⟩ => ⟨S2x4096x4096x4, .f32⟩
  | .hbm, ⟨74, _⟩ => ⟨S2x4096x4x64, .f32⟩
  | .hbm, ⟨75, _⟩ => ⟨S4096x2x4x64, .f32⟩
  | .hbm, ⟨76, _⟩ => ⟨S2x4096x64, .f32⟩
  | .hbm, ⟨77, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel4.lean ====
abbrev S4096x1024 : Shape := ⟨2, ![4096, 1024]⟩
abbrev S3x1024 : Shape := ⟨2, ![3, 1024]⟩
abbrev S1024 : Shape := ⟨1, ![1024]⟩
abbrev S1024x2560 : Shape := ⟨2, ![1024, 2560]⟩
abbrev S4x4096x64 : Shape := ⟨3, ![4, 4096, 64]⟩
abbrev S1x1024 : Shape := ⟨2, ![1, 1024]⟩
abbrev S2560x1024 : Shape := ⟨2, ![2560, 1024]⟩
abbrev S4x1024 : Shape := ⟨2, ![4, 1024]⟩
abbrev S8x320x1024 : Shape := ⟨3, ![8, 320, 1024]⟩
abbrev S512x1024 : Shape := ⟨2, ![512, 1024]⟩
abbrev S4x512x64 : Shape := ⟨3, ![4, 512, 64]⟩
abbrev S8x1024 : Shape := ⟨2, ![8, 1024]⟩
abbrev S512 : Shape := ⟨1, ![512]⟩
abbrev S512x1 : Shape := ⟨2, ![512, 1]⟩
abbrev S1024x1024 : Shape := ⟨2, ![1024, 1024]⟩
abbrev S1x512x64 : Shape := ⟨3, ![1, 512, 64]⟩
abbrev S512x64 : Shape := ⟨2, ![512, 64]⟩
abbrev S512x256 : Shape := ⟨2, ![512, 256]⟩
abbrev S256x1024 : Shape := ⟨2, ![256, 1024]⟩
abbrev S320x1024 : Shape := ⟨2, ![320, 1024]⟩
abbrev S1x320x1024 : Shape := ⟨3, ![1, 320, 1024]⟩

abbrev nBuf : Space → Nat
  | .hbm => 17
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S1024, .f32⟩
  | .hbm, ⟨3, _⟩ => ⟨S1024x2560, .f32⟩
  | .hbm, ⟨4, _⟩ => ⟨S4096x1024, .f32⟩
  | .hbm, ⟨5, _⟩ => ⟨S4096x1024, .f32⟩
  | .hbm, ⟨6, _⟩ => ⟨S4x4096x64, .f32⟩
  | .hbm, ⟨7, _⟩ => ⟨S4x4096x64, .f32⟩
  | .hbm, ⟨8, _⟩ => ⟨S4096x1024, .f32⟩
  | .hbm, ⟨9, _⟩ => ⟨S1x1024, .f32⟩
  | .hbm, ⟨10, _⟩ => ⟨S4096x1024, .bf16⟩
  | .hbm, ⟨11, _⟩ => ⟨S4096x1024, .bf16⟩
  | .hbm, ⟨12, _⟩ => ⟨S2560x1024, .f32⟩
  | .hbm, ⟨13, _⟩ => ⟨S2560x1024, .bf16⟩
  | .hbm, ⟨14, _⟩ => ⟨S4096x1024, .f32⟩
  | .hbm, ⟨15, _⟩ => ⟨S4x1024, .f32⟩
  | .hbm, ⟨16, _⟩ => ⟨S8x320x1024, .bf16⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S2560x1024, .bf16⟩
  | .local _ .vmem, ⟨7, _⟩ => ⟨S512x1024, .bf16⟩
  | .local _ .vmem, ⟨8, _⟩ => ⟨S512x1024, .bf16⟩
  | .local _ .vmem, ⟨9, _⟩ => ⟨S4x512x64, .f32⟩
  | .local _ .vmem, ⟨10, _⟩ => ⟨S4x512x64, .f32⟩
  | .local _ .vmem, ⟨11, _⟩ => ⟨S4x512x64, .f32⟩
  | .local _ .vmem, ⟨12, _⟩ => ⟨S4x512x64, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S4x1024, .f32⟩
  | .local _ .vmem, ⟨18, _⟩ => ⟨S8x320x1024, .bf16⟩
  | .local _ .vmem, ⟨19, _⟩ => ⟨S8x1024, .f32⟩
  | .local _ .vmem, ⟨20, _⟩ => ⟨S2560x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v1 : BitVec 1 := Scalar.cmpi .eq arg0 c7_i32
  let v131 : BitVec 32 := Scalar.extui v1
  let c0_i32_87 : BitVec 32 := 0#32
  let v132 : BitVec 1 := Scalar.cmpi .ne v131 c0_i32_87
  v132

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x320x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S4096x1024 : Shape := ⟨2, ![4096, 1024]⟩
abbrev S3x1024 : Shape := ⟨2, ![3, 1024]⟩
abbrev S1024 : Shape := ⟨1, ![1024]⟩
abbrev S1024x2560 : Shape := ⟨2, ![1024, 2560]⟩
abbrev S4x4096x64 : Shape := ⟨3, ![4, 4096, 64]⟩
abbrev S1x1024 : Shape := ⟨2, ![1, 1024]⟩
abbrev S1024x1024 : Shape := ⟨2, ![1024, 1024]⟩
abbrev S1024x256 : Shape := ⟨2, ![1024, 256]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S4096x4x64 : Shape := ⟨3, ![4096, 4, 64]⟩
abbrev S256x1024 : Shape := ⟨2, ![256, 1024]⟩
abbrev S4x1024 : Shape := ⟨2, ![4, 1024]⟩
abbrev S2560x1024 : Shape := ⟨2, ![2560, 1024]⟩
abbrev S8x320x1024 : Shape := ⟨3, ![8, 320, 1024]⟩

abbrev nBuf : Space → Nat
  | .hbm => 125
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S1024, .f32⟩
  | .hbm, ⟨3, _⟩ => ⟨S1024x2560, .f32⟩
  | .hbm, ⟨4, _⟩ => ⟨S4096x1024, .f32⟩
  | .hbm, ⟨5, _⟩ => ⟨S4096x1024, .f32⟩
  | .hbm, ⟨6, _⟩ => ⟨S4x4096x64, .f32⟩
  | .hbm, ⟨7, _⟩ => ⟨S4x4096x64, .f32⟩
  | .hbm, ⟨8, _⟩ => ⟨S4096x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1024x1024, .f32⟩
  | .hbm, ⟨16, _⟩ => ⟨S1024x256, .f32⟩
  | .hbm, ⟨17, _⟩ => ⟨S1024x256, .f32⟩
  | .hbm, ⟨18, _⟩ => ⟨S1024x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x256, .f32⟩
  | .hbm, ⟨50, _⟩ => ⟨S4096x4x64, .f32⟩
  | .hbm, ⟨51, _⟩ => ⟨S4x4096x64, .f32⟩
  | .hbm, ⟨52, _⟩ => ⟨S4096x256, .f32⟩
  | .hbm, ⟨53, _⟩ => ⟨S4096x4x64, .f32⟩
  | .hbm, ⟨54, _⟩ => ⟨S4x4096x64, .f32⟩
  | .hbm, ⟨55, _⟩ => ⟨S4096x1024, .f32⟩
  | .hbm, ⟨56, _⟩ => ⟨S1024x1024, .f32⟩
  | .hbm, ⟨57, _⟩ => ⟨S1024x1024, .f32⟩
  | .hbm, ⟨58, _⟩ => ⟨S4096x1024, .f32⟩
  | .hbm, ⟨59, _⟩ => ⟨S4096x4x64, .f32⟩
  | .hbm, ⟨60, _⟩ => ⟨S4096x256, .f32⟩
  | .hbm, ⟨61, _⟩ => ⟨S256x1024, .f32⟩
  | .hbm, ⟨62, _⟩ => ⟨S1024x256, .f32⟩
  | .hbm, ⟨63, _⟩ => ⟨S4096x1024, .f32⟩
  | .hbm, ⟨64, _⟩ => ⟨S4096x1024, .f32⟩
  | .hbm, ⟨65, _⟩ => ⟨S4096x4x64, .f32⟩
  | .hbm, ⟨66, _⟩ => ⟨S4096x256, .f32⟩
  | .hbm, ⟨67, _⟩ => ⟨S256x1024, .f32⟩
  | .hbm, ⟨68, _⟩ => ⟨S1024x256, .f32⟩
  | .hbm, ⟨69, _⟩ => ⟨S4096x1024, .f32⟩
  | .hbm, ⟨70, _⟩ => ⟨S4096x1024, .f32⟩
  | .hbm, ⟨71, _⟩ => ⟨S1024x1024, .f32⟩
  | .hbm, ⟨72, _⟩ => ⟨S1024x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S1024, .f32⟩
  | .hbm, ⟨96, _⟩ => ⟨S4096x1024, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S_, .f32⟩
  | .hbm, ⟨115, _⟩ => ⟨S1024, .f32⟩
  | .hbm, ⟨116, _⟩ => ⟨S1x1024, .f32⟩
  | .hbm, ⟨117, _⟩ => ⟨S1x1024, .f32⟩
  | .hbm, ⟨118, _⟩ => ⟨S1x1024, .f32⟩
  | .hbm, ⟨119, _⟩ => ⟨S1x1024, .f32⟩
  | .hbm, ⟨120, _⟩ => ⟨S4x1024, .f32⟩
  | .hbm, ⟨121, _⟩ => ⟨S1024x2560, .f32⟩
  | .hbm, ⟨122, _⟩ => ⟨S2560x1024, .f32⟩
  | .hbm, ⟨123, _⟩ => ⟨S8x320x1024, .f32⟩
  | .hbm, ⟨124, _⟩ => ⟨S8x320x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_4 : Ref sig .tc := ⟨.hbm, 75, rfl⟩
abbrev main_v61 : Ref sig .tc := ⟨.hbm, 76, rfl⟩
abbrev main_v62 : Ref sig .tc := ⟨.hbm, 77, rfl⟩
abbrev main_cst_5 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_7 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_cst_10 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_11 : Ref sig .tc := ⟨.hbm, 104, rfl⟩
abbrev main_v83 : Ref sig .tc := ⟨.hbm, 105, rfl⟩
abbrev main_v84 : Ref sig .tc := ⟨.hbm, 106, rfl⟩
abbrev main_cst_12 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_13 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩

abbrev nD : Nat := 1
abbrev τ : Topo := Topo.v7x

variable {F : FTy → Type} [FloatOps F]
-- ==== Proof.Blocks.lean ====
module

public import proofs.«01_k».proof.Proof.Gen.KernelIdeal.Skeleton
public import proofs.«01_k».proof.Proof.Gen.KernelIdeal.Points
public import Idealize.ShloMosaic.Lib.VecWindow

/-! What one grid point of `attn_c_bwd` computes, as functions of the blocks it is given: eight blocks of 128 queries, each
against its 384 keys, four heads side by side in 512 columns. -/

@[expose] public section

noncomputable section

namespace Cert.KernelIdeal.Hand

open Idealize.ShloMosaic Idealize.ShloMosaic.TcCoe
open Idealize.ShloMosaic.VecWindow (put)
open Cert.KernelIdeal.Gen

variable {F : FTy → Type} [FloatOps F] [Named F]

/-- The blocks of the fourteen inputs at a grid point, in the call's order. -/
structure Ins (F : FTy → Type) [FloatOps F] where
  q : Vec F S4x1024x64 .bf16
  kp : Vec F S1x128x64 .bf16
  ko : Vec F S1x1024x64 .bf16
  kn : Vec F S1x128x64 .bf16
  ktp : Vec F S1x64x128 .bf16
  kto : Vec F S1x64x1024 .bf16
  ktn : Vec F S1x64x128 .bf16
  vp : Vec F S1x128x64 .bf16
  vo : Vec F S1x1024x64 .bf16
  vn : Vec F S1x128x64 .bf16
  dy : Vec F S1024x256 .bf16
  lse : Vec F S4x1x1024 .f32
  dl : Vec F S4x1x1024 .f32
  sl : Vec F S4x1x1 .f32

theorem inbQ (u : Fin 8) : ∀ a, (![0, 128 * u.val, 0] : Fin 3 → Nat) a + S4x128x64.size a ≤ S4x1024x64.size a := by
  decide +revert
theorem inbR (h : Fin 4) (u : Fin 8) : ∀ a, (![h.val, 0, 128 * u.val] : Fin 3 → Nat) a + S1x1x128.size a ≤ S4x1x1024.size a := by
  decide +revert
theorem inbS (h : Fin 4) : ∀ a, (![h.val, 0, 0] : Fin 3 → Nat) a + S1x1x1.size a ≤ S4x1x1.size a := by
  decide +revert
theorem inbD (u : Fin 8) (h : Fin 4) : ∀ a, (![128 * u.val, 64 * h.val] : Fin 2 → Nat) a + S128x64.size a ≤ S1024x256.size a := by
  decide +revert
theorem inbC (u : Fin 8) : ∀ a, (![128 * u.val, 0] : Fin 2 → Nat) a + S384x64.size a ≤ S1280x64.size a := by
  decide +revert
theorem slK (u : Fin 8) : S1280x64.Slices ![128 * u.val, 0] S384x64 := by decide +revert
theorem slKt (u : Fin 8) : S64x1280.Slices ![0, 128 * u.val] S64x384 := by decide +revert
theorem slH (h : Fin 4) : S64x512.Slices ![0, 128 * h.val] S64x128 := by decide +revert

namespace Ins

variable (X : Ins F)

/-- The point's keys, one block before and one after them. -/
def kk : FVec F S1280x64 .bf16 :=
  concatenate S1280x64 0 [⟨S128x64, shapeCast S128x64 (View.ld (Val := Elt F) X.kp (Rect.unit ![0, 0, 0] S1x128x64.size inb_S1x128x64_S1x128x64_0_0_0)) shapeCasts_S1x128x64_S128x64⟩,
    ⟨S1024x64, shapeCast S1024x64 (View.ld (Val := Elt F) X.ko (Rect.unit ![0, 0, 0] S1x1024x64.size inb_S1x1024x64_S1x1024x64_0_0_0)) shapeCasts_S1x1024x64_S1024x64⟩,
    ⟨S128x64, shapeCast S128x64 (View.ld (Val := Elt F) X.kn (Rect.unit ![0, 0, 0] S1x128x64.size inb_S1x128x64_S1x128x64_0_0_0)) shapeCasts_S1x128x64_S128x64⟩]
    concatenates_S128x64_S1024x64_S128x64_S1280x64_d0

/-- The values of the same keys. -/
def vv : FVec F S1280x64 .bf16 :=
  concatenate S1280x64 0 [⟨S128x64, shapeCast S128x64 (View.ld (Val := Elt F) X.vp (Rect.unit ![0, 0, 0] S1x128x64.size inb_S1x128x64_S1x128x64_0_0_0)) shapeCasts_S1x128x64_S128x64⟩,
    ⟨S1024x64, shapeCast S1024x64 (View.ld (Val := Elt F) X.vo (Rect.unit ![0, 0, 0] S1x1024x64.size inb_S1x1024x64_S1x1024x64_0_0_0)) shapeCasts_S1x1024x64_S1024x64⟩,
    ⟨S128x64, shapeCast S128x64 (View.ld (Val := Elt F) X.vn (Rect.unit ![0, 0, 0] S1x128x64.size inb_S1x128x64_S1x128x64_0_0_0)) shapeCasts_S1x128x64_S128x64⟩]
    concatenates_S128x64_S1024x64_S128x64_S1280x64_d0

/-- The same keys, transposed. -/
def kkt : FVec F S64x1280 .bf16 :=
  concatenate S64x1280 1 [⟨S64x128, shapeCast S64x128 (View.ld (Val := Elt F) X.ktp (Rect.unit ![0, 0, 0] S1x64x128.size inb_S1x64x128_S1x64x128_0_0_0)) shapeCasts_S1x64x128_S64x128⟩,
    ⟨S64x1024, shapeCast S64x1024 (View.ld (Val := Elt F) X.kto (Rect.unit ![0, 0, 0] S1x64x1024.size inb_S1x64x1024_S1x64x1024_0_0_0)) shapeCasts_S1x64x1024_S64x1024⟩,
    ⟨S64x128, shapeCast S64x128 (View.ld (Val := Elt F) X.ktn (Rect.unit ![0, 0, 0] S1x64x128.size inb_S1x64x128_S1x64x128_0_0_0)) shapeCasts_S1x64x128_S64x128⟩]
    concatenates_S64x128_S64x1024_S64x128_S64x1280_d1

/-- Minus the distance in base-2 units where it is at most the window, minus infinity beyond. -/
def base : FVec F S384x128 .f32 :=
  select (cmpi .sle (absi (subi (subi (iota .tc S384x128 32 [0] iota_S384x128_d0_w32) (broadcast S384x128 128#32)) (iota .tc S384x128 32 [1] iota_S384x128_d1_w32))) (broadcast S384x128 128#32))
    (mulf (sitofp .f32 (absi (subi (subi (iota .tc S384x128 32 [0] iota_S384x128_d0_w32) (broadcast S384x128 128#32)) (iota .tc S384x128 32 [1] iota_S384x128_d1_w32)))) (broadcast S384x128 (Named.named κ "neg_log2e" 0xBFB8AA3B#32)))
    (broadcast S384x128 (Scalar.ofBits .f32 0xFF800000#32))

/-- The slope of head `h` of the point's four. -/
def slope (h : Fin 4) : Vec F S1x1x1 .f32 := View.ld (Val := Elt F) X.sl (Rect.unit ![h.val, 0, 0] S1x1x1.size (inbS h))

/-- The bias of one head. -/
def biasH (h : Fin 4) : FVec F S384x128 .f32 :=
  mulf base (broadcastTo S384x128 (shapeCast S1x1 (X.slope h) shapeCasts_S1x1x1_S1x1) broadcasts_S1x1_S384x128)

/-- The bias of the four heads, side by side. -/
def bias : FVec F S384x512 .f32 :=
  concatenate S384x512 1 [⟨S384x128, X.biasH 0⟩, ⟨S384x128, X.biasH 1⟩, ⟨S384x128, X.biasH 2⟩, ⟨S384x128, X.biasH 3⟩]
    concatenates_S384x128_S384x128_S384x128_S384x128_S384x512_d1

/-- Minus infinity at the keys before the first block (where `a`) and after the last (where `b`). -/
def edges (a b : BitVec 1) (bias : FVec F S384x512 .f32) : FVec F S384x512 .f32 :=
  select (ori (andi (cmpi .slt (iota .tc S384x512 32 [0] iota_S384x512_d0_w32) (broadcast S384x512 128#32)) (broadcast S384x512 a))
      (andi (cmpi .sge (iota .tc S384x512 32 [0] iota_S384x512_d0_w32) (broadcast S384x512 256#32)) (broadcast S384x512 b)))
    (broadcast S384x512 (Scalar.ofBits .f32 0xFF800000#32)) bias

variable (i : grid0.Coords)

/-- The bias of block `u`. -/
def biasU (u : Fin 8) : FVec F S384x512 .f32 :=
  match u.val with
  | 0 => edges (Scalar.cmpi .eq (BitVec.ofNat 32 (i 1).val) 0#32) 0#1 X.bias
  | 7 => edges 0#1 (Scalar.cmpi .eq (BitVec.ofNat 32 (i 1).val) 3#32) X.bias
  | _ => X.bias

variable (u : Fin 8)

/-- The queries of block `u`, head after head. -/
def qq : FVec F S512x64 .bf16 :=
  shapeCast S512x64 (shapeCast S4x128x64 (View.ld (Val := Elt F) X.q (Rect.unit ![0, 128 * u.val, 0] S4x128x64.size (inbQ u))) shapeCasts_S4x128x64_S4x128x64) shapeCasts_S4x128x64_S512x64

/-- The cotangents of block `u`'s head `h`. -/
def dyH (h : Fin 4) : FVec F S128x64 .bf16 :=
  shapeCast S128x64 (View.ld (Val := Elt F) X.dy (Rect.unit ![128 * u.val, 64 * h.val] S128x64.size (inbD u h))) shapeCasts_S128x64_S128x64

/-- The cotangents of block `u`, head after head. -/
def dd : FVec F S512x64 .bf16 :=
  concatenate S512x64 0 [⟨S128x64, X.dyH u 0⟩, ⟨S128x64, X.dyH u 1⟩, ⟨S128x64, X.dyH u 2⟩, ⟨S128x64, X.dyH u 3⟩]
    concatenates_S128x64_S128x64_S128x64_S128x64_S512x64_d0

/-- A row of numbers, one for each query of block `u`'s head `h`. -/
def rowH (r : Vec F S4x1x1024 .f32) (h : Fin 4) : FVec F S1x128 .f32 :=
  shapeCast S1x128 (View.ld (Val := Elt F) r (Rect.unit ![h.val, 0, 128 * u.val] S1x1x128.size (inbR h u))) shapeCasts_S1x1x128_S1x128

/-- The four heads' rows side by side, down all keys. -/
def rows (r : Vec F S4x1x1024 .f32) : FVec F S384x512 .f32 :=
  broadcastTo S384x512 (concatenate S1x512 1 [⟨S1x128, rowH u r 0⟩, ⟨S1x128, rowH u r 1⟩, ⟨S1x128, rowH u r 2⟩, ⟨S1x128, rowH u r 3⟩]
    concatenates_S1x128_S1x128_S1x128_S1x128_S1x512_d1) broadcasts_S1x512_S384x512

/-- The scores of block `u`, in base-2 units. -/
def st : FVec F S384x512 .f32 :=
  addf (matmul dot_S384x64_S512x64_S384x512_1_1_0_0_n_n none (extractStridedSlice S384x64 ![128 * u.val, 0] X.kk (slK u)) (X.qq u) (constant S384x512 .f32 0x00000000#32)) (X.biasU i u)

/-- The probabilities. -/
def p : FVec F S384x512 .f32 := exp2 (subf (X.st i u) (rows u X.lse))

/-- The gradient by the probabilities. -/
def dp : FVec F S384x512 .f32 :=
  matmul dot_S384x64_S512x64_S384x512_1_1_0_0_n_n none (extractStridedSlice S384x64 ![128 * u.val, 0] X.vv (slK u)) (X.dd u) (constant S384x512 .f32 0x00000000#32)

/-- The gradient by the scores, times the scale. -/
def ds : FVec F S384x512 .f32 :=
  mulf (mulf (X.p i u) (subf (X.dp u) (rows u X.dl))) (broadcast S384x512 (Scalar.ofBits .f32 0x3E000000#32))

/-- What block `u` adds to the gradients of its 384 values. -/
def dvC : FVec F S384x64 .f32 :=
  matmul dot_S384x512_S512x64_S384x64_1_0_0_1_n_n none (truncf .bf16 (X.p i u) bitsLt_bf16_f32) (X.dd u) (constant S384x64 .f32 0x00000000#32)

/-- What block `u` adds to the gradients of its 384 keys. -/
def dkC : FVec F S384x64 .f32 :=
  matmul dot_S384x512_S512x64_S384x64_1_0_0_1_n_n none (truncf .bf16 (X.ds i u) bitsLt_bf16_f32) (X.qq u) (constant S384x64 .f32 0x00000000#32)

/-- The gradient of block `u`'s queries, transposed. -/
def dqt : FVec F S64x512 .f32 :=
  matmul dot_S64x384_S384x512_S64x512_1_0_0_1_n_n none (extractStridedSlice S64x384 ![0, 128 * u.val] X.kkt (slKt u)) (truncf .bf16 (X.ds i u) bitsLt_bf16_f32) (constant S64x512 .f32 0x00000000#32)

/-- The gradient of the queries of block `u`'s head `h`. -/
def dqH (h : Fin 4) : FVec F S128x64 .bf16 :=
  truncf .bf16 (transpose S128x64 [1, 0] (extractStridedSlice S64x128 ![0, 128 * h.val] (X.dqt i u) (slH h)) transposes_S64x128_p1_0_S128x64) bitsLt_bf16_f32

/-- The point's block of the gradient of the queries. -/
def dq : Vec F S1024x256 .bf16 := fun y =>
  X.dqH i ⟨(y 0).val / 128, by have : (y 0).val < 1024 := (y 0).isLt; omega⟩ ⟨(y 1).val / 64, by have : (y 1).val < 256 := (y 1).isLt; omega⟩
    (fun a => match a with
      | 0 => ⟨(y 0).val % 128, Nat.mod_lt _ (by decide)⟩
      | 1 => ⟨(y 1).val % 64, Nat.mod_lt _ (by decide)⟩)

end Ins

/-- The scratch after `C` is added at the 384 rows from `128 u`. -/
def acc (u : Fin 8) (R : Vec F S1280x64 .f32) (C : FVec F S384x64 .f32) : Vec F S1280x64 .f32 :=
  put R ![128 * u.val, 0] S384x64.size
    (shapeCast S384x64 (addf (View.ld (Val := Elt F) R (Rect.unit ![128 * u.val, 0] S384x64.size (inbC u))) C) shapeCasts_S384x64_S384x64)

/-- A scratch of zeros. -/
def zeroS : Vec F S1280x64 .f32 :=
  shapeCast S1280x64 (broadcast S1280x64 (Scalar.ofBits (F := F) .f32 0x00000000#32)) shapeCasts_S1280x64_S1280x64

/-- The scratch after the first `n` blocks, block `u` adding `C u`. -/
def accs (C : Fin 8 → FVec F S384x64 .f32) : (n : ℕ) → n ≤ 8 → Vec F S1280x64 .f32
  | 0, _ => zeroS
  | n + 1, h => acc ⟨n, h⟩ (accs C n (Nat.le_of_succ_le h)) (C ⟨n, h⟩)

/-- 128 rows of a result, with `D` added. -/
def add128 (off : Fin 3 → ℕ) (inb : ∀ a, off a + S1x128x64.size a ≤ S1x4096x64.size a) (Y : Vec F S1x4096x64 .f32) (D : FVec F S128x64 .f32) :
    Vec F S1x4096x64 .f32 :=
  put Y off S1x128x64.size (shapeCast S1x128x64 (addf (shapeCast S128x64 (View.ld (Val := Elt F) Y (Rect.unit off S1x128x64.size inb)) shapeCasts_S1x128x64_S128x64) D) shapeCasts_S128x64_S1x128x64)

/-- 1024 rows of a result, with `D` added. -/
def add1024 (off : Fin 3 → ℕ) (inb : ∀ a, off a + S1x1024x64.size a ≤ S1x4096x64.size a) (Y : Vec F S1x4096x64 .f32) (D : FVec F S1024x64 .f32) :
    Vec F S1x4096x64 .f32 :=
  put Y off S1x1024x64.size (shapeCast S1x1024x64 (addf (shapeCast S1024x64 (View.ld (Val := Elt F) Y (Rect.unit off S1x1024x64.size inb)) shapeCasts_S1x1024x64_S1024x64) D) shapeCasts_S1024x64_S1x1024x64)

/-- The gradient of the values after the point whose scratch is `R`. -/
def dvOut (i : grid0.Coords) (R : Vec F S1280x64 .f32) (Y : Vec F S1x4096x64 .f32) : Vec F S1x4096x64 .f32 :=
  add128 (k0_off3 i) (k0_off3_inb i)
    (add1024 (k0_off2 i) (k0_off2_inb i)
      (add128 (k0_off1 i) (k0_off1_inb i) Y (View.ld (Val := Elt F) R (Rect.unit ![0, 0] S128x64.size inb_S1280x64_S128x64_0_0)))
      (View.ld (Val := Elt F) R (Rect.unit ![128, 0] S1024x64.size inb_S1280x64_S1024x64_128_0)))
    (View.ld (Val := Elt F) R (Rect.unit ![1152, 0] S128x64.size inb_S1280x64_S128x64_1152_0))

/-- The gradient of the keys after the point whose scratch is `R`: the scale of the queries is taken out again. -/
def dkOut (i : grid0.Coords) (R : Vec F S1280x64 .f32) (Y : Vec F S1x4096x64 .f32) : Vec F S1x4096x64 .f32 :=
  add128 (k0_off3 i) (k0_off3_inb i)
    (add1024 (k0_off2 i) (k0_off2_inb i)
      (add128 (k0_off1 i) (k0_off1_inb i) Y
        (mulf (View.ld (Val := Elt F) R (Rect.unit ![0, 0] S128x64.size inb_S1280x64_S128x64_0_0)) (broadcast S128x64 (Named.named κ "inv_scale_log2e" 0x40B17218#32))))
      (mulf (View.ld (Val := Elt F) R (Rect.unit ![128, 0] S1024x64.size inb_S1280x64_S1024x64_128_0)) (broadcast S1024x64 (Named.named κ "inv_scale_log2e" 0x40B17218#32))))
    (mulf (View.ld (Val := Elt F) R (Rect.unit ![1152, 0] S128x64.size inb_S1280x64_S128x64_1152_0)) (broadcast S128x64 (Named.named κ "inv_scale_log2e" 0x40B17218#32)))

/-- A result of zeros. -/
def zeroY : Vec F S1x4096x64 .f32 := broadcast S1x4096x64 (Scalar.ofBits (F := F) .f32 0x00000000#32)

/-- The scratches at the end of a point. -/
def Ins.dkS (X : Ins F) (i : grid0.Coords) : Vec F S1280x64 .f32 := accs (X.dkC i) 8 (le_refl 8)
def Ins.dvS (X : Ins F) (i : grid0.Coords) : Vec F S1280x64 .f32 := accs (X.dvC i) 8 (le_refl 8)

end Cert.KernelIdeal.Hand

end
-- ==== Proof.Contents.lean ====
module

public import proofs.«01_k».proof.Proof.Blocks
public import proofs.«01_k».proof.Proof.Gen.KernelIdeal.Frame

/-! What every window's buffer holds after the body at a point, as explicit functions of the arrays that the region finds. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)

/-- The blocks that the body reads at a point. -/
abbrev ins (c : Dev nD) (t : Fin cfg0.N) : Ins F where
  q := iblk m c 0 t
  kp := iblk m c 1 t
  ko := iblk m c 2 t
  kn := iblk m c 3 t
  ktp := iblk m c 4 t
  kto := iblk m c 5 t
  ktn := iblk m c 6 t
  vp := iblk m c 7 t
  vo := iblk m c 8 t
  vn := iblk m c 9 t
  dy := iblk m c 10 t
  lse := iblk m c 11 t
  dl := iblk m c 12 t
  sl := iblk m c 13 t

/-- The point of a number; the grid has sixteen. -/
def pt (n : ℕ) : Fin cfg0.N := ⟨n % 16, lt_of_lt_of_eq (Nat.mod_lt _ (by decide)) (show 16 = cfg0.N from N_0.symm)⟩

theorem pt_val (t : Fin cfg0.N) : pt t.val = t :=
  Fin.ext (Nat.mod_eq_of_lt (lt_of_lt_of_eq t.isLt (show cfg0.N = 16 from N_0)))

/-- The gradients of a key head's keys and values after point `n`: the head's first point starts from zeros. -/
def dkAt (c : Dev nD) : ℕ → Vec F S1x4096x64 .f32
  | 0 => dkOut (grid0.coords (pt 0)) ((ins m c (pt 0)).dkS (grid0.coords (pt 0))) zeroY
  | n + 1 => dkOut (grid0.coords (pt (n + 1))) ((ins m c (pt (n + 1))).dkS (grid0.coords (pt (n + 1)))) (if (n + 1) % 4 = 0 then zeroY else dkAt c n)
@[inherit_doc dkAt]
def dvAt (c : Dev nD) : ℕ → Vec F S1x4096x64 .f32
  | 0 => dvOut (grid0.coords (pt 0)) ((ins m c (pt 0)).dvS (grid0.coords (pt 0))) zeroY
  | n + 1 => dvOut (grid0.coords (pt (n + 1))) ((ins m c (pt (n + 1))).dvS (grid0.coords (pt (n + 1)))) (if (n + 1) % 4 = 0 then zeroY else dvAt c n)

/-- A head's first point. -/
theorem dkAt_first (c : Dev nD) (t : Fin cfg0.N) (h : t.val % 4 = 0) : dkAt m c t.val = dkOut (grid0.coords t) ((ins m c t).dkS (grid0.coords t)) zeroY := by
  have e := pt_val t
  obtain ⟨n, hn⟩ := t
  cases n with
  | zero => unfold dkAt; rw [e]
  | succ n => unfold dkAt; rw [if_pos h, e]
/-- A later point. -/
theorem dkAt_next (c : Dev nD) (t : Fin cfg0.N) (h : ¬t.val % 4 = 0) :
    dkAt m c t.val = dkOut (grid0.coords t) ((ins m c t).dkS (grid0.coords t)) (dkAt m c (t.val - 1)) := by
  have e := pt_val t
  obtain ⟨n, hn⟩ := t
  cases n with
  | zero => exact absurd rfl h
  | succ n => conv_lhs => unfold dkAt
              rw [if_neg h, e]; rfl
/-- A head's first point. -/
theorem dvAt_first (c : Dev nD) (t : Fin cfg0.N) (h : t.val % 4 = 0) : dvAt m c t.val = dvOut (grid0.coords t) ((ins m c t).dvS (grid0.coords t)) zeroY := by
  have e := pt_val t
  obtain ⟨n, hn⟩ := t
  cases n with
  | zero => unfold dvAt; rw [e]
  | succ n => unfold dvAt; rw [if_pos h, e]
/-- A later point. -/
theorem dvAt_next (c : Dev nD) (t : Fin cfg0.N) (h : ¬t.val % 4 = 0) :
    dvAt m c t.val = dvOut (grid0.coords t) ((ins m c t).dvS (grid0.coords t)) (dvAt m c (t.val - 1)) := by
  have e := pt_val t
  obtain ⟨n, hn⟩ := t
  cases n with
  | zero => exact absurd rfl h
  | succ n => conv_lhs => unfold dvAt
              rw [if_neg h, e]; rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (ins m c t).dq (grid0.coords t)
    | ⟨15, _⟩ => dkAt m c t.val
    | ⟨16, _⟩ => dvAt m c t.val
    | ⟨n + 17, h⟩ => absurd (show n + 17 < 17 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = (ins m c t).dq (grid0.coords t) := by dsimp only [dats]
theorem after_15 (c : Dev nD) (t : Fin cfg0.N) : (dats m 0 c).after 15 t = dkAt m c t.val := by dsimp only [dats]
theorem after_16 (c : Dev nD) (t : Fin cfg0.N) : (dats m 0 c).after 16 t = dvAt m c t.val := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
/-- After a head's first point the buffer of `dk` holds what the point before left. -/
theorem before_15 (c : Dev nD) (t : Fin cfg0.N) (h : ¬t.val % 4 = 0) (d) : (dats m 0 c).before 15 t d = dkAt m c (t.val - 1) := by
  have h0 : t.val ≠ 0 := fun e => h (by rw [e])
  have hfl : (cfg0.win 15).flush ⟨t.val - 1, Nat.lt_of_le_of_lt (Nat.sub_le _ _) t.isLt⟩ = false :=
    Bool.eq_false_iff.mpr fun e => by
      have := (flush0_15 _).mp e
      dsimp only at this
      omega
  rw [(dats m 0 c).before_out_kept 15 rfl t h0 hfl (fun _ => rfl) (fun _ _ => rfl) d, after_15]
/-- After a head's first point the buffer of `dv` holds what the point before left. -/
theorem before_16 (c : Dev nD) (t : Fin cfg0.N) (h : ¬t.val % 4 = 0) (d) : (dats m 0 c).before 16 t d = dvAt m c (t.val - 1) := by
  have h0 : t.val ≠ 0 := fun e => h (by rw [e])
  have hfl : (cfg0.win 16).flush ⟨t.val - 1, Nat.lt_of_le_of_lt (Nat.sub_le _ _) t.isLt⟩ = false :=
    Bool.eq_false_iff.mpr fun e => by
      have := (flush0_16 _).mp e
      dsimp only at this
      omega
  rw [(dats m 0 c).before_out_kept 16 rfl t h0 hfl (fun _ => rfl) (fun _ _ => rfl) d, after_16]

end Cert.KernelIdeal.Hand

end
-- ==== Proof.Branch.lean ====
module

public import proofs.«01_k».proof.Proof.Gen.KernelIdeal.Frame
public import proofs.«01_k».proof.Proof.Gen.KernelIdeal.Skeleton
public import proofs.«01_k».proof.Proof.Gen.KernelIdeal.Points

/-! The branch of `attn_c_bwd`'s body and the rows that a point reaches before its own. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The body's one branch: the first block of rows. -/
abbrev cond0 (i : grid0.Coords) : Prop := (Scalar.cmpi .ne (Scalar.extui (Scalar.cmpi .eq (BitVec.ofNat 32 (i 1).val) 0#32)) 0#32) = 1#1

/-- Where the block before the point's own rows lies: at the array's first rows for the first point. -/
theorem k0_off1_eq : ∀ i : grid0.Coords, k0_off1 i = ![0, 128 * (8 * (i 1).val - 1), 0] := by decide +kernel
instance closedOff_k0_off1 (i : grid0.Coords) : ClosedOff (k0_off1 i) := ⟨![0, 128 * (8 * (i 1).val - 1), 0], k0_off1_eq i⟩

end Cert.KernelIdeal.Hand

end
-- ==== Proof.RunA.lean ====
module

public import proofs.«01_k».proof.Proof.Branch
public import proofs.«01_k».proof.Proof.Gen.KernelIdeal.Skeleton
public import proofs.«01_k».proof.Proof.Gen.KernelIdeal.Points

/-! The run of `attn_c_bwd`'s body at the first block of rows of a key head: what it stores in the three results, last first. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 8000000 in
/-- The three lists of stores of the body, and that it runs to its end with them. -/
noncomputable def kernelRun_A (c : Dev nD) (i : grid0.Coords) (arg2 : Memref sig .tc .vmem S4x1024x64 .bf16) (harg2 : arg2.IsWhole) (arg3 : Memref sig .tc .vmem S1x128x64 .bf16) (harg3 : arg3.IsWhole) (arg4 : Memref sig .tc .vmem S1x1024x64 .bf16) (harg4 : arg4.IsWhole) (arg5 : Memref sig .tc .vmem S1x128x64 .bf16) (harg5 : arg5.IsWhole) (arg6 : Memref sig .tc .vmem S1x64x128 .bf16) (harg6 : arg6.IsWhole) (arg7 : Memref sig .tc .vmem S1x64x1024 .bf16) (harg7 : arg7.IsWhole) (arg8 : Memref sig .tc .vmem S1x64x128 .bf16) (harg8 : arg8.IsWhole) (arg9 : Memref sig .tc .vmem S1x128x64 .bf16) (harg9 : arg9.IsWhole) (arg10 : Memref sig .tc .vmem S1x1024x64 .bf16) (harg10 : arg10.IsWhole) (arg11 : Memref sig .tc .vmem S1x128x64 .bf16) (harg11 : arg11.IsWhole) (arg12 : Memref sig .tc .vmem S1024x256 .bf16) (harg12 : arg12.IsWhole) (arg13 : Memref sig .tc .vmem S4x1x1024 .f32) (harg13 : arg13.IsWhole) (arg14 : Memref sig .tc .vmem S4x1x1024 .f32) (harg14 : arg14.IsWhole) (arg15 : Memref sig .tc .vmem S4x1x1 .f32) (harg15 : arg15.IsWhole) (arg16 : Memref sig .tc .vmem S1024x256 .bf16) (harg16 : arg16.IsWhole) (arg17 : Memref sig .tc .vmem S1x4096x64 .f32) (harg17 : arg17.IsWhole) (arg18 : Memref sig .tc .vmem S1x4096x64 .f32) (harg18 : arg18.IsWhole) (arg19 : Memref sig .tc .vmem S1280x64 .f32) (harg19 : arg19.IsWhole) (arg20 : Memref sig .tc .vmem S1280x64 .f32) (harg20 : arg20.IsWhole) (hc0 : cond0 i) (hi : (i 1).val = 0)
    (x0 : Vec F S4x1024x64 .bf16) (x1 : Vec F S1x128x64 .bf16) (x2 : Vec F S1x1024x64 .bf16) (x3 : Vec F S1x128x64 .bf16) (x4 : Vec F S1x64x128 .bf16) (x5 : Vec F S1x64x1024 .bf16) (x6 : Vec F S1x64x128 .bf16) (x7 : Vec F S1x128x64 .bf16) (x8 : Vec F S1x1024x64 .bf16) (x9 : Vec F S1x128x64 .bf16) (x10 : Vec F S1024x256 .bf16) (x11 : Vec F S4x1x1024 .f32) (x12 : Vec F S4x1x1024 .f32) (x13 : Vec F S4x1x1 .f32) :
    Σ' (L14 : List (View.Piece (Elt F) S1024x256 .bf16)) (L15 : List (View.Piece (Elt F) S1x4096x64 .f32)), { L16 : List (View.Piece (Elt F) S1x4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ d, owns (c : Thread nD τ) arg19 fullShare d) ∗ (∃ d, owns (c : Thread nD τ) arg20 fullShare d)) -∗ K ⟨⟩))
          ⊢ wp frame (wpE (defs₀ (F := F)) Variants.none c none) E (cc0_attn_c_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0_attn_c_bwd_eq_skeleton]; unfold cc0_attn_c_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; iexact H14
    isplitl [H15]
    · iexists _; iexact H15
    isplitl [H16]
    · iexists _; iexact H16
    isplitl [HS0]
    · iexists _, _; isplitr; swap; · iexact HS0
      ipureintro; rfl
    iexists _, _; isplitr; swap; · iexact HS1
    ipureintro; rfl

end Cert.KernelIdeal.Hand

end
-- ==== Proof.Stores.lean ====
module

public import proofs.«01_k».proof.Proof.Blocks
public import Idealize.ShloMosaic.Lib.Tactic.Stretches

/-! A list of stores, one store at a time: what it leaves in the scratches and in the results. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (put)
open Cert.KernelIdeal.Gen

variable {F : FTy → Type} [FloatOps F] [Named F]

local notation "𝕄" => MT nD τ sig Unit (Elt F) ℕ (UR sig nD τ) ℕ
/-- A block's rows and columns in the gradient of the queries. -/
theorem Ins.dq_at (X : Ins F) (i : grid0.Coords) (u : Fin 8) (h : Fin 4) (inb) (x) :
    X.dq i ((Rect.unit (s := S1024x256) ![128 * u.val, 64 * h.val] S128x64.size inb).emb x) = X.dqH i u h x := by
  have h0 : (x 0).val < 128 := (x 0).isLt
  have h1 : (x 1).val < 64 := (x 1).isLt
  have e0 : (((Rect.unit (s := S1024x256) ![128 * u.val, 64 * h.val] S128x64.size inb).emb x) 0).val = 128 * u.val + 1 * (x 0).val := rfl
  have e1 : (((Rect.unit (s := S1024x256) ![128 * u.val, 64 * h.val] S128x64.size inb).emb x) 1).val = 64 * h.val + 1 * (x 1).val := rfl
  unfold Ins.dq
  have a0 : (128 * u.val + 1 * (x 0).val) / 128 = u.val := by omega
  have a1 : (64 * h.val + 1 * (x 1).val) / 64 = h.val := by omega
  have a2 : (128 * u.val + 1 * (x 0).val) % 128 = (x 0).val := by omega
  have a3 : (64 * h.val + 1 * (x 1).val) % 64 = (x 1).val := by omega
  have b0 : (⟨(((Rect.unit (s := S1024x256) ![128 * u.val, 64 * h.val] S128x64.size inb).emb x) 0).val / 128, by rw [e0, a0]; exact u.isLt⟩ : Fin 8) = u := Fin.ext a0
  have b1 : (⟨(((Rect.unit (s := S1024x256) ![128 * u.val, 64 * h.val] S128x64.size inb).emb x) 1).val / 64, by rw [e1, a1]; exact h.isLt⟩ : Fin 4) = h := Fin.ext a1
  rw [b0, b1]
  refine congrArg (X.dqH i u h) (funext fun a => ?_)
  match a with
  | 0 => exact Fin.ext a2
  | 1 => exact Fin.ext a3

/-- The stores of the first `n` blocks of the queries' gradient, the last one first. -/
def Ins.DqUpTo (X : Ins F) (i : grid0.Coords) (n : ℕ) (L : List (View.Piece (Elt F) S1024x256 .bf16)) : Prop :=
  n ≤ 32 ∧ ∀ p ∈ L, ∀ x : p.1.shape.Idx, p.2 x = X.dq i (p.1.emb x)

theorem Ins.dqUpTo_all (X : Ins F) (i : grid0.Coords) {L : List (View.Piece (Elt F) S1024x256 .bf16)} (h : X.DqUpTo i 32 L) :
    ∀ p ∈ L, ∀ x : p.1.shape.Idx, p.2 x = X.dq i (p.1.emb x) := h.2

theorem Ins.dqUpTo_zero (X : Ins F) (i : grid0.Coords) : X.DqUpTo i 0 [] := ⟨Nat.zero_le _, fun _ h => absurd h List.not_mem_nil⟩

/-- One more block. -/
theorem Ins.dqUpTo_step (X : Ins F) (i : grid0.Coords) {n : ℕ} (hn : n < 32) {off : Fin 2 → ℕ} {inb : ∀ a, off a + S128x64.size a ≤ S1024x256.size a}
    {w : (Rect.unit (s := S1024x256) off S128x64.size inb).shape.Idx → Elt F .bf16} {L : List (View.Piece (Elt F) S1024x256 .bf16)} (hL : X.DqUpTo i n L)
    (hoff : off = ![128 * (n / 4), 64 * (n % 4)]) (hw : w = X.dqH i ⟨n / 4, by omega⟩ ⟨n % 4, by omega⟩) :
    X.DqUpTo i (n + 1) (⟨Rect.unit (s := S1024x256) off S128x64.size inb, w⟩ :: L) := by
  subst hoff hw
  refine ⟨hn, fun p hp => ?_⟩
  rcases List.mem_cons.mp hp with rfl | hp
  · exact fun x => (Ins.dq_at X i ⟨n / 4, by omega⟩ ⟨n % 4, by omega⟩ inb x).symm
  · exact hL.2 p hp

/-- A list whose last store is `w` at a rectangle of unit stride leaves `w` there, and what the rest leaves elsewhere. -/
theorem canon_put {s : Shape} {e : EltTy} (v : View sig .tc .vmem s e) {off size : Fin s.rank → ℕ} (inb : ∀ a, off a + size a ≤ s.size a)
    (w : (Rect.unit off size inb).shape.Idx → Elt F e) (L : List (View.Piece (Elt F) s e)) :
    View.canon (⟨Rect.unit off size inb, w⟩ :: L) = put (View.canon L) off size w := by
  rw [← View.read_writes_junk_eq_canon v, ← View.read_writes_junk_eq_canon v, View.read_writes_cons_put _ _ _ _ _ rfl]

/-- One store over the whole shape leaves what was stored. -/
theorem read_full {s : Shape} {e : EltTy} (v : View sig .tc .vmem s e) (f : v.ty.Contents (Elt F)) {off : Fin s.rank → ℕ} (inb : ∀ a, off a + s.size a ≤ s.size a)
    (w : s.Idx → Elt F e) : v.read (Elt F) (v.writes (Elt F) f [(⟨Rect.unit off s.size inb, w⟩ : View.Piece (Elt F) s e)]) = w := by
  funext y
  have h := View.read_writes_cons_emb v f (Rect.unit off s.size inb) w [] y
  rwa [Rect.emb_unit_full] at h

/-- The scratch is filled with zeros. -/
theorem canon_zero (v : View sig .tc .vmem S1280x64 .f32) {off : Fin 2 → ℕ} (inb : ∀ a, off a + S1280x64.size a ≤ S1280x64.size a) :
    View.canon (Val := Elt F) [(⟨Rect.unit (s := S1280x64) off S1280x64.size inb, zeroS⟩ : View.Piece (Elt F) S1280x64 .f32)] = zeroS := by
  rw [← View.read_writes_junk_eq_canon v]
  exact read_full v _ inb _

/-- One more block is added in the scratch. -/
theorem canon_accs (v : View sig .tc .vmem S1280x64 .f32) (C : Fin 8 → FVec F S384x64 .f32) (n : ℕ) (h : n + 1 ≤ 8)
    {off : Fin 2 → ℕ} {inb : ∀ a, off a + S384x64.size a ≤ S1280x64.size a} {w : (Rect.unit (s := S1280x64) off S384x64.size inb).shape.Idx → Elt F .f32}
    {L : List (View.Piece (Elt F) S1280x64 .f32)} (hL : View.canon L = accs C n (Nat.le_of_succ_le h)) (hoff : off = ![128 * n, 0])
    {g : FVec F S384x64 .f32} (hw : w = shapeCast S384x64 (addf (v.readCov L (Rect.unit (s := S1280x64) off S384x64.size inb).toLoadRect) g) shapeCasts_S384x64_S384x64) (hg : g = C ⟨n, h⟩) :
    View.canon (⟨Rect.unit (s := S1280x64) off S384x64.size inb, w⟩ :: L) = accs C (n + 1) h := by
  subst hoff hw hg
  rw [canon_put v, View.readCov_eq_canon', hL]
  rfl

/-- A result is filled with zeros. -/
theorem read_zero (v : View sig .tc .vmem S1x4096x64 .f32) (f : v.ty.Contents (Elt F)) {off : Fin 3 → ℕ} (inb : ∀ a, off a + S1x4096x64.size a ≤ S1x4096x64.size a) :
    v.read (Elt F) (v.writes (Elt F) f [(⟨Rect.unit (s := S1x4096x64) off S1x4096x64.size inb, zeroY⟩ : View.Piece (Elt F) S1x4096x64 .f32)]) = zeroY := by
  exact read_full v f inb _

/-- 128 rows of a result get `D` added; the load before the store may be over other contents `g` that read the same. -/
theorem read_add128 (v : View sig .tc .vmem S1x4096x64 .f32) (f g : v.ty.Contents (Elt F)) {off : Fin 3 → ℕ} {inb : ∀ a, off a + S1x128x64.size a ≤ S1x4096x64.size a}
    {w : (Rect.unit (s := S1x4096x64) off S1x128x64.size inb).shape.Idx → Elt F .f32} {L : List (View.Piece (Elt F) S1x4096x64 .f32)} {Y : Vec F S1x4096x64 .f32} {D : FVec F S128x64 .f32}
    (hf : v.read (Elt F) (v.writes (Elt F) f L) = Y) (hg : v.read (Elt F) (v.writes (Elt F) g L) = Y)
    (hw : w = shapeCast S1x128x64 (addf (shapeCast S128x64 (v.readAt (Elt F) (Rect.unit (s := S1x4096x64) off S1x128x64.size inb).toLoadRect (v.writes (Elt F) g L)) shapeCasts_S1x128x64_S128x64) D) shapeCasts_S128x64_S1x128x64) :
    v.read (Elt F) (v.writes (Elt F) f (⟨Rect.unit (s := S1x4096x64) off S1x128x64.size inb, w⟩ :: L)) = add128 off inb Y D := by
  subst hw
  rw [View.read_writes_cons_put _ _ _ _ _ rfl, hf, View.readAt_rect]
  have e : (v.slice (Rect.unit (s := S1x4096x64) off S1x128x64.size inb)).read (Elt F) (v.writes (Elt F) g L) = View.ld (Val := Elt F) (v.read (Elt F) (v.writes (Elt F) g L)) (Rect.unit (s := S1x4096x64) off S1x128x64.size inb) := rfl
  rw [e, hg]
  rfl

/-- 1024 rows of a result get `D` added. -/
theorem read_add1024 (v : View sig .tc .vmem S1x4096x64 .f32) (f g : v.ty.Contents (Elt F)) {off : Fin 3 → ℕ} {inb : ∀ a, off a + S1x1024x64.size a ≤ S1x4096x64.size a}
    {w : (Rect.unit (s := S1x4096x64) off S1x1024x64.size inb).shape.Idx → Elt F .f32} {L : List (View.Piece (Elt F) S1x4096x64 .f32)} {Y : Vec F S1x4096x64 .f32} {D : FVec F S1024x64 .f32}
    (hf : v.read (Elt F) (v.writes (Elt F) f L) = Y) (hg : v.read (Elt F) (v.writes (Elt F) g L) = Y)
    (hw : w = shapeCast S1x1024x64 (addf (shapeCast S1024x64 (v.readAt (Elt F) (Rect.unit (s := S1x4096x64) off S1x1024x64.size inb).toLoadRect (v.writes (Elt F) g L)) shapeCasts_S1x1024x64_S1024x64) D) shapeCasts_S1024x64_S1x1024x64) :
    v.read (Elt F) (v.writes (Elt F) f (⟨Rect.unit (s := S1x4096x64) off S1x1024x64.size inb, w⟩ :: L)) = add1024 off inb Y D := by
  subst hw
  rw [View.read_writes_cons_put _ _ _ _ _ rfl, hf, View.readAt_rect]
  have e : (v.slice (Rect.unit (s := S1x4096x64) off S1x1024x64.size inb)).read (Elt F) (v.writes (Elt F) g L) = View.ld (Val := Elt F) (v.read (Elt F) (v.writes (Elt F) g L)) (Rect.unit (s := S1x4096x64) off S1x1024x64.size inb) := rfl
  rw [e, hg]
  rfl

end Cert.KernelIdeal.Hand

end
-- ==== Proof.ReadA.lean ====
module

public import proofs.«01_k».proof.Proof.RunA
public import proofs.«01_k».proof.Proof.Stores

/-! What the stores of the run `kernelRun_A` leave in the two scratches and the three results, in the words of `Blocks`. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords) (arg2 : Memref sig .tc .vmem S4x1024x64 .bf16) (harg2 : arg2.IsWhole) (arg3 : Memref sig .tc .vmem S1x128x64 .bf16) (harg3 : arg3.IsWhole) (arg4 : Memref sig .tc .vmem S1x1024x64 .bf16) (harg4 : arg4.IsWhole) (arg5 : Memref sig .tc .vmem S1x128x64 .bf16) (harg5 : arg5.IsWhole) (arg6 : Memref sig .tc .vmem S1x64x128 .bf16) (harg6 : arg6.IsWhole) (arg7 : Memref sig .tc .vmem S1x64x1024 .bf16) (harg7 : arg7.IsWhole) (arg8 : Memref sig .tc .vmem S1x64x128 .bf16) (harg8 : arg8.IsWhole) (arg9 : Memref sig .tc .vmem S1x128x64 .bf16) (harg9 : arg9.IsWhole) (arg10 : Memref sig .tc .vmem S1x1024x64 .bf16) (harg10 : arg10.IsWhole) (arg11 : Memref sig .tc .vmem S1x128x64 .bf16) (harg11 : arg11.IsWhole) (arg12 : Memref sig .tc .vmem S1024x256 .bf16) (harg12 : arg12.IsWhole) (arg13 : Memref sig .tc .vmem S4x1x1024 .f32) (harg13 : arg13.IsWhole) (arg14 : Memref sig .tc .vmem S4x1x1024 .f32) (harg14 : arg14.IsWhole) (arg15 : Memref sig .tc .vmem S4x1x1 .f32) (harg15 : arg15.IsWhole) (arg16 : Memref sig .tc .vmem S1024x256 .bf16) (harg16 : arg16.IsWhole) (arg17 : Memref sig .tc .vmem S1x4096x64 .f32) (harg17 : arg17.IsWhole) (arg18 : Memref sig .tc .vmem S1x4096x64 .f32) (harg18 : arg18.IsWhole) (arg19 : Memref sig .tc .vmem S1280x64 .f32) (harg19 : arg19.IsWhole) (arg20 : Memref sig .tc .vmem S1280x64 .f32) (harg20 : arg20.IsWhole) (hc0 : cond0 i) (hi : (i 1).val = 0) (x0 : Vec F S4x1024x64 .bf16) (x1 : Vec F S1x128x64 .bf16) (x2 : Vec F S1x1024x64 .bf16) (x3 : Vec F S1x128x64 .bf16) (x4 : Vec F S1x64x128 .bf16) (x5 : Vec F S1x64x1024 .bf16) (x6 : Vec F S1x64x128 .bf16) (x7 : Vec F S1x128x64 .bf16) (x8 : Vec F S1x1024x64 .bf16) (x9 : Vec F S1x128x64 .bf16) (x10 : Vec F S1024x256 .bf16) (x11 : Vec F S4x1x1024 .f32) (x12 : Vec F S4x1x1024 .f32) (x13 : Vec F S4x1x1 .f32)

include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13

set_option maxHeartbeats 4000000 in
/-- The scratch of `dk` at the end of the run. -/
theorem dkS_A :
    View.canon (kernelRun_A.sl.HS0_9 c i arg2 harg2 arg3 harg3 arg4 harg4 arg5 harg5 arg9 harg9 arg10 harg10 arg11 harg11 arg12 harg12 arg13 harg13 arg14 harg14 arg15 harg15 arg19 x0 x1 x2 x3 x7 x8 x9 x10 x11 x12 x13) = (⟨x0, x1, x2, x3, x4, x5, x6, x7, x8, x9, x10, x11, x12, x13⟩ : Ins F).dkS i := by
  unfold Ins.dkS
  iterate 8
    refine canon_accs arg19.view _ _ (by decide) ?_ rfl rfl ?_
    rotate_left
    · sl_open_run
      sl_open_pay
      conv_rhs => rw [← harg2.read_unread x0, ← harg3.read_unread x1, ← harg4.read_unread x2, ← harg5.read_unread x3, ← harg6.read_unread x4, ← harg7.read_unread x5, ← harg8.read_unread x6, ← harg9.read_unread x7, ← harg10.read_unread x8, ← harg11.read_unread x9, ← harg12.read_unread x10, ← harg13.read_unread x11, ← harg14.read_unread x12, ← harg15.read_unread x13]
      rfl
  exact canon_zero arg19.view _

set_option maxHeartbeats 4000000 in
/-- The scratch of `dv` at the end of the run. -/
theorem dvS_A :
    View.canon (kernelRun_A.sl.HS1_9 c i arg2 harg2 arg3 harg3 arg4 harg4 arg5 harg5 arg12 harg12 arg13 harg13 arg15 harg15 arg20 x0 x1 x2 x3 x10 x11 x13) = (⟨x0, x1, x2, x3, x4, x5, x6, x7, x8, x9, x10, x11, x12, x13⟩ : Ins F).dvS i := by
  unfold Ins.dvS
  iterate 8
    refine canon_accs arg20.view _ _ (by decide) ?_ rfl rfl ?_
    rotate_left
    · sl_open_run
      sl_open_pay
      conv_rhs => rw [← harg2.read_unread x0, ← harg3.read_unread x1, ← harg4.read_unread x2, ← harg5.read_unread x3, ← harg6.read_unread x4, ← harg7.read_unread x5, ← harg8.read_unread x6, ← harg9.read_unread x7, ← harg10.read_unread x8, ← harg11.read_unread x9, ← harg12.read_unread x10, ← harg13.read_unread x11, ← harg14.read_unread x12, ← harg15.read_unread x13]
      rfl
  exact canon_zero arg20.view _

set_option maxHeartbeats 8000000 in
/-- The gradient of the queries. -/
theorem dq_A (f : arg16.view.ty.Contents (Elt F)) :
    arg16.view.read (Elt F) (arg16.view.writes (Elt F) f (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13).1) = (⟨x0, x1, x2, x3, x4, x5, x6, x7, x8, x9, x10, x11, x12, x13⟩ : Ins F).dq i := by
  funext y
  refine View.read_writes_apply_of_pieces _ _ _ _ ?_ y (View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13).1 S128x64.size (by sl_kernel_rfl) y)
  unfold kernelRun_A
  dsimp only
  refine Ins.dqUpTo_all _ i ?_
  iterate 32
    refine Ins.dqUpTo_step _ i (by decide) ?_ rfl ?_
    rotate_left
    · sl_open_run
      sl_open_pay
      conv_rhs => rw [← harg2.read_unread x0, ← harg3.read_unread x1, ← harg4.read_unread x2, ← harg5.read_unread x3, ← harg6.read_unread x4, ← harg7.read_unread x5, ← harg8.read_unread x6, ← harg9.read_unread x7, ← harg10.read_unread x8, ← harg11.read_unread x9, ← harg12.read_unread x10, ← harg13.read_unread x11, ← harg14.read_unread x12, ← harg15.read_unread x13]
      rfl
  exact Ins.dqUpTo_zero _ i

set_option maxHeartbeats 4000000 in
/-- The result of `dk`. -/
theorem dk_A (f : arg17.view.ty.Contents (Elt F)) :
    arg17.view.read (Elt F) (arg17.view.writes (Elt F) f (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13).2.1) = dkOut i ((⟨x0, x1, x2, x3, x4, x5, x6, x7, x8, x9, x10, x11, x12, x13⟩ : Ins F).dkS i) zeroY := by
  have hS := dkS_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13
  have g0 : ∀ f, arg17.view.read (Elt F) (arg17.view.writes (Elt F) f (kernelRun_A.sl.H15_1 (F := F))) = zeroY := fun f => read_zero _ _ _
  have g1 : ∀ f, arg17.view.read (Elt F) (arg17.view.writes (Elt F) f (kernelRun_A.sl.H15_2 c i arg2 harg2 arg3 harg3 arg4 harg4 arg5 harg5 arg9 harg9 arg10 harg10 arg11 harg11 arg12 harg12 arg13 harg13 arg14 harg14 arg15 harg15 arg17 arg19 x0 x1 x2 x3 x7 x8 x9 x10 x11 x12 x13)) = (add128 (k0_off1 i) (k0_off1_inb i) zeroY (mulf (View.ld (Val := Elt F) ((⟨x0, x1, x2, x3, x4, x5, x6, x7, x8, x9, x10, x11, x12, x13⟩ : Ins F).dkS i) (Rect.unit ![0, 0] S128x64.size inb_S1280x64_S128x64_0_0)) (broadcast S128x64 (Named.named κ "inv_scale_log2e" 0x40B17218#32)))) := by
    intro f
    unfold kernelRun_A.sl.H15_2
    refine read_add128 arg17.view f arg17.view.junk (g0 f) (g0 _) ?_
    unfold kernelRun_A.sl.v711
    rw [View.readCov_eq_canon', hS]
    rfl
  have g2 : ∀ f, arg17.view.read (Elt F) (arg17.view.writes (Elt F) f (kernelRun_A.sl.H15_3 c i arg2 harg2 arg3 harg3 arg4 harg4 arg5 harg5 arg9 harg9 arg10 harg10 arg11 harg11 arg12 harg12 arg13 harg13 arg14 harg14 arg15 harg15 arg17 arg19 x0 x1 x2 x3 x7 x8 x9 x10 x11 x12 x13)) = (add1024 (k0_off2 i) (k0_off2_inb i) (add128 (k0_off1 i) (k0_off1_inb i) zeroY (mulf (View.ld (Val := Elt F) ((⟨x0, x1, x2, x3, x4, x5, x6, x7, x8, x9, x10, x11, x12, x13⟩ : Ins F).dkS i) (Rect.unit ![0, 0] S128x64.size inb_S1280x64_S128x64_0_0)) (broadcast S128x64 (Named.named κ "inv_scale_log2e" 0x40B17218#32)))) (mulf (View.ld (Val := Elt F) ((⟨x0, x1, x2, x3, x4, x5, x6, x7, x8, x9, x10, x11, x12, x13⟩ : Ins F).dkS i) (Rect.unit ![128, 0] S1024x64.size inb_S1280x64_S1024x64_128_0)) (broadcast S1024x64 (Named.named κ "inv_scale_log2e" 0x40B17218#32)))) := by
    intro f
    unfold kernelRun_A.sl.H15_3
    refine read_add1024 arg17.view f arg17.view.junk (g1 f) (g1 _) ?_
    unfold kernelRun_A.sl.v730 kernelRun_A.sl.v732
    rw [View.readCov_eq_canon', hS]
    rfl
  refine (read_add128 arg17.view f arg17.view.junk (g2 f) (g2 _) ?_ )
  unfold kernelRun_A.sl.v751 kernelRun_A.sl.v753
  rw [View.readCov_eq_canon', hS]
  rfl

set_option maxHeartbeats 4000000 in
/-- The result of `dv`. -/
theorem dv_A (f : arg18.view.ty.Contents (Elt F)) :
    arg18.view.read (Elt F) (arg18.view.writes (Elt F) f (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13).2.2.val) = dvOut i ((⟨x0, x1, x2, x3, x4, x5, x6, x7, x8, x9, x10, x11, x12, x13⟩ : Ins F).dvS i) zeroY := by
  have hS := dvS_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13
  have g0 : ∀ f, arg18.view.read (Elt F) (arg18.view.writes (Elt F) f (kernelRun_A.sl.H16_1 (F := F))) = zeroY := fun f => read_zero _ _ _
  have g1 : ∀ f, arg18.view.read (Elt F) (arg18.view.writes (Elt F) f (kernelRun_A.sl.H16_2 c i arg2 harg2 arg3 harg3 arg4 harg4 arg5 harg5 arg12 harg12 arg13 harg13 arg15 harg15 arg18 arg20 x0 x1 x2 x3 x10 x11 x13)) = (add128 (k0_off1 i) (k0_off1_inb i) zeroY (View.ld (Val := Elt F) ((⟨x0, x1, x2, x3, x4, x5, x6, x7, x8, x9, x10, x11, x12, x13⟩ : Ins F).dvS i) (Rect.unit ![0, 0] S128x64.size inb_S1280x64_S128x64_0_0))) := by
    intro f
    unfold kernelRun_A.sl.H16_2
    refine read_add128 arg18.view f arg18.view.junk (g0 f) (g0 _) ?_
    unfold kernelRun_A.sl.r_71 kernelRun_A.sl.v722
    rw [View.readCov_eq_canon', hS]
    rfl
  have g2 : ∀ f, arg18.view.read (Elt F) (arg18.view.writes (Elt F) f (kernelRun_A.sl.H16_3 c i arg2 harg2 arg3 harg3 arg4 harg4 arg5 harg5 arg12 harg12 arg13 harg13 arg15 harg15 arg18 arg20 x0 x1 x2 x3 x10 x11 x13)) = (add1024 (k0_off2 i) (k0_off2_inb i) (add128 (k0_off1 i) (k0_off1_inb i) zeroY (View.ld (Val := Elt F) ((⟨x0, x1, x2, x3, x4, x5, x6, x7, x8, x9, x10, x11, x12, x13⟩ : Ins F).dvS i) (Rect.unit ![0, 0] S128x64.size inb_S1280x64_S128x64_0_0))) (View.ld (Val := Elt F) ((⟨x0, x1, x2, x3, x4, x5, x6, x7, x8, x9, x10, x11, x12, x13⟩ : Ins F).dvS i) (Rect.unit ![128, 0] S1024x64.size inb_S1280x64_S1024x64_128_0))) := by
    intro f
    unfold kernelRun_A.sl.H16_3
    refine read_add1024 arg18.view f arg18.view.junk (g1 f) (g1 _) ?_
    unfold kernelRun_A.sl.v741 kernelRun_A.sl.v743
    rw [View.readCov_eq_canon', hS]
    rfl
  refine (read_add128 arg18.view f arg18.view.junk (g2 f) (g2 _) ?_ )
  unfold kernelRun_A.sl.v762 kernelRun_A.sl.v764
  rw [View.readCov_eq_canon', hS]
  rfl

end Cert.KernelIdeal.Hand

end
-- ==== Proof.RunB.lean ====
module

public import proofs.«01_k».proof.Proof.Branch
public import proofs.«01_k».proof.Proof.Gen.KernelIdeal.Skeleton
public import proofs.«01_k».proof.Proof.Gen.KernelIdeal.Points

/-! The run of `attn_c_bwd`'s body at a middle block of rows of a key head: what it stores in the three results, last first. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 8000000 in
/-- The three lists of stores of the body, and that it runs to its end with them. -/
noncomputable def kernelRun_B (c : Dev nD) (i : grid0.Coords) (arg2 : Memref sig .tc .vmem S4x1024x64 .bf16) (harg2 : arg2.IsWhole) (arg3 : Memref sig .tc .vmem S1x128x64 .bf16) (harg3 : arg3.IsWhole) (arg4 : Memref sig .tc .vmem S1x1024x64 .bf16) (harg4 : arg4.IsWhole) (arg5 : Memref sig .tc .vmem S1x128x64 .bf16) (harg5 : arg5.IsWhole) (arg6 : Memref sig .tc .vmem S1x64x128 .bf16) (harg6 : arg6.IsWhole) (arg7 : Memref sig .tc .vmem S1x64x1024 .bf16) (harg7 : arg7.IsWhole) (arg8 : Memref sig .tc .vmem S1x64x128 .bf16) (harg8 : arg8.IsWhole) (arg9 : Memref sig .tc .vmem S1x128x64 .bf16) (harg9 : arg9.IsWhole) (arg10 : Memref sig .tc .vmem S1x1024x64 .bf16) (harg10 : arg10.IsWhole) (arg11 : Memref sig .tc .vmem S1x128x64 .bf16) (harg11 : arg11.IsWhole) (arg12 : Memref sig .tc .vmem S1024x256 .bf16) (harg12 : arg12.IsWhole) (arg13 : Memref sig .tc .vmem S4x1x1024 .f32) (harg13 : arg13.IsWhole) (arg14 : Memref sig .tc .vmem S4x1x1024 .f32) (harg14 : arg14.IsWhole) (arg15 : Memref sig .tc .vmem S4x1x1 .f32) (harg15 : arg15.IsWhole) (arg16 : Memref sig .tc .vmem S1024x256 .bf16) (harg16 : arg16.IsWhole) (arg17 : Memref sig .tc .vmem S1x4096x64 .f32) (harg17 : arg17.IsWhole) (arg18 : Memref sig .tc .vmem S1x4096x64 .f32) (harg18 : arg18.IsWhole) (arg19 : Memref sig .tc .vmem S1280x64 .f32) (harg19 : arg19.IsWhole) (arg20 : Memref sig .tc .vmem S1280x64 .f32) (harg20 : arg20.IsWhole) (hc0 : ¬cond0 i) (hi : 1 ≤ (i 1).val) (hi2 : (i 1).val ≤ 2)
    (x0 : Vec F S4x1024x64 .bf16) (x1 : Vec F S1x128x64 .bf16) (x2 : Vec F S1x1024x64 .bf16) (x3 : Vec F S1x128x64 .bf16) (x4 : Vec F S1x64x128 .bf16) (x5 : Vec F S1x64x1024 .bf16) (x6 : Vec F S1x64x128 .bf16) (x7 : Vec F S1x128x64 .bf16) (x8 : Vec F S1x1024x64 .bf16) (x9 : Vec F S1x128x64 .bf16) (x10 : Vec F S1024x256 .bf16) (x11 : Vec F S4x1x1024 .f32) (x12 : Vec F S4x1x1024 .f32) (x13 : Vec F S4x1x1 .f32) (y15 y16 : Vec F S1x4096x64 .f32) :
    Σ' (L14 : List (View.Piece (Elt F) S1024x256 .bf16)) (L15 : List (View.Piece (Elt F) S1x4096x64 .f32)), { L16 : List (View.Piece (Elt F) S1x4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare y15 ∗ owns (c : Thread nD τ) arg18 fullShare y16 ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (arg17.view.loc (c : Thread nD τ) ↦[arg17.view.set]{fullShare} arg17.view.writes (Elt F) (harg17.unread y15) L15) ∗ (arg18.view.loc (c : Thread nD τ) ↦[arg18.view.set]{fullShare} arg18.view.writes (Elt F) (harg18.unread y16) L16) ∗ (∃ d, owns (c : Thread nD τ) arg19 fullShare d) ∗ (∃ d, owns (c : Thread nD τ) arg20 fullShare d)) -∗ K ⟨⟩))
          ⊢ wp frame (wpE (defs₀ (F := F)) Variants.none c none) E (cc0_attn_c_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0_attn_c_bwd_eq_skeleton]; unfold cc0_attn_c_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hf15; obtain rfl := harg18.eq_unread hf16
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; iexact H14
    isplitl [H15]
    · iexact H15
    isplitl [H16]
    · iexact H16
    isplitl [HS0]
    · iexists _, _; isplitr; swap; · iexact HS0
      ipureintro; rfl
    iexists _, _; isplitr; swap; · iexact HS1
    ipureintro; rfl

end Cert.KernelIdeal.Hand

end
-- ==== Proof.ReadB.lean ====
module

public import proofs.«01_k».proof.Proof.RunB
public import proofs.«01_k».proof.Proof.Stores

/-! What the stores of the run `kernelRun_B` leave in the two scratches and the three results, in the words of `Blocks`. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords) (arg2 : Memref sig .tc .vmem S4x1024x64 .bf16) (harg2 : arg2.IsWhole) (arg3 : Memref sig .tc .vmem S1x128x64 .bf16) (harg3 : arg3.IsWhole) (arg4 : Memref sig .tc .vmem S1x1024x64 .bf16) (harg4 : arg4.IsWhole) (arg5 : Memref sig .tc .vmem S1x128x64 .bf16) (harg5 : arg5.IsWhole) (arg6 : Memref sig .tc .vmem S1x64x128 .bf16) (harg6 : arg6.IsWhole) (arg7 : Memref sig .tc .vmem S1x64x1024 .bf16) (harg7 : arg7.IsWhole) (arg8 : Memref sig .tc .vmem S1x64x128 .bf16) (harg8 : arg8.IsWhole) (arg9 : Memref sig .tc .vmem S1x128x64 .bf16) (harg9 : arg9.IsWhole) (arg10 : Memref sig .tc .vmem S1x1024x64 .bf16) (harg10 : arg10.IsWhole) (arg11 : Memref sig .tc .vmem S1x128x64 .bf16) (harg11 : arg11.IsWhole) (arg12 : Memref sig .tc .vmem S1024x256 .bf16) (harg12 : arg12.IsWhole) (arg13 : Memref sig .tc .vmem S4x1x1024 .f32) (harg13 : arg13.IsWhole) (arg14 : Memref sig .tc .vmem S4x1x1024 .f32) (harg14 : arg14.IsWhole) (arg15 : Memref sig .tc .vmem S4x1x1 .f32) (harg15 : arg15.IsWhole) (arg16 : Memref sig .tc .vmem S1024x256 .bf16) (harg16 : arg16.IsWhole) (arg17 : Memref sig .tc .vmem S1x4096x64 .f32) (harg17 : arg17.IsWhole) (arg18 : Memref sig .tc .vmem S1x4096x64 .f32) (harg18 : arg18.IsWhole) (arg19 : Memref sig .tc .vmem S1280x64 .f32) (harg19 : arg19.IsWhole) (arg20 : Memref sig .tc .vmem S1280x64 .f32) (harg20 : arg20.IsWhole) (hc0 : ¬cond0 i) (hi : 1 ≤ (i 1).val) (hi2 : (i 1).val ≤ 2) (x0 : Vec F S4x1024x64 .bf16) (x1 : Vec F S1x128x64 .bf16) (x2 : Vec F S1x1024x64 .bf16) (x3 : Vec F S1x128x64 .bf16) (x4 : Vec F S1x64x128 .bf16) (x5 : Vec F S1x64x1024 .bf16) (x6 : Vec F S1x64x128 .bf16) (x7 : Vec F S1x128x64 .bf16) (x8 : Vec F S1x1024x64 .bf16) (x9 : Vec F S1x128x64 .bf16) (x10 : Vec F S1024x256 .bf16) (x11 : Vec F S4x1x1024 .f32) (x12 : Vec F S4x1x1024 .f32) (x13 : Vec F S4x1x1 .f32) (y15 y16 : Vec F S1x4096x64 .f32)

include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi hi2 x0 x1 x2 x3 x4 x5 x6 x7 x8 x9 x10 x11 x12 x13 y15 y16

set_option maxHeartbeats 4000000 in
/-- The scratch of `dk` at the end of the run. -/
theorem dkS_B :
    View.canon (kernelRun_B.sl.HS0_9 c i arg2 harg2 arg3 harg3 arg4 harg4 arg5 harg5 arg9 harg9 arg10 harg10 arg11 harg11 arg12 harg12 arg13 harg13 arg14 harg14 arg15 harg15 arg19 x0 x1 x2 x3 x7 x8 x9 x10 x11 x12 x13) = (⟨x0, x1, x2, x3, x4, x5, x6, x7, x8, x9, x10, x11, x12, x13⟩ : Ins F).dkS i := by
  unfold Ins.dkS
  iterate 8
    refine canon_accs arg19.view _ _ (by decide) ?_ rfl rfl ?_
    rotate_left
    · sl_open_run
      sl_open_pay
      conv_rhs => rw [← harg2.read_unread x0, ← harg3.read_unread x1, ← harg4.read_unread x2, ← harg5.read_unread x3, ← harg6.read_unread x4, ← harg7.read_unread x5, ← harg8.read_unread x6, ← harg9.read_unread x7, ← harg10.read_unread x8, ← harg11.read_unread x9, ← harg12.read_unread x10, ← harg13.read_unread x11, ← harg14.read_unread x12, ← harg15.read_unread x13]
      rfl
  exact canon_zero arg19.view _

set_option maxHeartbeats 4000000 in
/-- The scratch of `dv` at the end of the run. -/
theorem dvS_B :
    View.canon (kernelRun_B.sl.HS1_9 c i arg2 harg2 arg3 harg3 arg4 harg4 arg5 harg5 arg12 harg12 arg13 harg13 arg15 harg15 arg20 x0 x1 x2 x3 x10 x11 x13) = (⟨x0, x1, x2, x3, x4, x5, x6, x7, x8, x9, x10, x11, x12, x13⟩ : Ins F).dvS i := by
  unfold Ins.dvS
  iterate 8
    refine canon_accs arg20.view _ _ (by decide) ?_ rfl rfl ?_
    rotate_left
    · sl_open_run
      sl_open_pay
      conv_rhs => rw [← harg2.read_unread x0, ← harg3.read_unread x1, ← harg4.read_unread x2, ← harg5.read_unread x3, ← harg6.read_unread x4, ← harg7.read_unread x5, ← harg8.read_unread x6, ← harg9.read_unread x7, ← harg10.read_unread x8, ← harg11.read_unread x9, ← harg12.read_unread x10, ← harg13.read_unread x11, ← harg14.read_unread x12, ← harg15.read_unread x13]
      rfl
  exact canon_zero arg20.view _

set_option maxHeartbeats 8000000 in
/-- The gradient of the queries. -/
theorem dq_B (f : arg16.view.ty.Contents (Elt F)) :
    arg16.view.read (Elt F) (arg16.view.writes (Elt F) f (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi hi2 x0 x1 x2 x3 x4 x5 x6 x7 x8 x9 x10 x11 x12 x13 y15 y16).1) = (⟨x0, x1, x2, x3, x4, x5, x6, x7, x8, x9, x10, x11, x12, x13⟩ : Ins F).dq i := by
  funext y
  refine View.read_writes_apply_of_pieces _ _ _ _ ?_ y (View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi hi2 x0 x1 x2 x3 x4 x5 x6 x7 x8 x9 x10 x11 x12 x13 y15 y16).1 S128x64.size (by sl_kernel_rfl) y)
  unfold kernelRun_B
  dsimp only
  refine Ins.dqUpTo_all _ i ?_
  iterate 32
    refine Ins.dqUpTo_step _ i (by decide) ?_ rfl ?_
    rotate_left
    · sl_open_run
      sl_open_pay
      conv_rhs => rw [← harg2.read_unread x0, ← harg3.read_unread x1, ← harg4.read_unread x2, ← harg5.read_unread x3, ← harg6.read_unread x4, ← harg7.read_unread x5, ← harg8.read_unread x6, ← harg9.read_unread x7, ← harg10.read_unread x8, ← harg11.read_unread x9, ← harg12.read_unread x10, ← harg13.read_unread x11, ← harg14.read_unread x12, ← harg15.read_unread x13]
      rfl
  exact Ins.dqUpTo_zero _ i

set_option maxHeartbeats 4000000 in
/-- The result of `dk`. -/
theorem dk_B  :
    arg17.view.read (Elt F) (arg17.view.writes (Elt F) (harg17.unread y15) (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi hi2 x0 x1 x2 x3 x4 x5 x6 x7 x8 x9 x10 x11 x12 x13 y15 y16).2.1) = dkOut i ((⟨x0, x1, x2, x3, x4, x5, x6, x7, x8, x9, x10, x11, x12, x13⟩ : Ins F).dkS i) y15 := by
  have hS := dkS_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi hi2 x0 x1 x2 x3 x4 x5 x6 x7 x8 x9 x10 x11 x12 x13 y15 y16
  have g0 : arg17.view.read (Elt F) (arg17.view.writes (Elt F) (harg17.unread y15) []) = y15 := harg17.read_unread _
  have g1 : arg17.view.read (Elt F) (arg17.view.writes (Elt F) (harg17.unread y15) (kernelRun_B.sl.H15_1 c i arg2 harg2 arg3 harg3 arg4 harg4 arg5 harg5 arg9 harg9 arg10 harg10 arg11 harg11 arg12 harg12 arg13 harg13 arg14 harg14 arg15 harg15 arg17 harg17 arg19 x0 x1 x2 x3 x7 x8 x9 x10 x11 x12 x13 y15)) = (add128 (k0_off1 i) (k0_off1_inb i) y15 (mulf (View.ld (Val := Elt F) ((⟨x0, x1, x2, x3, x4, x5, x6, x7, x8, x9, x10, x11, x12, x13⟩ : Ins F).dkS i) (Rect.unit ![0, 0] S128x64.size inb_S1280x64_S128x64_0_0)) (broadcast S128x64 (Named.named κ "inv_scale_log2e" 0x40B17218#32)))) := by
    unfold kernelRun_B.sl.H15_1
    refine read_add128 arg17.view (harg17.unread y15) (harg17.unread y15) (g0) g0 ?_
    unfold kernelRun_B.sl.v711
    rw [View.readCov_eq_canon', hS]
    rfl
  have g2 : arg17.view.read (Elt F) (arg17.view.writes (Elt F) (harg17.unread y15) (kernelRun_B.sl.H15_2 c i arg2 harg2 arg3 harg3 arg4 harg4 arg5 harg5 arg9 harg9 arg10 harg10 arg11 harg11 arg12 harg12 arg13 harg13 arg14 harg14 arg15 harg15 arg17 harg17 arg19 x0 x1 x2 x3 x7 x8 x9 x10 x11 x12 x13 y15)) = (add1024 (k0_off2 i) (k0_off2_inb i) (add128 (k0_off1 i) (k0_off1_inb i) y15 (mulf (View.ld (Val := Elt F) ((⟨x0, x1, x2, x3, x4, x5, x6, x7, x8, x9, x10, x11, x12, x13⟩ : Ins F).dkS i) (Rect.unit ![0, 0] S128x64.size inb_S1280x64_S128x64_0_0)) (broadcast S128x64 (Named.named κ "inv_scale_log2e" 0x40B17218#32)))) (mulf (View.ld (Val := Elt F) ((⟨x0, x1, x2, x3, x4, x5, x6, x7, x8, x9, x10, x11, x12, x13⟩ : Ins F).dkS i) (Rect.unit ![128, 0] S1024x64.size inb_S1280x64_S1024x64_128_0)) (broadcast S1024x64 (Named.named κ "inv_scale_log2e" 0x40B17218#32)))) := by
    unfold kernelRun_B.sl.H15_2
    refine read_add1024 arg17.view (harg17.unread y15) (harg17.unread y15) (g1) g1 ?_
    unfold kernelRun_B.sl.v730 kernelRun_B.sl.v732
    rw [View.readCov_eq_canon', hS]
    rfl
  refine (read_add128 arg17.view (harg17.unread y15) (harg17.unread y15) g2 g2 ?_ )
  unfold kernelRun_B.sl.v751 kernelRun_B.sl.v753
  rw [View.readCov_eq_canon', hS]
  rfl

set_option maxHeartbeats 4000000 in
/-- The result of `dv`. -/
theorem dv_B  :
    arg18.view.read (Elt F) (arg18.view.writes (Elt F) (harg18.unread y16) (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi hi2 x0 x1 x2 x3 x4 x5 x6 x7 x8 x9 x10 x11 x12 x13 y15 y16).2.2.val) = dvOut i ((⟨x0, x1, x2, x3, x4, x5, x6, x7, x8, x9, x10, x11, x12, x13⟩ : Ins F).dvS i) y16 := by
  have hS := dvS_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi hi2 x0 x1 x2 x3 x4 x5 x6 x7 x8 x9 x10 x11 x12 x13 y15 y16
  have g0 : arg18.view.read (Elt F) (arg18.view.writes (Elt F) (harg18.unread y16) []) = y16 := harg18.read_unread _
  have g1 : arg18.view.read (Elt F) (arg18.view.writes (Elt F) (harg18.unread y16) (kernelRun_B.sl.H16_1 c i arg2 harg2 arg3 harg3 arg4 harg4 arg5 harg5 arg12 harg12 arg13 harg13 arg15 harg15 arg18 harg18 arg20 x0 x1 x2 x3 x10 x11 x13 y16)) = (add128 (k0_off1 i) (k0_off1_inb i) y16 (View.ld (Val := Elt F) ((⟨x0, x1, x2, x3, x4, x5, x6, x7, x8, x9, x10, x11, x12, x13⟩ : Ins F).dvS i) (Rect.unit ![0, 0] S128x64.size inb_S1280x64_S128x64_0_0))) := by
    unfold kernelRun_B.sl.H16_1
    refine read_add128 arg18.view (harg18.unread y16) (harg18.unread y16) (g0) g0 ?_
    unfold kernelRun_B.sl.r_71 kernelRun_B.sl.v722
    rw [View.readCov_eq_canon', hS]
    rfl
  have g2 : arg18.view.read (Elt F) (arg18.view.writes (Elt F) (harg18.unread y16) (kernelRun_B.sl.H16_2 c i arg2 harg2 arg3 harg3 arg4 harg4 arg5 harg5 arg12 harg12 arg13 harg13 arg15 harg15 arg18 harg18 arg20 x0 x1 x2 x3 x10 x11 x13 y16)) = (add1024 (k0_off2 i) (k0_off2_inb i) (add128 (k0_off1 i) (k0_off1_inb i) y16 (View.ld (Val := Elt F) ((⟨x0, x1, x2, x3, x4, x5, x6, x7, x8, x9, x10, x11, x12, x13⟩ : Ins F).dvS i) (Rect.unit ![0, 0] S128x64.size inb_S1280x64_S128x64_0_0))) (View.ld (Val := Elt F) ((⟨x0, x1, x2, x3, x4, x5, x6, x7, x8, x9, x10, x11, x12, x13⟩ : Ins F).dvS i) (Rect.unit ![128, 0] S1024x64.size inb_S1280x64_S1024x64_128_0))) := by
    unfold kernelRun_B.sl.H16_2
    refine read_add1024 arg18.view (harg18.unread y16) (harg18.unread y16) (g1) g1 ?_
    unfold kernelRun_B.sl.v743
    rw [View.readCov_eq_canon', hS]
    rfl
  refine (read_add128 arg18.view (harg18.unread y16) (harg18.unread y16) g2 g2 ?_ )
  unfold kernelRun_B.sl.v762 kernelRun_B.sl.v764
  rw [View.readCov_eq_canon', hS]
  rfl

end Cert.KernelIdeal.Hand

end
-- ==== Proof.RunC.lean ====
module

public import proofs.«01_k».proof.Proof.Branch
public import proofs.«01_k».proof.Proof.Gen.KernelIdeal.Skeleton
public import proofs.«01_k».proof.Proof.Gen.KernelIdeal.Points

/-! The run of `attn_c_bwd`'s body at the last block of rows of a key head: what it stores in the three results, last first. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 8000000 in
/-- The three lists of stores of the body, and that it runs to its end with them. -/
noncomputable def kernelRun_C (c : Dev nD) (i : grid0.Coords) (arg2 : Memref sig .tc .vmem S4x1024x64 .bf16) (harg2 : arg2.IsWhole) (arg3 : Memref sig .tc .vmem S1x128x64 .bf16) (harg3 : arg3.IsWhole) (arg4 : Memref sig .tc .vmem S1x1024x64 .bf16) (harg4 : arg4.IsWhole) (arg5 : Memref sig .tc .vmem S1x128x64 .bf16) (harg5 : arg5.IsWhole) (arg6 : Memref sig .tc .vmem S1x64x128 .bf16) (harg6 : arg6.IsWhole) (arg7 : Memref sig .tc .vmem S1x64x1024 .bf16) (harg7 : arg7.IsWhole) (arg8 : Memref sig .tc .vmem S1x64x128 .bf16) (harg8 : arg8.IsWhole) (arg9 : Memref sig .tc .vmem S1x128x64 .bf16) (harg9 : arg9.IsWhole) (arg10 : Memref sig .tc .vmem S1x1024x64 .bf16) (harg10 : arg10.IsWhole) (arg11 : Memref sig .tc .vmem S1x128x64 .bf16) (harg11 : arg11.IsWhole) (arg12 : Memref sig .tc .vmem S1024x256 .bf16) (harg12 : arg12.IsWhole) (arg13 : Memref sig .tc .vmem S4x1x1024 .f32) (harg13 : arg13.IsWhole) (arg14 : Memref sig .tc .vmem S4x1x1024 .f32) (harg14 : arg14.IsWhole) (arg15 : Memref sig .tc .vmem S4x1x1 .f32) (harg15 : arg15.IsWhole) (arg16 : Memref sig .tc .vmem S1024x256 .bf16) (harg16 : arg16.IsWhole) (arg17 : Memref sig .tc .vmem S1x4096x64 .f32) (harg17 : arg17.IsWhole) (arg18 : Memref sig .tc .vmem S1x4096x64 .f32) (harg18 : arg18.IsWhole) (arg19 : Memref sig .tc .vmem S1280x64 .f32) (harg19 : arg19.IsWhole) (arg20 : Memref sig .tc .vmem S1280x64 .f32) (harg20 : arg20.IsWhole) (hc0 : ¬cond0 i) (hi : (i 1).val = 3)
    (x0 : Vec F S4x1024x64 .bf16) (x1 : Vec F S1x128x64 .bf16) (x2 : Vec F S1x1024x64 .bf16) (x3 : Vec F S1x128x64 .bf16) (x4 : Vec F S1x64x128 .bf16) (x5 : Vec F S1x64x1024 .bf16) (x6 : Vec F S1x64x128 .bf16) (x7 : Vec F S1x128x64 .bf16) (x8 : Vec F S1x1024x64 .bf16) (x9 : Vec F S1x128x64 .bf16) (x10 : Vec F S1024x256 .bf16) (x11 : Vec F S4x1x1024 .f32) (x12 : Vec F S4x1x1024 .f32) (x13 : Vec F S4x1x1 .f32) (y15 y16 : Vec F S1x4096x64 .f32) :
    Σ' (L14 : List (View.Piece (Elt F) S1024x256 .bf16)) (L15 : List (View.Piece (Elt F) S1x4096x64 .f32)), { L16 : List (View.Piece (Elt F) S1x4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare y15 ∗ owns (c : Thread nD τ) arg18 fullShare y16 ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (arg17.view.loc (c : Thread nD τ) ↦[arg17.view.set]{fullShare} arg17.view.writes (Elt F) (harg17.unread y15) L15) ∗ (arg18.view.loc (c : Thread nD τ) ↦[arg18.view.set]{fullShare} arg18.view.writes (Elt F) (harg18.unread y16) L16) ∗ (∃ d, owns (c : Thread nD τ) arg19 fullShare d) ∗ (∃ d, owns (c : Thread nD τ) arg20 fullShare d)) -∗ K ⟨⟩))
          ⊢ wp frame (wpE (defs₀ (F := F)) Variants.none c none) E (cc0_attn_c_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0_attn_c_bwd_eq_skeleton]; unfold cc0_attn_c_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hf15; obtain rfl := harg18.eq_unread hf16
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; iexact H14
    isplitl [H15]
    · iexact H15
    isplitl [H16]
    · iexact H16
    isplitl [HS0]
    · iexists _, _; isplitr; swap; · iexact HS0
      ipureintro; rfl
    iexists _, _; isplitr; swap; · iexact HS1
    ipureintro; rfl

end Cert.KernelIdeal.Hand

end
-- ==== Proof.ReadC.lean ====
module

public import proofs.«01_k».proof.Proof.RunC
public import proofs.«01_k».proof.Proof.Stores

/-! What the stores of the run `kernelRun_C` leave in the two scratches and the three results, in the words of `Blocks`. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords) (arg2 : Memref sig .tc .vmem S4x1024x64 .bf16) (harg2 : arg2.IsWhole) (arg3 : Memref sig .tc .vmem S1x128x64 .bf16) (harg3 : arg3.IsWhole) (arg4 : Memref sig .tc .vmem S1x1024x64 .bf16) (harg4 : arg4.IsWhole) (arg5 : Memref sig .tc .vmem S1x128x64 .bf16) (harg5 : arg5.IsWhole) (arg6 : Memref sig .tc .vmem S1x64x128 .bf16) (harg6 : arg6.IsWhole) (arg7 : Memref sig .tc .vmem S1x64x1024 .bf16) (harg7 : arg7.IsWhole) (arg8 : Memref sig .tc .vmem S1x64x128 .bf16) (harg8 : arg8.IsWhole) (arg9 : Memref sig .tc .vmem S1x128x64 .bf16) (harg9 : arg9.IsWhole) (arg10 : Memref sig .tc .vmem S1x1024x64 .bf16) (harg10 : arg10.IsWhole) (arg11 : Memref sig .tc .vmem S1x128x64 .bf16) (harg11 : arg11.IsWhole) (arg12 : Memref sig .tc .vmem S1024x256 .bf16) (harg12 : arg12.IsWhole) (arg13 : Memref sig .tc .vmem S4x1x1024 .f32) (harg13 : arg13.IsWhole) (arg14 : Memref sig .tc .vmem S4x1x1024 .f32) (harg14 : arg14.IsWhole) (arg15 : Memref sig .tc .vmem S4x1x1 .f32) (harg15 : arg15.IsWhole) (arg16 : Memref sig .tc .vmem S1024x256 .bf16) (harg16 : arg16.IsWhole) (arg17 : Memref sig .tc .vmem S1x4096x64 .f32) (harg17 : arg17.IsWhole) (arg18 : Memref sig .tc .vmem S1x4096x64 .f32) (harg18 : arg18.IsWhole) (arg19 : Memref sig .tc .vmem S1280x64 .f32) (harg19 : arg19.IsWhole) (arg20 : Memref sig .tc .vmem S1280x64 .f32) (harg20 : arg20.IsWhole) (hc0 : ¬cond0 i) (hi : (i 1).val = 3) (x0 : Vec F S4x1024x64 .bf16) (x1 : Vec F S1x128x64 .bf16) (x2 : Vec F S1x1024x64 .bf16) (x3 : Vec F S1x128x64 .bf16) (x4 : Vec F S1x64x128 .bf16) (x5 : Vec F S1x64x1024 .bf16) (x6 : Vec F S1x64x128 .bf16) (x7 : Vec F S1x128x64 .bf16) (x8 : Vec F S1x1024x64 .bf16) (x9 : Vec F S1x128x64 .bf16) (x10 : Vec F S1024x256 .bf16) (x11 : Vec F S4x1x1024 .f32) (x12 : Vec F S4x1x1024 .f32) (x13 : Vec F S4x1x1 .f32) (y15 y16 : Vec F S1x4096x64 .f32)

include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13 y15 y16

set_option maxHeartbeats 4000000 in
/-- The scratch of `dk` at the end of the run. -/
theorem dkS_C :
    View.canon (kernelRun_C.sl.HS0_9 c i arg2 harg2 arg3 harg3 arg4 harg4 arg5 harg5 arg9 harg9 arg10 harg10 arg11 harg11 arg12 harg12 arg13 harg13 arg14 harg14 arg15 harg15 arg19 x0 x1 x2 x3 x7 x8 x9 x10 x11 x12 x13) = (⟨x0, x1, x2, x3, x4, x5, x6, x7, x8, x9, x10, x11, x12, x13⟩ : Ins F).dkS i := by
  unfold Ins.dkS
  iterate 8
    refine canon_accs arg19.view _ _ (by decide) ?_ rfl rfl ?_
    rotate_left
    · sl_open_run
      sl_open_pay
      conv_rhs => rw [← harg2.read_unread x0, ← harg3.read_unread x1, ← harg4.read_unread x2, ← harg5.read_unread x3, ← harg6.read_unread x4, ← harg7.read_unread x5, ← harg8.read_unread x6, ← harg9.read_unread x7, ← harg10.read_unread x8, ← harg11.read_unread x9, ← harg12.read_unread x10, ← harg13.read_unread x11, ← harg14.read_unread x12, ← harg15.read_unread x13]
      rfl
  exact canon_zero arg19.view _

set_option maxHeartbeats 4000000 in
/-- The scratch of `dv` at the end of the run. -/
theorem dvS_C :
    View.canon (kernelRun_C.sl.HS1_9 c i arg2 harg2 arg3 harg3 arg4 harg4 arg5 harg5 arg12 harg12 arg13 harg13 arg15 harg15 arg20 x0 x1 x2 x3 x10 x11 x13) = (⟨x0, x1, x2, x3, x4, x5, x6, x7, x8, x9, x10, x11, x12, x13⟩ : Ins F).dvS i := by
  unfold Ins.dvS
  iterate 8
    refine canon_accs arg20.view _ _ (by decide) ?_ rfl rfl ?_
    rotate_left
    · sl_open_run
      sl_open_pay
      conv_rhs => rw [← harg2.read_unread x0, ← harg3.read_unread x1, ← harg4.read_unread x2, ← harg5.read_unread x3, ← harg6.read_unread x4, ← harg7.read_unread x5, ← harg8.read_unread x6, ← harg9.read_unread x7, ← harg10.read_unread x8, ← harg11.read_unread x9, ← harg12.read_unread x10, ← harg13.read_unread x11, ← harg14.read_unread x12, ← harg15.read_unread x13]
      rfl
  exact canon_zero arg20.view _

set_option maxHeartbeats 8000000 in
/-- The gradient of the queries. -/
theorem dq_C (f : arg16.view.ty.Contents (Elt F)) :
    arg16.view.read (Elt F) (arg16.view.writes (Elt F) f (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13 y15 y16).1) = (⟨x0, x1, x2, x3, x4, x5, x6, x7, x8, x9, x10, x11, x12, x13⟩ : Ins F).dq i := by
  funext y
  refine View.read_writes_apply_of_pieces _ _ _ _ ?_ y (View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13 y15 y16).1 S128x64.size (by sl_kernel_rfl) y)
  unfold kernelRun_C
  dsimp only
  refine Ins.dqUpTo_all _ i ?_
  iterate 32
    refine Ins.dqUpTo_step _ i (by decide) ?_ rfl ?_
    rotate_left
    · sl_open_run
      sl_open_pay
      conv_rhs => rw [← harg2.read_unread x0, ← harg3.read_unread x1, ← harg4.read_unread x2, ← harg5.read_unread x3, ← harg6.read_unread x4, ← harg7.read_unread x5, ← harg8.read_unread x6, ← harg9.read_unread x7, ← harg10.read_unread x8, ← harg11.read_unread x9, ← harg12.read_unread x10, ← harg13.read_unread x11, ← harg14.read_unread x12, ← harg15.read_unread x13]
      rfl
  exact Ins.dqUpTo_zero _ i

set_option maxHeartbeats 4000000 in
/-- The result of `dk`. -/
theorem dk_C  :
    arg17.view.read (Elt F) (arg17.view.writes (Elt F) (harg17.unread y15) (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13 y15 y16).2.1) = dkOut i ((⟨x0, x1, x2, x3, x4, x5, x6, x7, x8, x9, x10, x11, x12, x13⟩ : Ins F).dkS i) y15 := by
  have hS := dkS_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13 y15 y16
  have g0 : arg17.view.read (Elt F) (arg17.view.writes (Elt F) (harg17.unread y15) []) = y15 := harg17.read_unread _
  have g1 : arg17.view.read (Elt F) (arg17.view.writes (Elt F) (harg17.unread y15) (kernelRun_C.sl.H15_1 c i arg2 harg2 arg3 harg3 arg4 harg4 arg5 harg5 arg9 harg9 arg10 harg10 arg11 harg11 arg12 harg12 arg13 harg13 arg14 harg14 arg15 harg15 arg17 harg17 arg19 x0 x1 x2 x3 x7 x8 x9 x10 x11 x12 x13 y15)) = (add128 (k0_off1 i) (k0_off1_inb i) y15 (mulf (View.ld (Val := Elt F) ((⟨x0, x1, x2, x3, x4, x5, x6, x7, x8, x9, x10, x11, x12, x13⟩ : Ins F).dkS i) (Rect.unit ![0, 0] S128x64.size inb_S1280x64_S128x64_0_0)) (broadcast S128x64 (Named.named κ "inv_scale_log2e" 0x40B17218#32)))) := by
    unfold kernelRun_C.sl.H15_1
    refine read_add128 arg17.view (harg17.unread y15) (harg17.unread y15) (g0) g0 ?_
    unfold kernelRun_C.sl.v711
    rw [View.readCov_eq_canon', hS]
    rfl
  have g2 : arg17.view.read (Elt F) (arg17.view.writes (Elt F) (harg17.unread y15) (kernelRun_C.sl.H15_2 c i arg2 harg2 arg3 harg3 arg4 harg4 arg5 harg5 arg9 harg9 arg10 harg10 arg11 harg11 arg12 harg12 arg13 harg13 arg14 harg14 arg15 harg15 arg17 harg17 arg19 x0 x1 x2 x3 x7 x8 x9 x10 x11 x12 x13 y15)) = (add1024 (k0_off2 i) (k0_off2_inb i) (add128 (k0_off1 i) (k0_off1_inb i) y15 (mulf (View.ld (Val := Elt F) ((⟨x0, x1, x2, x3, x4, x5, x6, x7, x8, x9, x10, x11, x12, x13⟩ : Ins F).dkS i) (Rect.unit ![0, 0] S128x64.size inb_S1280x64_S128x64_0_0)) (broadcast S128x64 (Named.named κ "inv_scale_log2e" 0x40B17218#32)))) (mulf (View.ld (Val := Elt F) ((⟨x0, x1, x2, x3, x4, x5, x6, x7, x8, x9, x10, x11, x12, x13⟩ : Ins F).dkS i) (Rect.unit ![128, 0] S1024x64.size inb_S1280x64_S1024x64_128_0)) (broadcast S1024x64 (Named.named κ "inv_scale_log2e" 0x40B17218#32)))) := by
    unfold kernelRun_C.sl.H15_2
    refine read_add1024 arg17.view (harg17.unread y15) (harg17.unread y15) (g1) g1 ?_
    unfold kernelRun_C.sl.v730 kernelRun_C.sl.v732
    rw [View.readCov_eq_canon', hS]
    rfl
  refine (read_add128 arg17.view (harg17.unread y15) (harg17.unread y15) g2 g2 ?_ )
  unfold kernelRun_C.sl.v751 kernelRun_C.sl.v753
  rw [View.readCov_eq_canon', hS]
  rfl

set_option maxHeartbeats 4000000 in
/-- The result of `dv`. -/
theorem dv_C  :
    arg18.view.read (Elt F) (arg18.view.writes (Elt F) (harg18.unread y16) (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13 y15 y16).2.2.val) = dvOut i ((⟨x0, x1, x2, x3, x4, x5, x6, x7, x8, x9, x10, x11, x12, x13⟩ : Ins F).dvS i) y16 := by
  have hS := dvS_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hi x0 x1 x2 x3 x4 x5 x6 x7 x8 x9 x10 x11 x12 x13 y15 y16
  have g0 : arg18.view.read (Elt F) (arg18.view.writes (Elt F) (harg18.unread y16) []) = y16 := harg18.read_unread _
  have g1 : arg18.view.read (Elt F) (arg18.view.writes (Elt F) (harg18.unread y16) (kernelRun_C.sl.H16_1 c i arg2 harg2 arg3 harg3 arg4 harg4 arg5 harg5 arg12 harg12 arg13 harg13 arg15 harg15 arg18 harg18 arg20 x0 x1 x2 x3 x10 x11 x13 y16)) = (add128 (k0_off1 i) (k0_off1_inb i) y16 (View.ld (Val := Elt F) ((⟨x0, x1, x2, x3, x4, x5, x6, x7, x8, x9, x10, x11, x12, x13⟩ : Ins F).dvS i) (Rect.unit ![0, 0] S128x64.size inb_S1280x64_S128x64_0_0))) := by
    unfold kernelRun_C.sl.H16_1
    refine read_add128 arg18.view (harg18.unread y16) (harg18.unread y16) (g0) g0 ?_
    unfold kernelRun_C.sl.r_71 kernelRun_C.sl.v722
    rw [View.readCov_eq_canon', hS]
    rfl
  have g2 : arg18.view.read (Elt F) (arg18.view.writes (Elt F) (harg18.unread y16) (kernelRun_C.sl.H16_2 c i arg2 harg2 arg3 harg3 arg4 harg4 arg5 harg5 arg12 harg12 arg13 harg13 arg15 harg15 arg18 harg18 arg20 x0 x1 x2 x3 x10 x11 x13 y16)) = (add1024 (k0_off2 i) (k0_off2_inb i) (add128 (k0_off1 i) (k0_off1_inb i) y16 (View.ld (Val := Elt F) ((⟨x0, x1, x2, x3, x4, x5, x6, x7, x8, x9, x10, x11, x12, x13⟩ : Ins F).dvS i) (Rect.unit ![0, 0] S128x64.size inb_S1280x64_S128x64_0_0))) (View.ld (Val := Elt F) ((⟨x0, x1, x2, x3, x4, x5, x6, x7, x8, x9, x10, x11, x12, x13⟩ : Ins F).dvS i) (Rect.unit ![128, 0] S1024x64.size inb_S1280x64_S1024x64_128_0))) := by
    unfold kernelRun_C.sl.H16_2
    refine read_add1024 arg18.view (harg18.unread y16) (harg18.unread y16) (g1) g1 ?_
    unfold kernelRun_C.sl.v743
    rw [View.readCov_eq_canon', hS]
    rfl
  refine (read_add128 arg18.view (harg18.unread y16) (harg18.unread y16) g2 g2 ?_ )
  unfold kernelRun_C.sl.v762 kernelRun_C.sl.v764
  rw [View.readCov_eq_canon', hS]
  rfl

end Cert.KernelIdeal.Hand

end
-- ==== Proof.Body.lean ====
module

public import Idealize.ShloMosaic.Lib.Claim
public import proofs.«01_k».proof.Proof.Contents
public import proofs.«01_k».proof.Proof.ReadA
public import proofs.«01_k».proof.Proof.ReadB
public import proofs.«01_k».proof.Proof.ReadC

/-! The body at every point, and the run of the whole program. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)

/-- The branch is taken at a head's first block of rows. -/
theorem cond0_iff : ∀ t : Fin cfg0.N, cond0 (grid0.coords t) ↔ t.val % 4 = 0 :=
  (by decide +kernel : ∀ t : Fin grid0.N, cond0 (grid0.coords t) ↔ t.val % 4 = 0)
/-- The block of rows of a point. -/
theorem coord1 : ∀ t : Fin cfg0.N, (grid0.coords t 1).val = t.val % 4 :=
  (by decide +kernel : ∀ t : Fin grid0.N, (grid0.coords t 1).val = t.val % 4)

/-- A memref's elements after stores, owned at what reads through them. -/
theorem owns_read (c : Dev nD) {s : Shape} {e : EltTy} (w : Memref sig .tc .vmem s e) (f : w.view.ty.Contents (Elt F)) (X : s.Idx → Elt F e)
    (h : w.view.read (Elt F) f = X) : (w.view.loc (c : Thread nD τ) ↦[w.view.set]{fullShare} f : sProp 𝕄) ⊢ owns (c : Thread nD τ) w fullShare X := by
  subst h; exact owns_intro (c : Thread nD τ) w fullShare f

abbrev ms0 (t : Fin cfg0.N) : Memref sig .tc .vmem S4x1024x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x64 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x64 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128x64 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024x64 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128x64 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1024x256 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S4x1x1024 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S4x1x1024 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S4x1x1 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1024x256 .bf16 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x4096x64 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x4096x64 .f32 := win0_16.stage (cfg0.slots t 16)
abbrev hs16 (t : Fin cfg0.N) : (ms16 t).IsWhole := hstage0_16 ((cfg0.slots t 16).cast nbuf0_16)
abbrev sc0 : Memref sig .tc .vmem S1280x64 .f32 := Memref.whole cc0_scratch0
abbrev sc1 : Memref sig .tc .vmem S1280x64 .f32 := Memref.whole cc0_scratch1

/-- The class invariant is the two scratches and the generator. -/
theorem PhiA_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t))

set_option maxHeartbeats 4000000 in
/-- The body at a head's first point. -/
theorem sound_A (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, dkAt_first m c t h0, dvAt_first m c t h0]
  rw [show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) ((cond0_iff t).mpr h0) ((coord1 t).trans h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [HS0]; · iexact HS0
  isplitl [HS1]; · iexact HS1
  iintro ⟨H0, H1, H2, H3, H4, H5, H6, H7, H8, H9, H10, H11, H12, H13, ⟨%f14, H14⟩, ⟨%f15, H15⟩, ⟨%f16, H16⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iapply (owns_read c (ms14 t) _ _ (dq_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) ((cond0_iff t).mpr h0) ((coord1 t).trans h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) f14))
    iexact H14
  isplitl [H15]
  · iapply (owns_read c (ms15 t) _ _ (dk_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) ((cond0_iff t).mpr h0) ((coord1 t).trans h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) f15))
    iexact H15
  iapply (owns_read c (ms16 t) _ _ (dv_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) ((cond0_iff t).mpr h0) ((coord1 t).trans h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) f16))
  iexact H16

set_option maxHeartbeats 4000000 in
/-- The body at a point in the middle. -/
theorem sound_B (c : Dev nD) (t : Fin cfg0.N) (h0 : ¬t.val % 4 = 0) (h3 : ¬t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_15 m c t h0, before_16 m c t h0]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, dkAt_next m c t h0, dvAt_next m c t h0]
  rw [show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) (fun h => h0 ((cond0_iff t).mp h)) (by rw [coord1]; omega) (by rw [coord1]; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (dkAt m c (t.val - 1)) (dvAt m c (t.val - 1))).2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, ⟨%f14, H14⟩, H15, H16, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iapply (owns_read c (ms14 t) _ _ (dq_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) (fun h => h0 ((cond0_iff t).mp h)) (by rw [coord1]; omega) (by rw [coord1]; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (dkAt m c (t.val - 1)) (dvAt m c (t.val - 1)) f14))
    iexact H14
  isplitl [H15]
  · iapply (owns_read c (ms15 t) _ _ (dk_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) (fun h => h0 ((cond0_iff t).mp h)) (by rw [coord1]; omega) (by rw [coord1]; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (dkAt m c (t.val - 1)) (dvAt m c (t.val - 1))))
    iexact H15
  iapply (owns_read c (ms16 t) _ _ (dv_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) (fun h => h0 ((cond0_iff t).mp h)) (by rw [coord1]; omega) (by rw [coord1]; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (dkAt m c (t.val - 1)) (dvAt m c (t.val - 1))))
  iexact H16

set_option maxHeartbeats 4000000 in
/-- The body at a head's last point. -/
theorem sound_C (c : Dev nD) (t : Fin cfg0.N) (h3 : t.val % 4 = 3) :
    bodyPre m c t ⊢ wp frame (wpE (defs₀ (F := F)) Variants.none c none) Set.univ (bodyAt0 t) (fun _ => bodyPost m c t) := by
  have h0 : ¬t.val % 4 = 0 := by omega
  unfold bodyPre bodyPost bodyAt0
  simp only [before_0, before_1, before_2, before_3, before_4, before_5, before_6, before_7, before_8, before_9, before_10, before_11, before_12, before_13, before_15 m c t h0, before_16 m c t h0]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, dkAt_next m c t h0, dvAt_next m c t h0]
  rw [show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) (fun h => by have := (cond0_iff t).mp h; omega) ((coord1 t).trans h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (dkAt m c (t.val - 1)) (dvAt m c (t.val - 1))).2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, ⟨%f14, H14⟩, H15, H16, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iapply (owns_read c (ms14 t) _ _ (dq_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) (fun h => by have := (cond0_iff t).mp h; omega) ((coord1 t).trans h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (dkAt m c (t.val - 1)) (dvAt m c (t.val - 1)) f14))
    iexact H14
  isplitl [H15]
  · iapply (owns_read c (ms15 t) _ _ (dk_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) (fun h => by have := (cond0_iff t).mp h; omega) ((coord1 t).trans h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (dkAt m c (t.val - 1)) (dvAt m c (t.val - 1))))
    iexact H15
  iapply (owns_read c (ms16 t) _ _ (dv_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _) (fun h => by have := (cond0_iff t).mp h; omega) ((coord1 t).trans h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (dkAt m c (t.val - 1)) (dvAt m c (t.val - 1))))
  iexact H16

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_A m c t h0
  · by_cases h3 : t.val % 4 = 3
    · exact sound_C m c t h3
    · exact sound_B m c t h0 h3

theorem defs₀_row (t : Fin cfg0.N) : defs₀ (F := F) .tc cfg0.body (cfg0.bodyArgs t (cfg0.slots t)) = bodyAt0 t := by
  unfold defs₀; rw [Defs.onTc_tc]

/-- The library's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to its end; every window's array ends at what the proof data say, every counter at zero. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Hand

end
-- ==== Proof.FrameKernel.lean ====
module

public import proofs.«01_k».proof.Defs
public import proofs.«01_k».proof.Proof.Body
public import proofs.«01_k».proof.Proof.Gen.Kernel

/-! The frame of the kernel as printed: over the machine's numbers a named constant is the constant itself, so the run of `Body` is the run of the kernel. -/

@[expose] public section

set_option maxRecDepth 100000

noncomputable section

namespace Cert.Hand

open Idealize.ShloMosaic Idealize.SL.Sem

/-- Over the machine's numbers a name is read as the number it names. -/
local instance : Named Bits where
  named _ _ {φ} bits := Scalar.ofBits (F := Bits) φ bits

set_option maxHeartbeats 0 in
/-- The two bodies are one. -/
theorem body_eq : @Cert.Kernel.cc0_attn_c_bwd Bits _ _ = @Cert.KernelIdeal.cc0_attn_c_bwd Bits _ _ _ := by
  unfold Cert.Kernel.cc0_attn_c_bwd Cert.KernelIdeal.cc0_attn_c_bwd
  rfl

set_option maxHeartbeats 0 in
/-- And so are the tables of bodies. -/
theorem defs₀_eq : @Cert.Kernel.defs₀ Bits _ _ = @Cert.KernelIdeal.defs₀ Bits _ _ _ := by
  unfold Cert.Kernel.defs₀ Cert.KernelIdeal.defs₀
  refine congrArg Defs.onTc (funext fun l => funext fun x => ?_)
  match l, x with
  | 0, (t, s) =>
    dsimp only
    rw [body_eq]
    rfl

set_option maxHeartbeats 0 in
theorem defs_eq : @Cert.Kernel.defs Bits _ _ = @Cert.KernelIdeal.defs Bits _ _ _ :=
  congrArg (Pipeline.defs (@Cert.KernelIdeal.pcfgs Bits _)) defs₀_eq

set_option maxHeartbeats 0 in
theorem part0_eq : @Cert.Kernel.main_part0 Bits _ _ = @Cert.KernelIdeal.main_part0 Bits _ _ := by
  unfold Cert.Kernel.main_part0 Cert.KernelIdeal.main_part0
  rfl

set_option maxHeartbeats 0 in
theorem part1_eq : @Cert.Kernel.main_part1 Bits _ _ = @Cert.KernelIdeal.main_part1 Bits _ _ := by
  unfold Cert.Kernel.main_part1 Cert.KernelIdeal.main_part1
  rfl

set_option maxHeartbeats 0 in
/-- The host code is the same. -/
theorem main_eq : @Cert.Kernel.main Bits _ _ = @Cert.KernelIdeal.main Bits _ _ :=
  congrArg₂ (fun a b => fun d => do a d; b d) part0_eq part1_eq

/-- A run of one program is a run of an equal one. -/
theorem transfer {D M} (hD : D = @Cert.KernelIdeal.defs Bits _ _ _) (hM : M = @Cert.KernelIdeal.main Bits _ _) {s Q}
    (h : θ_run (@Cert.KernelIdeal.defs Bits _ _ _) (onTc (τ := Cert.KernelIdeal.τ) (@Cert.KernelIdeal.main Bits _ _)) s Q) :
    θ_run D (onTc (τ := Cert.KernelIdeal.τ) M) s Q := by
  subst hD hM
  exact h

set_option maxHeartbeats 0 in
/-- The kernel as printed ends without a fault, its arguments unchanged and its semaphores at zero. -/
theorem frame_kernel : Cert.quiescent_Kernel := fun m ρ _ =>
  transfer defs_eq main_eq (Cert.KernelIdeal.Hand.frame (F := Bits) m ρ)

end Cert.Hand

end
-- ==== Proof.Spec.lean ====
module

public import Idealize.ShloMosaic.Lib.Pointwise

/-! The windowed attention of reference.py and its gradient, in real numbers: four key heads of four query heads each, 4096
positions, keys at most 128 positions away, a linear bias, one sink logit a head. -/

@[expose] public section

noncomputable section

namespace Cert.Attn

/-- The five arguments, entry by entry: `q`, `ct` by position, key head, query head and feature; `k`, `v` by key head. -/
structure Args where
  q : Fin 4096 → Fin 4 → Fin 4 → Fin 64 → ℝ
  k : Fin 4 → Fin 4096 → Fin 64 → ℝ
  v : Fin 4 → Fin 4096 → Fin 64 → ℝ
  sink : Fin 4 → Fin 4 → ℝ
  ct : Fin 4096 → Fin 4 → Fin 4 → Fin 64 → ℝ

/-- The distance of two positions. -/
def dist (s n : Fin 4096) : ℤ := |(n.val : ℤ) - (s.val : ℤ)|

/-- Whether a query at `s` sees the key at `n`. -/
def near (s n : Fin 4096) : Prop := dist s n ≤ 128

instance (s n : Fin 4096) : Decidable (near s n) := inferInstanceAs (Decidable (dist s n ≤ 128))

theorem near_iff (s n : Fin 4096) : near s n ↔ n.val ≤ s.val + 128 ∧ s.val ≤ n.val + 128 := by
  unfold near dist
  rw [abs_le]
  omega

theorem near_self (s : Fin 4096) : near s s := by rw [near_iff]; omega

/-- The slope of a head's bias. -/
def slope (g h : Fin 4) : ℝ := Real.rpow 2 (-8 * (1 + ((g.val * 4 + h.val : ℕ) : ℝ)) * (1 / 16))

namespace Args

variable (A : Args)

/-- The score of a key for a query. -/
def score (g h : Fin 4) (s n : Fin 4096) : ℝ := (∑ d, A.k g n d * A.q s g h d) * (1 / 8) + -slope g h * (dist s n : ℝ)

/-- The scores with the keys out of the window at minus infinity. -/
def scoreE (g h : Fin 4) (s n : Fin 4096) : EReal := if near s n then (A.score g h s n : EReal) else ⊥

theorem nb_nonempty (s : Fin 4096) : (Finset.univ.filter (near s)).Nonempty := ⟨s, by simp [near_self]⟩

/-- The greatest score of a query. -/
def rmax (g h : Fin 4) (s : Fin 4096) : ℝ := (Finset.univ.filter (near s)).sup' (nb_nonempty s) (A.score g h s)

/-- The greater of it and the sink's logit. -/
def top (g h : Fin 4) (s : Fin 4096) : ℝ := max (A.rmax g h s) (A.sink g h)

/-- The exponential of a key's score, zero out of the window. -/
def e (g h : Fin 4) (s n : Fin 4096) : ℝ := if near s n then Real.exp (A.score g h s n - A.top g h s) else 0

/-- The exponential of the sink's logit. -/
def es (g h : Fin 4) (s : Fin 4096) : ℝ := Real.exp (A.sink g h - A.top g h s)

/-- The softmax's denominator. -/
def Z (g h : Fin 4) (s : Fin 4096) : ℝ := (∑ n, A.e g h s n) + A.es g h s

/-- The gradient by the probabilities. -/
def dP (g h : Fin 4) (s n : Fin 4096) : ℝ := ∑ d, A.ct s g h d * A.v g n d

/-- Minus the row's sum of that gradient times the probabilities over the denominator: the gradient by the denominator. -/
def cc (g h : Fin 4) (s : Fin 4096) : ℝ := -∑ n, A.dP g h s n * (1 * (1 / (A.Z g h s * A.Z g h s))) * A.e g h s n

/-- The gradient by the scores. -/
def dS (g h : Fin 4) (s n : Fin 4096) : ℝ := (A.dP g h s n * (1 / A.Z g h s) + A.cc g h s) * A.e g h s n

/-- The gradients. -/
def dV (g : Fin 4) (n : Fin 4096) (d : Fin 64) : ℝ := ∑ h, ∑ s, A.ct s g h d * (A.e g h s n * (1 / A.Z g h s))
@[inherit_doc dV]
def dK (g : Fin 4) (n : Fin 4096) (d : Fin 64) : ℝ := ∑ h, ∑ s, A.dS g h s n * (1 / 8) * A.q s g h d
@[inherit_doc dV]
def dQ (s : Fin 4096) (g h : Fin 4) (d : Fin 64) : ℝ := ∑ n, A.dS g h s n * (1 / 8) * A.k g n d

theorem e_nonneg (g h : Fin 4) (s n : Fin 4096) : 0 ≤ A.e g h s n := by
  unfold e; split
  · exact (Real.exp_pos _).le
  · exact le_refl _

theorem e_far {g h : Fin 4} {s n : Fin 4096} (hn : ¬near s n) : A.e g h s n = 0 := if_neg hn

theorem dS_far {g h : Fin 4} {s n : Fin 4096} (hn : ¬near s n) : A.dS g h s n = 0 := by
  unfold dS; rw [A.e_far hn, mul_zero]

theorem es_pos (g h : Fin 4) (s : Fin 4096) : 0 < A.es g h s := Real.exp_pos _

theorem Z_pos (g h : Fin 4) (s : Fin 4096) : 0 < A.Z g h s :=
  add_pos_of_nonneg_of_pos (Finset.sum_nonneg fun n _ => A.e_nonneg g h s n) (A.es_pos g h s)

theorem Z_ne (g h : Fin 4) (s : Fin 4096) : A.Z g h s ≠ 0 := (A.Z_pos g h s).ne'

/-- The row's gradients by the scores and by the sink's logit cancel: adding a number to all of them changes nothing. -/
theorem sum_dS (g h : Fin 4) (s : Fin 4096) : ∑ n, A.dS g h s n = -(A.cc g h s * A.es g h s) := by
  have hz := A.Z_ne g h s
  have h1 : ∑ n, A.dS g h s n = (∑ n, A.dP g h s n * (1 / A.Z g h s) * A.e g h s n) + A.cc g h s * ∑ n, A.e g h s n := by
    rw [Finset.mul_sum, ← Finset.sum_add_distrib]
    exact Finset.sum_congr rfl fun n _ => by unfold dS; ring
  have h2 : (∑ n, A.dP g h s n * (1 / A.Z g h s) * A.e g h s n) = -(A.cc g h s * A.Z g h s) := by
    unfold cc
    rw [neg_mul, neg_neg, Finset.sum_mul]
    exact Finset.sum_congr rfl fun n _ => by field_simp
  have h3 : ∑ n, A.e g h s n = A.Z g h s - A.es g h s := by unfold Z; ring
  rw [h1, h2, h3]; ring

/-- The row sum `∑ ct · o` of the attention's output. -/
def delta (g h : Fin 4) (s : Fin 4096) : ℝ := ∑ d, A.ct s g h d * ∑ n, A.v g n d * (A.e g h s n * (1 / A.Z g h s))

/-- The gradient by the scores as the flash form has it. -/
theorem dS_eq (g h : Fin 4) (s n : Fin 4096) :
    A.dS g h s n = A.e g h s n * (1 / A.Z g h s) * (A.dP g h s n - A.delta g h s) := by
  have hz := A.Z_ne g h s
  have h1 : A.delta g h s = ∑ n, A.dP g h s n * (A.e g h s n * (1 / A.Z g h s)) := by
    unfold delta dP
    simp only [Finset.mul_sum, Finset.sum_mul]
    rw [Finset.sum_comm]
    exact Finset.sum_congr rfl fun n _ => Finset.sum_congr rfl fun d _ => by ring
  have h2 : A.cc g h s = -(A.delta g h s * (1 / A.Z g h s)) := by
    rw [h1]
    unfold cc
    rw [Finset.sum_mul]
    exact congrArg _ (Finset.sum_congr rfl fun n _ => by field_simp)
  unfold dS
  rw [h2]; ring

/-- The greatest of the scores, over the extended reals. -/
theorem fold_max (g h : Fin 4) (s : Fin 4096) : (Finset.univ : Finset (Fin 4096)).fold max ⊥ (A.scoreE g h s) = (A.rmax g h s : EReal) := by
  apply le_antisymm
  · rw [Finset.fold_max_le]
    refine ⟨bot_le, fun n _ => ?_⟩
    unfold scoreE
    split
    · rename_i hn
      exact EReal.coe_le_coe_iff.mpr (Finset.le_sup' (A.score g h s) (by simpa using hn))
    · exact bot_le
  · obtain ⟨n, hn, e⟩ := Finset.exists_mem_eq_sup' (nb_nonempty s) (A.score g h s)
    rw [Finset.le_fold_max]
    refine Or.inr ⟨n, Finset.mem_univ _, ?_⟩
    have : near s n := by simpa using hn
    unfold scoreE rmax
    rw [if_pos this, e]

/-- Some key attains it. -/
theorem exists_rmax (g h : Fin 4) (s : Fin 4096) : ∃ n, A.scoreE g h s n = (A.rmax g h s : EReal) := by
  obtain ⟨n, hn, e⟩ := Finset.exists_mem_eq_sup' (nb_nonempty s) (A.score g h s)
  have : near s n := by simpa using hn
  exact ⟨n, by unfold scoreE rmax; rw [if_pos this, e]⟩

end Args

end Cert.Attn

end
-- ==== Proof.Words.lean ====
module

public import Idealize.ShloMosaic.Lib.Pointwise

/-! The masks' integer words, and the float constants of the two programs as real numbers. -/

@[expose] public section

noncomputable section

namespace Cert.Attn

open Idealize.ShloMosaic

theorem toInt_ofNat {x : ℕ} (h : x < 2 ^ 31) : (BitVec.ofNat 32 x).toInt = x := by
  rw [BitVec.toInt_eq_toNat_cond, BitVec.toNat_ofNat]
  rw [Nat.mod_eq_of_lt (by omega)]
  split <;> omega

theorem toInt_sub {a b : BitVec 32} (ha : |a.toInt| < 2 ^ 29) (hb : |b.toInt| < 2 ^ 29) : (a - b).toInt = a.toInt - b.toInt := by
  rw [abs_lt] at ha hb
  rw [BitVec.toInt_sub]
  exact Int.bmod_eq_of_le (by omega) (by omega)

theorem toInt_absi {a : BitVec 32} (ha : |a.toInt| < 2 ^ 30) : (IntOp.absi a).toInt = |a.toInt| := by
  rw [abs_lt] at ha
  unfold IntOp.absi
  have hm : a.msb = decide (a.toInt < 0) := BitVec.msb_eq_toInt
  by_cases h : a.toInt < 0
  · rw [hm, decide_eq_true h, if_pos rfl, BitVec.toInt_neg, abs_of_neg h]
    exact Int.bmod_eq_of_le (by omega) (by omega)
  · rw [hm, decide_eq_false h, if_neg Bool.false_ne_true, abs_of_nonneg (by omega)]

/-- The printed distance of two small positions. -/
theorem absi_subi {x y : ℕ} (hx : x < 2 ^ 20) (hy : y < 2 ^ 20) :
    (IntOp.absi (IntOp.subi (BitVec.ofNat 32 x) (BitVec.ofNat 32 y))).toInt = |(x : ℤ) - (y : ℤ)| := by
  have ex := toInt_ofNat (x := x) (by omega)
  have ey := toInt_ofNat (x := y) (by omega)
  have e : (IntOp.subi (BitVec.ofNat 32 x) (BitVec.ofNat 32 y)).toInt = (x : ℤ) - y := by
    unfold IntOp.subi
    rw [toInt_sub (by rw [ex, abs_lt]; omega) (by rw [ey, abs_lt]; omega), ex, ey]
  rw [toInt_absi (by rw [e, abs_lt]; omega), e]

/-- The printed distance of a row less a constant and a column. -/
theorem absi_subi_subi {x y z : ℕ} (hx : x < 2 ^ 20) (hy : y < 2 ^ 20) (hz : z < 2 ^ 20) :
    (IntOp.absi (IntOp.subi (IntOp.subi (BitVec.ofNat 32 x) (BitVec.ofNat 32 y)) (BitVec.ofNat 32 z))).toInt = |(x : ℤ) - y - z| := by
  have ex := toInt_ofNat (x := x) (by omega)
  have ey := toInt_ofNat (x := y) (by omega)
  have ez := toInt_ofNat (x := z) (by omega)
  have e : (IntOp.subi (BitVec.ofNat 32 x) (BitVec.ofNat 32 y)).toInt = (x : ℤ) - y := by
    unfold IntOp.subi
    rw [toInt_sub (by rw [ex, abs_lt]; omega) (by rw [ey, abs_lt]; omega), ex, ey]
  have e2 : (IntOp.subi (IntOp.subi (BitVec.ofNat 32 x) (BitVec.ofNat 32 y)) (BitVec.ofNat 32 z)).toInt = (x : ℤ) - y - z := by
    rw [show IntOp.subi (IntOp.subi (BitVec.ofNat 32 x) (BitVec.ofNat 32 y)) (BitVec.ofNat 32 z)
        = IntOp.subi (BitVec.ofNat 32 x) (BitVec.ofNat 32 y) - BitVec.ofNat 32 z from rfl,
      toInt_sub (by rw [e, abs_lt]; omega) (by rw [ez, abs_lt]; omega), e, ez]
  rw [toInt_absi (by rw [e2, abs_lt]; omega), e2]

/-- A printed signed comparison, read. -/
theorem cmpi_sle {a b : BitVec 32} {x y : ℤ} (ha : a.toInt = x) (hb : b.toInt = y) :
    IntOp.cmpi .sle a b = if x ≤ y then 1#1 else 0#1 := by
  subst ha hb
  unfold IntOp.cmpi
  simp only [BitVec.sle]
  by_cases h : a.toInt ≤ b.toInt <;> simp [h]

theorem cmpi_slt {a b : BitVec 32} {x y : ℤ} (ha : a.toInt = x) (hb : b.toInt = y) :
    IntOp.cmpi .slt a b = if x < y then 1#1 else 0#1 := by
  subst ha hb
  unfold IntOp.cmpi
  simp only [BitVec.slt]
  by_cases h : a.toInt < b.toInt <;> simp [h]

theorem cmpi_sge {a b : BitVec 32} {x y : ℤ} (ha : a.toInt = x) (hb : b.toInt = y) :
    IntOp.cmpi .sge a b = if y ≤ x then 1#1 else 0#1 := by
  subst ha hb
  unfold IntOp.cmpi
  simp only [BitVec.sle]
  by_cases h : b.toInt ≤ a.toInt <;> simp [h]

theorem select_if {α : Type} (p : Prop) [Decidable p] (x y : α) : Scalar.select (if p then 1#1 else 0#1) x y = if p then x else y := by
  unfold Scalar.select
  by_cases h : p <;> simp [h]

/-! ### The constants -/

theorem c_eighth : Ideal.ofBits .f32 0x3E000000#32 = ((1 / 8 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_neg8 : Ideal.ofBits .f32 0xC1000000#32 = ((-8 : ℝ) : EReal) := by
  simp [Ideal.ofBits, Ideal.ieee, -EReal.coe_mul]; norm_num
theorem c_16 : Ideal.ofBits .f32 0x41800000#32 = ((16 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_bot : Ideal.ofBits .f32 0xFF800000#32 = ⊥ := by
  simp [Ideal.ofBits, Ideal.ieee]

theorem div_real {x y : ℝ} (h : y ≠ 0) : Ideal.div (x : EReal) (y : EReal) = ((x * (1 / y) : ℝ) : EReal) := by
  rw [Ideal.div_coe h, ← EReal.coe_mul]

theorem coe_sum {ι : Type} (s : Finset ι) (f : ι → ℝ) : (∑ i ∈ s, (f i : EReal)) = ((∑ i ∈ s, f i : ℝ) : EReal) := by
  induction s using Finset.cons_induction with
  | empty => simp
  | cons a s h ih => rw [Finset.sum_cons, Finset.sum_cons, ih, EReal.coe_add]

end Cert.Attn

end
-- ==== Proof.BlockValue.lean ====
module

public import proofs.«01_k».proof.Proof.Blocks
public import proofs.«01_k».proof.Proof.Spec
public import proofs.«01_k».proof.Proof.Words

/-! What a grid point computes, in real numbers, when its blocks hold the numbers of key head `g` and of the `i`-th 1024
queries: probabilities and gradients of `Spec`, zero in the rows that stand before the first key or after the last. -/

@[expose] public section

set_option maxRecDepth 16384

noncomputable section

namespace Cert.Attn

/-- The key in row `r` of the 1280 rows of point `i`: at the array's ends the edge block is read twice. -/
def keyN (i r : ℕ) : ℕ := if r < 128 then 128 * (8 * i - 1) + r else if r < 1152 then 1024 * i + (r - 128) else 128 * min 31 (8 * i + 8) + (r - 1152)

theorem keyN_lt (i : Fin 4) (r : Fin 1280) : keyN i.val r.val < 4096 := by
  have := i.isLt
  have := r.isLt
  unfold keyN
  split
  · omega
  · split <;> omega

@[inherit_doc keyN]
def key (i : Fin 4) (r : Fin 1280) : Fin 4096 := ⟨keyN i.val r.val, keyN_lt i r⟩

/-- Whether that row lies in the array. -/
def inside (i : Fin 4) (r : Fin 1280) : Prop := 128 ≤ 1024 * i.val + r.val ∧ 1024 * i.val + r.val < 4224

instance (i : Fin 4) (r : Fin 1280) : Decidable (inside i r) := inferInstanceAs (Decidable (_ ∧ _))

theorem key_val {i : Fin 4} {r : Fin 1280} (h : inside i r) : (key i r).val + 128 = 1024 * i.val + r.val := by
  have := i.isLt
  have := r.isLt
  unfold inside at h
  unfold key keyN
  dsimp only
  split
  · omega
  · split <;> omega

/-- A number for every key, read in row `r`: zero out of the array. -/
def row (i : Fin 4) (r : Fin 1280) (f : Fin 4096 → ℝ) : ℝ := if inside i r then f (key i r) else 0

theorem row_eq (i : Fin 4) (r : Fin 1280) (f : Fin 4096 → ℝ) : row i r f = ∑ n, if n.val + 128 = 1024 * i.val + r.val then f n else 0 := by
  unfold row
  split
  · rename_i h
    have hk := key_val h
    rw [Finset.sum_eq_single (key i r)]
    · rw [if_pos hk]
    · intro n _ hn
      rw [if_neg fun e => hn (Fin.ext (by omega))]
    · intro hh; exact absurd (Finset.mem_univ _) hh
  · rename_i h
    symm
    refine Finset.sum_eq_zero fun n _ => if_neg fun e => h ?_
    have := n.isLt
    unfold inside
    omega

/-- Row `r` of block `u`'s 384 rows, among the point's 1280. -/
def rowU (u : Fin 8) (r : Fin 384) : Fin 1280 := ⟨128 * u.val + r.val, by omega⟩

/-- Query `x` of block `u` of point `i`. -/
def qry (i : Fin 4) (u : Fin 8) (x : Fin 128) : Fin 4096 := ⟨1024 * i.val + 128 * u.val + x.val, by omega⟩

/-- The rows of a block reach every key that its queries see. -/
theorem sum_row (i : Fin 4) (u : Fin 8) (x : Fin 128) (f : Fin 4096 → ℝ) (hf : ∀ n, ¬near (qry i u x) n → f n = 0) :
    ∑ r : Fin 384, row i (rowU u r) f = ∑ n, f n := by
  simp only [row_eq]
  rw [Finset.sum_comm]
  refine Finset.sum_congr rfl fun n _ => ?_
  have hq : (qry i u x).val = 1024 * i.val + 128 * u.val + x.val := rfl
  by_cases hn : near (qry i u x) n
  · rw [near_iff] at hn
    have hlt : n.val + 128 - (1024 * i.val + 128 * u.val) < 384 := by omega
    rw [Finset.sum_eq_single ⟨n.val + 128 - (1024 * i.val + 128 * u.val), hlt⟩]
    · exact if_pos (by simp only [rowU]; omega)
    · intro r _ hr
      refine if_neg fun e => hr (Fin.ext ?_)
      simp only [rowU] at e
      show r.val = n.val + 128 - (1024 * i.val + 128 * u.val)
      omega
    · intro hh; exact absurd (Finset.mem_univ _) hh
  · rw [hf n hn]
    exact Finset.sum_eq_zero fun r _ => ite_self _

/-- What a query is multiplied by. -/
def qscale : ℝ := 1 / 8 * (1 / Real.log 2)

end Cert.Attn

namespace Cert.Attn

theorem inside_iff (i : Fin 4) (u : Fin 8) (r : Fin 384) :
    inside i (rowU u r) ↔ 128 ≤ 1024 * i.val + (128 * u.val + r.val) ∧ 1024 * i.val + (128 * u.val + r.val) < 4224 := Iff.rfl

end Cert.Attn

namespace Cert.KernelIdeal.Hand

open Idealize.ShloMosaic Idealize.ShloMosaic.TcCoe
open Cert.KernelIdeal.Gen Cert.Attn

/-- The blocks hold the numbers `A` of key head `g` and of the queries of point `i`. -/
structure Has (A : Args) (g i : Fin 4) (X : Ins Ideal) : Prop where
  q : ∀ (h : Fin 4) (r : Fin 1024) (d : Fin 64) (s : Fin 4096), s.val = 1024 * i.val + r.val → X.q (ix3 h r d) = ((A.q s g h d * qscale : ℝ) : EReal)
  kp : ∀ (r : Fin 128) (d : Fin 64) (R : Fin 1280), R.val = r.val → X.kp (ix3 0 r d) = (A.k g (key i R) d : EReal)
  ko : ∀ (r : Fin 1024) (d : Fin 64) (R : Fin 1280), R.val = 128 + r.val → X.ko (ix3 0 r d) = (A.k g (key i R) d : EReal)
  kn : ∀ (r : Fin 128) (d : Fin 64) (R : Fin 1280), R.val = 1152 + r.val → X.kn (ix3 0 r d) = (A.k g (key i R) d : EReal)
  ktp : ∀ (r : Fin 128) (d : Fin 64) (R : Fin 1280), R.val = r.val → X.ktp (ix3 0 d r) = (A.k g (key i R) d : EReal)
  kto : ∀ (r : Fin 1024) (d : Fin 64) (R : Fin 1280), R.val = 128 + r.val → X.kto (ix3 0 d r) = (A.k g (key i R) d : EReal)
  ktn : ∀ (r : Fin 128) (d : Fin 64) (R : Fin 1280), R.val = 1152 + r.val → X.ktn (ix3 0 d r) = (A.k g (key i R) d : EReal)
  vp : ∀ (r : Fin 128) (d : Fin 64) (R : Fin 1280), R.val = r.val → X.vp (ix3 0 r d) = (A.v g (key i R) d : EReal)
  vo : ∀ (r : Fin 1024) (d : Fin 64) (R : Fin 1280), R.val = 128 + r.val → X.vo (ix3 0 r d) = (A.v g (key i R) d : EReal)
  vn : ∀ (r : Fin 128) (d : Fin 64) (R : Fin 1280), R.val = 1152 + r.val → X.vn (ix3 0 r d) = (A.v g (key i R) d : EReal)
  dy : ∀ (h : Fin 4) (r : Fin 1024) (d : Fin 64) (s : Fin 4096) (c : Fin 256), s.val = 1024 * i.val + r.val → c.val = 64 * h.val + d.val →
    X.dy (ix2 r c) = (A.ct s g h d : EReal)
  lse : ∀ (h : Fin 4) (r : Fin 1024) (s : Fin 4096), s.val = 1024 * i.val + r.val →
    X.lse (ix3 h 0 r) = (((A.top g h s + Real.log (A.Z g h s)) * (1 / Real.log 2) : ℝ) : EReal)
  dl : ∀ (h : Fin 4) (r : Fin 1024) (s : Fin 4096), s.val = 1024 * i.val + r.val → X.dl (ix3 h 0 r) = (A.delta g h s : EReal)
  sl : ∀ h : Fin 4, X.sl (ix3 h 0 0) = (slope g h : EReal)

/-- Column `x` of head `h`'s 128, among the block's 512. -/
def col (h : Fin 4) (x : Fin 128) : Fin 512 := ⟨128 * h.val + x.val, by omega⟩

variable (X : Ins Ideal)

theorem kk_read (r : Fin 1280) (d : Fin 64) : X.kk (ix2 r d) = if h : r.val < 128 then X.kp (ix3 0 ⟨r.val, h⟩ d) else
    if h' : r.val - 128 < 1024 then X.ko (ix3 0 ⟨r.val - 128, h'⟩ d) else X.kn (ix3 0 ⟨r.val - 128 - 1024, by omega⟩ d) := by
  pointwise [Ins.kk]
theorem vv_read (r : Fin 1280) (d : Fin 64) : X.vv (ix2 r d) = if h : r.val < 128 then X.vp (ix3 0 ⟨r.val, h⟩ d) else
    if h' : r.val - 128 < 1024 then X.vo (ix3 0 ⟨r.val - 128, h'⟩ d) else X.vn (ix3 0 ⟨r.val - 128 - 1024, by omega⟩ d) := by
  pointwise [Ins.vv]
theorem kkt_read (r : Fin 1280) (d : Fin 64) : X.kkt (ix2 d r) = if h : r.val < 128 then X.ktp (ix3 0 d ⟨r.val, h⟩) else
    if h' : r.val - 128 < 1024 then X.kto (ix3 0 d ⟨r.val - 128, h'⟩) else X.ktn (ix3 0 d ⟨r.val - 128 - 1024, by omega⟩) := by
  pointwise [Ins.kkt]
theorem biasH_read (h : Fin 4) (r : Fin 384) (x : Fin 128) : X.biasH h (ix2 r x) = Ins.base (F := Ideal) (ix2 r x) * X.sl (ix3 h 0 0) := by
  pointwise [Ins.biasH, Ins.slope]
/-- A reading of four pieces side by side, 128 to a piece. -/
theorem four {α : Type} (f : Fin 4 → Fin 128 → α) (h : Fin 4) (x : Fin 128) (c : ℕ) (hc : c = 128 * h.val + x.val) :
    (if h₀ : c < 128 then f 0 ⟨c, h₀⟩ else if h₁ : c - 128 < 128 then f 1 ⟨c - 128, h₁⟩ else
      if h₂ : c - 128 - 128 < 128 then f 2 ⟨c - 128 - 128, h₂⟩ else f 3 ⟨c - 128 - 128 - 128, by omega⟩) = f h x := by
  subst hc
  have hx := x.isLt
  fin_cases h
  · rw [dif_pos (by simp)]; exact congrArg _ (Fin.ext (by simp))
  · rw [dif_neg (by simp), dif_pos (by simp)]; exact congrArg _ (Fin.ext (by simp))
  · rw [dif_neg (by simp; omega), dif_neg (by simp; omega), dif_pos (by simp; omega)]; exact congrArg _ (Fin.ext (by simp; omega))
  · rw [dif_neg (by simp; omega), dif_neg (by simp; omega), dif_neg (by simp; omega)]; exact congrArg _ (Fin.ext (by simp; omega))

theorem bias_read (h : Fin 4) (r : Fin 384) (x : Fin 128) : X.bias (ix2 r (col h x)) = X.biasH h (ix2 r x) := by
  pointwise [Ins.bias]
  exact four (fun h x => X.biasH h (ix2 r x)) h x _ rfl
theorem dyH_read (u : Fin 8) (h : Fin 4) (x : Fin 128) (d : Fin 64) : X.dyH u h (ix2 x d) = X.dy (ix2 ⟨128 * u.val + x.val, by omega⟩ ⟨64 * h.val + d.val, by omega⟩) := by
  pointwise [Ins.dyH]
theorem dd_read (u : Fin 8) (h : Fin 4) (x : Fin 128) (d : Fin 64) : X.dd u (ix2 (col h x) d) = X.dyH u h (ix2 x d) := by
  pointwise [Ins.dd]
  exact four (fun h x => X.dyH u h (ix2 x d)) h x _ rfl
theorem rowH_read (u : Fin 8) (R : Vec Ideal S4x1x1024 .f32) (h : Fin 4) (x : Fin 128) : Ins.rowH u R h (ix2 0 x) = R (ix3 h 0 ⟨128 * u.val + x.val, by omega⟩) := by
  pointwise [Ins.rowH]
theorem rows_read (u : Fin 8) (R : Vec Ideal S4x1x1024 .f32) (h : Fin 4) (r : Fin 384) (x : Fin 128) : Ins.rows u R (ix2 r (col h x)) = Ins.rowH u R h (ix2 0 x) := by
  pointwise [Ins.rows]
  exact four (fun h x => Ins.rowH u R h (ix2 0 x)) h x _ rfl
/-- Three dimensions read as two. -/
theorem flat_read (V : FVec Ideal S4x128x64 .bf16) (c : Fin 512) (d : Fin 64) :
    shapeCast S512x64 V shapeCasts_S4x128x64_S512x64 (ix2 c d) = V (ix3 ⟨c.val / 128, by omega⟩ ⟨c.val % 128, by omega⟩ d) := by
  pointwise
theorem qq_read (u : Fin 8) (h : Fin 4) (x : Fin 128) (d : Fin 64) : X.qq u (ix2 (col h x) d) = X.q (ix3 h ⟨128 * u.val + x.val, by omega⟩ d) := by
  rw [Ins.qq, flat_read]
  have e1 : (⟨(col h x).val / 128, by omega⟩ : Fin 4) = h := Fin.ext (by simp only [col]; omega)
  have e2 : (⟨(col h x).val % 128, by omega⟩ : Fin 128) = x := Fin.ext (by simp only [col]; omega)
  rw [e1, e2]
  pointwise

theorem base_at (r : Fin 384) (x : Fin 128) : Ins.base (F := Ideal) (ix2 r x) =
    if |(r.val : ℤ) - 128 - x.val| ≤ 128 then (((|(r.val : ℤ) - 128 - x.val| : ℤ) * -(Real.log 2)⁻¹ : ℝ) : EReal) else ⊥ := by
  have hd : (IntOp.absi (IntOp.subi (IntOp.subi (BitVec.ofNat 32 r.val) 128#32) (BitVec.ofNat 32 x.val))).toInt = |(r.val : ℤ) - 128 - x.val| :=
    absi_subi_subi (x := r.val) (y := 128) (z := x.val) (by omega) (by omega) (by omega)
  pointwise [Ins.base]
  rw [cmpi_sle hd (show (128#32 : BitVec 32).toInt = 128 from by decide), select_if, c_bot]
  rw [show FloatOps.sitofp (F := Ideal) FTy.f32 (IntOp.absi (IntOp.subi (IntOp.subi (BitVec.ofNat 32 r.val) 128#32) (BitVec.ofNat 32 x.val))) = ((|(r.val : ℤ) - 128 - x.val| : ℤ) : ℝ) from by
    show (((IntOp.absi (IntOp.subi (IntOp.subi (BitVec.ofNat 32 r.val) 128#32) (BitVec.ofNat 32 x.val))).toInt : ℝ) : EReal) = _
    rw [hd]]
  rw [show Named.named (F := Ideal) κ "neg_log2e" (φ := .f32) 0xBFB8AA3B#32 = ((-((Real.log 2)⁻¹) : ℝ) : EReal) from rfl, ← EReal.coe_mul]

theorem edges_at (p q : Prop) [Decidable p] [Decidable q] {a b : BitVec 1} (ha : a = if p then 1#1 else 0#1) (hb : b = if q then 1#1 else 0#1)
    (B : FVec Ideal S384x512 .f32) (r : Fin 384) (c : Fin 512) :
    Ins.edges a b B (ix2 r c) = if (r.val < 128 ∧ p) ∨ (256 ≤ r.val ∧ q) then ⊥ else B (ix2 r c) := by
  have e1 : IntOp.cmpi .slt (BitVec.ofNat 32 r.val) 128#32 = if r.val < 128 then 1#1 else 0#1 := by
    rw [cmpi_slt (toInt_ofNat (by omega)) (show (128#32 : BitVec 32).toInt = 128 from by decide)]
    exact if_congr (by omega) rfl rfl
  have e2 : IntOp.cmpi .sge (BitVec.ofNat 32 r.val) 256#32 = if 256 ≤ r.val then 1#1 else 0#1 := by
    rw [cmpi_sge (toInt_ofNat (by omega)) (show (256#32 : BitVec 32).toInt = 256 from by decide)]
    exact if_congr (by omega) rfl rfl
  pointwise [Ins.edges]
  rw [e1, e2, ha, hb, c_bot]
  by_cases h1 : r.val < 128 <;> by_cases h2 : 256 ≤ r.val <;> by_cases hp : p <;> by_cases hq : q <;>
    simp only [h1, h2, hp, hq, if_true, if_false, true_and, false_and, and_false, and_true, or_false, or_true, false_or, true_or] <;> rfl

theorem cmpi_eq_ofNat : ∀ a : Fin 4, ∀ b : Fin 4, Scalar.cmpi .eq (BitVec.ofNat 32 a.val) (BitVec.ofNat 32 b.val) = if a.val = b.val then 1#1 else 0#1 := by decide

variable {X} {A : Args} {g i : Fin 4} (co : grid0.Coords) (hco : (co 1).val = i.val)

include hco in
theorem biasU_at (u : Fin 8) (r : Fin 384) (c : Fin 512) : X.biasU co u (ix2 r c) = if inside i (rowU u r) then X.bias (ix2 r c) else ⊥ := by
  have e0 : Scalar.cmpi .eq (BitVec.ofNat 32 (co 1).val) 0#32 = if i.val = 0 then 1#1 else 0#1 := by
    rw [hco]; exact cmpi_eq_ofNat i 0
  have e3 : Scalar.cmpi .eq (BitVec.ofNat 32 (co 1).val) 3#32 = if i.val = 3 then 1#1 else 0#1 := by
    rw [hco]; exact cmpi_eq_ofNat i 3
  have hF : (0#1 : BitVec 1) = if False then 1#1 else 0#1 := by simp
  have hr := r.isLt
  have hi := i.isLt
  have mid : 1 ≤ u.val → u.val ≤ 6 → inside i (rowU u r) := fun h1 h2 => by unfold inside rowU; dsimp only; omega
  unfold Ins.biasU
  fin_cases u
  · show Ins.edges _ 0#1 X.bias _ = _
    rw [edges_at _ False e0 hF]
    have hin := inside_iff i 0 r
    rw [show ((0 : Fin 8).val) = 0 from rfl] at hin
    show _ = if inside i (rowU 0 r) then _ else _
    by_cases h : r.val < 128 ∧ i.val = 0
    · rw [if_pos (Or.inl h), if_neg (by rw [hin]; omega)]
    · rw [if_neg (by tauto), if_pos (by rw [hin]; omega)]
  · show X.bias _ = _
    rw [if_pos (mid (by simp) (by simp))]
  · show X.bias _ = _
    rw [if_pos (mid (by simp) (by simp))]
  · show X.bias _ = _
    rw [if_pos (mid (by simp) (by simp))]
  · show X.bias _ = _
    rw [if_pos (mid (by simp) (by simp))]
  · show X.bias _ = _
    rw [if_pos (mid (by simp) (by simp))]
  · show X.bias _ = _
    rw [if_pos (mid (by simp) (by simp))]
  · show Ins.edges 0#1 _ X.bias _ = _
    rw [edges_at False _ hF e3]
    have hin := inside_iff i 7 r
    rw [show ((7 : Fin 8).val) = 7 from rfl] at hin
    show _ = if inside i (rowU 7 r) then _ else _
    by_cases h : 256 ≤ r.val ∧ i.val = 3
    · rw [if_pos (Or.inr h), if_neg (by rw [hin]; omega)]
    · rw [if_neg (by tauto), if_pos (by rw [hin]; omega)]

theorem sum_col (f : Fin 512 → EReal) : ∑ c, f c = ∑ h : Fin 4, ∑ x : Fin 128, f (col h x) := by
  rw [← Fintype.sum_prod_type' (fun h x => f (col h x))]
  exact (Fintype.sum_equiv (finProdFinEquiv (m := 4) (n := 128)) (fun y : Fin 4 × Fin 128 => f (col y.1 y.2)) f fun y =>
    congrArg f (Fin.ext (by simp [col, finProdFinEquiv]; omega))).symm

theorem slope_pos (g h : Fin 4) : 0 < slope g h := Real.rpow_pos_of_pos (by norm_num) _

theorem log2_ne : Real.log 2 ≠ 0 := (Real.log_pos (by norm_num)).ne'

variable (H : Has A g i X)
include H

theorem kk_at (R : Fin 1280) (d : Fin 64) : X.kk (ix2 R d) = (A.k g (key i R) d : EReal) := by
  rw [kk_read]
  split
  · exact H.kp _ d R rfl
  · split
    · exact H.ko _ d R (by simp only; omega)
    · exact H.kn _ d R (by simp only; omega)
theorem vv_at (R : Fin 1280) (d : Fin 64) : X.vv (ix2 R d) = (A.v g (key i R) d : EReal) := by
  rw [vv_read]
  split
  · exact H.vp _ d R rfl
  · split
    · exact H.vo _ d R (by simp only; omega)
    · exact H.vn _ d R (by simp only; omega)
theorem kkt_at (R : Fin 1280) (d : Fin 64) : X.kkt (ix2 d R) = (A.k g (key i R) d : EReal) := by
  rw [kkt_read]
  split
  · exact H.ktp _ d R rfl
  · split
    · exact H.kto _ d R (by simp only; omega)
    · exact H.ktn _ d R (by simp only; omega)
theorem qq_at (u : Fin 8) (h : Fin 4) (x : Fin 128) (d : Fin 64) : X.qq u (ix2 (col h x) d) = ((A.q (qry i u x) g h d * qscale : ℝ) : EReal) := by
  rw [qq_read]
  exact H.q h _ d _ (by simp only [qry]; omega)
theorem dd_at (u : Fin 8) (h : Fin 4) (x : Fin 128) (d : Fin 64) : X.dd u (ix2 (col h x) d) = (A.ct (qry i u x) g h d : EReal) := by
  rw [dd_read, dyH_read]
  exact H.dy h _ d _ _ (by simp only [qry]; omega) rfl
theorem lse_at (u : Fin 8) (h : Fin 4) (r : Fin 384) (x : Fin 128) : Ins.rows u X.lse (ix2 r (col h x)) =
    (((A.top g h (qry i u x) + Real.log (A.Z g h (qry i u x))) * (1 / Real.log 2) : ℝ) : EReal) := by
  rw [rows_read, rowH_read]
  exact H.lse h _ _ (by simp only [qry]; omega)
theorem dl_at (u : Fin 8) (h : Fin 4) (r : Fin 384) (x : Fin 128) : Ins.rows u X.dl (ix2 r (col h x)) = (A.delta g h (qry i u x) : EReal) := by
  rw [rows_read, rowH_read]
  exact H.dl h _ _ (by simp only [qry]; omega)

/-- The scores in base-2 units; minus infinity where a key is not seen. -/
theorem st_at (hco : (co 1).val = i.val) (u : Fin 8) (r : Fin 384) (h : Fin 4) (x : Fin 128) : X.st co u (ix2 r (col h x)) =
    if inside i (rowU u r) ∧ near (qry i u x) (key i (rowU u r)) then ((A.score g h (qry i u x) (key i (rowU u r)) * (1 / Real.log 2) : ℝ) : EReal) else ⊥ := by
  have hs : (∑ d : Fin 64, X.kk (ix2 (rowU u r) d) * X.qq u (ix2 (col h x) d)) =
      (((∑ d, A.k g (key i (rowU u r)) d * A.q (qry i u x) g h d) * qscale : ℝ) : EReal) := by
    rw [Finset.sum_mul, ← coe_sum]
    refine Finset.sum_congr rfl fun d _ => ?_
    rw [kk_at H, qq_at H, ← EReal.coe_mul, mul_assoc]
  have hr : X.st co u (ix2 r (col h x)) = (∑ d : Fin 64, X.kk (ix2 (rowU u r) d) * X.qq u (ix2 (col h x) d)) + X.biasU co u (ix2 r (col h x)) := by
    pointwise [Ins.st, rowU]
  rw [hr, hs, biasU_at co hco]
  by_cases hin : inside i (rowU u r)
  · rw [if_pos hin, bias_read, biasH_read, base_at, H.sl]
    have hk := key_val hin
    have hd : |(r.val : ℤ) - 128 - x.val| = Attn.dist (qry i u x) (key i (rowU u r)) := by
      unfold Attn.dist
      congr 1
      have h2 : (rowU u r).val = 128 * u.val + r.val := rfl
      have h3 : (qry i u x).val = 1024 * i.val + 128 * u.val + x.val := rfl
      omega
    rw [hd]
    by_cases hn : near (qry i u x) (key i (rowU u r))
    · rw [if_pos (show Attn.dist _ _ ≤ 128 from hn), if_pos ⟨hin, hn⟩, ← EReal.coe_mul, ← EReal.coe_add]
      unfold Args.score qscale
      congr 1
      have := log2_ne
      field_simp
    · rw [if_neg (show ¬Attn.dist _ _ ≤ 128 from hn), if_neg (fun hh => hn hh.2), EReal.bot_mul_coe_of_pos (slope_pos g h), EReal.add_bot]
  · rw [if_neg hin, if_neg (fun hh => hin hh.1), EReal.add_bot]

/-- The probabilities. -/
theorem p_at (hco : (co 1).val = i.val) (u : Fin 8) (r : Fin 384) (h : Fin 4) (x : Fin 128) : X.p co u (ix2 r (col h x)) =
    ((row i (rowU u r) fun n => A.e g h (qry i u x) n * (1 / A.Z g h (qry i u x)) : ℝ) : EReal) := by
  have hr : X.p co u (ix2 r (col h x)) = Ideal.exp2 (X.st co u (ix2 r (col h x)) - Ins.rows u X.lse (ix2 r (col h x))) := by
    pointwise [Ins.p]
    rfl
  rw [hr, st_at co H hco, lse_at H]
  unfold row
  by_cases hin : inside i (rowU u r)
  · rw [if_pos hin]
    dsimp only
    by_cases hn : near (qry i u x) (key i (rowU u r))
    · rw [if_pos ⟨hin, hn⟩, ← EReal.coe_sub, Ideal.exp2_coe]
      unfold Args.e
      rw [if_pos hn]
      congr 1
      show (2 : ℝ) ^ (_ : ℝ) = _
      rw [Real.rpow_def_of_pos (by norm_num), ← sub_mul, mul_comm, mul_assoc, one_div_mul_cancel log2_ne, mul_one, sub_add_eq_sub_sub, Real.exp_sub,
        Real.exp_log (A.Z_pos g h _), div_eq_mul_one_div]
    · rw [if_neg (fun hh => hn hh.2), A.e_far hn, zero_mul, EReal.bot_sub, Ideal.exp2_bot, EReal.coe_zero]
  · rw [if_neg hin, if_neg (fun hh => hin hh.1), EReal.bot_sub, Ideal.exp2_bot, EReal.coe_zero]

/-- The gradient by the scores, times the scale. -/
theorem ds_at (hco : (co 1).val = i.val) (u : Fin 8) (r : Fin 384) (h : Fin 4) (x : Fin 128) : X.ds co u (ix2 r (col h x)) =
    ((row i (rowU u r) fun n => A.dS g h (qry i u x) n * (1 / 8) : ℝ) : EReal) := by
  have hr : X.ds co u (ix2 r (col h x)) = X.p co u (ix2 r (col h x)) * ((∑ d : Fin 64, X.vv (ix2 (rowU u r) d) * X.dd u (ix2 (col h x) d)) - Ins.rows u X.dl (ix2 r (col h x))) * ((1 / 8 : ℝ) : EReal) := by
    rw [← c_eighth]
    pointwise [Ins.ds, Ins.dp, rowU]
  have hs : (∑ d : Fin 64, X.vv (ix2 (rowU u r) d) * X.dd u (ix2 (col h x) d)) = (A.dP g h (qry i u x) (key i (rowU u r)) : EReal) := by
    unfold Args.dP
    rw [← coe_sum]
    exact Finset.sum_congr rfl fun d _ => by rw [vv_at H, dd_at H, ← EReal.coe_mul, mul_comm]
  rw [hr, hs, p_at co H hco, dl_at H, ← EReal.coe_sub, ← EReal.coe_mul, ← EReal.coe_mul]
  unfold row
  split
  · dsimp only
    rw [A.dS_eq]
  · rw [zero_mul, zero_mul]

/-- What a block adds to the gradients of its values. -/
theorem dvC_at (hco : (co 1).val = i.val) (u : Fin 8) (r : Fin 384) (d : Fin 64) : X.dvC co u (ix2 r d) =
    ((∑ h : Fin 4, ∑ x : Fin 128, (row i (rowU u r) fun n => A.ct (qry i u x) g h d * (A.e g h (qry i u x) n * (1 / A.Z g h (qry i u x)))) : ℝ) : EReal) := by
  have hr : X.dvC co u (ix2 r d) = ∑ c : Fin 512, X.p co u (ix2 r c) * X.dd u (ix2 c d) := by
    pointwise [Ins.dvC]
  rw [hr, sum_col, ← coe_sum]
  refine Finset.sum_congr rfl fun h _ => ?_
  rw [← coe_sum]
  refine Finset.sum_congr rfl fun x _ => ?_
  rw [p_at co H hco, dd_at H, ← EReal.coe_mul]
  unfold row
  split
  · rw [mul_comm]
  · rw [zero_mul]

/-- What a block adds to the gradients of its keys, with the queries' factor. -/
theorem dkC_at (hco : (co 1).val = i.val) (u : Fin 8) (r : Fin 384) (d : Fin 64) : X.dkC co u (ix2 r d) =
    ((∑ h : Fin 4, ∑ x : Fin 128, (row i (rowU u r) fun n => A.dS g h (qry i u x) n * (1 / 8) * (A.q (qry i u x) g h d * qscale)) : ℝ) : EReal) := by
  have hr : X.dkC co u (ix2 r d) = ∑ c : Fin 512, X.ds co u (ix2 r c) * X.qq u (ix2 c d) := by
    pointwise [Ins.dkC]
  rw [hr, sum_col, ← coe_sum]
  refine Finset.sum_congr rfl fun h _ => ?_
  rw [← coe_sum]
  refine Finset.sum_congr rfl fun x _ => ?_
  rw [ds_at co H hco, qq_at H, ← EReal.coe_mul]
  unfold row
  split
  · rfl
  · rw [zero_mul]

/-- The gradient of the queries. -/
theorem dqH_at (hco : (co 1).val = i.val) (u : Fin 8) (h : Fin 4) (x : Fin 128) (d : Fin 64) : X.dqH co u h (ix2 x d) = (A.dQ (qry i u x) g h d : EReal) := by
  have hr : X.dqH co u h (ix2 x d) = ∑ r : Fin 384, X.kkt (ix2 d (rowU u r)) * X.ds co u (ix2 r (col h x)) := by
    pointwise [Ins.dqH, Ins.dqt, col, rowU]
  unfold Args.dQ
  rw [hr, ← sum_row i u x _ (fun n hn => by rw [A.dS_far hn, zero_mul, zero_mul]), ← coe_sum]
  refine Finset.sum_congr rfl fun r _ => ?_
  rw [kkt_at H, ds_at co H hco, ← EReal.coe_mul]
  unfold row
  split
  · rw [mul_comm]
  · rw [mul_zero]

end Cert.KernelIdeal.Hand

end
-- ==== Proof.Accumulate.lean ====
module

public import proofs.«01_k».proof.Proof.BlockValue
public import proofs.«01_k».proof.Proof.Branch

/-! The two scratches and the two results in real numbers: a point adds to every key's row what its 1024 queries give it. -/

@[expose] public section

set_option maxRecDepth 16384

noncomputable section

namespace Cert.KernelIdeal.Hand

open Idealize.ShloMosaic Idealize.ShloMosaic.TcCoe
open Idealize.ShloMosaic.VecWindow (put)
open Cert.KernelIdeal.Gen Cert.Attn

theorem acc_read (u : Fin 8) (R : Vec Ideal S1280x64 .f32) (C : FVec Ideal S384x64 .f32) (y : Fin 1280) (d : Fin 64) :
    acc u R C (ix2 y d) = if h : 128 * u.val ≤ y.val ∧ y.val < 128 * u.val + 384 then R (ix2 y d) + C (ix2 ⟨y.val - 128 * u.val, by omega⟩ d) else R (ix2 y d) := by
  unfold acc put
  by_cases h : 128 * u.val ≤ y.val ∧ y.val < 128 * u.val + 384
  · have h' : ∀ a : Fin 2, (![128 * u.val, 0] : Fin 2 → ℕ) a ≤ ((ix2 y d : S1280x64.Idx) a).val ∧ ((ix2 y d : S1280x64.Idx) a).val < (![128 * u.val, 0] : Fin 2 → ℕ) a + S384x64.size a := by
      intro a
      fin_cases a
      · exact h
      · exact ⟨Nat.zero_le _, by show d.val < 0 + 64; omega⟩
    rw [dif_pos h, dif_pos h']
    have e : Rect.unitLocal (s := S1280x64) (off := ![128 * u.val, 0]) (size := S384x64.size) (ix2 y d) h' = (ix2 ⟨y.val - 128 * u.val, by omega⟩ d : S384x64.Idx) := by
      funext a
      fin_cases a
      · exact Fin.ext rfl
      · exact Fin.ext (Nat.sub_zero _)
    rw [e]
    pointwise
    rw [show (⟨128 * u.val + (y.val - 128 * u.val), by omega⟩ : Fin 1280) = y from Fin.ext (by simp only; omega)]
  · rw [dif_neg h, dif_neg (fun h' => h (h' 0))]

theorem up128_read (V : FVec Ideal S128x64 .f32) (z : Fin 1) (a : Fin 128) (d : Fin 64) : shapeCast S1x128x64 V shapeCasts_S128x64_S1x128x64 (ix3 z a d) = V (ix2 a d) := by
  pointwise
theorem down128_read (V : Vec Ideal S1x128x64 .f32) (a : Fin 128) (d : Fin 64) : shapeCast S128x64 V shapeCasts_S1x128x64_S128x64 (ix2 a d) = V (ix3 0 a d) := by
  pointwise

/-- 128 rows of a result after the addition. -/
theorem add128_read (off : Fin 3 → ℕ) (inb) (o : ℕ) (ho : off = ![0, o, 0]) (Y : Vec Ideal S1x4096x64 .f32) (D : FVec Ideal S128x64 .f32) (z : Fin 1) (n : Fin 4096) (d : Fin 64) :
    add128 off inb Y D (ix3 z n d) = if h : o ≤ n.val ∧ n.val < o + 128 then Y (ix3 z n d) + D (ix2 ⟨n.val - o, by omega⟩ d) else Y (ix3 z n d) := by
  subst ho
  unfold add128 put
  by_cases h : o ≤ n.val ∧ n.val < o + 128
  · have h' : ∀ a : Fin 3, (![0, o, 0] : Fin 3 → ℕ) a ≤ ((ix3 z n d : S1x4096x64.Idx) a).val ∧ ((ix3 z n d : S1x4096x64.Idx) a).val < (![0, o, 0] : Fin 3 → ℕ) a + S1x128x64.size a := by
      intro a
      fin_cases a
      · exact ⟨Nat.zero_le _, by show z.val < 0 + 1; omega⟩
      · exact h
      · exact ⟨Nat.zero_le _, by show d.val < 0 + 64; omega⟩
    rw [dif_pos h, dif_pos h']
    have e : Rect.unitLocal (s := S1x4096x64) (off := ![0, o, 0]) (size := S1x128x64.size) (ix3 z n d) h' = (ix3 z ⟨n.val - o, by omega⟩ d : S1x128x64.Idx) := by
      funext a
      fin_cases a
      · exact Fin.ext (Nat.sub_zero _)
      · exact Fin.ext rfl
      · exact Fin.ext (Nat.sub_zero _)
    rw [e, up128_read]
    show shapeCast S128x64 _ _ _ + D _ = _
    rw [down128_read]
    refine congrArg (fun q => Y q + D (ix2 ⟨n.val - o, by omega⟩ d)) (funext fun a => ?_)
    fin_cases a
    · exact Subsingleton.elim (α := Fin 1) _ _
    · exact Fin.ext (by show o + 1 * (n.val - o) = n.val; omega)
    · exact Fin.ext (by show 0 + 1 * d.val = d.val; omega)
  · rw [dif_neg h, dif_neg (fun h' => h (h' 1))]

theorem up1024_read (V : FVec Ideal S1024x64 .f32) (z : Fin 1) (a : Fin 1024) (d : Fin 64) : shapeCast S1x1024x64 V shapeCasts_S1024x64_S1x1024x64 (ix3 z a d) = V (ix2 a d) := by
  pointwise
theorem down1024_read (V : Vec Ideal S1x1024x64 .f32) (a : Fin 1024) (d : Fin 64) : shapeCast S1024x64 V shapeCasts_S1x1024x64_S1024x64 (ix2 a d) = V (ix3 0 a d) := by
  pointwise

/-- 1024 rows of a result after the addition. -/
theorem add1024_read (off : Fin 3 → ℕ) (inb) (o : ℕ) (ho : off = ![0, o, 0]) (Y : Vec Ideal S1x4096x64 .f32) (D : FVec Ideal S1024x64 .f32) (z : Fin 1) (n : Fin 4096) (d : Fin 64) :
    add1024 off inb Y D (ix3 z n d) = if h : o ≤ n.val ∧ n.val < o + 1024 then Y (ix3 z n d) + D (ix2 ⟨n.val - o, by omega⟩ d) else Y (ix3 z n d) := by
  subst ho
  unfold add1024 put
  by_cases h : o ≤ n.val ∧ n.val < o + 1024
  · have h' : ∀ a : Fin 3, (![0, o, 0] : Fin 3 → ℕ) a ≤ ((ix3 z n d : S1x4096x64.Idx) a).val ∧ ((ix3 z n d : S1x4096x64.Idx) a).val < (![0, o, 0] : Fin 3 → ℕ) a + S1x1024x64.size a := by
      intro a
      fin_cases a
      · exact ⟨Nat.zero_le _, by show z.val < 0 + 1; omega⟩
      · exact h
      · exact ⟨Nat.zero_le _, by show d.val < 0 + 64; omega⟩
    rw [dif_pos h, dif_pos h']
    have e : Rect.unitLocal (s := S1x4096x64) (off := ![0, o, 0]) (size := S1x1024x64.size) (ix3 z n d) h' = (ix3 z ⟨n.val - o, by omega⟩ d : S1x1024x64.Idx) := by
      funext a
      fin_cases a
      · exact Fin.ext (Nat.sub_zero _)
      · exact Fin.ext rfl
      · exact Fin.ext (Nat.sub_zero _)
    rw [e, up1024_read]
    show shapeCast S1024x64 _ _ _ + D _ = _
    rw [down1024_read]
    refine congrArg (fun q => Y q + D (ix2 ⟨n.val - o, by omega⟩ d)) (funext fun a => ?_)
    fin_cases a
    · exact Subsingleton.elim (α := Fin 1) _ _
    · exact Fin.ext (by show o + 1 * (n.val - o) = n.val; omega)
    · exact Fin.ext (by show 0 + 1 * d.val = d.val; omega)
  · rw [dif_neg h, dif_neg (fun h' => h (h' 1))]

/-! ### The scratches -/

theorem zeroS_read (y : Fin 1280) (d : Fin 64) : zeroS (F := Ideal) (ix2 y d) = ((0 : ℝ) : EReal) := by
  rw [EReal.coe_zero]
  pointwise [zeroS]
theorem zeroY_read (z : Fin 1) (n : Fin 4096) (d : Fin 64) : zeroY (F := Ideal) (ix3 z n d) = ((0 : ℝ) : EReal) := by
  rw [EReal.coe_zero]
  pointwise [zeroY]

/-- What the blocks before the `k`-th have added. -/
theorem accs_real (C : Fin 8 → FVec Ideal S384x64 .f32) (d : Fin 64) (c : Fin 8 → Fin 384 → ℝ) (hC : ∀ u r, C u (ix2 r d) = (c u r : EReal)) (y : Fin 1280) :
    ∀ (k : ℕ) (hk : k ≤ 8), accs C k hk (ix2 y d) =
      ((∑ u : Fin 8, if u.val < k then (if h : 128 * u.val ≤ y.val ∧ y.val < 128 * u.val + 384 then c u ⟨y.val - 128 * u.val, by omega⟩ else 0) else 0 : ℝ) : EReal)
  | 0, _ => by
      unfold accs
      rw [zeroS_read]
      simp
  | k + 1, hk => by
      unfold accs
      have ih := accs_real C d c hC y k (Nat.le_of_succ_le hk)
      have hs : (∑ u : Fin 8, if u.val < k + 1 then (if h : 128 * u.val ≤ y.val ∧ y.val < 128 * u.val + 384 then c u ⟨y.val - 128 * u.val, by omega⟩ else 0) else 0 : ℝ) =
          (∑ u : Fin 8, if u.val < k then (if h : 128 * u.val ≤ y.val ∧ y.val < 128 * u.val + 384 then c u ⟨y.val - 128 * u.val, by omega⟩ else 0) else 0) +
          (if h : 128 * k ≤ y.val ∧ y.val < 128 * k + 384 then c ⟨k, hk⟩ ⟨y.val - 128 * k, by omega⟩ else 0) := by
        have h1 : (if h : 128 * k ≤ y.val ∧ y.val < 128 * k + 384 then c ⟨k, hk⟩ ⟨y.val - 128 * k, by omega⟩ else 0) =
            ∑ u : Fin 8, if u.val = k then (if h : 128 * u.val ≤ y.val ∧ y.val < 128 * u.val + 384 then c u ⟨y.val - 128 * u.val, by omega⟩ else 0) else 0 := by
          rw [Finset.sum_eq_single ⟨k, hk⟩]
          · rw [if_pos rfl]
          · intro u _ hu
            exact if_neg fun e => hu (Fin.ext e)
          · intro hh; exact absurd (Finset.mem_univ _) hh
        rw [h1, ← Finset.sum_add_distrib]
        refine Finset.sum_congr rfl fun u _ => ?_
        rcases lt_trichotomy u.val k with h | h | h
        · rw [if_pos (by omega), if_pos h, if_neg (by omega), add_zero]
        · rw [if_pos (by omega), if_neg (by omega), if_pos h, zero_add]
        · rw [if_neg (by omega), if_neg (by omega), if_neg (by omega), add_zero]
      rw [acc_read, hs]
      by_cases h : 128 * k ≤ y.val ∧ y.val < 128 * k + 384
      · rw [dif_pos h, dif_pos h, ih, hC, ← EReal.coe_add]
      · rw [dif_neg h, dif_neg h, ih, add_zero]

/-- What the queries of point `i` give to the key `n`. -/
def give (i : Fin 4) (f : Fin 4 → Fin 4096 → Fin 4096 → ℝ) (n : Fin 4096) : ℝ := ∑ u : Fin 8, ∑ h : Fin 4, ∑ x : Fin 128, f h (qry i u x) n

theorem give_far {i : Fin 4} {f : Fin 4 → Fin 4096 → Fin 4096 → ℝ} (hf : ∀ h s n, ¬near s n → f h s n = 0) {n : Fin 4096}
    (hn : ¬(1024 * i.val ≤ n.val + 128 ∧ n.val < 1024 * i.val + 1152)) : give i f n = 0 := by
  refine Finset.sum_eq_zero fun u _ => Finset.sum_eq_zero fun h _ => Finset.sum_eq_zero fun x _ => hf _ _ _ fun hh => hn ?_
  rw [near_iff] at hh
  have hq : (qry i u x).val = 1024 * i.val + 128 * u.val + x.val := rfl
  omega

/-- A scratch at the end of a point: every row that lies in the array holds what the point gives to its key. -/
theorem accs_at (i : Fin 4) (C : Fin 8 → FVec Ideal S384x64 .f32) (d : Fin 64) (f : Fin 4 → Fin 4096 → Fin 4096 → ℝ) (hf : ∀ h s n, ¬near s n → f h s n = 0)
    (hC : ∀ u r, C u (ix2 r d) = ((∑ h : Fin 4, ∑ x : Fin 128, row i (rowU u r) (f h (qry i u x)) : ℝ) : EReal)) (y : Fin 1280) :
    accs C 8 (le_refl 8) (ix2 y d) = ((row i y (give i f) : ℝ) : EReal) := by
  rw [accs_real C d _ hC y 8 (le_refl 8)]
  congr 1
  have hrow : row i y (give i f) = ∑ u : Fin 8, ∑ h : Fin 4, ∑ x : Fin 128, row i y (f h (qry i u x)) := by
    unfold row give
    split
    · rfl
    · simp
  rw [hrow]
  refine Finset.sum_congr rfl fun u _ => ?_
  rw [if_pos u.isLt]
  by_cases h : 128 * u.val ≤ y.val ∧ y.val < 128 * u.val + 384
  · rw [dif_pos h, show rowU u ⟨y.val - 128 * u.val, by omega⟩ = y from Fin.ext (by simp only [rowU]; omega)]
  · rw [dif_neg h]
    symm
    refine Finset.sum_eq_zero fun h' _ => Finset.sum_eq_zero fun x _ => ?_
    unfold row
    split
    · rename_i hin
      have hk := key_val hin
      refine hf _ _ _ fun hn => h ?_
      rw [near_iff] at hn
      have hq : (qry i u x).val = 1024 * i.val + 128 * u.val + x.val := rfl
      omega
    · rfl

/-! ### The results -/

theorem row_in {i : Fin 4} {R : Fin 1280} {w : Fin 4096 → ℝ} (n : Fin 4096) (h : n.val + 128 = 1024 * i.val + R.val) : row i R w = w n := by
  have hin : inside i R := by unfold inside; omega
  unfold row
  rw [if_pos hin, show key i R = n from Fin.ext (by have := key_val hin; omega)]
theorem row_out {i : Fin 4} {R : Fin 1280} {w : Fin 4096 → ℝ} (h : ¬(128 ≤ 1024 * i.val + R.val ∧ 1024 * i.val + R.val < 4224)) : row i R w = 0 :=
  if_neg h

/-- A result after a point whose scratch holds what the point gives: every row has it added. -/
theorem out_at (co : grid0.Coords) (i : Fin 4) (hco : (co 1).val = i.val) (P : FVec Ideal S128x64 .f32) (O : FVec Ideal S1024x64 .f32) (N : FVec Ideal S128x64 .f32)
    (Y : Vec Ideal S1x4096x64 .f32) (z : Fin 1) (n : Fin 4096) (d : Fin 64) (w : Fin 4096 → ℝ) (y : ℝ) (hY : Y (ix3 z n d) = (y : EReal))
    (hP : ∀ (r : Fin 128) (R : Fin 1280), R.val = r.val → P (ix2 r d) = ((row i R w : ℝ) : EReal))
    (hO : ∀ (r : Fin 1024) (R : Fin 1280), R.val = 128 + r.val → O (ix2 r d) = ((row i R w : ℝ) : EReal))
    (hN : ∀ (r : Fin 128) (R : Fin 1280), R.val = 1152 + r.val → N (ix2 r d) = ((row i R w : ℝ) : EReal))
    (hw : ¬(1024 * i.val ≤ n.val + 128 ∧ n.val < 1024 * i.val + 1152) → w n = 0) :
    add128 (k0_off3 co) (k0_off3_inb co) (add1024 (k0_off2 co) (k0_off2_inb co) (add128 (k0_off1 co) (k0_off1_inb co) Y P) O) N (ix3 z n d) = ((y + w n : ℝ) : EReal) := by
  have hi := i.isLt
  have hn := n.isLt
  have e1 : k0_off1 co = ![0, 128 * (8 * i.val - 1), 0] := by rw [k0_off1_eq, hco]
  have e2 : k0_off2 co = ![0, 1024 * i.val, 0] := by rw [k0_off2_eq, hco]
  have e3 : k0_off3 co = ![0, 128 * min 31 (8 * i.val + 8), 0] := by rw [k0_off3_eq, hco]
  rw [add128_read _ _ _ e3, add1024_read _ _ _ e2, add128_read _ _ _ e1]
  by_cases h1 : 128 * (8 * i.val - 1) ≤ n.val ∧ n.val < 128 * (8 * i.val - 1) + 128
  · simp only [dif_pos h1]
    rw [hP _ ⟨n.val - 128 * (8 * i.val - 1), by omega⟩ rfl, hY]
    by_cases h2 : 1024 * i.val ≤ n.val ∧ n.val < 1024 * i.val + 1024
    · have h3 : ¬(128 * min 31 (8 * i.val + 8) ≤ n.val ∧ n.val < 128 * min 31 (8 * i.val + 8) + 128) := by omega
      rw [dif_neg h3, dif_pos h2, hO _ ⟨128 + (n.val - 1024 * i.val), by omega⟩ rfl, row_out (by simp only; omega), row_in n (by simp only; omega)]
      simp only [← EReal.coe_add, add_zero]
    · have h3 : ¬(128 * min 31 (8 * i.val + 8) ≤ n.val ∧ n.val < 128 * min 31 (8 * i.val + 8) + 128) := by omega
      rw [dif_neg h3, dif_neg h2, row_in n (by simp only; omega), ← EReal.coe_add]
  · simp only [dif_neg h1]
    rw [hY]
    by_cases h2 : 1024 * i.val ≤ n.val ∧ n.val < 1024 * i.val + 1024
    · rw [dif_pos h2, hO _ ⟨128 + (n.val - 1024 * i.val), by omega⟩ rfl, row_in n (by simp only; omega)]
      by_cases h3 : 128 * min 31 (8 * i.val + 8) ≤ n.val ∧ n.val < 128 * min 31 (8 * i.val + 8) + 128
      · rw [dif_pos h3, hN _ ⟨1152 + (n.val - 128 * min 31 (8 * i.val + 8)), by omega⟩ rfl, row_out (by simp only; omega)]
        simp only [← EReal.coe_add, add_zero]
      · rw [dif_neg h3, ← EReal.coe_add]
    · rw [dif_neg h2]
      by_cases h3 : 128 * min 31 (8 * i.val + 8) ≤ n.val ∧ n.val < 128 * min 31 (8 * i.val + 8) + 128
      · rw [dif_pos h3, hN _ ⟨1152 + (n.val - 128 * min 31 (8 * i.val + 8)), by omega⟩ rfl, row_in n (by simp only; omega), ← EReal.coe_add]
      · rw [dif_neg h3, hw (by omega), add_zero]

/-- The rows of a scratch that one of the three stores takes. -/
theorem rows128_read (R : Vec Ideal S1280x64 .f32) (r : Fin 128) (d : Fin 64) (q : Fin 1280) (hq : q.val = r.val) :
    View.ld (Val := Elt Ideal) R (Rect.unit ![0, 0] S128x64.size inb_S1280x64_S128x64_0_0) (ix2 r d) = R (ix2 q d) := by
  obtain ⟨q, hq'⟩ := q
  subst hq
  pointwise
@[inherit_doc rows128_read]
theorem rows1024_read (R : Vec Ideal S1280x64 .f32) (r : Fin 1024) (d : Fin 64) (q : Fin 1280) (hq : q.val = 128 + r.val) :
    View.ld (Val := Elt Ideal) R (Rect.unit ![128, 0] S1024x64.size inb_S1280x64_S1024x64_128_0) (ix2 r d) = R (ix2 q d) := by
  obtain ⟨q, hq'⟩ := q
  subst hq
  pointwise
@[inherit_doc rows128_read]
theorem rowsLast_read (R : Vec Ideal S1280x64 .f32) (r : Fin 128) (d : Fin 64) (q : Fin 1280) (hq : q.val = 1152 + r.val) :
    View.ld (Val := Elt Ideal) R (Rect.unit ![1152, 0] S128x64.size inb_S1280x64_S128x64_1152_0) (ix2 r d) = R (ix2 q d) := by
  obtain ⟨q, hq'⟩ := q
  subst hq
  pointwise

/-- The gradient of the values after a point. -/
theorem dvOut_at (co : grid0.Coords) (i : Fin 4) (hco : (co 1).val = i.val) (R : Vec Ideal S1280x64 .f32) (Y : Vec Ideal S1x4096x64 .f32)
    (z : Fin 1) (n : Fin 4096) (d : Fin 64) (w : Fin 4096 → ℝ) (y : ℝ) (hY : Y (ix3 z n d) = (y : EReal))
    (hR : ∀ q : Fin 1280, R (ix2 q d) = ((row i q w : ℝ) : EReal)) (hw : ¬(1024 * i.val ≤ n.val + 128 ∧ n.val < 1024 * i.val + 1152) → w n = 0) :
    dvOut co R Y (ix3 z n d) = ((y + w n : ℝ) : EReal) := by
  unfold dvOut
  refine out_at co i hco _ _ _ Y z n d w y hY (fun r q hq => ?_) (fun r q hq => ?_) (fun r q hq => ?_) hw
  · rw [rows128_read R r d q hq, hR]
  · rw [rows1024_read R r d q hq, hR]
  · rw [rowsLast_read R r d q hq, hR]

theorem mulf_at {s : Shape} (V W : FVec Ideal s .f32) (y : s.Idx) : mulf V W y = (V y * W y : EReal) := rfl

/-- The gradient of the keys after a point: what the scratch holds is multiplied by `8 log 2`. -/
theorem dkOut_at (co : grid0.Coords) (i : Fin 4) (hco : (co 1).val = i.val) (R : Vec Ideal S1280x64 .f32) (Y : Vec Ideal S1x4096x64 .f32)
    (z : Fin 1) (n : Fin 4096) (d : Fin 64) (w : Fin 4096 → ℝ) (y : ℝ) (hY : Y (ix3 z n d) = (y : EReal))
    (hR : ∀ q : Fin 1280, R (ix2 q d) = ((row i q w : ℝ) : EReal)) (hw : ¬(1024 * i.val ≤ n.val + 128 ∧ n.val < 1024 * i.val + 1152) → w n = 0) :
    dkOut co R Y (ix3 z n d) = ((y + w n * (8 * Real.log 2) : ℝ) : EReal) := by
  have hc : (Named.named κ "inv_scale_log2e" (φ := .f32) 0x40B17218#32 : Ideal .f32) = ((8 * Real.log 2 : ℝ) : EReal) := rfl
  have hrow : ∀ q, row i q w * (8 * Real.log 2) = row i q fun n => w n * (8 * Real.log 2) := fun q => by
    unfold row
    split
    · rfl
    · exact zero_mul _
  unfold dkOut
  refine out_at co i hco _ _ _ Y z n d (fun n => w n * (8 * Real.log 2)) y hY (fun r q hq => ?_) (fun r q hq => ?_) (fun r q hq => ?_) (fun h => by
    rw [hw h, zero_mul])
  · refine Eq.trans (mulf_at _ _ _) ?_
    rw [rows128_read R r d q hq, hR, ← hrow, EReal.coe_mul]
    rfl
  · refine Eq.trans (mulf_at _ _ _) ?_
    rw [rows1024_read R r d q hq, hR, ← hrow, EReal.coe_mul]
    rfl
  · refine Eq.trans (mulf_at _ _ _) ?_
    rw [rowsLast_read R r d q hq, hR, ← hrow, EReal.coe_mul]
    rfl

/-- All queries, point by point. -/
theorem sum_give (f : Fin 4 → Fin 4096 → Fin 4096 → ℝ) (n : Fin 4096) : ∑ i : Fin 4, give i f n = ∑ h : Fin 4, ∑ s : Fin 4096, f h s n := by
  unfold give
  have e : ∀ h, ∑ s : Fin 4096, f h s n = ∑ i : Fin 4, ∑ u : Fin 8, ∑ x : Fin 128, f h (qry i u x) n := fun h => by
    rw [← Fintype.sum_equiv (finProdFinEquiv (m := 32) (n := 128)) (fun y => f h (finProdFinEquiv y) n) (fun s => f h s n) (fun _ => rfl), Fintype.sum_prod_type,
      ← Fintype.sum_equiv (finProdFinEquiv (m := 4) (n := 8)) (fun y => ∑ x : Fin 128, f h (finProdFinEquiv (finProdFinEquiv y, x)) n)
        (fun s => ∑ x : Fin 128, f h (finProdFinEquiv (s, x)) n) (fun _ => rfl), Fintype.sum_prod_type]
    refine Finset.sum_congr rfl fun i _ => Finset.sum_congr rfl fun u _ => Finset.sum_congr rfl fun x _ => ?_
    refine congrArg (fun s => f h s n) (Fin.ext ?_)
    show x.val + 128 * (u.val + 8 * i.val) = 1024 * i.val + 128 * u.val + x.val
    omega
  simp only [e]
  rw [Finset.sum_comm (s := (Finset.univ : Finset (Fin 4))) (t := (Finset.univ : Finset (Fin 4)))]
  refine Finset.sum_congr rfl fun i _ => ?_
  rw [Finset.sum_comm]

end Cert.KernelIdeal.Hand

end
-- ==== Proof.Forward.lean ====
module

public import proofs.«01_k».proof.Proof.Gen.ReferenceIdeal.Run
public import proofs.«01_k».proof.Proof.Spec
public import proofs.«01_k».proof.Proof.Words

/-! The attention itself, which both programs spell in the same host operations: the arrays of scores, of their maxima, of the
exponentials and of the denominators, and what they hold entry by entry. -/

@[expose] public section

set_option maxRecDepth 16384

noncomputable section

namespace Cert.Attn

open Idealize.ShloMosaic Idealize.ShloMosaic.TcCoe
open Cert.ReferenceIdeal Cert.ReferenceIdeal.Gen Cert.ReferenceIdeal.Value

/-- The arrays hold the numbers `A`. -/
structure Holds (A : Args) (q : FVec Ideal S4096x1024 .f32) (k v : FVec Ideal S4x4096x64 .f32) (sink : FVec Ideal S16 .f32)
    (ct : FVec Ideal S4096x1024 .f32) : Prop where
  q : ∀ (s : Fin 4096) (g h : Fin 4) (d : Fin 64) (c : Fin 1024), c.val = g.val * 256 + h.val * 64 + d.val → q (ix2 s c) = (A.q s g h d : EReal)
  k : ∀ (g : Fin 4) (n : Fin 4096) (d : Fin 64), k (ix3 g n d) = (A.k g n d : EReal)
  v : ∀ (g : Fin 4) (n : Fin 4096) (d : Fin 64), v (ix3 g n d) = (A.v g n d : EReal)
  sink : ∀ (g h : Fin 4) (c : Fin 16), c.val = g.val * 4 + h.val → sink (ix1 c) = (A.sink g h : EReal)
  ct : ∀ (s : Fin 4096) (g h : Fin 4) (d : Fin 64) (c : Fin 1024), c.val = g.val * 256 + h.val * 64 + d.val → ct (ix2 s c) = (A.ct s g h d : EReal)

/-- The positions' differences. -/
def relT : IVec S4096x4096 32 :=
  subi (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))

/-- The slopes. -/
def slopeT : FVec Ideal S16 .f32 :=
  Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))

/-- Where a key is seen. -/
def nearT : IVec S4x4x4096x4096 1 :=
  broadcastInDim S4x4x4096x4096 ![2, 3] bcast_S4096x4096_S4x4x4096x4096_2_3 (cmpi .sle (absi relT) (broadcastInDim S4096x4096 ![] bcast_S_S4096x4096 (constantI S_ 32 128#32)))

/-- The scores. -/
def scoreT (q : FVec Ideal S4096x1024 .f32) (k : FVec Ideal S4x4096x64 .f32) : FVec Ideal S4x4x4096x4096 .f32 :=
  select nearT (addf (mulf (transpose S4x4x4096x4096 [0, 3, 2, 1] (Host.dotGeneral dot_S4x4096x64_S4096x4x4x64_S4x4096x4096x4_2_3_1_02_0_1 none k (shapeCast S4096x4x4x64 q shapeCasts_S4096x1024_S4096x4x4x64)) transposes_S4x4096x4096x4_S4x4x4096x4096_0_3_2_1) (broadcastInDim S4x4x4096x4096 ![] bcast_S_S4x4x4096x4096 (constant S_ .f32 0x3E000000#32))) (mulf (broadcastInDim S4x4x4096x4096 ![0, 1, 2, 3] bcast_S4x4x1x1_S4x4x4096x4096_0_1_2_3 (Host.negf (broadcastInDim S4x4x1x1 ![0, 1] bcast_S4x4_S4x4x1x1_0_1 (shapeCast S4x4 slopeT shapeCasts_S16_S4x4)))) (broadcastInDim S4x4x4096x4096 ![0, 1, 2, 3] bcast_S1x1x4096x4096_S4x4x4096x4096_0_1_2_3 (broadcastInDim S1x1x4096x4096 ![2, 3] bcast_S4096x4096_S1x1x4096x4096_2_3 (sitofp .f32 (absi relT)))))) (broadcastInDim S4x4x4096x4096 ![] bcast_S_S4x4x4096x4096 (constant S_ .f32 0xFF800000#32))

/-- The sinks. -/
def sinkT (sink : FVec Ideal S16 .f32) : FVec Ideal S4x4x1x1 .f32 := broadcastInDim S4x4x1x1 ![0, 1] bcast_S4x4_S4x4x1x1_0_1 (shapeCast S4x4 sink shapeCasts_S16_S4x4)

/-- The rows' greatest scores. -/
def rmaxOf (sc : FVec Ideal S4x4x4096x4096 .f32) : FVec Ideal S4x4x4096 .f32 :=
  Host.reduce FloatOps.maximumf sc (constant S_ .f32 0xFF800000#32) reducesTo_S4x4x4096x4096_S4x4x4096_d3 h_S_

/-- The same with the sinks. -/
def topOf (r : FVec Ideal S4x4x4096 .f32) (sk : FVec Ideal S4x4x1x1 .f32) : FVec Ideal S4x4x4096x1 .f32 :=
  maximumf (broadcastInDim S4x4x4096x1 ![0, 1, 2] bcast_S4x4x4096_S4x4x4096x1_0_1_2 r) (broadcastInDim S4x4x4096x1 ![0, 1, 2, 3] bcast_S4x4x1x1_S4x4x4096x1_0_1_2_3 sk)

/-- The exponentials. -/
def eOf (sc : FVec Ideal S4x4x4096x4096 .f32) (t : FVec Ideal S4x4x4096x1 .f32) : FVec Ideal S4x4x4096x4096 .f32 :=
  Host.exp (subf sc (broadcastInDim S4x4x4096x4096 ![0, 1, 2, 3] bcast_S4x4x4096x1_S4x4x4096x4096_0_1_2_3 t))
@[inherit_doc eOf]
def esOf (sk : FVec Ideal S4x4x1x1 .f32) (t : FVec Ideal S4x4x4096x1 .f32) : FVec Ideal S4x4x4096x1 .f32 :=
  Host.exp (subf (broadcastInDim S4x4x4096x1 ![0, 1, 2, 3] bcast_S4x4x1x1_S4x4x4096x1_0_1_2_3 sk) t)

/-- The denominators. -/
def ZOf (e : FVec Ideal S4x4x4096x4096 .f32) (es : FVec Ideal S4x4x4096x1 .f32) : FVec Ideal S4x4x4096x1 .f32 :=
  addf (broadcastInDim S4x4x4096x1 ![0, 1, 2] bcast_S4x4x4096_S4x4x4096x1_0_1_2 (Host.reduceAdd e (constant S_ .f32 0x00000000#32) reducesTo_S4x4x4096x4096_S4x4x4096_d3 h_S_)) es

/-- The probabilities. -/
def probOf (e : FVec Ideal S4x4x4096x4096 .f32) (z : FVec Ideal S4x4x4096x1 .f32) : FVec Ideal S4x4x4096x4096 .f32 :=
  Host.divf e (broadcastInDim S4x4x4096x4096 ![0, 1, 2, 3] bcast_S4x4x4096x1_S4x4x4096x4096_0_1_2_3 z)

/-! ### Read at an index -/

theorem sinkT_read (sink) (g h : Fin 4) (a b : Fin 1) : sinkT sink (ix4 g h a b) = sink (ix1 ⟨g.val * 4 + h.val, by omega⟩) := by
  pointwise [sinkT]
theorem rmaxOf_read (sc) (g h : Fin 4) (s : Fin 4096) : rmaxOf sc (ix3 g h s) = (Finset.univ : Finset (Fin 4096)).fold max ⊥ fun n => sc (ix4 g h s n) := by
  pointwise [rmaxOf]
  rw [c_bot]
theorem topOf_read (r sk) (g h : Fin 4) (s : Fin 4096) (z : Fin 1) : topOf r sk (ix4 g h s z) = max (r (ix3 g h s)) (sk (ix4 g h 0 0)) := by
  pointwise [topOf]
theorem eOf_read (sc t) (g h : Fin 4) (s n : Fin 4096) : eOf sc t (ix4 g h s n) = Ideal.exp (sc (ix4 g h s n) - t (ix4 g h s 0)) := by
  pointwise [eOf]
theorem esOf_read (sk t) (g h : Fin 4) (s : Fin 4096) (z : Fin 1) : esOf sk t (ix4 g h s z) = Ideal.exp (sk (ix4 g h 0 0) - t (ix4 g h s z)) := by
  pointwise [esOf]
theorem ZOf_read (e es) (g h : Fin 4) (s : Fin 4096) (z : Fin 1) : ZOf e es (ix4 g h s z) = (∑ n : Fin 4096, e (ix4 g h s n)) + es (ix4 g h s z) := by
  pointwise [ZOf]
theorem probOf_read (e z) (g h : Fin 4) (s n : Fin 4096) : probOf e z (ix4 g h s n) = Ideal.div (e (ix4 g h s n)) (z (ix4 g h s 0)) := by
  pointwise [probOf]

/-! ### On the arguments -/

variable (q : FVec Ideal S4096x1024 .f32) (k v : FVec Ideal S4x4096x64 .f32) (sink : FVec Ideal S16 .f32) (ct : FVec Ideal S4096x1024 .f32)

def topT : FVec Ideal S4x4x4096x1 .f32 := topOf (rmaxOf (scoreT q k)) (sinkT sink)
def eT : FVec Ideal S4x4x4096x4096 .f32 := eOf (scoreT q k) (topT q k sink)
def esT : FVec Ideal S4x4x4096x1 .f32 := esOf (sinkT sink) (topT q k sink)
def ZT : FVec Ideal S4x4x4096x1 .f32 := ZOf (eT q k sink) (esT q k sink)
def probT : FVec Ideal S4x4x4096x4096 .f32 := probOf (eT q k sink) (ZT q k sink)

variable {q k v sink ct} {A : Args} (H : Holds A q k v sink ct)

theorem nearT_at (g h : Fin 4) (s n : Fin 4096) : nearT (ix4 g h s n) = if near s n then 1#1 else 0#1 := by
  pointwise [nearT, relT]
  exact cmpi_sle (absi_subi (by omega) (by omega)) (by decide)

theorem slopeT_at (g h : Fin 4) (c : Fin 16) (hc : c.val = g.val * 4 + h.val) : slopeT (ix1 c) = (slope g h : EReal) := by
  pointwise [slopeT]
  rw [c_two, c_neg8, c_16, hc]
  rw [show FloatOps.sitofp (F := Ideal) FTy.f32 (BitVec.ofNat 32 (g.val * 4 + h.val)) = (((g.val * 4 + h.val : ℕ) : ℝ) : EReal) from by
    show (((BitVec.ofNat 32 (g.val * 4 + h.val)).toInt : ℝ) : EReal) = _
    rw [toInt_ofNat (by omega)]; norm_cast]
  rw [show (1 : EReal) = ((1 : ℝ) : EReal) from rfl, ← EReal.coe_add, ← EReal.coe_mul, div_real (by norm_num), Ideal.pow_coe_coe]
  rfl

include H

theorem scoreT_at (g h : Fin 4) (s n : Fin 4096) : scoreT q k (ix4 g h s n) = A.scoreE g h s n := by
  pointwise [scoreT, relT]
  rw [nearT_at, select_if, c_bot, c_eighth]
  unfold Args.scoreE
  congr 1
  rw [slopeT_at g h _ rfl]
  rw [show FloatOps.sitofp (F := Ideal) FTy.f32 (IntOp.absi (IntOp.subi (BitVec.ofNat 32 n.val) (BitVec.ofNat 32 s.val))) = ((dist s n : ℝ) : EReal) from by
    show (((IntOp.absi (IntOp.subi (BitVec.ofNat 32 n.val) (BitVec.ofNat 32 s.val))).toInt : ℝ) : EReal) = _
    rw [absi_subi (by omega) (by omega)]; rfl]
  unfold Args.score
  rw [EReal.coe_add, EReal.coe_mul, EReal.coe_mul, EReal.coe_neg, ← coe_sum]
  congr 2
  exact Finset.sum_congr rfl fun d _ => by rw [H.k, H.q s g h d _ rfl, EReal.coe_mul]

theorem rmaxT_at (g h : Fin 4) (s : Fin 4096) : rmaxOf (scoreT q k) (ix3 g h s) = (A.rmax g h s : EReal) := by
  rw [rmaxOf_read, ← A.fold_max]
  exact congrArg (Finset.fold max ⊥ · Finset.univ) (funext fun n => scoreT_at H g h s n)

theorem sinkT_at (g h : Fin 4) (a b : Fin 1) : sinkT sink (ix4 g h a b) = (A.sink g h : EReal) := by
  rw [sinkT_read, H.sink g h _ rfl]

theorem topT_at (g h : Fin 4) (s : Fin 4096) (z : Fin 1) : topT q k sink (ix4 g h s z) = (A.top g h s : EReal) := by
  unfold topT
  rw [topOf_read, rmaxT_at H, sinkT_at H, ← Monotone.map_max EReal.coe_strictMono.monotone]
  unfold Args.top
  rfl

theorem eT_at (g h : Fin 4) (s n : Fin 4096) : eT q k sink (ix4 g h s n) = (A.e g h s n : EReal) := by
  unfold eT
  rw [eOf_read, scoreT_at H, topT_at H]
  unfold Args.scoreE Args.e
  split
  · rw [← EReal.coe_sub, Ideal.exp_coe]
  · rw [EReal.bot_sub, Ideal.exp_bot, EReal.coe_zero]

theorem esT_at (g h : Fin 4) (s : Fin 4096) (z : Fin 1) : esT q k sink (ix4 g h s z) = (A.es g h s : EReal) := by
  unfold esT
  rw [esOf_read, topT_at H, sinkT_at H, ← EReal.coe_sub, Ideal.exp_coe]
  unfold Args.es
  rfl

theorem ZT_at (g h : Fin 4) (s : Fin 4096) (z : Fin 1) : ZT q k sink (ix4 g h s z) = (A.Z g h s : EReal) := by
  unfold ZT
  rw [ZOf_read, esT_at H]
  unfold Args.Z
  rw [EReal.coe_add, ← coe_sum]
  exact congrArg (· + _) (Finset.sum_congr rfl fun n _ => eT_at H g h s n)

theorem probT_at (g h : Fin 4) (s n : Fin 4096) : probT q k sink (ix4 g h s n) = ((A.e g h s n * (1 / A.Z g h s) : ℝ) : EReal) := by
  unfold probT
  rw [probOf_read, eT_at H, ZT_at H, div_real (A.Z_ne g h s)]

end Cert.Attn

end
-- ==== Proof.HostValue.lean ====
module

public import proofs.«01_k».proof.Proof.Contents
public import proofs.«01_k».proof.Proof.Forward
public import proofs.«01_k».proof.Proof.BlockValue
public import Idealize.ShloMosaic.Lib.Claim

/-! What the kernel's host operations give the call: the layouts of the arguments, the rows' log-sums in base 2 and the rows' sums
of the cotangent times the output. -/

@[expose] public section

set_option maxRecDepth 16384

noncomputable section

namespace Cert.KernelIdeal.Hand

open Idealize.ShloMosaic Idealize.ShloMosaic.TcCoe
open Cert.KernelIdeal.Gen Cert.Attn

variable (m : (ℓ : Loc nD τ sig) → Buf (Elt Ideal) ℓ) (c : Dev nD)

/-- The logarithm of two. -/
def log2T : FVec Ideal S_ .f32 := Host.log (constant S_ .f32 0x40000000#32)

/-- The queries, scaled, by head. -/
def qsOf (q : FVec Ideal S4096x1024 .f32) : FVec Ideal S16x4096x64 .bf16 :=
  truncf .bf16 (transpose S16x4096x64 [1, 0, 2] (shapeCast S4096x16x64 (mulf q (broadcastInDim S4096x1024 ![] bcast_S_S4096x1024 (Host.divf (constant S_ .f32 0x3E000000#32) log2T))) shapeCasts_S4096x1024_S4096x16x64) transposes_S4096x16x64_S16x4096x64_1_0_2) bitsLt_bf16_f32

/-- The keys, features first. -/
def ktOf (k : FVec Ideal S4x4096x64 .f32) : FVec Ideal S4x64x4096 .bf16 :=
  transpose S4x64x4096 [0, 2, 1] (truncf .bf16 k bitsLt_bf16_f32) transposes_S4x4096x64_S4x64x4096_0_2_1

/-- The rows' log-sums in base 2. -/
def lseOf (t z : FVec Ideal S4x4x4096x1 .f32) : FVec Ideal S16x1x4096 .f32 :=
  shapeCast S16x1x4096 (Host.divf (addf t (Host.log z)) (broadcastInDim S4x4x4096x1 ![] bcast_S_S4x4x4096x1 log2T)) shapeCasts_S4x4x4096x1_S16x1x4096

/-- The output by head and feature. -/
def outOf (v : FVec Ideal S4x4096x64 .f32) (p : FVec Ideal S4x4x4096x4096 .f32) : FVec Ideal S4096x4x4x64 .f32 :=
  transpose S4096x4x4x64 [3, 0, 2, 1] (Host.dotGeneral dot_S4x4096x64_S4x4x4096x4096_S4x64x4x4096_1_3_2_12_0_0 none v p) transposes_S4x64x4x4096_S4096x4x4x64_3_0_2_1

/-- The rows' sums of the cotangent times the output. -/
def deltaOf (ct : FVec Ideal S4096x1024 .f32) (o : FVec Ideal S4096x4x4x64 .f32) : FVec Ideal S16x1x4096 .f32 :=
  shapeCast S16x1x4096 (transpose S16x4096 [1, 0] (Host.reduceAdd (mulf (shapeCast S4096x16x64 ct shapeCasts_S4096x1024_S4096x16x64) (shapeCast S4096x16x64 o shapeCasts_S4096x4x4x64_S4096x16x64)) (constant S_ .f32 0x00000000#32) reducesTo_S4096x16x64_S4096x16_d2 h_S_) transposes_S4096x16_S16x4096_1_0) shapeCasts_S16x4096_S16x1x4096

/-! ### Read at an index -/

theorem qsOf_read (q) (h : Fin 16) (s : Fin 4096) (d : Fin 64) : qsOf q (ix3 h s d) = q (ix2 s ⟨h.val * 64 + d.val, by omega⟩) * Ideal.div (Ideal.ofBits .f32 0x3E000000#32) (Ideal.log (Ideal.ofBits .f32 0x40000000#32)) := by
  pointwise [qsOf, log2T]
theorem ktOf_read (k) (g : Fin 4) (d : Fin 64) (n : Fin 4096) : ktOf k (ix3 g d n) = k (ix3 g n d) := by
  pointwise [ktOf]
theorem lseOf_read (t z) (h : Fin 16) (y : Fin 1) (s : Fin 4096) : lseOf t z (ix3 h y s) =
    Ideal.div (t (ix4 ⟨h.val / 4, by omega⟩ ⟨h.val % 4, by omega⟩ s 0) + Ideal.log (z (ix4 ⟨h.val / 4, by omega⟩ ⟨h.val % 4, by omega⟩ s 0))) (Ideal.log (Ideal.ofBits .f32 0x40000000#32)) := by
  pointwise [lseOf, log2T]
theorem outOf_read (v p) (s : Fin 4096) (g h : Fin 4) (d : Fin 64) : outOf v p (ix4 s g h d) = ∑ n : Fin 4096, v (ix3 g n d) * p (ix4 g h s n) := by
  pointwise [outOf]
theorem deltaOf_read (ct o) (h : Fin 16) (y : Fin 1) (s : Fin 4096) : deltaOf ct o (ix3 h y s) =
    ∑ d : Fin 64, ct (ix2 s ⟨h.val * 64 + d.val, by omega⟩) * o (ix4 s ⟨h.val / 4, by omega⟩ ⟨h.val % 4, by omega⟩ d) := by
  pointwise [deltaOf]

/-! ### The buffers -/

/-- An argument of core `c`. -/
def arg0 : FVec Ideal S4096x1024 .f32 := m ((c.tc : Thread nD τ).loc main_arg0)
@[inherit_doc arg0]
def arg1 : FVec Ideal S4x4096x64 .f32 := m ((c.tc : Thread nD τ).loc main_arg1)
@[inherit_doc arg0]
def arg2 : FVec Ideal S4x4096x64 .f32 := m ((c.tc : Thread nD τ).loc main_arg2)
@[inherit_doc arg0]
def arg3 : FVec Ideal S16 .f32 := m ((c.tc : Thread nD τ).loc main_arg3)
@[inherit_doc arg0]
def arg4 : FVec Ideal S4096x1024 .f32 := m ((c.tc : Thread nD τ).loc main_arg4)

theorem V_v70 : V m c main_v70 = qsOf (arg0 m c) := by
  entry_read
  rfl
theorem V_v71 : V m c main_v71 = truncf .bf16 (arg1 m c) bitsLt_bf16_f32 := by
  entry_read
  rfl
theorem V_v72 : V m c main_v72 = ktOf (arg1 m c) := by
  entry_read
  rfl
theorem V_v73 : V m c main_v73 = truncf .bf16 (arg2 m c) bitsLt_bf16_f32 := by
  entry_read
  rfl
theorem V_v74 : V m c main_v74 = truncf .bf16 (arg4 m c) bitsLt_bf16_f32 := by
  entry_read
  rfl
theorem V_v75 : V m c main_v75 = shapeCast S16x1x1 slopeT shapeCasts_S16_S16x1x1 := by
  entry_read
  rfl
theorem after_append (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

section Later

variable (σ : Valuation τ sig (Elt Ideal))

/-- What the last stretch of operations makes of the scores, of the sinks and of the other arguments. -/
def laterTop (sc : FVec Ideal S4x4x4096x4096 .f32) (sink : FVec Ideal S16 .f32) : FVec Ideal S4x4x4096x1 .f32 := topOf (rmaxOf sc) (sinkT sink)
@[inherit_doc laterTop]
def laterZ (sc : FVec Ideal S4x4x4096x4096 .f32) (sink : FVec Ideal S16 .f32) : FVec Ideal S4x4x4096x1 .f32 :=
  ZOf (eOf sc (laterTop sc sink)) (esOf (sinkT sink) (laterTop sc sink))
@[inherit_doc laterTop]
def laterProb (sc : FVec Ideal S4x4x4096x4096 .f32) (sink : FVec Ideal S16 .f32) : FVec Ideal S4x4x4096x4096 .f32 :=
  probOf (eOf sc (laterTop sc sink)) (laterZ sc sink)

theorem later_v58 : StableHlo.after hostOps0_2 σ main_v58 = lseOf (laterTop (σ main_v33) (σ main_arg3)) (laterZ (σ main_v33) (σ main_arg3)) := by
  entry_read
  rfl
theorem later_v64 : StableHlo.after hostOps0_2 σ main_v64 = deltaOf (σ main_arg4) (outOf (σ main_arg2) (laterProb (σ main_v33) (σ main_arg3))) := by
  entry_read
  rfl

end Later

/-- The scores, after the first two stretches. -/
theorem scores : StableHlo.after (hostOps0 ++ hostOps0_1) (fun b => m (c, b)) main_v33 = scoreT (arg0 m c) (arg1 m c) := by
  entry_read
  rfl
theorem kept2 : StableHlo.after (hostOps0 ++ hostOps0_1) (fun b => m (c, b)) main_arg2 = arg2 m c := by
  entry_read
  rfl
theorem kept3 : StableHlo.after (hostOps0 ++ hostOps0_1) (fun b => m (c, b)) main_arg3 = arg3 m c := by
  entry_read
  rfl
theorem kept4 : StableHlo.after (hostOps0 ++ hostOps0_1) (fun b => m (c, b)) main_arg4 = arg4 m c := by
  entry_read
  rfl

theorem V_split (b : Ref sig .tc) : V m c b = StableHlo.after hostOps0_2 (StableHlo.after (hostOps0 ++ hostOps0_1) fun b => m (c, b)) b := by
  rw [← after_append]
  rfl

theorem V_v58 : V m c main_v58 = lseOf (topT (arg0 m c) (arg1 m c) (arg3 m c)) (ZT (arg0 m c) (arg1 m c) (arg3 m c)) := by
  rw [V_split, later_v58, scores, kept3]
  rfl
theorem V_v64 : V m c main_v64 = deltaOf (arg4 m c) (outOf (arg2 m c) (probT (arg0 m c) (arg1 m c) (arg3 m c))) := by
  rw [V_split, later_v64, scores, kept3, kept2, kept4]
  rfl

end Cert.KernelIdeal.Hand

end
-- ==== Proof.Windows.lean ====
module

public import proofs.«01_k».proof.Proof.HostValue
public import Idealize.ShloMosaic.Lib.Pipeline.Value
public import Idealize.ShloMosaic.Lib.Pipeline.ValueKit

/-! The blocks of a point, read in the arrays: point `t` has key head `t / 4` and the queries of the quarter `t % 4`. -/

@[expose] public section

set_option maxRecDepth 16384

noncomputable section

namespace Cert.KernelIdeal.Hand

open Idealize.ShloMosaic Idealize.ShloMosaic.TcCoe
open Cert.KernelIdeal.Gen Cert.Attn

variable (m : (ℓ : Loc nD τ sig) → Buf (Elt Ideal) ℓ) (c : Dev nD)

theorem coord1 : ∀ t : Fin cfg0.N, ((grid0.coords t) 1).val = t.val % 4 := by decide +kernel
theorem idx0 : ∀ t : Fin cfg0.N, win0_0.index t = ![t.val / 4, t.val % 4, 0] := by decide +kernel
theorem idx1 : ∀ t : Fin cfg0.N, win0_1.index t = ![t.val / 4, 8 * (t.val % 4) - 1, 0] := by decide +kernel
theorem idx2 : ∀ t : Fin cfg0.N, win0_2.index t = ![t.val / 4, t.val % 4, 0] := by decide +kernel
theorem idx3 : ∀ t : Fin cfg0.N, win0_3.index t = ![t.val / 4, min 31 (8 * (t.val % 4) + 8), 0] := by decide +kernel
theorem idx4 : ∀ t : Fin cfg0.N, win0_4.index t = ![t.val / 4, 0, 8 * (t.val % 4) - 1] := by decide +kernel
theorem idx5 : ∀ t : Fin cfg0.N, win0_5.index t = ![t.val / 4, 0, t.val % 4] := by decide +kernel
theorem idx6 : ∀ t : Fin cfg0.N, win0_6.index t = ![t.val / 4, 0, min 31 (8 * (t.val % 4) + 8)] := by decide +kernel
theorem idx7 : ∀ t : Fin cfg0.N, win0_7.index t = ![t.val / 4, 8 * (t.val % 4) - 1, 0] := by decide +kernel
theorem idx8 : ∀ t : Fin cfg0.N, win0_8.index t = ![t.val / 4, t.val % 4, 0] := by decide +kernel
theorem idx9 : ∀ t : Fin cfg0.N, win0_9.index t = ![t.val / 4, min 31 (8 * (t.val % 4) + 8), 0] := by decide +kernel
theorem idx10 : ∀ t : Fin cfg0.N, win0_10.index t = ![t.val % 4, t.val / 4] := by decide +kernel
theorem idx11 : ∀ t : Fin cfg0.N, win0_11.index t = ![t.val / 4, 0, t.val % 4] := by decide +kernel
theorem idx12 : ∀ t : Fin cfg0.N, win0_12.index t = ![t.val / 4, 0, t.val % 4] := by decide +kernel
theorem idx13 : ∀ t : Fin cfg0.N, win0_13.index t = ![t.val / 4, 0, 0] := by decide +kernel
theorem idx14 : ∀ t : Fin cfg0.N, win0_14.index t = ![t.val % 4, t.val / 4] := by decide +kernel
theorem idx15 : ∀ t : Fin cfg0.N, win0_15.index t = ![t.val / 4, 0, 0] := by decide +kernel
theorem idx16 : ∀ t : Fin cfg0.N, win0_16.index t = ![t.val / 4, 0, 0] := by decide +kernel

theorem lt16 (t : Fin cfg0.N) : t.val < 16 := lt_of_lt_of_eq t.isLt (show cfg0.N = 16 from N_0)

variable (t : Fin cfg0.N)

theorem blk0 (h : Fin 4) (r : Fin 1024) (d : Fin 64) (H : Fin 16) (s : Fin 4096) (hH : H.val = 4 * (t.val / 4) + h.val) (hs : s.val = 1024 * (t.val % 4) + r.val) :
    iblk m c 0 t (ix3 h r d) = V m c main_v70 (ix3 H s d) := by
  blk_ext [iblk, idx0 t]
theorem blk1 (r : Fin 128) (d : Fin 64) (g : Fin 4) (n : Fin 4096) (hg : g.val = t.val / 4) (hn : n.val = 128 * (8 * (t.val % 4) - 1) + r.val) :
    iblk m c 1 t (ix3 0 r d) = V m c main_v71 (ix3 g n d) := by
  blk_ext [iblk, idx1 t]
theorem blk2 (r : Fin 1024) (d : Fin 64) (g : Fin 4) (n : Fin 4096) (hg : g.val = t.val / 4) (hn : n.val = 1024 * (t.val % 4) + r.val) :
    iblk m c 2 t (ix3 0 r d) = V m c main_v71 (ix3 g n d) := by
  blk_ext [iblk, idx2 t]
theorem blk3 (r : Fin 128) (d : Fin 64) (g : Fin 4) (n : Fin 4096) (hg : g.val = t.val / 4) (hn : n.val = 128 * min 31 (8 * (t.val % 4) + 8) + r.val) :
    iblk m c 3 t (ix3 0 r d) = V m c main_v71 (ix3 g n d) := by
  blk_ext [iblk, idx3 t]
theorem blk7 (r : Fin 128) (d : Fin 64) (g : Fin 4) (n : Fin 4096) (hg : g.val = t.val / 4) (hn : n.val = 128 * (8 * (t.val % 4) - 1) + r.val) :
    iblk m c 7 t (ix3 0 r d) = V m c main_v73 (ix3 g n d) := by
  blk_ext [iblk, idx7 t]
theorem blk8 (r : Fin 1024) (d : Fin 64) (g : Fin 4) (n : Fin 4096) (hg : g.val = t.val / 4) (hn : n.val = 1024 * (t.val % 4) + r.val) :
    iblk m c 8 t (ix3 0 r d) = V m c main_v73 (ix3 g n d) := by
  blk_ext [iblk, idx8 t]
theorem blk9 (r : Fin 128) (d : Fin 64) (g : Fin 4) (n : Fin 4096) (hg : g.val = t.val / 4) (hn : n.val = 128 * min 31 (8 * (t.val % 4) + 8) + r.val) :
    iblk m c 9 t (ix3 0 r d) = V m c main_v73 (ix3 g n d) := by
  blk_ext [iblk, idx9 t]
theorem blk4 (r : Fin 128) (d : Fin 64) (g : Fin 4) (n : Fin 4096) (hg : g.val = t.val / 4) (hn : n.val = 128 * (8 * (t.val % 4) - 1) + r.val) :
    iblk m c 4 t (ix3 0 d r) = V m c main_v72 (ix3 g d n) := by
  blk_ext [iblk, idx4 t]
theorem blk5 (r : Fin 1024) (d : Fin 64) (g : Fin 4) (n : Fin 4096) (hg : g.val = t.val / 4) (hn : n.val = 1024 * (t.val % 4) + r.val) :
    iblk m c 5 t (ix3 0 d r) = V m c main_v72 (ix3 g d n) := by
  blk_ext [iblk, idx5 t]
theorem blk6 (r : Fin 128) (d : Fin 64) (g : Fin 4) (n : Fin 4096) (hg : g.val = t.val / 4) (hn : n.val = 128 * min 31 (8 * (t.val % 4) + 8) + r.val) :
    iblk m c 6 t (ix3 0 d r) = V m c main_v72 (ix3 g d n) := by
  blk_ext [iblk, idx6 t]
theorem blk10 (r : Fin 1024) (c₁ : Fin 256) (s : Fin 4096) (c₂ : Fin 1024) (hs : s.val = 1024 * (t.val % 4) + r.val) (hc : c₂.val = 256 * (t.val / 4) + c₁.val) :
    iblk m c 10 t (ix2 r c₁) = V m c main_v74 (ix2 s c₂) := by
  blk_ext [iblk, idx10 t]
theorem blk11 (h : Fin 4) (r : Fin 1024) (H : Fin 16) (s : Fin 4096) (hH : H.val = 4 * (t.val / 4) + h.val) (hs : s.val = 1024 * (t.val % 4) + r.val) :
    iblk m c 11 t (ix3 h 0 r) = V m c main_v58 (ix3 H 0 s) := by
  blk_ext [iblk, idx11 t]
theorem blk12 (h : Fin 4) (r : Fin 1024) (H : Fin 16) (s : Fin 4096) (hH : H.val = 4 * (t.val / 4) + h.val) (hs : s.val = 1024 * (t.val % 4) + r.val) :
    iblk m c 12 t (ix3 h 0 r) = V m c main_v64 (ix3 H 0 s) := by
  blk_ext [iblk, idx12 t]
theorem blk13 (h : Fin 4) (H : Fin 16) (hH : H.val = 4 * (t.val / 4) + h.val) :
    iblk m c 13 t (ix3 h 0 0) = V m c main_v75 (ix3 H 0 0) := by
  blk_ext [iblk, idx13 t]

/-! ### The same from the arguments -/

theorem rd_q (h : Fin 4) (r : Fin 1024) (d : Fin 64) (H : Fin 16) (s : Fin 4096) (hH : H.val = 4 * (t.val / 4) + h.val) (hs : s.val = 1024 * (t.val % 4) + r.val) : (ins m c t).q (ix3 h r d) = qsOf (arg0 m c) (ix3 H s d) :=
  (blk0 m c t h r d H s hH hs).trans (congrFun (V_v70 m c) _)
theorem rd_kp (r : Fin 128) (d : Fin 64) (g : Fin 4) (n : Fin 4096) (hg : g.val = t.val / 4) (hn : n.val = 128 * (8 * (t.val % 4) - 1) + r.val) : (ins m c t).kp (ix3 0 r d) = arg1 m c (ix3 g n d) :=
  (blk1 m c t r d g n hg hn).trans (congrFun (V_v71 m c) _)
theorem rd_ko (r : Fin 1024) (d : Fin 64) (g : Fin 4) (n : Fin 4096) (hg : g.val = t.val / 4) (hn : n.val = 1024 * (t.val % 4) + r.val) : (ins m c t).ko (ix3 0 r d) = arg1 m c (ix3 g n d) :=
  (blk2 m c t r d g n hg hn).trans (congrFun (V_v71 m c) _)
theorem rd_kn (r : Fin 128) (d : Fin 64) (g : Fin 4) (n : Fin 4096) (hg : g.val = t.val / 4) (hn : n.val = 128 * min 31 (8 * (t.val % 4) + 8) + r.val) : (ins m c t).kn (ix3 0 r d) = arg1 m c (ix3 g n d) :=
  (blk3 m c t r d g n hg hn).trans (congrFun (V_v71 m c) _)
theorem rd_vp (r : Fin 128) (d : Fin 64) (g : Fin 4) (n : Fin 4096) (hg : g.val = t.val / 4) (hn : n.val = 128 * (8 * (t.val % 4) - 1) + r.val) : (ins m c t).vp (ix3 0 r d) = arg2 m c (ix3 g n d) :=
  (blk7 m c t r d g n hg hn).trans (congrFun (V_v73 m c) _)
theorem rd_vo (r : Fin 1024) (d : Fin 64) (g : Fin 4) (n : Fin 4096) (hg : g.val = t.val / 4) (hn : n.val = 1024 * (t.val % 4) + r.val) : (ins m c t).vo (ix3 0 r d) = arg2 m c (ix3 g n d) :=
  (blk8 m c t r d g n hg hn).trans (congrFun (V_v73 m c) _)
theorem rd_vn (r : Fin 128) (d : Fin 64) (g : Fin 4) (n : Fin 4096) (hg : g.val = t.val / 4) (hn : n.val = 128 * min 31 (8 * (t.val % 4) + 8) + r.val) : (ins m c t).vn (ix3 0 r d) = arg2 m c (ix3 g n d) :=
  (blk9 m c t r d g n hg hn).trans (congrFun (V_v73 m c) _)
theorem rd_ktp (r : Fin 128) (d : Fin 64) (g : Fin 4) (n : Fin 4096) (hg : g.val = t.val / 4) (hn : n.val = 128 * (8 * (t.val % 4) - 1) + r.val) : (ins m c t).ktp (ix3 0 d r) = ktOf (arg1 m c) (ix3 g d n) :=
  (blk4 m c t r d g n hg hn).trans (congrFun (V_v72 m c) _)
theorem rd_kto (r : Fin 1024) (d : Fin 64) (g : Fin 4) (n : Fin 4096) (hg : g.val = t.val / 4) (hn : n.val = 1024 * (t.val % 4) + r.val) : (ins m c t).kto (ix3 0 d r) = ktOf (arg1 m c) (ix3 g d n) :=
  (blk5 m c t r d g n hg hn).trans (congrFun (V_v72 m c) _)
theorem rd_ktn (r : Fin 128) (d : Fin 64) (g : Fin 4) (n : Fin 4096) (hg : g.val = t.val / 4) (hn : n.val = 128 * min 31 (8 * (t.val % 4) + 8) + r.val) : (ins m c t).ktn (ix3 0 d r) = ktOf (arg1 m c) (ix3 g d n) :=
  (blk6 m c t r d g n hg hn).trans (congrFun (V_v72 m c) _)
theorem rd_dy (r : Fin 1024) (c₁ : Fin 256) (s : Fin 4096) (c₂ : Fin 1024) (hs : s.val = 1024 * (t.val % 4) + r.val) (hc : c₂.val = 256 * (t.val / 4) + c₁.val) : (ins m c t).dy (ix2 r c₁) = arg4 m c (ix2 s c₂) :=
  (blk10 m c t r c₁ s c₂ hs hc).trans (congrFun (V_v74 m c) _)
theorem rd_lse (h : Fin 4) (r : Fin 1024) (H : Fin 16) (s : Fin 4096) (hH : H.val = 4 * (t.val / 4) + h.val) (hs : s.val = 1024 * (t.val % 4) + r.val) : (ins m c t).lse (ix3 h 0 r) = lseOf (topT (arg0 m c) (arg1 m c) (arg3 m c)) (ZT (arg0 m c) (arg1 m c) (arg3 m c)) (ix3 H 0 s) :=
  (blk11 m c t h r H s hH hs).trans (congrFun (V_v58 m c) _)
theorem rd_dl (h : Fin 4) (r : Fin 1024) (H : Fin 16) (s : Fin 4096) (hH : H.val = 4 * (t.val / 4) + h.val) (hs : s.val = 1024 * (t.val % 4) + r.val) : (ins m c t).dl (ix3 h 0 r) = deltaOf (arg4 m c) (outOf (arg2 m c) (probT (arg0 m c) (arg1 m c) (arg3 m c))) (ix3 H 0 s) :=
  (blk12 m c t h r H s hH hs).trans (congrFun (V_v64 m c) _)
theorem rd_sl (h : Fin 4) (H : Fin 16) (hH : H.val = 4 * (t.val / 4) + h.val) : (ins m c t).sl (ix3 h 0 0) = shapeCast S16x1x1 slopeT shapeCasts_S16_S16x1x1 (ix3 H 0 0) :=
  (blk13 m c t h H hH).trans (congrFun (V_v75 m c) _)

end Cert.KernelIdeal.Hand

end
-- ==== Proof.Points.lean ====
module

public import proofs.«01_k».proof.Proof.Windows

/-! The blocks of a point hold the numbers that the block computations take. -/

@[expose] public section

set_option maxRecDepth 16384

noncomputable section

namespace Cert.KernelIdeal.Hand

open Idealize.ShloMosaic Idealize.ShloMosaic.TcCoe
open Cert.KernelIdeal.Gen Cert.Attn

/-! ### The blocks in real numbers -/

theorem c_log2 : Ideal.log (Ideal.ofBits .f32 0x40000000#32) = (Real.log 2 : EReal) := by
  rw [c_two, Ideal.log_coe, if_neg (by norm_num)]
theorem c_qscale : Ideal.div (Ideal.ofBits .f32 0x3E000000#32) (Ideal.log (Ideal.ofBits .f32 0x40000000#32)) = (qscale : EReal) := by
  rw [c_log2, c_eighth, div_real log2_ne]
  rfl

theorem key_lo {i : Fin 4} {R : Fin 1280} {r : ℕ} (hr : r < 128) (h : R.val = r) : (key i R).val = 128 * (8 * i.val - 1) + r := by
  simp only [key, keyN]
  split_ifs <;> omega
theorem key_mid {i : Fin 4} {R : Fin 1280} {r : ℕ} (hr : r < 1024) (h : R.val = 128 + r) : (key i R).val = 1024 * i.val + r := by
  simp only [key, keyN]
  split_ifs <;> omega
theorem key_hi {i : Fin 4} {R : Fin 1280} {r : ℕ} (h : R.val = 1152 + r) : (key i R).val = 128 * min 31 (8 * i.val + 8) + r := by
  simp only [key, keyN]
  split_ifs <;> omega

theorem at0 {g i : Fin 4} {n : ℕ} (ht : n = 4 * g.val + i.val) : g.val = n / 4 := by omega
theorem at1 {g i : Fin 4} {n : ℕ} (ht : n = 4 * g.val + i.val) : n % 4 = i.val := by omega

/-- The query head `h` of key head `g`. -/
def hd (g h : Fin 4) : Fin 16 := ⟨4 * g.val + h.val, by omega⟩
theorem hd_div (g h : Fin 4) : (⟨(hd g h).val / 4, by omega⟩ : Fin 4) = g := Fin.ext (by simp only [hd]; omega)
theorem hd_mod (g h : Fin 4) : (⟨(hd g h).val % 4, by omega⟩ : Fin 4) = h := Fin.ext (by simp only [hd]; omega)

section Arrays

variable {A : Args} {q : FVec Ideal S4096x1024 .f32} {k v : FVec Ideal S4x4096x64 .f32} {sink : FVec Ideal S16 .f32} {ct : FVec Ideal S4096x1024 .f32} (hA : Holds A q k v sink ct)
include hA

theorem qs_at (g h : Fin 4) (s : Fin 4096) (d : Fin 64) : qsOf q (ix3 (hd g h) s d) = ((A.q s g h d * qscale : ℝ) : EReal) := by
  rw [qsOf_read, c_qscale, hA.q s g h d _ (by simp only [hd]; omega), ← EReal.coe_mul]

theorem lseT_at (g h : Fin 4) (s : Fin 4096) : lseOf (topT q k sink) (ZT q k sink) (ix3 (hd g h) 0 s) = (((A.top g h s + Real.log (A.Z g h s)) * (1 / Real.log 2) : ℝ) : EReal) := by
  rw [lseOf_read, hd_div, hd_mod, topT_at hA, ZT_at hA, c_log2, Ideal.log_coe, if_neg (not_le.mpr (A.Z_pos g h s)), ← EReal.coe_add, div_real log2_ne]

theorem delta_at (g h : Fin 4) (s : Fin 4096) : deltaOf ct (outOf v (probT q k sink)) (ix3 (hd g h) 0 s) = (A.delta g h s : EReal) := by
  rw [deltaOf_read, hd_div, hd_mod]
  unfold Args.delta
  rw [← coe_sum]
  refine Finset.sum_congr rfl fun d _ => ?_
  rw [outOf_read, hA.ct s g h d _ (by simp only [hd]; omega), EReal.coe_mul]
  congr 1
  rw [← coe_sum]
  refine Finset.sum_congr rfl fun n _ => ?_
  rw [hA.v, probT_at hA, ← EReal.coe_mul]

end Arrays

theorem sl_at (g h : Fin 4) : shapeCast S16x1x1 slopeT shapeCasts_S16_S16x1x1 (ix3 (hd g h) 0 0) = (slope g h : EReal) := by
  rw [← slopeT_at g h (hd g h) (by simp only [hd]; omega)]
  generalize slopeT = sl
  revert sl
  intro (sl : FVec Ideal S16 .f32)
  pointwise

variable (m : (ℓ : Loc nD τ sig) → Buf (Elt Ideal) ℓ) (c : Dev nD) (t : Fin cfg0.N)
variable {A : Args} (hA : Holds A (arg0 m c) (arg1 m c) (arg2 m c) (arg3 m c) (arg4 m c))
include hA

/-- The blocks of point `4 g + i`. -/
theorem has (g i : Fin 4) (ht : t.val = 4 * g.val + i.val) : Has A g i (ins m c t) := by
  have h0 := at0 ht
  have h1 := at1 ht
  have hh : ∀ h : Fin 4, (hd g h).val = 4 * (t.val / 4) + h.val := fun h => by rw [← h0]; rfl
  have e_q := rd_q m c t
  have e_kp := rd_kp m c t
  have e_ko := rd_ko m c t
  have e_kn := rd_kn m c t
  have e_ktp := rd_ktp m c t
  have e_kto := rd_kto m c t
  have e_ktn := rd_ktn m c t
  have e_vp := rd_vp m c t
  have e_vo := rd_vo m c t
  have e_vn := rd_vn m c t
  have e_dy := rd_dy m c t
  have e_lse := rd_lse m c t
  have e_dl := rd_dl m c t
  have e_sl := rd_sl m c t
  generalize ins m c t = X at *
  rw [h1] at *
  exact
    { q := fun h r d s hs => (e_q h r d (hd g h) s (hh h) hs).trans (qs_at hA g h s d)
      kp := fun r d R hR => (e_kp r d g (key i R) h0 (key_lo r.isLt hR)).trans (hA.k _ _ _)
      ko := fun r d R hR => (e_ko r d g (key i R) h0 (key_mid r.isLt hR)).trans (hA.k _ _ _)
      kn := fun r d R hR => (e_kn r d g (key i R) h0 (key_hi hR)).trans (hA.k _ _ _)
      ktp := fun r d R hR => (e_ktp r d g (key i R) h0 (key_lo r.isLt hR)).trans ((ktOf_read _ _ _ _).trans (hA.k _ _ _))
      kto := fun r d R hR => (e_kto r d g (key i R) h0 (key_mid r.isLt hR)).trans ((ktOf_read _ _ _ _).trans (hA.k _ _ _))
      ktn := fun r d R hR => (e_ktn r d g (key i R) h0 (key_hi hR)).trans ((ktOf_read _ _ _ _).trans (hA.k _ _ _))
      vp := fun r d R hR => (e_vp r d g (key i R) h0 (key_lo r.isLt hR)).trans (hA.v _ _ _)
      vo := fun r d R hR => (e_vo r d g (key i R) h0 (key_mid r.isLt hR)).trans (hA.v _ _ _)
      vn := fun r d R hR => (e_vn r d g (key i R) h0 (key_hi hR)).trans (hA.v _ _ _)
      dy := fun h r d s c₁ hs hc => (e_dy r c₁ s ⟨256 * g.val + c₁.val, by omega⟩ hs (by rw [← h0])).trans (hA.ct s g h d _ (by simp only; omega))
      lse := fun h r s hs => (e_lse h r (hd g h) s (hh h) hs).trans (lseT_at hA g h s)
      dl := fun h r s hs => (e_dl h r (hd g h) s (hh h) hs).trans (delta_at hA g h s)
      sl := fun h => (e_sl h (hd g h) (hh h)).trans (sl_at g h) }

end Cert.KernelIdeal.Hand

end
-- ==== Proof.Sums.lean ====
module

public import proofs.«01_k».proof.Proof.Accumulate
public import proofs.«01_k».proof.Proof.Points

/-! The gradients of a key head's keys and values after each of its four points, and after the last. -/

@[expose] public section

set_option maxRecDepth 16384

noncomputable section

namespace Cert.KernelIdeal.Hand

open Idealize.ShloMosaic Idealize.ShloMosaic.TcCoe
open Cert.KernelIdeal.Gen Cert.Attn

/-- What query `s` of head `h` gives to the value of key `n`, at feature `d`. -/
def dvF (A : Args) (g : Fin 4) (d : Fin 64) (h : Fin 4) (s n : Fin 4096) : ℝ := A.ct s g h d * (A.e g h s n * (1 / A.Z g h s))
/-- What it gives to the key, the queries scaled. -/
def dkF (A : Args) (g : Fin 4) (d : Fin 64) (h : Fin 4) (s n : Fin 4096) : ℝ := A.dS g h s n * (1 / 8) * (A.q s g h d * qscale)

theorem dvF_far (A : Args) (g : Fin 4) (d : Fin 64) (h : Fin 4) (s n : Fin 4096) (hn : ¬near s n) : dvF A g d h s n = 0 := by
  unfold dvF; rw [A.e_far hn]; ring
theorem dkF_far (A : Args) (g : Fin 4) (d : Fin 64) (h : Fin 4) (s n : Fin 4096) (hn : ¬near s n) : dkF A g d h s n = 0 := by
  unfold dkF; rw [A.dS_far hn]; ring

section Point

variable {A : Args} {g i : Fin 4} {X : Ins Ideal} (co : grid0.Coords) (H : Has A g i X) (hco : (co 1).val = i.val)
include H hco

theorem dvS_at (q : Fin 1280) (d : Fin 64) : X.dvS co (ix2 q d) = ((row i q (give i (dvF A g d)) : ℝ) : EReal) :=
  accs_at i (X.dvC co) d (dvF A g d) (dvF_far A g d) (fun u r => dvC_at co H hco u r d) q
theorem dkS_at (q : Fin 1280) (d : Fin 64) : X.dkS co (ix2 q d) = ((row i q (give i (dkF A g d)) : ℝ) : EReal) :=
  accs_at i (X.dkC co) d (dkF A g d) (dkF_far A g d) (fun u r => dkC_at co H hco u r d) q

theorem dvPoint_at (Y : Vec Ideal S1x4096x64 .f32) (z : Fin 1) (n : Fin 4096) (d : Fin 64) (y : ℝ) (hY : Y (ix3 z n d) = (y : EReal)) :
    dvOut co (X.dvS co) Y (ix3 z n d) = ((y + give i (dvF A g d) n : ℝ) : EReal) :=
  dvOut_at co i hco (X.dvS co) Y z n d (give i (dvF A g d)) y hY (fun q => dvS_at co H hco q d) (give_far (dvF_far A g d))
theorem dkPoint_at (Y : Vec Ideal S1x4096x64 .f32) (z : Fin 1) (n : Fin 4096) (d : Fin 64) (y : ℝ) (hY : Y (ix3 z n d) = (y : EReal)) :
    dkOut co (X.dkS co) Y (ix3 z n d) = ((y + give i (dkF A g d) n * (8 * Real.log 2) : ℝ) : EReal) :=
  dkOut_at co i hco (X.dkS co) Y z n d (give i (dkF A g d)) y hY (fun q => dkS_at co H hco q d) (give_far (dkF_far A g d))

end Point

variable (m : (ℓ : Loc nD τ sig) → Buf (Elt Ideal) ℓ) (c : Dev nD)
variable {A : Args} (hA : Holds A (arg0 m c) (arg1 m c) (arg2 m c) (arg3 m c) (arg4 m c))

/-- Point `k` of key head `g`. -/
def ptOf (g : Fin 4) (k : ℕ) (hk : k < 4) : Fin cfg0.N := ⟨4 * g.val + k, lt_of_lt_of_eq (show 4 * g.val + k < 16 by omega) N_0.symm⟩

theorem ptOf_coord (g : Fin 4) (k : ℕ) (hk : k < 4) : ((grid0.coords (ptOf g k hk)) 1).val = (⟨k, hk⟩ : Fin 4).val := by
  rw [coord1]
  show (4 * g.val + k) % 4 = k
  omega

theorem sum_le_zero (w : Fin 4 → ℝ) : (∑ i : Fin 4, if i.val ≤ 0 then w i else 0) = 0 + w 0 := by
  simp [Fin.sum_univ_four]
theorem sum_le_succ (w : Fin 4 → ℝ) (k : ℕ) (hk : k + 1 < 4) : (∑ i : Fin 4, if i.val ≤ k + 1 then w i else 0) = (∑ i : Fin 4, if i.val ≤ k then w i else 0) + w ⟨k + 1, hk⟩ := by
  have : k = 0 ∨ k = 1 ∨ k = 2 := by omega
  rcases this with rfl | rfl | rfl <;> simp [Fin.sum_univ_four] <;> rfl

include hA

theorem dvAt_at (g : Fin 4) (z : Fin 1) (n : Fin 4096) (d : Fin 64) :
    ∀ (k : ℕ) (hk : k < 4), dvAt m c (4 * g.val + k) (ix3 z n d) = ((∑ i : Fin 4, if i.val ≤ k then give i (dvF A g d) n else 0 : ℝ) : EReal)
  | 0, hk => by
      have e := dvAt_first m c (ptOf g 0 hk) (by show (4 * g.val + 0) % 4 = 0; omega)
      have h := dvPoint_at _ (has m c (ptOf g 0 hk) hA g ⟨0, hk⟩ rfl) (ptOf_coord g 0 hk) zeroY z n d 0 (zeroY_read z n d)
      rw [sum_le_zero]
      exact (congrFun e _).trans h
  | k + 1, hk => by
      have e := dvAt_next m c (ptOf g (k + 1) hk) (by show ¬(4 * g.val + (k + 1)) % 4 = 0; omega)
      have h := dvPoint_at _ (has m c (ptOf g (k + 1) hk) hA g ⟨k + 1, hk⟩ rfl) (ptOf_coord g (k + 1) hk) _ z n d _ (dvAt_at g z n d k (by omega))
      rw [sum_le_succ _ k hk]
      exact (congrFun e _).trans h

theorem dkAt_at (g : Fin 4) (z : Fin 1) (n : Fin 4096) (d : Fin 64) :
    ∀ (k : ℕ) (hk : k < 4), dkAt m c (4 * g.val + k) (ix3 z n d) = ((∑ i : Fin 4, if i.val ≤ k then give i (dkF A g d) n * (8 * Real.log 2) else 0 : ℝ) : EReal)
  | 0, hk => by
      have e := dkAt_first m c (ptOf g 0 hk) (by show (4 * g.val + 0) % 4 = 0; omega)
      have h := dkPoint_at _ (has m c (ptOf g 0 hk) hA g ⟨0, hk⟩ rfl) (ptOf_coord g 0 hk) zeroY z n d 0 (zeroY_read z n d)
      rw [sum_le_zero]
      exact (congrFun e _).trans h
  | k + 1, hk => by
      have e := dkAt_next m c (ptOf g (k + 1) hk) (by show ¬(4 * g.val + (k + 1)) % 4 = 0; omega)
      have h := dkPoint_at _ (has m c (ptOf g (k + 1) hk) hA g ⟨k + 1, hk⟩ rfl) (ptOf_coord g (k + 1) hk) _ z n d _ (dkAt_at g z n d k (by omega))
      rw [sum_le_succ _ k hk]
      exact (congrFun e _).trans h

/-- The values' gradient after a head's last point. -/
theorem dvLast (g : Fin 4) (z : Fin 1) (n : Fin 4096) (d : Fin 64) : dvAt m c (4 * g.val + 3) (ix3 z n d) = (A.dV g n d : EReal) := by
  rw [dvAt_at m c hA g z n d 3 (by norm_num)]
  congr 1
  unfold Args.dV
  rw [show (∑ i : Fin 4, if i.val ≤ 3 then give i (dvF A g d) n else 0) = ∑ i : Fin 4, give i (dvF A g d) n from Finset.sum_congr rfl fun i _ => if_pos (by omega), sum_give]
  rfl

/-- The keys' gradient after a head's last point. -/
theorem dkLast (g : Fin 4) (z : Fin 1) (n : Fin 4096) (d : Fin 64) : dkAt m c (4 * g.val + 3) (ix3 z n d) = (A.dK g n d : EReal) := by
  rw [dkAt_at m c hA g z n d 3 (by norm_num)]
  congr 1
  unfold Args.dK
  rw [show (∑ i : Fin 4, if i.val ≤ 3 then give i (dkF A g d) n * (8 * Real.log 2) else 0) = (∑ i : Fin 4, give i (dkF A g d) n) * (8 * Real.log 2) from by
    rw [Finset.sum_mul]
    exact Finset.sum_congr rfl fun i _ => if_pos (by omega), sum_give, Finset.sum_mul]
  refine Finset.sum_congr rfl fun h _ => ?_
  rw [Finset.sum_mul]
  refine Finset.sum_congr rfl fun s _ => ?_
  unfold dkF qscale
  have := log2_ne
  field_simp

end Cert.KernelIdeal.Hand

end
-- ==== Proof.RefValue.lean ====
module

public import proofs.«01_k».proof.Proof.Forward

/-! What the reference returns, entry by entry: the gradients of `Spec`. The transposed maximum passes back the row's sum of
gradients by the scores plus the sink's, which is zero. -/

@[expose] public section

set_option maxRecDepth 16384

noncomputable section

namespace Cert.Attn

open Idealize.ShloMosaic Idealize.ShloMosaic.TcCoe
open Cert.ReferenceIdeal Cert.ReferenceIdeal.Gen Cert.ReferenceIdeal.Value

/-! ### The arrays of the backward pass -/

/-- The cotangent by head and feature. -/
def ctT (ct : FVec Ideal S4096x1024 .f32) : FVec Ideal S4x64x4x4096 .f32 :=
  transpose S4x64x4x4096 [1, 3, 2, 0] (shapeCast S4096x4x4x64 ct shapeCasts_S4096x1024_S4096x4x4x64) transposes_S4096x4x4x64_S4x64x4x4096_1_3_2_0

/-- The gradient by the probabilities. -/
def dPOf (c : FVec Ideal S4x64x4x4096 .f32) (v : FVec Ideal S4x4096x64 .f32) : FVec Ideal S4x4x4096x4096 .f32 :=
  Host.dotGeneral dot_S4x64x4x4096_S4x4096x64_S4x4x4096x4096_1_2_23_1_0_0 none c v

/-- The gradient by the denominators. -/
def ccOf (dp e : FVec Ideal S4x4x4096x4096 .f32) (z : FVec Ideal S4x4x4096x1 .f32) : FVec Ideal S4x4x4096x1 .f32 :=
  Host.negf (shapeCast S4x4x4096x1 (Host.reduceAdd (mulf (mulf dp (broadcastInDim S4x4x4096x4096 ![0, 1, 2, 3] bcast_S4x4x4096x1_S4x4x4096x4096_0_1_2_3 (Host.divf (broadcastInDim S4x4x4096x1 ![] bcast_S_S4x4x4096x1 (constant S_ .f32 0x3F800000#32)) (mulf z z)))) e) (constant S_ .f32 0x00000000#32) reducesTo_S4x4x4096x4096_S4x4x4096_d3 h_S_) shapeCasts_S4x4x4096_S4x4x4096x1)

/-- The gradient by the scores, the maximum held fixed. -/
def dsOf (dp e : FVec Ideal S4x4x4096x4096 .f32) (z cc : FVec Ideal S4x4x4096x1 .f32) : FVec Ideal S4x4x4096x4096 .f32 :=
  mulf (addf (Host.divf dp (broadcastInDim S4x4x4096x4096 ![0, 1, 2, 3] bcast_S4x4x4096x1_S4x4x4096x4096_0_1_2_3 z)) (broadcastInDim S4x4x4096x4096 ![0, 1, 2] bcast_S4x4x4096_S4x4x4096x4096_0_1_2 (Host.reduceAdd cc (constant S_ .f32 0x00000000#32) reducesTo_S4x4x4096x1_S4x4x4096_d3 h_S_))) e

/-- Where a score is its row's greatest. -/
def hitOf (sc : FVec Ideal S4x4x4096x4096 .f32) (r : FVec Ideal S4x4x4096 .f32) : FVec Ideal S4x4x4096x4096 .f32 :=
  uitofp .f32 (cmpf .oeq sc (broadcastInDim S4x4x4096x4096 ![0, 1, 2, 3] bcast_S4x4x4096x1_S4x4x4096x4096_0_1_2_3 (shapeCast S4x4x4096x1 r shapeCasts_S4x4x4096_S4x4x4096x1)))

/-- The rows' maxima with a last dimension. -/
def colOf (r : FVec Ideal S4x4x4096 .f32) : FVec Ideal S4x4x4096x1 .f32 := broadcastInDim S4x4x4096x1 ![0, 1, 2] bcast_S4x4x4096_S4x4x4096x1_0_1_2 r

/-- The gradient by the greatest score, before its share is taken. -/
def backOf (ds : FVec Ideal S4x4x4096x4096 .f32) (cc es : FVec Ideal S4x4x4096x1 .f32) : FVec Ideal S4x4x4096x1 .f32 :=
  addf (Host.negf (mulf cc es)) (shapeCast S4x4x4096x1 (Host.reduceAdd (Host.negf ds) (constant S_ .f32 0x00000000#32) reducesTo_S4x4x4096x4096_S4x4x4096_d3 h_S_) shapeCasts_S4x4x4096_S4x4x4096x1)

/-- The share of the greatest score in the maximum with the sink. -/
def shareOf (r : FVec Ideal S4x4x4096x1 .f32) (sk : FVec Ideal S4x4x1x1 .f32) : FVec Ideal S4x4x4096x1 .f32 :=
  select (cmpf .ogt r (broadcastInDim S4x4x4096x1 ![0, 1, 2, 3] bcast_S4x4x1x1_S4x4x4096x1_0_1_2_3 sk)) (broadcastInDim S4x4x4096x1 ![] bcast_S_S4x4x4096x1 (constant S_ .f32 0x3F800000#32)) (select (cmpf .oeq r (broadcastInDim S4x4x4096x1 ![0, 1, 2, 3] bcast_S4x4x1x1_S4x4x4096x1_0_1_2_3 sk)) (broadcastInDim S4x4x4096x1 ![] bcast_S_S4x4x4096x1 (constant S_ .f32 0x3F000000#32)) (broadcastInDim S4x4x4096x1 ![] bcast_S_S4x4x4096x1 (constant S_ .f32 0x00000000#32)))

/-- The gradient by the scores times the scale, keys before queries. -/
def dsTOf (near : IVec S4x4x4096x4096 1) (ds hit : FVec Ideal S4x4x4096x4096 .f32) (back share : FVec Ideal S4x4x4096x1 .f32) : FVec Ideal S4x4096x4096x4 .f32 :=
  transpose S4x4096x4096x4 [0, 3, 2, 1] (mulf (select near (addf ds (mulf (broadcastInDim S4x4x4096x4096 ![0, 1, 2] bcast_S4x4x4096_S4x4x4096x4096_0_1_2 (Host.divf (Host.reduceAdd (mulf back share) (constant S_ .f32 0x00000000#32) reducesTo_S4x4x4096x1_S4x4x4096_d3 h_S_) (Host.reduceAdd hit (constant S_ .f32 0x00000000#32) reducesTo_S4x4x4096x4096_S4x4x4096_d3 h_S_))) hit)) (broadcastInDim S4x4x4096x4096 ![] bcast_S_S4x4x4096x4096 (constant S_ .f32 0x00000000#32))) (broadcastInDim S4x4x4096x4096 ![] bcast_S_S4x4x4096x4096 (constant S_ .f32 0x3E000000#32))) transposes_S4x4x4096x4096_S4x4096x4096x4_0_3_2_1

/-! ### Read at an index -/

theorem ctT_read (ct) (g : Fin 4) (d : Fin 64) (h : Fin 4) (s : Fin 4096) : ctT ct (ix4 g d h s) = ct (ix2 s ⟨g.val * 256 + h.val * 64 + d.val, by omega⟩) := by
  pointwise [ctT]
theorem dPOf_read (c v) (g h : Fin 4) (s n : Fin 4096) : dPOf c v (ix4 g h s n) = ∑ d : Fin 64, c (ix4 g d h s) * v (ix3 g n d) := by
  pointwise [dPOf]
theorem ccOf_read (dp e z) (g h : Fin 4) (s : Fin 4096) (y : Fin 1) : ccOf dp e z (ix4 g h s y) = -∑ n : Fin 4096, dp (ix4 g h s n) * Ideal.div 1 (z (ix4 g h s 0) * z (ix4 g h s 0)) * e (ix4 g h s n) := by
  pointwise [ccOf]
theorem dsOf_read (dp e z cc) (g h : Fin 4) (s n : Fin 4096) : dsOf dp e z cc (ix4 g h s n) = (Ideal.div (dp (ix4 g h s n)) (z (ix4 g h s 0)) + cc (ix4 g h s 0)) * e (ix4 g h s n) := by
  pointwise [dsOf]
  try simp
theorem colOf_read (r) (g h : Fin 4) (s : Fin 4096) (z : Fin 1) : colOf r (ix4 g h s z) = r (ix3 g h s) := by
  pointwise [colOf]
theorem backOf_read (ds cc es) (g h : Fin 4) (s : Fin 4096) (z : Fin 1) : backOf ds cc es (ix4 g h s z) = -(cc (ix4 g h s z) * es (ix4 g h s z)) + ∑ n : Fin 4096, -ds (ix4 g h s n) := by
  pointwise [backOf]
theorem hitOf_read (sc r) (g h : Fin 4) (s n : Fin 4096) : hitOf sc r (ix4 g h s n) = if sc (ix4 g h s n) = r (ix3 g h s) then 1 else 0 := by
  pointwise [hitOf]
  by_cases e : sc (ix4 g h s n) = r (ix3 g h s)
  · rw [if_pos e, decide_eq_true e]
    show (((BitVec.ofBool true).toNat : ℝ) : EReal) = 1
    simp
  · rw [if_neg e, decide_eq_false e]
    show (((BitVec.ofBool false).toNat : ℝ) : EReal) = 0
    simp
theorem shareOf_read (r sk) (g h : Fin 4) (s : Fin 4096) (z : Fin 1) : shareOf r sk (ix4 g h s z) = if sk (ix4 g h 0 0) < r (ix4 g h s z) then ((1 : ℝ) : EReal) else if r (ix4 g h s z) = sk (ix4 g h 0 0) then ((1 / 2 : ℝ) : EReal) else ((0 : ℝ) : EReal) := by
  pointwise [shareOf]
  rw [c_half, EReal.coe_one, EReal.coe_zero]
theorem dsTOf_read (near ds hit back share) (g h : Fin 4) (s n : Fin 4096) : dsTOf near ds hit back share (ix4 g n s h) =
    Scalar.select (near (ix4 g h s n)) ((ds (ix4 g h s n) + Ideal.div (∑ x : Fin 1, back (ix4 g h s x) * share (ix4 g h s x)) (∑ x : Fin 4096, hit (ix4 g h s x)) * hit (ix4 g h s n)) * ((1 / 8 : ℝ) : EReal)) 0 := by
  rw [← c_eighth]
  pointwise [dsTOf]

/-! ### On the arguments -/

variable (q : FVec Ideal S4096x1024 .f32) (k v : FVec Ideal S4x4096x64 .f32) (sink : FVec Ideal S16 .f32) (ct : FVec Ideal S4096x1024 .f32)

def dPT : FVec Ideal S4x4x4096x4096 .f32 := dPOf (ctT ct) v
def ccT : FVec Ideal S4x4x4096x1 .f32 := ccOf (dPT v ct) (eT q k sink) (ZT q k sink)
def dsT : FVec Ideal S4x4x4096x4096 .f32 := dsOf (dPT v ct) (eT q k sink) (ZT q k sink) (ccT q k v sink ct)
def hitT : FVec Ideal S4x4x4096x4096 .f32 := hitOf (scoreT q k) (rmaxOf (scoreT q k))
def backT : FVec Ideal S4x4x4096x1 .f32 := backOf (dsT q k v sink ct) (ccT q k v sink ct) (esT q k sink)
def shareT : FVec Ideal S4x4x4096x1 .f32 := shareOf (colOf (rmaxOf (scoreT q k))) (sinkT sink)
/-- The gradient by the scores times the scale. -/
def gradT : FVec Ideal S4x4096x4096x4 .f32 := dsTOf nearT (dsT q k v sink ct) (hitT q k) (backT q k v sink ct) (shareT q k sink)

/-- What the reference returns. -/
def dqR (dst : FVec Ideal S4x4096x4096x4 .f32) (k : FVec Ideal S4x4096x64 .f32) : FVec Ideal S4096x1024 .bf16 :=
  truncf .bf16 (shapeCast S4096x1024 (transpose S4096x4x4x64 [1, 0, 2, 3] (Host.dotGeneral dot_S4x4096x4096x4_S4x4096x64_S4x4096x4x64_1_1_23_2_0_0 none dst k) transposes_S4x4096x4x64_S4096x4x4x64_1_0_2_3) shapeCasts_S4096x4x4x64_S4096x1024) bitsLt_bf16_f32
@[inherit_doc dqR]
def dkR (dst : FVec Ideal S4x4096x4096x4 .f32) (q : FVec Ideal S4096x1024 .f32) : FVec Ideal S4x4096x64 .f32 :=
  Host.dotGeneral dot_S4x4096x4096x4_S4096x4x4x64_S4x4096x64_23_02_1_3_0_1 none dst (shapeCast S4096x4x4x64 q shapeCasts_S4096x1024_S4096x4x4x64)
@[inherit_doc dqR]
def dvR (c : FVec Ideal S4x64x4x4096 .f32) (p : FVec Ideal S4x4x4096x4096 .f32) : FVec Ideal S4x4096x64 .f32 :=
  transpose S4x4096x64 [0, 2, 1] (Host.dotGeneral dot_S4x64x4x4096_S4x4x4096x4096_S4x64x4096_23_12_1_3_0_0 none c p) transposes_S4x64x4096_S4x4096x64_0_2_1

theorem dqR_read (dst k) (s : Fin 4096) (c : Fin 1024) : dqR dst k (ix2 s c) =
    ∑ n : Fin 4096, dst (ix4 ⟨c.val / 256, by omega⟩ n s ⟨c.val / 64 % 4, by omega⟩) * k (ix3 ⟨c.val / 256, by omega⟩ n ⟨c.val % 64, by omega⟩) := by
  pointwise [dqR]
theorem dkR_read (dst q) (g : Fin 4) (n : Fin 4096) (d : Fin 64) : dkR dst q (ix3 g n d) =
    ∑ s : Fin 4096, ∑ h : Fin 4, dst (ix4 g n s h) * q (ix2 s ⟨g.val * 256 + h.val * 64 + d.val, by omega⟩) := by
  pointwise [dkR]
theorem dvR_read (c p) (g : Fin 4) (n : Fin 4096) (d : Fin 64) : dvR c p (ix3 g n d) = ∑ h : Fin 4, ∑ s : Fin 4096, c (ix4 g d h s) * p (ix4 g h s n) := by
  pointwise [dvR]

variable {q k v sink ct} {A : Args} (H : Holds A q k v sink ct)
include H

theorem dPT_at (g h : Fin 4) (s n : Fin 4096) : dPT v ct (ix4 g h s n) = (A.dP g h s n : EReal) := by
  unfold dPT Args.dP
  rw [dPOf_read, ← coe_sum]
  exact Finset.sum_congr rfl fun d _ => by rw [ctT_read, H.ct s g h d _ rfl, H.v, EReal.coe_mul]

theorem ccT_at (g h : Fin 4) (s : Fin 4096) (z : Fin 1) : ccT q k v sink ct (ix4 g h s z) = (A.cc g h s : EReal) := by
  unfold ccT Args.cc
  rw [ccOf_read, EReal.coe_neg, ← coe_sum]
  refine congrArg _ (Finset.sum_congr rfl fun n _ => ?_)
  rw [dPT_at H, ZT_at H, eT_at H, ← EReal.coe_mul (A.Z g h s), ← EReal.coe_one, div_real (mul_ne_zero (A.Z_ne g h s) (A.Z_ne g h s)), ← EReal.coe_mul, ← EReal.coe_mul]

theorem dsT_at (g h : Fin 4) (s n : Fin 4096) : dsT q k v sink ct (ix4 g h s n) = (A.dS g h s n : EReal) := by
  unfold dsT Args.dS
  rw [dsOf_read, dPT_at H, ZT_at H, ccT_at H, eT_at H, div_real (A.Z_ne g h s), ← EReal.coe_add, ← EReal.coe_mul]

theorem backT_at (g h : Fin 4) (s : Fin 4096) (z : Fin 1) : backT q k v sink ct (ix4 g h s z) = ((0 : ℝ) : EReal) := by
  unfold backT
  rw [backOf_read, ccT_at H, esT_at H]
  rw [show (∑ n : Fin 4096, -dsT q k v sink ct (ix4 g h s n)) = ((∑ n, -A.dS g h s n : ℝ) : EReal) from by
    rw [← coe_sum]
    exact Finset.sum_congr rfl fun n _ => by rw [dsT_at H, EReal.coe_neg]]
  rw [← EReal.coe_mul, ← EReal.coe_neg, ← EReal.coe_add, Finset.sum_neg_distrib, A.sum_dS]
  congr 1
  ring

theorem shareT_at (g h : Fin 4) (s : Fin 4096) (z : Fin 1) : ∃ x : ℝ, shareT q k sink (ix4 g h s z) = (x : EReal) := by
  unfold shareT
  rw [shareOf_read]
  split
  · exact ⟨_, rfl⟩
  · split
    · exact ⟨_, rfl⟩
    · exact ⟨_, rfl⟩

theorem hitT_at (g h : Fin 4) (s n : Fin 4096) : hitT q k (ix4 g h s n) = ((if A.scoreE g h s n = (A.rmax g h s : EReal) then (1 : ℝ) else 0 : ℝ) : EReal) := by
  unfold hitT
  rw [hitOf_read, scoreT_at H, rmaxT_at H]
  split
  · exact EReal.coe_one.symm
  · exact EReal.coe_zero.symm

theorem gradT_at (g h : Fin 4) (s n : Fin 4096) : gradT q k v sink ct (ix4 g n s h) = ((A.dS g h s n * (1 / 8) : ℝ) : EReal) := by
  unfold gradT
  rw [dsTOf_read, nearT_at, select_if]
  split
  · have hz : (∑ x : Fin 1, backT q k v sink ct (ix4 g h s x) * shareT q k sink (ix4 g h s x)) = ((0 : ℝ) : EReal) := by
      rw [← show ((∑ x : Fin 1, (0 : ℝ) : ℝ) : EReal) = ((0 : ℝ) : EReal) from by simp, ← coe_sum]
      refine Finset.sum_congr rfl fun x _ => ?_
      obtain ⟨y, hy⟩ := shareT_at H g h s x
      rw [backT_at H, hy, ← EReal.coe_mul, zero_mul]
    have hh : (∑ x : Fin 4096, hitT q k (ix4 g h s x)) = ((∑ x, (if A.scoreE g h s x = (A.rmax g h s : EReal) then (1 : ℝ) else 0) : ℝ) : EReal) := by
      rw [← coe_sum]
      exact Finset.sum_congr rfl fun x _ => hitT_at H g h s x
    have hp : (∑ x, (if A.scoreE g h s x = (A.rmax g h s : EReal) then (1 : ℝ) else 0) : ℝ) ≠ 0 := by
      obtain ⟨n₀, hn₀⟩ := A.exists_rmax g h s
      refine (Finset.sum_pos' (fun x _ => ?_) ⟨n₀, Finset.mem_univ _, ?_⟩).ne'
      · split <;> norm_num
      · rw [if_pos hn₀]; norm_num
    rw [hz, hh, div_real hp, dsT_at H, hitT_at H, ← EReal.coe_mul, ← EReal.coe_add, ← EReal.coe_mul, zero_mul, zero_mul, add_zero]
  · rename_i hn
    rw [A.dS_far hn, zero_mul, EReal.coe_zero]

/-! ### The results -/

theorem dq_at (s : Fin 4096) (g h : Fin 4) (d : Fin 64) (c : Fin 1024) (hc : c.val = g.val * 256 + h.val * 64 + d.val) :
    dqR (gradT q k v sink ct) k (ix2 s c) = (A.dQ s g h d : EReal) := by
  have e1 : (⟨c.val / 256, by omega⟩ : Fin 4) = g := Fin.ext (by simp; omega)
  have e2 : (⟨c.val / 64 % 4, by omega⟩ : Fin 4) = h := Fin.ext (by simp; omega)
  have e3 : (⟨c.val % 64, by omega⟩ : Fin 64) = d := Fin.ext (by simp; omega)
  unfold Args.dQ
  rw [dqR_read, e1, e2, e3, ← coe_sum]
  exact Finset.sum_congr rfl fun n _ => by rw [gradT_at H, H.k, ← EReal.coe_mul]

theorem dk_at (g : Fin 4) (n : Fin 4096) (d : Fin 64) : dkR (gradT q k v sink ct) q (ix3 g n d) = (A.dK g n d : EReal) := by
  unfold Args.dK
  rw [dkR_read, Finset.sum_comm, ← coe_sum]
  refine Finset.sum_congr rfl fun h _ => ?_
  rw [← coe_sum]
  exact Finset.sum_congr rfl fun s _ => by rw [gradT_at H, H.q s g h d _ rfl, ← EReal.coe_mul]

theorem dv_at (g : Fin 4) (n : Fin 4096) (d : Fin 64) : dvR (ctT ct) (probT q k sink) (ix3 g n d) = (A.dV g n d : EReal) := by
  unfold Args.dV
  rw [dvR_read, ← coe_sum]
  refine Finset.sum_congr rfl fun h _ => ?_
  rw [← coe_sum]
  exact Finset.sum_congr rfl fun s _ => by rw [probT_at H, ctT_read, H.ct s g h d _ rfl, ← EReal.coe_mul]

omit H in
/-- The reference's run with its results named. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let M := fun b => m ((c.tc : Thread nD τ).loc b)
      r.2.mem ((c.tc : Thread nD τ).loc main_v109) = dqR (gradT (M main_arg0) (M main_arg1) (M main_arg2) (M main_arg3) (M main_arg4)) (M main_arg1)
      ∧ r.2.mem ((c.tc : Thread nD τ).loc main_v107) = dkR (gradT (M main_arg0) (M main_arg1) (M main_arg2) (M main_arg3) (M main_arg4)) (M main_arg0)
      ∧ r.2.mem ((c.tc : Thread nD τ).loc main_v76) = dvR (ctT (M main_arg4)) (probT (M main_arg0) (M main_arg1) (M main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h => h) (Cert.ReferenceIdeal.Value.run m ρ)

end Cert.Attn

end
-- ==== Proof.Output.lean ====
module

public import proofs.«01_k».proof.Proof.Sums
public import proofs.«01_k».proof.Proof.RefValue

/-! The kernel's three result arrays are the reference's gradients. -/

@[expose] public section

set_option maxRecDepth 16384

noncomputable section

namespace Cert.KernelIdeal.Hand

open Idealize.ShloMosaic Idealize.ShloMosaic.TcCoe Idealize.SL.Sem
open Cert.KernelIdeal.Gen Cert.Attn

theorem dq_read (X : Ins Ideal) (co : grid0.Coords) (x : Fin 1024) (y : Fin 256) :
    X.dq co (ix2 x y) = X.dqH co ⟨x.val / 128, by omega⟩ ⟨y.val / 64, by omega⟩ (ix2 ⟨x.val % 128, by omega⟩ ⟨y.val % 64, by omega⟩) := by
  refine congrArg (X.dqH co ⟨x.val / 128, by omega⟩ ⟨y.val / 64, by omega⟩) (funext fun a => ?_)
  refine Fin.cases rfl (fun b => Fin.cases rfl (fun b => b.elim0) b) a

/-- The queries' gradient at a place of point `4 g + i`'s block. -/
theorem dqBlock {A : Args} {g i : Fin 4} {X : Ins Ideal} (co : grid0.Coords) (H : Has A g i X) (hco : (co 1).val = i.val)
    {q : FVec Ideal S4096x1024 .f32} {k v : FVec Ideal S4x4096x64 .f32} {sink : FVec Ideal S16 .f32} {ct : FVec Ideal S4096x1024 .f32}
    (hA : Holds A q k v sink ct) (x : Fin 1024) (y : Fin 256) (j : S4096x1024.Idx)
    (h0 : (j 0).val = 1024 * i.val + x.val) (h1 : (j 1).val = 256 * g.val + y.val) :
    X.dq co (ix2 x y) = dqR (gradT q k v sink ct) k j := by
  have hy : 256 * g.val + y.val < 1024 := by omega
  have e : j = ix2 (qry i ⟨x.val / 128, by omega⟩ ⟨x.val % 128, by omega⟩) (⟨256 * g.val + y.val, hy⟩ : Fin 1024) := by
    funext a
    refine Fin.cases ?_ (fun b => Fin.cases ?_ (fun b => b.elim0) b) a
    · exact Fin.ext (by show (j 0).val = 1024 * i.val + 128 * (x.val / 128) + x.val % 128; omega)
    · exact Fin.ext h1
  have r := dq_at hA (qry i ⟨x.val / 128, by omega⟩ ⟨x.val % 128, by omega⟩) g ⟨y.val / 64, by omega⟩ ⟨y.val % 64, by omega⟩ ⟨256 * g.val + y.val, hy⟩
    (by show 256 * g.val + y.val = g.val * 256 + y.val / 64 * 64 + y.val % 64; omega)
  rw [dq_read]
  exact (dqH_at co H hco ⟨x.val / 128, by omega⟩ ⟨y.val / 64, by omega⟩ ⟨x.val % 128, by omega⟩ ⟨y.val % 64, by omega⟩).trans ((congrArg _ e).trans r).symm

variable (m : (ℓ : Loc nD τ sig) → Buf (Elt Ideal) ℓ) (c : Dev nD)
variable {A : Args} (hA : Holds A (arg0 m c) (arg1 m c) (arg2 m c) (arg3 m c) (arg4 m c))
include hA

theorem result_dq : (dats m 0 c).arrAt 14 cfg0.N = dqR (gradT (arg0 m c) (arg1 m c) (arg2 m c) (arg3 m c) (arg4 m c)) (arg1 m c) := by
  refine (dats m 0 c).arrAt_eq_of_covers 14 _ (by decide +kernel) fun t hf y => ?_
  blk_simp
  rw [after_14]
  have h16 := lt16 t
  have H := has m c t hA ⟨t.val / 4, by omega⟩ ⟨t.val % 4, by omega⟩ (by show t.val = 4 * (t.val / 4) + t.val % 4; omega)
  have hco : ((grid0.coords t) 1).val = (⟨t.val % 4, by omega⟩ : Fin 4).val := coord1 t
  generalize ins m c t = X at *
  have ey : y = ix2 (y 0 : Fin 1024) (y 1 : Fin 256) := by
    funext a
    refine Fin.cases rfl (fun b => Fin.cases rfl (fun b => b.elim0) b) a
  have r := dqBlock (grid0.coords t) H hco hA (y 0) (y 1) ((win0_14.blk t).view.emb y) (by blk_simp [idx14]; dsimp only; omega) (by blk_simp [idx14]; dsimp only; omega)
  exact (congrArg _ ey).trans r

theorem result_dk : (dats m 0 c).arrAt 15 cfg0.N = dkR (gradT (arg0 m c) (arg1 m c) (arg2 m c) (arg3 m c) (arg4 m c)) (arg0 m c) := by
  refine (dats m 0 c).arrAt_eq_of_covers 15 _ (by decide +kernel) fun t hf y => ?_
  blk_simp
  rw [after_15]
  have h16 := lt16 t
  have h3 := (flush0_15 t).mp hf
  have ht : t.val = 4 * (⟨t.val / 4, by omega⟩ : Fin 4).val + 3 := by show t.val = 4 * (t.val / 4) + 3; omega
  generalize (⟨t.val / 4, by omega⟩ : Fin 4) = g at ht
  have ey : y = ix3 (y 0 : Fin 1) (y 1 : Fin 4096) (y 2 : Fin 64) := by
    funext a
    refine Fin.cases rfl (fun b => Fin.cases rfl (fun b => Fin.cases rfl (fun b => b.elim0) b) b) a
  have ej : (win0_15.blk t).view.emb y = ix3 g (y 1 : Fin 4096) (y 2 : Fin 64) := by
    blk_ext [idx15]
  have r := dkLast m c hA g (y 0) (y 1) (y 2)
  have r' := dk_at hA g (y 1) (y 2)
  rw [ht]
  exact (congrArg _ ey).trans (r.trans ((congrArg _ ej).trans r').symm)

theorem result_dv : (dats m 0 c).arrAt 16 cfg0.N = dvR (ctT (arg4 m c)) (probT (arg0 m c) (arg1 m c) (arg3 m c)) := by
  refine (dats m 0 c).arrAt_eq_of_covers 16 _ (by decide +kernel) fun t hf y => ?_
  blk_simp
  rw [after_16]
  have h16 := lt16 t
  have h3 := (flush0_16 t).mp hf
  have ht : t.val = 4 * (⟨t.val / 4, by omega⟩ : Fin 4).val + 3 := by show t.val = 4 * (t.val / 4) + 3; omega
  generalize (⟨t.val / 4, by omega⟩ : Fin 4) = g at ht
  have ey : y = ix3 (y 0 : Fin 1) (y 1 : Fin 4096) (y 2 : Fin 64) := by
    funext a
    refine Fin.cases rfl (fun b => Fin.cases rfl (fun b => Fin.cases rfl (fun b => b.elim0) b) b) a
  have ej : (win0_16.blk t).view.emb y = ix3 g (y 1 : Fin 4096) (y 2 : Fin 64) := by
    blk_ext [idx16]
  have r := dvLast m c hA g (y 0) (y 1) (y 2)
  have r' := dv_at hA g (y 1) (y 2)
  rw [ht]
  exact (congrArg _ ey).trans (r.trans ((congrArg _ ej).trans r').symm)

end Cert.KernelIdeal.Hand

end
-- ==== Proof.Finite.lean ====
module

public import proofs.«01_k».proof.Pre_finite
public import proofs.«01_k».proof.Proof.Forward
public import Idealize.ShloMosaic.Lib.ReduceAll

/-! Finite arguments hold real numbers. -/

@[expose] public section

set_option maxRecDepth 16384

noncomputable section

namespace Cert.Attn

open Idealize.ShloMosaic
open Cert.ReferenceIdeal

/-- An extended real whose size is below infinity is a real number. -/
theorem real_of_lt (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  have hlt : max x (-x) < ⊤ := by
    by_contra hn
    have : Ideal.cmp .olt (max x (-x)) ⊤ = 0#1 := by simp [Ideal.cmp, hn]
    rw [this] at h
    exact absurd h (by decide)
  rw [max_lt_iff] at hlt
  refine (EReal.coe_toReal hlt.1.ne ?_).symm
  rintro rfl
  exact absurd hlt.2 (by simp)

/-- Every entry of an array that passes the test is a real number. -/
theorem real_of_all {S : Shape} {axes : List (Fin S.rank)} (x : FVec Ideal S .f32) (hb : S_.BroadcastsInDim S (![] : Fin 0 → Fin S.rank)) (hr : S.ReducesTo axes S_) (hu : 0 < S_.numel)
    (h : Host.reduce IntOp.andi (cmpf .olt (Host.absf x) (broadcastInDim S ![] hb (constant S_ .f32 0x7F800000#32))) (constantI S_ 1 1#1) hr hu ix0 = 1#1) (i : S.Idx) :
    x i = ((x i).toReal : EReal) :=
  haveI : Subsingleton S_.Idx := ⟨fun a b => funext fun k => k.elim0⟩
  real_of_lt (x i) (Host.reduce_andi_all _ _ hr hu ix0 h i)

/-- The numbers that finite arguments hold. -/
theorem holds_of_finite [Cert.Pre_finite.Facts] (q : FVec Ideal S4096x1024 .f32) (k v : FVec Ideal S4x4096x64 .f32) (sink : FVec Ideal S16 .f32)
    (ct : FVec Ideal S4096x1024 .f32) (h : Cert.Pre_finite.fn (F := Ideal) q k v sink ct = fun _ => 1#1) : ∃ A : Args, Holds A q k v sink ct := by
  have e := congrFun h ix0
  dsimp only [Cert.Pre_finite.fn, Cert.Pre_finite.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have r0 := real_of_all q _ _ _ e0
  have r1 := real_of_all k _ _ _ e1
  have r2 := real_of_all v _ _ _ e2
  have r3 := real_of_all sink _ _ _ e3
  have r4 := real_of_all ct _ _ _ e4
  refine ⟨⟨fun s g h d => (q (ix2 s ⟨g.val * 256 + h.val * 64 + d.val, by omega⟩)).toReal, fun g n d => (k (ix3 g n d)).toReal, fun g n d => (v (ix3 g n d)).toReal,
    fun g h => (sink (ix1 ⟨g.val * 4 + h.val, by omega⟩)).toReal, fun s g h d => (ct (ix2 s ⟨g.val * 256 + h.val * 64 + d.val, by omega⟩)).toReal⟩, ?_, ?_, ?_, ?_, ?_⟩
  · intro s g h d c hc
    rw [show c = ⟨g.val * 256 + h.val * 64 + d.val, by omega⟩ from Fin.ext hc]
    exact r0 _
  · exact fun g n d => r1 _
  · exact fun g n d => r2 _
  · intro g h c hc
    rw [show c = ⟨g.val * 4 + h.val, by omega⟩ from Fin.ext hc]
    exact r3 _
  · intro s g h d c hc
    rw [show c = ⟨g.val * 256 + h.val * 64 + d.val, by omega⟩ from Fin.ext hc]
    exact r4 _

end Cert.Attn

end
-- ==== Proof.Claims.lean ====
module

public import proofs.«01_k».proof.Defs
public import proofs.«01_k».proof.Proof.Body
public import proofs.«01_k».proof.Proof.Output
public import proofs.«01_k».proof.Proof.Finite
public import Idealize.ShloMosaic.Adequacy

/-! The claims about the kernel over the extended reals and about the reference. -/

@[expose] public section

set_option maxRecDepth 16384

noncomputable section

namespace Cert.Hand

open Idealize.ShloMosaic Idealize.SL.Sem
open Cert.Attn

theorem frame_ideal : Cert.quiescent_KernelIdeal := fun m ρ _ => Cert.KernelIdeal.Hand.frame m ρ

theorem frame_reference : Cert.quiescent_ReferenceIdeal := fun m ρ _ =>
  (θ_run Cert.ReferenceIdeal.defs _ _).mono (fun r h => ⟨fun c => (h c).2.2.2, sem_eq_zero_of_no_sems (by decide) r.2⟩) (run_reference m ρ)

/-- The two constants that are named. -/
theorem preserves : Cert.preserves_Kernel_KernelIdeal :=
  ⟨IdealRules.named_const.statement Cert.KernelIdeal.κ "neg_log2e" .f32 0xBFB8AA3B#32 ((-((Real.log 2)⁻¹) : ℝ) : EReal) rfl,
    IdealRules.named_const.statement Cert.KernelIdeal.κ "inv_scale_log2e" .f32 0x40B17218#32 ((8 * (Real.log 2) : ℝ) : EReal) rfl⟩

section Kernel

open Cert.KernelIdeal Cert.KernelIdeal.Gen Cert.KernelIdeal.Hand

/-- The kernel's run with its results named. -/
theorem run_kernel (m : (ℓ : Loc nD τ sig) → Buf (Elt Ideal) ℓ) (ρ : Dev nD → PrngReg)
    (hA : ∀ c, ∃ A : Args, Holds A (arg0 m c) (arg1 m c) (arg2 m c) (arg3 m c) (arg4 m c)) :
    θ_run defs (onTc (τ := τ) (main (F := Ideal))) ⟨m, fun _ => 0, ρ⟩ fun r => ∀ c : Dev nD,
      r.2.mem ((c.tc : Thread nD τ).loc main_v76_0) = dqR (gradT (arg0 m c) (arg1 m c) (arg2 m c) (arg3 m c) (arg4 m c)) (arg1 m c)
      ∧ r.2.mem ((c.tc : Thread nD τ).loc main_v76_1) = dkR (gradT (arg0 m c) (arg1 m c) (arg2 m c) (arg3 m c) (arg4 m c)) (arg0 m c)
      ∧ r.2.mem ((c.tc : Thread nD τ).loc main_v76_2) = dvR (ctT (arg4 m c)) (probT (arg0 m c) (arg1 m c) (arg3 m c)) :=
  (θ_run defs _ _).mono (fun r h c => by
    obtain ⟨A, hA⟩ := hA c
    exact ⟨((h.1 c).1 14).trans (result_dq m c hA), ((h.1 c).1 15).trans (result_dk m c hA), ((h.1 c).1 16).trans (result_dv m c hA)⟩) (run_main m ρ)

end Kernel

theorem algebraic [Cert.Pre_finite.Facts] : Cert.algebraic_KernelIdeal_ReferenceIdeal_pre_finite := by
  intro m ρ m' ρ' hpre hagree
  have hA := fun c => holds_of_finite _ _ _ _ _ (hpre c)
  refine ⟨_, _, _, (θ_run Cert.KernelIdeal.defs _ _).mono (fun r h c => ⟨(h.1 c).1, (h.1 c).2.1, (h.1 c).2.2, h.2.1 c⟩)
    (θ_run_and (run_kernel m ρ hA) (Cert.KernelIdeal.Hand.frame m ρ)), ?_⟩
  refine (θ_run Cert.ReferenceIdeal.defs _ _).mono (fun r h c => ?_) (run_reference m' ρ')
  obtain ⟨e0, e1, e2, e3, e4⟩ := hagree c
  obtain ⟨h0, h1, h2, h3⟩ := h c
  dsimp only at h0 h1 h2
  rw [e0, e1, e2, e3, e4] at h0 h1
  rw [e0, e1, e3, e4] at h2
  exact ⟨h0, h1, h2, h3⟩

end Cert.Hand

end
-- ==== Proof.LatentBlocks.lean ====
module

public import proofs.«01_k».proof.Proof.Gen.Kernel2Ideal.Skeleton
public import proofs.«01_k».proof.Proof.Gen.Kernel2Ideal.Points
public import Idealize.ShloMosaic.Lib.VecWindow

/-! What one grid point of `attn_b_bwd` computes, as functions of the blocks it is given: eight blocks of 256 queries against the
point's 512 keys, four heads side by side in 1024 columns. -/

@[expose] public section

noncomputable section

namespace Cert.Kernel2Ideal.Hand

open Idealize.ShloMosaic Idealize.ShloMosaic.TcCoe
open Idealize.ShloMosaic.VecWindow (put)
open Cert.Kernel2Ideal.Gen

variable {F : FTy → Type} [FloatOps F] [Named F]

/-- The blocks of the six inputs at a grid point, in the call's order. -/
structure Ins (F : FTy → Type) [FloatOps F] where
  q : Vec F S4x2048x160 .bf16
  k : Vec F S1x512x160 .bf16
  kt : Vec F S1x160x512 .bf16
  dy : Vec F S2048x512 .bf16
  lse : Vec F S4x1x2048 .f32
  dl : Vec F S4x1x2048 .f32

theorem inbQ (u : Fin 8) : ∀ a, (![0, 256 * u.val, 0] : Fin 3 → Nat) a + S4x256x160.size a ≤ S4x2048x160.size a := by
  decide +revert
theorem inbR (h : Fin 4) (u : Fin 8) : ∀ a, (![h.val, 0, 256 * u.val] : Fin 3 → Nat) a + S1x1x256.size a ≤ S4x1x2048.size a := by
  decide +revert
theorem inbD (u : Fin 8) (h : Fin 4) : ∀ a, (![256 * u.val, 128 * h.val] : Fin 2 → Nat) a + S256x128.size a ≤ S2048x512.size a := by
  decide +revert
theorem slH (h : Fin 4) : S160x1024.Slices ![0, 256 * h.val] S160x256 := by decide +revert
theorem inbS (b : Fin 2) (u : Fin 8) (h : Fin 4) : ∀ a, (![8 * b.val + u.val, 160 * h.val, 0] : Fin 3 → Nat) a + S1x160x256.size a ≤ S16x640x256.size a := by
  decide +revert

namespace Ins

variable (X : Ins F)

/-- The point's keys. -/
def kk : FVec F S512x160 .bf16 :=
  shapeCast S512x160 (View.ld (Val := Elt F) X.k (Rect.unit ![0, 0, 0] S1x512x160.size inb_S1x512x160_S1x512x160_0_0_0)) shapeCasts_S1x512x160_S512x160

/-- Their values: the first 128 features. -/
def vv : FVec F S512x128 .bf16 := extractStridedSlice S512x128 ![0, 0] X.kk slices_S512x160_o0_0_S512x128

/-- The same keys, transposed. -/
def kkt : FVec F S160x512 .bf16 :=
  shapeCast S160x512 (View.ld (Val := Elt F) X.kt (Rect.unit ![0, 0, 0] S1x160x512.size inb_S1x160x512_S1x160x512_0_0_0)) shapeCasts_S1x160x512_S160x512

variable (u : Fin 8)

/-- The queries of block `u`, head after head. -/
def qq : FVec F S1024x160 .bf16 :=
  shapeCast S1024x160 (shapeCast S4x256x160 (View.ld (Val := Elt F) X.q (Rect.unit ![0, 256 * u.val, 0] S4x256x160.size (inbQ u))) shapeCasts_S4x256x160_S4x256x160) shapeCasts_S4x256x160_S1024x160

/-- The cotangents of block `u`'s head `h`. -/
def dyH (h : Fin 4) : FVec F S256x128 .bf16 :=
  shapeCast S256x128 (View.ld (Val := Elt F) X.dy (Rect.unit ![256 * u.val, 128 * h.val] S256x128.size (inbD u h))) shapeCasts_S256x128_S256x128

/-- The cotangents of block `u`, head after head. -/
def dd : FVec F S1024x128 .bf16 :=
  concatenate S1024x128 0 [⟨S256x128, X.dyH u 0⟩, ⟨S256x128, X.dyH u 1⟩, ⟨S256x128, X.dyH u 2⟩, ⟨S256x128, X.dyH u 3⟩]
    concatenates_S256x128_S256x128_S256x128_S256x128_S1024x128_d0

/-- A row of numbers, one for each query of block `u`'s head `h`. -/
def rowH (r : Vec F S4x1x2048 .f32) (h : Fin 4) : FVec F S1x256 .f32 :=
  shapeCast S1x256 (View.ld (Val := Elt F) r (Rect.unit ![h.val, 0, 256 * u.val] S1x1x256.size (inbR h u))) shapeCasts_S1x1x256_S1x256

/-- The four heads' rows side by side, down all keys. -/
def rows (r : Vec F S4x1x2048 .f32) : FVec F S512x1024 .f32 :=
  broadcastTo S512x1024 (concatenate S1x1024 1 [⟨S1x256, rowH u r 0⟩, ⟨S1x256, rowH u r 1⟩, ⟨S1x256, rowH u r 2⟩, ⟨S1x256, rowH u r 3⟩]
    concatenates_S1x256_S1x256_S1x256_S1x256_S1x1024_d1) broadcasts_S1x1024_S512x1024

/-- The scores of block `u`, in base-2 units. -/
def st : FVec F S512x1024 .f32 :=
  matmul dot_S512x160_S1024x160_S512x1024_1_1_0_0_n_n none X.kk (X.qq u) (constant S512x1024 .f32 0x00000000#32)

/-- The probabilities. -/
def p : FVec F S512x1024 .f32 := exp2 (subf (X.st u) (rows u X.lse))

/-- The gradient by the probabilities. -/
def dp : FVec F S512x1024 .f32 :=
  matmul dot_S512x128_S1024x128_S512x1024_1_1_0_0_n_n none X.vv (X.dd u) (constant S512x1024 .f32 0x00000000#32)

/-- The gradient by the scores, times the scale. -/
def ds : FVec F S512x1024 .f32 :=
  mulf (mulf (X.p u) (subf (X.dp u) (rows u X.dl))) (broadcast S512x1024 (Scalar.ofBits .f32 0x3DD105EC#32))

/-- What block `u` adds to the gradients of the values. -/
def dvC : FVec F S512x128 .f32 :=
  matmul dot_S512x1024_S1024x128_S512x128_1_0_0_1_n_n none (truncf .bf16 (X.p u) bitsLt_bf16_f32) (X.dd u) (constant S512x128 .f32 0x00000000#32)

/-- What block `u` adds to the gradients of the keys. -/
def dkC : FVec F S512x160 .f32 :=
  matmul dot_S512x1024_S1024x160_S512x160_1_0_0_1_n_n none (truncf .bf16 (X.ds u) bitsLt_bf16_f32) (X.qq u) (constant S512x160 .f32 0x00000000#32)

/-- What the point adds to the gradient of block `u`'s queries, transposed, head after head. -/
def dqt : FVec F S160x1024 .f32 :=
  matmul dot_S160x512_S512x1024_S160x1024_1_0_0_1_n_n none X.kkt (truncf .bf16 (X.ds u) bitsLt_bf16_f32) (constant S160x1024 .f32 0x00000000#32)

end Ins

/-- `Y` with the first `n` of eight terms added one after the other. -/
def adds {s : Shape} (Y : FVec F s .f32) (C : Fin 8 → FVec F s .f32) : (n : ℕ) → n ≤ 8 → FVec F s .f32
  | 0, _ => Y
  | n + 1, h => addf (adds Y C n (Nat.le_of_succ_le h)) (C ⟨n, h⟩)

/-- The gradient of the values after the point, `Y` before it. -/
def Ins.dvOut (X : Ins F) (Y : Vec F S1x512x128 .f32) : Vec F S1x512x128 .f32 :=
  shapeCast S1x512x128 (adds (shapeCast S512x128 (View.ld (Val := Elt F) Y (Rect.unit ![0, 0, 0] S1x512x128.size inb_S1x512x128_S1x512x128_0_0_0)) shapeCasts_S1x512x128_S512x128) X.dvC 8 (le_refl 8)) shapeCasts_S512x128_S1x512x128

/-- The gradient of the keys after the point, `Y` before it; the second block of queries takes their scale out again. -/
def Ins.dkOut (X : Ins F) (i : grid0.Coords) (Y : Vec F S1x512x160 .f32) : Vec F S1x512x160 .f32 :=
  shapeCast S1x512x160 (k0_pay150 (BitVec.ofNat 32 (i 2).val) (adds (shapeCast S512x160 (View.ld (Val := Elt F) Y (Rect.unit ![0, 0, 0] S1x512x160.size inb_S1x512x160_S1x512x160_0_0_0)) shapeCasts_S1x512x160_S512x160) X.dkC 8 (le_refl 8))) shapeCasts_S512x160_S1x512x160

/-- What the scratch holds for head `h` of the `u`-th block of queries of half `b` after `D` is added to it. -/
def scrPay (b : Fin 2) (D : Fin 8 → FVec F S160x1024 .f32) (S : Vec F S16x640x256 .f32) (u : Fin 8) (h : Fin 4) : FVec F S1x160x256 .f32 :=
  shapeCast S1x160x256 (addf (shapeCast S160x256 (View.ld (Val := Elt F) S (Rect.unit ![8 * b.val + u.val, 160 * h.val, 0] S1x160x256.size (inbS b u h))) shapeCasts_S1x160x256_S160x256)
    (extractStridedSlice S160x256 ![0, 256 * h.val] (D u) (slH h))) shapeCasts_S160x256_S1x160x256

/-- An entry's place in its head's block. -/
def scrLoc (y : S16x640x256.Idx) : S1x160x256.Idx := fun a => match a with
  | 0 => ⟨0, by decide⟩
  | 1 => ⟨(y 1).val % 160, Nat.mod_lt _ (by decide)⟩
  | 2 => y 2

/-- The scratch after its half `b` has `D` added. -/
def scrOut (b : Fin 2) (D : Fin 8 → FVec F S160x1024 .f32) (S : Vec F S16x640x256 .f32) : Vec F S16x640x256 .f32 := fun y =>
  if hy : 8 * b.val ≤ (y 0).val ∧ (y 0).val < 8 * b.val + 8 then
    scrPay b D S ⟨(y 0).val - 8 * b.val, by omega⟩ ⟨(y 1).val / 160, by have : (y 1).val < 640 := (y 1).isLt; omega⟩ (scrLoc y)
  else S y

/-- The scratch as the block of the gradient of the queries: positions down, the heads' 128 and then their 32 features across. -/
def dqOut (S : Vec F S16x640x256 .f32) : Vec F S4096x640 .f32 := fun y =>
  S (fun a => match a with
    | 0 => ⟨(y 0).val / 256, by have : (y 0).val < 4096 := (y 0).isLt; show _ < 16; omega⟩
    | 1 => ⟨if (y 1).val < 512 then 160 * ((y 1).val / 128) + (y 1).val % 128 else 160 * (((y 1).val - 512) / 32) + (128 + ((y 1).val - 512) % 32), by
        have : (y 1).val < 640 := (y 1).isLt
        show _ < 640
        split <;> omega⟩
    | 2 => ⟨(y 0).val % 256, Nat.mod_lt _ (by decide)⟩)

/-- Zeros. -/
def zeroS : Vec F S16x640x256 .f32 := k0_pay14
@[inherit_doc zeroS]
def zeroK : Vec F S1x512x160 .f32 := k0_pay15
@[inherit_doc zeroS]
def zeroV : Vec F S1x512x128 .f32 := k0_pay16

end Cert.Kernel2Ideal.Hand

end
-- ==== Proof.LatentContents.lean ====
module

public import proofs.«01_k».proof.Proof.LatentBlocks
public import proofs.«01_k».proof.Proof.Gen.Kernel2Ideal.Frame

/-! What every window's buffer and the scratch hold after the body at a point of the latent attention's gradient, as explicit functions of the arrays that the region finds. -/

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)

/-- The blocks that the body reads at a point. -/
abbrev ins (c : Dev nD) (t : Fin cfg0.N) : Ins F where
  q := iblk m c 0 t
  k := iblk m c 1 t
  kt := iblk m c 2 t
  dy := iblk m c 3 t
  lse := iblk m c 4 t
  dl := iblk m c 5 t

/-- The point of a number; the grid has thirty-two. -/
def pt (n : ℕ) : Fin cfg0.N := ⟨n % 32, lt_of_lt_of_eq (Nat.mod_lt _ (by decide)) (show 32 = cfg0.N from N_0.symm)⟩

theorem pt_val (t : Fin cfg0.N) : pt t.val = t :=
  Fin.ext (Nat.mod_eq_of_lt (lt_of_lt_of_eq t.isLt (show cfg0.N = 32 from N_0)))

/-- Which half of the rows a point handles. -/
abbrev half (i : grid0.Coords) : Fin 2 := i 2

/-- The scratch after point `n`: a group of heads starts from zeros. -/
def scrAt (c : Dev nD) : ℕ → Vec F S16x640x256 .f32
  | 0 => scrOut (half (grid0.coords (pt 0))) (ins m c (pt 0)).dqt zeroS
  | n + 1 => scrOut (half (grid0.coords (pt (n + 1)))) (ins m c (pt (n + 1))).dqt (if (n + 1) % 16 = 0 then zeroS else scrAt c n)

/-- What the scratch holds when a point's own stores begin. -/
def scrBefore (c : Dev nD) (n : ℕ) : Vec F S16x640x256 .f32 := if n % 16 = 0 then zeroS else scrAt m c (n - 1)

theorem scrAt_eq (c : Dev nD) (t : Fin cfg0.N) : scrAt m c t.val = scrOut (half (grid0.coords t)) (ins m c t).dqt (scrBefore m c t.val) := by
  have e := pt_val t
  obtain ⟨n, hn⟩ := t
  cases n with
  | zero => unfold scrAt scrBefore; rw [e]; rfl
  | succ n => conv_lhs => unfold scrAt
              rw [e]; rfl

/-- The gradient of a block of keys after a point: the first block of rows starts from zeros. -/
def dkAt (c : Dev nD) (t : Fin cfg0.N) : Vec F S1x512x160 .f32 :=
  (ins m c t).dkOut (grid0.coords t) (if t.val % 2 = 0 then zeroK else (ins m c (pt (t.val - 1))).dkOut (grid0.coords (pt (t.val - 1))) zeroK)
@[inherit_doc dkAt]
def dvAt (c : Dev nD) (t : Fin cfg0.N) : Vec F S1x512x128 .f32 :=
  (ins m c t).dvOut (if t.val % 2 = 0 then zeroV else (ins m c (pt (t.val - 1))).dvOut zeroV)

/-- The body's invariant before point `n`: after the first point the scratch holds what the point before left. -/
def Inv (c : Dev nD) (n : ℕ) : sProp 𝕄 :=
  iprop((∃ d, ⌜n ≠ 0 → d = scrAt m c (n - 1)⌝ ∗ owns (c : Thread nD τ) (Memref.whole cc0_scratch0) fullShare d) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOut (scrAt m c t.val)
    | ⟨7, _⟩ => dkAt m c t
    | ⟨8, _⟩ => dvAt m c t
    | ⟨n + 9, h⟩ => absurd (show n + 9 < 9 from h) (by omega)
  Φ t := Inv m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Inv m c t.val := by
  dsimp only [dats]; exact Pipeline.Dat.Φ_castSucc (fun n _ => Inv m c n) t
theorem Phi_succ (c : Dev nD) (t : Fin cfg0.N) : (dats m 0 c).Φ t.succ = Inv m c (t.val + 1) := by
  dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqOut (scrAt m c t.val) := by dsimp only [dats]
theorem after_7 (c : Dev nD) (t : Fin cfg0.N) : (dats m 0 c).after 7 t = dkAt m c t := by dsimp only [dats]
theorem after_8 (c : Dev nD) (t : Fin cfg0.N) : (dats m 0 c).after 8 t = dvAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem pt_pred (t : Fin cfg0.N) : (⟨t.val - 1, Nat.lt_of_le_of_lt (Nat.sub_le _ _) t.isLt⟩ : Fin cfg0.N) = pt (t.val - 1) :=
  (pt_val _).symm
theorem N_lt (t : Fin cfg0.N) : t.val < 32 := lt_of_lt_of_eq t.isLt (show cfg0.N = 32 from N_0)
theorem pt_pred_val (t : Fin cfg0.N) : (pt (t.val - 1)).val = t.val - 1 := by
  have := N_lt t
  show (t.val - 1) % 32 = t.val - 1
  omega
/-- At the second block of rows the buffer of `dk` holds what the first left. -/
theorem before_7 (c : Dev nD) (t : Fin cfg0.N) (h : ¬t.val % 2 = 0) (d) : (dats m 0 c).before 7 t d = (ins m c (pt (t.val - 1))).dkOut (grid0.coords (pt (t.val - 1))) zeroK := by
  have h0 : t.val ≠ 0 := fun e => h (by rw [e])
  have hfl : (cfg0.win 7).flush ⟨t.val - 1, Nat.lt_of_le_of_lt (Nat.sub_le _ _) t.isLt⟩ = false :=
    Bool.eq_false_iff.mpr fun e => by
      have := (flush0_7 _).mp e
      dsimp only at this
      omega
  rw [(dats m 0 c).before_out_kept 7 rfl t h0 hfl (fun _ => rfl) (fun _ _ => rfl) d, after_7, pt_pred]
  unfold dkAt
  rw [if_pos (by rw [pt_pred_val]; omega)]
/-- At the second block of rows the buffer of `dv` holds what the first left. -/
theorem before_8 (c : Dev nD) (t : Fin cfg0.N) (h : ¬t.val % 2 = 0) (d) : (dats m 0 c).before 8 t d = (ins m c (pt (t.val - 1))).dvOut zeroV := by
  have h0 : t.val ≠ 0 := fun e => h (by rw [e])
  have hfl : (cfg0.win 8).flush ⟨t.val - 1, Nat.lt_of_le_of_lt (Nat.sub_le _ _) t.isLt⟩ = false :=
    Bool.eq_false_iff.mpr fun e => by
      have := (flush0_8 _).mp e
      dsimp only at this
      omega
  rw [(dats m 0 c).before_out_kept 8 rfl t h0 hfl (fun _ => rfl) (fun _ _ => rfl) d, after_8, pt_pred]
  unfold dvAt
  rw [if_pos (by rw [pt_pred_val]; omega)]

end Cert.Kernel2Ideal.Hand

end
-- ==== Proof.LatentBranch.lean ====
module

public import proofs.«01_k».proof.Proof.Gen.Kernel2Ideal.Frame
public import proofs.«01_k».proof.Proof.Gen.Kernel2Ideal.Skeleton
public import proofs.«01_k».proof.Proof.Gen.Kernel2Ideal.Points
public import proofs.«01_k».proof.Proof.Gen.Kernel2Ideal.Loops
public import proofs.«01_k».proof.Proof.Gen.Kernel2
public import proofs.«01_k».proof.Proof.Gen.Pre_finite2
public import proofs.«01_k».proof.Proof.Gen.Reference2Ideal.Run
-- ==== Proof.LatentRun.lean ====
module

public import proofs.«01_k».proof.Proof.LatentBranch

/-! The run of `attn_b_bwd`'s body at a point: what it leaves in the three results and in the scratch, as a function of what it finds in them. -/

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (UR sig nD τ) ℕ

set_option maxHeartbeats 4000000 in
/-- The body's last branch: at a group's last point the scratch is written, transposed, to the block of the queries' gradient. -/
noncomputable def runEmit (c : Dev nD) (i : grid0.Coords) (arg3 : Memref sig .tc .vmem S4x2048x160 .bf16) (harg3 : arg3.IsWhole) (arg4 : Memref sig .tc .vmem S1x512x160 .bf16) (harg4 : arg4.IsWhole) (arg5 : Memref sig .tc .vmem S1x160x512 .bf16) (harg5 : arg5.IsWhole) (arg6 : Memref sig .tc .vmem S2048x512 .bf16) (harg6 : arg6.IsWhole) (arg7 : Memref sig .tc .vmem S4x1x2048 .f32) (harg7 : arg7.IsWhole) (arg8 : Memref sig .tc .vmem S4x1x2048 .f32) (harg8 : arg8.IsWhole) (arg9 : Memref sig .tc .vmem S4096x640 .f32) (harg9 : arg9.IsWhole) (arg10 : Memref sig .tc .vmem S1x512x160 .f32) (harg10 : arg10.IsWhole) (arg11 : Memref sig .tc .vmem S1x512x128 .f32) (harg11 : arg11.IsWhole) (arg12 : Memref sig .tc .vmem S16x640x256 .f32) (harg12 : arg12.IsWhole)
    (X : arg12.view.ty.Contents (Elt F)) (G : arg9.view.ty.Contents (Elt F)) (h : k0_cond3 i = 1#1) :
    { R : arg9.view.ty.Contents (Elt F) // ∀ (E : Set ℕ) (K : PUnit → sProp 𝕄),
      iprop((arg12.view.loc (c : Thread nD τ) ↦[arg12.view.set]{fullShare} X) ∗ (arg9.view.loc (c : Thread nD τ) ↦[arg9.view.set]{fullShare} G)
        ∗ (iprop((arg12.view.loc (c : Thread nD τ) ↦[arg12.view.set]{fullShare} X) ∗ (arg9.view.loc (c : Thread nD τ) ↦[arg9.view.set]{fullShare} R)) -∗ K ⟨⟩))
      ⊢ wp frame (wpE (defs₀ (F := F)) Variants.none c none) E
          (do Scf.Loop.for k0_t1_loop (k0_t1_ok i h) ⟨⟩ (k0_t1_body (F := F) i arg3 harg3 arg4 harg4 arg5 harg5 arg6 harg6 arg7 harg7 arg8 harg8 arg9 harg9 arg10 harg10 arg11 harg11 arg12 harg12 h); pure ⟨⟩) K } := by
  refine ⟨?_, fun E K => ?run⟩
  case run =>
    iintro ⟨H12, H9, Hk⟩
    sl_exec
    sl_step
    iapply Hk
    isplitl [H12]
    · iexact H12
    iexact H9

/-- What the last branch leaves. -/
noncomputable def emitted (c : Dev nD) (i : grid0.Coords) (arg3 : Memref sig .tc .vmem S4x2048x160 .bf16) (harg3 : arg3.IsWhole) (arg4 : Memref sig .tc .vmem S1x512x160 .bf16) (harg4 : arg4.IsWhole) (arg5 : Memref sig .tc .vmem S1x160x512 .bf16) (harg5 : arg5.IsWhole) (arg6 : Memref sig .tc .vmem S2048x512 .bf16) (harg6 : arg6.IsWhole) (arg7 : Memref sig .tc .vmem S4x1x2048 .f32) (harg7 : arg7.IsWhole) (arg8 : Memref sig .tc .vmem S4x1x2048 .f32) (harg8 : arg8.IsWhole) (arg9 : Memref sig .tc .vmem S4096x640 .f32) (harg9 : arg9.IsWhole) (arg10 : Memref sig .tc .vmem S1x512x160 .f32) (harg10 : arg10.IsWhole) (arg11 : Memref sig .tc .vmem S1x512x128 .f32) (harg11 : arg11.IsWhole) (arg12 : Memref sig .tc .vmem S16x640x256 .f32) (harg12 : arg12.IsWhole)
    (X : arg12.view.ty.Contents (Elt F)) (G : arg9.view.ty.Contents (Elt F)) : arg9.view.ty.Contents (Elt F) :=
  if h : k0_cond3 i = 1#1 then (runEmit c i arg3 harg3 arg4 harg4 arg5 harg5 arg6 harg6 arg7 harg7 arg8 harg8 arg9 harg9 arg10 harg10 arg11 harg11 arg12 harg12 X G h).1 else G

theorem run_branch (c : Dev nD) (i : grid0.Coords) (arg3 : Memref sig .tc .vmem S4x2048x160 .bf16) (harg3 : arg3.IsWhole) (arg4 : Memref sig .tc .vmem S1x512x160 .bf16) (harg4 : arg4.IsWhole) (arg5 : Memref sig .tc .vmem S1x160x512 .bf16) (harg5 : arg5.IsWhole) (arg6 : Memref sig .tc .vmem S2048x512 .bf16) (harg6 : arg6.IsWhole) (arg7 : Memref sig .tc .vmem S4x1x2048 .f32) (harg7 : arg7.IsWhole) (arg8 : Memref sig .tc .vmem S4x1x2048 .f32) (harg8 : arg8.IsWhole) (arg9 : Memref sig .tc .vmem S4096x640 .f32) (harg9 : arg9.IsWhole) (arg10 : Memref sig .tc .vmem S1x512x160 .f32) (harg10 : arg10.IsWhole) (arg11 : Memref sig .tc .vmem S1x512x128 .f32) (harg11 : arg11.IsWhole) (arg12 : Memref sig .tc .vmem S16x640x256 .f32) (harg12 : arg12.IsWhole)
    (X : arg12.view.ty.Contents (Elt F)) (G : arg9.view.ty.Contents (Elt F)) (E : Set ℕ) (K : PUnit → sProp 𝕄) :
      iprop((arg12.view.loc (c : Thread nD τ) ↦[arg12.view.set]{fullShare} X) ∗ (arg9.view.loc (c : Thread nD τ) ↦[arg9.view.set]{fullShare} G)
        ∗ (iprop((arg12.view.loc (c : Thread nD τ) ↦[arg12.view.set]{fullShare} X) ∗ (arg9.view.loc (c : Thread nD τ) ↦[arg9.view.set]{fullShare} emitted c i arg3 harg3 arg4 harg4 arg5 harg5 arg6 harg6 arg7 harg7 arg8 harg8 arg9 harg9 arg10 harg10 arg11 harg11 arg12 harg12 X G)) -∗ K ⟨⟩))
      ⊢ wp frame (wpE (defs₀ (F := F)) Variants.none c none) E
          (if h : k0_cond3 i = 1#1 then (do Scf.Loop.for k0_t1_loop (k0_t1_ok i h) ⟨⟩ (k0_t1_body (F := F) i arg3 harg3 arg4 harg4 arg5 harg5 arg6 harg6 arg7 harg7 arg8 harg8 arg9 harg9 arg10 harg10 arg11 harg11 arg12 harg12 h); pure ⟨⟩) else pure ⟨⟩) K := by
  unfold emitted
  by_cases h : k0_cond3 i = 1#1
  · simp only [dif_pos h]
    exact (runEmit c i arg3 harg3 arg4 harg4 arg5 harg5 arg6 harg6 arg7 harg7 arg8 harg8 arg9 harg9 arg10 harg10 arg11 harg11 arg12 harg12 X G h).2 E K
  · simp only [dif_neg h]
    iintro ⟨H12, H9, Hk⟩
    sl_step
    iapply Hk
    isplitl [H12]
    · iexact H12
    iexact H9

set_option maxHeartbeats 16000000 in
/-- What the body leaves, and that it runs to its end with it. -/
noncomputable def kernelRun (c : Dev nD) (i : grid0.Coords) (arg3 : Memref sig .tc .vmem S4x2048x160 .bf16) (harg3 : arg3.IsWhole) (arg4 : Memref sig .tc .vmem S1x512x160 .bf16) (harg4 : arg4.IsWhole) (arg5 : Memref sig .tc .vmem S1x160x512 .bf16) (harg5 : arg5.IsWhole) (arg6 : Memref sig .tc .vmem S2048x512 .bf16) (harg6 : arg6.IsWhole) (arg7 : Memref sig .tc .vmem S4x1x2048 .f32) (harg7 : arg7.IsWhole) (arg8 : Memref sig .tc .vmem S4x1x2048 .f32) (harg8 : arg8.IsWhole) (arg9 : Memref sig .tc .vmem S4096x640 .f32) (harg9 : arg9.IsWhole) (arg10 : Memref sig .tc .vmem S1x512x160 .f32) (harg10 : arg10.IsWhole) (arg11 : Memref sig .tc .vmem S1x512x128 .f32) (harg11 : arg11.IsWhole) (arg12 : Memref sig .tc .vmem S16x640x256 .f32) (harg12 : arg12.IsWhole)
    (x0 : Vec F S4x2048x160 .bf16) (x1 : Vec F S1x512x160 .bf16) (x2 : Vec F S1x160x512 .bf16) (x3 : Vec F S2048x512 .bf16) (x4 : Vec F S4x1x2048 .f32) (x5 : Vec F S4x1x2048 .f32) (f9 : arg9.view.ty.Contents (Elt F)) (f10 : arg10.view.ty.Contents (Elt F)) (f11 : arg11.view.ty.Contents (Elt F)) (f12 : arg12.view.ty.Contents (Elt F)) :
    Σ' (R9 : arg9.view.ty.Contents (Elt F)) (R10 : arg10.view.ty.Contents (Elt F)) (R11 : arg11.view.ty.Contents (Elt F)), { R12 : arg12.view.ty.Contents (Elt F) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} R9) ∗ (arg10.view.loc (c : Thread nD τ) ↦[arg10.view.set]{fullShare} R10) ∗ (arg11.view.loc (c : Thread nD τ) ↦[arg11.view.set]{fullShare} R11) ∗ (arg12.view.loc (c : Thread nD τ) ↦[arg12.view.set]{fullShare} R12)) -∗ K ⟨⟩))
          ⊢ wp frame (wpE (defs₀ (F := F)) Variants.none c none) E (cc0_attn_b_bwd i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_attn_b_bwd_eq_skeleton]; unfold cc0_attn_b_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, H9, H10, H11, H12, Hk⟩
    obtain rfl := harg3.eq_unread hg0; obtain rfl := harg4.eq_unread hg1; obtain rfl := harg5.eq_unread hg2; obtain rfl := harg6.eq_unread hg3; obtain rfl := harg7.eq_unread hg4; obtain rfl := harg8.eq_unread hg5
    sl_exec
    iapply (run_branch c i arg3 harg3 arg4 harg4 arg5 harg5 arg6 harg6 arg7 harg7 arg8 harg8 arg9 harg9 arg10 harg10 arg11 harg11 arg12 harg12 _ _ E _)
    isplitl [H12]
    · iexact H12
    isplitl [H9]
    · iexact H9
    iintro ⟨H12, H9⟩
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H9]
    · iexact H9
    isplitl [H10]
    · iexact H10
    isplitl [H11]
    · iexact H11
    iexact H12

end Cert.Kernel2Ideal.Hand

end
-- ==== Proof.LatentStores.lean ====
module

public import proofs.«01_k».proof.Proof.LatentBlocks
public import proofs.«01_k».proof.Proof.Gen.Kernel2Ideal.Loops
public import Idealize.ShloMosaic.Lib.Tactic.Stretches
public import Idealize.ShloMosaic.Lib.Pointwise

/-! A list of stores, one store at a time: what it leaves in the scratch and in the block of the gradient of the queries. -/

@[expose] public section

set_option maxRecDepth 16384

noncomputable section

namespace Cert.Kernel2Ideal.Hand

open Idealize.ShloMosaic Idealize.ShloMosaic.TcCoe
open Idealize.ShloMosaic.VecWindow (put)
open Cert.Kernel2Ideal.Gen

variable {F : FTy → Type} [FloatOps F] [Named F]

/-- One store over the whole shape leaves what was stored. -/
theorem read_full {s : Shape} {e : EltTy} (v : View sig .tc .vmem s e) (f : v.ty.Contents (Elt F)) {off : Fin s.rank → ℕ} (inb : ∀ a, off a + s.size a ≤ s.size a)
    (w : s.Idx → Elt F e) : v.read (Elt F) (v.writes (Elt F) f [(⟨Rect.unit off s.size inb, w⟩ : View.Piece (Elt F) s e)]) = w := by
  funext y
  have h := View.read_writes_cons_emb v f (Rect.unit off s.size inb) w [] y
  rwa [Rect.emb_unit_full] at h

/-- The first `n` of the 32 blocks of half `b` of the scratch hold the sums, all else is as before. -/
def Upto (b : Fin 2) (D : Fin 8 → FVec F S160x1024 .f32) (S : Vec F S16x640x256 .f32) (n : ℕ) (T : Vec F S16x640x256 .f32) : Prop :=
  ∀ y : S16x640x256.Idx, T y = if 8 * b.val ≤ (y 0).val ∧ 4 * ((y 0).val - 8 * b.val) + (y 1).val / 160 < n then scrOut b D S y else S y

theorem upto_zero (b : Fin 2) (D : Fin 8 → FVec F S160x1024 .f32) (S : Vec F S16x640x256 .f32) : Upto b D S 0 S := fun y => by
  rw [if_neg (by omega)]

theorem upto_all {b : Fin 2} {D : Fin 8 → FVec F S160x1024 .f32} {S T : Vec F S16x640x256 .f32} (h : Upto b D S 32 T) : T = scrOut b D S := by
  funext y
  rw [h y]
  have h1 : (y 1).val < 640 := (y 1).isLt
  split
  · rfl
  · rename_i hc
    unfold scrOut
    rw [dif_neg (by omega)]

/-- One more block. -/
theorem upto_step (v : View sig .tc .vmem S16x640x256 .f32) (f : v.ty.Contents (Elt F)) {b : Fin 2} {D : Fin 8 → FVec F S160x1024 .f32} {S : Vec F S16x640x256 .f32}
    {off : Fin 3 → ℕ} {inb : ∀ a, off a + S1x160x256.size a ≤ S16x640x256.size a} {w : (Rect.unit (s := S16x640x256) off S1x160x256.size inb).shape.Idx → Elt F .f32}
    {L : List (View.Piece (Elt F) S16x640x256 .f32)} (u : Fin 8) (h : Fin 4) (hL : Upto b D S (4 * u.val + h.val) (v.read (Elt F) (v.writes (Elt F) f L)))
    (hoff : off = ![8 * b.val + u.val, 160 * h.val, 0]) (hw : w = shapeCast S1x160x256 (addf (shapeCast S160x256 (View.ld (Val := Elt F) S (Rect.unit (s := S16x640x256) off S1x160x256.size inb)) shapeCasts_S1x160x256_S160x256)
      (extractStridedSlice S160x256 ![0, 256 * h.val] (D u) (slH h))) shapeCasts_S160x256_S1x160x256) :
    Upto b D S (4 * u.val + h.val + 1) (v.read (Elt F) (v.writes (Elt F) f (⟨Rect.unit (s := S16x640x256) off S1x160x256.size inb, w⟩ :: L))) := by
  subst hoff
  replace hw : w = scrPay b D S u h := hw
  intro y
  have h1 : (y 1).val < 640 := (y 1).isLt
  have h2 : (y 2).val < 256 := (y 2).isLt
  have hu := u.isLt
  have hh := h.isLt
  rw [View.read_writes_cons_put _ _ _ _ _ rfl]
  unfold put
  by_cases hin : (y 0).val = 8 * b.val + u.val ∧ (y 1).val / 160 = h.val
  · have hc : ∀ a, (![8 * b.val + u.val, 160 * h.val, 0] : Fin 3 → ℕ) a ≤ (y a).val ∧ (y a).val < (![8 * b.val + u.val, 160 * h.val, 0] : Fin 3 → ℕ) a + S1x160x256.size a := by
      intro a
      match a with
      | 0 => show 8 * b.val + u.val ≤ (y 0).val ∧ (y 0).val < 8 * b.val + u.val + 1; omega
      | 1 => show 160 * h.val ≤ (y 1).val ∧ (y 1).val < 160 * h.val + 160; omega
      | 2 => show 0 ≤ (y 2).val ∧ (y 2).val < 0 + 256; omega
    rw [dif_pos hc, if_pos (by omega)]
    unfold scrOut
    rw [dif_pos (by omega), hw]
    have b0 : (⟨(y 0).val - 8 * b.val, by omega⟩ : Fin 8) = u := Fin.ext (by show (y 0).val - 8 * b.val = u.val; omega)
    have b1 : (⟨(y 1).val / 160, by omega⟩ : Fin 4) = h := Fin.ext hin.2
    rw [b0, b1]
    refine congrArg (scrPay b D S u h) (funext fun a => ?_)
    match a with
    | 0 => exact Fin.ext (by show (y 0).val - (8 * b.val + u.val) = 0; omega)
    | 1 => exact Fin.ext (by show (y 1).val - 160 * h.val = (y 1).val % 160; omega)
    | 2 => exact Fin.ext (by show (y 2).val - 0 = (y 2).val; omega)
  · rw [dif_neg, hL y]
    · by_cases hc : 8 * b.val ≤ (y 0).val ∧ 4 * ((y 0).val - 8 * b.val) + (y 1).val / 160 < 4 * u.val + h.val
      · rw [if_pos hc, if_pos (by omega)]
      · rw [if_neg hc, if_neg (by omega)]
    · intro hc
      have a0 : 8 * b.val + u.val ≤ (y 0).val ∧ (y 0).val < 8 * b.val + u.val + 1 := hc 0
      have a1 : 160 * h.val ≤ (y 1).val ∧ (y 1).val < 160 * h.val + 160 := hc 1
      exact hin (by omega)

/-- One more block, the blocks counted by one number. -/
theorem upto_next (v : View sig .tc .vmem S16x640x256 .f32) (f : v.ty.Contents (Elt F)) {b : Fin 2} {D : Fin 8 → FVec F S160x1024 .f32} {S : Vec F S16x640x256 .f32} {n : ℕ} (hn : n < 32)
    {off : Fin 3 → ℕ} {inb : ∀ a, off a + S1x160x256.size a ≤ S16x640x256.size a} {w : (Rect.unit (s := S16x640x256) off S1x160x256.size inb).shape.Idx → Elt F .f32}
    {L : List (View.Piece (Elt F) S16x640x256 .f32)} (hL : Upto b D S n (v.read (Elt F) (v.writes (Elt F) f L)))
    (hoff : off = ![8 * b.val + n / 4, 160 * (n % 4), 0]) (hw : w = shapeCast S1x160x256 (addf (shapeCast S160x256 (View.ld (Val := Elt F) S (Rect.unit (s := S16x640x256) off S1x160x256.size inb)) shapeCasts_S1x160x256_S160x256)
      (extractStridedSlice S160x256 ![0, 256 * (n % 4)] (D ⟨n / 4, by omega⟩) (slH ⟨n % 4, by omega⟩))) shapeCasts_S160x256_S1x160x256) :
    Upto b D S (n + 1) (v.read (Elt F) (v.writes (Elt F) f (⟨Rect.unit (s := S16x640x256) off S1x160x256.size inb, w⟩ :: L))) := by
  have e : 4 * (n / 4) + n % 4 = n := by omega
  have h := upto_step v f (b := b) (D := D) (S := S) (inb := inb) (w := w) (L := L) ⟨n / 4, by omega⟩ ⟨n % 4, by omega⟩ (by dsimp only; rw [e]; exact hL) hoff hw
  dsimp only at h
  rwa [e] at h

end Cert.Kernel2Ideal.Hand

end
-- ==== Proof.LatentEmit.lean ====
module

public import proofs.«01_k».proof.Proof.LatentRun
public import proofs.«01_k».proof.Proof.LatentStores

/-! The last branch: the scratch, transposed, as the block of the gradient of the queries. -/

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

theorem wide_read (V : FVec F S1x160x256 .f32) (a : Fin 256) (b : Fin 128) :
    extractStridedSlice S256x128 ![0, 0] (transpose S256x160 [1, 0] (shapeCast S160x256 V shapeCasts_S1x160x256_S160x256) transposes_S160x256_p1_0_S256x160) slices_S256x160_o0_0_S256x128 (ix2 a b)
      = V (ix3 0 ⟨b.val, by omega⟩ a) := by
  pointwise

theorem narrow_read (V : FVec F S1x160x256 .f32) (a : Fin 256) (b : Fin 32) :
    extractStridedSlice S256x32 ![0, 128] (transpose S256x160 [1, 0] (shapeCast S160x256 V shapeCasts_S1x160x256_S160x256) transposes_S160x256_p1_0_S256x160) slices_S256x160_o0_128_S256x32 (ix2 a b)
      = V (ix3 0 ⟨128 + b.val, by omega⟩ a) := by
  pointwise

theorem inbW {k : ℕ} (hk : k < 16) {o : Fin 2 → ℕ} (h : Fin 4) (ho : o = ![256 * k, 128 * h.val]) : ∀ a, o a + S256x128.size a ≤ S4096x640.size a := fun a => by
  subst ho
  have := h.isLt
  match a with
  | 0 => show 256 * k + 256 ≤ 4096; omega
  | 1 => show 128 * h.val + 128 ≤ 640; omega
theorem inbN {k : ℕ} (hk : k < 16) {o : Fin 2 → ℕ} (h : Fin 4) (ho : o = ![256 * k, 512 + 32 * h.val]) : ∀ a, o a + S256x32.size a ≤ S4096x640.size a := fun a => by
  subst ho
  have := h.isLt
  match a with
  | 0 => show 256 * k + 256 ≤ 4096; omega
  | 1 => show 512 + 32 * h.val + 32 ≤ 640; omega
theorem trips_16 : k0_t1_loop.trips = 16 := by decide
theorem trip_lt (k : Fin k0_t1_loop.trips) : k.val < 16 := lt_of_lt_of_eq k.isLt trips_16

theorem dqOut_wide (S : Vec F S16x640x256 .f32) (k : ℕ) (h : Fin 4) {o3 : Fin 3 → ℕ} {i3 : ∀ a, o3 a + S1x160x256.size a ≤ S16x640x256.size a} {o2 : Fin 2 → ℕ}
    (i2 : ∀ a, o2 a + S256x128.size a ≤ S4096x640.size a) (h3 : o3 = ![k, 160 * h.val, 0]) (h2 : o2 = ![256 * k, 128 * h.val])
    (x : S256x128.Idx) : extractStridedSlice S256x128 ![0, 0] (transpose S256x160 [1, 0] (shapeCast S160x256 (View.ld (Val := Elt F) S (Rect.unit (s := S16x640x256) o3 S1x160x256.size i3)) shapeCasts_S1x160x256_S160x256) transposes_S160x256_p1_0_S256x160) slices_S256x160_o0_0_S256x128 x
      = dqOut S ((Rect.unit (s := S4096x640) o2 S256x128.size i2).emb x) := by
  subst h3 h2
  have hh := h.isLt
  obtain ⟨a, b, rfl⟩ : ∃ (a : Fin 256) (b : Fin 128), x = ix2 a b := ⟨x 0, x 1, by funext t; match t with | 0 => rfl | 1 => rfl⟩
  have ha := a.isLt
  have hb := b.isLt
  rw [wide_read]
  unfold dqOut
  refine congrArg S (funext fun t => ?_)
  match t with
  | 0 => exact Fin.ext (by show k + 1 * 0 = (256 * k + 1 * a.val) / 256; omega)
  | 1 => exact Fin.ext (by
      show 160 * h.val + 1 * b.val = if 128 * h.val + 1 * b.val < 512 then 160 * ((128 * h.val + 1 * b.val) / 128) + (128 * h.val + 1 * b.val) % 128 else 160 * ((128 * h.val + 1 * b.val - 512) / 32) + (128 + (128 * h.val + 1 * b.val - 512) % 32)
      rw [if_pos (by omega)]; omega)
  | 2 => exact Fin.ext (by show 0 + 1 * a.val = (256 * k + 1 * a.val) % 256; omega)

theorem dqOut_narrow (S : Vec F S16x640x256 .f32) (k : ℕ) (h : Fin 4) {o3 : Fin 3 → ℕ} {i3 : ∀ a, o3 a + S1x160x256.size a ≤ S16x640x256.size a} {o2 : Fin 2 → ℕ}
    (i2 : ∀ a, o2 a + S256x32.size a ≤ S4096x640.size a) (h3 : o3 = ![k, 160 * h.val, 0]) (h2 : o2 = ![256 * k, 512 + 32 * h.val])
    (x : S256x32.Idx) : extractStridedSlice S256x32 ![0, 128] (transpose S256x160 [1, 0] (shapeCast S160x256 (View.ld (Val := Elt F) S (Rect.unit (s := S16x640x256) o3 S1x160x256.size i3)) shapeCasts_S1x160x256_S160x256) transposes_S160x256_p1_0_S256x160) slices_S256x160_o0_128_S256x32 x
      = dqOut S ((Rect.unit (s := S4096x640) o2 S256x32.size i2).emb x) := by
  subst h3 h2
  have hh := h.isLt
  obtain ⟨a, b, rfl⟩ : ∃ (a : Fin 256) (b : Fin 32), x = ix2 a b := ⟨x 0, x 1, by funext t; match t with | 0 => rfl | 1 => rfl⟩
  have ha := a.isLt
  have hb := b.isLt
  rw [narrow_read]
  unfold dqOut
  refine congrArg S (funext fun t => ?_)
  match t with
  | 0 => exact Fin.ext (by show k + 1 * 0 = (256 * k + 1 * a.val) / 256; omega)
  | 1 => exact Fin.ext (by
      show 160 * h.val + 1 * (128 + b.val) = if 512 + 32 * h.val + 1 * b.val < 512 then 160 * ((512 + 32 * h.val + 1 * b.val) / 128) + (512 + 32 * h.val + 1 * b.val) % 128 else 160 * ((512 + 32 * h.val + 1 * b.val - 512) / 32) + (128 + (512 + 32 * h.val + 1 * b.val - 512) % 32)
      rw [if_neg (by omega)]; omega)
  | 2 => exact Fin.ext (by show 0 + 1 * a.val = (256 * k + 1 * a.val) % 256; omega)

/-- An entry in a rectangle's rows and columns. -/
theorem mem_unit {o2 : Fin 2 → ℕ} {n m a b : ℕ} (i2 : ∀ t, o2 t + (![n, m] : Fin 2 → ℕ) t ≤ S4096x640.size t) (h2 : o2 = ![a, b]) (y : S4096x640.Idx)
    (h0 : a ≤ (y 0).val ∧ (y 0).val < a + n) (h1 : b ≤ (y 1).val ∧ (y 1).val < b + m) : y ∈ (Rect.unit (s := S4096x640) o2 ![n, m] i2).set := by
  subst h2
  refine ((Rect.unit (s := S4096x640) ![a, b] ![n, m] i2).mem_set).mpr fun t => ?_
  match t with
  | 0 => exact ⟨(y 0).val - a, by show _ < n; omega, by show (y 0).val = a + 1 * ((y 0).val - a); omega⟩
  | 1 => exact ⟨(y 1).val - b, by show _ < m; omega, by show (y 1).val = b + 1 * ((y 1).val - b); omega⟩

variable (c : Dev nD) (i : grid0.Coords) (arg3 : Memref sig .tc .vmem S4x2048x160 .bf16) (harg3 : arg3.IsWhole) (arg4 : Memref sig .tc .vmem S1x512x160 .bf16) (harg4 : arg4.IsWhole) (arg5 : Memref sig .tc .vmem S1x160x512 .bf16) (harg5 : arg5.IsWhole) (arg6 : Memref sig .tc .vmem S2048x512 .bf16) (harg6 : arg6.IsWhole) (arg7 : Memref sig .tc .vmem S4x1x2048 .f32) (harg7 : arg7.IsWhole) (arg8 : Memref sig .tc .vmem S4x1x2048 .f32) (harg8 : arg8.IsWhole) (arg9 : Memref sig .tc .vmem S4096x640 .f32) (harg9 : arg9.IsWhole) (arg10 : Memref sig .tc .vmem S1x512x160 .f32) (harg10 : arg10.IsWhole) (arg11 : Memref sig .tc .vmem S1x512x128 .f32) (harg11 : arg11.IsWhole) (arg12 : Memref sig .tc .vmem S16x640x256 .f32) (harg12 : arg12.IsWhole)

variable (X : arg12.view.ty.Contents (Elt F)) (h : k0_cond3 i = 1#1)

/-- What a trip stores agrees with the scratch, transposed. -/
theorem trip_agrees (k : Fin k0_t1_loop.trips) : ∀ p ∈ tripL_k0_t1 (F := F) Variants.none c none i arg3 harg3 arg4 harg4 arg5 harg5 arg6 harg6 arg7 harg7 arg8 harg8 arg9 harg9 arg10 harg10 arg11 harg11 arg12 harg12 h X k,
    ∀ x : p.1.shape.Idx, p.2 x = dqOut (arg12.view.read (Elt F) X) (p.1.emb x) := by
  unfold tripL_k0_t1 trip_k0_t1
  dsimp only
  sl_open_run
  sl_open_pay
  refine List.forall_mem_cons.mpr ⟨fun x => dqOut_narrow (arg12.view.read (Elt F) X) k.val ⟨3, by decide⟩ (inbN (trip_lt k) ⟨3, by decide⟩ (k0_off16_eq k)) (k0_off14_eq k) (k0_off16_eq k) x, ?_⟩
  refine List.forall_mem_cons.mpr ⟨fun x => dqOut_wide (arg12.view.read (Elt F) X) k.val ⟨3, by decide⟩ (inbW (trip_lt k) ⟨3, by decide⟩ (k0_off15_eq k)) (k0_off14_eq k) (k0_off15_eq k) x, ?_⟩
  refine List.forall_mem_cons.mpr ⟨fun x => dqOut_narrow (arg12.view.read (Elt F) X) k.val ⟨2, by decide⟩ (inbN (trip_lt k) ⟨2, by decide⟩ (k0_off13_eq k)) (k0_off11_eq k) (k0_off13_eq k) x, ?_⟩
  refine List.forall_mem_cons.mpr ⟨fun x => dqOut_wide (arg12.view.read (Elt F) X) k.val ⟨2, by decide⟩ (inbW (trip_lt k) ⟨2, by decide⟩ (k0_off12_eq k)) (k0_off11_eq k) (k0_off12_eq k) x, ?_⟩
  refine List.forall_mem_cons.mpr ⟨fun x => dqOut_narrow (arg12.view.read (Elt F) X) k.val ⟨1, by decide⟩ (inbN (trip_lt k) ⟨1, by decide⟩ (k0_off10_eq k)) (k0_off8_eq k) (k0_off10_eq k) x, ?_⟩
  refine List.forall_mem_cons.mpr ⟨fun x => dqOut_wide (arg12.view.read (Elt F) X) k.val ⟨1, by decide⟩ (inbW (trip_lt k) ⟨1, by decide⟩ (k0_off9_eq k)) (k0_off8_eq k) (k0_off9_eq k) x, ?_⟩
  refine List.forall_mem_cons.mpr ⟨fun x => dqOut_narrow (arg12.view.read (Elt F) X) k.val ⟨0, by decide⟩ (inbN (trip_lt k) ⟨0, by decide⟩ (k0_off7_eq k)) (k0_off5_eq k) (k0_off7_eq k) x, ?_⟩
  refine List.forall_mem_cons.mpr ⟨fun x => dqOut_wide (arg12.view.read (Elt F) X) k.val ⟨0, by decide⟩ (inbW (trip_lt k) ⟨0, by decide⟩ (k0_off6_eq k)) (k0_off5_eq k) (k0_off6_eq k) x, ?_⟩
  intro p hp
  exact absurd hp List.not_mem_nil

/-- The rectangles of a trip's stores. -/
theorem trip_list (k : Fin k0_t1_loop.trips) : ∃ (w16 : (Rect.unit (s := S4096x640) (k0_off16 k) ![256, 32] (inbN (trip_lt k) ⟨3, by decide⟩ (k0_off16_eq k))).shape.Idx → Elt F .f32) (w15 : (Rect.unit (s := S4096x640) (k0_off15 k) ![256, 128] (inbW (trip_lt k) ⟨3, by decide⟩ (k0_off15_eq k))).shape.Idx → Elt F .f32) (w13 : (Rect.unit (s := S4096x640) (k0_off13 k) ![256, 32] (inbN (trip_lt k) ⟨2, by decide⟩ (k0_off13_eq k))).shape.Idx → Elt F .f32) (w12 : (Rect.unit (s := S4096x640) (k0_off12 k) ![256, 128] (inbW (trip_lt k) ⟨2, by decide⟩ (k0_off12_eq k))).shape.Idx → Elt F .f32) (w10 : (Rect.unit (s := S4096x640) (k0_off10 k) ![256, 32] (inbN (trip_lt k) ⟨1, by decide⟩ (k0_off10_eq k))).shape.Idx → Elt F .f32) (w9 : (Rect.unit (s := S4096x640) (k0_off9 k) ![256, 128] (inbW (trip_lt k) ⟨1, by decide⟩ (k0_off9_eq k))).shape.Idx → Elt F .f32) (w7 : (Rect.unit (s := S4096x640) (k0_off7 k) ![256, 32] (inbN (trip_lt k) ⟨0, by decide⟩ (k0_off7_eq k))).shape.Idx → Elt F .f32) (w6 : (Rect.unit (s := S4096x640) (k0_off6 k) ![256, 128] (inbW (trip_lt k) ⟨0, by decide⟩ (k0_off6_eq k))).shape.Idx → Elt F .f32), tripL_k0_t1 (F := F) Variants.none c none i arg3 harg3 arg4 harg4 arg5 harg5 arg6 harg6 arg7 harg7 arg8 harg8 arg9 harg9 arg10 harg10 arg11 harg11 arg12 harg12 h X k =
     [⟨Rect.unit (k0_off16 k) ![256, 32] (inbN (trip_lt k) ⟨3, by decide⟩ (k0_off16_eq k)), w16⟩,
      ⟨Rect.unit (k0_off15 k) ![256, 128] (inbW (trip_lt k) ⟨3, by decide⟩ (k0_off15_eq k)), w15⟩,
      ⟨Rect.unit (k0_off13 k) ![256, 32] (inbN (trip_lt k) ⟨2, by decide⟩ (k0_off13_eq k)), w13⟩,
      ⟨Rect.unit (k0_off12 k) ![256, 128] (inbW (trip_lt k) ⟨2, by decide⟩ (k0_off12_eq k)), w12⟩,
      ⟨Rect.unit (k0_off10 k) ![256, 32] (inbN (trip_lt k) ⟨1, by decide⟩ (k0_off10_eq k)), w10⟩,
      ⟨Rect.unit (k0_off9 k) ![256, 128] (inbW (trip_lt k) ⟨1, by decide⟩ (k0_off9_eq k)), w9⟩,
      ⟨Rect.unit (k0_off7 k) ![256, 32] (inbN (trip_lt k) ⟨0, by decide⟩ (k0_off7_eq k)), w7⟩,
      ⟨Rect.unit (k0_off6 k) ![256, 128] (inbW (trip_lt k) ⟨0, by decide⟩ (k0_off6_eq k)), w6⟩] := by
  unfold tripL_k0_t1 trip_k0_t1
  exact ⟨_, _, _, _, _, _, _, _, rfl⟩

/-- A trip stores 256 whole rows. -/
theorem trip_covers (k : Fin k0_t1_loop.trips) (y : S4096x640.Idx) (hy : (y 0).val / 256 = k.val) :
    ∃ p ∈ tripL_k0_t1 (F := F) Variants.none c none i arg3 harg3 arg4 harg4 arg5 harg5 arg6 harg6 arg7 harg7 arg8 harg8 arg9 harg9 arg10 harg10 arg11 harg11 arg12 harg12 h X k, y ∈ p.1.set := by
  have h1 : (y 1).val < 640 := (y 1).isLt
  obtain ⟨w16, w15, w13, w12, w10, w9, w7, w6, e⟩ := trip_list c i arg3 harg3 arg4 harg4 arg5 harg5 arg6 harg6 arg7 harg7 arg8 harg8 arg9 harg9 arg10 harg10 arg11 harg11 arg12 harg12 X h k
  rw [e]
  by_cases c0 : (y 1).val < 128
  · exact ⟨_, (List.Mem.tail _ (List.Mem.tail _ (List.Mem.tail _ (List.Mem.tail _ (List.Mem.tail _ (List.Mem.tail _ (List.Mem.tail _ (List.Mem.head _)))))))), mem_unit (inbW (trip_lt k) ⟨0, by decide⟩ (k0_off6_eq k)) (k0_off6_eq k) y (by omega) (by omega)⟩
  by_cases c1 : (y 1).val < 256
  · exact ⟨_, (List.Mem.tail _ (List.Mem.tail _ (List.Mem.tail _ (List.Mem.tail _ (List.Mem.tail _ (List.Mem.head _)))))), mem_unit (inbW (trip_lt k) ⟨1, by decide⟩ (k0_off9_eq k)) (k0_off9_eq k) y (by omega) (by omega)⟩
  by_cases c2 : (y 1).val < 384
  · exact ⟨_, (List.Mem.tail _ (List.Mem.tail _ (List.Mem.tail _ (List.Mem.head _)))), mem_unit (inbW (trip_lt k) ⟨2, by decide⟩ (k0_off12_eq k)) (k0_off12_eq k) y (by omega) (by omega)⟩
  by_cases c3 : (y 1).val < 512
  · exact ⟨_, (List.Mem.tail _ (List.Mem.head _)), mem_unit (inbW (trip_lt k) ⟨3, by decide⟩ (k0_off15_eq k)) (k0_off15_eq k) y (by omega) (by omega)⟩
  by_cases c4 : (y 1).val < 544
  · exact ⟨_, (List.Mem.tail _ (List.Mem.tail _ (List.Mem.tail _ (List.Mem.tail _ (List.Mem.tail _ (List.Mem.tail _ (List.Mem.head _))))))), mem_unit (inbN (trip_lt k) ⟨0, by decide⟩ (k0_off7_eq k)) (k0_off7_eq k) y (by omega) (by omega)⟩
  by_cases c5 : (y 1).val < 576
  · exact ⟨_, (List.Mem.tail _ (List.Mem.tail _ (List.Mem.tail _ (List.Mem.tail _ (List.Mem.head _))))), mem_unit (inbN (trip_lt k) ⟨1, by decide⟩ (k0_off10_eq k)) (k0_off10_eq k) y (by omega) (by omega)⟩
  by_cases c6 : (y 1).val < 608
  · exact ⟨_, (List.Mem.tail _ (List.Mem.tail _ (List.Mem.head _))), mem_unit (inbN (trip_lt k) ⟨2, by decide⟩ (k0_off13_eq k)) (k0_off13_eq k) y (by omega) (by omega)⟩
  exact ⟨_, (List.Mem.head _), mem_unit (inbN (trip_lt k) ⟨3, by decide⟩ (k0_off16_eq k)) (k0_off16_eq k) y (by omega) (by omega)⟩

/-- The same of the first trips. -/
theorem trips_agree (n : ℕ) (hn : n ≤ k0_t1_loop.trips) : (∀ p ∈ pb_k0_t1 (F := F) Variants.none c none i arg3 harg3 arg4 harg4 arg5 harg5 arg6 harg6 arg7 harg7 arg8 harg8 arg9 harg9 arg10 harg10 arg11 harg11 arg12 harg12 h X n,
    ∀ x : p.1.shape.Idx, p.2 x = dqOut (arg12.view.read (Elt F) X) (p.1.emb x)) ∧
    ∀ y : S4096x640.Idx, (y 0).val / 256 < n → ∃ p ∈ pb_k0_t1 (F := F) Variants.none c none i arg3 harg3 arg4 harg4 arg5 harg5 arg6 harg6 arg7 harg7 arg8 harg8 arg9 harg9 arg10 harg10 arg11 harg11 arg12 harg12 h X n, y ∈ p.1.set := by
  induction n with
  | zero => exact ⟨fun p hp => absurd hp List.not_mem_nil, fun y hy => absurd hy (Nat.not_lt_zero _)⟩
  | succ n ih =>
    obtain ⟨ih1, ih2⟩ := ih (Nat.le_of_succ_le hn)
    rw [pb_k0_t1_succ Variants.none c none i arg3 harg3 arg4 harg4 arg5 harg5 arg6 harg6 arg7 harg7 arg8 harg8 arg9 harg9 arg10 harg10 arg11 harg11 arg12 harg12 h X ⟨n, hn⟩]
    refine ⟨fun p hp => ?_, fun y hy => ?_⟩
    · rcases List.mem_append.mp hp with hp | hp
      · exact trip_agrees c i arg3 harg3 arg4 harg4 arg5 harg5 arg6 harg6 arg7 harg7 arg8 harg8 arg9 harg9 arg10 harg10 arg11 harg11 arg12 harg12 X h ⟨n, hn⟩ p hp
      · exact ih1 p hp
    · by_cases hlt : (y 0).val / 256 < n
      · obtain ⟨p, hp, hm⟩ := ih2 y hlt
        exact ⟨p, List.mem_append_right _ hp, hm⟩
      · obtain ⟨p, hp, hm⟩ := trip_covers c i arg3 harg3 arg4 harg4 arg5 harg5 arg6 harg6 arg7 harg7 arg8 harg8 arg9 harg9 arg10 harg10 arg11 harg11 arg12 harg12 X h ⟨n, hn⟩ y (by show _ = n; omega)
        exact ⟨p, List.mem_append_left _ hp, hm⟩

include h in
/-- The last branch leaves the scratch, transposed. -/
theorem read_emitted (G : arg9.view.ty.Contents (Elt F)) : arg9.view.read (Elt F) (emitted c i arg3 harg3 arg4 harg4 arg5 harg5 arg6 harg6 arg7 harg7 arg8 harg8 arg9 harg9 arg10 harg10 arg11 harg11 arg12 harg12 X G) = dqOut (arg12.view.read (Elt F) X) := by
  unfold emitted
  rw [dif_pos h]
  have hT : k0_t1_loop.trips = 16 := by decide
  funext y
  have h0 : (y 0).val < 4096 := (y 0).isLt
  obtain ⟨h1, h2⟩ := trips_agree c i arg3 harg3 arg4 harg4 arg5 harg5 arg6 harg6 arg7 harg7 arg8 harg8 arg9 harg9 arg10 harg10 arg11 harg11 arg12 harg12 X h k0_t1_loop.trips (le_refl _)
  exact View.read_writes_apply_of_pieces arg9.view G _ _ h1 y (h2 y (by omega))

/-- At any other point it leaves what it finds. -/
theorem emitted_other (G : arg9.view.ty.Contents (Elt F)) (hn : ¬k0_cond3 i = 1#1) : emitted c i arg3 harg3 arg4 harg4 arg5 harg5 arg6 harg6 arg7 harg7 arg8 harg8 arg9 harg9 arg10 harg10 arg11 harg11 arg12 harg12 X G = G := by
  unfold emitted
  rw [dif_neg hn]

end Cert.Kernel2Ideal.Hand

end
-- ==== Proof.LatentRead.lean ====
module

public import proofs.«01_k».proof.Proof.LatentRun
public import proofs.«01_k».proof.Proof.LatentStores

/-! What the stores of a run leave in the scratch and in the three results, in the words of `LatentBlocks`. -/

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

variable (c : Dev nD) (i : grid0.Coords) (arg3 : Memref sig .tc .vmem S4x2048x160 .bf16) (harg3 : arg3.IsWhole) (arg4 : Memref sig .tc .vmem S1x512x160 .bf16) (harg4 : arg4.IsWhole) (arg5 : Memref sig .tc .vmem S1x160x512 .bf16) (harg5 : arg5.IsWhole) (arg6 : Memref sig .tc .vmem S2048x512 .bf16) (harg6 : arg6.IsWhole) (arg7 : Memref sig .tc .vmem S4x1x2048 .f32) (harg7 : arg7.IsWhole) (arg8 : Memref sig .tc .vmem S4x1x2048 .f32) (harg8 : arg8.IsWhole) (arg9 : Memref sig .tc .vmem S4096x640 .f32) (harg9 : arg9.IsWhole) (arg10 : Memref sig .tc .vmem S1x512x160 .f32) (harg10 : arg10.IsWhole) (arg11 : Memref sig .tc .vmem S1x512x128 .f32) (harg11 : arg11.IsWhole) (arg12 : Memref sig .tc .vmem S16x640x256 .f32) (harg12 : arg12.IsWhole)
  (x0 : Vec F S4x2048x160 .bf16) (x1 : Vec F S1x512x160 .bf16) (x2 : Vec F S1x160x512 .bf16) (x3 : Vec F S2048x512 .bf16) (x4 : Vec F S4x1x2048 .f32) (x5 : Vec F S4x1x2048 .f32) (f9 : arg9.view.ty.Contents (Elt F)) (f10 : arg10.view.ty.Contents (Elt F)) (f11 : arg11.view.ty.Contents (Elt F)) (f12 : arg12.view.ty.Contents (Elt F))

/-- The scratch before the point's own stores: zeros at a group's first point. -/
abbrev scr0 : arg12.view.ty.Contents (Elt F) :=
  if hc : kernelRun.sl.v4 i = 1#1 then arg12.view.writes (Elt F) f12 [⟨Rect.unit ![0, 0, 0] S16x640x256.size inb_S16x640x256_S16x640x256_0_0_0, k0_pay14⟩] else f12

set_option maxHeartbeats 16000000 in
/-- The scratch at the end of the run. -/
theorem read_scratch : arg12.view.read (Elt F) (kernelRun c i arg3 harg3 arg4 harg4 arg5 harg5 arg6 harg6 arg7 harg7 arg8 harg8 arg9 harg9 arg10 harg10 arg11 harg11 arg12 harg12 x0 x1 x2 x3 x4 x5 f9 f10 f11 f12).2.2.2.1 = scrOut (i 2) (⟨x0, x1, x2, x3, x4, x5⟩ : Ins F).dqt (arg12.view.read (Elt F) (scr0 i arg12 f12)) := by
  refine upto_all ?_
  unfold kernelRun
  dsimp only
  iterate 32
    refine upto_next arg12.view _ (by decide) ?_ ?_ ?_
    case refine_2 =>
      first
      | exact k0_off4_eq i ⟨_, by decide⟩
      | exact k0_off3_eq i ⟨_, by decide⟩
      | exact k0_off2_eq i ⟨_, by decide⟩
      | exact k0_off1_eq i ⟨_, by decide⟩
    case refine_3 =>
      sl_open_run
      sl_open_pay
      conv_rhs => rw [← harg3.read_unread x0, ← harg4.read_unread x1, ← harg5.read_unread x2, ← harg6.read_unread x3, ← harg7.read_unread x4, ← harg8.read_unread x5]
      rfl
  exact upto_zero _ _ _

/-- The gradient of the keys before the point's own stores: zeros at the first of a block of keys' two points. -/
abbrev g10 : arg10.view.ty.Contents (Elt F) :=
  if hc : kernelRun.sl.v7 i = 1#1 then arg10.view.writes (Elt F) f10 [⟨Rect.unit ![0, 0, 0] S1x512x160.size inb_S1x512x160_S1x512x160_0_0_0, k0_pay15⟩] else f10

set_option maxHeartbeats 16000000 in
/-- The gradient of the keys at the end of the run. -/
theorem read_keys : arg10.view.read (Elt F) (kernelRun c i arg3 harg3 arg4 harg4 arg5 harg5 arg6 harg6 arg7 harg7 arg8 harg8 arg9 harg9 arg10 harg10 arg11 harg11 arg12 harg12 x0 x1 x2 x3 x4 x5 f9 f10 f11 f12).2.1 = (⟨x0, x1, x2, x3, x4, x5⟩ : Ins F).dkOut i (arg10.view.read (Elt F) (g10 i arg10 f10)) := by
  unfold kernelRun
  dsimp only
  rw [read_full arg10.view]
  sl_open_run
  sl_open_pay
  conv_rhs => rw [← harg3.read_unread x0, ← harg4.read_unread x1, ← harg5.read_unread x2, ← harg6.read_unread x3, ← harg7.read_unread x4, ← harg8.read_unread x5]
  rfl

/-- The gradient of the values before the point's own stores: zeros at the first of a block of keys' two points. -/
abbrev g11 : arg11.view.ty.Contents (Elt F) :=
  if hc : kernelRun.sl.v7 i = 1#1 then arg11.view.writes (Elt F) f11 [⟨Rect.unit ![0, 0, 0] S1x512x128.size inb_S1x512x128_S1x512x128_0_0_0, k0_pay16⟩] else f11

set_option maxHeartbeats 16000000 in
/-- The gradient of the values at the end of the run. -/
theorem read_values : arg11.view.read (Elt F) (kernelRun c i arg3 harg3 arg4 harg4 arg5 harg5 arg6 harg6 arg7 harg7 arg8 harg8 arg9 harg9 arg10 harg10 arg11 harg11 arg12 harg12 x0 x1 x2 x3 x4 x5 f9 f10 f11 f12).2.2.1 = (⟨x0, x1, x2, x3, x4, x5⟩ : Ins F).dvOut (arg11.view.read (Elt F) (g11 i arg11 f11)) := by
  unfold kernelRun
  dsimp only
  rw [read_full arg11.view]
  sl_open_run
  sl_open_pay
  conv_rhs => rw [← harg3.read_unread x0, ← harg4.read_unread x1, ← harg5.read_unread x2, ← harg6.read_unread x3, ← harg7.read_unread x4, ← harg8.read_unread x5]
  rfl

/-- The block of the queries' gradient at the end of the run. -/
theorem run_emitted : (kernelRun c i arg3 harg3 arg4 harg4 arg5 harg5 arg6 harg6 arg7 harg7 arg8 harg8 arg9 harg9 arg10 harg10 arg11 harg11 arg12 harg12 x0 x1 x2 x3 x4 x5 f9 f10 f11 f12).1 = emitted c i arg3 harg3 arg4 harg4 arg5 harg5 arg6 harg6 arg7 harg7 arg8 harg8 arg9 harg9 arg10 harg10 arg11 harg11 arg12 harg12 (kernelRun c i arg3 harg3 arg4 harg4 arg5 harg5 arg6 harg6 arg7 harg7 arg8 harg8 arg9 harg9 arg10 harg10 arg11 harg11 arg12 harg12 x0 x1 x2 x3 x4 x5 f9 f10 f11 f12).2.2.2.1 f9 := by
  unfold kernelRun
  dsimp only

theorem first_iff : ∀ i : grid0.Coords, kernelRun.sl.v4 i = 1#1 ↔ (i 1).val = 0 ∧ (i 2).val = 0 := by decide +kernel
theorem even_iff : ∀ i : grid0.Coords, kernelRun.sl.v7 i = 1#1 ↔ (i 2).val = 0 := by decide +kernel
theorem last_iff : ∀ i : grid0.Coords, k0_cond3 i = 1#1 ↔ (i 1).val = 7 ∧ (i 2).val = 1 := by decide +kernel

end Cert.Kernel2Ideal.Hand

end
-- ==== Proof.LatentBody.lean ====
module

public import Idealize.ShloMosaic.Lib.Claim
public import proofs.«01_k».proof.Proof.LatentContents
public import proofs.«01_k».proof.Proof.LatentEmit
public import proofs.«01_k».proof.Proof.LatentRead

/-! The body of the latent attention's gradient at every point, and the run of the whole program. -/

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)

/-- The blocks of keys and of rows of a point. -/
theorem coord1 : ∀ t : Fin cfg0.N, (grid0.coords t 1).val = t.val / 2 % 8 :=
  (by decide +kernel : ∀ t : Fin grid0.N, (grid0.coords t 1).val = t.val / 2 % 8)
@[inherit_doc coord1]
theorem coord2 : ∀ t : Fin cfg0.N, (grid0.coords t 2).val = t.val % 2 :=
  (by decide +kernel : ∀ t : Fin grid0.N, (grid0.coords t 2).val = t.val % 2)
theorem first_pt (t : Fin cfg0.N) : kernelRun.sl.v4 (grid0.coords t) = 1#1 ↔ t.val % 16 = 0 := by
  have h1 := coord1 t
  have h2 := coord2 t
  refine (first_iff _).trans ?_
  rw [h1, h2]; omega
theorem even_pt (t : Fin cfg0.N) : kernelRun.sl.v7 (grid0.coords t) = 1#1 ↔ t.val % 2 = 0 := by
  have h2 := coord2 t
  refine (even_iff _).trans ?_
  rw [h2]
theorem last_pt (t : Fin cfg0.N) : k0_cond3 (grid0.coords t) = 1#1 ↔ t.val % 16 = 15 := by
  have h1 := coord1 t
  have h2 := coord2 t
  refine (last_iff _).trans ?_
  rw [h1, h2]; omega
/-- The queries' gradient is stored at a group's last point only. -/
theorem idle_6 : ∀ t : Fin cfg0.N, cfg0.idle 6 (cfg0.grid.coords t) = !decide (t.val % 16 = 15) :=
  (by decide +kernel : ∀ t : Fin grid0.N, idle0 6 (grid0.coords t) = !decide (t.val % 16 = 15))

/-- A memref's elements after stores, owned at what reads through them. -/
theorem owns_read (c : Dev nD) {s : Shape} {e : EltTy} (w : Memref sig .tc .vmem s e) (f : w.view.ty.Contents (Elt F)) (X : s.Idx → Elt F e)
    (h : w.view.read (Elt F) f = X) : (w.view.loc (c : Thread nD τ) ↦[w.view.set]{fullShare} f : sProp 𝕄) ⊢ owns (c : Thread nD τ) w fullShare X := by
  subst h; exact owns_intro (c : Thread nD τ) w fullShare f

theorem owns_open (c : Dev nD) {s : Shape} {e : EltTy} (w : Memref sig .tc .vmem s e) (X : s.Idx → Elt F e) :
    (owns (c : Thread nD τ) w fullShare X : sProp 𝕄) = iprop(∃ f, ⌜w.view.read (Elt F) f = X⌝ ∗ (w.view.loc (c : Thread nD τ) ↦[w.view.set]{fullShare} f)) := rfl

abbrev ms0 (t : Fin cfg0.N) : Memref sig .tc .vmem S4x2048x160 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x160 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x160x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4096x640 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512x160 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512x128 .f32 := win0_8.stage (cfg0.slots t 8)
abbrev hs8 (t : Fin cfg0.N) : (ms8 t).IsWhole := hstage0_8 ((cfg0.slots t 8).cast nbuf0_8)
abbrev sc0 : Memref sig .tc .vmem S16x640x256 .f32 := Memref.whole cc0_scratch0

/-- The class invariant is the scratch and the generator. -/
theorem PhiA_eq (c : Dev nD) : (Pipeline.ΦA spec0 c : sProp 𝕄) = iprop((∃ d, owns (c : Thread nD τ) sc0 fullShare d) ∗ (∃ r, prngReg c r)) := by
  unfold Pipeline.ΦA; rw [scopedRest0_eq]; simp only [sc0, owns_whole]; try rfl

theorem Phi_in (c : Dev nD) : (Pipeline.ΦA spec0 c : sProp 𝕄) ⊢ Inv m c 0 := by
  rw [PhiA_eq]
  unfold Inv
  iintro ⟨⟨%d, H⟩, Hg⟩
  isplitl [H]
  · iexists d
    isplitr
    · ipureintro; exact fun h => absurd rfl h
    iexact H
  iexact Hg

theorem Phi_out (c : Dev nD) (n : ℕ) : Inv m c n ⊢ (Pipeline.ΦA spec0 c : sProp 𝕄) := by
  rw [PhiA_eq]
  unfold Inv
  iintro ⟨⟨%d, %hd, H⟩, Hg⟩
  isplitl [H]
  · iexists d
    iexact H
  iexact Hg

/-- What the body leaves in the queries' gradient's buffer: what it found, but at a group's last point. -/
def post6 (c : Dev nD) (t : Fin cfg0.N) : sProp 𝕄 :=
  match cfg0.idle 6 (cfg0.grid.coords t) with
  | true =>
    match (cfg0.win 6).flush t with
    | false => iprop(∃ d, owns (c : Thread nD τ) (ms6 t) fullShare ((dats m 0 c).before 6 t d))
    | true => owns (c : Thread nD τ) (ms6 t) fullShare ((dats m 0 c).after 6 t)
  | false => owns (c : Thread nD τ) (ms6 t) fullShare ((dats m 0 c).after 6 t)

theorem post6_last (c : Dev nD) (t : Fin cfg0.N) (h : t.val % 16 = 15) : post6 m c t = owns (c : Thread nD τ) (ms6 t) fullShare ((dats m 0 c).after 6 t) := by
  unfold post6
  rw [idle_6, decide_eq_true h]
  rfl
theorem post6_other (c : Dev nD) (t : Fin cfg0.N) (h : ¬t.val % 16 = 15) : post6 m c t = iprop(∃ d, owns (c : Thread nD τ) (ms6 t) fullShare ((dats m 0 c).before 6 t d)) := by
  unfold post6
  rw [idle_6, decide_eq_false h, Bool.eq_false_iff.mpr fun e => h ((flush0_6 t).mp e)]
  rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ post6 m c t
    ∗ owns (c : Thread nD τ) (ms7 t) fullShare ((dats m 0 c).after 7 t)
    ∗ owns (c : Thread nD τ) (ms8 t) fullShare ((dats m 0 c).after 8 t))

section Point

variable (c : Dev nD) (t : Fin cfg0.N) (f6 : (ms6 t).view.ty.Contents (Elt F)) (f7 : (ms7 t).view.ty.Contents (Elt F)) (f8 : (ms8 t).view.ty.Contents (Elt F)) (fS : sc0.view.ty.Contents (Elt F))

/-- The run of the body at a point. -/
abbrev runAt := kernelRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) (iblk m c 0 t) (iblk m c 1 t) (iblk m c 2 t) (iblk m c 3 t) (iblk m c 4 t) (iblk m c 5 t) f6 f7 f8 fS

/-- The scratch after the body. -/
theorem scr_pt (h : t.val ≠ 0 → sc0.view.read (Elt F) fS = scrAt m c (t.val - 1)) : sc0.view.read (Elt F) (runAt m c t f6 f7 f8 fS).2.2.2.1 = scrAt m c t.val := by
  refine (read_scratch c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) (iblk m c 0 t) (iblk m c 1 t) (iblk m c 2 t) (iblk m c 3 t) (iblk m c 4 t) (iblk m c 5 t) f6 f7 f8 fS).trans ?_
  rw [scrAt_eq]
  refine congrArg (scrOut (half (grid0.coords t)) (ins m c t).dqt) ?_
  unfold scr0 scrBefore
  by_cases h0 : t.val % 16 = 0
  · rw [dif_pos ((first_pt t).mpr h0), if_pos h0]
    exact read_full sc0.view _ _ _
  · rw [dif_neg fun e => h0 ((first_pt t).mp e), if_neg h0]
    exact h fun e => h0 (by rw [e])

/-- The gradient of the keys after the body. -/
theorem dk_pt (d) (h : (ms7 t).view.read (Elt F) f7 = (dats m 0 c).before 7 t d) : (ms7 t).view.read (Elt F) (runAt m c t f6 f7 f8 fS).2.1 = dkAt m c t := by
  refine (read_keys c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) (iblk m c 0 t) (iblk m c 1 t) (iblk m c 2 t) (iblk m c 3 t) (iblk m c 4 t) (iblk m c 5 t) f6 f7 f8 fS).trans ?_
  unfold dkAt
  refine congrArg ((ins m c t).dkOut (grid0.coords t)) ?_
  unfold g10
  by_cases h0 : t.val % 2 = 0
  · rw [dif_pos ((even_pt t).mpr h0), if_pos h0]
    exact read_full (ms7 t).view _ _ _
  · rw [dif_neg fun e => h0 ((even_pt t).mp e), if_neg h0]
    exact h.trans (before_7 m c t h0 d)

/-- The gradient of the values after the body. -/
theorem dv_pt (d) (h : (ms8 t).view.read (Elt F) f8 = (dats m 0 c).before 8 t d) : (ms8 t).view.read (Elt F) (runAt m c t f6 f7 f8 fS).2.2.1 = dvAt m c t := by
  refine (read_values c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) (iblk m c 0 t) (iblk m c 1 t) (iblk m c 2 t) (iblk m c 3 t) (iblk m c 4 t) (iblk m c 5 t) f6 f7 f8 fS).trans ?_
  unfold dvAt
  refine congrArg ((ins m c t).dvOut) ?_
  unfold g11
  by_cases h0 : t.val % 2 = 0
  · rw [dif_pos ((even_pt t).mpr h0), if_pos h0]
    exact read_full (ms8 t).view _ _ _
  · rw [dif_neg fun e => h0 ((even_pt t).mp e), if_neg h0]
    exact h.trans (before_8 m c t h0 d)

/-- The gradient of the queries after the body. -/
theorem dq_pt (d) (h : t.val ≠ 0 → sc0.view.read (Elt F) fS = scrAt m c (t.val - 1)) (h6 : (ms6 t).view.read (Elt F) f6 = (dats m 0 c).before 6 t d) :
    ((ms6 t).view.loc (c : Thread nD τ) ↦[(ms6 t).view.set]{fullShare} (runAt m c t f6 f7 f8 fS).1 : sProp 𝕄) ⊢ post6 m c t := by
  by_cases hl : t.val % 16 = 15
  · rw [post6_last m c t hl, after_6]
    refine owns_read c (ms6 t) _ _ ?_
    refine (congrArg ((ms6 t).view.read (Elt F)) (run_emitted c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) (iblk m c 0 t) (iblk m c 1 t) (iblk m c 2 t) (iblk m c 3 t) (iblk m c 4 t) (iblk m c 5 t) f6 f7 f8 fS)).trans ?_
    refine (read_emitted c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) _ ((last_pt t).mpr hl) _).trans ?_
    exact congrArg dqOut (scr_pt m c t f6 f7 f8 fS h)
  · rw [post6_other m c t hl]
    iintro H
    iexists d
    iapply (owns_read c (ms6 t) _ _ (((congrArg ((ms6 t).view.read (Elt F)) (run_emitted c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) (iblk m c 0 t) (iblk m c 1 t) (iblk m c 2 t) (iblk m c 3 t) (iblk m c 4 t) (iblk m c 5 t) f6 f7 f8 fS)).trans (congrArg ((ms6 t).view.read (Elt F)) (emitted_other c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) _ _ fun e => hl ((last_pt t).mp e)))).trans h6))
    iexact H

end Point

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before_0, before_1, before_2, before_3, before_4, before_5, owns_open c (ms6 t), owns_open c (ms7 t), owns_open c (ms8 t)]
  rw [Phi_castSucc]
  unfold Inv
  simp only [owns_open c sc0]
  iintro ⟨⟨⟨%dS, %hS, %fS, %eS, HS⟩, Hg⟩, Ho, ⟨%d0, H0⟩, ⟨%d1, H1⟩, ⟨%d2, H2⟩, ⟨%d3, H3⟩, ⟨%d4, H4⟩, ⟨%d5, H5⟩, ⟨%d6, %f6, %e6, H6⟩, ⟨%d7, %f7, %e7, H7⟩, ⟨%d8, %f8, %e8, H8⟩⟩
  have hS' : t.val ≠ 0 → sc0.view.read (Elt F) fS = scrAt m c (t.val - 1) := fun h => eS.trans (hS h)
  iapply ((runAt m c t f6 f7 f8 fS).2.2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  unfold bodyPost
  rw [Phi_succ, show (dats m 0 c).owesAt () t.succ = (dats m 0 c).owesAt () t.castSucc from rfl,
    after_0, after_1, after_2, after_3, after_4, after_5, after_7, after_8]
  unfold Inv
  isplitl [HS Hg]
  · isplitl [HS]
    · iexists (scrAt m c t.val)
      isplitr
      · ipureintro; exact fun _ => rfl
      iapply (owns_read c sc0 _ _ (scr_pt m c t f6 f7 f8 fS hS'))
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (dq_pt m c t f6 f7 f8 fS d6 hS' e6)
    iexact H6
  isplitl [H7]
  · iapply (owns_read c (ms7 t) _ _ (dk_pt m c t f6 f7 f8 fS d7 e7))
    iexact H7
  iapply (owns_read c (ms8 t) _ _ (dv_pt m c t f6 f7 f8 fS d8 e8))
  iexact H8

theorem defs₀_row (t : Fin cfg0.N) : defs₀ (F := F) .tc cfg0.body (cfg0.bodyArgs t (cfg0.slots t)) = bodyAt0 t := by
  unfold defs₀; rw [Defs.onTc_tc]

/-- The library's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem share_eq (c : Dev nD) (w : Fin cfg0.W) : (dats m 0 c).share w = fullShare := by
  unfold Dat.share
  dsimp only [dats]
  exact ite_self _

set_option backward.isDefEq.respectTransparency.types false in
/-- The whole program runs to its end; every window's array ends at what the proof data say, every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := share_eq m)
    (howed := fun _ _ => rfl) (V := V m) (hmain := hmain m Variants.none) (hA := A_eq m)
    (hin := fun c => Phi_in m c) (hout := fun c => Phi_out m c _)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Kernel2Ideal.Hand

end
-- ==== Proof.LatentFrame.lean ====
module

public import proofs.«01_k».proof.Defs
public import proofs.«01_k».proof.Proof.LatentBody
public import proofs.«01_k».proof.Proof.Gen.Kernel2

/-! The frame of the kernel as printed: over the machine's numbers a named constant is the constant itself, so the run of `LatentBody` is the run of the kernel. -/

@[expose] public section

set_option maxRecDepth 100000

noncomputable section

namespace Cert.Hand2

open Idealize.ShloMosaic Idealize.SL.Sem

/-- Over the machine's numbers a name is read as the number it names. -/
local instance : Named Bits where
  named _ _ {φ} bits := Scalar.ofBits (F := Bits) φ bits

set_option maxHeartbeats 0 in
/-- The two bodies are one. -/
theorem body_eq : @Cert.Kernel2.cc0_attn_b_bwd Bits _ _ = @Cert.Kernel2Ideal.cc0_attn_b_bwd Bits _ _ _ := by
  unfold Cert.Kernel2.cc0_attn_b_bwd Cert.Kernel2Ideal.cc0_attn_b_bwd
  rfl

set_option maxHeartbeats 0 in
/-- And so are the tables of bodies. -/
theorem defs₀_eq : @Cert.Kernel2.defs₀ Bits _ _ = @Cert.Kernel2Ideal.defs₀ Bits _ _ _ := by
  unfold Cert.Kernel2.defs₀ Cert.Kernel2Ideal.defs₀
  refine congrArg Defs.onTc (funext fun l => funext fun x => ?_)
  match l, x with
  | 0, (t, s) =>
    dsimp only
    rw [body_eq]
    rfl

set_option maxHeartbeats 0 in
theorem defs_eq : @Cert.Kernel2.defs Bits _ _ = @Cert.Kernel2Ideal.defs Bits _ _ _ :=
  congrArg (Pipeline.defs (@Cert.Kernel2Ideal.pcfgs Bits _)) defs₀_eq

set_option maxHeartbeats 0 in
/-- The host code is the same. -/
theorem main_eq : @Cert.Kernel2.main Bits _ _ = @Cert.Kernel2Ideal.main Bits _ _ := by
  unfold Cert.Kernel2.main Cert.Kernel2Ideal.main
  rfl

/-- A run of one program is a run of an equal one. -/
theorem transfer {D M} (hD : D = @Cert.Kernel2Ideal.defs Bits _ _ _) (hM : M = @Cert.Kernel2Ideal.main Bits _ _) {s Q}
    (h : θ_run (@Cert.Kernel2Ideal.defs Bits _ _ _) (onTc (τ := Cert.Kernel2Ideal.τ) (@Cert.Kernel2Ideal.main Bits _ _)) s Q) :
    θ_run D (onTc (τ := Cert.Kernel2Ideal.τ) M) s Q := by
  subst hD hM
  exact h

set_option maxHeartbeats 0 in
/-- The kernel as printed ends without a fault, its arguments unchanged and its semaphores at zero. -/
theorem frame_kernel : Cert.quiescent_Kernel2 := fun m ρ _ =>
  transfer defs_eq main_eq (Cert.Kernel2Ideal.Hand.frame (F := Bits) m ρ)

end Cert.Hand2

end
-- ==== Proof.LatentSpec.lean ====
module

public import Idealize.ShloMosaic.Lib.Pointwise
public import proofs.«01_k».proof.Proof.Words

/-! The latent attention of reference.py and its gradient, in real numbers: two groups of four heads, 4096 positions, every head's
keys the shared 128 latent and 32 rotated features, the values the latent ones. -/

@[expose] public section

noncomputable section

namespace Cert.Latent

open Idealize.ShloMosaic

/-- The scale, 1/√96 as it is stored. -/
def σ : ℝ := 3424635 / 33554432

theorem σ_ne : σ ≠ 0 := by unfold σ; norm_num

theorem c_σ : Ideal.ofBits .f32 0x3DD105EC#32 = ((σ : ℝ) : EReal) := by
  unfold σ
  simp [Ideal.ofBits, Ideal.ieee, -EReal.coe_mul]; norm_num

/-- 128 features followed by 32. -/
def mix (a : Fin 128 → ℝ) (b : Fin 32 → ℝ) (d : Fin 160) : ℝ := if h : d.val < 128 then a ⟨d.val, h⟩ else b ⟨d.val - 128, by omega⟩

/-- A latent feature and a rotated one among the 160. -/
def lo (d : Fin 128) : Fin 160 := ⟨d.val, by omega⟩
@[inherit_doc lo]
def hi (d : Fin 32) : Fin 160 := ⟨128 + d.val, by omega⟩

theorem mix_lo (a : Fin 128 → ℝ) (b : Fin 32 → ℝ) (d : Fin 128) : mix a b (lo d) = a d := dif_pos d.isLt
theorem mix_hi (a : Fin 128 → ℝ) (b : Fin 32 → ℝ) (d : Fin 32) : mix a b (hi d) = b d := by
  unfold mix
  rw [dif_neg (by simp [hi])]
  exact congrArg b (Fin.ext (by simp [hi]))

theorem sum_split (f : Fin 160 → ℝ) : ∑ d, f d = (∑ d : Fin 128, f (lo d)) + ∑ d : Fin 32, f (hi d) := Fin.sum_univ_add (a := 128) (b := 32) f

/-- The five arguments, entry by entry: the queries and the cotangent by position, group, head and feature, the keys by position. -/
structure Args where
  ql : Fin 4096 → Fin 2 → Fin 4 → Fin 128 → ℝ
  qr : Fin 4096 → Fin 2 → Fin 4 → Fin 32 → ℝ
  c : Fin 4096 → Fin 128 → ℝ
  kr : Fin 4096 → Fin 32 → ℝ
  ct : Fin 4096 → Fin 2 → Fin 4 → Fin 128 → ℝ

namespace Args

variable (A : Args)

/-- The queries and keys with their 160 features. -/
def q (s : Fin 4096) (g : Fin 2) (h : Fin 4) : Fin 160 → ℝ := mix (A.ql s g h) (A.qr s g h)
@[inherit_doc q]
def k (n : Fin 4096) : Fin 160 → ℝ := mix (A.c n) (A.kr n)

variable (g : Fin 2) (h : Fin 4) (s n : Fin 4096)

/-- The score of a key for a query. -/
def score : ℝ := ((∑ d, A.c n d * A.ql s g h d) + ∑ d, A.kr n d * A.qr s g h d) * σ

theorem score_eq : A.score g h s n = (∑ d, A.k n d * A.q s g h d) * σ := by
  unfold score q k
  rw [sum_split]
  simp only [mix_lo, mix_hi]

/-- The greatest score of a query. -/
def top : ℝ := (Finset.univ : Finset (Fin 4096)).sup' Finset.univ_nonempty (A.score g h s)

/-- The exponential of a key's score. -/
def e : ℝ := Real.exp (A.score g h s n - A.top g h s)

/-- The softmax's denominator. -/
def Z : ℝ := ∑ n, A.e g h s n

/-- The probability of a key. -/
def pr : ℝ := A.e g h s n * (1 / A.Z g h s)

/-- The gradient by the probabilities. -/
def dP : ℝ := ∑ d, A.ct s g h d * A.c n d

/-- The gradient by the denominator. -/
def cc : ℝ := -∑ n, A.dP g h s n * (1 * (1 / (A.Z g h s * A.Z g h s))) * A.e g h s n

/-- The gradient by the scores. -/
def dS : ℝ := (A.dP g h s n * (1 / A.Z g h s) + A.cc g h s) * A.e g h s n

/-- The gradients: of the values and keys by group, of the queries by head. -/
def dV (d : Fin 128) : ℝ := ∑ h, ∑ s, A.ct s g h d * A.pr g h s n
@[inherit_doc dV]
def dK (d : Fin 160) : ℝ := ∑ h, ∑ s, A.dS g h s n * σ * A.q s g h d
@[inherit_doc dV]
def dQ (d : Fin 160) : ℝ := ∑ n, A.dS g h s n * σ * A.k n d

theorem Z_pos : 0 < A.Z g h s := Finset.sum_pos (fun _ _ => Real.exp_pos _) Finset.univ_nonempty

theorem Z_ne : A.Z g h s ≠ 0 := (A.Z_pos g h s).ne'

/-- The row sum `∑ ct · o` of the attention's output. -/
def delta : ℝ := ∑ d, A.ct s g h d * ∑ n, A.c n d * A.pr g h s n

/-- The gradient by the scores as the flash form has it. -/
theorem dS_eq : A.dS g h s n = A.pr g h s n * (A.dP g h s n - A.delta g h s) := by
  have hz := A.Z_ne g h s
  have h1 : A.delta g h s = ∑ n, A.dP g h s n * A.pr g h s n := by
    unfold delta dP
    simp only [Finset.mul_sum, Finset.sum_mul]
    rw [Finset.sum_comm]
    exact Finset.sum_congr rfl fun n _ => Finset.sum_congr rfl fun d _ => by ring
  have h2 : A.cc g h s = -(A.delta g h s * (1 / A.Z g h s)) := by
    rw [h1]
    unfold cc pr
    rw [Finset.sum_mul]
    exact congrArg _ (Finset.sum_congr rfl fun n _ => by field_simp)
  unfold dS pr
  rw [h2]; ring

/-- The greatest of the scores, over the extended reals. -/
theorem fold_max : (Finset.univ : Finset (Fin 4096)).fold max ⊥ (fun n => (A.score g h s n : EReal)) = (A.top g h s : EReal) := by
  apply le_antisymm
  · rw [Finset.fold_max_le]
    exact ⟨bot_le, fun n _ => EReal.coe_le_coe_iff.mpr (Finset.le_sup' (A.score g h s) (Finset.mem_univ n))⟩
  · obtain ⟨n, _, e⟩ := Finset.exists_mem_eq_sup' (Finset.univ_nonempty (α := Fin 4096)) (A.score g h s)
    rw [Finset.le_fold_max]
    refine Or.inr ⟨n, Finset.mem_univ _, ?_⟩
    unfold top
    rw [e]

end Args

end Cert.Latent

end
-- ==== Proof.LatentValue.lean ====
module

public import proofs.«01_k».proof.Proof.LatentBlocks
public import proofs.«01_k».proof.Proof.LatentSpec

/-! What a grid point of `attn_b_bwd` computes, in real numbers, when its blocks hold the numbers of group `g`, of the `j`-th 512
keys and of the `b`-th 2048 queries. -/

@[expose] public section

set_option maxRecDepth 16384

noncomputable section

namespace Cert.Latent

/-- What a query is multiplied by. -/
def qscale : ℝ := σ * (1 / Real.log 2)

/-- Key `r` of the `j`-th 512. -/
def key (j : Fin 8) (r : Fin 512) : Fin 4096 := ⟨512 * j.val + r.val, by omega⟩

/-- Query `x` of block `u` of the `b`-th 2048. -/
def qry (b : Fin 2) (u : Fin 8) (x : Fin 256) : Fin 4096 := ⟨2048 * b.val + 256 * u.val + x.val, by omega⟩

theorem log2_ne : Real.log 2 ≠ 0 := (Real.log_pos (by norm_num)).ne'

end Cert.Latent

namespace Cert.Kernel2Ideal.Hand

open Idealize.ShloMosaic Idealize.ShloMosaic.TcCoe
open Cert.Kernel2Ideal.Gen Cert.Latent
open Cert.Attn (coe_sum div_real)

/-- The blocks hold the numbers `A` of group `g`, of the `j`-th keys and of the `b`-th queries. -/
structure Has (A : Args) (g : Fin 2) (j : Fin 8) (b : Fin 2) (X : Ins Ideal) : Prop where
  q : ∀ (h : Fin 4) (r : Fin 2048) (d : Fin 160) (s : Fin 4096), s.val = 2048 * b.val + r.val → X.q (ix3 h r d) = ((A.q s g h d * qscale : ℝ) : EReal)
  k : ∀ (r : Fin 512) (d : Fin 160), X.k (ix3 0 r d) = (A.k (key j r) d : EReal)
  kt : ∀ (r : Fin 512) (d : Fin 160), X.kt (ix3 0 d r) = (A.k (key j r) d : EReal)
  dy : ∀ (h : Fin 4) (r : Fin 2048) (d : Fin 128) (s : Fin 4096) (c : Fin 512), s.val = 2048 * b.val + r.val → c.val = 128 * h.val + d.val →
    X.dy (ix2 r c) = (A.ct s g h d : EReal)
  lse : ∀ (h : Fin 4) (r : Fin 2048) (s : Fin 4096), s.val = 2048 * b.val + r.val →
    X.lse (ix3 h 0 r) = (((A.top g h s + Real.log (A.Z g h s)) * (1 / Real.log 2) : ℝ) : EReal)
  dl : ∀ (h : Fin 4) (r : Fin 2048) (s : Fin 4096), s.val = 2048 * b.val + r.val → X.dl (ix3 h 0 r) = (A.delta g h s : EReal)

/-- Column `x` of head `h`'s 256, among the block's 1024. -/
def col (h : Fin 4) (x : Fin 256) : Fin 1024 := ⟨256 * h.val + x.val, by omega⟩

variable (X : Ins Ideal)

theorem kk_read (r : Fin 512) (d : Fin 160) : X.kk (ix2 r d) = X.k (ix3 0 r d) := by
  pointwise [Ins.kk]
theorem vv_read (r : Fin 512) (d : Fin 128) : X.vv (ix2 r d) = X.kk (ix2 r (lo d)) := by
  pointwise [Ins.vv, lo]
theorem kkt_read (r : Fin 512) (d : Fin 160) : X.kkt (ix2 d r) = X.kt (ix3 0 d r) := by
  pointwise [Ins.kkt]
/-- A reading of four pieces side by side, 256 to a piece. -/
theorem four {α : Type} (f : Fin 4 → Fin 256 → α) (h : Fin 4) (x : Fin 256) (c : ℕ) (hc : c = 256 * h.val + x.val) :
    (if h₀ : c < 256 then f 0 ⟨c, h₀⟩ else if h₁ : c - 256 < 256 then f 1 ⟨c - 256, h₁⟩ else
      if h₂ : c - 256 - 256 < 256 then f 2 ⟨c - 256 - 256, h₂⟩ else f 3 ⟨c - 256 - 256 - 256, by omega⟩) = f h x := by
  subst hc
  have hx := x.isLt
  fin_cases h
  · rw [dif_pos (by simp)]; exact congrArg _ (Fin.ext (by simp))
  · rw [dif_neg (by simp), dif_pos (by simp)]; exact congrArg _ (Fin.ext (by simp))
  · rw [dif_neg (by simp; omega), dif_neg (by simp; omega), dif_pos (by simp; omega)]; exact congrArg _ (Fin.ext (by simp; omega))
  · rw [dif_neg (by simp; omega), dif_neg (by simp; omega), dif_neg (by simp; omega)]; exact congrArg _ (Fin.ext (by simp; omega))

theorem dyH_read (u : Fin 8) (h : Fin 4) (x : Fin 256) (d : Fin 128) : X.dyH u h (ix2 x d) = X.dy (ix2 ⟨256 * u.val + x.val, by omega⟩ ⟨128 * h.val + d.val, by omega⟩) := by
  pointwise [Ins.dyH]
theorem dd_read (u : Fin 8) (h : Fin 4) (x : Fin 256) (d : Fin 128) : X.dd u (ix2 (col h x) d) = X.dyH u h (ix2 x d) := by
  pointwise [Ins.dd]
  exact four (fun h x => X.dyH u h (ix2 x d)) h x _ rfl
theorem rowH_read (u : Fin 8) (R : Vec Ideal S4x1x2048 .f32) (h : Fin 4) (x : Fin 256) : Ins.rowH u R h (ix2 0 x) = R (ix3 h 0 ⟨256 * u.val + x.val, by omega⟩) := by
  pointwise [Ins.rowH]
theorem rows_read (u : Fin 8) (R : Vec Ideal S4x1x2048 .f32) (h : Fin 4) (r : Fin 512) (x : Fin 256) : Ins.rows u R (ix2 r (col h x)) = Ins.rowH u R h (ix2 0 x) := by
  pointwise [Ins.rows]
  exact four (fun h x => Ins.rowH u R h (ix2 0 x)) h x _ rfl
/-- Three dimensions read as two. -/
theorem flat_read (V : FVec Ideal S4x256x160 .bf16) (c : Fin 1024) (d : Fin 160) :
    shapeCast S1024x160 V shapeCasts_S4x256x160_S1024x160 (ix2 c d) = V (ix3 ⟨c.val / 256, by omega⟩ ⟨c.val % 256, by omega⟩ d) := by
  pointwise
theorem qq_read (u : Fin 8) (h : Fin 4) (x : Fin 256) (d : Fin 160) : X.qq u (ix2 (col h x) d) = X.q (ix3 h ⟨256 * u.val + x.val, by omega⟩ d) := by
  rw [Ins.qq, flat_read]
  have e1 : (⟨(col h x).val / 256, by omega⟩ : Fin 4) = h := Fin.ext (by simp only [col]; omega)
  have e2 : (⟨(col h x).val % 256, by omega⟩ : Fin 256) = x := Fin.ext (by simp only [col]; omega)
  rw [e1, e2]
  pointwise

theorem sum_col (f : Fin 1024 → EReal) : ∑ c, f c = ∑ h : Fin 4, ∑ x : Fin 256, f (col h x) := by
  rw [← Fintype.sum_prod_type' (fun h x => f (col h x))]
  exact (Fintype.sum_equiv (finProdFinEquiv (m := 4) (n := 256)) (fun y : Fin 4 × Fin 256 => f (col y.1 y.2)) f fun y =>
    congrArg f (Fin.ext (by simp [col, finProdFinEquiv]; omega))).symm

variable {X} {A : Args} {g : Fin 2} {j : Fin 8} {b : Fin 2} (H : Has A g j b X)
include H

theorem kk_at (r : Fin 512) (d : Fin 160) : X.kk (ix2 r d) = (A.k (key j r) d : EReal) := by
  rw [kk_read, H.k]
theorem vv_at (r : Fin 512) (d : Fin 128) : X.vv (ix2 r d) = (A.c (key j r) d : EReal) := by
  rw [vv_read, kk_at H, Args.k, mix_lo]
theorem kkt_at (r : Fin 512) (d : Fin 160) : X.kkt (ix2 d r) = (A.k (key j r) d : EReal) := by
  rw [kkt_read, H.kt]
theorem qq_at (u : Fin 8) (h : Fin 4) (x : Fin 256) (d : Fin 160) : X.qq u (ix2 (col h x) d) = ((A.q (qry b u x) g h d * qscale : ℝ) : EReal) := by
  rw [qq_read]
  exact H.q h _ d _ (by simp only [qry]; omega)
theorem dd_at (u : Fin 8) (h : Fin 4) (x : Fin 256) (d : Fin 128) : X.dd u (ix2 (col h x) d) = (A.ct (qry b u x) g h d : EReal) := by
  rw [dd_read, dyH_read]
  exact H.dy h _ d _ _ (by simp only [qry]; omega) rfl
theorem lse_at (u : Fin 8) (h : Fin 4) (r : Fin 512) (x : Fin 256) : Ins.rows u X.lse (ix2 r (col h x)) =
    (((A.top g h (qry b u x) + Real.log (A.Z g h (qry b u x))) * (1 / Real.log 2) : ℝ) : EReal) := by
  rw [rows_read, rowH_read]
  exact H.lse h _ _ (by simp only [qry]; omega)
theorem dl_at (u : Fin 8) (h : Fin 4) (r : Fin 512) (x : Fin 256) : Ins.rows u X.dl (ix2 r (col h x)) = (A.delta g h (qry b u x) : EReal) := by
  rw [rows_read, rowH_read]
  exact H.dl h _ _ (by simp only [qry]; omega)

/-- The scores in base-2 units. -/
theorem st_at (u : Fin 8) (r : Fin 512) (h : Fin 4) (x : Fin 256) : X.st u (ix2 r (col h x)) = ((A.score g h (qry b u x) (key j r) * (1 / Real.log 2) : ℝ) : EReal) := by
  have hr : X.st u (ix2 r (col h x)) = ∑ d : Fin 160, X.kk (ix2 r d) * X.qq u (ix2 (col h x) d) := by
    pointwise [Ins.st]
  rw [hr, A.score_eq, mul_assoc, Finset.sum_mul, ← coe_sum]
  refine Finset.sum_congr rfl fun d _ => ?_
  rw [kk_at H, qq_at H, ← EReal.coe_mul, mul_assoc]
  rfl

/-- The probabilities. -/
theorem p_at (u : Fin 8) (r : Fin 512) (h : Fin 4) (x : Fin 256) : X.p u (ix2 r (col h x)) = (A.pr g h (qry b u x) (key j r) : EReal) := by
  have hr : X.p u (ix2 r (col h x)) = Ideal.exp2 (X.st u (ix2 r (col h x)) - Ins.rows u X.lse (ix2 r (col h x))) := by
    pointwise [Ins.p]
    rfl
  rw [hr, st_at H, lse_at H, ← EReal.coe_sub, Ideal.exp2_coe]
  unfold Args.pr Args.e
  congr 1
  show (2 : ℝ) ^ (_ : ℝ) = _
  rw [Real.rpow_def_of_pos (by norm_num), ← sub_mul, mul_comm, mul_assoc, one_div_mul_cancel log2_ne, mul_one, sub_add_eq_sub_sub, Real.exp_sub,
    Real.exp_log (A.Z_pos g h _), div_eq_mul_one_div]

/-- The gradient by the scores, times the scale. -/
theorem ds_at (u : Fin 8) (r : Fin 512) (h : Fin 4) (x : Fin 256) : X.ds u (ix2 r (col h x)) = ((A.dS g h (qry b u x) (key j r) * σ : ℝ) : EReal) := by
  have hr : X.ds u (ix2 r (col h x)) = X.p u (ix2 r (col h x)) * ((∑ d : Fin 128, X.vv (ix2 r d) * X.dd u (ix2 (col h x) d)) - Ins.rows u X.dl (ix2 r (col h x))) * (σ : EReal) := by
    rw [← c_σ]
    pointwise [Ins.ds, Ins.dp]
  have hs : (∑ d : Fin 128, X.vv (ix2 r d) * X.dd u (ix2 (col h x) d)) = (A.dP g h (qry b u x) (key j r) : EReal) := by
    unfold Args.dP
    rw [← coe_sum]
    exact Finset.sum_congr rfl fun d _ => by rw [vv_at H, dd_at H, ← EReal.coe_mul, mul_comm]
  rw [hr, hs, p_at H, dl_at H, ← EReal.coe_sub, ← EReal.coe_mul, ← EReal.coe_mul, A.dS_eq]

/-- What a block adds to the gradients of its values. -/
theorem dvC_at (u : Fin 8) (r : Fin 512) (d : Fin 128) : X.dvC u (ix2 r d) =
    ((∑ h : Fin 4, ∑ x : Fin 256, A.ct (qry b u x) g h d * A.pr g h (qry b u x) (key j r) : ℝ) : EReal) := by
  have hr : X.dvC u (ix2 r d) = ∑ c : Fin 1024, X.p u (ix2 r c) * X.dd u (ix2 c d) := by
    pointwise [Ins.dvC]
  rw [hr, sum_col, ← coe_sum]
  refine Finset.sum_congr rfl fun h _ => ?_
  rw [← coe_sum]
  exact Finset.sum_congr rfl fun x _ => by rw [p_at H, dd_at H, ← EReal.coe_mul, mul_comm]

/-- What a block adds to the gradients of its keys, with the queries' factor. -/
theorem dkC_at (u : Fin 8) (r : Fin 512) (d : Fin 160) : X.dkC u (ix2 r d) =
    ((∑ h : Fin 4, ∑ x : Fin 256, A.dS g h (qry b u x) (key j r) * σ * A.q (qry b u x) g h d * qscale : ℝ) : EReal) := by
  have hr : X.dkC u (ix2 r d) = ∑ c : Fin 1024, X.ds u (ix2 r c) * X.qq u (ix2 c d) := by
    pointwise [Ins.dkC]
  rw [hr, sum_col, ← coe_sum]
  refine Finset.sum_congr rfl fun h _ => ?_
  rw [← coe_sum]
  exact Finset.sum_congr rfl fun x _ => by rw [ds_at H, qq_at H, ← EReal.coe_mul, mul_assoc, mul_assoc, mul_assoc]

/-- What the point adds to the gradient of its queries. -/
theorem dqt_at (u : Fin 8) (h : Fin 4) (x : Fin 256) (d : Fin 160) : X.dqt u (ix2 d (col h x)) =
    ((∑ r : Fin 512, A.dS g h (qry b u x) (key j r) * σ * A.k (key j r) d : ℝ) : EReal) := by
  have hr : X.dqt u (ix2 d (col h x)) = ∑ r : Fin 512, X.kkt (ix2 d r) * X.ds u (ix2 r (col h x)) := by
    pointwise [Ins.dqt]
  rw [hr, ← coe_sum]
  exact Finset.sum_congr rfl fun r _ => by rw [kkt_at H, ds_at H, ← EReal.coe_mul, mul_comm]

end Cert.Kernel2Ideal.Hand

end
-- ==== Proof.LatentSums.lean ====
module

public import proofs.«01_k».proof.Proof.LatentValue

/-! What the points of a group leave: sums over blocks of keys and of queries, in real numbers. -/

@[expose] public section

set_option maxRecDepth 16384

noncomputable section

namespace Cert.Latent

/-- A sum over blocks. -/
theorem sum_blocks {a b N : ℕ} (hN : a * b = N) (f : Fin N → ℝ) :
    ∑ n, f n = ∑ i : Fin a, ∑ j : Fin b, f ⟨b * i.val + j.val, by
      subst hN
      calc b * i.val + j.val < b * i.val + b := by omega
        _ = b * (i.val + 1) := by ring
        _ ≤ b * a := Nat.mul_le_mul_left _ i.isLt
        _ = a * b := Nat.mul_comm _ _⟩ := by
  subst hN
  rw [← Fintype.sum_prod_type' (fun (i : Fin a) (j : Fin b) => f ⟨b * i.val + j.val, _⟩)]
  exact (Fintype.sum_equiv (finProdFinEquiv (m := a) (n := b)) _ f fun y => congrArg f (Fin.ext (by simp [finProdFinEquiv]; omega))).symm

theorem sum_keys (f : Fin 4096 → ℝ) : ∑ n, f n = ∑ j : Fin 8, ∑ r : Fin 512, f (key j r) := sum_blocks (a := 8) (b := 512) rfl f

theorem sum_queries (f : Fin 4096 → ℝ) : ∑ s, f s = ∑ b : Fin 2, ∑ u : Fin 8, ∑ x : Fin 256, f (qry b u x) := by
  rw [sum_blocks (a := 2) (b := 2048) rfl f]
  refine Finset.sum_congr rfl fun b _ => ?_
  rw [sum_blocks (a := 8) (b := 256) rfl]
  exact Finset.sum_congr rfl fun u _ => Finset.sum_congr rfl fun x _ => congrArg f (Fin.ext (by simp only [qry]; omega))

/-- What the `b`-th queries give to a key. -/
def give (b : Fin 2) (f : Fin 4 → Fin 4096 → ℝ) : ℝ := ∑ u : Fin 8, ∑ h : Fin 4, ∑ x : Fin 256, f h (qry b u x)

theorem sum_give (f : Fin 4 → Fin 4096 → ℝ) : give 0 f + give 1 f = ∑ h, ∑ s, f h s := by
  have e : ∀ b, give b f = ∑ h : Fin 4, ∑ u : Fin 8, ∑ x : Fin 256, f h (qry b u x) := fun b => Finset.sum_comm
  rw [e, e, ← Finset.sum_add_distrib]
  exact Finset.sum_congr rfl fun h _ => by rw [sum_queries, Fin.sum_univ_two]

/-- The part of the gradient of a query that comes from the `j`-th keys. -/
def part (A : Args) (g : Fin 2) (h : Fin 4) (s : Fin 4096) (d : Fin 160) (j : Fin 8) : ℝ := ∑ r : Fin 512, A.dS g h s (key j r) * σ * A.k (key j r) d

theorem sum_part (A : Args) (g : Fin 2) (h : Fin 4) (s : Fin 4096) (d : Fin 160) : ∑ j, part A g h s d j = A.dQ g h s d := (sum_keys fun n => A.dS g h s n * σ * A.k n d).symm

/-- The factor that the second block of queries takes out of the keys' gradients. -/
theorem take_out (x : ℝ) : x * qscale * ((3424635 / 33554432)⁻¹ * Real.log 2) = x := by
  have h1 := σ_ne
  have h2 := log2_ne
  unfold qscale
  rw [show (3424635 / 33554432 : ℝ) = σ from rfl]
  field_simp

end Cert.Latent

namespace Cert.Kernel2Ideal.Hand

open Idealize.ShloMosaic Idealize.ShloMosaic.TcCoe
open Cert.Kernel2Ideal.Gen Cert.Latent

/-- The first `k` of eight terms added at an index. -/
theorem adds_upto {s : Shape} (Y : FVec Ideal s .f32) (C : Fin 8 → FVec Ideal s .f32) (i : s.Idx) (y : ℝ) (f : Fin 8 → ℝ) (hY : Y i = (y : EReal)) (hC : ∀ u, C u i = (f u : EReal)) :
    ∀ (k : ℕ) (hk : k ≤ 8), adds Y C k hk i = ((y + ∑ u : Fin 8, if u.val < k then f u else 0 : ℝ) : EReal)
  | 0, _ => by
      unfold adds
      rw [hY]
      simp
  | k + 1, hk => by
      unfold adds
      have ih := adds_upto Y C i y f hY hC k (Nat.le_of_succ_le hk)
      have hs : (∑ u : Fin 8, if u.val < k + 1 then f u else 0 : ℝ) = (∑ u : Fin 8, if u.val < k then f u else 0) + f ⟨k, hk⟩ := by
        have h1 : f ⟨k, hk⟩ = ∑ u : Fin 8, if u.val = k then f u else 0 := by
          rw [Finset.sum_eq_single ⟨k, hk⟩]
          · rw [if_pos rfl]
          · intro u _ hu
            exact if_neg fun e => hu (Fin.ext e)
          · intro hh; exact absurd (Finset.mem_univ _) hh
        rw [h1, ← Finset.sum_add_distrib]
        refine Finset.sum_congr rfl fun u _ => ?_
        rcases lt_trichotomy u.val k with h | h | h
        · rw [if_pos (by omega), if_pos h, if_neg (by omega), add_zero]
        · rw [if_pos (by omega), if_neg (by omega), if_pos h, zero_add]
        · rw [if_neg (by omega), if_neg (by omega), if_neg (by omega), add_zero]
      show adds Y C k _ i + C ⟨k, hk⟩ i = _
      rw [ih, hC, ← EReal.coe_add, hs, add_assoc]

theorem adds_at {s : Shape} (Y : FVec Ideal s .f32) (C : Fin 8 → FVec Ideal s .f32) (i : s.Idx) (y : ℝ) (f : Fin 8 → ℝ) (hY : Y i = (y : EReal)) (hC : ∀ u, C u i = (f u : EReal)) :
    adds Y C 8 (le_refl 8) i = ((y + ∑ u : Fin 8, f u : ℝ) : EReal) := by
  rw [adds_upto Y C i y f hY hC]
  exact congrArg (fun z : ℝ => ((y + z : ℝ) : EReal)) (Finset.sum_congr rfl fun u _ => if_pos u.isLt)

theorem upV_read (V : FVec Ideal S512x128 .f32) (z : Fin 1) (a : Fin 512) (d : Fin 128) : shapeCast S1x512x128 V shapeCasts_S512x128_S1x512x128 (ix3 z a d) = V (ix2 a d) := by
  pointwise
theorem upK_read (V : FVec Ideal S512x160 .f32) (z : Fin 1) (a : Fin 512) (d : Fin 160) : shapeCast S1x512x160 V shapeCasts_S512x160_S1x512x160 (ix3 z a d) = V (ix2 a d) := by
  pointwise
theorem downV_read (Y : Vec Ideal S1x512x128 .f32) (a : Fin 512) (d : Fin 128) :
    shapeCast S512x128 (View.ld (Val := Elt Ideal) Y (Rect.unit ![0, 0, 0] S1x512x128.size inb_S1x512x128_S1x512x128_0_0_0)) shapeCasts_S1x512x128_S512x128 (ix2 a d) = Y (ix3 0 a d) := by
  pointwise
theorem downK_read (Y : Vec Ideal S1x512x160 .f32) (a : Fin 512) (d : Fin 160) :
    shapeCast S512x160 (View.ld (Val := Elt Ideal) Y (Rect.unit ![0, 0, 0] S1x512x160.size inb_S1x512x160_S1x512x160_0_0_0)) shapeCasts_S1x512x160_S512x160 (ix2 a d) = Y (ix3 0 a d) := by
  pointwise
theorem zeroS_read (y : Fin 16) (w : Fin 640) (x : Fin 256) : zeroS (F := Ideal) (ix3 y w x) = ((0 : ℝ) : EReal) := by
  rw [EReal.coe_zero]
  pointwise [zeroS, k0_pay14]
theorem zeroK_read (z : Fin 1) (r : Fin 512) (d : Fin 160) : zeroK (F := Ideal) (ix3 z r d) = ((0 : ℝ) : EReal) := by
  rw [EReal.coe_zero]
  pointwise [zeroK, k0_pay15]
theorem zeroV_read (z : Fin 1) (r : Fin 512) (d : Fin 128) : zeroV (F := Ideal) (ix3 z r d) = ((0 : ℝ) : EReal) := by
  rw [EReal.coe_zero]
  pointwise [zeroV, k0_pay16]

theorem k0_pay150_read (a : BitVec 32) (V : FVec Ideal S512x160 .f32) (r : Fin 512) (d : Fin 160) (p : Prop) [Decidable p] (ha : Scalar.cmpi .eq a 1#32 = if p then 1#1 else 0#1) :
    k0_pay150 a V (ix2 r d) = if p then V (ix2 r d) * (((3424635 / 33554432)⁻¹ * Real.log 2 : ℝ) : EReal) else V (ix2 r d) := by
  show Scalar.select (Scalar.cmpi .eq a 1#32) (mulf V (broadcast S512x160 (Named.named (F := Ideal) κ "inv_scale_b_log2e" (φ := .f32) 0x40D95360#32))) V (ix2 r d) = _
  rw [ha]
  by_cases hp : p
  · rw [if_pos hp, if_pos hp]
    rfl
  · rw [if_neg hp, if_neg hp]
    rfl

theorem cmpi_half : ∀ b : Fin 2, Scalar.cmpi .eq (BitVec.ofNat 32 b.val) 1#32 = if b.val = 1 then 1#1 else 0#1 := by decide

section Point

variable {X : Ins Ideal} {A : Args} {g : Fin 2} {j : Fin 8} {b : Fin 2} (H : Has A g j b X)
include H

/-- The values' gradients after a point. -/
theorem dvOut_at (Y : Vec Ideal S1x512x128 .f32) (z : Fin 1) (r : Fin 512) (d : Fin 128) (y : ℝ) (hY : Y (ix3 0 r d) = (y : EReal)) :
    X.dvOut Y (ix3 z r d) = ((y + give b fun h s => A.ct s g h d * A.pr g h s (key j r) : ℝ) : EReal) := by
  unfold Ins.dvOut
  rw [upV_read]
  exact adds_at _ _ _ y (fun u => ∑ h : Fin 4, ∑ x : Fin 256, A.ct (qry b u x) g h d * A.pr g h (qry b u x) (key j r)) ((downV_read Y r d).trans hY) (fun u => dvC_at H u r d)

/-- The keys' gradients after a point. -/
theorem dkOut_at (i : grid0.Coords) (hi : (i 2).val = b.val) (Y : Vec Ideal S1x512x160 .f32) (z : Fin 1) (r : Fin 512) (d : Fin 160) (y : ℝ) (hY : Y (ix3 0 r d) = (y : EReal)) :
    X.dkOut i Y (ix3 z r d) = (((y + give b fun h s => A.dS g h s (key j r) * σ * A.q s g h d * qscale) * (if b.val = 1 then (3424635 / 33554432)⁻¹ * Real.log 2 else 1) : ℝ) : EReal) := by
  unfold Ins.dkOut
  rw [upK_read, k0_pay150_read _ _ r d (b.val = 1) (by rw [hi]; exact cmpi_half b)]
  rw [adds_at _ X.dkC (ix2 r d) y (fun u => ∑ h : Fin 4, ∑ x : Fin 256, A.dS g h (qry b u x) (key j r) * σ * A.q (qry b u x) g h d * qscale) ((downK_read Y r d).trans hY) (fun u => dkC_at H u r d)]
  split
  · rw [← EReal.coe_mul]; rfl
  · rw [mul_one]; rfl

end Point

/-! ### The scratch -/

/-- The place of feature `d` of head `h` of the queries of block `u` of half `b`. -/
def slot (b : Fin 2) (u : Fin 8) (h : Fin 4) (d : Fin 160) (x : Fin 256) : S16x640x256.Idx :=
  ix3 (⟨8 * b.val + u.val, by omega⟩ : Fin 16) (⟨160 * h.val + d.val, by omega⟩ : Fin 640) x

theorem upS_read (V : FVec Ideal S160x256 .f32) (z : Fin 1) (d : Fin 160) (x : Fin 256) : shapeCast S1x160x256 V shapeCasts_S160x256_S1x160x256 (ix3 z d x) = V (ix2 d x) := by
  pointwise
theorem downS_read (W : FVec Ideal S1x160x256 .f32) (d : Fin 160) (x : Fin 256) : shapeCast S160x256 W shapeCasts_S1x160x256_S160x256 (ix2 d x) = W (ix3 0 d x) := by
  pointwise

theorem scrPay_read (b : Fin 2) (D : Fin 8 → FVec Ideal S160x1024 .f32) (S : Vec Ideal S16x640x256 .f32) (u : Fin 8) (h : Fin 4) (z : Fin 1) (d : Fin 160) (x : Fin 256) :
    scrPay b D S u h (ix3 z d x) = S (slot b u h d x) + D u (ix2 d (col h x)) := by
  unfold scrPay
  rw [upS_read]
  refine congrArg₂ (fun p q : EReal => p + q) ((downS_read _ d x).trans ?_) ?_
  · refine congrArg S (funext fun a => ?_)
    fin_cases a
    · exact Fin.ext (by show 8 * b.val + u.val + 1 * 0 = 8 * b.val + u.val; omega)
    · exact Fin.ext (by show 160 * h.val + 1 * d.val = 160 * h.val + d.val; omega)
    · exact Fin.ext (by show 0 + 1 * x.val = x.val; omega)
  · refine congrArg (D u) (funext fun a => ?_)
    fin_cases a
    · exact Fin.ext (by show 0 + d.val = d.val; omega)
    · exact Fin.ext (by show 256 * h.val + x.val = 256 * h.val + x.val; rfl)

theorem scrOut_read (b : Fin 2) (D : Fin 8 → FVec Ideal S160x1024 .f32) (S : Vec Ideal S16x640x256 .f32) (b' : Fin 2) (u : Fin 8) (h : Fin 4) (d : Fin 160) (x : Fin 256) :
    scrOut b D S (slot b' u h d x) = if b' = b then S (slot b' u h d x) + D u (ix2 d (col h x)) else S (slot b' u h d x) := by
  unfold scrOut
  by_cases hb : b' = b
  · subst hb
    have h0 : 8 * b'.val ≤ ((slot b' u h d x) 0).val ∧ ((slot b' u h d x) 0).val < 8 * b'.val + 8 := by
      show 8 * b'.val ≤ 8 * b'.val + u.val ∧ 8 * b'.val + u.val < 8 * b'.val + 8
      omega
    rw [dif_pos h0, if_pos rfl]
    have eu : (⟨((slot b' u h d x) 0).val - 8 * b'.val, by omega⟩ : Fin 8) = u := Fin.ext (by show 8 * b'.val + u.val - 8 * b'.val = u.val; omega)
    have eh : (⟨((slot b' u h d x) 1).val / 160, by show (160 * h.val + d.val) / 160 < 4; omega⟩ : Fin 4) = h := Fin.ext (by show (160 * h.val + d.val) / 160 = h.val; omega)
    have el : scrLoc (slot b' u h d x) = (ix3 (0 : Fin 1) d x : S1x160x256.Idx) := by
      funext a
      fin_cases a
      · rfl
      · exact Fin.ext (by show (160 * h.val + d.val) % 160 = d.val; omega)
      · rfl
    rw [eu, eh, el, scrPay_read]
  · have h0 : ¬(8 * b.val ≤ ((slot b' u h d x) 0).val ∧ ((slot b' u h d x) 0).val < 8 * b.val + 8) := by
      show ¬(8 * b.val ≤ 8 * b'.val + u.val ∧ 8 * b'.val + u.val < 8 * b.val + 8)
      have : b'.val ≠ b.val := fun e => hb (Fin.ext e)
      omega
    rw [dif_neg h0, if_neg hb]

theorem dqOut_read (S : Vec Ideal S16x640x256 .f32) (b : Fin 2) (u : Fin 8) (x : Fin 256) (h : Fin 4) (d : Fin 160) (c : Fin 640)
    (hc : c.val = if d.val < 128 then 128 * h.val + d.val else 512 + (32 * h.val + (d.val - 128))) : dqOut S (ix2 (qry b u x) c) = S (slot b u h d x) := by
  unfold dqOut
  refine congrArg S (funext fun a => ?_)
  fin_cases a
  · exact Fin.ext (by show (2048 * b.val + 256 * u.val + x.val) / 256 = 8 * b.val + u.val; omega)
  · refine Fin.ext ?_
    show (if c.val < 512 then 160 * (c.val / 128) + c.val % 128 else 160 * ((c.val - 512) / 32) + (128 + (c.val - 512) % 32)) = 160 * h.val + d.val
    split at hc
    · rw [if_pos (by omega)]; omega
    · rw [if_neg (by omega)]; omega
  · exact Fin.ext (by show (2048 * b.val + 256 * u.val + x.val) % 256 = x.val; omega)

end Cert.Kernel2Ideal.Hand

end
-- ==== Proof.LatentRef.lean ====
module

public import proofs.«01_k».proof.Proof.Gen.Reference2Ideal.Run
public import proofs.«01_k».proof.Proof.LatentSpec

/-! What the reference of the latent attention returns, entry by entry: the gradients of `LatentSpec`. -/

@[expose] public section

set_option maxRecDepth 16384

noncomputable section

namespace Cert.Latent

open Idealize.ShloMosaic Idealize.ShloMosaic.TcCoe
open Cert.Attn (coe_sum div_real c_bot)

/-- The arrays hold the numbers `A`. -/
structure Holds (A : Args) (ql : FVec Ideal Cert.Reference2Ideal.S4096x8x128 .f32) (qr : FVec Ideal Cert.Reference2Ideal.S4096x8x32 .f32)
    (kc : FVec Ideal Cert.Reference2Ideal.S4096x128 .f32) (kr : FVec Ideal Cert.Reference2Ideal.S4096x32 .f32) (ct : FVec Ideal Cert.Reference2Ideal.S4096x1024 .f32) : Prop where
  ql : ∀ (s : Fin 4096) (g : Fin 2) (h : Fin 4) (d : Fin 128) (x : Fin 8), x.val = g.val * 4 + h.val → ql (ix3 s x d) = (A.ql s g h d : EReal)
  qr : ∀ (s : Fin 4096) (g : Fin 2) (h : Fin 4) (d : Fin 32) (x : Fin 8), x.val = g.val * 4 + h.val → qr (ix3 s x d) = (A.qr s g h d : EReal)
  c : ∀ (n : Fin 4096) (d : Fin 128), kc (ix2 n d) = (A.c n d : EReal)
  kr : ∀ (n : Fin 4096) (d : Fin 32), kr (ix2 n d) = (A.kr n d : EReal)
  ct : ∀ (s : Fin 4096) (g : Fin 2) (h : Fin 4) (d : Fin 128) (x : Fin 1024), x.val = g.val * 512 + h.val * 128 + d.val → ct (ix2 s x) = (A.ct s g h d : EReal)

namespace Ref

open Cert.Reference2Ideal Cert.Reference2Ideal.Gen Cert.Reference2Ideal.Value

/-! ### The arrays -/

/-- The queries by group and head. -/
def qlT (ql : FVec Ideal S4096x8x128 .f32) : FVec Ideal S4096x2x4x128 .f32 := shapeCast S4096x2x4x128 ql shapeCasts_S4096x8x128_S4096x2x4x128
@[inherit_doc qlT]
def qrT (qr : FVec Ideal S4096x8x32 .f32) : FVec Ideal S4096x2x4x32 .f32 := shapeCast S4096x2x4x32 qr shapeCasts_S4096x8x32_S4096x2x4x32

/-- Each group's copy of the keys. -/
def cT (kc : FVec Ideal S4096x128 .f32) : FVec Ideal S2x4096x128 .f32 :=
  broadcastInDim S2x4096x128 ![0, 1, 2] bcast_S1x4096x128_S2x4096x128_0_1_2 (broadcastInDim S1x4096x128 ![1, 2] bcast_S4096x128_S1x4096x128_1_2 kc)
@[inherit_doc cT]
def krT (kr : FVec Ideal S4096x32 .f32) : FVec Ideal S2x4096x32 .f32 :=
  broadcastInDim S2x4096x32 ![0, 1, 2] bcast_S1x4096x32_S2x4096x32_0_1_2 (broadcastInDim S1x4096x32 ![1, 2] bcast_S4096x32_S1x4096x32_1_2 kr)

/-- The scores. -/
def scoreOf (a : FVec Ideal S4096x2x4x128 .f32) (b : FVec Ideal S4096x2x4x32 .f32) (kc : FVec Ideal S2x4096x128 .f32) (kr : FVec Ideal S2x4096x32 .f32) : FVec Ideal S2x4x4096x4096 .f32 :=
  mulf (addf (transpose S2x4x4096x4096 [0, 3, 2, 1] (Host.dotGeneral dot_S2x4096x128_S4096x2x4x128_S2x4096x4096x4_2_3_1_02_0_1 none kc a) transposes_S2x4096x4096x4_S2x4x4096x4096_0_3_2_1)
    (transpose S2x4x4096x4096 [0, 3, 2, 1] (Host.dotGeneral dot_S2x4096x32_S4096x2x4x32_S2x4096x4096x4_2_3_1_02_0_1 none kr b) transposes_S2x4096x4096x4_S2x4x4096x4096_0_3_2_1))
    (broadcastInDim S2x4x4096x4096 ![] bcast_S_S2x4x4096x4096 (constant S_ .f32 0x3DD105EC#32))

/-- The rows' greatest scores. -/
def rmaxOf (sc : FVec Ideal S2x4x4096x4096 .f32) : FVec Ideal S2x4x4096 .f32 :=
  Host.reduce FloatOps.maximumf sc (constant S_ .f32 0xFF800000#32) reducesTo_S2x4x4096x4096_S2x4x4096_d3 h_S_
@[inherit_doc rmaxOf]
def topOf (r : FVec Ideal S2x4x4096 .f32) : FVec Ideal S2x4x4096 .f32 :=
  maximumf (broadcastInDim S2x4x4096 ![] bcast_S_S2x4x4096 (constant S_ .f32 0xFF800000#32)) r

/-- The exponentials. -/
def eOf (sc : FVec Ideal S2x4x4096x4096 .f32) (t : FVec Ideal S2x4x4096 .f32) : FVec Ideal S2x4x4096x4096 .f32 :=
  Host.exp (subf sc (broadcastInDim S2x4x4096x4096 ![0, 1, 2, 3] bcast_S2x4x4096x1_S2x4x4096x4096_0_1_2_3 (broadcastInDim S2x4x4096x1 ![0, 1, 2] bcast_S2x4x4096_S2x4x4096x1_0_1_2 t)))

/-- The denominators. -/
def ZOf (e : FVec Ideal S2x4x4096x4096 .f32) : FVec Ideal S2x4x4096x1 .f32 :=
  broadcastInDim S2x4x4096x1 ![0, 1, 2] bcast_S2x4x4096_S2x4x4096x1_0_1_2 (Host.reduceAdd e (constant S_ .f32 0x00000000#32) reducesTo_S2x4x4096x4096_S2x4x4096_d3 h_S_)

/-- The probabilities. -/
def prOf (e : FVec Ideal S2x4x4096x4096 .f32) (z : FVec Ideal S2x4x4096x1 .f32) : FVec Ideal S2x4x4096x4096 .f32 :=
  Host.divf e (broadcastInDim S2x4x4096x4096 ![0, 1, 2, 3] bcast_S2x4x4096x1_S2x4x4096x4096_0_1_2_3 z)

/-- The cotangent by group, feature and head. -/
def ctT (ct : FVec Ideal S4096x1024 .f32) : FVec Ideal S2x128x4x4096 .f32 :=
  transpose S2x128x4x4096 [1, 3, 2, 0] (shapeCast S4096x2x4x128 ct shapeCasts_S4096x1024_S4096x2x4x128) transposes_S4096x2x4x128_S2x128x4x4096_1_3_2_0

/-- The gradient by the probabilities. -/
def dPOf (c : FVec Ideal S2x128x4x4096 .f32) (v : FVec Ideal S2x4096x128 .f32) : FVec Ideal S2x4x4096x4096 .f32 :=
  Host.dotGeneral dot_S2x128x4x4096_S2x4096x128_S2x4x4096x4096_1_2_23_1_0_0 none c v

/-- The gradient by the denominators. -/
def ccOf (dp e : FVec Ideal S2x4x4096x4096 .f32) (z : FVec Ideal S2x4x4096x1 .f32) : FVec Ideal S2x4x4096x1 .f32 :=
  Host.negf (shapeCast S2x4x4096x1 (Host.reduceAdd (mulf (mulf dp (broadcastInDim S2x4x4096x4096 ![0, 1, 2, 3] bcast_S2x4x4096x1_S2x4x4096x4096_0_1_2_3 (Host.divf (broadcastInDim S2x4x4096x1 ![] bcast_S_S2x4x4096x1 (constant S_ .f32 0x3F800000#32)) (mulf z z)))) e) (constant S_ .f32 0x00000000#32) reducesTo_S2x4x4096x4096_S2x4x4096_d3 h_S_) shapeCasts_S2x4x4096_S2x4x4096x1)

/-- The gradient by the scores, times the scale. -/
def dsOf (dp e : FVec Ideal S2x4x4096x4096 .f32) (z cc : FVec Ideal S2x4x4096x1 .f32) : FVec Ideal S2x4x4096x4096 .f32 :=
  mulf (mulf (addf (Host.divf dp (broadcastInDim S2x4x4096x4096 ![0, 1, 2, 3] bcast_S2x4x4096x1_S2x4x4096x4096_0_1_2_3 z)) (broadcastInDim S2x4x4096x4096 ![0, 1, 2] bcast_S2x4x4096_S2x4x4096x4096_0_1_2 (Host.reduceAdd cc (constant S_ .f32 0x00000000#32) reducesTo_S2x4x4096x1_S2x4x4096_d3 h_S_))) e)
    (broadcastInDim S2x4x4096x4096 ![] bcast_S_S2x4x4096x4096 (constant S_ .f32 0x3DD105EC#32))

/-- The same, keys before queries. -/
def dsTOf (ds : FVec Ideal S2x4x4096x4096 .f32) : FVec Ideal S2x4096x4096x4 .f32 :=
  transpose S2x4096x4096x4 [0, 3, 2, 1] ds transposes_S2x4x4096x4096_S2x4096x4096x4_0_3_2_1

/-- What the reference returns. -/
def dqR (d : FVec Ideal S2x4096x4096x4 .f32) (kc : FVec Ideal S2x4096x128 .f32) (kr : FVec Ideal S2x4096x32 .f32) : FVec Ideal S4096x1280 .f32 :=
  shapeCast S4096x1280 (concatenate S4096x2x640 2 [⟨S4096x2x512, shapeCast S4096x2x512 (transpose S4096x2x4x128 [1, 0, 2, 3] (Host.dotGeneral dot_S2x4096x4096x4_S2x4096x128_S2x4096x4x128_1_1_23_2_0_0 none d kc) transposes_S2x4096x4x128_S4096x2x4x128_1_0_2_3) shapeCasts_S4096x2x4x128_S4096x2x512⟩,
    ⟨S4096x2x128, shapeCast S4096x2x128 (transpose S4096x2x4x32 [1, 0, 2, 3] (Host.dotGeneral dot_S2x4096x4096x4_S2x4096x32_S2x4096x4x32_1_1_23_2_0_0 none d kr) transposes_S2x4096x4x32_S4096x2x4x32_1_0_2_3) shapeCasts_S4096x2x4x32_S4096x2x128⟩] concatenates_S4096x2x512_S4096x2x128_S4096x2x640_d2) shapeCasts_S4096x2x640_S4096x1280
@[inherit_doc dqR]
def dkR (d : FVec Ideal S2x4096x4096x4 .f32) (a : FVec Ideal S4096x2x4x128 .f32) (b : FVec Ideal S4096x2x4x32 .f32) : FVec Ideal S2x4096x160 .f32 :=
  concatenate S2x4096x160 2 [⟨S2x4096x128, Host.dotGeneral dot_S2x4096x4096x4_S4096x2x4x128_S2x4096x128_23_02_1_3_0_1 none d a⟩,
    ⟨S2x4096x32, Host.dotGeneral dot_S2x4096x4096x4_S4096x2x4x32_S2x4096x32_23_02_1_3_0_1 none d b⟩] concatenates_S2x4096x128_S2x4096x32_S2x4096x160_d2
@[inherit_doc dqR]
def dvR (c : FVec Ideal S2x128x4x4096 .f32) (p : FVec Ideal S2x4x4096x4096 .f32) : FVec Ideal S2x4096x128 .f32 :=
  transpose S2x4096x128 [0, 2, 1] (Host.dotGeneral dot_S2x128x4x4096_S2x4x4096x4096_S2x128x4096_23_12_1_3_0_0 none c p) transposes_S2x128x4096_S2x4096x128_0_2_1

/-! ### Read at an index -/

theorem qlT_read (ql) (s : Fin 4096) (g : Fin 2) (h : Fin 4) (d : Fin 128) : qlT ql (ix4 s g h d) = ql (ix3 s ⟨g.val * 4 + h.val, by omega⟩ d) := by
  pointwise [qlT]
theorem qrT_read (qr) (s : Fin 4096) (g : Fin 2) (h : Fin 4) (d : Fin 32) : qrT qr (ix4 s g h d) = qr (ix3 s ⟨g.val * 4 + h.val, by omega⟩ d) := by
  pointwise [qrT]
theorem cT_read (kc) (g : Fin 2) (n : Fin 4096) (d : Fin 128) : cT kc (ix3 g n d) = kc (ix2 n d) := by
  pointwise [cT]
theorem krT_read (kr) (g : Fin 2) (n : Fin 4096) (d : Fin 32) : krT kr (ix3 g n d) = kr (ix2 n d) := by
  pointwise [krT]
theorem scoreOf_read (a b kc kr) (g : Fin 2) (h : Fin 4) (s n : Fin 4096) : scoreOf a b kc kr (ix4 g h s n) =
    ((∑ d : Fin 128, kc (ix3 g n d) * a (ix4 s g h d)) + ∑ d : Fin 32, kr (ix3 g n d) * b (ix4 s g h d)) * (σ : EReal) := by
  rw [← c_σ]
  pointwise [scoreOf]
theorem rmaxOf_read (sc) (g : Fin 2) (h : Fin 4) (s : Fin 4096) : rmaxOf sc (ix3 g h s) = (Finset.univ : Finset (Fin 4096)).fold max ⊥ fun n => sc (ix4 g h s n) := by
  pointwise [rmaxOf]
  rw [c_bot]
theorem topOf_read (r) (g : Fin 2) (h : Fin 4) (s : Fin 4096) : topOf r (ix3 g h s) = max (Ideal.ofBits .f32 0xFF800000#32) (r (ix3 g h s)) := by
  pointwise [topOf]
theorem eOf_read (sc t) (g : Fin 2) (h : Fin 4) (s n : Fin 4096) : eOf sc t (ix4 g h s n) = Ideal.exp (sc (ix4 g h s n) - t (ix3 g h s)) := by
  pointwise [eOf]
theorem ZOf_read (e) (g : Fin 2) (h : Fin 4) (s : Fin 4096) (z : Fin 1) : ZOf e (ix4 g h s z) = ∑ n : Fin 4096, e (ix4 g h s n) := by
  pointwise [ZOf]
theorem prOf_read (e z) (g : Fin 2) (h : Fin 4) (s n : Fin 4096) : prOf e z (ix4 g h s n) = Ideal.div (e (ix4 g h s n)) (z (ix4 g h s 0)) := by
  pointwise [prOf]
theorem ctT_read (ct) (g : Fin 2) (d : Fin 128) (h : Fin 4) (s : Fin 4096) : ctT ct (ix4 g d h s) = ct (ix2 s ⟨g.val * 512 + h.val * 128 + d.val, by omega⟩) := by
  pointwise [ctT]
theorem dPOf_read (c v) (g : Fin 2) (h : Fin 4) (s n : Fin 4096) : dPOf c v (ix4 g h s n) = ∑ d : Fin 128, c (ix4 g d h s) * v (ix3 g n d) := by
  pointwise [dPOf]
theorem ccOf_read (dp e z) (g : Fin 2) (h : Fin 4) (s : Fin 4096) (y : Fin 1) : ccOf dp e z (ix4 g h s y) = -∑ n : Fin 4096, dp (ix4 g h s n) * Ideal.div 1 (z (ix4 g h s 0) * z (ix4 g h s 0)) * e (ix4 g h s n) := by
  pointwise [ccOf]
theorem dsOf_read (dp e z cc) (g : Fin 2) (h : Fin 4) (s n : Fin 4096) : dsOf dp e z cc (ix4 g h s n) =
    (Ideal.div (dp (ix4 g h s n)) (z (ix4 g h s 0)) + cc (ix4 g h s 0)) * e (ix4 g h s n) * (σ : EReal) := by
  rw [← c_σ]
  pointwise [dsOf]
  try simp
theorem dsTOf_read (ds) (g : Fin 2) (h : Fin 4) (s n : Fin 4096) : dsTOf ds (ix4 g n s h) = ds (ix4 g h s n) := by
  pointwise [dsTOf]
theorem dqR_read (D kc kr) (s : Fin 4096) (x : Fin 1280) : dqR D kc kr (ix2 s x) =
    if h : x.val % 640 < 512 then ∑ n : Fin 4096, D (ix4 ⟨x.val / 640, by omega⟩ n s ⟨x.val % 640 / 128, by omega⟩) * kc (ix3 ⟨x.val / 640, by omega⟩ n ⟨x.val % 640 % 128, by omega⟩)
    else ∑ n : Fin 4096, D (ix4 ⟨x.val / 640, by omega⟩ n s ⟨(x.val % 640 - 512) / 32, by omega⟩) * kr (ix3 ⟨x.val / 640, by omega⟩ n ⟨(x.val % 640 - 512) % 32, by omega⟩) := by
  pointwise [dqR]
theorem dkR_read (D a b) (g : Fin 2) (n : Fin 4096) (d : Fin 160) : dkR D a b (ix3 g n d) =
    if h : d.val < 128 then ∑ s : Fin 4096, ∑ h' : Fin 4, D (ix4 g n s h') * a (ix4 s g h' ⟨d.val, h⟩)
    else ∑ s : Fin 4096, ∑ h' : Fin 4, D (ix4 g n s h') * b (ix4 s g h' ⟨d.val - 128, by omega⟩) := by
  pointwise [dkR]
theorem dvR_read (c p) (g : Fin 2) (n : Fin 4096) (d : Fin 128) : dvR c p (ix3 g n d) = ∑ h : Fin 4, ∑ s : Fin 4096, c (ix4 g d h s) * p (ix4 g h s n) := by
  pointwise [dvR]

/-! ### On the arguments -/

variable (ql : FVec Ideal S4096x8x128 .f32) (qr : FVec Ideal S4096x8x32 .f32) (kc : FVec Ideal S4096x128 .f32) (kr : FVec Ideal S4096x32 .f32) (ct : FVec Ideal S4096x1024 .f32)

def scoreT : FVec Ideal S2x4x4096x4096 .f32 := scoreOf (qlT ql) (qrT qr) (cT kc) (krT kr)
def eT : FVec Ideal S2x4x4096x4096 .f32 := eOf (scoreT ql qr kc kr) (topOf (rmaxOf (scoreT ql qr kc kr)))
def ZT : FVec Ideal S2x4x4096x1 .f32 := ZOf (eT ql qr kc kr)
def prT : FVec Ideal S2x4x4096x4096 .f32 := prOf (eT ql qr kc kr) (ZT ql qr kc kr)
def dPT : FVec Ideal S2x4x4096x4096 .f32 := dPOf (ctT ct) (cT kc)
def ccT : FVec Ideal S2x4x4096x1 .f32 := ccOf (dPT kc ct) (eT ql qr kc kr) (ZT ql qr kc kr)
/-- The gradient by the scores times the scale. -/
def gradT : FVec Ideal S2x4096x4096x4 .f32 := dsTOf (dsOf (dPT kc ct) (eT ql qr kc kr) (ZT ql qr kc kr) (ccT ql qr kc kr ct))

variable {ql qr kc kr ct} {A : Args} (H : Holds A ql qr kc kr ct)
include H

theorem scoreT_at (g : Fin 2) (h : Fin 4) (s n : Fin 4096) : scoreT ql qr kc kr (ix4 g h s n) = (A.score g h s n : EReal) := by
  unfold scoreT Args.score
  rw [scoreOf_read, EReal.coe_mul, EReal.coe_add, ← coe_sum, ← coe_sum]
  congr 2
  · exact Finset.sum_congr rfl fun d _ => by rw [cT_read, qlT_read, H.c, H.ql s g h d _ rfl, EReal.coe_mul]
  · exact Finset.sum_congr rfl fun d _ => by rw [krT_read, qrT_read, H.kr, H.qr s g h d _ rfl, EReal.coe_mul]

theorem topT_at (g : Fin 2) (h : Fin 4) (s : Fin 4096) : topOf (rmaxOf (scoreT ql qr kc kr)) (ix3 g h s) = (A.top g h s : EReal) := by
  rw [topOf_read, c_bot, max_eq_right bot_le, rmaxOf_read, ← A.fold_max]
  exact congrArg (Finset.fold max ⊥ · Finset.univ) (funext fun n => scoreT_at H g h s n)

theorem eT_at (g : Fin 2) (h : Fin 4) (s n : Fin 4096) : eT ql qr kc kr (ix4 g h s n) = (A.e g h s n : EReal) := by
  unfold eT Args.e
  rw [eOf_read, scoreT_at H, topT_at H, ← EReal.coe_sub, Ideal.exp_coe]

theorem ZT_at (g : Fin 2) (h : Fin 4) (s : Fin 4096) (z : Fin 1) : ZT ql qr kc kr (ix4 g h s z) = (A.Z g h s : EReal) := by
  unfold ZT Args.Z
  rw [ZOf_read, ← coe_sum]
  exact Finset.sum_congr rfl fun n _ => eT_at H g h s n

theorem prT_at (g : Fin 2) (h : Fin 4) (s n : Fin 4096) : prT ql qr kc kr (ix4 g h s n) = (A.pr g h s n : EReal) := by
  unfold prT Args.pr
  rw [prOf_read, eT_at H, ZT_at H, div_real (A.Z_ne g h s)]

theorem dPT_at (g : Fin 2) (h : Fin 4) (s n : Fin 4096) : dPT kc ct (ix4 g h s n) = (A.dP g h s n : EReal) := by
  unfold dPT Args.dP
  rw [dPOf_read, ← coe_sum]
  exact Finset.sum_congr rfl fun d _ => by rw [ctT_read, H.ct s g h d _ rfl, cT_read, H.c, EReal.coe_mul]

theorem ccT_at (g : Fin 2) (h : Fin 4) (s : Fin 4096) (z : Fin 1) : ccT ql qr kc kr ct (ix4 g h s z) = (A.cc g h s : EReal) := by
  unfold ccT Args.cc
  rw [ccOf_read, EReal.coe_neg, ← coe_sum]
  refine congrArg _ (Finset.sum_congr rfl fun n _ => ?_)
  rw [dPT_at H, ZT_at H, eT_at H, ← EReal.coe_mul (A.Z g h s), ← EReal.coe_one, div_real (mul_ne_zero (A.Z_ne g h s) (A.Z_ne g h s)), ← EReal.coe_mul, ← EReal.coe_mul]

theorem gradT_at (g : Fin 2) (h : Fin 4) (s n : Fin 4096) : gradT ql qr kc kr ct (ix4 g n s h) = ((A.dS g h s n * σ : ℝ) : EReal) := by
  unfold gradT Args.dS
  rw [dsTOf_read, dsOf_read, dPT_at H, ZT_at H, ccT_at H, eT_at H, div_real (A.Z_ne g h s), ← EReal.coe_add, ← EReal.coe_mul, ← EReal.coe_mul]

/-! ### The results -/

theorem dq_at (s : Fin 4096) (g : Fin 2) (h : Fin 4) (d : Fin 160) (x : Fin 1280)
    (hx : x.val = g.val * 640 + if d.val < 128 then h.val * 128 + d.val else 512 + h.val * 32 + (d.val - 128)) :
    dqR (gradT ql qr kc kr ct) (cT kc) (krT kr) (ix2 s x) = (A.dQ g h s d : EReal) := by
  unfold Args.dQ Args.k mix
  rw [dqR_read, ← coe_sum]
  by_cases hd : d.val < 128
  · rw [if_pos hd] at hx
    have e1 : (⟨x.val / 640, by omega⟩ : Fin 2) = g := Fin.ext (by simp only; omega)
    have e2 : (⟨x.val % 640 / 128, by omega⟩ : Fin 4) = h := Fin.ext (by simp only; omega)
    have e3 : (⟨x.val % 640 % 128, by omega⟩ : Fin 128) = ⟨d.val, hd⟩ := Fin.ext (by simp only; omega)
    rw [dif_pos (show x.val % 640 < 512 by omega), e1, e2, e3]
    exact Finset.sum_congr rfl fun n _ => by rw [gradT_at H, cT_read, H.c, dif_pos hd, ← EReal.coe_mul]
  · rw [if_neg hd] at hx
    have e1 : (⟨x.val / 640, by omega⟩ : Fin 2) = g := Fin.ext (by simp only; omega)
    have e2 : (⟨(x.val % 640 - 512) / 32, by omega⟩ : Fin 4) = h := Fin.ext (by simp only; omega)
    have e3 : (⟨(x.val % 640 - 512) % 32, by omega⟩ : Fin 32) = ⟨d.val - 128, by omega⟩ := Fin.ext (by simp only; omega)
    rw [dif_neg (show ¬x.val % 640 < 512 by omega), e1, e2, e3]
    exact Finset.sum_congr rfl fun n _ => by rw [gradT_at H, krT_read, H.kr, dif_neg hd, ← EReal.coe_mul]

theorem dk_at (g : Fin 2) (n : Fin 4096) (d : Fin 160) : dkR (gradT ql qr kc kr ct) (qlT ql) (qrT qr) (ix3 g n d) = (A.dK g n d : EReal) := by
  unfold Args.dK Args.q mix
  rw [dkR_read, ← coe_sum]
  by_cases hd : d.val < 128
  · rw [dif_pos hd, Finset.sum_comm]
    refine Finset.sum_congr rfl fun h _ => ?_
    rw [← coe_sum]
    exact Finset.sum_congr rfl fun s _ => by rw [gradT_at H, qlT_read, H.ql s g h _ _ rfl, dif_pos hd, ← EReal.coe_mul]
  · rw [dif_neg hd, Finset.sum_comm]
    refine Finset.sum_congr rfl fun h _ => ?_
    rw [← coe_sum]
    exact Finset.sum_congr rfl fun s _ => by rw [gradT_at H, qrT_read, H.qr s g h _ _ rfl, dif_neg hd, ← EReal.coe_mul]

theorem dv_at (g : Fin 2) (n : Fin 4096) (d : Fin 128) : dvR (ctT ct) (prT ql qr kc kr) (ix3 g n d) = (A.dV g n d : EReal) := by
  unfold Args.dV
  rw [dvR_read, ← coe_sum]
  refine Finset.sum_congr rfl fun h _ => ?_
  rw [← coe_sum]
  exact Finset.sum_congr rfl fun s _ => by rw [prT_at H, ctT_read, H.ct s g h d _ rfl, ← EReal.coe_mul]

omit H in
/-- The reference's run with its results named. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let M := fun b => m ((c.tc : Thread nD τ).loc b)
      r.2.mem ((c.tc : Thread nD τ).loc main_v75) = dqR (gradT (M main_arg0) (M main_arg1) (M main_arg2) (M main_arg3) (M main_arg4)) (cT (M main_arg2)) (krT (M main_arg3))
      ∧ r.2.mem ((c.tc : Thread nD τ).loc main_v76) = dkR (gradT (M main_arg0) (M main_arg1) (M main_arg2) (M main_arg3) (M main_arg4)) (qlT (M main_arg0)) (qrT (M main_arg1))
      ∧ r.2.mem ((c.tc : Thread nD τ).loc main_v49) = dvR (ctT (M main_arg4)) (prT (M main_arg0) (M main_arg1) (M main_arg2) (M main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h => h) (Cert.Reference2Ideal.Value.run m ρ)

end Ref

end Cert.Latent

end
-- ==== Proof.LatentHost.lean ====
module

public import proofs.«01_k».proof.Proof.LatentContents
public import proofs.«01_k».proof.Proof.LatentRef
public import proofs.«01_k».proof.Proof.LatentValue
public import Idealize.ShloMosaic.Lib.Claim

/-! What the host operations give the call of the latent attention's gradient: the scaled queries, the keys in two layouts, the rows'
log-sums in base 2 and the rows' sums of the cotangent times the output. -/

@[expose] public section

set_option maxRecDepth 16384

noncomputable section

namespace Cert.Kernel2Ideal.Hand

open Idealize.ShloMosaic Idealize.ShloMosaic.TcCoe
open Cert.Kernel2Ideal.Gen Cert.Latent
open Cert.Attn (coe_sum div_real c_bot c_two)

/-! ### The arrays -/

/-- The logarithm of two. -/
def log2T : FVec Ideal S_ .f32 := Host.log (constant S_ .f32 0x40000000#32)

/-- The scores. -/
def scoreT (ql : FVec Ideal S4096x8x128 .f32) (qr : FVec Ideal S4096x8x32 .f32) (kc : FVec Ideal S4096x128 .f32) (kr : FVec Ideal S4096x32 .f32) : FVec Ideal S8x4096x4096 .f32 :=
  mulf (addf (transpose S8x4096x4096 [2, 1, 0] (Host.dotGeneral dot_S4096x128_S4096x8x128_S4096x4096x8_1_2_0_01_n_n none kc ql) transposes_S4096x4096x8_S8x4096x4096_2_1_0)
    (transpose S8x4096x4096 [2, 1, 0] (Host.dotGeneral dot_S4096x32_S4096x8x32_S4096x4096x8_1_2_0_01_n_n none kr qr) transposes_S4096x4096x8_S8x4096x4096_2_1_0))
    (broadcastInDim S8x4096x4096 ![] bcast_S_S8x4096x4096 (constant S_ .f32 0x3DD105EC#32))

/-- The rows' greatest scores. -/
def topOf (sc : FVec Ideal S8x4096x4096 .f32) : FVec Ideal S8x4096 .f32 :=
  Host.reduce FloatOps.maximumf sc (constant S_ .f32 0xFF800000#32) reducesTo_S8x4096x4096_S8x4096_d2 h_S_
/-- A number for each row, with a last dimension. -/
def colOf (r : FVec Ideal S8x4096 .f32) : FVec Ideal S8x4096x1 .f32 := broadcastInDim S8x4096x1 ![0, 1] bcast_S8x4096_S8x4096x1_0_1 r
/-- The exponentials. -/
def eOf (sc : FVec Ideal S8x4096x4096 .f32) (t : FVec Ideal S8x4096x1 .f32) : FVec Ideal S8x4096x4096 .f32 :=
  Host.exp (subf sc (broadcastInDim S8x4096x4096 ![0, 1, 2] bcast_S8x4096x1_S8x4096x4096_0_1_2 t))
/-- The denominators. -/
def ZOf (e : FVec Ideal S8x4096x4096 .f32) : FVec Ideal S8x4096 .f32 :=
  Host.reduceAdd e (constant S_ .f32 0x00000000#32) reducesTo_S8x4096x4096_S8x4096_d2 h_S_
/-- The probabilities. -/
def prOf (e : FVec Ideal S8x4096x4096 .f32) (z : FVec Ideal S8x4096x1 .f32) : FVec Ideal S8x4096x4096 .f32 :=
  Host.divf e (broadcastInDim S8x4096x4096 ![0, 1, 2] bcast_S8x4096x1_S8x4096x4096_0_1_2 z)
/-- The output. -/
def outOf (kc : FVec Ideal S4096x128 .f32) (p : FVec Ideal S8x4096x4096 .f32) : FVec Ideal S4096x8x128 .f32 :=
  transpose S4096x8x128 [2, 1, 0] (Host.dotGeneral dot_S4096x128_S8x4096x4096_S128x8x4096_0_2_1_01_n_n none kc p) transposes_S128x8x4096_S4096x8x128_2_1_0
/-- The rows' log-sums in base 2. -/
def lseOf (t z : FVec Ideal S8x4096x1 .f32) : FVec Ideal S8x1x4096 .f32 :=
  shapeCast S8x1x4096 (Host.divf (addf t (Host.log z)) (broadcastInDim S8x4096x1 ![] bcast_S_S8x4096x1 log2T)) shapeCasts_S8x4096x1_S8x1x4096
/-- The rows' sums of the cotangent times the output. -/
def deltaOf (ct : FVec Ideal S4096x1024 .f32) (o : FVec Ideal S4096x8x128 .f32) : FVec Ideal S8x1x4096 .f32 :=
  shapeCast S8x1x4096 (transpose S8x4096 [1, 0] (Host.reduceAdd (mulf (shapeCast S4096x8x128 ct shapeCasts_S4096x1024_S4096x8x128) o) (constant S_ .f32 0x00000000#32) reducesTo_S4096x8x128_S4096x8_d2 h_S_) transposes_S4096x8_S8x4096_1_0) shapeCasts_S8x4096_S8x1x4096
/-- The queries, scaled, by head. -/
def qsOf (ql : FVec Ideal S4096x8x128 .f32) (qr : FVec Ideal S4096x8x32 .f32) : FVec Ideal S8x4096x160 .bf16 :=
  truncf .bf16 (transpose S8x4096x160 [1, 0, 2] (mulf (concatenate S4096x8x160 2 [⟨S4096x8x128, ql⟩, ⟨S4096x8x32, qr⟩] concatenates_S4096x8x128_S4096x8x32_S4096x8x160_d2)
    (broadcastInDim S4096x8x160 ![] bcast_S_S4096x8x160 (Host.divf (constant S_ .f32 0x3DD105EC#32) log2T))) transposes_S4096x8x160_S8x4096x160_1_0_2) bitsLt_bf16_f32
/-- The keys. -/
def kOf (kc : FVec Ideal S4096x128 .f32) (kr : FVec Ideal S4096x32 .f32) : FVec Ideal S1x4096x160 .bf16 :=
  truncf .bf16 (broadcastInDim S1x4096x160 ![1, 2] bcast_S4096x160_S1x4096x160_1_2 (concatenate S4096x160 1 [⟨S4096x128, kc⟩, ⟨S4096x32, kr⟩] concatenates_S4096x128_S4096x32_S4096x160_d1)) bitsLt_bf16_f32
/-- The keys, features first. -/
def ktOf (k : FVec Ideal S1x4096x160 .bf16) : FVec Ideal S1x160x4096 .bf16 := transpose S1x160x4096 [0, 2, 1] k transposes_S1x4096x160_S1x160x4096_0_2_1

/-! ### Read at an index -/

theorem scoreT_read (ql qr kc kr) (h : Fin 8) (s n : Fin 4096) : scoreT ql qr kc kr (ix3 h s n) =
    ((∑ d : Fin 128, kc (ix2 n d) * ql (ix3 s h d)) + ∑ d : Fin 32, kr (ix2 n d) * qr (ix3 s h d)) * (σ : EReal) := by
  rw [← c_σ]
  pointwise [scoreT]
theorem topOf_read (sc) (h : Fin 8) (s : Fin 4096) : topOf sc (ix2 h s) = (Finset.univ : Finset (Fin 4096)).fold max ⊥ fun n => sc (ix3 h s n) := by
  pointwise [topOf]
  rw [c_bot]
theorem colOf_read (r) (h : Fin 8) (s : Fin 4096) (z : Fin 1) : colOf r (ix3 h s z) = r (ix2 h s) := by
  pointwise [colOf]
theorem eOf_read (sc t) (h : Fin 8) (s n : Fin 4096) : eOf sc t (ix3 h s n) = Ideal.exp (sc (ix3 h s n) - t (ix3 h s 0)) := by
  pointwise [eOf]
theorem ZOf_read (e) (h : Fin 8) (s : Fin 4096) : ZOf e (ix2 h s) = ∑ n : Fin 4096, e (ix3 h s n) := by
  pointwise [ZOf]
theorem prOf_read (e z) (h : Fin 8) (s n : Fin 4096) : prOf e z (ix3 h s n) = Ideal.div (e (ix3 h s n)) (z (ix3 h s 0)) := by
  pointwise [prOf]
theorem outOf_read (kc p) (s : Fin 4096) (h : Fin 8) (d : Fin 128) : outOf kc p (ix3 s h d) = ∑ n : Fin 4096, kc (ix2 n d) * p (ix3 h s n) := by
  pointwise [outOf]
theorem lseOf_read (t z) (h : Fin 8) (y : Fin 1) (s : Fin 4096) : lseOf t z (ix3 h y s) =
    Ideal.div (t (ix3 h s 0) + Ideal.log (z (ix3 h s 0))) (Ideal.log (Ideal.ofBits .f32 0x40000000#32)) := by
  pointwise [lseOf, log2T]
theorem deltaOf_read (ct o) (h : Fin 8) (y : Fin 1) (s : Fin 4096) : deltaOf ct o (ix3 h y s) = ∑ d : Fin 128, ct (ix2 s ⟨h.val * 128 + d.val, by omega⟩) * o (ix3 s h d) := by
  pointwise [deltaOf]
theorem qsOf_read (ql qr) (h : Fin 8) (s : Fin 4096) (d : Fin 160) : qsOf ql qr (ix3 h s d) =
    (if h' : d.val < 128 then ql (ix3 s h ⟨d.val, h'⟩) else qr (ix3 s h ⟨d.val - 128, by omega⟩)) * Ideal.div (Ideal.ofBits .f32 0x3DD105EC#32) (Ideal.log (Ideal.ofBits .f32 0x40000000#32)) := by
  pointwise [qsOf, log2T]
theorem kOf_read (kc kr) (z : Fin 1) (n : Fin 4096) (d : Fin 160) : kOf kc kr (ix3 z n d) = if h' : d.val < 128 then kc (ix2 n ⟨d.val, h'⟩) else kr (ix2 n ⟨d.val - 128, by omega⟩) := by
  pointwise [kOf]
theorem ktOf_read (k) (z : Fin 1) (d : Fin 160) (n : Fin 4096) : ktOf k (ix3 z d n) = k (ix3 0 n d) := by
  pointwise [ktOf]

/-! ### On the arguments -/

variable (ql : FVec Ideal S4096x8x128 .f32) (qr : FVec Ideal S4096x8x32 .f32) (kc : FVec Ideal S4096x128 .f32) (kr : FVec Ideal S4096x32 .f32) (ct : FVec Ideal S4096x1024 .f32)

def topT : FVec Ideal S8x4096x1 .f32 := colOf (topOf (scoreT ql qr kc kr))
def eT : FVec Ideal S8x4096x4096 .f32 := eOf (scoreT ql qr kc kr) (topT ql qr kc kr)
def ZT : FVec Ideal S8x4096x1 .f32 := colOf (ZOf (eT ql qr kc kr))
def outT : FVec Ideal S4096x8x128 .f32 := outOf kc (prOf (eT ql qr kc kr) (ZT ql qr kc kr))

variable {ql qr kc kr ct} {A : Args} (H : Holds A ql qr kc kr ct) {g : Fin 2} {h : Fin 4} {x : Fin 8} (hx : x.val = g.val * 4 + h.val) (s n : Fin 4096)
include H

theorem kOf_at (z : Fin 1) (d : Fin 160) : kOf kc kr (ix3 z n d) = (A.k n d : EReal) := by
  unfold Args.k mix
  rw [kOf_read]
  split
  · exact H.c _ _
  · exact H.kr _ _

include hx

theorem scoreT_at : scoreT ql qr kc kr (ix3 x s n) = (A.score g h s n : EReal) := by
  unfold Args.score
  rw [scoreT_read, EReal.coe_mul, EReal.coe_add, ← coe_sum, ← coe_sum]
  congr 2
  · exact Finset.sum_congr rfl fun d _ => by rw [H.c, H.ql s g h d x hx, EReal.coe_mul]
  · exact Finset.sum_congr rfl fun d _ => by rw [H.kr, H.qr s g h d x hx, EReal.coe_mul]

theorem topT_at (z : Fin 1) : topT ql qr kc kr (ix3 x s z) = (A.top g h s : EReal) := by
  unfold topT
  rw [colOf_read, topOf_read, ← A.fold_max]
  exact congrArg (Finset.fold max ⊥ · Finset.univ) (funext fun n => scoreT_at H hx s n)

theorem eT_at : eT ql qr kc kr (ix3 x s n) = (A.e g h s n : EReal) := by
  unfold eT Args.e
  rw [eOf_read, scoreT_at H hx, topT_at H hx, ← EReal.coe_sub, Ideal.exp_coe]

theorem ZT_at (z : Fin 1) : ZT ql qr kc kr (ix3 x s z) = (A.Z g h s : EReal) := by
  unfold ZT Args.Z
  rw [colOf_read, ZOf_read, ← coe_sum]
  exact Finset.sum_congr rfl fun n _ => eT_at H hx s n

theorem outT_at (d : Fin 128) : outT ql qr kc kr (ix3 s x d) = ((∑ n, A.c n d * A.pr g h s n : ℝ) : EReal) := by
  unfold outT Args.pr
  rw [outOf_read, ← coe_sum]
  exact Finset.sum_congr rfl fun n _ => by rw [prOf_read, eT_at H hx, ZT_at H hx, div_real (A.Z_ne g h s), H.c, ← EReal.coe_mul]

theorem lse_val (y : Fin 1) : lseOf (topT ql qr kc kr) (ZT ql qr kc kr) (ix3 x y s) = (((A.top g h s + Real.log (A.Z g h s)) * (1 / Real.log 2) : ℝ) : EReal) := by
  rw [lseOf_read, topT_at H hx, ZT_at H hx, c_two, Ideal.log_coe, if_neg (not_le.mpr (A.Z_pos g h s)), Ideal.log_coe, if_neg (by norm_num : ¬(2 : ℝ) ≤ 0), ← EReal.coe_add, div_real log2_ne]

theorem delta_val (y : Fin 1) : deltaOf ct (outT ql qr kc kr) (ix3 x y s) = (A.delta g h s : EReal) := by
  unfold Args.delta
  rw [deltaOf_read, ← coe_sum]
  exact Finset.sum_congr rfl fun d _ => by rw [H.ct s g h d _ (by show x.val * 128 + d.val = _; omega), outT_at H hx, ← EReal.coe_mul]

theorem qs_val (d : Fin 160) : qsOf ql qr (ix3 x s d) = ((A.q s g h d * qscale : ℝ) : EReal) := by
  unfold Args.q mix qscale
  rw [qsOf_read, c_σ, c_two, Ideal.log_coe, if_neg (by norm_num : ¬(2 : ℝ) ≤ 0), div_real log2_ne]
  split
  · rw [H.ql s g h _ x hx]; simp only [← EReal.coe_mul]
  · rw [H.qr s g h _ x hx]; simp only [← EReal.coe_mul]

end Cert.Kernel2Ideal.Hand

namespace Cert.Kernel2Ideal.Hand

open Idealize.ShloMosaic Idealize.ShloMosaic.TcCoe
open Cert.Kernel2Ideal.Gen Cert.Latent

/-! ### The buffers -/

variable (m : (ℓ : Loc nD τ sig) → Buf (Elt Ideal) ℓ) (c : Dev nD)

/-- An argument of core `c`. -/
def arg0 : FVec Ideal S4096x8x128 .f32 := m ((c.tc : Thread nD τ).loc main_arg0)
@[inherit_doc arg0]
def arg1 : FVec Ideal S4096x8x32 .f32 := m ((c.tc : Thread nD τ).loc main_arg1)
@[inherit_doc arg0]
def arg2 : FVec Ideal S4096x128 .f32 := m ((c.tc : Thread nD τ).loc main_arg2)
@[inherit_doc arg0]
def arg3 : FVec Ideal S4096x32 .f32 := m ((c.tc : Thread nD τ).loc main_arg3)
@[inherit_doc arg0]
def arg4 : FVec Ideal S4096x1024 .f32 := m ((c.tc : Thread nD τ).loc main_arg4)

theorem V_v34 : V m c main_v34 = qsOf (arg0 m c) (arg1 m c) := by
  entry_read
  rfl
theorem V_v37 : V m c main_v37 = kOf (arg2 m c) (arg3 m c) := by
  entry_read
  rfl
theorem V_v38 : V m c main_v38 = ktOf (kOf (arg2 m c) (arg3 m c)) := by
  entry_read
  rfl
theorem V_v39 : V m c main_v39 = truncf .bf16 (arg4 m c) bitsLt_bf16_f32 := by
  entry_read
  rfl
theorem V_v23 : V m c main_v23 = lseOf (topT (arg0 m c) (arg1 m c) (arg2 m c) (arg3 m c)) (ZT (arg0 m c) (arg1 m c) (arg2 m c) (arg3 m c)) := by
  entry_read
  rfl
theorem V_v28 : V m c main_v28 = deltaOf (arg4 m c) (outT (arg0 m c) (arg1 m c) (arg2 m c) (arg3 m c)) := by
  entry_read
  rfl

end Cert.Kernel2Ideal.Hand

end
-- ==== Proof.LatentWindows.lean ====
module

public import proofs.«01_k».proof.Proof.LatentHost
public import Idealize.ShloMosaic.Lib.Pipeline.Value
public import Idealize.ShloMosaic.Lib.Pipeline.ValueKit

/-! The blocks of a point, read in the arrays: point `t` has group `t / 16`, the keys of the eighth `t / 2 % 8` and the queries of
the half `t % 2`. -/

@[expose] public section

set_option maxRecDepth 16384

noncomputable section

namespace Cert.Kernel2Ideal.Hand

open Idealize.ShloMosaic Idealize.ShloMosaic.TcCoe
open Cert.Kernel2Ideal.Gen Cert.Latent

variable (m : (ℓ : Loc nD τ sig) → Buf (Elt Ideal) ℓ) (c : Dev nD)

theorem idx0 : ∀ t : Fin cfg0.N, win0_0.index t = ![t.val / 16, t.val % 2, 0] := by decide +kernel
theorem idx1 : ∀ t : Fin cfg0.N, win0_1.index t = ![0, t.val / 2 % 8, 0] := by decide +kernel
theorem idx2 : ∀ t : Fin cfg0.N, win0_2.index t = ![0, 0, t.val / 2 % 8] := by decide +kernel
theorem idx3 : ∀ t : Fin cfg0.N, win0_3.index t = ![t.val % 2, t.val / 16] := by decide +kernel
theorem idx4 : ∀ t : Fin cfg0.N, win0_4.index t = ![t.val / 16, 0, t.val % 2] := by decide +kernel
theorem idx5 : ∀ t : Fin cfg0.N, win0_5.index t = ![t.val / 16, 0, t.val % 2] := by decide +kernel
theorem idx6 : ∀ t : Fin cfg0.N, win0_6.index t = ![0, t.val / 16] := by decide +kernel
theorem idx7 : ∀ t : Fin cfg0.N, win0_7.index t = ![t.val / 16, t.val / 2 % 8, 0] := by decide +kernel
theorem idx8 : ∀ t : Fin cfg0.N, win0_8.index t = ![t.val / 16, t.val / 2 % 8, 0] := by decide +kernel

variable (t : Fin cfg0.N)

theorem blk0 (h : Fin 4) (r : Fin 2048) (d : Fin 160) (H : Fin 8) (s : Fin 4096) (hH : H.val = 4 * (t.val / 16) + h.val) (hs : s.val = 2048 * (t.val % 2) + r.val) :
    iblk m c 0 t (ix3 h r d) = V m c main_v34 (ix3 H s d) := by
  blk_ext [iblk, idx0 t]
theorem blk1 (r : Fin 512) (d : Fin 160) (n : Fin 4096) (hn : n.val = 512 * (t.val / 2 % 8) + r.val) :
    iblk m c 1 t (ix3 0 r d) = V m c main_v37 (ix3 0 n d) := by
  blk_ext [iblk, idx1 t]
theorem blk2 (r : Fin 512) (d : Fin 160) (n : Fin 4096) (hn : n.val = 512 * (t.val / 2 % 8) + r.val) :
    iblk m c 2 t (ix3 0 d r) = V m c main_v38 (ix3 0 d n) := by
  blk_ext [iblk, idx2 t]
theorem blk3 (r : Fin 2048) (c₁ : Fin 512) (s : Fin 4096) (c₂ : Fin 1024) (hs : s.val = 2048 * (t.val % 2) + r.val) (hc : c₂.val = 512 * (t.val / 16) + c₁.val) :
    iblk m c 3 t (ix2 r c₁) = V m c main_v39 (ix2 s c₂) := by
  blk_ext [iblk, idx3 t]
theorem blk4 (h : Fin 4) (r : Fin 2048) (H : Fin 8) (s : Fin 4096) (hH : H.val = 4 * (t.val / 16) + h.val) (hs : s.val = 2048 * (t.val % 2) + r.val) :
    iblk m c 4 t (ix3 h 0 r) = V m c main_v23 (ix3 H 0 s) := by
  blk_ext [iblk, idx4 t]
theorem blk5 (h : Fin 4) (r : Fin 2048) (H : Fin 8) (s : Fin 4096) (hH : H.val = 4 * (t.val / 16) + h.val) (hs : s.val = 2048 * (t.val % 2) + r.val) :
    iblk m c 5 t (ix3 h 0 r) = V m c main_v28 (ix3 H 0 s) := by
  blk_ext [iblk, idx5 t]

/-! ### The same from the arguments -/

theorem rd_q (h : Fin 4) (r : Fin 2048) (d : Fin 160) (H : Fin 8) (s : Fin 4096) (hH : H.val = 4 * (t.val / 16) + h.val) (hs : s.val = 2048 * (t.val % 2) + r.val) : (ins m c t).q (ix3 h r d) = qsOf (arg0 m c) (arg1 m c) (ix3 H s d) :=
  (blk0 m c t h r d H s hH hs).trans (congrFun (V_v34 m c) _)
theorem rd_k (r : Fin 512) (d : Fin 160) (n : Fin 4096) (hn : n.val = 512 * (t.val / 2 % 8) + r.val) : (ins m c t).k (ix3 0 r d) = kOf (arg2 m c) (arg3 m c) (ix3 0 n d) :=
  (blk1 m c t r d n hn).trans (congrFun (V_v37 m c) _)
theorem rd_kt (r : Fin 512) (d : Fin 160) (n : Fin 4096) (hn : n.val = 512 * (t.val / 2 % 8) + r.val) : (ins m c t).kt (ix3 0 d r) = ktOf (kOf (arg2 m c) (arg3 m c)) (ix3 0 d n) :=
  (blk2 m c t r d n hn).trans (congrFun (V_v38 m c) _)
theorem rd_dy (r : Fin 2048) (c₁ : Fin 512) (s : Fin 4096) (c₂ : Fin 1024) (hs : s.val = 2048 * (t.val % 2) + r.val) (hc : c₂.val = 512 * (t.val / 16) + c₁.val) : (ins m c t).dy (ix2 r c₁) = arg4 m c (ix2 s c₂) :=
  (blk3 m c t r c₁ s c₂ hs hc).trans (congrFun (V_v39 m c) _)
theorem rd_lse (h : Fin 4) (r : Fin 2048) (H : Fin 8) (s : Fin 4096) (hH : H.val = 4 * (t.val / 16) + h.val) (hs : s.val = 2048 * (t.val % 2) + r.val) : (ins m c t).lse (ix3 h 0 r) = lseOf (topT (arg0 m c) (arg1 m c) (arg2 m c) (arg3 m c)) (ZT (arg0 m c) (arg1 m c) (arg2 m c) (arg3 m c)) (ix3 H 0 s) :=
  (blk4 m c t h r H s hH hs).trans (congrFun (V_v23 m c) _)
theorem rd_dl (h : Fin 4) (r : Fin 2048) (H : Fin 8) (s : Fin 4096) (hH : H.val = 4 * (t.val / 16) + h.val) (hs : s.val = 2048 * (t.val % 2) + r.val) : (ins m c t).dl (ix3 h 0 r) = deltaOf (arg4 m c) (outT (arg0 m c) (arg1 m c) (arg2 m c) (arg3 m c)) (ix3 H 0 s) :=
  (blk5 m c t h r H s hH hs).trans (congrFun (V_v28 m c) _)

theorem lt32 : t.val < 32 := lt_of_lt_of_eq t.isLt (show cfg0.N = 32 from N_0)

/-- The group, the eighth and the half of a point. -/
def grp : Fin 2 := ⟨t.val / 16, by have := lt32 t; omega⟩
@[inherit_doc grp]
def eighth : Fin 8 := ⟨t.val / 2 % 8, by omega⟩
@[inherit_doc grp]
def side : Fin 2 := ⟨t.val % 2, by omega⟩

variable {m c} {A : Args} (H : Holds A (arg0 m c) (arg1 m c) (arg2 m c) (arg3 m c) (arg4 m c))
include H

/-- A point's blocks hold the numbers of its group, its keys and its queries. -/
theorem has_at : Has A (grp t) (eighth t) (side t) (ins m c t) where
  q h r d s hs := by
    rw [rd_q m c t h r d ⟨4 * (t.val / 16) + h.val, by have := lt32 t; omega⟩ s rfl hs]
    exact qs_val H (g := grp t) (h := h) (by simp only [grp]; omega) s d
  k r d := by
    rw [rd_k m c t r d (key (eighth t) r) rfl]
    exact kOf_at H _ _ _
  kt r d := by
    rw [rd_kt m c t r d (key (eighth t) r) rfl, ktOf_read]
    exact kOf_at H _ _ _
  dy h r d s c₁ hs hc := by
    rw [rd_dy m c t r c₁ s ⟨512 * (t.val / 16) + c₁.val, by have := lt32 t; omega⟩ hs rfl]
    exact H.ct s (grp t) h d _ (by simp only [grp]; omega)
  lse h r s hs := by
    rw [rd_lse m c t h r ⟨4 * (t.val / 16) + h.val, by have := lt32 t; omega⟩ s rfl hs]
    exact lse_val H (g := grp t) (h := h) (by simp only [grp]; omega) s _
  dl h r s hs := by
    rw [rd_dl m c t h r ⟨4 * (t.val / 16) + h.val, by have := lt32 t; omega⟩ s rfl hs]
    exact delta_val H (g := grp t) (h := h) (by simp only [grp]; omega) s _

end Cert.Kernel2Ideal.Hand

end
-- ==== Proof.LatentOutput.lean ====
module

public import proofs.«01_k».proof.Proof.LatentSums
public import proofs.«01_k».proof.Proof.LatentWindows
public import proofs.«01_k».proof.Proof.LatentBody

/-! The kernel's three result arrays are the reference's gradients. -/

@[expose] public section

set_option maxRecDepth 16384

noncomputable section

namespace Cert.Kernel2Ideal.Hand

open Idealize.ShloMosaic Idealize.ShloMosaic.TcCoe Idealize.SL.Sem
open Cert.Kernel2Ideal.Gen Cert.Latent Cert.Latent.Ref

variable (m : (ℓ : Loc nD τ sig) → Buf (Elt Ideal) ℓ) (c : Dev nD)
variable {A : Args} (H : Holds A (arg0 m c) (arg1 m c) (arg2 m c) (arg3 m c) (arg4 m c))

theorem half_side (t : Fin cfg0.N) : half (grid0.coords t) = side t := Fin.ext (coord2 t)

include H

/-- The values' gradients after a group's second block of queries. -/
theorem dvLast (t : Fin cfg0.N) (ht : t.val % 2 = 1) (z : Fin 1) (r : Fin 512) (d : Fin 128) :
    dvAt m c t (ix3 z r d) = (A.dV (grp t) (key (eighth t) r) d : EReal) := by
  have h32 := lt32 t
  have hp := pt_pred_val t
  have H0 := has_at (pt (t.val - 1)) H
  have H1 := has_at t H
  have eg : grp (pt (t.val - 1)) = grp t := Fin.ext (by unfold grp; dsimp only; omega)
  have ej : eighth (pt (t.val - 1)) = eighth t := Fin.ext (by unfold eighth; dsimp only; omega)
  have e0 : side (pt (t.val - 1)) = 0 := Fin.ext (by unfold side; show (pt (t.val - 1)).val % 2 = 0; omega)
  have e1 : side t = 1 := Fin.ext (by unfold side; show t.val % 2 = 1; omega)
  rw [eg, ej, e0] at H0
  rw [e1] at H1
  unfold dvAt
  rw [if_neg (by omega)]
  generalize ins m c t = X at *
  generalize ins m c (pt (t.val - 1)) = W at *
  rw [dvOut_at H1 _ z r d _ (dvOut_at H0 _ 0 r d 0 (zeroV_read 0 r d)), zero_add, sum_give]
  rfl

/-- The keys' gradients after a group's second block of queries. -/
theorem dkLast (t : Fin cfg0.N) (ht : t.val % 2 = 1) (z : Fin 1) (r : Fin 512) (d : Fin 160) :
    dkAt m c t (ix3 z r d) = (A.dK (grp t) (key (eighth t) r) d : EReal) := by
  have h32 := lt32 t
  have hp := pt_pred_val t
  have H0 := has_at (pt (t.val - 1)) H
  have H1 := has_at t H
  have eg : grp (pt (t.val - 1)) = grp t := Fin.ext (by unfold grp; dsimp only; omega)
  have ej : eighth (pt (t.val - 1)) = eighth t := Fin.ext (by unfold eighth; dsimp only; omega)
  have e0 : side (pt (t.val - 1)) = 0 := Fin.ext (by unfold side; show (pt (t.val - 1)).val % 2 = 0; omega)
  have e1 : side t = 1 := Fin.ext (by unfold side; show t.val % 2 = 1; omega)
  rw [eg, ej, e0] at H0
  rw [e1] at H1
  have c0 : ((grid0.coords (pt (t.val - 1))) 2).val = (0 : Fin 2).val := (coord2 _).trans (congrArg Fin.val e0)
  have c1 : ((grid0.coords t) 2).val = (1 : Fin 2).val := (coord2 _).trans (congrArg Fin.val e1)
  unfold dkAt
  rw [if_neg (by omega)]
  generalize ins m c t = X at *
  generalize ins m c (pt (t.val - 1)) = W at *
  rw [dkOut_at H1 _ c1 _ z r d _ (dkOut_at H0 _ c0 _ 0 r d 0 (zeroK_read 0 r d)), zero_add, if_neg (by decide), mul_one, sum_give, if_pos (by decide)]
  refine congrArg (fun x : ℝ => (x : EReal)) ?_
  have e : (∑ h : Fin 4, ∑ s : Fin 4096, A.dS (grp t) h s (key (eighth t) r) * σ * A.q s (grp t) h d * qscale) = A.dK (grp t) (key (eighth t) r) d * qscale := by
    unfold Args.dK
    rw [Finset.sum_mul]
    exact Finset.sum_congr rfl fun h _ => (Finset.sum_mul _ _ _).symm
  rw [e, take_out]

/-- The scratch after point `t`: the parts of the keys already met. -/
theorem scr_at : ∀ (n : ℕ) (hn : n < 32) (b : Fin 2) (u : Fin 8) (h : Fin 4) (d : Fin 160) (x : Fin 256),
    scrAt m c n (slot b u h d x) = ((∑ j : Fin 8, if 2 * j.val + b.val ≤ n % 16 then part A ⟨n / 16, by omega⟩ h (qry b u x) d j else 0 : ℝ) : EReal) := by
  have step : ∀ (n : ℕ) (hn : n < 32) (b : Fin 2) (u : Fin 8) (h : Fin 4) (d : Fin 160) (x : Fin 256),
      scrBefore m c n (slot b u h d x) = ((∑ j : Fin 8, if 2 * j.val + b.val < n % 16 then part A ⟨n / 16, by omega⟩ h (qry b u x) d j else 0 : ℝ) : EReal) →
      scrAt m c n (slot b u h d x) = ((∑ j : Fin 8, if 2 * j.val + b.val ≤ n % 16 then part A ⟨n / 16, by omega⟩ h (qry b u x) d j else 0 : ℝ) : EReal) := by
    intro n hn b u h d x hb
    have ev : (pt n).val = n := Nat.mod_eq_of_lt hn
    have es := scrAt_eq m c (pt n)
    rw [ev] at es
    rw [es, scrOut_read, hb, half_side]
    have H1 := has_at (pt n) H
    have eg : grp (pt n) = ⟨n / 16, by omega⟩ := Fin.ext (by unfold grp; dsimp only; omega)
    have ej : (eighth (pt n)).val = n / 2 % 8 := by unfold eighth; dsimp only; omega
    have eb : (side (pt n)).val = n % 2 := by unfold side; dsimp only; omega
    rw [eg] at H1
    generalize side (pt n) = b' at *
    generalize eighth (pt n) = j' at *
    generalize ins m c (pt n) = X at *
    by_cases e : b = b'
    · subst e
      rw [if_pos rfl, dqt_at H1 u h x d, ← EReal.coe_add]
      refine congrArg (fun x : ℝ => (x : EReal)) ?_
      rw [show (∑ r : Fin 512, A.dS ⟨n / 16, by omega⟩ h (qry b u x) (key j' r) * σ * A.k (key j' r) d) = ∑ j : Fin 8, if j = j' then part A ⟨n / 16, by omega⟩ h (qry b u x) d j else 0 by
        rw [Finset.sum_ite_eq' Finset.univ j' fun j => part A ⟨n / 16, by omega⟩ h (qry b u x) d j, if_pos (Finset.mem_univ _)]; rfl]
      rw [← Finset.sum_add_distrib]
      refine Finset.sum_congr rfl fun j _ => ?_
      by_cases hj : j = j'
      · subst hj
        rw [if_neg (by omega), if_pos rfl, if_pos (by omega), zero_add]
      · have : j.val ≠ j'.val := fun e => hj (Fin.ext e)
        rw [if_neg hj, add_zero]
        by_cases hl : 2 * j.val + b.val < n % 16
        · rw [if_pos hl, if_pos (by omega)]
        · rw [if_neg hl, if_neg (by omega)]
    · rw [if_neg e]
      refine congrArg (fun x : ℝ => (x : EReal)) (Finset.sum_congr rfl fun j _ => ?_)
      have : b.val ≠ b'.val := fun h => e (Fin.ext h)
      by_cases hl : 2 * j.val + b.val < n % 16
      · rw [if_pos hl, if_pos (by omega)]
      · rw [if_neg hl, if_neg (by omega)]
  intro n
  induction n with
  | zero =>
    intro hn b u h d x
    refine step 0 hn b u h d x ?_
    unfold scrBefore
    rw [if_pos (by decide)]
    exact (zeroS_read _ _ _).trans (congrArg (fun x : ℝ => (x : EReal)) (Finset.sum_eq_zero fun j _ => if_neg (by omega)).symm)
  | succ n ih =>
    intro hn b u h d x
    refine step (n + 1) hn b u h d x ?_
    unfold scrBefore
    by_cases h0 : (n + 1) % 16 = 0
    · rw [if_pos h0]
      exact (zeroS_read _ _ _).trans (congrArg (fun x : ℝ => (x : EReal)) (Finset.sum_eq_zero fun j _ => if_neg (by omega)).symm)
    · rw [if_neg h0]
      refine (ih (by omega) b u h d x).trans (congrArg (fun x : ℝ => (x : EReal)) (Finset.sum_congr rfl fun j _ => ?_))
      have eg : (⟨n / 16, by omega⟩ : Fin 2) = ⟨(n + 1) / 16, by omega⟩ := Fin.ext (by show n / 16 = (n + 1) / 16; omega)
      rw [eg]
      by_cases hl : 2 * j.val + b.val < (n + 1) % 16
      · rw [if_pos hl, if_pos (by omega)]
      · rw [if_neg hl, if_neg (by omega)]

/-- The block of the queries' gradients after a group's last point. -/
theorem dqLast (t : Fin cfg0.N) (ht : t.val % 16 = 15) (s : Fin 4096) (w : Fin 640) (x : Fin 1280) (hx : x.val = 640 * (t.val / 16) + w.val) :
    dqOut (scrAt m c t.val) (ix2 s w) = dqR (gradT (arg0 m c) (arg1 m c) (arg2 m c) (arg3 m c) (arg4 m c)) (cT (arg2 m c)) (krT (arg3 m c)) (ix2 s x) := by
  have h32 := lt32 t
  obtain ⟨b, u, y, es⟩ : ∃ (b : Fin 2) (u : Fin 8) (y : Fin 256), s = qry b u y :=
    ⟨⟨s.val / 2048, by omega⟩, ⟨s.val / 256 % 8, by omega⟩, ⟨s.val % 256, by omega⟩, Fin.ext (by show s.val = 2048 * (s.val / 2048) + 256 * (s.val / 256 % 8) + s.val % 256; omega)⟩
  subst es
  obtain ⟨h, d, hw⟩ : ∃ (h : Fin 4) (d : Fin 160), w.val = if d.val < 128 then 128 * h.val + d.val else 512 + (32 * h.val + (d.val - 128)) := by
    by_cases hl : w.val < 512
    · refine ⟨⟨w.val / 128, by omega⟩, ⟨w.val % 128, by omega⟩, ?_⟩
      rw [if_pos (by show w.val % 128 < 128; omega)]
      show w.val = 128 * (w.val / 128) + w.val % 128
      omega
    · refine ⟨⟨(w.val - 512) / 32, by omega⟩, ⟨128 + (w.val - 512) % 32, by omega⟩, ?_⟩
      rw [if_neg (by show ¬128 + (w.val - 512) % 32 < 128; omega)]
      show w.val = 512 + (32 * ((w.val - 512) / 32) + (128 + (w.val - 512) % 32 - 128))
      omega
  have r := dq_at H (qry b u y) ⟨t.val / 16, by omega⟩ h d x (by
    show x.val = t.val / 16 * 640 + _
    split at hw
    · rw [if_pos ‹_›]; omega
    · rw [if_neg ‹_›]; omega)
  rw [dqOut_read _ b u y h d w hw, scr_at m c H t.val h32 b u h d y, r]
  refine congrArg (fun x : ℝ => (x : EReal)) ((Finset.sum_congr rfl fun j _ => if_pos (by omega)).trans (sum_part A _ h (qry b u y) d))

theorem result_dq : (dats m 0 c).arrAt 6 cfg0.N = dqR (gradT (arg0 m c) (arg1 m c) (arg2 m c) (arg3 m c) (arg4 m c)) (cT (arg2 m c)) (krT (arg3 m c)) := by
  refine (dats m 0 c).arrAt_eq_of_covers 6 _ (by decide +kernel) fun t hf y => ?_
  blk_simp
  rw [after_6]
  have h32 := lt32 t
  have h15 := (flush0_6 t).mp hf
  have ey : y = ix2 (y 0 : Fin 4096) (y 1 : Fin 640) := by
    funext a
    refine Fin.cases rfl (fun b => Fin.cases rfl (fun b => b.elim0) b) a
  have hy : (y 1 : Fin 640).val < 640 := (y 1 : Fin 640).isLt
  have ej : (win0_6.blk t).view.emb y = ix2 (y 0 : Fin 4096) (⟨640 * (t.val / 16) + (y 1 : Fin 640).val, by omega⟩ : Fin 1280) := by
    blk_ext [idx6]
  have r := dqLast m c H t h15 (y 0) (y 1) (⟨640 * (t.val / 16) + (y 1 : Fin 640).val, by omega⟩ : Fin 1280) rfl
  exact (congrArg _ ey).trans (r.trans (congrArg _ ej).symm)

theorem result_dk : (dats m 0 c).arrAt 7 cfg0.N = dkR (gradT (arg0 m c) (arg1 m c) (arg2 m c) (arg3 m c) (arg4 m c)) (qlT (arg0 m c)) (qrT (arg1 m c)) := by
  refine (dats m 0 c).arrAt_eq_of_covers 7 _ (by decide +kernel) fun t hf y => ?_
  blk_simp
  rw [after_7]
  have h32 := lt32 t
  have h1 := (flush0_7 t).mp hf
  have ey : y = ix3 (y 0 : Fin 1) (y 1 : Fin 512) (y 2 : Fin 160) := by
    funext a
    refine Fin.cases rfl (fun b => Fin.cases rfl (fun b => Fin.cases rfl (fun b => b.elim0) b) b) a
  have ej : (win0_7.blk t).view.emb y = ix3 (grp t) (key (eighth t) (y 1 : Fin 512)) (y 2 : Fin 160) := by
    unfold grp eighth key
    blk_ext [idx7]
  have r := dkLast m c H t h1 (y 0) (y 1) (y 2)
  have r' := dk_at H (grp t) (key (eighth t) (y 1 : Fin 512)) (y 2 : Fin 160)
  exact (congrArg _ ey).trans (r.trans ((congrArg _ ej).trans r').symm)

theorem result_dv : (dats m 0 c).arrAt 8 cfg0.N = dvR (ctT (arg4 m c)) (prT (arg0 m c) (arg1 m c) (arg2 m c) (arg3 m c)) := by
  refine (dats m 0 c).arrAt_eq_of_covers 8 _ (by decide +kernel) fun t hf y => ?_
  blk_simp
  rw [after_8]
  have h32 := lt32 t
  have h1 := (flush0_8 t).mp hf
  have ey : y = ix3 (y 0 : Fin 1) (y 1 : Fin 512) (y 2 : Fin 128) := by
    funext a
    refine Fin.cases rfl (fun b => Fin.cases rfl (fun b => Fin.cases rfl (fun b => b.elim0) b) b) a
  have ej : (win0_8.blk t).view.emb y = ix3 (grp t) (key (eighth t) (y 1 : Fin 512)) (y 2 : Fin 128) := by
    unfold grp eighth key
    blk_ext [idx8]
  have r := dvLast m c H t h1 (y 0) (y 1) (y 2)
  have r' := dv_at H (grp t) (key (eighth t) (y 1 : Fin 512)) (y 2 : Fin 128)
  exact (congrArg _ ey).trans (r.trans ((congrArg _ ej).trans r').symm)

end Cert.Kernel2Ideal.Hand

end
-- ==== Proof.LatentFinite.lean ====
module

public import proofs.«01_k».proof.Pre_finite2
public import proofs.«01_k».proof.Proof.Finite
public import proofs.«01_k».proof.Proof.LatentRef

/-! Finite arguments of the latent attention's gradient hold real numbers. -/

@[expose] public section

set_option maxRecDepth 16384

noncomputable section

namespace Cert.Latent

open Idealize.ShloMosaic
open Cert.Reference2Ideal
open Cert.Attn (real_of_all)

/-- The numbers that finite arguments hold. -/
theorem holds_of_finite [Cert.Pre_finite2.Facts] (ql : FVec Ideal S4096x8x128 .f32) (qr : FVec Ideal S4096x8x32 .f32) (kc : FVec Ideal S4096x128 .f32) (kr : FVec Ideal S4096x32 .f32)
    (ct : FVec Ideal S4096x1024 .f32) (h : Cert.Pre_finite2.fn (F := Ideal) ql qr kc kr ct = fun _ => 1#1) : ∃ A : Args, Holds A ql qr kc kr ct := by
  have e := congrFun h ix0
  dsimp only [Cert.Pre_finite2.fn, Cert.Pre_finite2.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have r0 := real_of_all ql _ _ _ e0
  have r1 := real_of_all qr _ _ _ e1
  have r2 := real_of_all kc _ _ _ e2
  have r3 := real_of_all kr _ _ _ e3
  have r4 := real_of_all ct _ _ _ e4
  refine ⟨⟨fun s g h d => (ql (ix3 s ⟨g.val * 4 + h.val, by omega⟩ d)).toReal, fun s g h d => (qr (ix3 s ⟨g.val * 4 + h.val, by omega⟩ d)).toReal,
    fun n d => (kc (ix2 n d)).toReal, fun n d => (kr (ix2 n d)).toReal, fun s g h d => (ct (ix2 s ⟨g.val * 512 + h.val * 128 + d.val, by omega⟩)).toReal⟩, ?_, ?_, ?_, ?_, ?_⟩
  · intro s g h d x hx
    rw [show x = ⟨g.val * 4 + h.val, by omega⟩ from Fin.ext hx]
    exact r0 _
  · intro s g h d x hx
    rw [show x = ⟨g.val * 4 + h.val, by omega⟩ from Fin.ext hx]
    exact r1 _
  · exact fun n d => r2 _
  · exact fun n d => r3 _
  · intro s g h d x hx
    rw [show x = ⟨g.val * 512 + h.val * 128 + d.val, by omega⟩ from Fin.ext hx]
    exact r4 _

end Cert.Latent

end
-- ==== Proof.LatentClaims.lean ====
module

public import proofs.«01_k».proof.Defs
public import proofs.«01_k».proof.Proof.LatentOutput
public import proofs.«01_k».proof.Proof.LatentFinite
public import Idealize.ShloMosaic.Adequacy

/-! The claims about the latent attention's gradient over the extended reals and about its reference. -/

@[expose] public section

set_option maxRecDepth 16384

noncomputable section

namespace Cert.Hand2

open Idealize.ShloMosaic Idealize.SL.Sem
open Cert.Latent Cert.Latent.Ref

theorem frame_ideal : Cert.quiescent_Kernel2Ideal := fun m ρ _ => Cert.Kernel2Ideal.Hand.frame m ρ

theorem frame_reference : Cert.quiescent_Reference2Ideal := fun m ρ _ =>
  (θ_run Cert.Reference2Ideal.defs _ _).mono (fun r h => ⟨fun c => (h c).2.2.2, sem_eq_zero_of_no_sems (by decide) r.2⟩) (run_reference m ρ)

/-- The constant that is named. -/
theorem preserves : Cert.preserves_Kernel2_Kernel2Ideal :=
  IdealRules.named_const.statement Cert.Kernel2Ideal.κ "inv_scale_b_log2e" .f32 0x40D95360#32 (((3424635 / 33554432)⁻¹ * (Real.log 2) : ℝ) : EReal) rfl

section Kernel

open Cert.Kernel2Ideal Cert.Kernel2Ideal.Gen Cert.Kernel2Ideal.Hand

/-- The kernel's run with its results named. -/
theorem run_kernel (m : (ℓ : Loc nD τ sig) → Buf (Elt Ideal) ℓ) (ρ : Dev nD → PrngReg)
    (hA : ∀ c, ∃ A : Args, Holds A (arg0 m c) (arg1 m c) (arg2 m c) (arg3 m c) (arg4 m c)) :
    θ_run defs (onTc (τ := τ) (main (F := Ideal))) ⟨m, fun _ => 0, ρ⟩ fun r => ∀ c : Dev nD,
      r.2.mem ((c.tc : Thread nD τ).loc main_v40_0) = dqR (gradT (arg0 m c) (arg1 m c) (arg2 m c) (arg3 m c) (arg4 m c)) (cT (arg2 m c)) (krT (arg3 m c))
      ∧ r.2.mem ((c.tc : Thread nD τ).loc main_v40_1) = dkR (gradT (arg0 m c) (arg1 m c) (arg2 m c) (arg3 m c) (arg4 m c)) (qlT (arg0 m c)) (qrT (arg1 m c))
      ∧ r.2.mem ((c.tc : Thread nD τ).loc main_v40_2) = dvR (ctT (arg4 m c)) (prT (arg0 m c) (arg1 m c) (arg2 m c) (arg3 m c)) :=
  (θ_run defs _ _).mono (fun r h c => by
    obtain ⟨A, hA⟩ := hA c
    exact ⟨((h.1 c).1 6).trans (result_dq m c hA), ((h.1 c).1 7).trans (result_dk m c hA), ((h.1 c).1 8).trans (result_dv m c hA)⟩) (run_main m ρ)

end Kernel

theorem algebraic [Cert.Pre_finite2.Facts] : Cert.algebraic_Kernel2Ideal_Reference2Ideal_pre_finite2 := by
  intro m ρ m' ρ' hpre hagree
  have hA := fun c => holds_of_finite _ _ _ _ _ (hpre c)
  refine ⟨_, _, _, (θ_run Cert.Kernel2Ideal.defs _ _).mono (fun r h c => ⟨(h.1 c).1, (h.1 c).2.1, (h.1 c).2.2, h.2.1 c⟩)
    (θ_run_and (run_kernel m ρ hA) (Cert.Kernel2Ideal.Hand.frame m ρ)), ?_⟩
  refine (θ_run Cert.Reference2Ideal.defs _ _).mono (fun r h c => ?_) (run_reference m' ρ')
  obtain ⟨e0, e1, e2, e3, e4⟩ := hagree c
  obtain ⟨h0, h1, h2, h3⟩ := h c
  dsimp only at h0 h1 h2
  rw [e0, e1, e2, e3, e4] at h0 h1
  rw [e0, e1, e2, e3, e4] at h2
  exact ⟨h0, h1, h2, h3⟩

end Cert.Hand2

end
-- ==== Proof.DenseBlocks.lean ====
module

public import proofs.«01_k».proof.Proof.Gen.Kernel3Ideal.Skeleton
public import proofs.«01_k».proof.Proof.Gen.Kernel3Ideal.Points
public import Idealize.ShloMosaic.Lib.VecWindow

/-! What one grid point of `attn_a_bwd` computes, as functions of the blocks it is given: sixteen blocks of 256 queries against the
point's 512 keys, four heads side by side in 1024 columns. -/

@[expose] public section

noncomputable section

namespace Cert.Kernel3Ideal.Hand

open Idealize.ShloMosaic Idealize.ShloMosaic.TcCoe
open Idealize.ShloMosaic.VecWindow (put)
open Cert.Kernel3Ideal.Gen

variable {F : FTy → Type} [FloatOps F] [Named F]

/-- The blocks of the seven inputs at a grid point, in the call's order. -/
structure Ins (F : FTy → Type) [FloatOps F] where
  q : Vec F S4x4096x64 .bf16
  k : Vec F S1x512x64 .bf16
  kt : Vec F S1x64x512 .bf16
  v : Vec F S1x512x64 .bf16
  dy : Vec F S4096x256 .bf16
  lse : Vec F S4x1x4096 .f32
  dl : Vec F S4x1x4096 .f32

theorem inbQ (u : Fin 16) : ∀ a, (![0, 256 * u.val, 0] : Fin 3 → Nat) a + S4x256x64.size a ≤ S4x4096x64.size a := by
  decide +revert
theorem inbR (h : Fin 4) (u : Fin 16) : ∀ a, (![h.val, 0, 256 * u.val] : Fin 3 → Nat) a + S1x1x256.size a ≤ S4x1x4096.size a := by
  decide +revert
theorem inbD (u : Fin 16) (h : Fin 4) : ∀ a, (![256 * u.val, 64 * h.val] : Fin 2 → Nat) a + S256x64.size a ≤ S4096x256.size a := by
  decide +revert
theorem slH (h : Fin 4) : S64x1024.Slices ![0, 256 * h.val] S64x256 := by decide +revert
theorem inbS (u : Fin 16) (h : Fin 4) : ∀ a, (![u.val, 64 * h.val, 0] : Fin 3 → Nat) a + S1x64x256.size a ≤ S16x256x256.size a := by
  decide +revert

namespace Ins

variable (X : Ins F)

/-- The point's keys. -/
def kk : FVec F S512x64 .bf16 :=
  shapeCast S512x64 (View.ld (Val := Elt F) X.k (Rect.unit ![0, 0, 0] S1x512x64.size inb_S1x512x64_S1x512x64_0_0_0)) shapeCasts_S1x512x64_S512x64

/-- Their values. -/
def vv : FVec F S512x64 .bf16 :=
  shapeCast S512x64 (View.ld (Val := Elt F) X.v (Rect.unit ![0, 0, 0] S1x512x64.size inb_S1x512x64_S1x512x64_0_0_0)) shapeCasts_S1x512x64_S512x64

/-- The same keys, transposed. -/
def kkt : FVec F S64x512 .bf16 :=
  shapeCast S64x512 (View.ld (Val := Elt F) X.kt (Rect.unit ![0, 0, 0] S1x64x512.size inb_S1x64x512_S1x64x512_0_0_0)) shapeCasts_S1x64x512_S64x512

variable (u : Fin 16)

/-- The queries of block `u`, head after head. -/
def qq : FVec F S1024x64 .bf16 :=
  shapeCast S1024x64 (shapeCast S4x256x64 (View.ld (Val := Elt F) X.q (Rect.unit ![0, 256 * u.val, 0] S4x256x64.size (inbQ u))) shapeCasts_S4x256x64_S4x256x64) shapeCasts_S4x256x64_S1024x64

/-- The cotangents of block `u`'s head `h`. -/
def dyH (h : Fin 4) : FVec F S256x64 .bf16 :=
  shapeCast S256x64 (View.ld (Val := Elt F) X.dy (Rect.unit ![256 * u.val, 64 * h.val] S256x64.size (inbD u h))) shapeCasts_S256x64_S256x64

/-- The cotangents of block `u`, head after head. -/
def dd : FVec F S1024x64 .bf16 :=
  concatenate S1024x64 0 [⟨S256x64, X.dyH u 0⟩, ⟨S256x64, X.dyH u 1⟩, ⟨S256x64, X.dyH u 2⟩, ⟨S256x64, X.dyH u 3⟩]
    concatenates_S256x64_S256x64_S256x64_S256x64_S1024x64_d0

/-- A row of numbers, one for each query of block `u`'s head `h`. -/
def rowH (r : Vec F S4x1x4096 .f32) (h : Fin 4) : FVec F S1x256 .f32 :=
  shapeCast S1x256 (View.ld (Val := Elt F) r (Rect.unit ![h.val, 0, 256 * u.val] S1x1x256.size (inbR h u))) shapeCasts_S1x1x256_S1x256

/-- The four heads' rows side by side, down all keys. -/
def rows (r : Vec F S4x1x4096 .f32) : FVec F S512x1024 .f32 :=
  broadcastTo S512x1024 (concatenate S1x1024 1 [⟨S1x256, rowH u r 0⟩, ⟨S1x256, rowH u r 1⟩, ⟨S1x256, rowH u r 2⟩, ⟨S1x256, rowH u r 3⟩]
    concatenates_S1x256_S1x256_S1x256_S1x256_S1x1024_d1) broadcasts_S1x1024_S512x1024

/-- The scores of block `u`, in base-2 units. -/
def st : FVec F S512x1024 .f32 :=
  matmul dot_S512x64_S1024x64_S512x1024_1_1_0_0_n_n none X.kk (X.qq u) (constant S512x1024 .f32 0x00000000#32)

/-- The probabilities. -/
def p : FVec F S512x1024 .f32 := exp2 (subf (X.st u) (rows u X.lse))

/-- The gradient by the probabilities. -/
def dp : FVec F S512x1024 .f32 :=
  matmul dot_S512x64_S1024x64_S512x1024_1_1_0_0_n_n none X.vv (X.dd u) (constant S512x1024 .f32 0x00000000#32)

/-- The gradient by the scores, times the scale. -/
def ds : FVec F S512x1024 .f32 :=
  mulf (mulf (X.p u) (subf (X.dp u) (rows u X.dl))) (broadcast S512x1024 (Scalar.ofBits .f32 0x3E000000#32))

/-- What block `u` adds to the gradients of the values. -/
def dvC : FVec F S512x64 .f32 :=
  matmul dot_S512x1024_S1024x64_S512x64_1_0_0_1_n_n none (truncf .bf16 (X.p u) bitsLt_bf16_f32) (X.dd u) (constant S512x64 .f32 0x00000000#32)

/-- What block `u` adds to the gradients of the keys. -/
def dkC : FVec F S512x64 .f32 :=
  matmul dot_S512x1024_S1024x64_S512x64_1_0_0_1_n_n none (truncf .bf16 (X.ds u) bitsLt_bf16_f32) (X.qq u) (constant S512x64 .f32 0x00000000#32)

/-- What the point adds to the gradient of block `u`'s queries, transposed, head after head. -/
def dqt : FVec F S64x1024 .f32 :=
  matmul dot_S64x512_S512x1024_S64x1024_1_0_0_1_n_n none X.kkt (truncf .bf16 (X.ds u) bitsLt_bf16_f32) (constant S64x1024 .f32 0x00000000#32)

end Ins

/-- `Y` with the first `n` of sixteen terms added one after the other. -/
def adds {s : Shape} (Y : FVec F s .f32) (C : Fin 16 → FVec F s .f32) : (n : ℕ) → n ≤ 16 → FVec F s .f32
  | 0, _ => Y
  | n + 1, h => addf (adds Y C n (Nat.le_of_succ_le h)) (C ⟨n, h⟩)

/-- The gradient of the values after the point, `Y` before it. -/
def Ins.dvOut (X : Ins F) (Y : Vec F S1x512x64 .f32) : Vec F S1x512x64 .f32 :=
  shapeCast S1x512x64 (adds (shapeCast S512x64 (View.ld (Val := Elt F) Y (Rect.unit ![0, 0, 0] S1x512x64.size inb_S1x512x64_S1x512x64_0_0_0)) shapeCasts_S1x512x64_S512x64) X.dvC 16 (le_refl 16)) shapeCasts_S512x64_S1x512x64

/-- The gradient of the keys after the point, `Y` before it, the queries' scale taken out again. -/
def Ins.dkOut (X : Ins F) (i : grid0.Coords) (Y : Vec F S1x512x64 .f32) : Vec F S1x512x64 .f32 :=
  k0_pay263 (BitVec.ofNat 32 (i 2).val) (adds (shapeCast S512x64 (View.ld (Val := Elt F) Y (Rect.unit ![0, 0, 0] S1x512x64.size inb_S1x512x64_S1x512x64_0_0_0)) shapeCasts_S1x512x64_S512x64) X.dkC 16 (le_refl 16))

/-- What the scratch holds for head `h` of the `u`-th block of queries after `D` is added to it. -/
def scrPay (D : Fin 16 → FVec F S64x1024 .f32) (S : Vec F S16x256x256 .f32) (u : Fin 16) (h : Fin 4) : FVec F S1x64x256 .f32 :=
  shapeCast S1x64x256 (addf (shapeCast S64x256 (View.ld (Val := Elt F) S (Rect.unit ![u.val, 64 * h.val, 0] S1x64x256.size (inbS u h))) shapeCasts_S1x64x256_S64x256)
    (extractStridedSlice S64x256 ![0, 256 * h.val] (D u) (slH h))) shapeCasts_S64x256_S1x64x256

/-- An entry's place in its head's block. -/
def scrLoc (y : S16x256x256.Idx) : S1x64x256.Idx := fun a => match a with
  | 0 => ⟨0, by decide⟩
  | 1 => ⟨(y 1).val % 64, Nat.mod_lt _ (by decide)⟩
  | 2 => y 2

/-- The scratch after `D` is added. -/
def scrOut (D : Fin 16 → FVec F S64x1024 .f32) (S : Vec F S16x256x256 .f32) : Vec F S16x256x256 .f32 := fun y =>
  scrPay D S (y 0) ⟨(y 1).val / 64, by have : (y 1).val < 256 := (y 1).isLt; omega⟩ (scrLoc y)

/-- The scratch as the block of the gradient of the queries: positions down, the heads' features across. -/
def dqOut (S : Vec F S16x256x256 .f32) : Vec F S4096x256 .f32 := fun y =>
  S (fun a => match a with
    | 0 => ⟨(y 0).val / 256, by have : (y 0).val < 4096 := (y 0).isLt; show _ < 16; omega⟩
    | 1 => y 1
    | 2 => ⟨(y 0).val % 256, Nat.mod_lt _ (by decide)⟩)

/-- Zeros. -/
def zeroS : Vec F S16x256x256 .f32 := k0_pay5
@[inherit_doc zeroS]
def zeroK : Vec F S1x512x64 .f32 := k0_pay6
@[inherit_doc zeroS]
def zeroV : Vec F S1x512x64 .f32 := k0_pay7

end Cert.Kernel3Ideal.Hand

end
-- ==== Proof.DenseContents.lean ====
module

public import proofs.«01_k».proof.Proof.DenseBlocks
public import proofs.«01_k».proof.Proof.Gen.Kernel3Ideal.Frame

/-! What every window's buffer and the scratch hold after the body at a point of the dense attention's gradient, as explicit functions of the arrays that the region finds. -/

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)

/-- The blocks that the body reads at a point. -/
abbrev ins (c : Dev nD) (t : Fin cfg0.N) : Ins F where
  q := iblk m c 0 t
  k := iblk m c 1 t
  kt := iblk m c 2 t
  v := iblk m c 3 t
  dy := iblk m c 4 t
  lse := iblk m c 5 t
  dl := iblk m c 6 t

/-- The point of a number; the grid has sixteen. -/
def pt (n : ℕ) : Fin cfg0.N := ⟨n % 16, lt_of_lt_of_eq (Nat.mod_lt _ (by decide)) (show 16 = cfg0.N from N_0.symm)⟩

theorem pt_val (t : Fin cfg0.N) : pt t.val = t :=
  Fin.ext (Nat.mod_eq_of_lt (lt_of_lt_of_eq t.isLt (show cfg0.N = 16 from N_0)))

/-- The scratch after point `n`: a group of heads starts from zeros. -/
def scrAt (c : Dev nD) : ℕ → Vec F S16x256x256 .f32
  | 0 => scrOut (ins m c (pt 0)).dqt zeroS
  | n + 1 => scrOut (ins m c (pt (n + 1))).dqt (if (n + 1) % 8 = 0 then zeroS else scrAt c n)

/-- What the scratch holds when a point's own stores begin. -/
def scrBefore (c : Dev nD) (n : ℕ) : Vec F S16x256x256 .f32 := if n % 8 = 0 then zeroS else scrAt m c (n - 1)

theorem scrAt_eq (c : Dev nD) (t : Fin cfg0.N) : scrAt m c t.val = scrOut (ins m c t).dqt (scrBefore m c t.val) := by
  have e := pt_val t
  obtain ⟨n, hn⟩ := t
  cases n with
  | zero => unfold scrAt scrBefore; rw [e]; rfl
  | succ n => conv_lhs => unfold scrAt
              rw [e]; rfl

/-- The gradient of a block of keys after a point. -/
def dkAt (c : Dev nD) (t : Fin cfg0.N) : Vec F S1x512x64 .f32 := (ins m c t).dkOut (grid0.coords t) zeroK
@[inherit_doc dkAt]
def dvAt (c : Dev nD) (t : Fin cfg0.N) : Vec F S1x512x64 .f32 := (ins m c t).dvOut zeroV

/-- The body's invariant before point `n`: after the first point the scratch holds what the point before left. -/
def Inv (c : Dev nD) (n : ℕ) : sProp 𝕄 :=
  iprop((∃ d, ⌜n ≠ 0 → d = scrAt m c (n - 1)⌝ ∗ owns (c : Thread nD τ) (Memref.whole cc0_scratch0) fullShare d) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqOut (scrAt m c t.val)
    | ⟨8, _⟩ => dkAt m c t
    | ⟨9, _⟩ => dvAt m c t
    | ⟨n + 10, h⟩ => absurd (show n + 10 < 10 from h) (by omega)
  Φ t := Inv m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Inv m c t.val := by
  dsimp only [dats]; exact Pipeline.Dat.Φ_castSucc (fun n _ => Inv m c n) t
theorem Phi_succ (c : Dev nD) (t : Fin cfg0.N) : (dats m 0 c).Φ t.succ = Inv m c (t.val + 1) := by
  dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = dqOut (scrAt m c t.val) := by dsimp only [dats]
theorem after_8 (c : Dev nD) (t : Fin cfg0.N) : (dats m 0 c).after 8 t = dkAt m c t := by dsimp only [dats]
theorem after_9 (c : Dev nD) (t : Fin cfg0.N) : (dats m 0 c).after 9 t = dvAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem N_lt (t : Fin cfg0.N) : t.val < 16 := lt_of_lt_of_eq t.isLt (show cfg0.N = 16 from N_0)
theorem pt_pred_val (t : Fin cfg0.N) : (pt (t.val - 1)).val = t.val - 1 := by
  have := N_lt t
  show (t.val - 1) % 16 = t.val - 1
  omega

end Cert.Kernel3Ideal.Hand

end
-- ==== Proof.DenseRun.lean ====
module

public import proofs.«01_k».proof.Proof.Gen.Kernel3Ideal.Frame
public import proofs.«01_k».proof.Proof.Gen.Kernel3Ideal.Skeleton
public import proofs.«01_k».proof.Proof.Gen.Kernel3Ideal.Points
public import proofs.«01_k».proof.Proof.Gen.Kernel3Ideal.Loops

/-! The run of `attn_a_bwd`'s body at a point: what it leaves in the three results and in the scratch, as a function of what it finds in them. -/

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ

set_option maxHeartbeats 4000000 in
/-- The body's last branch: at a group's last point the scratch is written, transposed, to the block of the queries' gradient. -/
noncomputable def runEmit (c : Dev nD) (i : grid0.Coords) (arg3 : Memref sig .tc .vmem S4x4096x64 .bf16) (harg3 : arg3.IsWhole) (arg4 : Memref sig .tc .vmem S1x512x64 .bf16) (harg4 : arg4.IsWhole) (arg5 : Memref sig .tc .vmem S1x64x512 .bf16) (harg5 : arg5.IsWhole) (arg6 : Memref sig .tc .vmem S1x512x64 .bf16) (harg6 : arg6.IsWhole) (arg7 : Memref sig .tc .vmem S4096x256 .bf16) (harg7 : arg7.IsWhole) (arg8 : Memref sig .tc .vmem S4x1x4096 .f32) (harg8 : arg8.IsWhole) (arg9 : Memref sig .tc .vmem S4x1x4096 .f32) (harg9 : arg9.IsWhole) (arg10 : Memref sig .tc .vmem S4096x256 .f32) (harg10 : arg10.IsWhole) (arg11 : Memref sig .tc .vmem S1x512x64 .f32) (harg11 : arg11.IsWhole) (arg12 : Memref sig .tc .vmem S1x512x64 .f32) (harg12 : arg12.IsWhole) (arg13 : Memref sig .tc .vmem S16x256x256 .f32) (harg13 : arg13.IsWhole)
    (X : arg13.view.ty.Contents (Elt F)) (G : arg10.view.ty.Contents (Elt F)) (h : k0_cond3 i = 1#1) :
    { R : arg10.view.ty.Contents (Elt F) // ∀ (E : Set ℕ) (K : PUnit → sProp 𝕄),
      iprop((arg13.view.loc (c : Thread nD τ) ↦[arg13.view.set]{fullShare} X) ∗ (arg10.view.loc (c : Thread nD τ) ↦[arg10.view.set]{fullShare} G)
        ∗ (iprop((arg13.view.loc (c : Thread nD τ) ↦[arg13.view.set]{fullShare} X) ∗ (arg10.view.loc (c : Thread nD τ) ↦[arg10.view.set]{fullShare} R)) -∗ K ⟨⟩))
      ⊢ wp frame (wpE (defs₀ (F := F)) Variants.none c none) E
          (do Scf.Loop.for k0_t1_loop (k0_t1_ok i h) ⟨⟩ (k0_t1_body (F := F) i arg3 harg3 arg4 harg4 arg5 harg5 arg6 harg6 arg7 harg7 arg8 harg8 arg9 harg9 arg10 harg10 arg11 harg11 arg12 harg12 arg13 harg13 h); pure ⟨⟩) K } := by
  refine ⟨?_, fun E K => ?run⟩
  case run =>
    iintro ⟨H13, H10, Hk⟩
    sl_exec
    sl_step
    iapply Hk
    isplitl [H13]
    · iexact H13
    iexact H10

/-- What the last branch leaves. -/
noncomputable def emitted (c : Dev nD) (i : grid0.Coords) (arg3 : Memref sig .tc .vmem S4x4096x64 .bf16) (harg3 : arg3.IsWhole) (arg4 : Memref sig .tc .vmem S1x512x64 .bf16) (harg4 : arg4.IsWhole) (arg5 : Memref sig .tc .vmem S1x64x512 .bf16) (harg5 : arg5.IsWhole) (arg6 : Memref sig .tc .vmem S1x512x64 .bf16) (harg6 : arg6.IsWhole) (arg7 : Memref sig .tc .vmem S4096x256 .bf16) (harg7 : arg7.IsWhole) (arg8 : Memref sig .tc .vmem S4x1x4096 .f32) (harg8 : arg8.IsWhole) (arg9 : Memref sig .tc .vmem S4x1x4096 .f32) (harg9 : arg9.IsWhole) (arg10 : Memref sig .tc .vmem S4096x256 .f32) (harg10 : arg10.IsWhole) (arg11 : Memref sig .tc .vmem S1x512x64 .f32) (harg11 : arg11.IsWhole) (arg12 : Memref sig .tc .vmem S1x512x64 .f32) (harg12 : arg12.IsWhole) (arg13 : Memref sig .tc .vmem S16x256x256 .f32) (harg13 : arg13.IsWhole)
    (X : arg13.view.ty.Contents (Elt F)) (G : arg10.view.ty.Contents (Elt F)) : arg10.view.ty.Contents (Elt F) :=
  if h : k0_cond3 i = 1#1 then (runEmit c i arg3 harg3 arg4 harg4 arg5 harg5 arg6 harg6 arg7 harg7 arg8 harg8 arg9 harg9 arg10 harg10 arg11 harg11 arg12 harg12 arg13 harg13 X G h).1 else G

theorem run_branch (c : Dev nD) (i : grid0.Coords) (arg3 : Memref sig .tc .vmem S4x4096x64 .bf16) (harg3 : arg3.IsWhole) (arg4 : Memref sig .tc .vmem S1x512x64 .bf16) (harg4 : arg4.IsWhole) (arg5 : Memref sig .tc .vmem S1x64x512 .bf16) (harg5 : arg5.IsWhole) (arg6 : Memref sig .tc .vmem S1x512x64 .bf16) (harg6 : arg6.IsWhole) (arg7 : Memref sig .tc .vmem S4096x256 .bf16) (harg7 : arg7.IsWhole) (arg8 : Memref sig .tc .vmem S4x1x4096 .f32) (harg8 : arg8.IsWhole) (arg9 : Memref sig .tc .vmem S4x1x4096 .f32) (harg9 : arg9.IsWhole) (arg10 : Memref sig .tc .vmem S4096x256 .f32) (harg10 : arg10.IsWhole) (arg11 : Memref sig .tc .vmem S1x512x64 .f32) (harg11 : arg11.IsWhole) (arg12 : Memref sig .tc .vmem S1x512x64 .f32) (harg12 : arg12.IsWhole) (arg13 : Memref sig .tc .vmem S16x256x256 .f32) (harg13 : arg13.IsWhole)
    (X : arg13.view.ty.Contents (Elt F)) (G : arg10.view.ty.Contents (Elt F)) (E : Set ℕ) (K : PUnit → sProp 𝕄) :
      iprop((arg13.view.loc (c : Thread nD τ) ↦[arg13.view.set]{fullShare} X) ∗ (arg10.view.loc (c : Thread nD τ) ↦[arg10.view.set]{fullShare} G)
        ∗ (iprop((arg13.view.loc (c : Thread nD τ) ↦[arg13.view.set]{fullShare} X) ∗ (arg10.view.loc (c : Thread nD τ) ↦[arg10.view.set]{fullShare} emitted c i arg3 harg3 arg4 harg4 arg5 harg5 arg6 harg6 arg7 harg7 arg8 harg8 arg9 harg9 arg10 harg10 arg11 harg11 arg12 harg12 arg13 harg13 X G)) -∗ K ⟨⟩))
      ⊢ wp frame (wpE (defs₀ (F := F)) Variants.none c none) E
          (if h : k0_cond3 i = 1#1 then (do Scf.Loop.for k0_t1_loop (k0_t1_ok i h) ⟨⟩ (k0_t1_body (F := F) i arg3 harg3 arg4 harg4 arg5 harg5 arg6 harg6 arg7 harg7 arg8 harg8 arg9 harg9 arg10 harg10 arg11 harg11 arg12 harg12 arg13 harg13 h); pure ⟨⟩) else pure ⟨⟩) K := by
  unfold emitted
  by_cases h : k0_cond3 i = 1#1
  · simp only [dif_pos h]
    exact (runEmit c i arg3 harg3 arg4 harg4 arg5 harg5 arg6 harg6 arg7 harg7 arg8 harg8 arg9 harg9 arg10 harg10 arg11 harg11 arg12 harg12 arg13 harg13 X G h).2 E K
  · simp only [dif_neg h]
    iintro ⟨H13, H10, Hk⟩
    sl_step
    iapply Hk
    isplitl [H13]
    · iexact H13
    iexact H10

set_option maxHeartbeats 64000000 in
/-- What the body leaves, and that it runs to its end with it. -/
noncomputable def kernelRun (c : Dev nD) (i : grid0.Coords) (arg3 : Memref sig .tc .vmem S4x4096x64 .bf16) (harg3 : arg3.IsWhole) (arg4 : Memref sig .tc .vmem S1x512x64 .bf16) (harg4 : arg4.IsWhole) (arg5 : Memref sig .tc .vmem S1x64x512 .bf16) (harg5 : arg5.IsWhole) (arg6 : Memref sig .tc .vmem S1x512x64 .bf16) (harg6 : arg6.IsWhole) (arg7 : Memref sig .tc .vmem S4096x256 .bf16) (harg7 : arg7.IsWhole) (arg8 : Memref sig .tc .vmem S4x1x4096 .f32) (harg8 : arg8.IsWhole) (arg9 : Memref sig .tc .vmem S4x1x4096 .f32) (harg9 : arg9.IsWhole) (arg10 : Memref sig .tc .vmem S4096x256 .f32) (harg10 : arg10.IsWhole) (arg11 : Memref sig .tc .vmem S1x512x64 .f32) (harg11 : arg11.IsWhole) (arg12 : Memref sig .tc .vmem S1x512x64 .f32) (harg12 : arg12.IsWhole) (arg13 : Memref sig .tc .vmem S16x256x256 .f32) (harg13 : arg13.IsWhole)
    (x0 : Vec F S4x4096x64 .bf16) (x1 : Vec F S1x512x64 .bf16) (x2 : Vec F S1x64x512 .bf16) (x3 : Vec F S1x512x64 .bf16) (x4 : Vec F S4096x256 .bf16) (x5 : Vec F S4x1x4096 .f32) (x6 : Vec F S4x1x4096 .f32) (f10 : arg10.view.ty.Contents (Elt F)) (f11 : arg11.view.ty.Contents (Elt F)) (f12 : arg12.view.ty.Contents (Elt F)) (f13 : arg13.view.ty.Contents (Elt F)) :
    Σ' (R10 : arg10.view.ty.Contents (Elt F)) (R11 : arg11.view.ty.Contents (Elt F)) (R12 : arg12.view.ty.Contents (Elt F)), { R13 : arg13.view.ty.Contents (Elt F) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} R10) ∗ (arg11.view.loc (c : Thread nD τ) ↦[arg11.view.set]{fullShare} R11) ∗ (arg12.view.loc (c : Thread nD τ) ↦[arg12.view.set]{fullShare} R12) ∗ (arg13.view.loc (c : Thread nD τ) ↦[arg13.view.set]{fullShare} R13)) -∗ K ⟨⟩))
          ⊢ wp frame (wpE (defs₀ (F := F)) Variants.none c none) E (cc0_attn_a_bwd i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_attn_a_bwd_eq_skeleton]; unfold cc0_attn_a_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, H10, H11, H12, H13, Hk⟩
    obtain rfl := harg3.eq_unread hg0; obtain rfl := harg4.eq_unread hg1; obtain rfl := harg5.eq_unread hg2; obtain rfl := harg6.eq_unread hg3; obtain rfl := harg7.eq_unread hg4; obtain rfl := harg8.eq_unread hg5; obtain rfl := harg9.eq_unread hg6
    sl_exec
    iapply (run_branch c i arg3 harg3 arg4 harg4 arg5 harg5 arg6 harg6 arg7 harg7 arg8 harg8 arg9 harg9 arg10 harg10 arg11 harg11 arg12 harg12 arg13 harg13 _ _ E _)
    isplitl [H13]
    · iexact H13
    isplitl [H10]
    · iexact H10
    iintro ⟨H13, H10⟩
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H10]
    · iexact H10
    isplitl [H11]
    · iexact H11
    isplitl [H12]
    · iexact H12
    iexact H13

end Cert.Kernel3Ideal.Hand

end
-- ==== Proof.DenseStores.lean ====
module

public import proofs.«01_k».proof.Proof.DenseBlocks
public import proofs.«01_k».proof.Proof.Gen.Kernel3Ideal.Loops
public import Idealize.ShloMosaic.Lib.Tactic.Stretches
public import Idealize.ShloMosaic.Lib.Pointwise

/-! A list of stores, one store at a time: what it leaves in the scratch. -/

@[expose] public section

set_option maxRecDepth 16384

noncomputable section

namespace Cert.Kernel3Ideal.Hand

open Idealize.ShloMosaic Idealize.ShloMosaic.TcCoe
open Idealize.ShloMosaic.VecWindow (put)
open Cert.Kernel3Ideal.Gen

variable {F : FTy → Type} [FloatOps F] [Named F]

/-- One store over the whole shape leaves what was stored. -/
theorem read_full {s : Shape} {e : EltTy} (v : View sig .tc .vmem s e) (f : v.ty.Contents (Elt F)) {off : Fin s.rank → ℕ} (inb : ∀ a, off a + s.size a ≤ s.size a)
    (w : s.Idx → Elt F e) : v.read (Elt F) (v.writes (Elt F) f [(⟨Rect.unit off s.size inb, w⟩ : View.Piece (Elt F) s e)]) = w := by
  funext y
  have h := View.read_writes_cons_emb v f (Rect.unit off s.size inb) w [] y
  rwa [Rect.emb_unit_full] at h

/-- The first `n` of the scratch's 64 blocks hold the sums, all else is as before. -/
def Upto (D : Fin 16 → FVec F S64x1024 .f32) (S : Vec F S16x256x256 .f32) (n : ℕ) (T : Vec F S16x256x256 .f32) : Prop :=
  ∀ y : S16x256x256.Idx, T y = if 4 * (y 0).val + (y 1).val / 64 < n then scrOut D S y else S y

theorem upto_zero (D : Fin 16 → FVec F S64x1024 .f32) (S : Vec F S16x256x256 .f32) : Upto D S 0 S := fun y => by
  rw [if_neg (by omega)]

theorem upto_all {D : Fin 16 → FVec F S64x1024 .f32} {S T : Vec F S16x256x256 .f32} (h : Upto D S 64 T) : T = scrOut D S := by
  funext y
  rw [h y]
  have h0 : (y 0).val < 16 := (y 0).isLt
  have h1 : (y 1).val < 256 := (y 1).isLt
  rw [if_pos (by omega)]

/-- One more block. -/
theorem upto_step (v : View sig .tc .vmem S16x256x256 .f32) (f : v.ty.Contents (Elt F)) {D : Fin 16 → FVec F S64x1024 .f32} {S : Vec F S16x256x256 .f32} {n : ℕ} (hn : n < 64)
    {off : Fin 3 → ℕ} {inb : ∀ a, off a + S1x64x256.size a ≤ S16x256x256.size a} {w : (Rect.unit (s := S16x256x256) off S1x64x256.size inb).shape.Idx → Elt F .f32}
    {L : List (View.Piece (Elt F) S16x256x256 .f32)} (hL : Upto D S n (v.read (Elt F) (v.writes (Elt F) f L)))
    (hoff : off = ![n / 4, 64 * (n % 4), 0]) (hw : w = shapeCast S1x64x256 (addf (shapeCast S64x256 (View.ld (Val := Elt F) S (Rect.unit (s := S16x256x256) off S1x64x256.size inb)) shapeCasts_S1x64x256_S64x256)
      (extractStridedSlice S64x256 ![0, 256 * (n % 4)] (D ⟨n / 4, by omega⟩) (slH ⟨n % 4, by omega⟩))) shapeCasts_S64x256_S1x64x256) :
    Upto D S (n + 1) (v.read (Elt F) (v.writes (Elt F) f (⟨Rect.unit (s := S16x256x256) off S1x64x256.size inb, w⟩ :: L))) := by
  subst hoff
  replace hw : w = scrPay D S ⟨n / 4, by omega⟩ ⟨n % 4, by omega⟩ := hw
  intro y
  have h0 : (y 0).val < 16 := (y 0).isLt
  have h1 : (y 1).val < 256 := (y 1).isLt
  have h2 : (y 2).val < 256 := (y 2).isLt
  rw [View.read_writes_cons_put _ _ _ _ _ rfl]
  unfold put
  by_cases hin : (y 0).val = n / 4 ∧ (y 1).val / 64 = n % 4
  · have hc : ∀ a, (![n / 4, 64 * (n % 4), 0] : Fin 3 → ℕ) a ≤ (y a).val ∧ (y a).val < (![n / 4, 64 * (n % 4), 0] : Fin 3 → ℕ) a + S1x64x256.size a := by
      intro a
      match a with
      | 0 => show n / 4 ≤ (y 0).val ∧ (y 0).val < n / 4 + 1; omega
      | 1 => show 64 * (n % 4) ≤ (y 1).val ∧ (y 1).val < 64 * (n % 4) + 64; omega
      | 2 => show 0 ≤ (y 2).val ∧ (y 2).val < 0 + 256; omega
    rw [dif_pos hc, if_pos (by omega)]
    unfold scrOut
    rw [hw]
    have b0 : y 0 = (⟨n / 4, by omega⟩ : Fin 16) := Fin.ext hin.1
    have b1 : (⟨(y 1).val / 64, by omega⟩ : Fin 4) = ⟨n % 4, by omega⟩ := Fin.ext hin.2
    rw [b1]
    conv_rhs => rw [b0]
    refine congrArg (scrPay D S ⟨n / 4, by omega⟩ ⟨n % 4, by omega⟩) (funext fun a => ?_)
    match a with
    | 0 => exact Fin.ext (by show (y 0).val - n / 4 = 0; omega)
    | 1 => exact Fin.ext (by show (y 1).val - 64 * (n % 4) = (y 1).val % 64; omega)
    | 2 => exact Fin.ext (by show (y 2).val - 0 = (y 2).val; omega)
  · rw [dif_neg, hL y]
    · by_cases hc : 4 * (y 0).val + (y 1).val / 64 < n
      · rw [if_pos hc, if_pos (by omega)]
      · rw [if_neg hc, if_neg (by omega)]
    · intro hc
      have a0 : n / 4 ≤ (y 0).val ∧ (y 0).val < n / 4 + 1 := hc 0
      have a1 : 64 * (n % 4) ≤ (y 1).val ∧ (y 1).val < 64 * (n % 4) + 64 := hc 1
      exact hin (by omega)

end Cert.Kernel3Ideal.Hand

end
-- ==== Proof.DenseEmit.lean ====
module

public import proofs.«01_k».proof.Proof.DenseRun
public import proofs.«01_k».proof.Proof.DenseStores

/-! The last branch: the scratch, transposed, as the block of the gradient of the queries. -/

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

theorem turned_read (V : FVec F S1x64x256 .f32) (a : Fin 256) (b : Fin 64) :
    transpose S256x64 [1, 0] (shapeCast S64x256 V shapeCasts_S1x64x256_S64x256) transposes_S64x256_p1_0_S256x64 (ix2 a b) = V (ix3 0 b a) := by
  pointwise

theorem inbW {k : ℕ} (hk : k < 16) {o : Fin 2 → ℕ} (h : Fin 4) (ho : o = ![256 * k, 64 * h.val]) : ∀ a, o a + S256x64.size a ≤ S4096x256.size a := fun a => by
  subst ho
  have := h.isLt
  match a with
  | 0 => show 256 * k + 256 ≤ 4096; omega
  | 1 => show 64 * h.val + 64 ≤ 256; omega
theorem trips_16 : k0_t1_loop.trips = 16 := by decide
theorem trip_lt (k : Fin k0_t1_loop.trips) : k.val < 16 := lt_of_lt_of_eq k.isLt trips_16

theorem dqOut_store (S : Vec F S16x256x256 .f32) (k : ℕ) (h : Fin 4) {o3 : Fin 3 → ℕ} {i3 : ∀ a, o3 a + S1x64x256.size a ≤ S16x256x256.size a} {o2 : Fin 2 → ℕ}
    (i2 : ∀ a, o2 a + S256x64.size a ≤ S4096x256.size a) (h3 : o3 = ![k, 64 * h.val, 0]) (h2 : o2 = ![256 * k, 64 * h.val])
    (x : S256x64.Idx) : transpose S256x64 [1, 0] (shapeCast S64x256 (View.ld (Val := Elt F) S (Rect.unit (s := S16x256x256) o3 S1x64x256.size i3)) shapeCasts_S1x64x256_S64x256) transposes_S64x256_p1_0_S256x64 x
      = dqOut S ((Rect.unit (s := S4096x256) o2 S256x64.size i2).emb x) := by
  subst h3 h2
  have hh := h.isLt
  obtain ⟨a, b, rfl⟩ : ∃ (a : Fin 256) (b : Fin 64), x = ix2 a b := ⟨x 0, x 1, by funext t; match t with | 0 => rfl | 1 => rfl⟩
  have ha := a.isLt
  have hb := b.isLt
  rw [turned_read]
  unfold dqOut
  refine congrArg S (funext fun t => ?_)
  match t with
  | 0 => exact Fin.ext (by show k + 1 * 0 = (256 * k + 1 * a.val) / 256; omega)
  | 1 => exact Fin.ext (by show 64 * h.val + 1 * b.val = 64 * h.val + 1 * b.val; rfl)
  | 2 => exact Fin.ext (by show 0 + 1 * a.val = (256 * k + 1 * a.val) % 256; omega)

/-- An entry in a rectangle's rows and columns. -/
theorem mem_unit {o2 : Fin 2 → ℕ} {n m a b : ℕ} (i2 : ∀ t, o2 t + (![n, m] : Fin 2 → ℕ) t ≤ S4096x256.size t) (h2 : o2 = ![a, b]) (y : S4096x256.Idx)
    (h0 : a ≤ (y 0).val ∧ (y 0).val < a + n) (h1 : b ≤ (y 1).val ∧ (y 1).val < b + m) : y ∈ (Rect.unit (s := S4096x256) o2 ![n, m] i2).set := by
  subst h2
  refine ((Rect.unit (s := S4096x256) ![a, b] ![n, m] i2).mem_set).mpr fun t => ?_
  match t with
  | 0 => exact ⟨(y 0).val - a, by show _ < n; omega, by show (y 0).val = a + 1 * ((y 0).val - a); omega⟩
  | 1 => exact ⟨(y 1).val - b, by show _ < m; omega, by show (y 1).val = b + 1 * ((y 1).val - b); omega⟩

variable (c : Dev nD) (i : grid0.Coords) (arg3 : Memref sig .tc .vmem S4x4096x64 .bf16) (harg3 : arg3.IsWhole) (arg4 : Memref sig .tc .vmem S1x512x64 .bf16) (harg4 : arg4.IsWhole) (arg5 : Memref sig .tc .vmem S1x64x512 .bf16) (harg5 : arg5.IsWhole) (arg6 : Memref sig .tc .vmem S1x512x64 .bf16) (harg6 : arg6.IsWhole) (arg7 : Memref sig .tc .vmem S4096x256 .bf16) (harg7 : arg7.IsWhole) (arg8 : Memref sig .tc .vmem S4x1x4096 .f32) (harg8 : arg8.IsWhole) (arg9 : Memref sig .tc .vmem S4x1x4096 .f32) (harg9 : arg9.IsWhole) (arg10 : Memref sig .tc .vmem S4096x256 .f32) (harg10 : arg10.IsWhole) (arg11 : Memref sig .tc .vmem S1x512x64 .f32) (harg11 : arg11.IsWhole) (arg12 : Memref sig .tc .vmem S1x512x64 .f32) (harg12 : arg12.IsWhole) (arg13 : Memref sig .tc .vmem S16x256x256 .f32) (harg13 : arg13.IsWhole)

variable (X : arg13.view.ty.Contents (Elt F)) (h : k0_cond3 i = 1#1)

/-- What a trip stores agrees with the scratch, transposed. -/
theorem trip_agrees (k : Fin k0_t1_loop.trips) : ∀ p ∈ tripL_k0_t1 (F := F) Variants.none c none i arg3 harg3 arg4 harg4 arg5 harg5 arg6 harg6 arg7 harg7 arg8 harg8 arg9 harg9 arg10 harg10 arg11 harg11 arg12 harg12 arg13 harg13 h X k,
    ∀ x : p.1.shape.Idx, p.2 x = dqOut (arg13.view.read (Elt F) X) (p.1.emb x) := by
  unfold tripL_k0_t1 trip_k0_t1
  dsimp only
  sl_open_run
  sl_open_pay
  refine List.forall_mem_cons.mpr ⟨fun x => dqOut_store (arg13.view.read (Elt F) X) k.val ⟨3, by decide⟩ (inbW (trip_lt k) ⟨3, by decide⟩ (k0_off12_eq k)) (k0_off11_eq k) (k0_off12_eq k) x, ?_⟩
  refine List.forall_mem_cons.mpr ⟨fun x => dqOut_store (arg13.view.read (Elt F) X) k.val ⟨2, by decide⟩ (inbW (trip_lt k) ⟨2, by decide⟩ (k0_off10_eq k)) (k0_off9_eq k) (k0_off10_eq k) x, ?_⟩
  refine List.forall_mem_cons.mpr ⟨fun x => dqOut_store (arg13.view.read (Elt F) X) k.val ⟨1, by decide⟩ (inbW (trip_lt k) ⟨1, by decide⟩ (k0_off8_eq k)) (k0_off7_eq k) (k0_off8_eq k) x, ?_⟩
  refine List.forall_mem_cons.mpr ⟨fun x => dqOut_store (arg13.view.read (Elt F) X) k.val ⟨0, by decide⟩ (inbW (trip_lt k) ⟨0, by decide⟩ (k0_off6_eq k)) (k0_off5_eq k) (k0_off6_eq k) x, ?_⟩
  intro p hp
  exact absurd hp List.not_mem_nil

/-- The rectangles of a trip's stores. -/
theorem trip_list (k : Fin k0_t1_loop.trips) : ∃ (w12 : (Rect.unit (s := S4096x256) (k0_off12 k) ![256, 64] (inbW (trip_lt k) ⟨3, by decide⟩ (k0_off12_eq k))).shape.Idx → Elt F .f32) (w10 : (Rect.unit (s := S4096x256) (k0_off10 k) ![256, 64] (inbW (trip_lt k) ⟨2, by decide⟩ (k0_off10_eq k))).shape.Idx → Elt F .f32) (w8 : (Rect.unit (s := S4096x256) (k0_off8 k) ![256, 64] (inbW (trip_lt k) ⟨1, by decide⟩ (k0_off8_eq k))).shape.Idx → Elt F .f32) (w6 : (Rect.unit (s := S4096x256) (k0_off6 k) ![256, 64] (inbW (trip_lt k) ⟨0, by decide⟩ (k0_off6_eq k))).shape.Idx → Elt F .f32), tripL_k0_t1 (F := F) Variants.none c none i arg3 harg3 arg4 harg4 arg5 harg5 arg6 harg6 arg7 harg7 arg8 harg8 arg9 harg9 arg10 harg10 arg11 harg11 arg12 harg12 arg13 harg13 h X k =
     [⟨Rect.unit (s := S4096x256) (k0_off12 k) ![256, 64] (inbW (trip_lt k) ⟨3, by decide⟩ (k0_off12_eq k)), w12⟩,
      ⟨Rect.unit (s := S4096x256) (k0_off10 k) ![256, 64] (inbW (trip_lt k) ⟨2, by decide⟩ (k0_off10_eq k)), w10⟩,
      ⟨Rect.unit (s := S4096x256) (k0_off8 k) ![256, 64] (inbW (trip_lt k) ⟨1, by decide⟩ (k0_off8_eq k)), w8⟩,
      ⟨Rect.unit (s := S4096x256) (k0_off6 k) ![256, 64] (inbW (trip_lt k) ⟨0, by decide⟩ (k0_off6_eq k)), w6⟩] := by
  unfold tripL_k0_t1 trip_k0_t1
  exact ⟨_, _, _, _, rfl⟩

/-- A trip stores 256 whole rows. -/
theorem trip_covers (k : Fin k0_t1_loop.trips) (y : S4096x256.Idx) (hy : (y 0).val / 256 = k.val) :
    ∃ p ∈ tripL_k0_t1 (F := F) Variants.none c none i arg3 harg3 arg4 harg4 arg5 harg5 arg6 harg6 arg7 harg7 arg8 harg8 arg9 harg9 arg10 harg10 arg11 harg11 arg12 harg12 arg13 harg13 h X k, y ∈ p.1.set := by
  have h1 : (y 1).val < 256 := (y 1).isLt
  obtain ⟨w12, w10, w8, w6, e⟩ := trip_list c i arg3 harg3 arg4 harg4 arg5 harg5 arg6 harg6 arg7 harg7 arg8 harg8 arg9 harg9 arg10 harg10 arg11 harg11 arg12 harg12 arg13 harg13 X h k
  rw [e]
  by_cases c0 : (y 1).val < 64
  · exact ⟨_, List.Mem.tail _ (List.Mem.tail _ (List.Mem.tail _ (List.Mem.head _))), mem_unit (inbW (trip_lt k) ⟨0, by decide⟩ (k0_off6_eq k)) (k0_off6_eq k) y (by omega) (by omega)⟩
  by_cases c1 : (y 1).val < 128
  · exact ⟨_, List.Mem.tail _ (List.Mem.tail _ (List.Mem.head _)), mem_unit (inbW (trip_lt k) ⟨1, by decide⟩ (k0_off8_eq k)) (k0_off8_eq k) y (by omega) (by omega)⟩
  by_cases c2 : (y 1).val < 192
  · exact ⟨_, List.Mem.tail _ (List.Mem.head _), mem_unit (inbW (trip_lt k) ⟨2, by decide⟩ (k0_off10_eq k)) (k0_off10_eq k) y (by omega) (by omega)⟩
  exact ⟨_, List.Mem.head _, mem_unit (inbW (trip_lt k) ⟨3, by decide⟩ (k0_off12_eq k)) (k0_off12_eq k) y (by omega) (by omega)⟩

/-- The same of the first trips. -/
theorem trips_agree (n : ℕ) (hn : n ≤ k0_t1_loop.trips) : (∀ p ∈ pb_k0_t1 (F := F) Variants.none c none i arg3 harg3 arg4 harg4 arg5 harg5 arg6 harg6 arg7 harg7 arg8 harg8 arg9 harg9 arg10 harg10 arg11 harg11 arg12 harg12 arg13 harg13 h X n,
    ∀ x : p.1.shape.Idx, p.2 x = dqOut (arg13.view.read (Elt F) X) (p.1.emb x)) ∧
    ∀ y : S4096x256.Idx, (y 0).val / 256 < n → ∃ p ∈ pb_k0_t1 (F := F) Variants.none c none i arg3 harg3 arg4 harg4 arg5 harg5 arg6 harg6 arg7 harg7 arg8 harg8 arg9 harg9 arg10 harg10 arg11 harg11 arg12 harg12 arg13 harg13 h X n, y ∈ p.1.set := by
  induction n with
  | zero => exact ⟨fun p hp => absurd hp List.not_mem_nil, fun y hy => absurd hy (Nat.not_lt_zero _)⟩
  | succ n ih =>
    obtain ⟨ih1, ih2⟩ := ih (Nat.le_of_succ_le hn)
    rw [pb_k0_t1_succ Variants.none c none i arg3 harg3 arg4 harg4 arg5 harg5 arg6 harg6 arg7 harg7 arg8 harg8 arg9 harg9 arg10 harg10 arg11 harg11 arg12 harg12 arg13 harg13 h X ⟨n, hn⟩]
    refine ⟨fun p hp => ?_, fun y hy => ?_⟩
    · rcases List.mem_append.mp hp with hp | hp
      · exact trip_agrees c i arg3 harg3 arg4 harg4 arg5 harg5 arg6 harg6 arg7 harg7 arg8 harg8 arg9 harg9 arg10 harg10 arg11 harg11 arg12 harg12 arg13 harg13 X h ⟨n, hn⟩ p hp
      · exact ih1 p hp
    · by_cases hlt : (y 0).val / 256 < n
      · obtain ⟨p, hp, hm⟩ := ih2 y hlt
        exact ⟨p, List.mem_append_right _ hp, hm⟩
      · obtain ⟨p, hp, hm⟩ := trip_covers c i arg3 harg3 arg4 harg4 arg5 harg5 arg6 harg6 arg7 harg7 arg8 harg8 arg9 harg9 arg10 harg10 arg11 harg11 arg12 harg12 arg13 harg13 X h ⟨n, hn⟩ y (by show _ = n; omega)
        exact ⟨p, List.mem_append_left _ hp, hm⟩

include h in
/-- The last branch leaves the scratch, transposed. -/
theorem read_emitted (G : arg10.view.ty.Contents (Elt F)) : arg10.view.read (Elt F) (emitted c i arg3 harg3 arg4 harg4 arg5 harg5 arg6 harg6 arg7 harg7 arg8 harg8 arg9 harg9 arg10 harg10 arg11 harg11 arg12 harg12 arg13 harg13 X G) = dqOut (arg13.view.read (Elt F) X) := by
  unfold emitted
  rw [dif_pos h]
  have hT : k0_t1_loop.trips = 16 := by decide
  funext y
  have h0 : (y 0).val < 4096 := (y 0).isLt
  obtain ⟨h1, h2⟩ := trips_agree c i arg3 harg3 arg4 harg4 arg5 harg5 arg6 harg6 arg7 harg7 arg8 harg8 arg9 harg9 arg10 harg10 arg11 harg11 arg12 harg12 arg13 harg13 X h k0_t1_loop.trips (le_refl _)
  exact View.read_writes_apply_of_pieces arg10.view G _ _ h1 y (h2 y (by omega))

/-- At any other point it leaves what it finds. -/
theorem emitted_other (G : arg10.view.ty.Contents (Elt F)) (hn : ¬k0_cond3 i = 1#1) : emitted c i arg3 harg3 arg4 harg4 arg5 harg5 arg6 harg6 arg7 harg7 arg8 harg8 arg9 harg9 arg10 harg10 arg11 harg11 arg12 harg12 arg13 harg13 X G = G := by
  unfold emitted
  rw [dif_neg hn]

end Cert.Kernel3Ideal.Hand

end
-- ==== Proof.DenseRead.lean ====
module

public import proofs.«01_k».proof.Proof.DenseRun
public import proofs.«01_k».proof.Proof.DenseStores

/-! What the stores of a run leave in the scratch and in the three results, in the words of `DenseBlocks`. -/

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

/-- The one block of rows. -/
theorem rows_one (i : grid0.Coords) : (i 2).val = 0 := by have : (i 2).val < 1 := (i 2).isLt; omega

theorem at1 (i : grid0.Coords) (u : Fin 16) : k0_off1 i (BitVec.ofNat 32 u.val) = ![u.val, 0, 0] := by rw [k0_off1_eq, rows_one, Nat.mul_zero, Nat.zero_add]
theorem at2 (i : grid0.Coords) (u : Fin 16) : k0_off2 i (BitVec.ofNat 32 u.val) = ![u.val, 64, 0] := by rw [k0_off2_eq, rows_one, Nat.mul_zero, Nat.zero_add]
theorem at3 (i : grid0.Coords) (u : Fin 16) : k0_off3 i (BitVec.ofNat 32 u.val) = ![u.val, 128, 0] := by rw [k0_off3_eq, rows_one, Nat.mul_zero, Nat.zero_add]
theorem at4 (i : grid0.Coords) (u : Fin 16) : k0_off4 i (BitVec.ofNat 32 u.val) = ![u.val, 192, 0] := by rw [k0_off4_eq, rows_one, Nat.mul_zero, Nat.zero_add]

variable (c : Dev nD) (i : grid0.Coords) (arg3 : Memref sig .tc .vmem S4x4096x64 .bf16) (harg3 : arg3.IsWhole) (arg4 : Memref sig .tc .vmem S1x512x64 .bf16) (harg4 : arg4.IsWhole) (arg5 : Memref sig .tc .vmem S1x64x512 .bf16) (harg5 : arg5.IsWhole) (arg6 : Memref sig .tc .vmem S1x512x64 .bf16) (harg6 : arg6.IsWhole) (arg7 : Memref sig .tc .vmem S4096x256 .bf16) (harg7 : arg7.IsWhole) (arg8 : Memref sig .tc .vmem S4x1x4096 .f32) (harg8 : arg8.IsWhole) (arg9 : Memref sig .tc .vmem S4x1x4096 .f32) (harg9 : arg9.IsWhole) (arg10 : Memref sig .tc .vmem S4096x256 .f32) (harg10 : arg10.IsWhole) (arg11 : Memref sig .tc .vmem S1x512x64 .f32) (harg11 : arg11.IsWhole) (arg12 : Memref sig .tc .vmem S1x512x64 .f32) (harg12 : arg12.IsWhole) (arg13 : Memref sig .tc .vmem S16x256x256 .f32) (harg13 : arg13.IsWhole)
  (x0 : Vec F S4x4096x64 .bf16) (x1 : Vec F S1x512x64 .bf16) (x2 : Vec F S1x64x512 .bf16) (x3 : Vec F S1x512x64 .bf16) (x4 : Vec F S4096x256 .bf16) (x5 : Vec F S4x1x4096 .f32) (x6 : Vec F S4x1x4096 .f32) (f10 : arg10.view.ty.Contents (Elt F)) (f11 : arg11.view.ty.Contents (Elt F)) (f12 : arg12.view.ty.Contents (Elt F)) (f13 : arg13.view.ty.Contents (Elt F))

/-- The scratch before the point's own stores: zeros at a group's first point. -/
abbrev scr0 : arg13.view.ty.Contents (Elt F) :=
  if hc : kernelRun.sl.v4 i = 1#1 then arg13.view.writes (Elt F) f13 [⟨Rect.unit ![0, 0, 0] S16x256x256.size inb_S16x256x256_S16x256x256_0_0_0, k0_pay5⟩] else f13

set_option maxHeartbeats 64000000 in
/-- The scratch at the end of the run. -/
theorem read_scratch : arg13.view.read (Elt F) (kernelRun c i arg3 harg3 arg4 harg4 arg5 harg5 arg6 harg6 arg7 harg7 arg8 harg8 arg9 harg9 arg10 harg10 arg11 harg11 arg12 harg12 arg13 harg13 x0 x1 x2 x3 x4 x5 x6 f10 f11 f12 f13).2.2.2.1 = scrOut (⟨x0, x1, x2, x3, x4, x5, x6⟩ : Ins F).dqt (arg13.view.read (Elt F) (scr0 i arg13 f13)) := by
  refine upto_all ?_
  unfold kernelRun
  dsimp only
  iterate 64
    refine upto_step arg13.view _ (by decide) ?_ ?_ ?_
    case refine_2 =>
      first
      | exact at4 i ⟨_, by decide⟩
      | exact at3 i ⟨_, by decide⟩
      | exact at2 i ⟨_, by decide⟩
      | exact at1 i ⟨_, by decide⟩
    case refine_3 =>
      sl_open_run
      sl_open_pay
      conv_rhs => rw [← harg3.read_unread x0, ← harg4.read_unread x1, ← harg5.read_unread x2, ← harg6.read_unread x3, ← harg7.read_unread x4, ← harg8.read_unread x5, ← harg9.read_unread x6]
      rfl
  exact upto_zero _ _

/-- The gradient of the keys before the point's own stores. -/
abbrev g11 : arg11.view.ty.Contents (Elt F) :=
  if hc : kernelRun.sl.v7 i = 1#1 then arg11.view.writes (Elt F) f11 [⟨Rect.unit ![0, 0, 0] S1x512x64.size inb_S1x512x64_S1x512x64_0_0_0, k0_pay6⟩] else f11

set_option maxHeartbeats 64000000 in
/-- The gradient of the keys at the end of the run. -/
theorem read_keys : arg11.view.read (Elt F) (kernelRun c i arg3 harg3 arg4 harg4 arg5 harg5 arg6 harg6 arg7 harg7 arg8 harg8 arg9 harg9 arg10 harg10 arg11 harg11 arg12 harg12 arg13 harg13 x0 x1 x2 x3 x4 x5 x6 f10 f11 f12 f13).2.1 = (⟨x0, x1, x2, x3, x4, x5, x6⟩ : Ins F).dkOut i (arg11.view.read (Elt F) (g11 i arg11 f11)) := by
  unfold kernelRun
  dsimp only
  rw [read_full arg11.view]
  sl_open_run
  sl_open_pay
  conv_rhs => rw [← harg3.read_unread x0, ← harg4.read_unread x1, ← harg5.read_unread x2, ← harg6.read_unread x3, ← harg7.read_unread x4, ← harg8.read_unread x5, ← harg9.read_unread x6]
  rfl

/-- The gradient of the values before the point's own stores. -/
abbrev g12 : arg12.view.ty.Contents (Elt F) :=
  if hc : kernelRun.sl.v7 i = 1#1 then arg12.view.writes (Elt F) f12 [⟨Rect.unit ![0, 0, 0] S1x512x64.size inb_S1x512x64_S1x512x64_0_0_0, k0_pay7⟩] else f12

set_option maxHeartbeats 64000000 in
/-- The gradient of the values at the end of the run. -/
theorem read_values : arg12.view.read (Elt F) (kernelRun c i arg3 harg3 arg4 harg4 arg5 harg5 arg6 harg6 arg7 harg7 arg8 harg8 arg9 harg9 arg10 harg10 arg11 harg11 arg12 harg12 arg13 harg13 x0 x1 x2 x3 x4 x5 x6 f10 f11 f12 f13).2.2.1 = (⟨x0, x1, x2, x3, x4, x5, x6⟩ : Ins F).dvOut (arg12.view.read (Elt F) (g12 i arg12 f12)) := by
  unfold kernelRun
  dsimp only
  rw [read_full arg12.view]
  sl_open_run
  sl_open_pay
  conv_rhs => rw [← harg3.read_unread x0, ← harg4.read_unread x1, ← harg5.read_unread x2, ← harg6.read_unread x3, ← harg7.read_unread x4, ← harg8.read_unread x5, ← harg9.read_unread x6]
  rfl

/-- The block of the queries' gradient at the end of the run. -/
theorem run_emitted : (kernelRun c i arg3 harg3 arg4 harg4 arg5 harg5 arg6 harg6 arg7 harg7 arg8 harg8 arg9 harg9 arg10 harg10 arg11 harg11 arg12 harg12 arg13 harg13 x0 x1 x2 x3 x4 x5 x6 f10 f11 f12 f13).1 = emitted c i arg3 harg3 arg4 harg4 arg5 harg5 arg6 harg6 arg7 harg7 arg8 harg8 arg9 harg9 arg10 harg10 arg11 harg11 arg12 harg12 arg13 harg13 (kernelRun c i arg3 harg3 arg4 harg4 arg5 harg5 arg6 harg6 arg7 harg7 arg8 harg8 arg9 harg9 arg10 harg10 arg11 harg11 arg12 harg12 arg13 harg13 x0 x1 x2 x3 x4 x5 x6 f10 f11 f12 f13).2.2.2.1 f10 := by
  unfold kernelRun
  dsimp only

theorem first_iff : ∀ i : grid0.Coords, kernelRun.sl.v4 i = 1#1 ↔ (i 1).val = 0 := by decide +kernel
theorem always : ∀ i : grid0.Coords, kernelRun.sl.v7 i = 1#1 := by decide +kernel
theorem last_iff : ∀ i : grid0.Coords, k0_cond3 i = 1#1 ↔ (i 1).val = 7 := by decide +kernel

end Cert.Kernel3Ideal.Hand

end
-- ==== Proof.DenseBody.lean ====
module

public import Idealize.ShloMosaic.Lib.Claim
public import proofs.«01_k».proof.Proof.DenseContents
public import proofs.«01_k».proof.Proof.DenseEmit
public import proofs.«01_k».proof.Proof.DenseRead

/-! The body of the dense attention's gradient at every point, and the run of the whole program. -/

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)

/-- The block of keys of a point. -/
theorem coord1 : ∀ t : Fin cfg0.N, (grid0.coords t 1).val = t.val % 8 :=
  (by decide +kernel : ∀ t : Fin grid0.N, (grid0.coords t 1).val = t.val % 8)
theorem first_pt (t : Fin cfg0.N) : kernelRun.sl.v4 (grid0.coords t) = 1#1 ↔ t.val % 8 = 0 := by
  rw [← coord1 t]
  exact first_iff _
theorem last_pt (t : Fin cfg0.N) : k0_cond3 (grid0.coords t) = 1#1 ↔ t.val % 8 = 7 := by
  rw [← coord1 t]
  exact last_iff _
/-- The queries' gradient is stored at a group's last point only. -/
theorem idle_7 : ∀ t : Fin cfg0.N, cfg0.idle 7 (cfg0.grid.coords t) = !decide (t.val % 8 = 7) :=
  (by decide +kernel : ∀ t : Fin grid0.N, idle0 7 (grid0.coords t) = !decide (t.val % 8 = 7))

/-- A memref's elements after stores, owned at what reads through them. -/
theorem owns_read (c : Dev nD) {s : Shape} {e : EltTy} (w : Memref sig .tc .vmem s e) (f : w.view.ty.Contents (Elt F)) (X : s.Idx → Elt F e)
    (h : w.view.read (Elt F) f = X) : (w.view.loc (c : Thread nD τ) ↦[w.view.set]{fullShare} f : sProp 𝕄) ⊢ owns (c : Thread nD τ) w fullShare X := by
  subst h; exact owns_intro (c : Thread nD τ) w fullShare f

theorem owns_open (c : Dev nD) {s : Shape} {e : EltTy} (w : Memref sig .tc .vmem s e) (X : s.Idx → Elt F e) :
    (owns (c : Thread nD τ) w fullShare X : sProp 𝕄) = iprop(∃ f, ⌜w.view.read (Elt F) f = X⌝ ∗ (w.view.loc (c : Thread nD τ) ↦[w.view.set]{fullShare} f)) := rfl

abbrev ms0 (t : Fin cfg0.N) : Memref sig .tc .vmem S4x4096x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x64 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x1x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x1x4096 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512x64 .f32 := win0_9.stage (cfg0.slots t 9)
abbrev hs9 (t : Fin cfg0.N) : (ms9 t).IsWhole := hstage0_9 ((cfg0.slots t 9).cast nbuf0_9)
abbrev sc0 : Memref sig .tc .vmem S16x256x256 .f32 := Memref.whole cc0_scratch0

/-- The class invariant is the scratch and the generator. -/
theorem PhiA_eq (c : Dev nD) : (Pipeline.ΦA spec0 c : sProp 𝕄) = iprop((∃ d, owns (c : Thread nD τ) sc0 fullShare d) ∗ (∃ r, prngReg c r)) := by
  unfold Pipeline.ΦA; rw [scopedRest0_eq]; simp only [sc0, owns_whole]; try rfl

theorem Phi_in (c : Dev nD) : (Pipeline.ΦA spec0 c : sProp 𝕄) ⊢ Inv m c 0 := by
  rw [PhiA_eq]
  unfold Inv
  iintro ⟨⟨%d, H⟩, Hg⟩
  isplitl [H]
  · iexists d
    isplitr
    · ipureintro; exact fun h => absurd rfl h
    iexact H
  iexact Hg

theorem Phi_out (c : Dev nD) (n : ℕ) : Inv m c n ⊢ (Pipeline.ΦA spec0 c : sProp 𝕄) := by
  rw [PhiA_eq]
  unfold Inv
  iintro ⟨⟨%d, %hd, H⟩, Hg⟩
  isplitl [H]
  · iexists d
    iexact H
  iexact Hg

/-- What the body leaves in the queries' gradient's buffer: what it found, but at a group's last point. -/
def post7 (c : Dev nD) (t : Fin cfg0.N) : sProp 𝕄 :=
  match cfg0.idle 7 (cfg0.grid.coords t) with
  | true =>
    match (cfg0.win 7).flush t with
    | false => iprop(∃ d, owns (c : Thread nD τ) (ms7 t) fullShare ((dats m 0 c).before 7 t d))
    | true => owns (c : Thread nD τ) (ms7 t) fullShare ((dats m 0 c).after 7 t)
  | false => owns (c : Thread nD τ) (ms7 t) fullShare ((dats m 0 c).after 7 t)

theorem post7_last (c : Dev nD) (t : Fin cfg0.N) (h : t.val % 8 = 7) : post7 m c t = owns (c : Thread nD τ) (ms7 t) fullShare ((dats m 0 c).after 7 t) := by
  unfold post7
  rw [idle_7, decide_eq_true h]
  rfl
theorem post7_other (c : Dev nD) (t : Fin cfg0.N) (h : ¬t.val % 8 = 7) : post7 m c t = iprop(∃ d, owns (c : Thread nD τ) (ms7 t) fullShare ((dats m 0 c).before 7 t d)) := by
  unfold post7
  rw [idle_7, decide_eq_false h, Bool.eq_false_iff.mpr fun e => h ((flush0_7 t).mp e)]
  rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ post7 m c t
    ∗ owns (c : Thread nD τ) (ms8 t) fullShare ((dats m 0 c).after 8 t)
    ∗ owns (c : Thread nD τ) (ms9 t) fullShare ((dats m 0 c).after 9 t))

section Point

variable (c : Dev nD) (t : Fin cfg0.N) (f7 : (ms7 t).view.ty.Contents (Elt F)) (f8 : (ms8 t).view.ty.Contents (Elt F)) (f9 : (ms9 t).view.ty.Contents (Elt F)) (fS : sc0.view.ty.Contents (Elt F))

/-- The run of the body at a point. -/
abbrev runAt := kernelRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) (iblk m c 0 t) (iblk m c 1 t) (iblk m c 2 t) (iblk m c 3 t) (iblk m c 4 t) (iblk m c 5 t) (iblk m c 6 t) f7 f8 f9 fS

/-- The scratch after the body. -/
theorem scr_pt (h : t.val ≠ 0 → sc0.view.read (Elt F) fS = scrAt m c (t.val - 1)) : sc0.view.read (Elt F) (runAt m c t f7 f8 f9 fS).2.2.2.1 = scrAt m c t.val := by
  refine (read_scratch c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) (iblk m c 0 t) (iblk m c 1 t) (iblk m c 2 t) (iblk m c 3 t) (iblk m c 4 t) (iblk m c 5 t) (iblk m c 6 t) f7 f8 f9 fS).trans ?_
  rw [scrAt_eq]
  refine congrArg (scrOut (ins m c t).dqt) ?_
  unfold scr0 scrBefore
  by_cases h0 : t.val % 8 = 0
  · rw [dif_pos ((first_pt t).mpr h0), if_pos h0]
    exact read_full sc0.view _ _ _
  · rw [dif_neg fun e => h0 ((first_pt t).mp e), if_neg h0]
    exact h fun e => h0 (by rw [e])

/-- The gradient of the keys after the body. -/
theorem dk_pt : (ms8 t).view.read (Elt F) (runAt m c t f7 f8 f9 fS).2.1 = dkAt m c t := by
  refine (read_keys c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) (iblk m c 0 t) (iblk m c 1 t) (iblk m c 2 t) (iblk m c 3 t) (iblk m c 4 t) (iblk m c 5 t) (iblk m c 6 t) f7 f8 f9 fS).trans ?_
  unfold dkAt
  refine congrArg ((ins m c t).dkOut (grid0.coords t)) ?_
  unfold g11
  rw [dif_pos (always _)]
  exact read_full (ms8 t).view _ _ _

/-- The gradient of the values after the body. -/
theorem dv_pt : (ms9 t).view.read (Elt F) (runAt m c t f7 f8 f9 fS).2.2.1 = dvAt m c t := by
  refine (read_values c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) (iblk m c 0 t) (iblk m c 1 t) (iblk m c 2 t) (iblk m c 3 t) (iblk m c 4 t) (iblk m c 5 t) (iblk m c 6 t) f7 f8 f9 fS).trans ?_
  unfold dvAt
  refine congrArg ((ins m c t).dvOut) ?_
  unfold g12
  rw [dif_pos (always _)]
  exact read_full (ms9 t).view _ _ _

/-- The gradient of the queries after the body. -/
theorem dq_pt (d) (h : t.val ≠ 0 → sc0.view.read (Elt F) fS = scrAt m c (t.val - 1)) (h7 : (ms7 t).view.read (Elt F) f7 = (dats m 0 c).before 7 t d) :
    ((ms7 t).view.loc (c : Thread nD τ) ↦[(ms7 t).view.set]{fullShare} (runAt m c t f7 f8 f9 fS).1 : sProp 𝕄) ⊢ post7 m c t := by
  have e0 := congrArg ((ms7 t).view.read (Elt F)) (run_emitted c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) (iblk m c 0 t) (iblk m c 1 t) (iblk m c 2 t) (iblk m c 3 t) (iblk m c 4 t) (iblk m c 5 t) (iblk m c 6 t) f7 f8 f9 fS)
  by_cases hl : t.val % 8 = 7
  · rw [post7_last m c t hl, after_7]
    refine owns_read c (ms7 t) _ _ (e0.trans ?_)
    refine (read_emitted c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) _ ((last_pt t).mpr hl) _).trans ?_
    exact congrArg dqOut (scr_pt m c t f7 f8 f9 fS h)
  · rw [post7_other m c t hl]
    iintro H
    iexists d
    iapply (owns_read c (ms7 t) _ _ ((e0.trans (congrArg ((ms7 t).view.read (Elt F)) (emitted_other c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) _ _ fun e => hl ((last_pt t).mp e)))).trans h7))
    iexact H

end Point

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before_0, before_1, before_2, before_3, before_4, before_5, before_6, owns_open c (ms7 t), owns_open c (ms8 t), owns_open c (ms9 t)]
  rw [Phi_castSucc]
  unfold Inv
  simp only [owns_open c sc0]
  iintro ⟨⟨⟨%dS, %hS, %fS, %eS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, %f7, %e7, H7⟩, ⟨%d8, %f8, %e8, H8⟩, ⟨%d9, %f9, %e9, H9⟩⟩
  have hS' : t.val ≠ 0 → sc0.view.read (Elt F) fS = scrAt m c (t.val - 1) := fun h => eS.trans (hS h)
  iapply ((runAt m c t f7 f8 f9 fS).2.2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, H9, HS⟩
  unfold bodyPost
  rw [Phi_succ, show (dats m 0 c).owesAt () t.succ = (dats m 0 c).owesAt () t.castSucc from rfl,
    after_0, after_1, after_2, after_3, after_4, after_5, after_6, after_8, after_9]
  unfold Inv
  isplitl [HS Hg]
  · isplitl [HS]
    · iexists (scrAt m c t.val)
      isplitr
      · ipureintro; exact fun _ => rfl
      iapply (owns_read c sc0 _ _ (scr_pt m c t f7 f8 f9 fS hS'))
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (dq_pt m c t f7 f8 f9 fS d7 hS' e7)
    iexact H7
  isplitl [H8]
  · iapply (owns_read c (ms8 t) _ _ (dk_pt m c t f7 f8 f9 fS))
    iexact H8
  iapply (owns_read c (ms9 t) _ _ (dv_pt m c t f7 f8 f9 fS))
  iexact H9

theorem defs₀_row (t : Fin cfg0.N) : defs₀ (F := F) .tc cfg0.body (cfg0.bodyArgs t (cfg0.slots t)) = bodyAt0 t := by
  unfold defs₀; rw [Defs.onTc_tc]

/-- The library's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem share_eq (c : Dev nD) (w : Fin cfg0.W) : (dats m 0 c).share w = fullShare := by
  unfold Dat.share
  dsimp only [dats]
  exact ite_self _

set_option backward.isDefEq.respectTransparency.types false in
/-- The whole program runs to its end; every window's array ends at what the proof data say, every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := share_eq m)
    (howed := fun _ _ => rfl) (V := V m) (hmain := hmain m Variants.none) (hA := A_eq m)
    (hin := fun c => Phi_in m c) (hout := fun c => Phi_out m c _)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Kernel3Ideal.Hand

end
-- ==== Proof.DenseFrame.lean ====
module

public import proofs.«01_k».proof.Defs
public import proofs.«01_k».proof.Proof.DenseBody
public import proofs.«01_k».proof.Proof.Gen.Kernel3

/-! The frame of the kernel as printed: over the machine's numbers a named constant is the constant itself, so the run of `DenseBody` is the run of the kernel. -/

@[expose] public section

set_option maxRecDepth 100000

noncomputable section

namespace Cert.Hand3

open Idealize.ShloMosaic Idealize.SL.Sem

/-- Over the machine's numbers a name is read as the number it names. -/
local instance : Named Bits where
  named _ _ {φ} bits := Scalar.ofBits (F := Bits) φ bits

set_option maxHeartbeats 0 in
/-- The two bodies are one. -/
theorem body_eq : @Cert.Kernel3.cc0_attn_a_bwd Bits _ _ = @Cert.Kernel3Ideal.cc0_attn_a_bwd Bits _ _ _ := by
  unfold Cert.Kernel3.cc0_attn_a_bwd Cert.Kernel3Ideal.cc0_attn_a_bwd
  rfl

set_option maxHeartbeats 0 in
/-- And so are the tables of bodies. -/
theorem defs₀_eq : @Cert.Kernel3.defs₀ Bits _ _ = @Cert.Kernel3Ideal.defs₀ Bits _ _ _ := by
  unfold Cert.Kernel3.defs₀ Cert.Kernel3Ideal.defs₀
  refine congrArg Defs.onTc (funext fun l => funext fun x => ?_)
  match l, x with
  | 0, (t, s) =>
    dsimp only
    rw [body_eq]
    rfl

set_option maxHeartbeats 0 in
theorem defs_eq : @Cert.Kernel3.defs Bits _ _ = @Cert.Kernel3Ideal.defs Bits _ _ _ :=
  congrArg (Pipeline.defs (@Cert.Kernel3Ideal.pcfgs Bits _)) defs₀_eq

set_option maxHeartbeats 0 in
/-- The host code is the same. -/
theorem main_eq : @Cert.Kernel3.main Bits _ _ = @Cert.Kernel3Ideal.main Bits _ _ := by
  unfold Cert.Kernel3.main Cert.Kernel3Ideal.main
  rfl

/-- A run of one program is a run of an equal one. -/
theorem transfer {D M} (hD : D = @Cert.Kernel3Ideal.defs Bits _ _ _) (hM : M = @Cert.Kernel3Ideal.main Bits _ _) {s Q}
    (h : θ_run (@Cert.Kernel3Ideal.defs Bits _ _ _) (onTc (τ := Cert.Kernel3Ideal.τ) (@Cert.Kernel3Ideal.main Bits _ _)) s Q) :
    θ_run D (onTc (τ := Cert.Kernel3Ideal.τ) M) s Q := by
  subst hD hM
  exact h

set_option maxHeartbeats 0 in
/-- The kernel as printed ends without a fault, its arguments unchanged and its semaphores at zero. -/
theorem frame_kernel : Cert.quiescent_Kernel3 := fun m ρ _ =>
  transfer defs_eq main_eq (Cert.Kernel3Ideal.Hand.frame (F := Bits) m ρ)

end Cert.Hand3

end
-- ==== Proof.DenseSpec.lean ====
module

public import Idealize.ShloMosaic.Lib.Pointwise
public import proofs.«01_k».proof.Proof.Words

/-! The dense attention of reference.py and its gradient, in real numbers: two groups of four heads, 4096 positions, every group
with keys and values of 64 features. -/

@[expose] public section

noncomputable section

namespace Cert.Dense

open Idealize.ShloMosaic

/-- The scale, 1/√64. -/
def σ : ℝ := 1 / 8

theorem c_σ : Ideal.ofBits .f32 0x3E000000#32 = ((σ : ℝ) : EReal) := by
  unfold σ
  simp [Ideal.ofBits, Ideal.ieee, -EReal.coe_mul]; norm_num

/-- The four arguments, entry by entry: the queries and the cotangent by position, group, head and feature, the keys and values by
group, position and feature. -/
structure Args where
  q : Fin 4096 → Fin 2 → Fin 4 → Fin 64 → ℝ
  k : Fin 2 → Fin 4096 → Fin 64 → ℝ
  v : Fin 2 → Fin 4096 → Fin 64 → ℝ
  ct : Fin 4096 → Fin 2 → Fin 4 → Fin 64 → ℝ

namespace Args

variable (A : Args)

variable (g : Fin 2) (h : Fin 4) (s n : Fin 4096)

/-- The score of a key for a query. -/
def score : ℝ := (∑ d, A.k g n d * A.q s g h d) * σ

/-- The greatest score of a query. -/
def top : ℝ := (Finset.univ : Finset (Fin 4096)).sup' Finset.univ_nonempty (A.score g h s)

/-- The exponential of a key's score. -/
def e : ℝ := Real.exp (A.score g h s n - A.top g h s)

/-- The softmax's denominator. -/
def Z : ℝ := ∑ n, A.e g h s n

/-- The probability of a key. -/
def pr : ℝ := A.e g h s n * (1 / A.Z g h s)

/-- The gradient by the probabilities. -/
def dP : ℝ := ∑ d, A.ct s g h d * A.v g n d

/-- The gradient by the denominator. -/
def cc : ℝ := -∑ n, A.dP g h s n * (1 * (1 / (A.Z g h s * A.Z g h s))) * A.e g h s n

/-- The gradient by the scores. -/
def dS : ℝ := (A.dP g h s n * (1 / A.Z g h s) + A.cc g h s) * A.e g h s n

/-- The gradients: of the values and keys by group, of the queries by head. -/
def dV (d : Fin 64) : ℝ := ∑ h, ∑ s, A.ct s g h d * A.pr g h s n
@[inherit_doc dV]
def dK (d : Fin 64) : ℝ := ∑ h, ∑ s, A.dS g h s n * σ * A.q s g h d
@[inherit_doc dV]
def dQ (d : Fin 64) : ℝ := ∑ n, A.dS g h s n * σ * A.k g n d

theorem Z_pos : 0 < A.Z g h s := Finset.sum_pos (fun _ _ => Real.exp_pos _) Finset.univ_nonempty

theorem Z_ne : A.Z g h s ≠ 0 := (A.Z_pos g h s).ne'

/-- The row sum `∑ ct · o` of the attention's output. -/
def delta : ℝ := ∑ d, A.ct s g h d * ∑ n, A.v g n d * A.pr g h s n

/-- The gradient by the scores as the flash form has it. -/
theorem dS_eq : A.dS g h s n = A.pr g h s n * (A.dP g h s n - A.delta g h s) := by
  have hz := A.Z_ne g h s
  have h1 : A.delta g h s = ∑ n, A.dP g h s n * A.pr g h s n := by
    unfold delta dP
    simp only [Finset.mul_sum, Finset.sum_mul]
    rw [Finset.sum_comm]
    exact Finset.sum_congr rfl fun n _ => Finset.sum_congr rfl fun d _ => by ring
  have h2 : A.cc g h s = -(A.delta g h s * (1 / A.Z g h s)) := by
    rw [h1]
    unfold cc pr
    rw [Finset.sum_mul]
    exact congrArg _ (Finset.sum_congr rfl fun n _ => by field_simp)
  unfold dS pr
  rw [h2]; ring

/-- The greatest of the scores, over the extended reals. -/
theorem fold_max : (Finset.univ : Finset (Fin 4096)).fold max ⊥ (fun n => (A.score g h s n : EReal)) = (A.top g h s : EReal) := by
  apply le_antisymm
  · rw [Finset.fold_max_le]
    exact ⟨bot_le, fun n _ => EReal.coe_le_coe_iff.mpr (Finset.le_sup' (A.score g h s) (Finset.mem_univ n))⟩
  · obtain ⟨n, _, e⟩ := Finset.exists_mem_eq_sup' (Finset.univ_nonempty (α := Fin 4096)) (A.score g h s)
    rw [Finset.le_fold_max]
    refine Or.inr ⟨n, Finset.mem_univ _, ?_⟩
    unfold top
    rw [e]

end Args

end Cert.Dense

end
-- ==== Proof.DenseValue.lean ====
module

public import proofs.«01_k».proof.Proof.DenseBlocks
public import proofs.«01_k».proof.Proof.DenseSpec
public import proofs.«01_k».proof.Proof.LatentValue

/-! What a grid point of `attn_a_bwd` computes, in real numbers, when its blocks hold the numbers of group `g` and of the `j`-th 512
keys. -/

@[expose] public section

set_option maxRecDepth 16384

noncomputable section

namespace Cert.Dense

/-- What a query is multiplied by. -/
def qscale : ℝ := σ * (1 / Real.log 2)

/-- Query `x` of block `u`. -/
def qry (u : Fin 16) (x : Fin 256) : Fin 4096 := ⟨256 * u.val + x.val, by omega⟩

end Cert.Dense

namespace Cert.Kernel3Ideal.Hand

open Idealize.ShloMosaic Idealize.ShloMosaic.TcCoe
open Cert.Kernel3Ideal.Gen Cert.Dense
open Cert.Attn (coe_sum div_real)
open Cert.Latent (key log2_ne)
open Cert.Kernel2Ideal.Hand (col four sum_col)

/-- The blocks hold the numbers `A` of group `g` and of the `j`-th keys. -/
structure Has (A : Args) (g : Fin 2) (j : Fin 8) (X : Ins Ideal) : Prop where
  q : ∀ (h : Fin 4) (s : Fin 4096) (d : Fin 64), X.q (ix3 h s d) = ((A.q s g h d * qscale : ℝ) : EReal)
  k : ∀ (r : Fin 512) (d : Fin 64), X.k (ix3 0 r d) = (A.k g (key j r) d : EReal)
  kt : ∀ (r : Fin 512) (d : Fin 64), X.kt (ix3 0 d r) = (A.k g (key j r) d : EReal)
  v : ∀ (r : Fin 512) (d : Fin 64), X.v (ix3 0 r d) = (A.v g (key j r) d : EReal)
  dy : ∀ (h : Fin 4) (s : Fin 4096) (d : Fin 64) (c : Fin 256), c.val = 64 * h.val + d.val → X.dy (ix2 s c) = (A.ct s g h d : EReal)
  lse : ∀ (h : Fin 4) (s : Fin 4096), X.lse (ix3 h 0 s) = (((A.top g h s + Real.log (A.Z g h s)) * (1 / Real.log 2) : ℝ) : EReal)
  dl : ∀ (h : Fin 4) (s : Fin 4096), X.dl (ix3 h 0 s) = (A.delta g h s : EReal)

variable (X : Ins Ideal)

theorem kk_read (r : Fin 512) (d : Fin 64) : X.kk (ix2 r d) = X.k (ix3 0 r d) := by
  pointwise [Ins.kk]
theorem vv_read (r : Fin 512) (d : Fin 64) : X.vv (ix2 r d) = X.v (ix3 0 r d) := by
  pointwise [Ins.vv]
theorem kkt_read (r : Fin 512) (d : Fin 64) : X.kkt (ix2 d r) = X.kt (ix3 0 d r) := by
  pointwise [Ins.kkt]
theorem dyH_read (u : Fin 16) (h : Fin 4) (x : Fin 256) (d : Fin 64) : X.dyH u h (ix2 x d) = X.dy (ix2 (qry u x) ⟨64 * h.val + d.val, by omega⟩) := by
  pointwise [Ins.dyH]
  rfl
theorem dd_read (u : Fin 16) (h : Fin 4) (x : Fin 256) (d : Fin 64) : X.dd u (ix2 (col h x) d) = X.dyH u h (ix2 x d) := by
  pointwise [Ins.dd]
  exact four (fun h x => X.dyH u h (ix2 x d)) h x _ rfl
theorem rowH_read (u : Fin 16) (R : Vec Ideal S4x1x4096 .f32) (h : Fin 4) (x : Fin 256) : Ins.rowH u R h (ix2 0 x) = R (ix3 h 0 (qry u x)) := by
  pointwise [Ins.rowH]
  rfl
theorem rows_read (u : Fin 16) (R : Vec Ideal S4x1x4096 .f32) (h : Fin 4) (r : Fin 512) (x : Fin 256) : Ins.rows u R (ix2 r (col h x)) = Ins.rowH u R h (ix2 0 x) := by
  pointwise [Ins.rows]
  exact four (fun h x => Ins.rowH u R h (ix2 0 x)) h x _ rfl
/-- Three dimensions read as two. -/
theorem flat_read (V : FVec Ideal S4x256x64 .bf16) (c : Fin 1024) (d : Fin 64) :
    shapeCast S1024x64 V shapeCasts_S4x256x64_S1024x64 (ix2 c d) = V (ix3 ⟨c.val / 256, by omega⟩ ⟨c.val % 256, by omega⟩ d) := by
  pointwise
theorem qq_read (u : Fin 16) (h : Fin 4) (x : Fin 256) (d : Fin 64) : X.qq u (ix2 (col h x) d) = X.q (ix3 h (qry u x) d) := by
  rw [Ins.qq, flat_read]
  have e1 : (⟨(col h x).val / 256, by omega⟩ : Fin 4) = h := Fin.ext (by simp only [col]; omega)
  have e2 : (⟨(col h x).val % 256, by omega⟩ : Fin 256) = x := Fin.ext (by simp only [col]; omega)
  rw [e1, e2]
  pointwise
  rfl

variable {X} {A : Args} {g : Fin 2} {j : Fin 8} (H : Has A g j X)
include H

theorem kk_at (r : Fin 512) (d : Fin 64) : X.kk (ix2 r d) = (A.k g (key j r) d : EReal) := by
  rw [kk_read, H.k]
theorem vv_at (r : Fin 512) (d : Fin 64) : X.vv (ix2 r d) = (A.v g (key j r) d : EReal) := by
  rw [vv_read, H.v]
theorem kkt_at (r : Fin 512) (d : Fin 64) : X.kkt (ix2 d r) = (A.k g (key j r) d : EReal) := by
  rw [kkt_read, H.kt]
theorem qq_at (u : Fin 16) (h : Fin 4) (x : Fin 256) (d : Fin 64) : X.qq u (ix2 (col h x) d) = ((A.q (qry u x) g h d * qscale : ℝ) : EReal) := by
  rw [qq_read, H.q]
theorem dd_at (u : Fin 16) (h : Fin 4) (x : Fin 256) (d : Fin 64) : X.dd u (ix2 (col h x) d) = (A.ct (qry u x) g h d : EReal) := by
  rw [dd_read, dyH_read]
  exact H.dy h _ d _ rfl
theorem lse_at (u : Fin 16) (h : Fin 4) (r : Fin 512) (x : Fin 256) : Ins.rows u X.lse (ix2 r (col h x)) =
    (((A.top g h (qry u x) + Real.log (A.Z g h (qry u x))) * (1 / Real.log 2) : ℝ) : EReal) := by
  rw [rows_read, rowH_read]
  exact H.lse h _
theorem dl_at (u : Fin 16) (h : Fin 4) (r : Fin 512) (x : Fin 256) : Ins.rows u X.dl (ix2 r (col h x)) = (A.delta g h (qry u x) : EReal) := by
  rw [rows_read, rowH_read]
  exact H.dl h _

/-- The scores in base-2 units. -/
theorem st_at (u : Fin 16) (r : Fin 512) (h : Fin 4) (x : Fin 256) : X.st u (ix2 r (col h x)) = ((A.score g h (qry u x) (key j r) * (1 / Real.log 2) : ℝ) : EReal) := by
  have hr : X.st u (ix2 r (col h x)) = ∑ d : Fin 64, X.kk (ix2 r d) * X.qq u (ix2 (col h x) d) := by
    pointwise [Ins.st]
  unfold Args.score
  rw [hr, mul_assoc, Finset.sum_mul, ← coe_sum]
  refine Finset.sum_congr rfl fun d _ => ?_
  rw [kk_at H, qq_at H, ← EReal.coe_mul, mul_assoc]
  rfl

/-- The probabilities. -/
theorem p_at (u : Fin 16) (r : Fin 512) (h : Fin 4) (x : Fin 256) : X.p u (ix2 r (col h x)) = (A.pr g h (qry u x) (key j r) : EReal) := by
  have hr : X.p u (ix2 r (col h x)) = Ideal.exp2 (X.st u (ix2 r (col h x)) - Ins.rows u X.lse (ix2 r (col h x))) := by
    pointwise [Ins.p]
    rfl
  rw [hr, st_at H, lse_at H, ← EReal.coe_sub, Ideal.exp2_coe]
  unfold Args.pr Args.e
  congr 1
  show (2 : ℝ) ^ (_ : ℝ) = _
  rw [Real.rpow_def_of_pos (by norm_num), ← sub_mul, mul_comm, mul_assoc, one_div_mul_cancel log2_ne, mul_one, sub_add_eq_sub_sub, Real.exp_sub,
    Real.exp_log (A.Z_pos g h _), div_eq_mul_one_div]

/-- The gradient by the scores, times the scale. -/
theorem ds_at (u : Fin 16) (r : Fin 512) (h : Fin 4) (x : Fin 256) : X.ds u (ix2 r (col h x)) = ((A.dS g h (qry u x) (key j r) * σ : ℝ) : EReal) := by
  have hr : X.ds u (ix2 r (col h x)) = X.p u (ix2 r (col h x)) * ((∑ d : Fin 64, X.vv (ix2 r d) * X.dd u (ix2 (col h x) d)) - Ins.rows u X.dl (ix2 r (col h x))) * (σ : EReal) := by
    rw [← c_σ]
    pointwise [Ins.ds, Ins.dp]
  have hs : (∑ d : Fin 64, X.vv (ix2 r d) * X.dd u (ix2 (col h x) d)) = (A.dP g h (qry u x) (key j r) : EReal) := by
    unfold Args.dP
    rw [← coe_sum]
    exact Finset.sum_congr rfl fun d _ => by rw [vv_at H, dd_at H, ← EReal.coe_mul, mul_comm]
  rw [hr, hs, p_at H, dl_at H, ← EReal.coe_sub, ← EReal.coe_mul, ← EReal.coe_mul, A.dS_eq]

/-- What a block adds to the gradients of its values. -/
theorem dvC_at (u : Fin 16) (r : Fin 512) (d : Fin 64) : X.dvC u (ix2 r d) =
    ((∑ h : Fin 4, ∑ x : Fin 256, A.ct (qry u x) g h d * A.pr g h (qry u x) (key j r) : ℝ) : EReal) := by
  have hr : X.dvC u (ix2 r d) = ∑ c : Fin 1024, X.p u (ix2 r c) * X.dd u (ix2 c d) := by
    pointwise [Ins.dvC]
  rw [hr, sum_col, ← coe_sum]
  refine Finset.sum_congr rfl fun h _ => ?_
  rw [← coe_sum]
  exact Finset.sum_congr rfl fun x _ => by rw [p_at H, dd_at H, ← EReal.coe_mul, mul_comm]

/-- What a block adds to the gradients of its keys, with the queries' factor. -/
theorem dkC_at (u : Fin 16) (r : Fin 512) (d : Fin 64) : X.dkC u (ix2 r d) =
    ((∑ h : Fin 4, ∑ x : Fin 256, A.dS g h (qry u x) (key j r) * σ * A.q (qry u x) g h d * qscale : ℝ) : EReal) := by
  have hr : X.dkC u (ix2 r d) = ∑ c : Fin 1024, X.ds u (ix2 r c) * X.qq u (ix2 c d) := by
    pointwise [Ins.dkC]
  rw [hr, sum_col, ← coe_sum]
  refine Finset.sum_congr rfl fun h _ => ?_
  rw [← coe_sum]
  exact Finset.sum_congr rfl fun x _ => by rw [ds_at H, qq_at H, ← EReal.coe_mul, mul_assoc, mul_assoc, mul_assoc]

/-- What the point adds to the gradient of its queries. -/
theorem dqt_at (u : Fin 16) (h : Fin 4) (x : Fin 256) (d : Fin 64) : X.dqt u (ix2 d (col h x)) =
    ((∑ r : Fin 512, A.dS g h (qry u x) (key j r) * σ * A.k g (key j r) d : ℝ) : EReal) := by
  have hr : X.dqt u (ix2 d (col h x)) = ∑ r : Fin 512, X.kkt (ix2 d r) * X.ds u (ix2 r (col h x)) := by
    pointwise [Ins.dqt]
  rw [hr, ← coe_sum]
  exact Finset.sum_congr rfl fun r _ => by rw [kkt_at H, ds_at H, ← EReal.coe_mul, mul_comm]

end Cert.Kernel3Ideal.Hand

end
-- ==== Proof.DenseSums.lean ====
module

public import proofs.«01_k».proof.Proof.DenseValue
public import proofs.«01_k».proof.Proof.LatentSums

/-! What the points of a group leave: sums over blocks of keys and of queries of the dense attention, in real numbers. -/

@[expose] public section

set_option maxRecDepth 16384

noncomputable section

namespace Cert.Dense

open Cert.Latent (key sum_blocks sum_keys log2_ne)

theorem sum_queries (f : Fin 4096 → ℝ) : ∑ s, f s = ∑ u : Fin 16, ∑ x : Fin 256, f (qry u x) := sum_blocks (a := 16) (b := 256) rfl f

/-- What the queries give to a key, block by block. -/
def give (f : Fin 4 → Fin 4096 → ℝ) : ℝ := ∑ u : Fin 16, ∑ h : Fin 4, ∑ x : Fin 256, f h (qry u x)

theorem give_eq (f : Fin 4 → Fin 4096 → ℝ) : give f = ∑ h, ∑ s, f h s := by
  unfold give
  rw [Finset.sum_comm]
  exact Finset.sum_congr rfl fun h _ => (sum_queries (f h)).symm

/-- The part of the gradient of a query that comes from the `j`-th keys. -/
def part (A : Args) (g : Fin 2) (h : Fin 4) (s : Fin 4096) (d : Fin 64) (j : Fin 8) : ℝ := ∑ r : Fin 512, A.dS g h s (key j r) * σ * A.k g (key j r) d

theorem sum_part (A : Args) (g : Fin 2) (h : Fin 4) (s : Fin 4096) (d : Fin 64) : ∑ j, part A g h s d j = A.dQ g h s d := (sum_keys fun n => A.dS g h s n * σ * A.k g n d).symm

/-- The factor that is taken out of the keys' gradients. -/
theorem take_out (x : ℝ) : x * qscale * (8 * Real.log 2) = x := by
  have h2 := log2_ne
  unfold qscale σ
  field_simp

end Cert.Dense

namespace Cert.Kernel3Ideal.Hand

open Idealize.ShloMosaic Idealize.ShloMosaic.TcCoe
open Cert.Kernel3Ideal.Gen Cert.Dense
open Cert.Latent (key)
open Cert.Kernel2Ideal.Hand (col)

/-- The first `k` of sixteen terms added at an index. -/
theorem adds_upto {s : Shape} (Y : FVec Ideal s .f32) (C : Fin 16 → FVec Ideal s .f32) (i : s.Idx) (y : ℝ) (f : Fin 16 → ℝ) (hY : Y i = (y : EReal)) (hC : ∀ u, C u i = (f u : EReal)) :
    ∀ (k : ℕ) (hk : k ≤ 16), adds Y C k hk i = ((y + ∑ u : Fin 16, if u.val < k then f u else 0 : ℝ) : EReal)
  | 0, _ => by
      unfold adds
      rw [hY]
      simp
  | k + 1, hk => by
      unfold adds
      have ih := adds_upto Y C i y f hY hC k (Nat.le_of_succ_le hk)
      have hs : (∑ u : Fin 16, if u.val < k + 1 then f u else 0 : ℝ) = (∑ u : Fin 16, if u.val < k then f u else 0) + f ⟨k, hk⟩ := by
        have h1 : f ⟨k, hk⟩ = ∑ u : Fin 16, if u.val = k then f u else 0 := by
          rw [Finset.sum_eq_single ⟨k, hk⟩]
          · rw [if_pos rfl]
          · intro u _ hu
            exact if_neg fun e => hu (Fin.ext e)
          · intro hh; exact absurd (Finset.mem_univ _) hh
        rw [h1, ← Finset.sum_add_distrib]
        refine Finset.sum_congr rfl fun u _ => ?_
        rcases lt_trichotomy u.val k with h | h | h
        · rw [if_pos (by omega), if_pos h, if_neg (by omega), add_zero]
        · rw [if_pos (by omega), if_neg (by omega), if_pos h, zero_add]
        · rw [if_neg (by omega), if_neg (by omega), if_neg (by omega), add_zero]
      show adds Y C k _ i + C ⟨k, hk⟩ i = _
      rw [ih, hC, ← EReal.coe_add, hs, add_assoc]

theorem adds_at {s : Shape} (Y : FVec Ideal s .f32) (C : Fin 16 → FVec Ideal s .f32) (i : s.Idx) (y : ℝ) (f : Fin 16 → ℝ) (hY : Y i = (y : EReal)) (hC : ∀ u, C u i = (f u : EReal)) :
    adds Y C 16 (le_refl 16) i = ((y + ∑ u : Fin 16, f u : ℝ) : EReal) := by
  rw [adds_upto Y C i y f hY hC]
  exact congrArg (fun z : ℝ => ((y + z : ℝ) : EReal)) (Finset.sum_congr rfl fun u _ => if_pos u.isLt)

theorem upV_read (V : FVec Ideal S512x64 .f32) (z : Fin 1) (a : Fin 512) (d : Fin 64) : shapeCast S1x512x64 V shapeCasts_S512x64_S1x512x64 (ix3 z a d) = V (ix2 a d) := by
  pointwise
theorem downV_read (Y : Vec Ideal S1x512x64 .f32) (a : Fin 512) (d : Fin 64) :
    shapeCast S512x64 (View.ld (Val := Elt Ideal) Y (Rect.unit ![0, 0, 0] S1x512x64.size inb_S1x512x64_S1x512x64_0_0_0)) shapeCasts_S1x512x64_S512x64 (ix2 a d) = Y (ix3 0 a d) := by
  pointwise
theorem zeroS_read (y : Fin 16) (w : Fin 256) (x : Fin 256) : zeroS (F := Ideal) (ix3 y w x) = ((0 : ℝ) : EReal) := by
  rw [EReal.coe_zero]
  pointwise [zeroS, k0_pay5]
theorem zeroK_read (z : Fin 1) (r : Fin 512) (d : Fin 64) : zeroK (F := Ideal) (ix3 z r d) = ((0 : ℝ) : EReal) := by
  rw [EReal.coe_zero]
  pointwise [zeroK, k0_pay6]
theorem zeroV_read (z : Fin 1) (r : Fin 512) (d : Fin 64) : zeroV (F := Ideal) (ix3 z r d) = ((0 : ℝ) : EReal) := by
  rw [EReal.coe_zero]
  pointwise [zeroV, k0_pay7]

theorem k0_pay263_read (a : BitVec 32) (ha : a = 0#32) (V : FVec Ideal S512x64 .f32) (z : Fin 1) (r : Fin 512) (d : Fin 64) :
    k0_pay263 a V (ix3 z r d) = V (ix2 r d) * ((8 * Real.log 2 : ℝ) : EReal) := by
  subst ha
  exact upV_read (mulf V (broadcast S512x64 (Named.named (F := Ideal) κ "inv_scale_a_log2e" (φ := .f32) 0x40B17218#32))) z r d

section Point

variable {X : Ins Ideal} {A : Args} {g : Fin 2} {j : Fin 8} (H : Has A g j X)
include H

/-- The values' gradients after a point. -/
theorem dvOut_at (Y : Vec Ideal S1x512x64 .f32) (z : Fin 1) (r : Fin 512) (d : Fin 64) (y : ℝ) (hY : Y (ix3 0 r d) = (y : EReal)) :
    X.dvOut Y (ix3 z r d) = ((y + give fun h s => A.ct s g h d * A.pr g h s (key j r) : ℝ) : EReal) := by
  unfold Ins.dvOut
  rw [upV_read]
  exact adds_at _ _ _ y (fun u => ∑ h : Fin 4, ∑ x : Fin 256, A.ct (qry u x) g h d * A.pr g h (qry u x) (key j r)) ((downV_read Y r d).trans hY) (fun u => dvC_at H u r d)

/-- The keys' gradients after a point. -/
theorem dkOut_at (i : grid0.Coords) (hi : (i 2).val = 0) (Y : Vec Ideal S1x512x64 .f32) (z : Fin 1) (r : Fin 512) (d : Fin 64) (y : ℝ) (hY : Y (ix3 0 r d) = (y : EReal)) :
    X.dkOut i Y (ix3 z r d) = (((y + give fun h s => A.dS g h s (key j r) * σ * A.q s g h d * qscale) * (8 * Real.log 2) : ℝ) : EReal) := by
  unfold Ins.dkOut
  rw [k0_pay263_read _ (by rw [hi])]
  rw [adds_at _ X.dkC (ix2 r d) y (fun u => ∑ h : Fin 4, ∑ x : Fin 256, A.dS g h (qry u x) (key j r) * σ * A.q (qry u x) g h d * qscale) ((downV_read Y r d).trans hY) (fun u => dkC_at H u r d)]
  rw [← EReal.coe_mul]; rfl

end Point

/-! ### The scratch -/

/-- The place of feature `d` of head `h` of the queries of block `u`. -/
def slot (u : Fin 16) (h : Fin 4) (d : Fin 64) (x : Fin 256) : S16x256x256.Idx := ix3 u (⟨64 * h.val + d.val, by omega⟩ : Fin 256) x

theorem upS_read (V : FVec Ideal S64x256 .f32) (z : Fin 1) (d : Fin 64) (x : Fin 256) : shapeCast S1x64x256 V shapeCasts_S64x256_S1x64x256 (ix3 z d x) = V (ix2 d x) := by
  pointwise
theorem downS_read (W : FVec Ideal S1x64x256 .f32) (d : Fin 64) (x : Fin 256) : shapeCast S64x256 W shapeCasts_S1x64x256_S64x256 (ix2 d x) = W (ix3 0 d x) := by
  pointwise

theorem scrPay_read (D : Fin 16 → FVec Ideal S64x1024 .f32) (S : Vec Ideal S16x256x256 .f32) (u : Fin 16) (h : Fin 4) (z : Fin 1) (d : Fin 64) (x : Fin 256) :
    scrPay D S u h (ix3 z d x) = S (slot u h d x) + D u (ix2 d (col h x)) := by
  unfold scrPay
  rw [upS_read]
  refine congrArg₂ (fun p q : EReal => p + q) ((downS_read _ d x).trans ?_) ?_
  · refine congrArg S (funext fun a => ?_)
    fin_cases a
    · exact Fin.ext (by show u.val + 1 * 0 = u.val; omega)
    · exact Fin.ext (by show 64 * h.val + 1 * d.val = 64 * h.val + d.val; omega)
    · exact Fin.ext (by show 0 + 1 * x.val = x.val; omega)
  · refine congrArg (D u) (funext fun a => ?_)
    fin_cases a
    · exact Fin.ext (by show 0 + d.val = d.val; omega)
    · exact Fin.ext (by show 256 * h.val + x.val = 256 * h.val + x.val; rfl)

theorem scrOut_read (D : Fin 16 → FVec Ideal S64x1024 .f32) (S : Vec Ideal S16x256x256 .f32) (u : Fin 16) (h : Fin 4) (d : Fin 64) (x : Fin 256) :
    scrOut D S (slot u h d x) = S (slot u h d x) + D u (ix2 d (col h x)) := by
  have eh : (⟨((slot u h d x) 1).val / 64, by show (64 * h.val + d.val) / 64 < 4; omega⟩ : Fin 4) = h := Fin.ext (by show (64 * h.val + d.val) / 64 = h.val; omega)
  have el : scrLoc (slot u h d x) = (ix3 (0 : Fin 1) d x : S1x64x256.Idx) := by
    funext a
    fin_cases a
    · rfl
    · exact Fin.ext (by show (64 * h.val + d.val) % 64 = d.val; omega)
    · rfl
  unfold scrOut
  rw [eh, el]
  exact scrPay_read D S u h 0 d x

theorem dqOut_read (S : Vec Ideal S16x256x256 .f32) (u : Fin 16) (x : Fin 256) (h : Fin 4) (d : Fin 64) (c : Fin 256) (hc : c.val = 64 * h.val + d.val) :
    dqOut S (ix2 (qry u x) c) = S (slot u h d x) := by
  unfold dqOut
  refine congrArg S (funext fun a => ?_)
  fin_cases a
  · exact Fin.ext (by show (256 * u.val + x.val) / 256 = u.val; omega)
  · exact Fin.ext hc
  · exact Fin.ext (by show (256 * u.val + x.val) % 256 = x.val; omega)

end Cert.Kernel3Ideal.Hand

end
-- ==== Proof.DenseRef.lean ====
module

public import proofs.«01_k».proof.Proof.Gen.Reference3Ideal.Run
public import proofs.«01_k».proof.Proof.DenseSpec

/-! What the reference of the dense attention returns, entry by entry: the gradients of `DenseSpec`. -/

@[expose] public section

set_option maxRecDepth 16384

noncomputable section

namespace Cert.Dense

open Idealize.ShloMosaic Idealize.ShloMosaic.TcCoe
open Cert.Attn (coe_sum div_real c_bot)

/-- The arrays hold the numbers `A`. -/
structure Holds (A : Args) (q : FVec Ideal Cert.Reference3Ideal.S4096x512 .f32) (k v : FVec Ideal Cert.Reference3Ideal.S2x4096x64 .f32)
    (ct : FVec Ideal Cert.Reference3Ideal.S4096x512 .f32) : Prop where
  q : ∀ (s : Fin 4096) (g : Fin 2) (h : Fin 4) (d : Fin 64) (x : Fin 512), x.val = g.val * 256 + h.val * 64 + d.val → q (ix2 s x) = (A.q s g h d : EReal)
  k : ∀ (g : Fin 2) (n : Fin 4096) (d : Fin 64), k (ix3 g n d) = (A.k g n d : EReal)
  v : ∀ (g : Fin 2) (n : Fin 4096) (d : Fin 64), v (ix3 g n d) = (A.v g n d : EReal)
  ct : ∀ (s : Fin 4096) (g : Fin 2) (h : Fin 4) (d : Fin 64) (x : Fin 512), x.val = g.val * 256 + h.val * 64 + d.val → ct (ix2 s x) = (A.ct s g h d : EReal)

namespace Ref

open Cert.Reference3Ideal Cert.Reference3Ideal.Gen Cert.Reference3Ideal.Value

/-! ### The arrays -/

/-- The queries by group and head. -/
def qT (q : FVec Ideal S4096x512 .f32) : FVec Ideal S4096x2x4x64 .f32 := shapeCast S4096x2x4x64 q shapeCasts_S4096x512_S4096x2x4x64

/-- The scores. -/
def scoreOf (a : FVec Ideal S4096x2x4x64 .f32) (k : FVec Ideal S2x4096x64 .f32) : FVec Ideal S2x4x4096x4096 .f32 :=
  mulf (transpose S2x4x4096x4096 [0, 3, 2, 1] (Host.dotGeneral dot_S2x4096x64_S4096x2x4x64_S2x4096x4096x4_2_3_1_02_0_1 none k a) transposes_S2x4096x4096x4_S2x4x4096x4096_0_3_2_1)
    (broadcastInDim S2x4x4096x4096 ![] bcast_S_S2x4x4096x4096 (constant S_ .f32 0x3E000000#32))

/-- The rows' greatest scores. -/
def rmaxOf (sc : FVec Ideal S2x4x4096x4096 .f32) : FVec Ideal S2x4x4096 .f32 :=
  Host.reduce FloatOps.maximumf sc (constant S_ .f32 0xFF800000#32) reducesTo_S2x4x4096x4096_S2x4x4096_d3 h_S_
@[inherit_doc rmaxOf]
def topOf (r : FVec Ideal S2x4x4096 .f32) : FVec Ideal S2x4x4096 .f32 :=
  maximumf (broadcastInDim S2x4x4096 ![] bcast_S_S2x4x4096 (constant S_ .f32 0xFF800000#32)) r

/-- The exponentials. -/
def eOf (sc : FVec Ideal S2x4x4096x4096 .f32) (t : FVec Ideal S2x4x4096 .f32) : FVec Ideal S2x4x4096x4096 .f32 :=
  Host.exp (subf sc (broadcastInDim S2x4x4096x4096 ![0, 1, 2, 3] bcast_S2x4x4096x1_S2x4x4096x4096_0_1_2_3 (broadcastInDim S2x4x4096x1 ![0, 1, 2] bcast_S2x4x4096_S2x4x4096x1_0_1_2 t)))

/-- The denominators. -/
def ZOf (e : FVec Ideal S2x4x4096x4096 .f32) : FVec Ideal S2x4x4096x1 .f32 :=
  broadcastInDim S2x4x4096x1 ![0, 1, 2] bcast_S2x4x4096_S2x4x4096x1_0_1_2 (Host.reduceAdd e (constant S_ .f32 0x00000000#32) reducesTo_S2x4x4096x4096_S2x4x4096_d3 h_S_)

/-- The probabilities. -/
def prOf (e : FVec Ideal S2x4x4096x4096 .f32) (z : FVec Ideal S2x4x4096x1 .f32) : FVec Ideal S2x4x4096x4096 .f32 :=
  Host.divf e (broadcastInDim S2x4x4096x4096 ![0, 1, 2, 3] bcast_S2x4x4096x1_S2x4x4096x4096_0_1_2_3 z)

/-- The cotangent by group, feature and head. -/
def ctT (ct : FVec Ideal S4096x512 .f32) : FVec Ideal S2x64x4x4096 .f32 :=
  transpose S2x64x4x4096 [1, 3, 2, 0] (shapeCast S4096x2x4x64 ct shapeCasts_S4096x512_S4096x2x4x64) transposes_S4096x2x4x64_S2x64x4x4096_1_3_2_0

/-- The gradient by the probabilities. -/
def dPOf (c : FVec Ideal S2x64x4x4096 .f32) (v : FVec Ideal S2x4096x64 .f32) : FVec Ideal S2x4x4096x4096 .f32 :=
  Host.dotGeneral dot_S2x64x4x4096_S2x4096x64_S2x4x4096x4096_1_2_23_1_0_0 none c v

/-- The gradient by the denominators. -/
def ccOf (dp e : FVec Ideal S2x4x4096x4096 .f32) (z : FVec Ideal S2x4x4096x1 .f32) : FVec Ideal S2x4x4096x1 .f32 :=
  Host.negf (shapeCast S2x4x4096x1 (Host.reduceAdd (mulf (mulf dp (broadcastInDim S2x4x4096x4096 ![0, 1, 2, 3] bcast_S2x4x4096x1_S2x4x4096x4096_0_1_2_3 (Host.divf (broadcastInDim S2x4x4096x1 ![] bcast_S_S2x4x4096x1 (constant S_ .f32 0x3F800000#32)) (mulf z z)))) e) (constant S_ .f32 0x00000000#32) reducesTo_S2x4x4096x4096_S2x4x4096_d3 h_S_) shapeCasts_S2x4x4096_S2x4x4096x1)

/-- The gradient by the scores, times the scale. -/
def dsOf (dp e : FVec Ideal S2x4x4096x4096 .f32) (z cc : FVec Ideal S2x4x4096x1 .f32) : FVec Ideal S2x4x4096x4096 .f32 :=
  mulf (mulf (addf (Host.divf dp (broadcastInDim S2x4x4096x4096 ![0, 1, 2, 3] bcast_S2x4x4096x1_S2x4x4096x4096_0_1_2_3 z)) (broadcastInDim S2x4x4096x4096 ![0, 1, 2] bcast_S2x4x4096_S2x4x4096x4096_0_1_2 (Host.reduceAdd cc (constant S_ .f32 0x00000000#32) reducesTo_S2x4x4096x1_S2x4x4096_d3 h_S_))) e)
    (broadcastInDim S2x4x4096x4096 ![] bcast_S_S2x4x4096x4096 (constant S_ .f32 0x3E000000#32))

/-- The same, keys before queries. -/
def dsTOf (ds : FVec Ideal S2x4x4096x4096 .f32) : FVec Ideal S2x4096x4096x4 .f32 :=
  transpose S2x4096x4096x4 [0, 3, 2, 1] ds transposes_S2x4x4096x4096_S2x4096x4096x4_0_3_2_1

/-- What the reference returns. -/
def dqR (d : FVec Ideal S2x4096x4096x4 .f32) (k : FVec Ideal S2x4096x64 .f32) : FVec Ideal S4096x512 .f32 :=
  shapeCast S4096x512 (transpose S4096x2x4x64 [1, 0, 2, 3] (Host.dotGeneral dot_S2x4096x4096x4_S2x4096x64_S2x4096x4x64_1_1_23_2_0_0 none d k) transposes_S2x4096x4x64_S4096x2x4x64_1_0_2_3) shapeCasts_S4096x2x4x64_S4096x512
@[inherit_doc dqR]
def dkR (d : FVec Ideal S2x4096x4096x4 .f32) (a : FVec Ideal S4096x2x4x64 .f32) : FVec Ideal S2x4096x64 .f32 :=
  Host.dotGeneral dot_S2x4096x4096x4_S4096x2x4x64_S2x4096x64_23_02_1_3_0_1 none d a
@[inherit_doc dqR]
def dvR (c : FVec Ideal S2x64x4x4096 .f32) (p : FVec Ideal S2x4x4096x4096 .f32) : FVec Ideal S2x4096x64 .f32 :=
  transpose S2x4096x64 [0, 2, 1] (Host.dotGeneral dot_S2x64x4x4096_S2x4x4096x4096_S2x64x4096_23_12_1_3_0_0 none c p) transposes_S2x64x4096_S2x4096x64_0_2_1

/-! ### Read at an index -/

theorem qT_read (q) (s : Fin 4096) (g : Fin 2) (h : Fin 4) (d : Fin 64) : qT q (ix4 s g h d) = q (ix2 s ⟨g.val * 256 + h.val * 64 + d.val, by omega⟩) := by
  pointwise [qT]
theorem scoreOf_read (a k) (g : Fin 2) (h : Fin 4) (s n : Fin 4096) : scoreOf a k (ix4 g h s n) = (∑ d : Fin 64, k (ix3 g n d) * a (ix4 s g h d)) * (σ : EReal) := by
  rw [← c_σ]
  pointwise [scoreOf]
theorem rmaxOf_read (sc) (g : Fin 2) (h : Fin 4) (s : Fin 4096) : rmaxOf sc (ix3 g h s) = (Finset.univ : Finset (Fin 4096)).fold max ⊥ fun n => sc (ix4 g h s n) := by
  pointwise [rmaxOf]
  rw [c_bot]
theorem topOf_read (r) (g : Fin 2) (h : Fin 4) (s : Fin 4096) : topOf r (ix3 g h s) = max (Ideal.ofBits .f32 0xFF800000#32) (r (ix3 g h s)) := by
  pointwise [topOf]
theorem eOf_read (sc t) (g : Fin 2) (h : Fin 4) (s n : Fin 4096) : eOf sc t (ix4 g h s n) = Ideal.exp (sc (ix4 g h s n) - t (ix3 g h s)) := by
  pointwise [eOf]
theorem ZOf_read (e) (g : Fin 2) (h : Fin 4) (s : Fin 4096) (z : Fin 1) : ZOf e (ix4 g h s z) = ∑ n : Fin 4096, e (ix4 g h s n) := by
  pointwise [ZOf]
theorem prOf_read (e z) (g : Fin 2) (h : Fin 4) (s n : Fin 4096) : prOf e z (ix4 g h s n) = Ideal.div (e (ix4 g h s n)) (z (ix4 g h s 0)) := by
  pointwise [prOf]
theorem ctT_read (ct) (g : Fin 2) (d : Fin 64) (h : Fin 4) (s : Fin 4096) : ctT ct (ix4 g d h s) = ct (ix2 s ⟨g.val * 256 + h.val * 64 + d.val, by omega⟩) := by
  pointwise [ctT]
theorem dPOf_read (c v) (g : Fin 2) (h : Fin 4) (s n : Fin 4096) : dPOf c v (ix4 g h s n) = ∑ d : Fin 64, c (ix4 g d h s) * v (ix3 g n d) := by
  pointwise [dPOf]
theorem ccOf_read (dp e z) (g : Fin 2) (h : Fin 4) (s : Fin 4096) (y : Fin 1) : ccOf dp e z (ix4 g h s y) = -∑ n : Fin 4096, dp (ix4 g h s n) * Ideal.div 1 (z (ix4 g h s 0) * z (ix4 g h s 0)) * e (ix4 g h s n) := by
  pointwise [ccOf]
theorem dsOf_read (dp e z cc) (g : Fin 2) (h : Fin 4) (s n : Fin 4096) : dsOf dp e z cc (ix4 g h s n) =
    (Ideal.div (dp (ix4 g h s n)) (z (ix4 g h s 0)) + cc (ix4 g h s 0)) * e (ix4 g h s n) * (σ : EReal) := by
  rw [← c_σ]
  pointwise [dsOf]
  try simp
theorem dsTOf_read (ds) (g : Fin 2) (h : Fin 4) (s n : Fin 4096) : dsTOf ds (ix4 g n s h) = ds (ix4 g h s n) := by
  pointwise [dsTOf]
theorem dqR_read (D k) (s : Fin 4096) (x : Fin 512) : dqR D k (ix2 s x) =
    ∑ n : Fin 4096, D (ix4 ⟨x.val / 256, by omega⟩ n s ⟨x.val / 64 % 4, by omega⟩) * k (ix3 ⟨x.val / 256, by omega⟩ n ⟨x.val % 64, by omega⟩) := by
  pointwise [dqR]
theorem dkR_read (D a) (g : Fin 2) (n : Fin 4096) (d : Fin 64) : dkR D a (ix3 g n d) = ∑ s : Fin 4096, ∑ h' : Fin 4, D (ix4 g n s h') * a (ix4 s g h' d) := by
  pointwise [dkR]
theorem dvR_read (c p) (g : Fin 2) (n : Fin 4096) (d : Fin 64) : dvR c p (ix3 g n d) = ∑ h : Fin 4, ∑ s : Fin 4096, c (ix4 g d h s) * p (ix4 g h s n) := by
  pointwise [dvR]

/-! ### On the arguments -/

variable (q : FVec Ideal S4096x512 .f32) (k v : FVec Ideal S2x4096x64 .f32) (ct : FVec Ideal S4096x512 .f32)

def scoreT : FVec Ideal S2x4x4096x4096 .f32 := scoreOf (qT q) k
def eT : FVec Ideal S2x4x4096x4096 .f32 := eOf (scoreT q k) (topOf (rmaxOf (scoreT q k)))
def ZT : FVec Ideal S2x4x4096x1 .f32 := ZOf (eT q k)
def prT : FVec Ideal S2x4x4096x4096 .f32 := prOf (eT q k) (ZT q k)
def dPT : FVec Ideal S2x4x4096x4096 .f32 := dPOf (ctT ct) v
def ccT : FVec Ideal S2x4x4096x1 .f32 := ccOf (dPT v ct) (eT q k) (ZT q k)
/-- The gradient by the scores times the scale. -/
def gradT : FVec Ideal S2x4096x4096x4 .f32 := dsTOf (dsOf (dPT v ct) (eT q k) (ZT q k) (ccT q k v ct))

variable {q k v ct} {A : Args} (H : Holds A q k v ct)
include H

theorem scoreT_at (g : Fin 2) (h : Fin 4) (s n : Fin 4096) : scoreT q k (ix4 g h s n) = (A.score g h s n : EReal) := by
  unfold scoreT Args.score
  rw [scoreOf_read, EReal.coe_mul, ← coe_sum]
  congr 1
  exact Finset.sum_congr rfl fun d _ => by rw [qT_read, H.k, H.q s g h d _ rfl, EReal.coe_mul]

theorem topT_at (g : Fin 2) (h : Fin 4) (s : Fin 4096) : topOf (rmaxOf (scoreT q k)) (ix3 g h s) = (A.top g h s : EReal) := by
  rw [topOf_read, c_bot, max_eq_right bot_le, rmaxOf_read, ← A.fold_max]
  exact congrArg (Finset.fold max ⊥ · Finset.univ) (funext fun n => scoreT_at H g h s n)

theorem eT_at (g : Fin 2) (h : Fin 4) (s n : Fin 4096) : eT q k (ix4 g h s n) = (A.e g h s n : EReal) := by
  unfold eT Args.e
  rw [eOf_read, scoreT_at H, topT_at H, ← EReal.coe_sub, Ideal.exp_coe]

theorem ZT_at (g : Fin 2) (h : Fin 4) (s : Fin 4096) (z : Fin 1) : ZT q k (ix4 g h s z) = (A.Z g h s : EReal) := by
  unfold ZT Args.Z
  rw [ZOf_read, ← coe_sum]
  exact Finset.sum_congr rfl fun n _ => eT_at H g h s n

theorem prT_at (g : Fin 2) (h : Fin 4) (s n : Fin 4096) : prT q k (ix4 g h s n) = (A.pr g h s n : EReal) := by
  unfold prT Args.pr
  rw [prOf_read, eT_at H, ZT_at H, div_real (A.Z_ne g h s)]

theorem dPT_at (g : Fin 2) (h : Fin 4) (s n : Fin 4096) : dPT v ct (ix4 g h s n) = (A.dP g h s n : EReal) := by
  unfold dPT Args.dP
  rw [dPOf_read, ← coe_sum]
  exact Finset.sum_congr rfl fun d _ => by rw [ctT_read, H.ct s g h d _ rfl, H.v, EReal.coe_mul]

theorem ccT_at (g : Fin 2) (h : Fin 4) (s : Fin 4096) (z : Fin 1) : ccT q k v ct (ix4 g h s z) = (A.cc g h s : EReal) := by
  unfold ccT Args.cc
  rw [ccOf_read, EReal.coe_neg, ← coe_sum]
  refine congrArg _ (Finset.sum_congr rfl fun n _ => ?_)
  rw [dPT_at H, ZT_at H, eT_at H, ← EReal.coe_mul (A.Z g h s), ← EReal.coe_one, div_real (mul_ne_zero (A.Z_ne g h s) (A.Z_ne g h s)), ← EReal.coe_mul, ← EReal.coe_mul]

theorem gradT_at (g : Fin 2) (h : Fin 4) (s n : Fin 4096) : gradT q k v ct (ix4 g n s h) = ((A.dS g h s n * σ : ℝ) : EReal) := by
  unfold gradT Args.dS
  rw [dsTOf_read, dsOf_read, dPT_at H, ZT_at H, ccT_at H, eT_at H, div_real (A.Z_ne g h s), ← EReal.coe_add, ← EReal.coe_mul, ← EReal.coe_mul]

/-! ### The results -/

theorem dq_at (s : Fin 4096) (g : Fin 2) (h : Fin 4) (d : Fin 64) (x : Fin 512) (hx : x.val = g.val * 256 + h.val * 64 + d.val) :
    dqR (gradT q k v ct) k (ix2 s x) = (A.dQ g h s d : EReal) := by
  unfold Args.dQ
  rw [dqR_read, ← coe_sum]
  have e1 : (⟨x.val / 256, by omega⟩ : Fin 2) = g := Fin.ext (by simp only; omega)
  have e2 : (⟨x.val / 64 % 4, by omega⟩ : Fin 4) = h := Fin.ext (by simp only; omega)
  have e3 : (⟨x.val % 64, by omega⟩ : Fin 64) = d := Fin.ext (by simp only; omega)
  rw [e1, e2, e3]
  exact Finset.sum_congr rfl fun n _ => by rw [gradT_at H, H.k, ← EReal.coe_mul]

theorem dk_at (g : Fin 2) (n : Fin 4096) (d : Fin 64) : dkR (gradT q k v ct) (qT q) (ix3 g n d) = (A.dK g n d : EReal) := by
  unfold Args.dK
  rw [dkR_read, ← coe_sum, Finset.sum_comm]
  refine Finset.sum_congr rfl fun h _ => ?_
  rw [← coe_sum]
  exact Finset.sum_congr rfl fun s _ => by rw [gradT_at H, qT_read, H.q s g h _ _ rfl, ← EReal.coe_mul]

theorem dv_at (g : Fin 2) (n : Fin 4096) (d : Fin 64) : dvR (ctT ct) (prT q k) (ix3 g n d) = (A.dV g n d : EReal) := by
  unfold Args.dV
  rw [dvR_read, ← coe_sum]
  refine Finset.sum_congr rfl fun h _ => ?_
  rw [← coe_sum]
  exact Finset.sum_congr rfl fun s _ => by rw [prT_at H, ctT_read, H.ct s g h d _ rfl, ← EReal.coe_mul]

omit H in
/-- The reference's run with its results named. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let M := fun b => m ((c.tc : Thread nD τ).loc b)
      r.2.mem ((c.tc : Thread nD τ).loc main_v59) = dqR (gradT (M main_arg0) (M main_arg1) (M main_arg2) (M main_arg3)) (M main_arg1)
      ∧ r.2.mem ((c.tc : Thread nD τ).loc main_v58) = dkR (gradT (M main_arg0) (M main_arg1) (M main_arg2) (M main_arg3)) (qT (M main_arg0))
      ∧ r.2.mem ((c.tc : Thread nD τ).loc main_v40) = dvR (ctT (M main_arg3)) (prT (M main_arg0) (M main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h => h) (Cert.Reference3Ideal.Value.run m ρ)

end Ref

end Cert.Dense

end
-- ==== Proof.DenseHost.lean ====
module

public import proofs.«01_k».proof.Proof.DenseContents
public import proofs.«01_k».proof.Proof.DenseRef
public import proofs.«01_k».proof.Proof.DenseValue
public import Idealize.ShloMosaic.Lib.Claim

/-! What the host operations give the call of the dense attention's gradient: the scaled queries, the keys in two layouts, the values,
the rows' log-sums in base 2 and the rows' sums of the cotangent times the output. -/

@[expose] public section

set_option maxRecDepth 16384

noncomputable section

namespace Cert.Kernel3Ideal.Hand

open Idealize.ShloMosaic Idealize.ShloMosaic.TcCoe
open Cert.Kernel3Ideal.Gen Cert.Dense
open Cert.Attn (coe_sum div_real c_bot c_two)
open Cert.Latent (log2_ne)

/-! ### The arrays -/

/-- The logarithm of two. -/
def log2T : FVec Ideal S_ .f32 := Host.log (constant S_ .f32 0x40000000#32)

/-- The scores. -/
def scoreT (q : FVec Ideal S4096x512 .f32) (k : FVec Ideal S2x4096x64 .f32) : FVec Ideal S2x4x4096x4096 .f32 :=
  mulf (transpose S2x4x4096x4096 [0, 3, 2, 1] (Host.dotGeneral dot_S2x4096x64_S4096x2x4x64_S2x4096x4096x4_2_3_1_02_0_1 none k (shapeCast S4096x2x4x64 q shapeCasts_S4096x512_S4096x2x4x64)) transposes_S2x4096x4096x4_S2x4x4096x4096_0_3_2_1)
    (broadcastInDim S2x4x4096x4096 ![] bcast_S_S2x4x4096x4096 (constant S_ .f32 0x3E000000#32))

/-- The rows' greatest scores. -/
def topOf (sc : FVec Ideal S2x4x4096x4096 .f32) : FVec Ideal S2x4x4096 .f32 :=
  Host.reduce FloatOps.maximumf sc (constant S_ .f32 0xFF800000#32) reducesTo_S2x4x4096x4096_S2x4x4096_d3 h_S_
/-- A number for each row, with a last dimension. -/
def colOf (r : FVec Ideal S2x4x4096 .f32) : FVec Ideal S2x4x4096x1 .f32 := broadcastInDim S2x4x4096x1 ![0, 1, 2] bcast_S2x4x4096_S2x4x4096x1_0_1_2 r
/-- The exponentials. -/
def eOf (sc : FVec Ideal S2x4x4096x4096 .f32) (t : FVec Ideal S2x4x4096x1 .f32) : FVec Ideal S2x4x4096x4096 .f32 :=
  Host.exp (subf sc (broadcastInDim S2x4x4096x4096 ![0, 1, 2, 3] bcast_S2x4x4096x1_S2x4x4096x4096_0_1_2_3 t))
/-- The denominators. -/
def ZOf (e : FVec Ideal S2x4x4096x4096 .f32) : FVec Ideal S2x4x4096 .f32 :=
  Host.reduceAdd e (constant S_ .f32 0x00000000#32) reducesTo_S2x4x4096x4096_S2x4x4096_d3 h_S_
/-- The probabilities. -/
def prOf (e : FVec Ideal S2x4x4096x4096 .f32) (z : FVec Ideal S2x4x4096x1 .f32) : FVec Ideal S2x4x4096x4096 .f32 :=
  Host.divf e (broadcastInDim S2x4x4096x4096 ![0, 1, 2, 3] bcast_S2x4x4096x1_S2x4x4096x4096_0_1_2_3 z)
/-- The output. -/
def outOf (v : FVec Ideal S2x4096x64 .f32) (p : FVec Ideal S2x4x4096x4096 .f32) : FVec Ideal S4096x2x4x64 .f32 :=
  transpose S4096x2x4x64 [3, 0, 2, 1] (Host.dotGeneral dot_S2x4096x64_S2x4x4096x4096_S2x64x4x4096_1_3_2_12_0_0 none v p) transposes_S2x64x4x4096_S4096x2x4x64_3_0_2_1
/-- The rows' log-sums in base 2. -/
def lseOf (t z : FVec Ideal S2x4x4096x1 .f32) : FVec Ideal S8x1x4096 .f32 :=
  shapeCast S8x1x4096 (Host.divf (addf t (Host.log z)) (broadcastInDim S2x4x4096x1 ![] bcast_S_S2x4x4096x1 log2T)) shapeCasts_S2x4x4096x1_S8x1x4096
/-- The rows' sums of the cotangent times the output. -/
def deltaOf (ct : FVec Ideal S4096x512 .f32) (o : FVec Ideal S4096x2x4x64 .f32) : FVec Ideal S8x1x4096 .f32 :=
  shapeCast S8x1x4096 (transpose S8x4096 [1, 0] (Host.reduceAdd (mulf (shapeCast S4096x8x64 ct shapeCasts_S4096x512_S4096x8x64) (shapeCast S4096x8x64 o shapeCasts_S4096x2x4x64_S4096x8x64)) (constant S_ .f32 0x00000000#32) reducesTo_S4096x8x64_S4096x8_d2 h_S_) transposes_S4096x8_S8x4096_1_0) shapeCasts_S8x4096_S8x1x4096
/-- The queries, scaled, by head. -/
def qsOf (q : FVec Ideal S4096x512 .f32) : FVec Ideal S8x4096x64 .bf16 :=
  truncf .bf16 (transpose S8x4096x64 [1, 0, 2] (shapeCast S4096x8x64 (mulf q (broadcastInDim S4096x512 ![] bcast_S_S4096x512 (Host.divf (constant S_ .f32 0x3E000000#32) log2T))) shapeCasts_S4096x512_S4096x8x64) transposes_S4096x8x64_S8x4096x64_1_0_2) bitsLt_bf16_f32
/-- The keys, features first. -/
def ktOf (k : FVec Ideal S2x4096x64 .bf16) : FVec Ideal S2x64x4096 .bf16 := transpose S2x64x4096 [0, 2, 1] k transposes_S2x4096x64_S2x64x4096_0_2_1

/-! ### Read at an index -/

theorem scoreT_read (q k) (g : Fin 2) (h : Fin 4) (s n : Fin 4096) : scoreT q k (ix4 g h s n) =
    (∑ d : Fin 64, k (ix3 g n d) * q (ix2 s ⟨g.val * 256 + h.val * 64 + d.val, by omega⟩)) * (σ : EReal) := by
  rw [← c_σ]
  pointwise [scoreT]
theorem topOf_read (sc) (g : Fin 2) (h : Fin 4) (s : Fin 4096) : topOf sc (ix3 g h s) = (Finset.univ : Finset (Fin 4096)).fold max ⊥ fun n => sc (ix4 g h s n) := by
  pointwise [topOf]
  rw [c_bot]
theorem colOf_read (r) (g : Fin 2) (h : Fin 4) (s : Fin 4096) (z : Fin 1) : colOf r (ix4 g h s z) = r (ix3 g h s) := by
  pointwise [colOf]
theorem eOf_read (sc t) (g : Fin 2) (h : Fin 4) (s n : Fin 4096) : eOf sc t (ix4 g h s n) = Ideal.exp (sc (ix4 g h s n) - t (ix4 g h s 0)) := by
  pointwise [eOf]
theorem ZOf_read (e) (g : Fin 2) (h : Fin 4) (s : Fin 4096) : ZOf e (ix3 g h s) = ∑ n : Fin 4096, e (ix4 g h s n) := by
  pointwise [ZOf]
theorem prOf_read (e z) (g : Fin 2) (h : Fin 4) (s n : Fin 4096) : prOf e z (ix4 g h s n) = Ideal.div (e (ix4 g h s n)) (z (ix4 g h s 0)) := by
  pointwise [prOf]
theorem outOf_read (v p) (s : Fin 4096) (g : Fin 2) (h : Fin 4) (d : Fin 64) : outOf v p (ix4 s g h d) = ∑ n : Fin 4096, v (ix3 g n d) * p (ix4 g h s n) := by
  pointwise [outOf]
theorem lseOf_read (t z) (x : Fin 8) (y : Fin 1) (s : Fin 4096) : lseOf t z (ix3 x y s) =
    Ideal.div (t (ix4 ⟨x.val / 4, by omega⟩ ⟨x.val % 4, by omega⟩ s 0) + Ideal.log (z (ix4 ⟨x.val / 4, by omega⟩ ⟨x.val % 4, by omega⟩ s 0))) (Ideal.log (Ideal.ofBits .f32 0x40000000#32)) := by
  pointwise [lseOf, log2T]
theorem deltaOf_read (ct o) (x : Fin 8) (y : Fin 1) (s : Fin 4096) : deltaOf ct o (ix3 x y s) =
    ∑ d : Fin 64, ct (ix2 s ⟨x.val * 64 + d.val, by omega⟩) * o (ix4 s ⟨x.val / 4, by omega⟩ ⟨x.val % 4, by omega⟩ d) := by
  pointwise [deltaOf]
theorem qsOf_read (q) (x : Fin 8) (s : Fin 4096) (d : Fin 64) : qsOf q (ix3 x s d) =
    q (ix2 s ⟨x.val * 64 + d.val, by omega⟩) * Ideal.div (Ideal.ofBits .f32 0x3E000000#32) (Ideal.log (Ideal.ofBits .f32 0x40000000#32)) := by
  pointwise [qsOf, log2T]
theorem ktOf_read (k) (g : Fin 2) (d : Fin 64) (n : Fin 4096) : ktOf k (ix3 g d n) = k (ix3 g n d) := by
  pointwise [ktOf]

/-! ### On the arguments -/

variable (q : FVec Ideal S4096x512 .f32) (k v : FVec Ideal S2x4096x64 .f32) (ct : FVec Ideal S4096x512 .f32)

def topT : FVec Ideal S2x4x4096x1 .f32 := colOf (topOf (scoreT q k))
def eT : FVec Ideal S2x4x4096x4096 .f32 := eOf (scoreT q k) (topT q k)
def ZT : FVec Ideal S2x4x4096x1 .f32 := colOf (ZOf (eT q k))
def outT : FVec Ideal S4096x2x4x64 .f32 := outOf v (prOf (eT q k) (ZT q k))

variable {q k v ct} {A : Args} (H : Holds A q k v ct) (g : Fin 2) (h : Fin 4) (s n : Fin 4096)
include H

theorem scoreT_at : scoreT q k (ix4 g h s n) = (A.score g h s n : EReal) := by
  unfold Args.score
  rw [scoreT_read, EReal.coe_mul, ← coe_sum]
  congr 1
  exact Finset.sum_congr rfl fun d _ => by rw [H.k, H.q s g h d _ rfl, EReal.coe_mul]

theorem topT_at (z : Fin 1) : topT q k (ix4 g h s z) = (A.top g h s : EReal) := by
  unfold topT
  rw [colOf_read, topOf_read, ← A.fold_max]
  exact congrArg (Finset.fold max ⊥ · Finset.univ) (funext fun n => scoreT_at H g h s n)

theorem eT_at : eT q k (ix4 g h s n) = (A.e g h s n : EReal) := by
  unfold eT Args.e
  rw [eOf_read, scoreT_at H, topT_at H, ← EReal.coe_sub, Ideal.exp_coe]

theorem ZT_at (z : Fin 1) : ZT q k (ix4 g h s z) = (A.Z g h s : EReal) := by
  unfold ZT Args.Z
  rw [colOf_read, ZOf_read, ← coe_sum]
  exact Finset.sum_congr rfl fun n _ => eT_at H g h s n

theorem outT_at (d : Fin 64) : outT q k v (ix4 s g h d) = ((∑ n, A.v g n d * A.pr g h s n : ℝ) : EReal) := by
  unfold outT Args.pr
  rw [outOf_read, ← coe_sum]
  exact Finset.sum_congr rfl fun n _ => by rw [prOf_read, eT_at H, ZT_at H, div_real (A.Z_ne g h s), H.v, ← EReal.coe_mul]

variable {g h} {x : Fin 8} (hx : x.val = g.val * 4 + h.val)
include hx

omit H in
theorem grp_head : (⟨x.val / 4, by omega⟩ : Fin 2) = g ∧ (⟨x.val % 4, by omega⟩ : Fin 4) = h :=
  ⟨Fin.ext (by dsimp only; omega), Fin.ext (by dsimp only; omega)⟩

theorem lse_val (y : Fin 1) : lseOf (topT q k) (ZT q k) (ix3 x y s) = (((A.top g h s + Real.log (A.Z g h s)) * (1 / Real.log 2) : ℝ) : EReal) := by
  rw [lseOf_read, (grp_head hx).1, (grp_head hx).2, topT_at H, ZT_at H, c_two, Ideal.log_coe, if_neg (not_le.mpr (A.Z_pos g h s)), Ideal.log_coe, if_neg (by norm_num : ¬(2 : ℝ) ≤ 0), ← EReal.coe_add, div_real log2_ne]

theorem delta_val (y : Fin 1) : deltaOf ct (outT q k v) (ix3 x y s) = (A.delta g h s : EReal) := by
  unfold Args.delta
  rw [deltaOf_read, (grp_head hx).1, (grp_head hx).2, ← coe_sum]
  exact Finset.sum_congr rfl fun d _ => by rw [H.ct s g h d _ (by show x.val * 64 + d.val = _; omega), outT_at H, ← EReal.coe_mul]

theorem qs_val (d : Fin 64) : qsOf q (ix3 x s d) = ((A.q s g h d * qscale : ℝ) : EReal) := by
  unfold qscale
  rw [qsOf_read, c_σ, c_two, Ideal.log_coe, if_neg (by norm_num : ¬(2 : ℝ) ≤ 0), div_real log2_ne, H.q s g h d _ (by show x.val * 64 + d.val = _; omega)]
  simp only [← EReal.coe_mul]

end Cert.Kernel3Ideal.Hand

namespace Cert.Kernel3Ideal.Hand

open Idealize.ShloMosaic Idealize.ShloMosaic.TcCoe
open Cert.Kernel3Ideal.Gen Cert.Dense

/-! ### The buffers -/

variable (m : (ℓ : Loc nD τ sig) → Buf (Elt Ideal) ℓ) (c : Dev nD)

/-- An argument of core `c`. -/
def arg0 : FVec Ideal S4096x512 .f32 := m ((c.tc : Thread nD τ).loc main_arg0)
@[inherit_doc arg0]
def arg1 : FVec Ideal S2x4096x64 .f32 := m ((c.tc : Thread nD τ).loc main_arg1)
@[inherit_doc arg0]
def arg2 : FVec Ideal S2x4096x64 .f32 := m ((c.tc : Thread nD τ).loc main_arg2)
@[inherit_doc arg0]
def arg3 : FVec Ideal S4096x512 .f32 := m ((c.tc : Thread nD τ).loc main_arg3)

theorem V_v33 : V m c main_v33 = qsOf (arg0 m c) := by
  entry_read
  rfl
theorem V_v34 : V m c main_v34 = truncf .bf16 (arg1 m c) bitsLt_bf16_f32 := by
  entry_read
  rfl
theorem V_v35 : V m c main_v35 = ktOf (truncf .bf16 (arg1 m c) bitsLt_bf16_f32) := by
  entry_read
  rfl
theorem V_v36 : V m c main_v36 = truncf .bf16 (arg2 m c) bitsLt_bf16_f32 := by
  entry_read
  rfl
theorem V_v37 : V m c main_v37 = truncf .bf16 (arg3 m c) bitsLt_bf16_f32 := by
  entry_read
  rfl
theorem V_v21 : V m c main_v21 = lseOf (topT (arg0 m c) (arg1 m c)) (ZT (arg0 m c) (arg1 m c)) := by
  entry_read
  rfl
theorem V_v27 : V m c main_v27 = deltaOf (arg3 m c) (outT (arg0 m c) (arg1 m c) (arg2 m c)) := by
  entry_read
  rfl

end Cert.Kernel3Ideal.Hand

end
-- ==== Proof.DenseWindows.lean ====
module

public import proofs.«01_k».proof.Proof.DenseHost
public import Idealize.ShloMosaic.Lib.Pipeline.Value
public import Idealize.ShloMosaic.Lib.Pipeline.ValueKit

/-! The blocks of a point, read in the arrays: point `t` has group `t / 8` and the keys of the eighth `t % 8`. -/

@[expose] public section

set_option maxRecDepth 16384

noncomputable section

namespace Cert.Kernel3Ideal.Hand

open Idealize.ShloMosaic Idealize.ShloMosaic.TcCoe
open Cert.Kernel3Ideal.Gen Cert.Dense
open Cert.Latent (key)

variable (m : (ℓ : Loc nD τ sig) → Buf (Elt Ideal) ℓ) (c : Dev nD)

theorem idx0 : ∀ t : Fin cfg0.N, win0_0.index t = ![t.val / 8, 0, 0] := by decide +kernel
theorem idx1 : ∀ t : Fin cfg0.N, win0_1.index t = ![t.val / 8, t.val % 8, 0] := by decide +kernel
theorem idx2 : ∀ t : Fin cfg0.N, win0_2.index t = ![t.val / 8, 0, t.val % 8] := by decide +kernel
theorem idx3 : ∀ t : Fin cfg0.N, win0_3.index t = ![t.val / 8, t.val % 8, 0] := by decide +kernel
theorem idx4 : ∀ t : Fin cfg0.N, win0_4.index t = ![0, t.val / 8] := by decide +kernel
theorem idx5 : ∀ t : Fin cfg0.N, win0_5.index t = ![t.val / 8, 0, 0] := by decide +kernel
theorem idx6 : ∀ t : Fin cfg0.N, win0_6.index t = ![t.val / 8, 0, 0] := by decide +kernel
theorem idx7 : ∀ t : Fin cfg0.N, win0_7.index t = ![0, t.val / 8] := by decide +kernel
theorem idx8 : ∀ t : Fin cfg0.N, win0_8.index t = ![t.val / 8, t.val % 8, 0] := by decide +kernel
theorem idx9 : ∀ t : Fin cfg0.N, win0_9.index t = ![t.val / 8, t.val % 8, 0] := by decide +kernel

variable (t : Fin cfg0.N)

/-- The group and the eighth of a point. -/
def grp : Fin 2 := ⟨t.val / 8, by have := N_lt t; omega⟩
@[inherit_doc grp]
def eighth : Fin 8 := ⟨t.val % 8, by omega⟩

theorem blk0 (h : Fin 4) (s : Fin 4096) (d : Fin 64) (x : Fin 8) (hx : x.val = 4 * (t.val / 8) + h.val) :
    iblk m c 0 t (ix3 h s d) = V m c main_v33 (ix3 x s d) := by
  blk_ext [iblk, idx0 t]
theorem blk1 (r : Fin 512) (d : Fin 64) (g : Fin 2) (n : Fin 4096) (hg : g.val = t.val / 8) (hn : n.val = 512 * (t.val % 8) + r.val) :
    iblk m c 1 t (ix3 0 r d) = V m c main_v34 (ix3 g n d) := by
  blk_ext [iblk, idx1 t]
theorem blk2 (r : Fin 512) (d : Fin 64) (g : Fin 2) (n : Fin 4096) (hg : g.val = t.val / 8) (hn : n.val = 512 * (t.val % 8) + r.val) :
    iblk m c 2 t (ix3 0 d r) = V m c main_v35 (ix3 g d n) := by
  blk_ext [iblk, idx2 t]
theorem blk3 (r : Fin 512) (d : Fin 64) (g : Fin 2) (n : Fin 4096) (hg : g.val = t.val / 8) (hn : n.val = 512 * (t.val % 8) + r.val) :
    iblk m c 3 t (ix3 0 r d) = V m c main_v36 (ix3 g n d) := by
  blk_ext [iblk, idx3 t]
theorem blk4 (s : Fin 4096) (c₁ : Fin 256) (c₂ : Fin 512) (hc : c₂.val = 256 * (t.val / 8) + c₁.val) :
    iblk m c 4 t (ix2 s c₁) = V m c main_v37 (ix2 s c₂) := by
  blk_ext [iblk, idx4 t]
theorem blk5 (h : Fin 4) (s : Fin 4096) (x : Fin 8) (hx : x.val = 4 * (t.val / 8) + h.val) :
    iblk m c 5 t (ix3 h 0 s) = V m c main_v21 (ix3 x 0 s) := by
  blk_ext [iblk, idx5 t]
theorem blk6 (h : Fin 4) (s : Fin 4096) (x : Fin 8) (hx : x.val = 4 * (t.val / 8) + h.val) :
    iblk m c 6 t (ix3 h 0 s) = V m c main_v27 (ix3 x 0 s) := by
  blk_ext [iblk, idx6 t]

/-! ### The same from the arguments -/

theorem rd_q (h : Fin 4) (s : Fin 4096) (d : Fin 64) (x : Fin 8) (hx : x.val = 4 * (t.val / 8) + h.val) : (ins m c t).q (ix3 h s d) = qsOf (arg0 m c) (ix3 x s d) :=
  (blk0 m c t h s d x hx).trans (congrFun (V_v33 m c) _)
theorem rd_k (r : Fin 512) (d : Fin 64) : (ins m c t).k (ix3 0 r d) = arg1 m c (ix3 (grp t) (key (eighth t) r) d) :=
  (blk1 m c t r d (grp t) (key (eighth t) r) rfl rfl).trans (congrFun (V_v34 m c) _)
theorem rd_kt (r : Fin 512) (d : Fin 64) : (ins m c t).kt (ix3 0 d r) = ktOf (truncf .bf16 (arg1 m c) bitsLt_bf16_f32) (ix3 (grp t) d (key (eighth t) r)) :=
  (blk2 m c t r d (grp t) (key (eighth t) r) rfl rfl).trans (congrFun (V_v35 m c) _)
theorem rd_v (r : Fin 512) (d : Fin 64) : (ins m c t).v (ix3 0 r d) = arg2 m c (ix3 (grp t) (key (eighth t) r) d) :=
  (blk3 m c t r d (grp t) (key (eighth t) r) rfl rfl).trans (congrFun (V_v36 m c) _)
theorem rd_dy (s : Fin 4096) (c₁ : Fin 256) (c₂ : Fin 512) (hc : c₂.val = 256 * (t.val / 8) + c₁.val) : (ins m c t).dy (ix2 s c₁) = arg3 m c (ix2 s c₂) :=
  (blk4 m c t s c₁ c₂ hc).trans (congrFun (V_v37 m c) _)
theorem rd_lse (h : Fin 4) (s : Fin 4096) (x : Fin 8) (hx : x.val = 4 * (t.val / 8) + h.val) :
    (ins m c t).lse (ix3 h 0 s) = lseOf (topT (arg0 m c) (arg1 m c)) (ZT (arg0 m c) (arg1 m c)) (ix3 x 0 s) :=
  (blk5 m c t h s x hx).trans (congrFun (V_v21 m c) _)
theorem rd_dl (h : Fin 4) (s : Fin 4096) (x : Fin 8) (hx : x.val = 4 * (t.val / 8) + h.val) :
    (ins m c t).dl (ix3 h 0 s) = deltaOf (arg3 m c) (outT (arg0 m c) (arg1 m c) (arg2 m c)) (ix3 x 0 s) :=
  (blk6 m c t h s x hx).trans (congrFun (V_v27 m c) _)

variable {m c} {A : Args} (H : Holds A (arg0 m c) (arg1 m c) (arg2 m c) (arg3 m c))
include H

/-- A point's blocks hold the numbers of its group and its keys. -/
theorem has_at : Has A (grp t) (eighth t) (ins m c t) where
  q h s d := by
    rw [rd_q m c t h s d ⟨4 * (t.val / 8) + h.val, by have := N_lt t; omega⟩ rfl]
    exact qs_val H (g := grp t) (h := h) s (by simp only [grp]; omega) d
  k r d := (rd_k m c t r d).trans (H.k _ _ _)
  kt r d := by
    rw [rd_kt m c t r d, ktOf_read]
    exact H.k _ _ _
  v r d := (rd_v m c t r d).trans (H.v _ _ _)
  dy h s d c₁ hc := by
    rw [rd_dy m c t s c₁ ⟨256 * (t.val / 8) + c₁.val, by have := N_lt t; omega⟩ rfl]
    exact H.ct s (grp t) h d _ (by simp only [grp]; omega)
  lse h s := by
    rw [rd_lse m c t h s ⟨4 * (t.val / 8) + h.val, by have := N_lt t; omega⟩ rfl]
    exact lse_val H (g := grp t) (h := h) s (by simp only [grp]; omega) _
  dl h s := by
    rw [rd_dl m c t h s ⟨4 * (t.val / 8) + h.val, by have := N_lt t; omega⟩ rfl]
    exact delta_val H (g := grp t) (h := h) s (by simp only [grp]; omega) _

end Cert.Kernel3Ideal.Hand

end
-- ==== Proof.DenseOutput.lean ====
module

public import proofs.«01_k».proof.Proof.DenseSums
public import proofs.«01_k».proof.Proof.DenseWindows
public import proofs.«01_k».proof.Proof.DenseBody

/-! The three result arrays of the dense attention's backward call are the reference's gradients. -/

@[expose] public section

set_option maxRecDepth 16384

noncomputable section

namespace Cert.Kernel3Ideal.Hand

open Idealize.ShloMosaic Idealize.ShloMosaic.TcCoe Idealize.SL.Sem
open Cert.Kernel3Ideal.Gen Cert.Dense
open Cert.Dense.Ref (dqR dkR dvR gradT qT ctT prT dq_at dk_at dv_at)
open Cert.Latent (key)

variable (m : (ℓ : Loc nD τ sig) → Buf (Elt Ideal) ℓ) (c : Dev nD)
variable {A : Args} (H : Holds A (arg0 m c) (arg1 m c) (arg2 m c) (arg3 m c))
include H

/-- The values' gradients after a point. -/
theorem dvPoint (t : Fin cfg0.N) (z : Fin 1) (r : Fin 512) (d : Fin 64) : dvAt m c t (ix3 z r d) = (A.dV (grp t) (key (eighth t) r) d : EReal) := by
  have H1 := has_at t H
  unfold dvAt
  generalize ins m c t = X at *
  rw [dvOut_at H1 _ z r d 0 (zeroV_read 0 r d), zero_add, give_eq]
  rfl

/-- The keys' gradients after a point. -/
theorem dkPoint (t : Fin cfg0.N) (z : Fin 1) (r : Fin 512) (d : Fin 64) : dkAt m c t (ix3 z r d) = (A.dK (grp t) (key (eighth t) r) d : EReal) := by
  have H1 := has_at t H
  unfold dkAt
  generalize ins m c t = X at *
  rw [dkOut_at H1 _ (rows_one _) _ z r d 0 (zeroK_read 0 r d), zero_add, give_eq]
  refine congrArg (fun x : ℝ => (x : EReal)) ?_
  have e : (∑ h : Fin 4, ∑ s : Fin 4096, A.dS (grp t) h s (key (eighth t) r) * σ * A.q s (grp t) h d * qscale) = A.dK (grp t) (key (eighth t) r) d * qscale := by
    unfold Args.dK
    rw [Finset.sum_mul]
    exact Finset.sum_congr rfl fun h _ => (Finset.sum_mul _ _ _).symm
  rw [e, take_out]

/-- The scratch after point `n`: the parts of the keys already met. -/
theorem scr_at : ∀ (n : ℕ) (hn : n < 16) (u : Fin 16) (h : Fin 4) (d : Fin 64) (x : Fin 256),
    scrAt m c n (slot u h d x) = ((∑ j : Fin 8, if j.val ≤ n % 8 then part A ⟨n / 8, by omega⟩ h (qry u x) d j else 0 : ℝ) : EReal) := by
  have step : ∀ (n : ℕ) (hn : n < 16) (u : Fin 16) (h : Fin 4) (d : Fin 64) (x : Fin 256),
      scrBefore m c n (slot u h d x) = ((∑ j : Fin 8, if j.val < n % 8 then part A ⟨n / 8, by omega⟩ h (qry u x) d j else 0 : ℝ) : EReal) →
      scrAt m c n (slot u h d x) = ((∑ j : Fin 8, if j.val ≤ n % 8 then part A ⟨n / 8, by omega⟩ h (qry u x) d j else 0 : ℝ) : EReal) := by
    intro n hn u h d x hb
    have ev : (pt n).val = n := Nat.mod_eq_of_lt hn
    have es := scrAt_eq m c (pt n)
    rw [ev] at es
    rw [es, scrOut_read, hb]
    have H1 := has_at (pt n) H
    have eg : grp (pt n) = ⟨n / 8, by omega⟩ := Fin.ext (by unfold grp; dsimp only; omega)
    have ej : (eighth (pt n)).val = n % 8 := by unfold eighth; dsimp only; omega
    rw [eg] at H1
    generalize eighth (pt n) = j' at *
    generalize ins m c (pt n) = X at *
    rw [dqt_at H1 u h x d, ← EReal.coe_add]
    refine congrArg (fun x : ℝ => (x : EReal)) ?_
    rw [show (∑ r : Fin 512, A.dS ⟨n / 8, by omega⟩ h (qry u x) (key j' r) * σ * A.k ⟨n / 8, by omega⟩ (key j' r) d) = ∑ j : Fin 8, if j = j' then part A ⟨n / 8, by omega⟩ h (qry u x) d j else 0 by
      rw [Finset.sum_ite_eq' Finset.univ j' fun j => part A ⟨n / 8, by omega⟩ h (qry u x) d j, if_pos (Finset.mem_univ _)]; rfl]
    rw [← Finset.sum_add_distrib]
    refine Finset.sum_congr rfl fun j _ => ?_
    by_cases hj : j = j'
    · subst hj
      rw [if_neg (by omega), if_pos rfl, if_pos (by omega), zero_add]
    · have : j.val ≠ j'.val := fun e => hj (Fin.ext e)
      rw [if_neg hj, add_zero]
      by_cases hl : j.val < n % 8
      · rw [if_pos hl, if_pos (by omega)]
      · rw [if_neg hl, if_neg (by omega)]
  intro n
  induction n with
  | zero =>
    intro hn u h d x
    refine step 0 hn u h d x ?_
    unfold scrBefore
    rw [if_pos (by decide)]
    exact (zeroS_read _ _ _).trans (congrArg (fun x : ℝ => (x : EReal)) (Finset.sum_eq_zero fun j _ => if_neg (by omega)).symm)
  | succ n ih =>
    intro hn u h d x
    refine step (n + 1) hn u h d x ?_
    unfold scrBefore
    by_cases h0 : (n + 1) % 8 = 0
    · rw [if_pos h0]
      exact (zeroS_read _ _ _).trans (congrArg (fun x : ℝ => (x : EReal)) (Finset.sum_eq_zero fun j _ => if_neg (by omega)).symm)
    · rw [if_neg h0]
      refine (ih (by omega) u h d x).trans (congrArg (fun x : ℝ => (x : EReal)) (Finset.sum_congr rfl fun j _ => ?_))
      have eg : (⟨n / 8, by omega⟩ : Fin 2) = ⟨(n + 1) / 8, by omega⟩ := Fin.ext (by show n / 8 = (n + 1) / 8; omega)
      rw [eg]
      by_cases hl : j.val < (n + 1) % 8
      · rw [if_pos hl, if_pos (by omega)]
      · rw [if_neg hl, if_neg (by omega)]

/-- The block of the queries' gradients after a group's last point. -/
theorem dqLast (t : Fin cfg0.N) (ht : t.val % 8 = 7) (s : Fin 4096) (w : Fin 256) (x : Fin 512) (hx : x.val = 256 * (t.val / 8) + w.val) :
    dqOut (scrAt m c t.val) (ix2 s w) = dqR (gradT (arg0 m c) (arg1 m c) (arg2 m c) (arg3 m c)) (arg1 m c) (ix2 s x) := by
  have h16 := N_lt t
  obtain ⟨u, y, es⟩ : ∃ (u : Fin 16) (y : Fin 256), s = qry u y :=
    ⟨⟨s.val / 256, by omega⟩, ⟨s.val % 256, by omega⟩, Fin.ext (by show s.val = 256 * (s.val / 256) + s.val % 256; omega)⟩
  subst es
  obtain ⟨h, d, hw⟩ : ∃ (h : Fin 4) (d : Fin 64), w.val = 64 * h.val + d.val :=
    ⟨⟨w.val / 64, by omega⟩, ⟨w.val % 64, by omega⟩, by show w.val = 64 * (w.val / 64) + w.val % 64; omega⟩
  have r := dq_at H (qry u y) ⟨t.val / 8, by omega⟩ h d x (by show x.val = t.val / 8 * 256 + _ + _; omega)
  rw [dqOut_read _ u y h d w hw, scr_at m c H t.val h16 u h d y, r]
  refine congrArg (fun x : ℝ => (x : EReal)) ((Finset.sum_congr rfl fun j _ => if_pos (by omega)).trans (sum_part A _ h (qry u y) d))

theorem result_dq : (dats m 0 c).arrAt 7 cfg0.N = dqR (gradT (arg0 m c) (arg1 m c) (arg2 m c) (arg3 m c)) (arg1 m c) := by
  refine (dats m 0 c).arrAt_eq_of_covers 7 _ (by decide +kernel) fun t hf y => ?_
  blk_simp
  rw [after_7]
  have h16 := N_lt t
  have h7 := (flush0_7 t).mp hf
  have ey : y = ix2 (y 0 : Fin 4096) (y 1 : Fin 256) := by
    funext a
    refine Fin.cases rfl (fun b => Fin.cases rfl (fun b => b.elim0) b) a
  have hy : (y 1 : Fin 256).val < 256 := (y 1 : Fin 256).isLt
  have ej : (win0_7.blk t).view.emb y = ix2 (y 0 : Fin 4096) (⟨256 * (t.val / 8) + (y 1 : Fin 256).val, by omega⟩ : Fin 512) := by
    blk_ext [idx7]
  have r := dqLast m c H t h7 (y 0) (y 1) (⟨256 * (t.val / 8) + (y 1 : Fin 256).val, by omega⟩ : Fin 512) rfl
  exact (congrArg _ ey).trans (r.trans (congrArg _ ej).symm)

theorem result_dk : (dats m 0 c).arrAt 8 cfg0.N = dkR (gradT (arg0 m c) (arg1 m c) (arg2 m c) (arg3 m c)) (qT (arg0 m c)) := by
  refine (dats m 0 c).arrAt_eq_of_covers 8 _ (by decide +kernel) fun t hf y => ?_
  blk_simp
  rw [after_8]
  have h16 := N_lt t
  have ey : y = ix3 (y 0 : Fin 1) (y 1 : Fin 512) (y 2 : Fin 64) := by
    funext a
    refine Fin.cases rfl (fun b => Fin.cases rfl (fun b => Fin.cases rfl (fun b => b.elim0) b) b) a
  have ej : (win0_8.blk t).view.emb y = ix3 (grp t) (key (eighth t) (y 1 : Fin 512)) (y 2 : Fin 64) := by
    unfold grp eighth key
    blk_ext [idx8]
  have r := dkPoint m c H t (y 0) (y 1) (y 2)
  have r' := dk_at H (grp t) (key (eighth t) (y 1 : Fin 512)) (y 2 : Fin 64)
  exact (congrArg _ ey).trans (r.trans ((congrArg _ ej).trans r').symm)

theorem result_dv : (dats m 0 c).arrAt 9 cfg0.N = dvR (ctT (arg3 m c)) (prT (arg0 m c) (arg1 m c)) := by
  refine (dats m 0 c).arrAt_eq_of_covers 9 _ (by decide +kernel) fun t hf y => ?_
  blk_simp
  rw [after_9]
  have h16 := N_lt t
  have ey : y = ix3 (y 0 : Fin 1) (y 1 : Fin 512) (y 2 : Fin 64) := by
    funext a
    refine Fin.cases rfl (fun b => Fin.cases rfl (fun b => Fin.cases rfl (fun b => b.elim0) b) b) a
  have ej : (win0_9.blk t).view.emb y = ix3 (grp t) (key (eighth t) (y 1 : Fin 512)) (y 2 : Fin 64) := by
    unfold grp eighth key
    blk_ext [idx9]
  have r := dvPoint m c H t (y 0) (y 1) (y 2)
  have r' := dv_at H (grp t) (key (eighth t) (y 1 : Fin 512)) (y 2 : Fin 64)
  exact (congrArg _ ey).trans (r.trans ((congrArg _ ej).trans r').symm)

end Cert.Kernel3Ideal.Hand

end
-- ==== Proof.DenseFinite.lean ====
module

public import proofs.«01_k».proof.Pre_finite3
public import proofs.«01_k».proof.Proof.Finite
public import proofs.«01_k».proof.Proof.DenseRef

/-! Finite arguments of the dense attention's gradient hold real numbers. -/

@[expose] public section

set_option maxRecDepth 16384

noncomputable section

namespace Cert.Dense

open Idealize.ShloMosaic
open Cert.Reference3Ideal
open Cert.Attn (real_of_all)

/-- The numbers that finite arguments hold. -/
theorem holds_of_finite [Cert.Pre_finite3.Facts] (q : FVec Ideal S4096x512 .f32) (k v : FVec Ideal S2x4096x64 .f32) (ct : FVec Ideal S4096x512 .f32)
    (h : Cert.Pre_finite3.fn (F := Ideal) q k v ct = fun _ => 1#1) : ∃ A : Args, Holds A q k v ct := by
  have e := congrFun h ix0
  dsimp only [Cert.Pre_finite3.fn, Cert.Pre_finite3.fn_part1] at e
  obtain ⟨e, e3⟩ := IntOp.andi_eq_one.1 e
  obtain ⟨e, e2⟩ := IntOp.andi_eq_one.1 e
  obtain ⟨e0, e1⟩ := IntOp.andi_eq_one.1 e
  have r0 := real_of_all q _ _ _ e0
  have r1 := real_of_all k _ _ _ e1
  have r2 := real_of_all v _ _ _ e2
  have r3 := real_of_all ct _ _ _ e3
  refine ⟨⟨fun s g h d => (q (ix2 s ⟨g.val * 256 + h.val * 64 + d.val, by omega⟩)).toReal, fun g n d => (k (ix3 g n d)).toReal,
    fun g n d => (v (ix3 g n d)).toReal, fun s g h d => (ct (ix2 s ⟨g.val * 256 + h.val * 64 + d.val, by omega⟩)).toReal⟩, ?_, ?_, ?_, ?_⟩
  · intro s g h d x hx
    rw [show x = ⟨g.val * 256 + h.val * 64 + d.val, by omega⟩ from Fin.ext hx]
    exact r0 _
  · exact fun g n d => r1 _
  · exact fun g n d => r2 _
  · intro s g h d x hx
    rw [show x = ⟨g.val * 256 + h.val * 64 + d.val, by omega⟩ from Fin.ext hx]
    exact r3 _

end Cert.Dense

end
-- ==== Proof.DenseClaims.lean ====
module

public import proofs.«01_k».proof.Defs
public import proofs.«01_k».proof.Proof.DenseOutput
public import proofs.«01_k».proof.Proof.DenseFinite
public import Idealize.ShloMosaic.Adequacy

/-! The claims about the dense attention's gradient over the extended reals and about its reference. -/

@[expose] public section

set_option maxRecDepth 16384

noncomputable section

namespace Cert.Hand3

open Idealize.ShloMosaic Idealize.SL.Sem
open Cert.Dense
open Cert.Dense.Ref (dqR dkR dvR gradT qT ctT prT run_reference)

theorem frame_ideal : Cert.quiescent_Kernel3Ideal := fun m ρ _ => Cert.Kernel3Ideal.Hand.frame m ρ

theorem frame_reference : Cert.quiescent_Reference3Ideal := fun m ρ _ =>
  (θ_run Cert.Reference3Ideal.defs _ _).mono (fun r h => ⟨fun c => (h c).2.2.2, sem_eq_zero_of_no_sems (by decide) r.2⟩) (run_reference m ρ)

/-- The constant that is named. -/
theorem preserves : Cert.preserves_Kernel3_Kernel3Ideal :=
  IdealRules.named_const.statement Cert.Kernel3Ideal.κ "inv_scale_a_log2e" .f32 0x40B17218#32 ((8 * (Real.log 2) : ℝ) : EReal) rfl

section Kernel

open Cert.Kernel3Ideal Cert.Kernel3Ideal.Gen Cert.Kernel3Ideal.Hand

/-- The kernel's run with its results named. -/
theorem run_kernel (m : (ℓ : Loc nD τ sig) → Buf (Elt Ideal) ℓ) (ρ : Dev nD → PrngReg)
    (hA : ∀ c, ∃ A : Args, Holds A (arg0 m c) (arg1 m c) (arg2 m c) (arg3 m c)) :
    θ_run defs (onTc (τ := τ) (main (F := Ideal))) ⟨m, fun _ => 0, ρ⟩ fun r => ∀ c : Dev nD,
      r.2.mem ((c.tc : Thread nD τ).loc main_v38_0) = dqR (gradT (arg0 m c) (arg1 m c) (arg2 m c) (arg3 m c)) (arg1 m c)
      ∧ r.2.mem ((c.tc : Thread nD τ).loc main_v38_1) = dkR (gradT (arg0 m c) (arg1 m c) (arg2 m c) (arg3 m c)) (qT (arg0 m c))
      ∧ r.2.mem ((c.tc : Thread nD τ).loc main_v38_2) = dvR (ctT (arg3 m c)) (prT (arg0 m c) (arg1 m c)) :=
  (θ_run defs _ _).mono (fun r h c => by
    obtain ⟨A, hA⟩ := hA c
    exact ⟨((h.1 c).1 7).trans (result_dq m c hA), ((h.1 c).1 8).trans (result_dk m c hA), ((h.1 c).1 9).trans (result_dv m c hA)⟩) (run_main m ρ)

end Kernel

theorem algebraic [Cert.Pre_finite3.Facts] : Cert.algebraic_Kernel3Ideal_Reference3Ideal_pre_finite3 := by
  intro m ρ m' ρ' hpre hagree
  have hA := fun c => holds_of_finite _ _ _ _ (hpre c)
  refine ⟨_, _, _, (θ_run Cert.Kernel3Ideal.defs _ _).mono (fun r h c => ⟨(h.1 c).1, (h.1 c).2.1, (h.1 c).2.2, h.2.1 c⟩)
    (θ_run_and (run_kernel m ρ hA) (Cert.Kernel3Ideal.Hand.frame m ρ)), ?_⟩
  refine (θ_run Cert.Reference3Ideal.defs _ _).mono (fun r h c => ?_) (run_reference m' ρ')
  obtain ⟨e0, e1, e2, e3⟩ := hagree c
  obtain ⟨h0, h1, h2, h3⟩ := h c
  dsimp only at h0 h1 h2
  rw [e0, e1, e2, e3] at h0 h1
  rw [e0, e1, e3] at h2
  exact ⟨h0, h1, h2, h3⟩

end Cert.Hand3

end
-- ==== Proof.InBlocks.lean ====
module

public import proofs.«01_k».proof.Proof.Gen.Kernel4Ideal.Skeleton
public import Idealize.ShloMosaic.Lib.Tactic.Stretches
public import Idealize.ShloMosaic.Lib.Pointwise

/-! One block of 512 positions of the input projection's gradient: what a point of `odd_in_bwd` computes from the blocks that it
reads and from its two running sums. -/

@[expose] public section

set_option maxRecDepth 16384

noncomputable section

namespace Cert.Kernel4Ideal.Hand

open Idealize.ShloMosaic Idealize.ShloMosaic.TcCoe
open Cert.Kernel4Ideal.Gen

variable {F : FTy → Type} [FloatOps F]

/-- The blocks that a point reads. -/
structure Ins (F : FTy → Type) [FloatOps F] where
  x : Vec F S512x1024 .f32
  md : Vec F S3x1024 .f32
  nw : Vec F S1x1024 .f32
  dxo : Vec F S512x1024 .f32
  wt : Vec F S2560x1024 .bf16
  dq : Vec F S512x1024 .bf16
  dk : Vec F S4x512x64 .f32
  dv : Vec F S4x512x64 .f32
  dg : Vec F S512x1024 .bf16

namespace Ins

variable (X : Ins F)

/-- The positions' block, the norm's weights, the shift, the scale. -/
def xs : Vec F S512x1024 .f32 := View.ld (Val := Elt F) X.x (Rect.unit ![0, 0] S512x1024.size inb_S512x1024_S512x1024_0_0)
@[inherit_doc xs]
def nws : Vec F S1x1024 .f32 := View.ld (Val := Elt F) X.nw (Rect.unit ![0, 0] S1x1024.size inb_S1x1024_S1x1024_0_0)
@[inherit_doc xs]
def sh : Vec F S1x1024 .f32 := View.ld (Val := Elt F) X.md (Rect.unit ![0, 0] S1x1024.size inb_S3x1024_S1x1024_0_0)
@[inherit_doc xs]
def sc : Vec F S1x1024 .f32 := View.ld (Val := Elt F) X.md (Rect.unit ![1, 0] S1x1024.size inb_S3x1024_S1x1024_1_0)
/-- The four cotangents, the heads of the keys' and the values' one by one. -/
def dqs : Vec F S512x1024 .bf16 := View.ld (Val := Elt F) X.dq (Rect.unit ![0, 0] S512x1024.size inb_S512x1024_S512x1024_0_0)
@[inherit_doc dqs]
def dgs : Vec F S512x1024 .bf16 := View.ld (Val := Elt F) X.dg (Rect.unit ![0, 0] S512x1024.size inb_S512x1024_S512x1024_0_0)
@[inherit_doc dqs]
def k0 : Vec F S1x512x64 .f32 := View.ld (Val := Elt F) X.dk (Rect.unit ![0, 0, 0] S1x512x64.size inb_S4x512x64_S1x512x64_0_0_0)
@[inherit_doc dqs]
def k1 : Vec F S1x512x64 .f32 := View.ld (Val := Elt F) X.dk (Rect.unit ![1, 0, 0] S1x512x64.size inb_S4x512x64_S1x512x64_1_0_0)
@[inherit_doc dqs]
def k2 : Vec F S1x512x64 .f32 := View.ld (Val := Elt F) X.dk (Rect.unit ![2, 0, 0] S1x512x64.size inb_S4x512x64_S1x512x64_2_0_0)
@[inherit_doc dqs]
def k3 : Vec F S1x512x64 .f32 := View.ld (Val := Elt F) X.dk (Rect.unit ![3, 0, 0] S1x512x64.size inb_S4x512x64_S1x512x64_3_0_0)
@[inherit_doc dqs]
def v0 : Vec F S1x512x64 .f32 := View.ld (Val := Elt F) X.dv (Rect.unit ![0, 0, 0] S1x512x64.size inb_S4x512x64_S1x512x64_0_0_0)
@[inherit_doc dqs]
def v1 : Vec F S1x512x64 .f32 := View.ld (Val := Elt F) X.dv (Rect.unit ![1, 0, 0] S1x512x64.size inb_S4x512x64_S1x512x64_1_0_0)
@[inherit_doc dqs]
def v2 : Vec F S1x512x64 .f32 := View.ld (Val := Elt F) X.dv (Rect.unit ![2, 0, 0] S1x512x64.size inb_S4x512x64_S1x512x64_2_0_0)
@[inherit_doc dqs]
def v3 : Vec F S1x512x64 .f32 := View.ld (Val := Elt F) X.dv (Rect.unit ![3, 0, 0] S1x512x64.size inb_S4x512x64_S1x512x64_3_0_0)
/-- The rows of the transposed weights, by cotangent. -/
def w0 : Vec F S1024x1024 .bf16 := View.ld (Val := Elt F) X.wt (Rect.unit ![0, 0] S1024x1024.size inb_S2560x1024_S1024x1024_0_0)
@[inherit_doc w0]
def w1 : Vec F S256x1024 .bf16 := View.ld (Val := Elt F) X.wt (Rect.unit ![1024, 0] S256x1024.size inb_S2560x1024_S256x1024_1024_0)
@[inherit_doc w0]
def w2 : Vec F S256x1024 .bf16 := View.ld (Val := Elt F) X.wt (Rect.unit ![1280, 0] S256x1024.size inb_S2560x1024_S256x1024_1280_0)
@[inherit_doc w0]
def w3 : Vec F S1024x1024 .bf16 := View.ld (Val := Elt F) X.wt (Rect.unit ![1536, 0] S1024x1024.size inb_S2560x1024_S1024x1024_1536_0)
def dxos : Vec F S512x1024 .f32 := View.ld (Val := Elt F) X.dxo (Rect.unit ![0, 0] S512x1024.size inb_S512x1024_S512x1024_0_0)

/-- The normalised rows, their gain, and the input of the projection. -/
def xn : FVec F S512x1024 .f32 := k0_pay15 X.xs
@[inherit_doc xn]
def g1 : FVec F S1x1024 .f32 := k0_pay16 X.nws X.sc
@[inherit_doc xn]
def h : FVec F S512x1024 .bf16 := k0_pay17 X.xs X.nws X.sc X.sh

/-- The gradient of the projection's input: the first two parts, all four, and its sum over the rows. -/
def dh₂ : FVec F S512x1024 .f32 := k0_pay22 (k0_pay19 X.dqs X.w0) X.k0 X.k1 X.k2 X.k3 X.w1
@[inherit_doc dh₂]
def dh : FVec F S512x1024 .f32 := k0_pay29 X.dh₂ (k0_pay24 X.v0) (k0_pay25 X.v1) X.v2 X.v3 X.w2 X.dgs X.w3
@[inherit_doc dh₂]
def dhS : FVec F S1x1024 .f32 := k0_pay31 X.dh₂ (k0_pay24 X.v0) (k0_pay25 X.v1) X.v2 X.v3 X.w2 X.dgs X.w3

/-- The block of the gradient of the activations. -/
def dx : FVec F S512x1024 .f32 := k0_pay34 X.xn X.g1 X.dh X.xs X.dxos

/-- The four bands of the weights' gradient after the point, `T` before it. -/
def b0 (T : Vec F S2560x1024 .f32) : FVec F S1024x1024 .f32 :=
  k0_pay20 X.h (k0_pay18 X.dqs) (View.ld (Val := Elt F) T (Rect.unit ![0, 0] S1024x1024.size inb_S2560x1024_S1024x1024_0_0))
@[inherit_doc b0]
def b1 (T : Vec F S2560x1024 .f32) : FVec F S256x1024 .f32 :=
  k0_pay23 X.h X.k0 X.k1 X.k2 X.k3 (View.ld (Val := Elt F) T (Rect.unit ![1024, 0] S256x1024.size inb_S2560x1024_S256x1024_1024_0))
@[inherit_doc b0]
def b2 (T : Vec F S2560x1024 .f32) : FVec F S256x1024 .f32 :=
  k0_pay27 X.h (k0_pay24 X.v0) (k0_pay25 X.v1) X.v2 X.v3 (View.ld (Val := Elt F) T (Rect.unit ![1280, 0] S256x1024.size inb_S2560x1024_S256x1024_1280_0))
@[inherit_doc b0]
def b3 (T : Vec F S2560x1024 .f32) : FVec F S1024x1024 .f32 :=
  k0_pay30 X.h X.dgs (View.ld (Val := Elt F) T (Rect.unit ![1536, 0] S1024x1024.size inb_S2560x1024_S1024x1024_1536_0))

/-- The weights' gradient after the point. -/
def dwOut (T : Vec F S2560x1024 .f32) : Vec F S2560x1024 .f32 := fun y =>
  if h : (y 0).val < 1024 then X.b0 T (ix2 ⟨(y 0).val, h⟩ (y 1))
  else if h : (y 0).val < 1280 then X.b1 T (ix2 ⟨(y 0).val - 1024, by omega⟩ (y 1))
  else if h : (y 0).val < 1536 then X.b2 T (ix2 ⟨(y 0).val - 1280, by omega⟩ (y 1))
  else X.b3 T (ix2 ⟨(y 0).val - 1536, by have : (y 0).val < 2560 := (y 0).isLt; omega⟩ (y 1))

/-- Rows 0 and 1 of the sums over the positions after the point. -/
def row0 (S : Vec F S8x1024 .f32) : FVec F S1x1024 .f32 :=
  k0_pay32 (View.ld (Val := Elt F) S (Rect.unit ![0, 0] S1x1024.size inb_S8x1024_S1x1024_0_0)) X.dhS
@[inherit_doc row0]
def row1 (S : Vec F S8x1024 .f32) : FVec F S1x1024 .f32 :=
  k0_pay33 X.xn X.dh (View.ld (Val := Elt F) S (Rect.unit ![1, 0] S1x1024.size inb_S8x1024_S1x1024_1_0))

/-- The sums over the positions after the point. -/
def accOut (S : Vec F S8x1024 .f32) : Vec F S8x1024 .f32 := fun y =>
  if (y 0).val = 0 then X.row0 S (ix2 0 (y 1)) else if (y 0).val = 1 then X.row1 S (ix2 0 (y 1)) else S y

/-- The four rows of the vectors' gradient, from the sums after the last point. -/
def dvec (S : Vec F S8x1024 .f32) : Vec F S4x1024 .f32 := fun y =>
  if (y 0).val = 0 then View.ld (Val := Elt F) S (Rect.unit ![0, 0] S1x1024.size inb_S8x1024_S1x1024_0_0) (ix2 0 (y 1))
  else if (y 0).val = 1 then k0_pay2 (View.ld (Val := Elt F) S (Rect.unit ![1, 0] S1x1024.size inb_S8x1024_S1x1024_1_0)) X.nws (ix2 0 (y 1))
  else if (y 0).val = 2 then k0_pay3 (View.ld (Val := Elt F) S (Rect.unit ![1, 0] S1x1024.size inb_S8x1024_S1x1024_1_0)) X.sc (ix2 0 (y 1))
  else k0_pay4 (ix2 0 (y 1))

end Ins

theorem inbE (j : Fin 8) : ∀ a, (![320 * j.val, 0] : Fin 2 → Nat) a + S320x1024.size a ≤ S2560x1024.size a := by
  decide +revert

/-- The weights' gradient as it is returned: eight blocks of 320 rows. -/
def dwSlab (T : Vec F S2560x1024 .f32) (j : Fin 8) : FVec F S1x320x1024 .bf16 :=
  k0_pay5 (View.ld (Val := Elt F) T (Rect.unit (s := S2560x1024) ![320 * j.val, 0] S320x1024.size (inbE j)))
@[inherit_doc dwSlab]
def dwEmit (T : Vec F S2560x1024 .f32) : Vec F S8x320x1024 .bf16 := fun y => dwSlab T (y 0) (ix3 0 (y 1) (y 2))

/-- The sums before the first point. -/
def zeroT : Vec F S2560x1024 .f32 := k0_pay13
@[inherit_doc zeroT]
def zeroS : Vec F S8x1024 .f32 := k0_pay14

end Cert.Kernel4Ideal.Hand

end
-- ==== Proof.InContents.lean ====
module

public import proofs.«01_k».proof.Proof.InBlocks
public import proofs.«01_k».proof.Proof.Gen.Kernel4Ideal.Frame

/-! What every window's buffer and the two scratch arrays hold after the body at a point of the input projection's gradient, as explicit functions of the arrays that the region finds. -/

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The blocks that the body reads at a point. -/
abbrev ins (c : Dev nD) (t : Fin cfg0.N) : Ins F where
  x := iblk m c 0 t
  md := iblk m c 1 t
  nw := iblk m c 2 t
  dxo := iblk m c 3 t
  wt := iblk m c 4 t
  dq := iblk m c 5 t
  dk := iblk m c 6 t
  dv := iblk m c 7 t
  dg := iblk m c 8 t

/-- The point of a number; the grid has eight. -/
def pt (n : ℕ) : Fin cfg0.N := ⟨n % 8, lt_of_lt_of_eq (Nat.mod_lt _ (by decide)) (show 8 = cfg0.N from N_0.symm)⟩

theorem pt_val (t : Fin cfg0.N) : pt t.val = t :=
  Fin.ext (Nat.mod_eq_of_lt (lt_of_lt_of_eq t.isLt (show cfg0.N = 8 from N_0)))

/-- The sums over the positions after point `n`. -/
def accAt (c : Dev nD) : ℕ → Vec F S8x1024 .f32
  | 0 => (ins m c (pt 0)).accOut zeroS
  | n + 1 => (ins m c (pt (n + 1))).accOut (accAt c n)
/-- The weights' gradient after point `n`. -/
def dwAt (c : Dev nD) : ℕ → Vec F S2560x1024 .f32
  | 0 => (ins m c (pt 0)).dwOut zeroT
  | n + 1 => (ins m c (pt (n + 1))).dwOut (dwAt c n)

/-- What they hold when a point's own stores begin. -/
def accBefore (c : Dev nD) (n : ℕ) : Vec F S8x1024 .f32 := if n = 0 then zeroS else accAt m c (n - 1)
@[inherit_doc accBefore]
def dwBefore (c : Dev nD) (n : ℕ) : Vec F S2560x1024 .f32 := if n = 0 then zeroT else dwAt m c (n - 1)

theorem accAt_eq (c : Dev nD) (t : Fin cfg0.N) : accAt m c t.val = (ins m c t).accOut (accBefore m c t.val) := by
  have e := pt_val t
  obtain ⟨n, hn⟩ := t
  cases n with
  | zero => unfold accAt accBefore; rw [e]; rfl
  | succ n => conv_lhs => unfold accAt
              rw [e]; rfl
theorem dwAt_eq (c : Dev nD) (t : Fin cfg0.N) : dwAt m c t.val = (ins m c t).dwOut (dwBefore m c t.val) := by
  have e := pt_val t
  obtain ⟨n, hn⟩ := t
  cases n with
  | zero => unfold dwAt dwBefore; rw [e]; rfl
  | succ n => conv_lhs => unfold dwAt
              rw [e]; rfl

/-- The body's invariant before point `n`: after the first point the scratch arrays hold what the point before left. -/
def Inv (c : Dev nD) (n : ℕ) : sProp 𝕄 :=
  iprop((∃ d, ⌜n ≠ 0 → d = accAt m c (n - 1)⌝ ∗ owns (c : Thread nD τ) (Memref.whole cc0_scratch0) fullShare d)
    ∗ (∃ d, ⌜n ≠ 0 → d = dwAt m c (n - 1)⌝ ∗ owns (c : Thread nD τ) (Memref.whole cc0_scratch1) fullShare d) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (ins m c t).dx
    | ⟨10, _⟩ => (ins m c t).dvec (accAt m c t.val)
    | ⟨11, _⟩ => dwEmit (dwAt m c t.val)
    | ⟨n + 12, h⟩ => absurd (show n + 12 < 12 from h) (by omega)
  Φ t := Inv m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Inv m c t.val := by
  dsimp only [dats]; exact Pipeline.Dat.Φ_castSucc (fun n _ => Inv m c n) t
theorem Phi_succ (c : Dev nD) (t : Fin cfg0.N) : (dats m 0 c).Φ t.succ = Inv m c (t.val + 1) := by
  dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (ins m c t).dx := by dsimp only [dats]
theorem after_10 (c : Dev nD) (t : Fin cfg0.N) : (dats m 0 c).after 10 t = (ins m c t).dvec (accAt m c t.val) := by dsimp only [dats]
theorem after_11 (c : Dev nD) (t : Fin cfg0.N) : (dats m 0 c).after 11 t = dwEmit (dwAt m c t.val) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

theorem N_lt (t : Fin cfg0.N) : t.val < 8 := lt_of_lt_of_eq t.isLt (show cfg0.N = 8 from N_0)

end Cert.Kernel4Ideal.Hand

end
-- ==== Proof.InRun.lean ====
module

public import proofs.«01_k».proof.Proof.Gen.Kernel4Ideal.Frame
public import proofs.«01_k».proof.Proof.Gen.Kernel4Ideal.Skeleton
public import proofs.«01_k».proof.Proof.Gen.Kernel4Ideal.Points

/-! The run of `odd_in_bwd`'s body at a point: what it leaves in the three results and in the two scratch arrays, as a function of what it finds in them. -/

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

set_option maxHeartbeats 16000000 in
/-- What the body leaves, and that it runs to its end with it. -/
noncomputable def kernelRun (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S2560x1024 .bf16) (harg5 : arg5.IsWhole) (arg6 : Memref sig .tc .vmem S512x1024 .bf16) (harg6 : arg6.IsWhole) (arg7 : Memref sig .tc .vmem S4x512x64 .f32) (harg7 : arg7.IsWhole) (arg8 : Memref sig .tc .vmem S4x512x64 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S4x1024 .f32) (harg11 : arg11.IsWhole) (arg12 : Memref sig .tc .vmem S8x320x1024 .bf16) (harg12 : arg12.IsWhole) (arg13 : Memref sig .tc .vmem S8x1024 .f32) (harg13 : arg13.IsWhole) (arg14 : Memref sig .tc .vmem S2560x1024 .f32) (harg14 : arg14.IsWhole)
    (x1 : Vec F S512x1024 .f32) (x2 : Vec F S3x1024 .f32) (x3 : Vec F S1x1024 .f32) (x4 : Vec F S512x1024 .f32) (x5 : Vec F S2560x1024 .bf16) (x6 : Vec F S512x1024 .bf16) (x7 : Vec F S4x512x64 .f32) (x8 : Vec F S4x512x64 .f32) (x9 : Vec F S512x1024 .bf16) (f10 : arg10.view.ty.Contents (Elt F)) (f11 : arg11.view.ty.Contents (Elt F)) (f12 : arg12.view.ty.Contents (Elt F)) (f13 : arg13.view.ty.Contents (Elt F)) (f14 : arg14.view.ty.Contents (Elt F)) :
    Σ' (R10 : arg10.view.ty.Contents (Elt F)) (R11 : arg11.view.ty.Contents (Elt F)) (R12 : arg12.view.ty.Contents (Elt F)) (R13 : arg13.view.ty.Contents (Elt F)), { R14 : arg14.view.ty.Contents (Elt F) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (arg10.view.loc (c : Thread nD τ) ↦[arg10.view.set]{fullShare} R10) ∗ (arg11.view.loc (c : Thread nD τ) ↦[arg11.view.set]{fullShare} R11) ∗ (arg12.view.loc (c : Thread nD τ) ↦[arg12.view.set]{fullShare} R12) ∗ (arg13.view.loc (c : Thread nD τ) ↦[arg13.view.set]{fullShare} R13) ∗ (arg14.view.loc (c : Thread nD τ) ↦[arg14.view.set]{fullShare} R14)) -∗ K ⟨⟩))
          ⊢ wp frame (wpE (defs₀ (F := F)) Variants.none c none) E (cc0_odd_in_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_odd_in_bwd_eq_skeleton]; unfold cc0_odd_in_bwd_skel
    simp only [k0_part1_eq_skeleton, k0_part2_eq_skeleton, k0_part3_eq_skeleton, k0_part4_eq_skeleton, k0_part5_eq_skeleton, k0_part6_eq_skeleton]
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, H10, H11, H12, H13, H14, Hk⟩
    obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexact H10
    isplitl [H11]
    · iexact H11
    isplitl [H12]
    · iexact H12
    isplitl [H13]
    · iexact H13
    iexact H14

end Cert.Kernel4Ideal.Hand

end
-- ==== Proof.InStores.lean ====
module

public import proofs.«01_k».proof.Proof.InBlocks
public import Idealize.ShloMosaic.Lib.WritesUnit
public import Idealize.ShloMosaic.Lib.VecWindow

/-! Lists of stores: what they leave in the two scratch arrays and in the results. -/

@[expose] public section

set_option maxRecDepth 16384

noncomputable section

namespace Cert.Kernel4Ideal.Hand

open Idealize.ShloMosaic Idealize.ShloMosaic.TcCoe
open Cert.Kernel4Ideal.Gen

variable {F : FTy → Type} [FloatOps F]

/-- One store over the whole shape leaves what was stored. -/
theorem read_full {s : Shape} {e : EltTy} (v : View sig .tc .vmem s e) (f : v.ty.Contents (Elt F)) {off : Fin s.rank → ℕ} (inb : ∀ a, off a + s.size a ≤ s.size a)
    (w : s.Idx → Elt F e) : v.read (Elt F) (v.writes (Elt F) f [(⟨Rect.unit off s.size inb, w⟩ : View.Piece (Elt F) s e)]) = w := by
  funext y
  have h := View.read_writes_cons_emb v f (Rect.unit off s.size inb) w [] y
  rwa [Rect.emb_unit_full] at h

variable {n k o : ℕ} {e : EltTy} (v : View sig .tc .vmem (⟨2, ![n, 1024]⟩ : Shape) e) (f : v.ty.Contents (Elt F))
  (inb : ∀ a : Fin 2, (![o, 0] : Fin 2 → ℕ) a + (![k, 1024] : Fin 2 → ℕ) a ≤ (![n, 1024] : Fin 2 → ℕ) a)
  (w : (Rect.unit (s := (⟨2, ![n, 1024]⟩ : Shape)) ![o, 0] ![k, 1024] inb).shape.Idx → Elt F e)
  (L : List (View.Piece (Elt F) (⟨2, ![n, 1024]⟩ : Shape) e)) (y : (⟨2, ![n, 1024]⟩ : Shape).Idx)

/-- A store of whole rows, read at a row that it wrote. -/
theorem rows_in (r : Fin k) (h : (y 0).val = o + r.val) :
    v.read (Elt F) (v.writes (Elt F) f (⟨Rect.unit (s := (⟨2, ![n, 1024]⟩ : Shape)) ![o, 0] ![k, 1024] inb, w⟩ :: L)) y = w (ix2 r (y 1)) :=
  View.read_writes_cons_rows_of_mem v f inb w L y (ix2 r (y 1)) rfl h rfl

/-- A store of whole rows, read at another row. -/
theorem rows_out (h : (y 0).val < o ∨ o + k ≤ (y 0).val) :
    v.read (Elt F) (v.writes (Elt F) f (⟨Rect.unit (s := (⟨2, ![n, 1024]⟩ : Shape)) ![o, 0] ![k, 1024] inb, w⟩ :: L)) y = v.read (Elt F) (v.writes (Elt F) f L) y :=
  View.read_writes_cons_rows_of_not_mem v f inb w L y rfl rfl h

/-- The four bands of the weights' gradient. -/
theorem bands (v : View sig .tc .vmem S2560x1024 .f32) (f : v.ty.Contents (Elt F)) {X : Ins F} {T : Vec F S2560x1024 .f32}
    {w0 : (Rect.unit (s := S2560x1024) ![0, 0] S1024x1024.size inb_S2560x1024_S1024x1024_0_0).shape.Idx → Elt F .f32}
    {w1 : (Rect.unit (s := S2560x1024) ![1024, 0] S256x1024.size inb_S2560x1024_S256x1024_1024_0).shape.Idx → Elt F .f32}
    {w2 : (Rect.unit (s := S2560x1024) ![1280, 0] S256x1024.size inb_S2560x1024_S256x1024_1280_0).shape.Idx → Elt F .f32}
    {w3 : (Rect.unit (s := S2560x1024) ![1536, 0] S1024x1024.size inb_S2560x1024_S1024x1024_1536_0).shape.Idx → Elt F .f32}
    (h0 : w0 = X.b0 T) (h1 : w1 = X.b1 T) (h2 : w2 = X.b2 T) (h3 : w3 = X.b3 T) :
    v.read (Elt F) (v.writes (Elt F) f [⟨_, w3⟩, ⟨_, w2⟩, ⟨_, w1⟩, ⟨_, w0⟩]) = X.dwOut T := by
  subst h0 h1 h2 h3
  funext y
  have hy : (y 0).val < 2560 := (y 0).isLt
  unfold Ins.dwOut
  by_cases c0 : (y 0).val < 1024
  · rw [dif_pos c0]
    refine (rows_out v f _ _ _ y (by omega)).trans ((rows_out v f _ _ _ y (by omega)).trans ((rows_out v f _ _ _ y (by omega)).trans (rows_in v f _ _ _ y ⟨(y 0).val, c0⟩ (by simp only; omega))))
  · rw [dif_neg c0]
    by_cases c1 : (y 0).val < 1280
    · rw [dif_pos c1]
      exact (rows_out v f _ _ _ y (by omega)).trans ((rows_out v f _ _ _ y (by omega)).trans (rows_in v f _ _ _ y ⟨(y 0).val - 1024, by omega⟩ (by simp only; omega)))
    · rw [dif_neg c1]
      by_cases c2 : (y 0).val < 1536
      · rw [dif_pos c2]
        exact (rows_out v f _ _ _ y (by omega)).trans (rows_in v f _ _ _ y ⟨(y 0).val - 1280, by omega⟩ (by simp only; omega))
      · rw [dif_neg c2]
        exact rows_in v f _ _ _ y ⟨(y 0).val - 1536, by omega⟩ (by simp only; omega)

/-- The two rows of the sums over the positions. -/
theorem two_rows (v : View sig .tc .vmem S8x1024 .f32) (f : v.ty.Contents (Elt F)) {X : Ins F}
    {w0 : (Rect.unit (s := S8x1024) ![0, 0] S1x1024.size inb_S8x1024_S1x1024_0_0).shape.Idx → Elt F .f32}
    {w1 : (Rect.unit (s := S8x1024) ![1, 0] S1x1024.size inb_S8x1024_S1x1024_1_0).shape.Idx → Elt F .f32}
    (h0 : w0 = X.row0 (v.read (Elt F) f)) (h1 : w1 = X.row1 (v.read (Elt F) f)) :
    v.read (Elt F) (v.writes (Elt F) f [⟨_, w1⟩, ⟨_, w0⟩]) = X.accOut (v.read (Elt F) f) := by
  subst h0 h1
  funext y
  unfold Ins.accOut
  by_cases c0 : (y 0).val = 0
  · rw [if_pos c0]
    exact (rows_out v f _ _ _ y (by omega)).trans (rows_in v f _ _ _ y 0 (by rw [c0]; rfl))
  · rw [if_neg c0]
    by_cases c1 : (y 0).val = 1
    · rw [if_pos c1]
      exact rows_in v f _ _ _ y 0 (by rw [c1]; rfl)
    · rw [if_neg c1]
      exact (rows_out v f _ _ _ y (by omega)).trans (rows_out v f _ _ _ y (by omega))

/-- The four rows of the vectors' gradient. -/
theorem four_rows (v : View sig .tc .vmem S4x1024 .f32) (f : v.ty.Contents (Elt F)) {X : Ins F} {S : Vec F S8x1024 .f32}
    {w0 : (Rect.unit (s := S4x1024) ![0, 0] S1x1024.size inb_S4x1024_S1x1024_0_0).shape.Idx → Elt F .f32}
    {w1 : (Rect.unit (s := S4x1024) ![1, 0] S1x1024.size inb_S4x1024_S1x1024_1_0).shape.Idx → Elt F .f32}
    {w2 : (Rect.unit (s := S4x1024) ![2, 0] S1x1024.size inb_S4x1024_S1x1024_2_0).shape.Idx → Elt F .f32}
    {w3 : (Rect.unit (s := S4x1024) ![3, 0] S1x1024.size inb_S4x1024_S1x1024_3_0).shape.Idx → Elt F .f32}
    (h0 : w0 = View.ld (Val := Elt F) S (Rect.unit ![0, 0] S1x1024.size inb_S8x1024_S1x1024_0_0))
    (h1 : w1 = k0_pay2 (View.ld (Val := Elt F) S (Rect.unit ![1, 0] S1x1024.size inb_S8x1024_S1x1024_1_0)) X.nws)
    (h2 : w2 = k0_pay3 (View.ld (Val := Elt F) S (Rect.unit ![1, 0] S1x1024.size inb_S8x1024_S1x1024_1_0)) X.sc)
    (h3 : w3 = k0_pay4) :
    v.read (Elt F) (v.writes (Elt F) f [⟨_, w3⟩, ⟨_, w2⟩, ⟨_, w1⟩, ⟨_, w0⟩]) = X.dvec S := by
  subst h0 h1 h2 h3
  funext y
  have hy : (y 0).val < 4 := (y 0).isLt
  unfold Ins.dvec
  by_cases c0 : (y 0).val = 0
  · rw [if_pos c0]
    exact (rows_out v f _ _ _ y (by omega)).trans ((rows_out v f _ _ _ y (by omega)).trans ((rows_out v f _ _ _ y (by omega)).trans (rows_in v f _ _ _ y 0 (by rw [c0]; rfl))))
  · rw [if_neg c0]
    by_cases c1 : (y 0).val = 1
    · rw [if_pos c1]
      exact (rows_out v f _ _ _ y (by omega)).trans ((rows_out v f _ _ _ y (by omega)).trans (rows_in v f _ _ _ y 0 (by rw [c1]; rfl)))
    · rw [if_neg c1]
      by_cases c2 : (y 0).val = 2
      · rw [if_pos c2]
        exact (rows_out v f _ _ _ y (by omega)).trans (rows_in v f _ _ _ y 0 (by rw [c2]; rfl))
      · rw [if_neg c2]
        exact rows_in v f _ _ _ y 0 (by show (y 0).val = 3 + 0; omega)

/-- A store of one slab, read in it and outside. -/
theorem slab_in (v : View sig .tc .vmem S8x320x1024 .bf16) (f : v.ty.Contents (Elt F)) {j : ℕ} (inb : ∀ a, (![j, 0, 0] : Fin 3 → ℕ) a + S1x320x1024.size a ≤ S8x320x1024.size a)
    (w : (Rect.unit (s := S8x320x1024) ![j, 0, 0] S1x320x1024.size inb).shape.Idx → Elt F .bf16) (L : List (View.Piece (Elt F) S8x320x1024 .bf16)) (y : S8x320x1024.Idx) (h : (y 0).val = j) :
    v.read (Elt F) (v.writes (Elt F) f (⟨Rect.unit (s := S8x320x1024) ![j, 0, 0] S1x320x1024.size inb, w⟩ :: L)) y = w (ix3 0 (y 1) (y 2)) :=
  View.read_writes_cons_unit_of_mem v f inb w L y (ix3 0 (y 1) (y 2)) rfl fun a => match a with
    | ⟨0, _⟩ => h
    | ⟨1, _⟩ => (Nat.zero_add _).symm
    | ⟨2, _⟩ => (Nat.zero_add _).symm
@[inherit_doc slab_in]
theorem slab_out (v : View sig .tc .vmem S8x320x1024 .bf16) (f : v.ty.Contents (Elt F)) {j : ℕ} (inb : ∀ a, (![j, 0, 0] : Fin 3 → ℕ) a + S1x320x1024.size a ≤ S8x320x1024.size a)
    (w : (Rect.unit (s := S8x320x1024) ![j, 0, 0] S1x320x1024.size inb).shape.Idx → Elt F .bf16) (L : List (View.Piece (Elt F) S8x320x1024 .bf16)) (y : S8x320x1024.Idx) (h : (y 0).val < j) :
    v.read (Elt F) (v.writes (Elt F) f (⟨Rect.unit (s := S8x320x1024) ![j, 0, 0] S1x320x1024.size inb, w⟩ :: L)) y = v.read (Elt F) (v.writes (Elt F) f L) y :=
  View.read_writes_cons_unit_of_not_mem v f inb w L y rfl 0 (Or.inl h)

/-- What the first `n` slabs' stores leave in them. -/
def Upto (T : Vec F S2560x1024 .f32) (n : ℕ) (D : Vec F S8x320x1024 .bf16) : Prop := ∀ y : S8x320x1024.Idx, (y 0).val < n → D y = dwEmit T y

theorem upto_step (v : View sig .tc .vmem S8x320x1024 .bf16) (f : v.ty.Contents (Elt F)) {T : Vec F S2560x1024 .f32} {j : ℕ} (hj : j < 8)
    {inb : ∀ a, (![j, 0, 0] : Fin 3 → ℕ) a + S1x320x1024.size a ≤ S8x320x1024.size a} {w : (Rect.unit (s := S8x320x1024) ![j, 0, 0] S1x320x1024.size inb).shape.Idx → Elt F .bf16}
    {L : List (View.Piece (Elt F) S8x320x1024 .bf16)} (hL : Upto T j (v.read (Elt F) (v.writes (Elt F) f L))) (hw : w = dwSlab T ⟨j, hj⟩) :
    Upto T (j + 1) (v.read (Elt F) (v.writes (Elt F) f (⟨Rect.unit (s := S8x320x1024) ![j, 0, 0] S1x320x1024.size inb, w⟩ :: L))) := by
  subst hw
  intro y hy
  by_cases h : (y 0).val = j
  · rw [slab_in v f inb _ L y h]
    unfold dwEmit
    rw [show (⟨j, hj⟩ : Fin 8) = y 0 from Fin.ext h.symm]
  · rw [slab_out v f inb _ L y (by omega)]
    exact hL y (by omega)

theorem upto_zero (T : Vec F S2560x1024 .f32) (D : Vec F S8x320x1024 .bf16) : Upto T 0 D := fun y h => absurd h (by omega)
theorem upto_all {T : Vec F S2560x1024 .f32} {D : Vec F S8x320x1024 .bf16} (h : Upto T 8 D) : D = dwEmit T := funext fun y => h y (y 0).isLt

/-- A load of what stores that cover it left. -/
theorem cov {s : Shape} {e : EltTy} (v : View sig .tc .vmem s e) (L : List (View.Piece (Elt F) s e)) (r : Rect s) {T : s.Idx → Elt F e}
    (h : v.read (Elt F) (v.writes (Elt F) v.junk L) = T) : v.readCov L r.toLoadRect = View.ld (Val := Elt F) T r := by
  subst h
  rfl

/-- The rows of the sums over the positions, read back. -/
theorem back0 (v : View sig .tc .vmem S8x1024 .f32)
    (w0 : (Rect.unit (s := S8x1024) ![0, 0] S1x1024.size inb_S8x1024_S1x1024_0_0).shape.Idx → Elt F .f32)
    (w1 : (Rect.unit (s := S8x1024) ![1, 0] S1x1024.size inb_S8x1024_S1x1024_1_0).shape.Idx → Elt F .f32) :
    v.readCov (Val := Elt F) [⟨_, w1⟩, ⟨_, w0⟩] (Rect.unit (s := S8x1024) ![0, 0] S1x1024.size inb_S8x1024_S1x1024_0_0).toLoadRect = w0 := by
  rw [cov v _ _ rfl]
  funext j
  obtain ⟨z, d, rfl⟩ : ∃ (z : Fin 1) (d : Fin 1024), j = ix2 z d := ⟨j 0, j 1, by funext t; match t with | 0 => rfl | 1 => rfl⟩
  obtain rfl : z = 0 := Subsingleton.elim _ _
  refine (rows_out v v.junk _ _ _ ((Rect.unit (s := S8x1024) ![0, 0] S1x1024.size inb_S8x1024_S1x1024_0_0).emb (ix2 0 d)) (Or.inl (by show 0 + 1 * 0 < 1; omega))).trans
    ((rows_in v v.junk _ _ _ ((Rect.unit (s := S8x1024) ![0, 0] S1x1024.size inb_S8x1024_S1x1024_0_0).emb (ix2 0 d)) 0 rfl).trans (congrArg w0 ?_))
  funext t
  match t with
  | 0 => rfl
  | 1 => exact Fin.ext (by show 0 + 1 * d.val = d.val; omega)
@[inherit_doc back0]
theorem back1 (v : View sig .tc .vmem S8x1024 .f32)
    (w0 : (Rect.unit (s := S8x1024) ![0, 0] S1x1024.size inb_S8x1024_S1x1024_0_0).shape.Idx → Elt F .f32)
    (w1 : (Rect.unit (s := S8x1024) ![1, 0] S1x1024.size inb_S8x1024_S1x1024_1_0).shape.Idx → Elt F .f32) :
    v.readCov (Val := Elt F) [⟨_, w1⟩, ⟨_, w0⟩] (Rect.unit (s := S8x1024) ![1, 0] S1x1024.size inb_S8x1024_S1x1024_1_0).toLoadRect = w1 := by
  rw [cov v _ _ rfl]
  funext j
  exact View.read_writes_cons_emb v v.junk _ w1 _ j

theorem ld_row (r : Fin 8) {inb : ∀ a, (![r.val, 0] : Fin 2 → ℕ) a + S1x1024.size a ≤ S8x1024.size a} (T : Vec F S8x1024 .f32) (z : Fin 1) (d : Fin 1024) :
    View.ld (Val := Elt F) T (Rect.unit (s := S8x1024) ![r.val, 0] S1x1024.size inb) (ix2 z d) = T (ix2 r d) := by
  refine congrArg T (funext fun t => ?_)
  match t with
  | 0 => exact Fin.ext (by show r.val + 1 * z.val = r.val; have := z.isLt; omega)
  | 1 => exact Fin.ext (by show 0 + 1 * d.val = d.val; omega)

/-- The sums' rows 0 and 1 after the point. -/
theorem acc_row0 (X : Ins F) (S : Vec F S8x1024 .f32) : View.ld (Val := Elt F) (X.accOut S) (Rect.unit ![0, 0] S1x1024.size inb_S8x1024_S1x1024_0_0) = X.row0 S := by
  funext j
  obtain ⟨z, d, rfl⟩ : ∃ (z : Fin 1) (d : Fin 1024), j = ix2 z d := ⟨j 0, j 1, by funext t; match t with | 0 => rfl | 1 => rfl⟩
  obtain rfl : z = 0 := Subsingleton.elim _ _
  exact (ld_row 0 (X.accOut S) 0 d).trans (by unfold Ins.accOut; exact if_pos rfl)
@[inherit_doc acc_row0]
theorem acc_row1 (X : Ins F) (S : Vec F S8x1024 .f32) : View.ld (Val := Elt F) (X.accOut S) (Rect.unit ![1, 0] S1x1024.size inb_S8x1024_S1x1024_1_0) = X.row1 S := by
  funext j
  obtain ⟨z, d, rfl⟩ : ∃ (z : Fin 1) (d : Fin 1024), j = ix2 z d := ⟨j 0, j 1, by funext t; match t with | 0 => rfl | 1 => rfl⟩
  obtain rfl : z = 0 := Subsingleton.elim _ _
  exact (ld_row 1 (X.accOut S) 0 d).trans (by unfold Ins.accOut; exact (if_neg (show ¬(1 : Fin 8).val = 0 by decide)).trans (if_pos rfl))

end Cert.Kernel4Ideal.Hand

end
-- ==== Proof.InRead.lean ====
module

public import proofs.«01_k».proof.Proof.InRun
public import proofs.«01_k».proof.Proof.InStores

/-! What the stores of a run leave in the two scratch arrays and in the three results, in the words of `InBlocks`. -/

@[expose] public section

set_option maxRecDepth 16384

noncomputable section

namespace Cert.Kernel4Ideal.Hand

open Idealize.ShloMosaic Idealize.ShloMosaic.TcCoe Idealize.ShloMosaic.Tactic
open Cert.Kernel4Ideal.Gen

variable {F : FTy → Type} [FloatOps F]

theorem first_iff : ∀ i : grid0.Coords, kernelRun.sl.v3 i = 1#1 ↔ (i 0).val = 0 := by decide +kernel
theorem last_iff : ∀ i : grid0.Coords, k0_cond2 i = 1#1 ↔ (i 0).val = 7 := by decide +kernel

variable (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S2560x1024 .bf16) (harg5 : arg5.IsWhole) (arg6 : Memref sig .tc .vmem S512x1024 .bf16) (harg6 : arg6.IsWhole) (arg7 : Memref sig .tc .vmem S4x512x64 .f32) (harg7 : arg7.IsWhole) (arg8 : Memref sig .tc .vmem S4x512x64 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S4x1024 .f32) (harg11 : arg11.IsWhole) (arg12 : Memref sig .tc .vmem S8x320x1024 .bf16) (harg12 : arg12.IsWhole) (arg13 : Memref sig .tc .vmem S8x1024 .f32) (harg13 : arg13.IsWhole) (arg14 : Memref sig .tc .vmem S2560x1024 .f32) (harg14 : arg14.IsWhole)
  (x1 : Vec F S512x1024 .f32) (x2 : Vec F S3x1024 .f32) (x3 : Vec F S1x1024 .f32) (x4 : Vec F S512x1024 .f32) (x5 : Vec F S2560x1024 .bf16) (x6 : Vec F S512x1024 .bf16) (x7 : Vec F S4x512x64 .f32) (x8 : Vec F S4x512x64 .f32) (x9 : Vec F S512x1024 .bf16) (f10 : arg10.view.ty.Contents (Elt F)) (f11 : arg11.view.ty.Contents (Elt F)) (f12 : arg12.view.ty.Contents (Elt F)) (f13 : arg13.view.ty.Contents (Elt F)) (f14 : arg14.view.ty.Contents (Elt F))

/-- The two scratch arrays before the point's own stores: zeros at the first point. -/
abbrev acc0 : arg13.view.ty.Contents (Elt F) :=
  if hc : kernelRun.sl.v3 i = 1#1 then arg13.view.writes (Elt F) f13 [⟨Rect.unit ![0, 0] S8x1024.size inb_S8x1024_S8x1024_0_0, k0_pay14⟩] else f13
@[inherit_doc acc0]
abbrev dw0 : arg14.view.ty.Contents (Elt F) :=
  if hc : kernelRun.sl.v3 i = 1#1 then arg14.view.writes (Elt F) f14 [⟨Rect.unit ![0, 0] S2560x1024.size inb_S2560x1024_S2560x1024_0_0, k0_pay13⟩] else f14

set_option maxHeartbeats 4000000 in
/-- The weights' gradient after its stores, over anything. -/
theorem dw_any (f : arg14.view.ty.Contents (Elt F)) : arg14.view.read (Elt F) (arg14.view.writes (Elt F) f (kernelRun.sl.H14_4 c i arg1 harg1 arg2 harg2 arg3 harg3 arg6 harg6 arg7 harg7 arg8 harg8 arg9 harg9 arg14 x1 x2 x3 x6 x7 x8 x9 f14)) = (⟨x1, x2, x3, x4, x5, x6, x7, x8, x9⟩ : Ins F).dwOut (arg14.view.read (Elt F) (dw0 i arg14 f14)) := by
  unfold kernelRun.sl.H14_4
  refine bands _ _ ?_ ?_ ?_ ?_
  all_goals
    sl_open_run
    sl_open_pay
    conv_rhs => rw [← harg1.read_unread x1, ← harg2.read_unread x2, ← harg3.read_unread x3, ← harg6.read_unread x6, ← harg7.read_unread x7, ← harg8.read_unread x8, ← harg9.read_unread x9]
    rfl

set_option maxHeartbeats 4000000 in
/-- The weights' gradient at the end of the run. -/
theorem read_dw : arg14.view.read (Elt F) (kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 x8 x9 f10 f11 f12 f13 f14).2.2.2.2.1 = (⟨x1, x2, x3, x4, x5, x6, x7, x8, x9⟩ : Ins F).dwOut (arg14.view.read (Elt F) (dw0 i arg14 f14)) := by
  unfold kernelRun
  dsimp only
  refine bands _ _ ?_ ?_ ?_ ?_
  all_goals
    sl_open_run
    sl_open_pay
    conv_rhs => rw [← harg1.read_unread x1, ← harg2.read_unread x2, ← harg3.read_unread x3, ← harg4.read_unread x4, ← harg5.read_unread x5, ← harg6.read_unread x6, ← harg7.read_unread x7, ← harg8.read_unread x8, ← harg9.read_unread x9]
    rfl

set_option maxHeartbeats 4000000 in
/-- The sums over the positions at the end of the run. -/
theorem read_acc : arg13.view.read (Elt F) (kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 x8 x9 f10 f11 f12 f13 f14).2.2.2.1 = (⟨x1, x2, x3, x4, x5, x6, x7, x8, x9⟩ : Ins F).accOut (arg13.view.read (Elt F) (acc0 i arg13 f13)) := by
  unfold kernelRun
  dsimp only
  refine two_rows _ _ ?_ ?_
  all_goals
    sl_open_run
    sl_open_pay
    conv_rhs => rw [← harg1.read_unread x1, ← harg2.read_unread x2, ← harg3.read_unread x3, ← harg4.read_unread x4, ← harg5.read_unread x5, ← harg6.read_unread x6, ← harg7.read_unread x7, ← harg8.read_unread x8, ← harg9.read_unread x9]
    rfl

set_option maxHeartbeats 4000000 in
/-- The block of the activations' gradient at the end of the run. -/
theorem read_dx : arg10.view.read (Elt F) (kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 x8 x9 f10 f11 f12 f13 f14).1 = (⟨x1, x2, x3, x4, x5, x6, x7, x8, x9⟩ : Ins F).dx := by
  unfold kernelRun
  dsimp only
  unfold kernelRun.sl.H10_1
  rw [read_full arg10.view]
  sl_open_run
  sl_open_pay
  conv_rhs => rw [← harg1.read_unread x1, ← harg2.read_unread x2, ← harg3.read_unread x3, ← harg4.read_unread x4, ← harg5.read_unread x5, ← harg6.read_unread x6, ← harg7.read_unread x7, ← harg8.read_unread x8, ← harg9.read_unread x9]
  rfl

set_option maxHeartbeats 4000000 in
/-- The sums over the positions, loaded back. -/
theorem back_row0 : kernelRun.sl.v134 c i arg1 harg1 arg5 harg5 arg6 harg6 arg7 harg7 arg8 harg8 arg9 harg9 arg13 x1 x5 x6 x7 x8 x9 f13 = (⟨x1, x2, x3, x4, x5, x6, x7, x8, x9⟩ : Ins F).row0 (arg13.view.read (Elt F) (acc0 i arg13 f13)) := by
  unfold kernelRun.sl.v134 kernelRun.sl.H13_2
  rw [back0]
  sl_open_run
  sl_open_pay
  conv_rhs => rw [← harg1.read_unread x1, ← harg5.read_unread x5, ← harg6.read_unread x6, ← harg7.read_unread x7, ← harg8.read_unread x8, ← harg9.read_unread x9]
  rfl
set_option maxHeartbeats 4000000 in
@[inherit_doc back_row0]
theorem back_row1 : kernelRun.sl.v133 c i arg1 harg1 arg5 harg5 arg6 harg6 arg7 harg7 arg8 harg8 arg9 harg9 arg13 x1 x5 x6 x7 x8 x9 f13 = (⟨x1, x2, x3, x4, x5, x6, x7, x8, x9⟩ : Ins F).row1 (arg13.view.read (Elt F) (acc0 i arg13 f13)) := by
  unfold kernelRun.sl.v133 kernelRun.sl.H13_2
  rw [back1]
  sl_open_run
  sl_open_pay
  conv_rhs => rw [← harg1.read_unread x1, ← harg5.read_unread x5, ← harg6.read_unread x6, ← harg7.read_unread x7, ← harg8.read_unread x8, ← harg9.read_unread x9]
  rfl

set_option maxHeartbeats 4000000 in
/-- The vectors' gradient at the end of the run. -/
theorem read_dvec : arg11.view.read (Elt F) (kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 x8 x9 f10 f11 f12 f13 f14).2.1 =
    if k0_cond2 i = 1#1 then (⟨x1, x2, x3, x4, x5, x6, x7, x8, x9⟩ : Ins F).dvec ((⟨x1, x2, x3, x4, x5, x6, x7, x8, x9⟩ : Ins F).accOut (arg13.view.read (Elt F) (acc0 i arg13 f13))) else arg11.view.read (Elt F) f11 := by
  by_cases hc : k0_cond2 i = 1#1
  · rw [if_pos hc]
    unfold kernelRun
    dsimp only
    rw [dif_pos hc]
    refine four_rows _ _ ?_ ?_ ?_ ?_
    · exact (back_row0 c i arg1 harg1 arg5 harg5 arg6 harg6 arg7 harg7 arg8 harg8 arg9 harg9 arg13 x1 x2 x3 x4 x5 x6 x7 x8 x9 f13).trans (acc_row0 _ _).symm
    · rw [acc_row1, ← back_row1 c i arg1 harg1 arg5 harg5 arg6 harg6 arg7 harg7 arg8 harg8 arg9 harg9 arg13 x1 x2 x3 x4 x5 x6 x7 x8 x9 f13]
      unfold Ins.nws
      conv_rhs => rw [← harg3.read_unread x3]
      rfl
    · rw [acc_row1, ← back_row1 c i arg1 harg1 arg5 harg5 arg6 harg6 arg7 harg7 arg8 harg8 arg9 harg9 arg13 x1 x2 x3 x4 x5 x6 x7 x8 x9 f13]
      unfold Ins.sc
      conv_rhs => rw [← harg2.read_unread x2]
      rfl
    · rfl
  · rw [if_neg hc]
    unfold kernelRun
    dsimp only
    rw [dif_neg hc]

/-- The weights' gradient loaded back, 320 rows at a time. -/
theorem back_dw (j : Fin 8) (inb : ∀ a, (![320 * j.val, 0] : Fin 2 → ℕ) a + S320x1024.size a ≤ S2560x1024.size a) :
    arg14.view.readCov (kernelRun.sl.H14_4 c i arg1 harg1 arg2 harg2 arg3 harg3 arg6 harg6 arg7 harg7 arg8 harg8 arg9 harg9 arg14 x1 x2 x3 x6 x7 x8 x9 f14) (Rect.unit (s := S2560x1024) ![320 * j.val, 0] S320x1024.size inb).toLoadRect
      = View.ld (Val := Elt F) ((⟨x1, x2, x3, x4, x5, x6, x7, x8, x9⟩ : Ins F).dwOut (arg14.view.read (Elt F) (dw0 i arg14 f14))) (Rect.unit (s := S2560x1024) ![320 * j.val, 0] S320x1024.size (inbE j)) :=
  cov _ _ _ (dw_any c i arg1 harg1 arg2 harg2 arg3 harg3 arg6 harg6 arg7 harg7 arg8 harg8 arg9 harg9 arg14 x1 x2 x3 x4 x5 x6 x7 x8 x9 f14 _)

set_option maxHeartbeats 4000000 in
/-- The weights' gradient as it is returned, at the end of the run. -/
theorem read_dwb : arg12.view.read (Elt F) (kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 x8 x9 f10 f11 f12 f13 f14).2.2.1 =
    if k0_cond2 i = 1#1 then dwEmit ((⟨x1, x2, x3, x4, x5, x6, x7, x8, x9⟩ : Ins F).dwOut (arg14.view.read (Elt F) (dw0 i arg14 f14))) else arg12.view.read (Elt F) f12 := by
  by_cases hc : k0_cond2 i = 1#1
  · rw [if_pos hc]
    unfold kernelRun
    dsimp only
    rw [dif_pos hc]
    refine upto_all ?_
    refine upto_step arg12.view _ (by decide) ?_ (congrArg k0_pay5 (back_dw c i arg1 harg1 arg2 harg2 arg3 harg3 arg6 harg6 arg7 harg7 arg8 harg8 arg9 harg9 arg14 x1 x2 x3 x4 x5 x6 x7 x8 x9 f14 7 inb_S2560x1024_S320x1024_2240_0))
    refine upto_step arg12.view _ (by decide) ?_ (congrArg k0_pay5 (back_dw c i arg1 harg1 arg2 harg2 arg3 harg3 arg6 harg6 arg7 harg7 arg8 harg8 arg9 harg9 arg14 x1 x2 x3 x4 x5 x6 x7 x8 x9 f14 6 inb_S2560x1024_S320x1024_1920_0))
    refine upto_step arg12.view _ (by decide) ?_ (congrArg k0_pay5 (back_dw c i arg1 harg1 arg2 harg2 arg3 harg3 arg6 harg6 arg7 harg7 arg8 harg8 arg9 harg9 arg14 x1 x2 x3 x4 x5 x6 x7 x8 x9 f14 5 inb_S2560x1024_S320x1024_1600_0))
    refine upto_step arg12.view _ (by decide) ?_ (congrArg k0_pay5 (back_dw c i arg1 harg1 arg2 harg2 arg3 harg3 arg6 harg6 arg7 harg7 arg8 harg8 arg9 harg9 arg14 x1 x2 x3 x4 x5 x6 x7 x8 x9 f14 4 inb_S2560x1024_S320x1024_1280_0))
    refine upto_step arg12.view _ (by decide) ?_ (congrArg k0_pay5 (back_dw c i arg1 harg1 arg2 harg2 arg3 harg3 arg6 harg6 arg7 harg7 arg8 harg8 arg9 harg9 arg14 x1 x2 x3 x4 x5 x6 x7 x8 x9 f14 3 inb_S2560x1024_S320x1024_960_0))
    refine upto_step arg12.view _ (by decide) ?_ (congrArg k0_pay5 (back_dw c i arg1 harg1 arg2 harg2 arg3 harg3 arg6 harg6 arg7 harg7 arg8 harg8 arg9 harg9 arg14 x1 x2 x3 x4 x5 x6 x7 x8 x9 f14 2 inb_S2560x1024_S320x1024_640_0))
    refine upto_step arg12.view _ (by decide) ?_ (congrArg k0_pay5 (back_dw c i arg1 harg1 arg2 harg2 arg3 harg3 arg6 harg6 arg7 harg7 arg8 harg8 arg9 harg9 arg14 x1 x2 x3 x4 x5 x6 x7 x8 x9 f14 1 inb_S2560x1024_S320x1024_320_0))
    refine upto_step arg12.view _ (by decide) ?_ (congrArg k0_pay5 (back_dw c i arg1 harg1 arg2 harg2 arg3 harg3 arg6 harg6 arg7 harg7 arg8 harg8 arg9 harg9 arg14 x1 x2 x3 x4 x5 x6 x7 x8 x9 f14 0 inb_S2560x1024_S320x1024_0_0))
    exact upto_zero _ _
  · rw [if_neg hc]
    unfold kernelRun
    dsimp only
    rw [dif_neg hc]

end Cert.Kernel4Ideal.Hand

end
-- ==== Proof.InBody.lean ====
module

public import Idealize.ShloMosaic.Lib.Claim
public import proofs.«01_k».proof.Proof.InContents
public import proofs.«01_k».proof.Proof.InRead

/-! The body of the input projection's gradient at every point, and the run of the whole program. -/

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The block of positions of a point. -/
theorem coord0 : ∀ t : Fin cfg0.N, (grid0.coords t 0).val = t.val :=
  (by decide +kernel : ∀ t : Fin grid0.N, (grid0.coords t 0).val = t.val)
theorem first_pt (t : Fin cfg0.N) : kernelRun.sl.v3 (grid0.coords t) = 1#1 ↔ t.val = 0 := by
  rw [← coord0 t]
  exact first_iff _
theorem last_pt (t : Fin cfg0.N) : k0_cond2 (grid0.coords t) = 1#1 ↔ t.val = 7 := by
  rw [← coord0 t]
  exact last_iff _
/-- Two results are stored at the last point only. -/
theorem idle_10 : ∀ t : Fin cfg0.N, cfg0.idle 10 (cfg0.grid.coords t) = !decide (t.val = 7) :=
  (by decide +kernel : ∀ t : Fin grid0.N, idle0 10 (grid0.coords t) = !decide (t.val = 7))
theorem idle_11 : ∀ t : Fin cfg0.N, cfg0.idle 11 (cfg0.grid.coords t) = !decide (t.val = 7) :=
  (by decide +kernel : ∀ t : Fin grid0.N, idle0 11 (grid0.coords t) = !decide (t.val = 7))

/-- A memref's elements after stores, owned at what reads through them. -/
theorem owns_read (c : Dev nD) {s : Shape} {e : EltTy} (w : Memref sig .tc .vmem s e) (f : w.view.ty.Contents (Elt F)) (X : s.Idx → Elt F e)
    (h : w.view.read (Elt F) f = X) : (w.view.loc (c : Thread nD τ) ↦[w.view.set]{fullShare} f : sProp 𝕄) ⊢ owns (c : Thread nD τ) w fullShare X := by
  subst h; exact owns_intro (c : Thread nD τ) w fullShare f

theorem owns_open (c : Dev nD) {s : Shape} {e : EltTy} (w : Memref sig .tc .vmem s e) (X : s.Idx → Elt F e) :
    (owns (c : Thread nD τ) w fullShare X : sProp 𝕄) = iprop(∃ f, ⌜w.view.read (Elt F) f = X⌝ ∗ (w.view.loc (c : Thread nD τ) ↦[w.view.set]{fullShare} f)) := rfl

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2560x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x512x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4x512x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1024 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S4x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S8x320x1024 .bf16 := win0_11.stage (cfg0.slots t 11)
abbrev hs11 (t : Fin cfg0.N) : (ms11 t).IsWhole := hstage0_11 ((cfg0.slots t 11).cast nbuf0_11)
abbrev sc0 : Memref sig .tc .vmem S8x1024 .f32 := Memref.whole cc0_scratch0
abbrev sc1 : Memref sig .tc .vmem S2560x1024 .f32 := Memref.whole cc0_scratch1

/-- The class invariant is the two scratch arrays and the generator. -/
theorem PhiA_eq (c : Dev nD) : (Pipeline.ΦA spec0 c : sProp 𝕄) = iprop(((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

theorem Phi_in (c : Dev nD) : (Pipeline.ΦA spec0 c : sProp 𝕄) ⊢ Inv m c 0 := by
  rw [PhiA_eq]
  unfold Inv
  iintro ⟨⟨⟨%d, H⟩, ⟨%d', H'⟩⟩, Hg⟩
  isplitl [H]
  · iexists d
    isplitr
    · ipureintro; exact fun h => absurd rfl h
    iexact H
  isplitl [H']
  · iexists d'
    isplitr
    · ipureintro; exact fun h => absurd rfl h
    iexact H'
  iexact Hg

theorem Phi_out (c : Dev nD) (n : ℕ) : Inv m c n ⊢ (Pipeline.ΦA spec0 c : sProp 𝕄) := by
  rw [PhiA_eq]
  unfold Inv
  iintro ⟨⟨%d, %hd, H⟩, ⟨%d', %hd', H'⟩, Hg⟩
  isplitl [H H']
  · isplitl [H]
    · iexists d
      iexact H
    iexists d'
    iexact H'
  iexact Hg

/-- What the body leaves in the vectors' gradient's buffer: what it found, but at the last point. -/
def post10 (c : Dev nD) (t : Fin cfg0.N) : sProp 𝕄 :=
  match cfg0.idle 10 (cfg0.grid.coords t) with
  | true =>
    match (cfg0.win 10).flush t with
    | false => iprop(∃ d, owns (c : Thread nD τ) (ms10 t) fullShare ((dats m 0 c).before 10 t d))
    | true => owns (c : Thread nD τ) (ms10 t) fullShare ((dats m 0 c).after 10 t)
  | false => owns (c : Thread nD τ) (ms10 t) fullShare ((dats m 0 c).after 10 t)

theorem post10_last (c : Dev nD) (t : Fin cfg0.N) (h : t.val = 7) : post10 m c t = owns (c : Thread nD τ) (ms10 t) fullShare ((dats m 0 c).after 10 t) := by
  unfold post10
  rw [idle_10, decide_eq_true h]
  rfl
theorem post10_other (c : Dev nD) (t : Fin cfg0.N) (h : ¬t.val = 7) : post10 m c t = iprop(∃ d, owns (c : Thread nD τ) (ms10 t) fullShare ((dats m 0 c).before 10 t d)) := by
  unfold post10
  rw [idle_10, decide_eq_false h, show (cfg0.win 10).flush t = false from Bool.eq_false_iff.mpr fun e => h (by have := (flush0_10 t).mp e; have := N_lt t; omega)]
  rfl

/-- What the body leaves in the weights' gradient's buffer: what it found, but at the last point. -/
def post11 (c : Dev nD) (t : Fin cfg0.N) : sProp 𝕄 :=
  match cfg0.idle 11 (cfg0.grid.coords t) with
  | true =>
    match (cfg0.win 11).flush t with
    | false => iprop(∃ d, owns (c : Thread nD τ) (ms11 t) fullShare ((dats m 0 c).before 11 t d))
    | true => owns (c : Thread nD τ) (ms11 t) fullShare ((dats m 0 c).after 11 t)
  | false => owns (c : Thread nD τ) (ms11 t) fullShare ((dats m 0 c).after 11 t)

theorem post11_last (c : Dev nD) (t : Fin cfg0.N) (h : t.val = 7) : post11 m c t = owns (c : Thread nD τ) (ms11 t) fullShare ((dats m 0 c).after 11 t) := by
  unfold post11
  rw [idle_11, decide_eq_true h]
  rfl
theorem post11_other (c : Dev nD) (t : Fin cfg0.N) (h : ¬t.val = 7) : post11 m c t = iprop(∃ d, owns (c : Thread nD τ) (ms11 t) fullShare ((dats m 0 c).before 11 t d)) := by
  unfold post11
  rw [idle_11, decide_eq_false h, show (cfg0.win 11).flush t = false from Bool.eq_false_iff.mpr fun e => h (by have := (flush0_11 t).mp e; have := N_lt t; omega)]
  rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ post10 m c t
    ∗ post11 m c t)

section Point

variable (c : Dev nD) (t : Fin cfg0.N) (f9 : (ms9 t).view.ty.Contents (Elt F)) (f10 : (ms10 t).view.ty.Contents (Elt F)) (f11 : (ms11 t).view.ty.Contents (Elt F)) (fS : sc0.view.ty.Contents (Elt F)) (fT : sc1.view.ty.Contents (Elt F))

/-- The run of the body at a point. -/
abbrev runAt := kernelRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) f9 f10 f11 fS fT

/-- The scratch arrays when the point's own stores begin. -/
theorem acc_before (h : t.val ≠ 0 → sc0.view.read (Elt F) fS = accAt m c (t.val - 1)) : sc0.view.read (Elt F) (acc0 (grid0.coords t) sc0 fS) = accBefore m c t.val := by
  unfold acc0 accBefore
  by_cases h0 : t.val = 0
  · rw [dif_pos ((first_pt t).mpr h0), if_pos h0]
    exact read_full sc0.view _ _ _
  · rw [dif_neg fun e => h0 ((first_pt t).mp e), if_neg h0]
    exact h h0
@[inherit_doc acc_before]
theorem dw_before (h : t.val ≠ 0 → sc1.view.read (Elt F) fT = dwAt m c (t.val - 1)) : sc1.view.read (Elt F) (dw0 (grid0.coords t) sc1 fT) = dwBefore m c t.val := by
  unfold dw0 dwBefore
  by_cases h0 : t.val = 0
  · rw [dif_pos ((first_pt t).mpr h0), if_pos h0]
    exact read_full sc1.view _ _ _
  · rw [dif_neg fun e => h0 ((first_pt t).mp e), if_neg h0]
    exact h h0

/-- The scratch arrays after the body. -/
theorem acc_pt (h : t.val ≠ 0 → sc0.view.read (Elt F) fS = accAt m c (t.val - 1)) : sc0.view.read (Elt F) (runAt m c t f9 f10 f11 fS fT).2.2.2.1 = accAt m c t.val := by
  refine (read_acc c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) f9 f10 f11 fS fT).trans ?_
  rw [accAt_eq]
  exact congrArg (ins m c t).accOut (acc_before m c t fS h)
@[inherit_doc acc_pt]
theorem dw_pt (h : t.val ≠ 0 → sc1.view.read (Elt F) fT = dwAt m c (t.val - 1)) : sc1.view.read (Elt F) (runAt m c t f9 f10 f11 fS fT).2.2.2.2.1 = dwAt m c t.val := by
  refine (read_dw c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) f9 f10 f11 fS fT).trans ?_
  rw [dwAt_eq]
  exact congrArg (ins m c t).dwOut (dw_before m c t fT h)

/-- The gradient of the activations after the body. -/
theorem dx_pt : (ms9 t).view.read (Elt F) (runAt m c t f9 f10 f11 fS fT).1 = (ins m c t).dx :=
  read_dx c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) f9 f10 f11 fS fT

/-- The gradient of the vectors after the body. -/
theorem dvec_pt (d) (h : t.val ≠ 0 → sc0.view.read (Elt F) fS = accAt m c (t.val - 1)) (h10 : (ms10 t).view.read (Elt F) f10 = (dats m 0 c).before 10 t d) :
    ((ms10 t).view.loc (c : Thread nD τ) ↦[(ms10 t).view.set]{fullShare} (runAt m c t f9 f10 f11 fS fT).2.1 : sProp 𝕄) ⊢ post10 m c t := by
  have e := read_dvec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) f9 f10 f11 fS fT
  by_cases hl : t.val = 7
  · rw [post10_last m c t hl, after_10]
    refine owns_read c (ms10 t) _ _ (e.trans ((if_pos ((last_pt t).mpr hl)).trans ?_))
    rw [accAt_eq]
    exact congrArg (fun S => (ins m c t).dvec ((ins m c t).accOut S)) (acc_before m c t fS h)
  · rw [post10_other m c t hl]
    iintro H
    iexists d
    iapply (owns_read c (ms10 t) _ _ ((e.trans (if_neg fun e => hl ((last_pt t).mp e))).trans h10))
    iexact H

/-- The gradient of the weights after the body. -/
theorem dwb_pt (d) (h : t.val ≠ 0 → sc1.view.read (Elt F) fT = dwAt m c (t.val - 1)) (h11 : (ms11 t).view.read (Elt F) f11 = (dats m 0 c).before 11 t d) :
    ((ms11 t).view.loc (c : Thread nD τ) ↦[(ms11 t).view.set]{fullShare} (runAt m c t f9 f10 f11 fS fT).2.2.1 : sProp 𝕄) ⊢ post11 m c t := by
  have e := read_dwb c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) f9 f10 f11 fS fT
  by_cases hl : t.val = 7
  · rw [post11_last m c t hl, after_11]
    refine owns_read c (ms11 t) _ _ (e.trans ((if_pos ((last_pt t).mpr hl)).trans ?_))
    rw [dwAt_eq]
    exact congrArg (fun T => dwEmit ((ins m c t).dwOut T)) (dw_before m c t fT h)
  · rw [post11_other m c t hl]
    iintro H
    iexists d
    iapply (owns_read c (ms11 t) _ _ ((e.trans (if_neg fun e => hl ((last_pt t).mp e))).trans h11))
    iexact H

end Point

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before_0, before_1, before_2, before_3, before_4, before_5, before_6, before_7, before_8, owns_open c (ms9 t), owns_open c (ms10 t), owns_open c (ms11 t)]
  rw [Phi_castSucc]
  unfold Inv
  simp only [owns_open c sc0, owns_open c sc1]
  iintro ⟨⟨⟨%dS, %hS, %fS, %eS, HS⟩, ⟨%dT, %hT, %fT, %eT, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, %f9, %e9, H9⟩, ⟨%d10, %f10, %e10, H10⟩, ⟨%d11, %f11, %e11, H11⟩⟩
  have hS' : t.val ≠ 0 → sc0.view.read (Elt F) fS = accAt m c (t.val - 1) := fun h => eS.trans (hS h)
  have hT' : t.val ≠ 0 → sc1.view.read (Elt F) fT = dwAt m c (t.val - 1) := fun h => eT.trans (hT h)
  iapply ((runAt m c t f9 f10 f11 fS fT).2.2.2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  isplitl [HT]; · iexact HT
  iintro ⟨H0, H1, H2, H3, H4, H5, H6, H7, H8, H9, H10, H11, HS, HT⟩
  unfold bodyPost
  rw [Phi_succ, show (dats m 0 c).owesAt () t.succ = (dats m 0 c).owesAt () t.castSucc from rfl,
    after_0, after_1, after_2, after_3, after_4, after_5, after_6, after_7, after_8, after_9]
  unfold Inv
  isplitl [HS HT Hg]
  · isplitl [HS]
    · iexists (accAt m c t.val)
      isplitr
      · ipureintro; exact fun _ => rfl
      iapply (owns_read c sc0 _ _ (acc_pt m c t f9 f10 f11 fS fT hS'))
      iexact HS
    isplitl [HT]
    · iexists (dwAt m c t.val)
      isplitr
      · ipureintro; exact fun _ => rfl
      iapply (owns_read c sc1 _ _ (dw_pt m c t f9 f10 f11 fS fT hT'))
      iexact HT
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (owns_read c (ms9 t) _ _ (dx_pt m c t f9 f10 f11 fS fT))
    iexact H9
  isplitl [H10]
  · iapply (dvec_pt m c t f9 f10 f11 fS fT d10 hS' e10)
    iexact H10
  iapply (dwb_pt m c t f9 f10 f11 fS fT d11 hT' e11)
  iexact H11

theorem defs₀_row (t : Fin cfg0.N) : defs₀ (F := F) .tc cfg0.body (cfg0.bodyArgs t (cfg0.slots t)) = bodyAt0 t := by
  unfold defs₀; rw [Defs.onTc_tc]

/-- The library's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem share_eq (c : Dev nD) (w : Fin cfg0.W) : (dats m 0 c).share w = fullShare := by
  unfold Dat.share
  dsimp only [dats]
  exact ite_self _

set_option backward.isDefEq.respectTransparency.types false in
/-- The whole program runs to its end; every window's array ends at what the proof data say, every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := share_eq m)
    (howed := fun _ _ => rfl) (V := V m) (hmain := hmain m Variants.none) (hA := A_eq m)
    (hin := fun c => Phi_in m c) (hout := fun c => Phi_out m c _)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Kernel4Ideal.Hand

end
-- ==== Proof.InFrame.lean ====
module

public import proofs.«01_k».proof.Defs
public import proofs.«01_k».proof.Proof.InBody
public import proofs.«01_k».proof.Proof.Gen.Kernel4

/-! The frame of the kernel as printed: no constant of it is named, so the run of `InBody` is its run. -/

@[expose] public section

set_option maxRecDepth 100000

noncomputable section

namespace Cert.Hand4

open Idealize.ShloMosaic Idealize.SL.Sem

set_option maxHeartbeats 0 in
/-- The two bodies are one. -/
theorem body_eq : @Cert.Kernel4.cc0_odd_in_bwd Bits _ _ = @Cert.Kernel4Ideal.cc0_odd_in_bwd Bits _ _ := by
  unfold Cert.Kernel4.cc0_odd_in_bwd Cert.Kernel4Ideal.cc0_odd_in_bwd
  rfl

set_option maxHeartbeats 0 in
/-- And so are the tables of bodies. -/
theorem defs₀_eq : @Cert.Kernel4.defs₀ Bits _ _ = @Cert.Kernel4Ideal.defs₀ Bits _ _ := by
  unfold Cert.Kernel4.defs₀ Cert.Kernel4Ideal.defs₀
  refine congrArg Defs.onTc (funext fun l => funext fun x => ?_)
  match l, x with
  | 0, (t, s) =>
    dsimp only
    rw [body_eq]
    rfl

set_option maxHeartbeats 0 in
theorem defs_eq : @Cert.Kernel4.defs Bits _ _ = @Cert.Kernel4Ideal.defs Bits _ _ :=
  congrArg (Pipeline.defs (@Cert.Kernel4Ideal.pcfgs Bits _)) defs₀_eq

set_option maxHeartbeats 0 in
/-- The host code is the same. -/
theorem main_eq : @Cert.Kernel4.main Bits _ _ = @Cert.Kernel4Ideal.main Bits _ _ := by
  unfold Cert.Kernel4.main Cert.Kernel4Ideal.main
  rfl

/-- A run of one program is a run of an equal one. -/
theorem transfer {D M} (hD : D = @Cert.Kernel4Ideal.defs Bits _ _) (hM : M = @Cert.Kernel4Ideal.main Bits _ _) {s Q}
    (h : θ_run (@Cert.Kernel4Ideal.defs Bits _ _) (onTc (τ := Cert.Kernel4Ideal.τ) (@Cert.Kernel4Ideal.main Bits _ _)) s Q) :
    θ_run D (onTc (τ := Cert.Kernel4Ideal.τ) M) s Q := by
  subst hD hM
  exact h

set_option maxHeartbeats 0 in
/-- The kernel as printed ends without a fault, its arguments unchanged and its semaphores at zero. -/
theorem frame_kernel : Cert.quiescent_Kernel4 := fun m ρ _ =>
  transfer defs_eq main_eq (Cert.Kernel4Ideal.Hand.frame (F := Bits) m ρ)

end Cert.Hand4

end
-- ==== Proof.InSpec.lean ====
module

public import Idealize.ShloMosaic.Lib.Pointwise
public import proofs.«01_k».proof.Proof.Words

/-! The input of the projections, the modulated RMS norm of reference.py, and the gradient of the four projections through it, in
real numbers: 4096 positions of 1024 features, weights of 2560 columns. -/

@[expose] public section

noncomputable section

namespace Cert.InProj

open Idealize.ShloMosaic

/-- The constant that the norm adds to the mean of the squares. -/
def ε : ℝ := 8796093 / 8796093022208

theorem c_ε : Ideal.ofBits .f32 0x358637BD#32 = ((ε : ℝ) : EReal) := by
  unfold ε
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_mhalf : Ideal.ofBits .f32 0xBF000000#32 = ((-(1 / 2) : ℝ) : EReal) := by
  simp [Ideal.ofBits, Ideal.ieee, -EReal.coe_mul]; norm_num

/-- The nine arguments, entry by entry. -/
structure Args where
  x : Fin 4096 → Fin 1024 → ℝ
  md : Fin 3 → Fin 1024 → ℝ
  nw : Fin 1024 → ℝ
  w : Fin 1024 → Fin 2560 → ℝ
  dxo : Fin 4096 → Fin 1024 → ℝ
  dq : Fin 4096 → Fin 1024 → ℝ
  dk : Fin 4 → Fin 4096 → Fin 64 → ℝ
  dv : Fin 4 → Fin 4096 → Fin 64 → ℝ
  dg : Fin 4096 → Fin 1024 → ℝ

namespace Args

variable (A : Args)

/-- The mean of a row's squares, and the constant. -/
def ms (s : Fin 4096) : ℝ := (∑ d, A.x s d * A.x s d) * (1 / 1024) + ε
/-- Its inverse square root. -/
def r (s : Fin 4096) : ℝ := (Real.sqrt (A.ms s))⁻¹
/-- The normalised row. -/
def xn (s : Fin 4096) (d : Fin 1024) : ℝ := A.x s d * A.r s
/-- The gain: the norm's weight times one plus the scale. -/
def g1 (d : Fin 1024) : ℝ := A.nw d * (1 + A.md 1 d)
/-- The projections' input. -/
def h (s : Fin 4096) (d : Fin 1024) : ℝ := A.xn s d * A.g1 d + A.md 0 d

/-- Its gradient: one part from each of the four projections. -/
def dhq (s : Fin 4096) (d : Fin 1024) : ℝ := ∑ e : Fin 1024, A.dq s e * A.w d ⟨e.val, by omega⟩
@[inherit_doc dhq]
def dhk (s : Fin 4096) (d : Fin 1024) : ℝ := ∑ e : Fin 256, A.dk ⟨e.val / 64, by omega⟩ s ⟨e.val % 64, by omega⟩ * A.w d ⟨1024 + e.val, by omega⟩
@[inherit_doc dhq]
def dhv (s : Fin 4096) (d : Fin 1024) : ℝ := ∑ e : Fin 256, A.dv ⟨e.val / 64, by omega⟩ s ⟨e.val % 64, by omega⟩ * A.w d ⟨1280 + e.val, by omega⟩
@[inherit_doc dhq]
def dhg (s : Fin 4096) (d : Fin 1024) : ℝ := ∑ e : Fin 1024, A.dg s e * A.w d ⟨1536 + e.val, by omega⟩
/-- All four. -/
def dh (s : Fin 4096) (d : Fin 1024) : ℝ := A.dhq s d + A.dhk s d + A.dhv s d + A.dhg s d

/-- The cotangents side by side, as the weights' columns are. -/
def ct (s : Fin 4096) (n : Fin 2560) : ℝ :=
  if h : n.val < 1024 then A.dq s ⟨n.val, h⟩
  else if h : n.val < 1280 then A.dk ⟨(n.val - 1024) / 64, by omega⟩ s ⟨(n.val - 1024) % 64, by omega⟩
  else if h : n.val < 1536 then A.dv ⟨(n.val - 1280) / 64, by omega⟩ s ⟨(n.val - 1280) % 64, by omega⟩
  else A.dg s ⟨n.val - 1536, by omega⟩
/-- The gradient of the weights, by column and feature. -/
def dW (n : Fin 2560) (d : Fin 1024) : ℝ := ∑ s, A.ct s n * A.h s d

/-- The sums over the positions. -/
def dsh (d : Fin 1024) : ℝ := ∑ s, A.dh s d
@[inherit_doc dsh]
def dg1 (d : Fin 1024) : ℝ := ∑ s, A.dh s d * A.xn s d

/-- The gradient of the normalised row, and of the row. -/
def dxn (s : Fin 4096) (d : Fin 1024) : ℝ := A.dh s d * A.g1 d
@[inherit_doc dxn]
def dx (s : Fin 4096) (d : Fin 1024) : ℝ :=
  A.dxo s d + A.r s * (A.dxn s d - A.xn s d * ((∑ e, A.dxn s e * A.xn s e) * (1 / 1024)))

/-- The gradients of the shift, the scale and the norm's weight; the fourth row is zero. -/
def dvec (j : Fin 4) (d : Fin 1024) : ℝ :=
  if j.val = 0 then A.dsh d else if j.val = 1 then A.dg1 d * A.nw d else if j.val = 2 then A.dg1 d * (1 + A.md 1 d) else 0

theorem ms_pos (s : Fin 4096) : 0 < A.ms s := by
  unfold ms
  have h : (0 : ℝ) ≤ ∑ d, A.x s d * A.x s d := Finset.sum_nonneg fun d _ => mul_self_nonneg _
  have : (0 : ℝ) < ε := by unfold ε; norm_num
  positivity

theorem rsqrt_ms (s : Fin 4096) : Ideal.rsqrt ((A.ms s : ℝ) : EReal) = ((A.r s : ℝ) : EReal) := by
  rw [Ideal.rsqrt_coe, if_neg (not_lt.2 (A.ms_pos s).le), if_neg (A.ms_pos s).ne']
  rfl

/-- The inverse square root over its argument is its cube. -/
theorem r_div (s : Fin 4096) : A.r s * (1 / A.ms s) = A.r s * A.r s * A.r s := by
  unfold r
  have h := Real.sqrt_pos.2 (A.ms_pos s)
  have e := Real.mul_self_sqrt (A.ms_pos s).le
  generalize Real.sqrt (A.ms s) = q at h e
  rw [← e]
  field_simp

/-- The gradient of a row from the gradient of the mean of its squares. -/
theorem dx_eq (s : Fin 4096) (d : Fin 1024) :
    A.dxo s d + A.dxn s d * A.r s
      + A.x s d * ((∑ e, A.x s e * A.dxn s e) * (-(1 / 2) * (A.r s * (1 / A.ms s))) * (1 / 1024))
      + (∑ e, A.x s e * A.dxn s e) * (-(1 / 2) * (A.r s * (1 / A.ms s))) * (1 / 1024) * A.x s d = A.dx s d := by
  unfold dx xn
  have e : ∑ e, A.dxn s e * (A.x s e * A.r s) = (∑ e, A.x s e * A.dxn s e) * A.r s := by
    rw [Finset.sum_mul]; exact Finset.sum_congr rfl fun e _ => by ring
  rw [e, r_div]
  ring

end Args

end Cert.InProj

end
-- ==== Proof.InRef.lean ====
module

public import proofs.«01_k».proof.Proof.Gen.Reference4Ideal.Run
public import proofs.«01_k».proof.Proof.InSpec

/-! What the reference of the input projection's gradient returns, entry by entry: the gradients of `InSpec`. -/

@[expose] public section

set_option maxRecDepth 16384

noncomputable section

namespace Cert.InProj

open Idealize.ShloMosaic Idealize.ShloMosaic.TcCoe
open Cert.Attn (coe_sum div_real)

/-- The arrays hold the numbers `A`. -/
structure Holds (A : Args) (x : FVec Ideal Cert.Reference4Ideal.S4096x1024 .f32) (md : FVec Ideal Cert.Reference4Ideal.S3x1024 .f32)
    (nw : FVec Ideal Cert.Reference4Ideal.S1024 .f32) (w : FVec Ideal Cert.Reference4Ideal.S1024x2560 .f32) (dxo dq : FVec Ideal Cert.Reference4Ideal.S4096x1024 .f32)
    (dk dv : FVec Ideal Cert.Reference4Ideal.S4x4096x64 .f32) (dg : FVec Ideal Cert.Reference4Ideal.S4096x1024 .f32) : Prop where
  x : ∀ (s : Fin 4096) (d : Fin 1024), x (ix2 s d) = (A.x s d : EReal)
  md : ∀ (j : Fin 3) (d : Fin 1024), md (ix2 j d) = (A.md j d : EReal)
  nw : ∀ d : Fin 1024, nw (ix1 d) = (A.nw d : EReal)
  w : ∀ (d : Fin 1024) (n : Fin 2560), w (ix2 d n) = (A.w d n : EReal)
  dxo : ∀ (s : Fin 4096) (d : Fin 1024), dxo (ix2 s d) = (A.dxo s d : EReal)
  dq : ∀ (s : Fin 4096) (e : Fin 1024), dq (ix2 s e) = (A.dq s e : EReal)
  dk : ∀ (h : Fin 4) (s : Fin 4096) (d : Fin 64), dk (ix3 h s d) = (A.dk h s d : EReal)
  dv : ∀ (h : Fin 4) (s : Fin 4096) (d : Fin 64), dv (ix3 h s d) = (A.dv h s d : EReal)
  dg : ∀ (s : Fin 4096) (e : Fin 1024), dg (ix2 s e) = (A.dg s e : EReal)

namespace Ref

open Cert.Reference4Ideal Cert.Reference4Ideal.Gen Cert.Reference4Ideal.Value

/-! ### The arrays -/

/-- A row for every position. -/
def wide (v : FVec Ideal S1x1024 .f32) : FVec Ideal S4096x1024 .f32 := broadcastInDim S4096x1024 ![0, 1] bcast_S1x1024_S4096x1024_0_1 v
@[inherit_doc wide]
def lift (v : FVec Ideal S1024 .f32) : FVec Ideal S1x1024 .f32 := broadcastInDim S1x1024 ![1] bcast_S1024_S1x1024_1 v
/-- A number for every feature. -/
def tall (v : FVec Ideal S4096x1 .f32) : FVec Ideal S4096x1024 .f32 := broadcastInDim S4096x1024 ![0, 1] bcast_S4096x1_S4096x1024_0_1 v

/-- The mean of the squares, with the constant. -/
def msOf (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
/-- Its inverse square root, and that function's derivative. -/
def rOf (a : FVec Ideal S4096x1 .f32) : FVec Ideal S4096x1 .f32 := Host.rsqrt a
@[inherit_doc rOf]
def cOf (r a : FVec Ideal S4096x1 .f32) : FVec Ideal S4096x1 .f32 := mulf (broadcastInDim S4096x1 ![] bcast_S_S4096x1 (constant S_ .f32 0xBF000000#32)) (Host.divf r a)

/-- The shift, and one plus the scale. -/
def shOf (md : FVec Ideal S3x1024 .f32) : FVec Ideal S1x1024 .f32 := lift (shapeCast S1024 (extractStridedSlice S1x1024 ![0, 0] md slices_S3x1024_S1x1024_0_0) shapeCasts_S1x1024_S1024)
@[inherit_doc shOf]
def scOf (md : FVec Ideal S3x1024 .f32) : FVec Ideal S1x1024 .f32 :=
  lift (addf (broadcastInDim S1024 ![] bcast_S_S1024 (constant S_ .f32 0x3F800000#32)) (shapeCast S1024 (extractStridedSlice S1x1024 ![1, 0] md slices_S3x1024_S1x1024_1_0) shapeCasts_S1x1024_S1024))

/-- The cotangents of the keys and of the values, heads side by side. -/
def flat (k : FVec Ideal S4x4096x64 .f32) : FVec Ideal S4096x256 .f32 :=
  shapeCast S4096x256 (transpose S4096x4x64 [1, 0, 2] k transposes_S4x4096x64_S4096x4x64_1_0_2) shapeCasts_S4096x4x64_S4096x256

/-- A cotangent through its weights. -/
def back (p : FVec Ideal S4096x1024 .f32) (w : FVec Ideal S1024x1024 .f32) : FVec Ideal S4096x1024 .f32 := Host.dotGeneral dot_S4096x1024_S1024x1024_S4096x1024_1_1_0_0_n_n none p w
@[inherit_doc back]
def backS (p : FVec Ideal S4096x256 .f32) (w : FVec Ideal S1024x256 .f32) : FVec Ideal S4096x1024 .f32 := Host.dotGeneral dot_S4096x256_S1024x256_S4096x1024_1_1_0_0_n_n none p w

/-- The gradient of the projections' input. -/
def dhOf (w : FVec Ideal S1024x2560 .f32) (dq : FVec Ideal S4096x1024 .f32) (k v : FVec Ideal S4096x256 .f32) (dg : FVec Ideal S4096x1024 .f32) : FVec Ideal S4096x1024 .f32 :=
  addf (addf (addf (back dg (extractStridedSlice S1024x1024 ![0, 1536] w slices_S1024x2560_S1024x1024_0_1536))
    (backS v (extractStridedSlice S1024x256 ![0, 1280] w slices_S1024x2560_S1024x256_0_1280)))
    (backS k (extractStridedSlice S1024x256 ![0, 1024] w slices_S1024x2560_S1024x256_0_1024)))
    (back dq (extractStridedSlice S1024x1024 ![0, 0] w slices_S1024x2560_S1024x1024_0_0))

/-- The gradients of the weights of one projection. -/
def dwOf (p h : FVec Ideal S4096x1024 .f32) : FVec Ideal S1024x1024 .f32 :=
  transpose S1024x1024 [1, 0] (Host.dotGeneral dot_S4096x1024_S4096x1024_S1024x1024_0_0_1_1_n_n none p h) transposes_S1024x1024_S1024x1024_1_0
@[inherit_doc dwOf]
def dwSOf (p : FVec Ideal S4096x256 .f32) (h : FVec Ideal S4096x1024 .f32) : FVec Ideal S1024x256 .f32 :=
  transpose S1024x256 [1, 0] (Host.dotGeneral dot_S4096x256_S4096x1024_S256x1024_0_0_1_1_n_n none p h) transposes_S256x1024_S1024x256_1_0
/-- All four, side by side; -/
def cat (a : FVec Ideal S1024x1024 .f32) (b c : FVec Ideal S1024x256 .f32) (d : FVec Ideal S1024x1024 .f32) : FVec Ideal S1024x2560 .f32 :=
  concatenate S1024x2560 1 [⟨S1024x1024, a⟩, ⟨S1024x256, b⟩, ⟨S1024x256, c⟩, ⟨S1024x1024, d⟩] concatenates_S1024x1024_S1024x256_S1024x256_S1024x1024_S1024x2560_d1
/-- by column, in eight blocks. -/
def outW (a : FVec Ideal S1024x1024 .f32) (b c : FVec Ideal S1024x256 .f32) (d : FVec Ideal S1024x1024 .f32) : FVec Ideal S8x320x1024 .bf16 :=
  truncf .bf16 (shapeCast S8x320x1024 (transpose S2560x1024 [1, 0] (cat a b c d) transposes_S1024x2560_S2560x1024_1_0) shapeCasts_S2560x1024_S8x320x1024) bitsLt_bf16_f32

/-- A sum over the positions, as a row. -/
def colSum (v : FVec Ideal S4096x1024 .f32) : FVec Ideal S1x1024 .f32 :=
  lift (Host.reduceAdd (shapeCast S1x1024 (Host.reduceAdd v (constant S_ .f32 0x00000000#32) reducesTo_S4096x1024_S1024_d0 h_S_) shapeCasts_S1024_S1x1024)
    (constant S_ .f32 0x00000000#32) reducesTo_S1x1024_S1024_d0 h_S_)
/-- Four rows, the last of zeros. -/
def rows (a b c : FVec Ideal S1x1024 .f32) : FVec Ideal S4x1024 .f32 :=
  concatenate S4x1024 0 [⟨S1x1024, a⟩, ⟨S1x1024, b⟩, ⟨S1x1024, c⟩, ⟨S1x1024, lift (broadcastInDim S1024 ![] bcast_S_S1024 (constant S_ .f32 0x00000000#32))⟩]
    concatenates_S1x1024_S1x1024_S1x1024_S1x1024_S4x1024_d0

/-- The gradient by the mean of the squares, over the number of features. -/
def uOf (x dxn : FVec Ideal S4096x1024 .f32) (e : FVec Ideal S4096x1 .f32) : FVec Ideal S4096x1024 .f32 :=
  broadcastInDim S4096x1024 ![0] bcast_S4096_S4096x1024_0 (Host.reduceAdd (Host.divf (mulf (shapeCast S4096x1 (Host.reduceAdd (mulf x dxn) (constant S_ .f32 0x00000000#32) reducesTo_S4096x1024_S4096_d1 h_S_) shapeCasts_S4096_S4096x1) e)
    (broadcastInDim S4096x1 ![] bcast_S_S4096x1 (constant S_ .f32 0x44800000#32))) (constant S_ .f32 0x00000000#32) reducesTo_S4096x1_S4096_d1 h_S_)

/-! ### Read at an index -/

theorem wide_read (v) (s : Fin 4096) (d : Fin 1024) : wide v (ix2 s d) = v (ix2 0 d) := by
  pointwise [wide]
theorem lift_read (v) (z : Fin 1) (d : Fin 1024) : lift v (ix2 z d) = v (ix1 d) := by
  pointwise [lift]
theorem tall_read (v) (s : Fin 4096) (d : Fin 1024) : tall v (ix2 s d) = v (ix2 s 0) := by
  pointwise [tall]
theorem msOf_read (x) (s : Fin 4096) (z : Fin 1) : msOf x (ix2 s z) = Ideal.div (∑ d : Fin 1024, x (ix2 s d) * x (ix2 s d)) (Ideal.ofBits .f32 0x44800000#32) + Ideal.ofBits .f32 0x358637BD#32 := by
  pointwise [msOf]
theorem rOf_read (a) (s : Fin 4096) (z : Fin 1) : rOf a (ix2 s z) = Ideal.rsqrt (a (ix2 s z)) := by
  pointwise [rOf]
theorem cOf_read (r a) (s : Fin 4096) (z : Fin 1) : cOf r a (ix2 s z) = Ideal.ofBits .f32 0xBF000000#32 * Ideal.div (r (ix2 s z)) (a (ix2 s z)) := by
  pointwise [cOf]
theorem shOf_read (md) (z : Fin 1) (d : Fin 1024) : shOf md (ix2 z d) = md (ix2 0 d) := by
  pointwise [shOf, lift]
theorem scOf_read (md) (z : Fin 1) (d : Fin 1024) : scOf md (ix2 z d) = 1 + md (ix2 1 d) := by
  pointwise [scOf, lift]
theorem flat_read (k) (s : Fin 4096) (e : Fin 256) : flat k (ix2 s e) = k (ix3 ⟨e.val / 64, by omega⟩ s ⟨e.val % 64, by omega⟩) := by
  pointwise [flat]
theorem dhOf_read (w dq k v dg) (s : Fin 4096) (d : Fin 1024) : dhOf w dq k v dg (ix2 s d) =
    (((∑ e : Fin 1024, dg (ix2 s e) * w (ix2 d ⟨1536 + e.val, by omega⟩)) + ∑ e : Fin 256, v (ix2 s e) * w (ix2 d ⟨1280 + e.val, by omega⟩))
      + ∑ e : Fin 256, k (ix2 s e) * w (ix2 d ⟨1024 + e.val, by omega⟩)) + ∑ e : Fin 1024, dq (ix2 s e) * w (ix2 d ⟨e.val, by omega⟩) := by
  pointwise [dhOf, back, backS]
theorem dwOf_read (p h) (d e : Fin 1024) : dwOf p h (ix2 d e) = ∑ s : Fin 4096, p (ix2 s e) * h (ix2 s d) := by
  pointwise [dwOf]
theorem dwSOf_read (p h) (d : Fin 1024) (e : Fin 256) : dwSOf p h (ix2 d e) = ∑ s : Fin 4096, p (ix2 s e) * h (ix2 s d) := by
  pointwise [dwSOf]
theorem outW_read (a b c d) (j : Fin 8) (r : Fin 320) (k : Fin 1024) (n : Fin 2560) (hn : n.val = 320 * j.val + r.val) : outW a b c d (ix3 j r k) =
    if h : n.val < 1024 then a (ix2 k ⟨n.val, h⟩) else if h : n.val < 1280 then b (ix2 k ⟨n.val - 1024, by omega⟩)
    else if h : n.val < 1536 then c (ix2 k ⟨n.val - 1280, by omega⟩) else d (ix2 k ⟨n.val - 1536, by omega⟩) := by
  have e : outW a b c d (ix3 j r k) = cat a b c d (ix2 k n) := by
    obtain ⟨n, hn'⟩ := n
    dsimp only at hn
    subst hn
    pointwise [outW]
    exact congrArg (fun y => cat a b c d (ix2 k y)) (Fin.ext (by dsimp only; omega))
  rw [e]
  pointwise [cat]
  by_cases h0 : n.val < 1024
  · rw [dif_pos h0, dif_pos h0]
  rw [dif_neg h0, dif_neg h0]
  by_cases h1 : n.val < 1280
  · rw [dif_pos (by omega), dif_pos h1]
  rw [dif_neg (by omega), dif_neg h1]
  by_cases h2 : n.val < 1536
  · rw [dif_pos (by omega), dif_pos h2]
    exact congrArg (fun y => c (ix2 k y)) (Fin.ext (by dsimp only; omega))
  rw [dif_neg (by omega), dif_neg h2]
  exact congrArg (fun y => d (ix2 k y)) (Fin.ext (by dsimp only; omega))
theorem colSum_read (v) (z : Fin 1) (d : Fin 1024) : colSum v (ix2 z d) = ∑ s : Fin 4096, v (ix2 s d) := by
  pointwise [colSum, lift]
  exact Fin.sum_univ_one _
theorem rows_read (a b c) (j : Fin 4) (d : Fin 1024) : rows a b c (ix2 j d) =
    if j.val = 0 then a (ix2 0 d) else if j.val = 1 then b (ix2 0 d) else if j.val = 2 then c (ix2 0 d) else 0 := by
  pointwise [rows, lift]
  fin_cases j <;> rfl
theorem uOf_read (x dxn e) (s : Fin 4096) (d : Fin 1024) : uOf x dxn e (ix2 s d) =
    Ideal.div ((∑ d' : Fin 1024, x (ix2 s d') * dxn (ix2 s d')) * e (ix2 s 0)) (Ideal.ofBits .f32 0x44800000#32) := by
  pointwise [uOf]
  exact Fin.sum_univ_one _

/-! ### On the arguments -/

variable (x : FVec Ideal S4096x1024 .f32) (md : FVec Ideal S3x1024 .f32) (nw : FVec Ideal S1024 .f32) (w : FVec Ideal S1024x2560 .f32)
  (dxo dq : FVec Ideal S4096x1024 .f32) (dk dv : FVec Ideal S4x4096x64 .f32) (dg : FVec Ideal S4096x1024 .f32)

/-- The normalised rows; with the norm's weights; the projections' input. -/
def xnT : FVec Ideal S4096x1024 .f32 := mulf x (tall (rOf (msOf x)))
@[inherit_doc xnT]
def nxT : FVec Ideal S4096x1024 .f32 := mulf (xnT x) (wide (lift nw))
@[inherit_doc xnT]
def hT : FVec Ideal S4096x1024 .f32 := addf (mulf (nxT x nw) (wide (scOf md))) (wide (shOf md))

/-- The gradients of the projections' input, of its scaled rows, of its normalised rows, and by the mean of the squares. -/
def dhT : FVec Ideal S4096x1024 .f32 := dhOf w dq (flat dk) (flat dv) dg
@[inherit_doc dhT]
def dsT : FVec Ideal S4096x1024 .f32 := mulf (dhT w dq dk dv dg) (wide (scOf md))
@[inherit_doc dhT]
def dxnT : FVec Ideal S4096x1024 .f32 := mulf (dsT md w dq dk dv dg) (wide (lift nw))
@[inherit_doc dhT]
def uT : FVec Ideal S4096x1024 .f32 := uOf x (dxnT md nw w dq dk dv dg) (cOf (rOf (msOf x)) (msOf x))

/-- What the reference returns. -/
def dxR : FVec Ideal S4096x1024 .f32 :=
  addf (addf (addf dxo (mulf (dxnT md nw w dq dk dv dg) (tall (rOf (msOf x))))) (mulf x (uT x md nw w dq dk dv dg))) (mulf (uT x md nw w dq dk dv dg) x)
@[inherit_doc dxR]
def dvecR : FVec Ideal S4x1024 .f32 :=
  rows (colSum (dhT w dq dk dv dg)) (colSum (mulf (nxT x nw) (dhT w dq dk dv dg))) (colSum (mulf (xnT x) (dsT md w dq dk dv dg)))
@[inherit_doc dxR]
def dwR : FVec Ideal S8x320x1024 .bf16 :=
  outW (dwOf dq (hT x md nw)) (dwSOf (flat dk) (hT x md nw)) (dwSOf (flat dv) (hT x md nw)) (dwOf dg (hT x md nw))

variable {x md nw w dxo dq dk dv dg} {A : Args} (H : Holds A x md nw w dxo dq dk dv dg)
include H

theorem ms_at (s : Fin 4096) (z : Fin 1) : msOf x (ix2 s z) = (A.ms s : EReal) := by
  have e : ∑ d : Fin 1024, x (ix2 s d) * x (ix2 s d) = ((∑ d, A.x s d * A.x s d : ℝ) : EReal) := by
    rw [← coe_sum]
    exact Finset.sum_congr rfl fun d _ => by rw [H.x, EReal.coe_mul]
  rw [msOf_read, c_1024, c_ε, e, div_real (by norm_num), ← EReal.coe_add]
  rfl

theorem r_at (s : Fin 4096) (z : Fin 1) : rOf (msOf x) (ix2 s z) = (A.r s : EReal) := by
  rw [rOf_read, ms_at H, A.rsqrt_ms]

theorem xnT_at (s : Fin 4096) (d : Fin 1024) : xnT x (ix2 s d) = (A.xn s d : EReal) := by
  rw [show xnT x (ix2 s d) = x (ix2 s d) * tall (rOf (msOf x)) (ix2 s d) from rfl, tall_read, H.x, r_at H, ← EReal.coe_mul]
  rfl

theorem sc_at (d : Fin 1024) : scOf md (ix2 0 d) = ((1 + A.md 1 d : ℝ) : EReal) := by
  rw [scOf_read, H.md, EReal.coe_add, EReal.coe_one]

theorem nxT_at (s : Fin 4096) (d : Fin 1024) : nxT x nw (ix2 s d) = ((A.xn s d * A.nw d : ℝ) : EReal) := by
  rw [show nxT x nw (ix2 s d) = xnT x (ix2 s d) * wide (lift nw) (ix2 s d) from rfl, xnT_at H, wide_read, lift_read, H.nw, ← EReal.coe_mul]

theorem hT_at (s : Fin 4096) (d : Fin 1024) : hT x md nw (ix2 s d) = (A.h s d : EReal) := by
  rw [show hT x md nw (ix2 s d) = nxT x nw (ix2 s d) * wide (scOf md) (ix2 s d) + wide (shOf md) (ix2 s d) from rfl, nxT_at H, wide_read, wide_read, sc_at H, shOf_read, H.md,
    ← EReal.coe_mul, ← EReal.coe_add]
  exact congrArg _ (by unfold Args.h Args.g1; ring)

theorem flat_k (s : Fin 4096) (e : Fin 256) : flat dk (ix2 s e) = (A.dk ⟨e.val / 64, by omega⟩ s ⟨e.val % 64, by omega⟩ : EReal) := by
  rw [flat_read, H.dk]
theorem flat_v (s : Fin 4096) (e : Fin 256) : flat dv (ix2 s e) = (A.dv ⟨e.val / 64, by omega⟩ s ⟨e.val % 64, by omega⟩ : EReal) := by
  rw [flat_read, H.dv]

theorem dhT_at (s : Fin 4096) (d : Fin 1024) : dhT w dq dk dv dg (ix2 s d) = (A.dh s d : EReal) := by
  have eq : ∑ e : Fin 1024, dq (ix2 s e) * w (ix2 d ⟨e.val, by omega⟩) = (A.dhq s d : EReal) := by
    unfold Args.dhq
    rw [← coe_sum]
    exact Finset.sum_congr rfl fun e _ => by rw [H.dq, H.w, EReal.coe_mul]
  have ek : ∑ e : Fin 256, flat dk (ix2 s e) * w (ix2 d ⟨1024 + e.val, by omega⟩) = (A.dhk s d : EReal) := by
    unfold Args.dhk
    rw [← coe_sum]
    exact Finset.sum_congr rfl fun e _ => by rw [flat_k H, H.w, EReal.coe_mul]
  have ev : ∑ e : Fin 256, flat dv (ix2 s e) * w (ix2 d ⟨1280 + e.val, by omega⟩) = (A.dhv s d : EReal) := by
    unfold Args.dhv
    rw [← coe_sum]
    exact Finset.sum_congr rfl fun e _ => by rw [flat_v H, H.w, EReal.coe_mul]
  have eg : ∑ e : Fin 1024, dg (ix2 s e) * w (ix2 d ⟨1536 + e.val, by omega⟩) = (A.dhg s d : EReal) := by
    unfold Args.dhg
    rw [← coe_sum]
    exact Finset.sum_congr rfl fun e _ => by rw [H.dg, H.w, EReal.coe_mul]
  unfold dhT
  rw [dhOf_read, eq, ek, ev, eg, ← EReal.coe_add, ← EReal.coe_add, ← EReal.coe_add]
  exact congrArg _ (by unfold Args.dh; ring)

theorem dsT_at (s : Fin 4096) (d : Fin 1024) : dsT md w dq dk dv dg (ix2 s d) = ((A.dh s d * (1 + A.md 1 d) : ℝ) : EReal) := by
  rw [show dsT md w dq dk dv dg (ix2 s d) = dhT w dq dk dv dg (ix2 s d) * wide (scOf md) (ix2 s d) from rfl, dhT_at H, wide_read, sc_at H, ← EReal.coe_mul]

theorem dxnT_at (s : Fin 4096) (d : Fin 1024) : dxnT md nw w dq dk dv dg (ix2 s d) = (A.dxn s d : EReal) := by
  rw [show dxnT md nw w dq dk dv dg (ix2 s d) = dsT md w dq dk dv dg (ix2 s d) * wide (lift nw) (ix2 s d) from rfl, dsT_at H, wide_read, lift_read, H.nw, ← EReal.coe_mul]
  exact congrArg _ (by unfold Args.dxn Args.g1; ring)

theorem uT_at (s : Fin 4096) (d : Fin 1024) : uT x md nw w dq dk dv dg (ix2 s d) =
    (((∑ e, A.x s e * A.dxn s e) * (-(1 / 2) * (A.r s * (1 / A.ms s))) * (1 / 1024) : ℝ) : EReal) := by
  have e : ∑ d : Fin 1024, x (ix2 s d) * dxnT md nw w dq dk dv dg (ix2 s d) = ((∑ e, A.x s e * A.dxn s e : ℝ) : EReal) := by
    rw [← coe_sum]
    exact Finset.sum_congr rfl fun d _ => by rw [H.x, dxnT_at H, EReal.coe_mul]
  unfold uT
  rw [uOf_read, e, cOf_read, r_at H, ms_at H, c_1024, c_mhalf, div_real (A.ms_pos s).ne', ← EReal.coe_mul, ← EReal.coe_mul, div_real (by norm_num)]

/-! ### The results -/

theorem dx_at (s : Fin 4096) (d : Fin 1024) : dxR x md nw w dxo dq dk dv dg (ix2 s d) = (A.dx s d : EReal) := by
  rw [show dxR x md nw w dxo dq dk dv dg (ix2 s d) = dxo (ix2 s d) + dxnT md nw w dq dk dv dg (ix2 s d) * tall (rOf (msOf x)) (ix2 s d)
      + x (ix2 s d) * uT x md nw w dq dk dv dg (ix2 s d) + uT x md nw w dq dk dv dg (ix2 s d) * x (ix2 s d) from rfl,
    H.dxo, dxnT_at H, tall_read, r_at H, H.x, uT_at H, ← A.dx_eq]
  simp only [EReal.coe_add, EReal.coe_mul]

theorem dvec_at (j : Fin 4) (d : Fin 1024) : dvecR x md nw w dq dk dv dg (ix2 j d) = (A.dvec j d : EReal) := by
  unfold dvecR Args.dvec
  rw [rows_read]
  split
  · unfold Args.dsh
    rw [colSum_read, ← coe_sum]
    exact Finset.sum_congr rfl fun s _ => dhT_at H s d
  split
  · unfold Args.dg1
    rw [colSum_read, Finset.sum_mul, ← coe_sum]
    refine Finset.sum_congr rfl fun s _ => ?_
    rw [show mulf (nxT x nw) (dhT w dq dk dv dg) (ix2 s d) = nxT x nw (ix2 s d) * dhT w dq dk dv dg (ix2 s d) from rfl, nxT_at H, dhT_at H, ← EReal.coe_mul]
    exact congrArg _ (by ring)
  split
  · unfold Args.dg1
    rw [colSum_read, Finset.sum_mul, ← coe_sum]
    refine Finset.sum_congr rfl fun s _ => ?_
    rw [show mulf (xnT x) (dsT md w dq dk dv dg) (ix2 s d) = xnT x (ix2 s d) * dsT md w dq dk dv dg (ix2 s d) from rfl, xnT_at H, dsT_at H, ← EReal.coe_mul]
    exact congrArg _ (by ring)
  · rfl

theorem dw_at (j : Fin 8) (r : Fin 320) (d : Fin 1024) (n : Fin 2560) (hn : n.val = 320 * j.val + r.val) :
    dwR x md nw dq dk dv dg (ix3 j r d) = (A.dW n d : EReal) := by
  unfold dwR Args.dW Args.ct
  rw [outW_read _ _ _ _ j r d n hn, ← coe_sum]
  split
  · rw [dwOf_read]
    exact Finset.sum_congr rfl fun s _ => by rw [H.dq, hT_at H, EReal.coe_mul]
  split
  · rw [dwSOf_read]
    exact Finset.sum_congr rfl fun s _ => by rw [flat_k H, hT_at H, EReal.coe_mul]
  split
  · rw [dwSOf_read]
    exact Finset.sum_congr rfl fun s _ => by rw [flat_v H, hT_at H, EReal.coe_mul]
  · rw [dwOf_read]
    exact Finset.sum_congr rfl fun s _ => by rw [H.dg, hT_at H, EReal.coe_mul]

omit H in
/-- The reference's run with its results named. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let M := fun b => m ((c.tc : Thread nD τ).loc b)
      r.2.mem ((c.tc : Thread nD τ).loc main_v90) = dxR (M main_arg0) (M main_arg1) (M main_arg2) (M main_arg3) (M main_arg4) (M main_arg5) (M main_arg6) (M main_arg7) (M main_arg8)
      ∧ r.2.mem ((c.tc : Thread nD τ).loc main_v96) = dvecR (M main_arg0) (M main_arg1) (M main_arg2) (M main_arg3) (M main_arg5) (M main_arg6) (M main_arg7) (M main_arg8)
      ∧ r.2.mem ((c.tc : Thread nD τ).loc main_v100) = dwR (M main_arg0) (M main_arg1) (M main_arg2) (M main_arg5) (M main_arg6) (M main_arg7) (M main_arg8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h => h) (Cert.Reference4Ideal.Value.run m ρ)

end Ref

end Cert.InProj

end
-- ==== Proof.InValue.lean ====
module

public import proofs.«01_k».proof.Proof.InBlocks
public import proofs.«01_k».proof.Proof.InSpec
public import proofs.«01_k».proof.Proof.LatentValue

/-! What a grid point of `odd_in_bwd` computes, in real numbers, when its blocks hold the numbers of the `j`-th 512 positions. -/

@[expose] public section

set_option maxRecDepth 16384

noncomputable section

namespace Cert.Kernel4Ideal.Hand

open Idealize.ShloMosaic Idealize.ShloMosaic.TcCoe
open Cert.Kernel4Ideal.Gen Cert.InProj
open Cert.Attn (coe_sum div_real)
open Cert.Latent (key)

/-- The blocks hold the numbers `A` of the `j`-th positions. -/
structure Has (A : Args) (j : Fin 8) (X : Ins Ideal) : Prop where
  x : ∀ (r : Fin 512) (d : Fin 1024), X.x (ix2 r d) = (A.x (key j r) d : EReal)
  md : ∀ (i : Fin 3) (d : Fin 1024), X.md (ix2 i d) = (A.md i d : EReal)
  nw : ∀ d : Fin 1024, X.nw (ix2 0 d) = (A.nw d : EReal)
  dxo : ∀ (r : Fin 512) (d : Fin 1024), X.dxo (ix2 r d) = (A.dxo (key j r) d : EReal)
  wt : ∀ (n : Fin 2560) (d : Fin 1024), X.wt (ix2 n d) = (A.w d n : EReal)
  dq : ∀ (r : Fin 512) (e : Fin 1024), X.dq (ix2 r e) = (A.dq (key j r) e : EReal)
  dk : ∀ (h : Fin 4) (r : Fin 512) (d : Fin 64), X.dk (ix3 h r d) = (A.dk h (key j r) d : EReal)
  dv : ∀ (h : Fin 4) (r : Fin 512) (d : Fin 64), X.dv (ix3 h r d) = (A.dv h (key j r) d : EReal)
  dg : ∀ (r : Fin 512) (e : Fin 1024), X.dg (ix2 r e) = (A.dg (key j r) e : EReal)

/-- Four arrays of 64 columns side by side, read at a column. -/
theorem four64 {α : Type} (f : Fin 4 → Fin 64 → α) (c : ℕ) (hc : c < 256) :
    (if h₀ : c < 64 then f 0 ⟨c, h₀⟩ else if h₁ : c - 64 < 64 then f 1 ⟨c - 64, h₁⟩ else
      if h₂ : c - 64 - 64 < 64 then f 2 ⟨c - 64 - 64, h₂⟩ else f 3 ⟨c - 64 - 64 - 64, by omega⟩) = f ⟨c / 64, by omega⟩ ⟨c % 64, by omega⟩ := by
  have fin : ∀ {a a' : Fin 4} {b b' : Fin 64}, a.val = a'.val → b.val = b'.val → f a b = f a' b' := fun ha hb => by rw [Fin.ext ha, Fin.ext hb]
  split_ifs <;> exact fin (by simp only [Fin.val_zero, Fin.val_one, Fin.val_two, show (3 : Fin 4).val = 3 from rfl]; omega) (by dsimp only; omega)

variable (X : Ins Ideal)

theorem xs_read (r : Fin 512) (d : Fin 1024) : X.xs (ix2 r d) = X.x (ix2 r d) := by
  pointwise [Ins.xs]
theorem xn_read (r : Fin 512) (d : Fin 1024) : X.xn (ix2 r d) = X.xs (ix2 r d) *
    Ideal.rsqrt (Ideal.div (∑ e : Fin 1024, X.xs (ix2 r e) * X.xs (ix2 r e)) (Ideal.ofBits .f32 0x44800000#32) + Ideal.ofBits .f32 0x358637BD#32) := by
  pointwise [Ins.xn, k0_pay15]
theorem g1_read (z : Fin 1) (d : Fin 1024) : X.g1 (ix2 z d) = X.nw (ix2 0 d) * (1 + X.md (ix2 1 d)) := by
  pointwise [Ins.g1, k0_pay16, Ins.nws, Ins.sc]
theorem h_read (r : Fin 512) (d : Fin 1024) : X.h (ix2 r d) = X.xn (ix2 r d) * X.g1 (ix2 0 d) + X.md (ix2 0 d) := by
  pointwise [Ins.h, k0_pay17, Ins.sh]
  rfl
theorem dqs_read (r : Fin 512) (e : Fin 1024) : X.dqs (ix2 r e) = X.dq (ix2 r e) := by
  pointwise [Ins.dqs]
theorem dgs_read (r : Fin 512) (e : Fin 1024) : X.dgs (ix2 r e) = X.dg (ix2 r e) := by
  pointwise [Ins.dgs]
theorem kc_read (r : Fin 512) (e : Fin 256) : k0_pay21 X.k0 X.k1 X.k2 X.k3 (ix2 r e) = X.dk (ix3 ⟨e.val / 64, by omega⟩ r ⟨e.val % 64, by omega⟩) := by
  pointwise [k0_pay21, Ins.k0, Ins.k1, Ins.k2, Ins.k3]
  exact four64 (fun h d => X.dk (ix3 h r d)) e.val e.isLt
theorem vc_read (r : Fin 512) (e : Fin 256) : k0_pay26 (k0_pay24 X.v0) (k0_pay25 X.v1) X.v2 X.v3 (ix2 r e) = X.dv (ix3 ⟨e.val / 64, by omega⟩ r ⟨e.val % 64, by omega⟩) := by
  pointwise [k0_pay26, k0_pay24, k0_pay25, Ins.v0, Ins.v1, Ins.v2, Ins.v3]
  exact four64 (fun h d => X.dv (ix3 h r d)) e.val e.isLt
theorem dh_read (r : Fin 512) (d : Fin 1024) : X.dh (ix2 r d) =
    (((∑ e : Fin 1024, X.dqs (ix2 r e) * X.wt (ix2 ⟨e.val, by omega⟩ d)) + ∑ e : Fin 256, k0_pay21 X.k0 X.k1 X.k2 X.k3 (ix2 r e) * X.wt (ix2 ⟨1024 + e.val, by omega⟩ d))
      + ∑ e : Fin 256, k0_pay26 (k0_pay24 X.v0) (k0_pay25 X.v1) X.v2 X.v3 (ix2 r e) * X.wt (ix2 ⟨1280 + e.val, by omega⟩ d))
      + ∑ e : Fin 1024, X.dgs (ix2 r e) * X.wt (ix2 ⟨1536 + e.val, by omega⟩ d) := by
  pointwise [Ins.dh, Ins.dh₂, k0_pay29, k0_pay22, k0_pay19, k0_pay18, k0_pay28, Ins.w0, Ins.w1, Ins.w2, Ins.w3]
theorem dhS_read (z : Fin 1) (d : Fin 1024) : X.dhS (ix2 z d) = ∑ r : Fin 512, X.dh (ix2 r d) := by
  pointwise [Ins.dhS, k0_pay31]
  rfl
theorem dx_read (r : Fin 512) (d : Fin 1024) : X.dx (ix2 r d) = X.dxo (ix2 r d) +
    Ideal.rsqrt (Ideal.div (∑ e : Fin 1024, X.xs (ix2 r e) * X.xs (ix2 r e)) (Ideal.ofBits .f32 0x44800000#32) + Ideal.ofBits .f32 0x358637BD#32) *
      (X.dh (ix2 r d) * X.g1 (ix2 0 d) - X.xn (ix2 r d) *
        Ideal.div (∑ e : Fin 1024, X.dh (ix2 r e) * X.g1 (ix2 0 e) * X.xn (ix2 r e)) (Ideal.ofBits .f32 0x44800000#32)) := by
  pointwise [Ins.dx, k0_pay34, Ins.dxos]
theorem b0_read (T) (n d : Fin 1024) : X.b0 T (ix2 n d) = T (ix2 ⟨n.val, by omega⟩ d) + ∑ r : Fin 512, X.dqs (ix2 r n) * X.h (ix2 r d) := by
  pointwise [Ins.b0, k0_pay20, k0_pay18]
theorem b1_read (T) (n : Fin 256) (d : Fin 1024) : X.b1 T (ix2 n d) = T (ix2 ⟨1024 + n.val, by omega⟩ d) +
    ∑ r : Fin 512, k0_pay21 X.k0 X.k1 X.k2 X.k3 (ix2 r n) * X.h (ix2 r d) := by
  pointwise [Ins.b1, k0_pay23]
theorem b2_read (T) (n : Fin 256) (d : Fin 1024) : X.b2 T (ix2 n d) = T (ix2 ⟨1280 + n.val, by omega⟩ d) +
    ∑ r : Fin 512, k0_pay26 (k0_pay24 X.v0) (k0_pay25 X.v1) X.v2 X.v3 (ix2 r n) * X.h (ix2 r d) := by
  pointwise [Ins.b2, k0_pay27]
theorem b3_read (T) (n d : Fin 1024) : X.b3 T (ix2 n d) = T (ix2 ⟨1536 + n.val, by omega⟩ d) + ∑ r : Fin 512, X.dgs (ix2 r n) * X.h (ix2 r d) := by
  pointwise [Ins.b3, k0_pay30, k0_pay28]
theorem row0_read (S) (d : Fin 1024) : X.row0 S (ix2 0 d) = S (ix2 0 d) + X.dhS (ix2 0 d) := by
  pointwise [Ins.row0, k0_pay32]
theorem row1_read (S) (z : Fin 1) (d : Fin 1024) : X.row1 S (ix2 z d) = S (ix2 1 d) + ∑ r : Fin 512, X.dh (ix2 r d) * X.xn (ix2 r d) := by
  pointwise [Ins.row1, k0_pay33]
theorem dvec_read (S) (j : Fin 4) (d : Fin 1024) : X.dvec S (ix2 j d) =
    if j.val = 0 then S (ix2 0 d) else if j.val = 1 then S (ix2 1 d) * X.nw (ix2 0 d) else if j.val = 2 then S (ix2 1 d) * (1 + X.md (ix2 1 d)) else 0 := by
  pointwise [Ins.dvec, k0_pay2, k0_pay3, k0_pay4, Ins.nws, Ins.sc]
theorem dwEmit_read (T : Vec Ideal S2560x1024 .f32) (j : Fin 8) (r : Fin 320) (d : Fin 1024) : dwEmit T (ix3 j r d) = T (ix2 ⟨320 * j.val + r.val, by omega⟩ d) := by
  pointwise [dwEmit, dwSlab, k0_pay5]
theorem zeroT_read (n : Fin 2560) (d : Fin 1024) : zeroT (F := Ideal) (ix2 n d) = 0 := by
  pointwise [zeroT, k0_pay13]
theorem zeroS_read (n : Fin 8) (d : Fin 1024) : zeroS (F := Ideal) (ix2 n d) = 0 := by
  pointwise [zeroS, k0_pay14]

variable {X} {A : Args} {j : Fin 8} (H : Has A j X)
include H

theorem mean_at (r : Fin 512) : Ideal.div (∑ e : Fin 1024, X.xs (ix2 r e) * X.xs (ix2 r e)) (Ideal.ofBits .f32 0x44800000#32) + Ideal.ofBits .f32 0x358637BD#32 = (A.ms (key j r) : EReal) := by
  have e : ∑ e : Fin 1024, X.xs (ix2 r e) * X.xs (ix2 r e) = ((∑ e, A.x (key j r) e * A.x (key j r) e : ℝ) : EReal) := by
    rw [← coe_sum]
    exact Finset.sum_congr rfl fun d _ => by rw [xs_read, H.x, EReal.coe_mul]
  rw [e, c_1024, c_ε, div_real (by norm_num), ← EReal.coe_add]
  rfl

theorem xn_at (r : Fin 512) (d : Fin 1024) : X.xn (ix2 r d) = (A.xn (key j r) d : EReal) := by
  rw [xn_read, mean_at H, A.rsqrt_ms, xs_read, H.x, ← EReal.coe_mul]
  rfl

theorem g1_at (d : Fin 1024) : X.g1 (ix2 0 d) = (A.g1 d : EReal) := by
  rw [g1_read, H.nw, H.md, ← EReal.coe_one, ← EReal.coe_add, ← EReal.coe_mul]
  rfl

theorem h_at (r : Fin 512) (d : Fin 1024) : X.h (ix2 r d) = (A.h (key j r) d : EReal) := by
  rw [h_read, xn_at H, g1_at H, H.md, ← EReal.coe_mul, ← EReal.coe_add]
  rfl

theorem dh_at (r : Fin 512) (d : Fin 1024) : X.dh (ix2 r d) = (A.dh (key j r) d : EReal) := by
  unfold Args.dh Args.dhq Args.dhk Args.dhv Args.dhg
  rw [dh_read, EReal.coe_add, EReal.coe_add, EReal.coe_add, ← coe_sum, ← coe_sum, ← coe_sum, ← coe_sum]
  refine congr (congrArg _ (congr (congrArg _ (congr (congrArg _ ?_) ?_)) ?_)) ?_ <;> refine Finset.sum_congr rfl fun e _ => ?_
  · rw [dqs_read, H.dq, H.wt, EReal.coe_mul]
  · rw [kc_read, H.dk, H.wt, EReal.coe_mul]
  · rw [vc_read, H.dv, H.wt, EReal.coe_mul]
  · rw [dgs_read, H.dg, H.wt, EReal.coe_mul]

/-- The block of the gradient of the activations. -/
theorem dx_at (r : Fin 512) (d : Fin 1024) : X.dx (ix2 r d) = (A.dx (key j r) d : EReal) := by
  have e : ∑ e : Fin 1024, X.dh (ix2 r e) * X.g1 (ix2 0 e) * X.xn (ix2 r e) = ((∑ e, A.dxn (key j r) e * A.xn (key j r) e : ℝ) : EReal) := by
    rw [← coe_sum]
    exact Finset.sum_congr rfl fun d _ => by rw [dh_at H, g1_at H, xn_at H, ← EReal.coe_mul, ← EReal.coe_mul]; rfl
  rw [dx_read, mean_at H, A.rsqrt_ms, e, H.dxo, dh_at H, g1_at H, xn_at H, c_1024, div_real (by norm_num), ← EReal.coe_mul, ← EReal.coe_mul, ← EReal.coe_sub,
    ← EReal.coe_mul, ← EReal.coe_add]
  rfl

/-- What the point adds to the weights' gradient. -/
theorem dwOut_at (T : Vec Ideal S2560x1024 .f32) (n : Fin 2560) (d : Fin 1024) :
    X.dwOut T (ix2 n d) = T (ix2 n d) + ((∑ r : Fin 512, A.ct (key j r) n * A.h (key j r) d : ℝ) : EReal) := by
  have fin : ∀ {a : Fin 2560}, a.val = n.val → T (ix2 a d) = T (ix2 n d) := fun h => by rw [Fin.ext h]
  rw [← coe_sum]
  show (if h : n.val < 1024 then X.b0 T (ix2 ⟨n.val, h⟩ d) else if h : n.val < 1280 then X.b1 T (ix2 ⟨n.val - 1024, by omega⟩ d)
    else if h : n.val < 1536 then X.b2 T (ix2 ⟨n.val - 1280, by omega⟩ d) else X.b3 T (ix2 ⟨n.val - 1536, by omega⟩ d)) = _
  unfold Args.ct
  split
  · rw [b0_read, fin rfl]
    exact congrArg _ (Finset.sum_congr rfl fun r _ => by rw [dqs_read, H.dq, h_at H, EReal.coe_mul])
  split
  · rw [b1_read, fin (by dsimp only; omega)]
    exact congrArg _ (Finset.sum_congr rfl fun r _ => by rw [kc_read, H.dk, h_at H, EReal.coe_mul])
  split
  · rw [b2_read, fin (by dsimp only; omega)]
    exact congrArg _ (Finset.sum_congr rfl fun r _ => by rw [vc_read, H.dv, h_at H, EReal.coe_mul])
  · rw [b3_read, fin (by dsimp only; omega)]
    exact congrArg _ (Finset.sum_congr rfl fun r _ => by rw [dgs_read, H.dg, h_at H, EReal.coe_mul])

/-- What the point adds to the two sums over the positions. -/
theorem acc0_at (S : Vec Ideal S8x1024 .f32) (d : Fin 1024) : X.accOut S (ix2 0 d) = S (ix2 0 d) + ((∑ r : Fin 512, A.dh (key j r) d : ℝ) : EReal) := by
  rw [show X.accOut S (ix2 0 d) = X.row0 S (ix2 0 d) from rfl, row0_read, dhS_read, ← coe_sum]
  exact congrArg _ (Finset.sum_congr rfl fun r _ => dh_at H r d)
@[inherit_doc acc0_at]
theorem acc1_at (S : Vec Ideal S8x1024 .f32) (d : Fin 1024) : X.accOut S (ix2 1 d) = S (ix2 1 d) + ((∑ r : Fin 512, A.dh (key j r) d * A.xn (key j r) d : ℝ) : EReal) := by
  rw [show X.accOut S (ix2 1 d) = X.row1 S (ix2 0 d) from rfl, row1_read, ← coe_sum]
  exact congrArg _ (Finset.sum_congr rfl fun r _ => by rw [dh_at H, xn_at H, EReal.coe_mul])

/-- The vectors' gradients from the whole sums. -/
theorem dvec_at (S : Vec Ideal S8x1024 .f32) (d : Fin 1024) (h0 : S (ix2 0 d) = (A.dsh d : EReal)) (h1 : S (ix2 1 d) = (A.dg1 d : EReal)) (i : Fin 4) :
    X.dvec S (ix2 i d) = (A.dvec i d : EReal) := by
  unfold Args.dvec
  rw [dvec_read, h0, h1, H.nw, H.md, ← EReal.coe_one, ← EReal.coe_add, ← EReal.coe_mul, ← EReal.coe_mul]
  split
  · rfl
  split
  · rfl
  split <;> rfl

end Cert.Kernel4Ideal.Hand

end
-- ==== Proof.InWindows.lean ====
module

public import proofs.«01_k».proof.Proof.InContents
public import proofs.«01_k».proof.Proof.InRef
public import proofs.«01_k».proof.Proof.InValue
public import Idealize.ShloMosaic.Lib.Claim
public import Idealize.ShloMosaic.Lib.Pipeline.Value
public import Idealize.ShloMosaic.Lib.Pipeline.ValueKit

/-! The blocks of a point, read in the arguments: point `t` has the `t`-th 512 positions; the weights arrive transposed. -/

@[expose] public section

set_option maxRecDepth 16384

noncomputable section

namespace Cert.Kernel4Ideal.Hand

open Idealize.ShloMosaic Idealize.ShloMosaic.TcCoe
open Cert.Kernel4Ideal.Gen Cert.InProj
open Cert.Latent (key)

variable (m : (ℓ : Loc nD τ sig) → Buf (Elt Ideal) ℓ) (c : Dev nD)

/-- The arguments. -/
def arg0 : FVec Ideal S4096x1024 .f32 := m ((c.tc : Thread nD τ).loc main_arg0)
@[inherit_doc arg0]
def arg1 : FVec Ideal S3x1024 .f32 := m ((c.tc : Thread nD τ).loc main_arg1)
@[inherit_doc arg0]
def arg2 : FVec Ideal S1024 .f32 := m ((c.tc : Thread nD τ).loc main_arg2)
@[inherit_doc arg0]
def arg3 : FVec Ideal S1024x2560 .f32 := m ((c.tc : Thread nD τ).loc main_arg3)
@[inherit_doc arg0]
def arg4 : FVec Ideal S4096x1024 .f32 := m ((c.tc : Thread nD τ).loc main_arg4)
@[inherit_doc arg0]
def arg5 : FVec Ideal S4096x1024 .f32 := m ((c.tc : Thread nD τ).loc main_arg5)
@[inherit_doc arg0]
def arg6 : FVec Ideal S4x4096x64 .f32 := m ((c.tc : Thread nD τ).loc main_arg6)
@[inherit_doc arg0]
def arg7 : FVec Ideal S4x4096x64 .f32 := m ((c.tc : Thread nD τ).loc main_arg7)
@[inherit_doc arg0]
def arg8 : FVec Ideal S4096x1024 .f32 := m ((c.tc : Thread nD τ).loc main_arg8)

/-- What the host gives the call. -/
theorem V_0 : V m c main_arg0 = arg0 m c := by
  entry_read
  rfl
@[inherit_doc V_0]
theorem V_1 : V m c main_arg1 = arg1 m c := by
  entry_read
  rfl
@[inherit_doc V_0]
theorem V_2 : V m c main_v0 = shapeCast S1x1024 (arg2 m c) shapeCasts_S1024_S1x1024 := by
  entry_read
  rfl
@[inherit_doc V_0]
theorem V_3 : V m c main_arg4 = arg4 m c := by
  entry_read
  rfl
@[inherit_doc V_0]
theorem V_4 : V m c main_v4 = truncf .bf16 (transpose S2560x1024 [1, 0] (arg3 m c) transposes_S1024x2560_S2560x1024_1_0) bitsLt_bf16_f32 := by
  entry_read
  rfl
@[inherit_doc V_0]
theorem V_5 : V m c main_v1 = truncf .bf16 (arg5 m c) bitsLt_bf16_f32 := by
  entry_read
  rfl
@[inherit_doc V_0]
theorem V_6 : V m c main_arg6 = arg6 m c := by
  entry_read
  rfl
@[inherit_doc V_0]
theorem V_7 : V m c main_arg7 = arg7 m c := by
  entry_read
  rfl
@[inherit_doc V_0]
theorem V_8 : V m c main_v2 = truncf .bf16 (arg8 m c) bitsLt_bf16_f32 := by
  entry_read
  rfl

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![0, t.val, 0] := by decide +kernel
theorem idx7 : ∀ t : Fin cfg0.N, win0_7.index t = ![0, t.val, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![0, 0] := by decide +kernel
theorem idx11 : ∀ t : Fin cfg0.N, win0_11.index t = ![0, 0, 0] := by decide +kernel

variable (t : Fin cfg0.N)

/-- The block of positions of a point. -/
def pos : Fin 8 := ⟨t.val, N_lt t⟩

theorem blk0 (r : Fin 512) (d : Fin 1024) : iblk m c 0 t (ix2 r d) = V m c main_arg0 (ix2 (key (pos t) r) d) := by
  have hN := N_lt t
  unfold pos key
  blk_ext [iblk, idx0 t]
theorem blk1 (i : Fin 3) (d : Fin 1024) : iblk m c 1 t (ix2 i d) = V m c main_arg1 (ix2 i d) := by
  blk_ext [iblk, idx1 t]
theorem blk2 (d : Fin 1024) : iblk m c 2 t (ix2 0 d) = V m c main_v0 (ix2 0 d) := by
  blk_ext [iblk, idx2 t]
theorem blk3 (r : Fin 512) (d : Fin 1024) : iblk m c 3 t (ix2 r d) = V m c main_arg4 (ix2 (key (pos t) r) d) := by
  have hN := N_lt t
  unfold pos key
  blk_ext [iblk, idx3 t]
theorem blk4 (n : Fin 2560) (d : Fin 1024) : iblk m c 4 t (ix2 n d) = V m c main_v4 (ix2 n d) := by
  blk_ext [iblk, idx4 t]
theorem blk5 (r : Fin 512) (d : Fin 1024) : iblk m c 5 t (ix2 r d) = V m c main_v1 (ix2 (key (pos t) r) d) := by
  have hN := N_lt t
  unfold pos key
  blk_ext [iblk, idx5 t]
theorem blk6 (h : Fin 4) (r : Fin 512) (d : Fin 64) : iblk m c 6 t (ix3 h r d) = V m c main_arg6 (ix3 h (key (pos t) r) d) := by
  have hN := N_lt t
  unfold pos key
  blk_ext [iblk, idx6 t]
theorem blk7 (h : Fin 4) (r : Fin 512) (d : Fin 64) : iblk m c 7 t (ix3 h r d) = V m c main_arg7 (ix3 h (key (pos t) r) d) := by
  have hN := N_lt t
  unfold pos key
  blk_ext [iblk, idx7 t]
theorem blk8 (r : Fin 512) (d : Fin 1024) : iblk m c 8 t (ix2 r d) = V m c main_v2 (ix2 (key (pos t) r) d) := by
  have hN := N_lt t
  unfold pos key
  blk_ext [iblk, idx8 t]

variable {m c} {A : Args} (H : Holds A (arg0 m c) (arg1 m c) (arg2 m c) (arg3 m c) (arg4 m c) (arg5 m c) (arg6 m c) (arg7 m c) (arg8 m c))
include H

/-- A point's blocks hold the numbers of its positions. -/
theorem has_at : Has A (pos t) (ins m c t) where
  x r d := (blk0 m c t r d).trans ((congrFun (V_0 m c) _).trans (H.x _ _))
  md i d := (blk1 m c t i d).trans ((congrFun (V_1 m c) _).trans (H.md _ _))
  nw d := by
    refine (blk2 m c t d).trans ((congrFun (V_2 m c) _).trans ?_)
    rw [← H.nw]
    pointwise
  dxo r d := (blk3 m c t r d).trans ((congrFun (V_3 m c) _).trans (H.dxo _ _))
  wt n d := by
    refine (blk4 m c t n d).trans ((congrFun (V_4 m c) _).trans ?_)
    rw [← H.w]
    pointwise
  dq r e := (blk5 m c t r e).trans ((congrFun (V_5 m c) _).trans (H.dq _ _))
  dk h r d := (blk6 m c t h r d).trans ((congrFun (V_6 m c) _).trans (H.dk _ _ _))
  dv h r d := (blk7 m c t h r d).trans ((congrFun (V_7 m c) _).trans (H.dv _ _ _))
  dg r e := (blk8 m c t r e).trans ((congrFun (V_8 m c) _).trans (H.dg _ _))

end Cert.Kernel4Ideal.Hand

end
-- ==== Proof.InOutput.lean ====
module

public import proofs.«01_k».proof.Proof.InWindows
public import proofs.«01_k».proof.Proof.LatentSums

/-! The three result arrays of the input projection's backward call are the reference's gradients. -/

@[expose] public section

set_option maxRecDepth 16384

noncomputable section

namespace Cert.Kernel4Ideal.Hand

open Idealize.ShloMosaic Idealize.ShloMosaic.TcCoe Idealize.SL.Sem
open Cert.Kernel4Ideal.Gen Cert.InProj
open Cert.InProj.Ref (dxR dvecR dwR)
open Cert.Latent (key sum_keys)

/-- A sum of eight parts that begins at zero. -/
theorem eight (P : ℕ → EReal) (f : Fin 8 → ℝ) (h0 : P 0 = 0 + (f 0 : EReal)) (hs : ∀ (n : ℕ) (hn : n + 1 < 8), P (n + 1) = P n + (f ⟨n + 1, hn⟩ : EReal)) :
    P 7 = ((∑ j, f j : ℝ) : EReal) := by
  rw [hs 6 (by decide), hs 5 (by decide), hs 4 (by decide), hs 3 (by decide), hs 2 (by decide), hs 1 (by decide), hs 0 (by decide), h0, Fin.sum_univ_eight]
  simp only [EReal.coe_add, zero_add]
  rfl

theorem pos_pt (n : ℕ) (hn : n < 8) : pos (pt n) = ⟨n, hn⟩ := Fin.ext (Nat.mod_eq_of_lt hn)

variable (m : (ℓ : Loc nD τ sig) → Buf (Elt Ideal) ℓ) (c : Dev nD)
variable {A : Args} (H : Holds A (arg0 m c) (arg1 m c) (arg2 m c) (arg3 m c) (arg4 m c) (arg5 m c) (arg6 m c) (arg7 m c) (arg8 m c))
include H

/-- The weights' gradient after the last point. -/
theorem dw_last (n : Fin 2560) (d : Fin 1024) : dwAt m c 7 (ix2 n d) = (A.dW n d : EReal) := by
  unfold Args.dW
  rw [sum_keys]
  refine eight (fun k => dwAt m c k (ix2 n d)) (fun j => ∑ r : Fin 512, A.ct (key j r) n * A.h (key j r) d) ?_ fun k hk => ?_
  · have h := dwOut_at (has_at (pt 0) H) zeroT n d
    rw [pos_pt 0 (by decide), zeroT_read] at h
    exact h
  · have h := dwOut_at (has_at (pt (k + 1)) H) (dwAt m c k) n d
    rw [pos_pt (k + 1) hk] at h
    exact h

/-- The two sums over the positions after the last point. -/
theorem acc0_last (d : Fin 1024) : accAt m c 7 (ix2 0 d) = (A.dsh d : EReal) := by
  unfold Args.dsh
  rw [sum_keys]
  refine eight (fun k => accAt m c k (ix2 0 d)) (fun j => ∑ r : Fin 512, A.dh (key j r) d) ?_ fun k hk => ?_
  · have h := acc0_at (has_at (pt 0) H) zeroS d
    rw [pos_pt 0 (by decide), zeroS_read] at h
    exact h
  · have h := acc0_at (has_at (pt (k + 1)) H) (accAt m c k) d
    rw [pos_pt (k + 1) hk] at h
    exact h
@[inherit_doc acc0_last]
theorem acc1_last (d : Fin 1024) : accAt m c 7 (ix2 1 d) = (A.dg1 d : EReal) := by
  unfold Args.dg1
  rw [sum_keys]
  refine eight (fun k => accAt m c k (ix2 1 d)) (fun j => ∑ r : Fin 512, A.dh (key j r) d * A.xn (key j r) d) ?_ fun k hk => ?_
  · have h := acc1_at (has_at (pt 0) H) zeroS d
    rw [pos_pt 0 (by decide), zeroS_read] at h
    exact h
  · have h := acc1_at (has_at (pt (k + 1)) H) (accAt m c k) d
    rw [pos_pt (k + 1) hk] at h
    exact h

theorem result_dx : (dats m 0 c).arrAt 9 cfg0.N = dxR (arg0 m c) (arg1 m c) (arg2 m c) (arg3 m c) (arg4 m c) (arg5 m c) (arg6 m c) (arg7 m c) (arg8 m c) := by
  refine (dats m 0 c).arrAt_eq_of_covers 9 _ (by decide +kernel) fun t hf y => ?_
  blk_simp
  rw [after_9]
  have hN := N_lt t
  have ey : y = ix2 (y 0 : Fin 512) (y 1 : Fin 1024) := by
    funext a
    refine Fin.cases rfl (fun b => Fin.cases rfl (fun b => b.elim0) b) a
  have ej : (win0_9.blk t).view.emb y = ix2 (key (pos t) (y 0 : Fin 512)) (y 1 : Fin 1024) := by
    unfold pos key
    blk_ext [idx9]
  have r := dx_at (has_at t H) (y 0) (y 1)
  have r' := Ref.dx_at H (key (pos t) (y 0 : Fin 512)) (y 1 : Fin 1024)
  exact (congrArg _ ey).trans (r.trans ((congrArg _ ej).trans r').symm)

theorem result_dvec : (dats m 0 c).arrAt 10 cfg0.N = dvecR (arg0 m c) (arg1 m c) (arg2 m c) (arg3 m c) (arg5 m c) (arg6 m c) (arg7 m c) (arg8 m c) := by
  refine (dats m 0 c).arrAt_eq_of_covers 10 _ (by decide +kernel) fun t hf y => ?_
  blk_simp
  rw [after_10]
  have hN := N_lt t
  have h7 : t.val = 7 := by have := (flush0_10 t).mp hf; omega
  have ey : y = ix2 (y 0 : Fin 4) (y 1 : Fin 1024) := by
    funext a
    refine Fin.cases rfl (fun b => Fin.cases rfl (fun b => b.elim0) b) a
  have ej : (win0_10.blk t).view.emb y = ix2 (y 0 : Fin 4) (y 1 : Fin 1024) := by
    blk_ext [idx10]
  rw [h7]
  have r := dvec_at (has_at t H) (accAt m c 7) (y 1) (acc0_last m c H (y 1)) (acc1_last m c H (y 1)) (y 0)
  have r' := Ref.dvec_at H (y 0 : Fin 4) (y 1 : Fin 1024)
  exact (congrArg _ ey).trans (r.trans ((congrArg _ ej).trans r').symm)

theorem result_dw : (dats m 0 c).arrAt 11 cfg0.N = dwR (arg0 m c) (arg1 m c) (arg2 m c) (arg5 m c) (arg6 m c) (arg7 m c) (arg8 m c) := by
  refine (dats m 0 c).arrAt_eq_of_covers 11 _ (by decide +kernel) fun t hf y => ?_
  blk_simp
  rw [after_11]
  have hN := N_lt t
  have h7 : t.val = 7 := by have := (flush0_11 t).mp hf; omega
  have ey : y = ix3 (y 0 : Fin 8) (y 1 : Fin 320) (y 2 : Fin 1024) := by
    funext a
    refine Fin.cases rfl (fun b => Fin.cases rfl (fun b => Fin.cases rfl (fun b => b.elim0) b) b) a
  have ej : (win0_11.blk t).view.emb y = ix3 (y 0 : Fin 8) (y 1 : Fin 320) (y 2 : Fin 1024) := by
    blk_ext [idx11]
  rw [h7]
  have b0 : (y 0 : Fin 8).val < 8 := (y 0 : Fin 8).isLt
  have b1 : (y 1 : Fin 320).val < 320 := (y 1 : Fin 320).isLt
  have r := (dwEmit_read (dwAt m c 7) (y 0) (y 1) (y 2)).trans (dw_last m c H _ (y 2))
  have r' := Ref.dw_at H (y 0 : Fin 8) (y 1 : Fin 320) (y 2 : Fin 1024) (⟨320 * (y 0 : Fin 8).val + (y 1 : Fin 320).val, by omega⟩ : Fin 2560) rfl
  exact (congrArg _ ey).trans (r.trans ((congrArg _ ej).trans r').symm)

end Cert.Kernel4Ideal.Hand

end
-- ==== Proof.InFinite.lean ====
module

public import proofs.«01_k».proof.Pre_finite4
public import proofs.«01_k».proof.Proof.Finite
public import proofs.«01_k».proof.Proof.InRef

/-! Finite arguments of the input projection's gradient hold real numbers. -/

@[expose] public section

set_option maxRecDepth 16384

noncomputable section

namespace Cert.InProj

open Idealize.ShloMosaic
open Cert.Reference4Ideal
open Cert.Attn (real_of_all)

/-- The numbers that finite arguments hold. -/
theorem holds_of_finite [Cert.Pre_finite4.Facts] (x : FVec Ideal S4096x1024 .f32) (md : FVec Ideal S3x1024 .f32) (nw : FVec Ideal S1024 .f32) (w : FVec Ideal S1024x2560 .f32)
    (dxo dq : FVec Ideal S4096x1024 .f32) (dk dv : FVec Ideal S4x4096x64 .f32) (dg : FVec Ideal S4096x1024 .f32)
    (h : Cert.Pre_finite4.fn (F := Ideal) x md nw w dxo dq dk dv dg = fun _ => 1#1) : ∃ A : Args, Holds A x md nw w dxo dq dk dv dg := by
  have e := congrFun h ix0
  dsimp only [Cert.Pre_finite4.fn, Cert.Pre_finite4.fn_part1, Cert.Pre_finite4.fn_part2] at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨⟨fun s d => (x (ix2 s d)).toReal, fun j d => (md (ix2 j d)).toReal, fun d => (nw (ix1 d)).toReal, fun d n => (w (ix2 d n)).toReal,
    fun s d => (dxo (ix2 s d)).toReal, fun s d => (dq (ix2 s d)).toReal, fun h s d => (dk (ix3 h s d)).toReal, fun h s d => (dv (ix3 h s d)).toReal,
    fun s d => (dg (ix2 s d)).toReal⟩, ?_, ?_, ?_, ?_, ?_, ?_, ?_, ?_, ?_⟩
  · exact fun _ _ => real_of_all x _ _ _ e0 _
  · exact fun _ _ => real_of_all md _ _ _ e1 _
  · exact fun _ => real_of_all nw _ _ _ e2 _
  · exact fun _ _ => real_of_all w _ _ _ e3 _
  · exact fun _ _ => real_of_all dxo _ _ _ e4 _
  · exact fun _ _ => real_of_all dq _ _ _ e5 _
  · exact fun _ _ _ => real_of_all dk _ _ _ e6 _
  · exact fun _ _ _ => real_of_all dv _ _ _ e7 _
  · exact fun _ _ => real_of_all dg _ _ _ e8 _

end Cert.InProj

end
-- ==== Proof.InClaims.lean ====
module

public import proofs.«01_k».proof.Defs
public import proofs.«01_k».proof.Proof.InOutput
public import proofs.«01_k».proof.Proof.InBody
public import proofs.«01_k».proof.Proof.InFinite
public import Idealize.ShloMosaic.Adequacy

/-! The claims about the input projection's gradient over the extended reals and about its reference. -/

@[expose] public section

set_option maxRecDepth 16384

noncomputable section

namespace Cert.Hand4

open Idealize.ShloMosaic Idealize.SL.Sem
open Cert.InProj
open Cert.InProj.Ref (dxR dvecR dwR run_reference)

theorem frame_ideal : Cert.quiescent_Kernel4Ideal := fun m ρ _ => Cert.Kernel4Ideal.Hand.frame m ρ

theorem frame_reference : Cert.quiescent_Reference4Ideal := fun m ρ _ =>
  (θ_run Cert.Reference4Ideal.defs _ _).mono (fun r h => ⟨fun c => (h c).2.2.2, sem_eq_zero_of_no_sems (by decide) r.2⟩) (run_reference m ρ)

/-- No operation of the kernel is replaced. -/
theorem preserves : Cert.preserves_Kernel4_Kernel4Ideal := trivial

section Kernel

open Cert.Kernel4Ideal Cert.Kernel4Ideal.Gen Cert.Kernel4Ideal.Hand

/-- The kernel's run with its results named. -/
theorem run_kernel (m : (ℓ : Loc nD τ sig) → Buf (Elt Ideal) ℓ) (ρ : Dev nD → PrngReg)
    (hA : ∀ c, ∃ A : Args, Holds A (arg0 m c) (arg1 m c) (arg2 m c) (arg3 m c) (arg4 m c) (arg5 m c) (arg6 m c) (arg7 m c) (arg8 m c)) :
    θ_run defs (onTc (τ := τ) (main (F := Ideal))) ⟨m, fun _ => 0, ρ⟩ fun r => ∀ c : Dev nD,
      r.2.mem ((c.tc : Thread nD τ).loc main_v5_0) = dxR (arg0 m c) (arg1 m c) (arg2 m c) (arg3 m c) (arg4 m c) (arg5 m c) (arg6 m c) (arg7 m c) (arg8 m c)
      ∧ r.2.mem ((c.tc : Thread nD τ).loc main_v5_1) = dvecR (arg0 m c) (arg1 m c) (arg2 m c) (arg3 m c) (arg5 m c) (arg6 m c) (arg7 m c) (arg8 m c)
      ∧ r.2.mem ((c.tc : Thread nD τ).loc main_v5_2) = dwR (arg0 m c) (arg1 m c) (arg2 m c) (arg5 m c) (arg6 m c) (arg7 m c) (arg8 m c) :=
  (θ_run defs _ _).mono (fun r h c => by
    obtain ⟨A, hA⟩ := hA c
    exact ⟨((h.1 c).1 9).trans (result_dx m c hA), ((h.1 c).1 10).trans (result_dvec m c hA), ((h.1 c).1 11).trans (result_dw m c hA)⟩) (Cert.Kernel4Ideal.Hand.run_main m ρ)

end Kernel

theorem algebraic [Cert.Pre_finite4.Facts] : Cert.algebraic_Kernel4Ideal_Reference4Ideal_pre_finite4 := by
  intro m ρ m' ρ' hpre hagree
  have hA := fun c => holds_of_finite _ _ _ _ _ _ _ _ _ (hpre c)
  refine ⟨_, _, _, (θ_run Cert.Kernel4Ideal.defs _ _).mono (fun r h c => ⟨(h.1 c).1, (h.1 c).2.1, (h.1 c).2.2, h.2.1 c⟩)
    (θ_run_and (run_kernel m ρ hA) (Cert.Kernel4Ideal.Hand.frame m ρ)), ?_⟩
  refine (θ_run Cert.Reference4Ideal.defs _ _).mono (fun r h c => ?_) (run_reference m' ρ')
  obtain ⟨e0, e1, e2, e3, e4, e5, e6, e7, e8⟩ := hagree c
  obtain ⟨h0, h1, h2, h3⟩ := h c
  dsimp only at h0 h1 h2
  rw [e0, e1, e2, e3, e4, e5, e6, e7, e8] at h0
  rw [e0, e1, e2, e3, e5, e6, e7, e8] at h1
  rw [e0, e1, e2, e5, e6, e7, e8] at h2
  exact ⟨h0, h1, h2, h3⟩

end Cert.Hand4

end
-- ==== Proof.lean ====
module

public import proofs.«01_k».proof.Defs
public import proofs.«01_k».proof.Proof.Gen.Pre_finite
public import proofs.«01_k».proof.Proof.Gen.Pre_finite2
public import proofs.«01_k».proof.Proof.FrameKernel
public import proofs.«01_k».proof.Proof.Claims
public import proofs.«01_k».proof.Proof.LatentFrame
public import proofs.«01_k».proof.Proof.LatentClaims
public import proofs.«01_k».proof.Proof.Gen.Pre_finite3
public import proofs.«01_k».proof.Proof.DenseFrame
public import proofs.«01_k».proof.Proof.DenseClaims
public import proofs.«01_k».proof.Proof.Gen.Pre_finite4
public import proofs.«01_k».proof.Proof.InFrame
public import proofs.«01_k».proof.Proof.InClaims

@[expose] public section

noncomputable section

namespace Cert.Proof

open Idealize.ShloMosaic Idealize.SL.Sem

/-- Every claim of this certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.Pre_finite2.Gen.facts, Cert.Pre_finite3.Gen.facts, Cert.Pre_finite4.Gen.facts,
  Cert.Hand.frame_kernel, Cert.Hand.frame_ideal, fun m ρ _ => Cert.Hand.frame_ideal m ρ trivial, Cert.Hand.frame_reference, fun m ρ _ => Cert.Hand.frame_reference m ρ trivial,
  Cert.Hand2.frame_kernel, Cert.Hand2.frame_ideal, fun m ρ _ => Cert.Hand2.frame_ideal m ρ trivial, Cert.Hand2.frame_reference, fun m ρ _ => Cert.Hand2.frame_reference m ρ trivial,
  Cert.Hand3.frame_kernel, Cert.Hand3.frame_ideal, fun m ρ _ => Cert.Hand3.frame_ideal m ρ trivial, Cert.Hand3.frame_reference, fun m ρ _ => Cert.Hand3.frame_reference m ρ trivial,
  Cert.Hand4.frame_kernel, Cert.Hand4.frame_ideal, fun m ρ _ => Cert.Hand4.frame_ideal m ρ trivial, Cert.Hand4.frame_reference, fun m ρ _ => Cert.Hand4.frame_reference m ρ trivial,
  Cert.Hand.preserves, Cert.Hand.algebraic, Cert.Hand2.preserves, Cert.Hand2.algebraic,
  Cert.Hand3.preserves, Cert.Hand3.algebraic, Cert.Hand4.preserves, Cert.Hand4.algebraic⟩

end Cert.Proof

end
